-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_EvenProj (m : (ℓ : Loc Cert.EvenProj.nD Cert.EvenProj.τ Cert.EvenProj.sig) → Buf (Elt Bits) ℓ) : Prop :=
  True

def Pre_EvenProjIdeal (m : (ℓ : Loc Cert.EvenProjIdeal.nD Cert.EvenProjIdeal.τ Cert.EvenProjIdeal.sig) → Buf (Elt Ideal) ℓ) : Prop :=
  True

def Pre_EvenProjReferenceIdeal (m : (ℓ : Loc Cert.EvenProjReferenceIdeal.nD Cert.EvenProjReferenceIdeal.τ Cert.EvenProjReferenceIdeal.sig) → Buf (Elt Ideal) ℓ) : Prop :=
  True

def Pre_OddProj (m : (ℓ : Loc Cert.OddProj.nD Cert.OddProj.τ Cert.OddProj.sig) → Buf (Elt Bits) ℓ) : Prop :=
  True

def Pre_OddProjIdeal (m : (ℓ : Loc Cert.OddProjIdeal.nD Cert.OddProjIdeal.τ Cert.OddProjIdeal.sig) → Buf (Elt Ideal) ℓ) : Prop :=
  True

def Pre_OddProjReferenceIdeal (m : (ℓ : Loc Cert.OddProjReferenceIdeal.nD Cert.OddProjReferenceIdeal.τ Cert.OddProjReferenceIdeal.sig) → Buf (Elt Ideal) ℓ) : Prop :=
  True

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterIdeal_finite5 [hPre_finite5 : Cert.Pre_finite5.Facts] (m : (ℓ : Loc Cert.RouterIdeal.nD Cert.RouterIdeal.τ Cert.RouterIdeal.sig) → Buf (Elt Ideal) ℓ) : Prop :=
  ∀ c : Dev Cert.RouterIdeal.nD,
    (Cert.Pre_finite5.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2)) (m ((c.tc : Thread Cert.RouterIdeal.nD Cert.RouterIdeal.τ).loc Cert.RouterIdeal.main_arg3)) (m ((c.tc : Thread Cert.RouterIdeal.nD Cert.RouterIdeal.τ).loc Cert.RouterIdeal.main_arg4)) (m ((c.tc : Thread Cert.RouterIdeal.nD Cert.RouterIdeal.τ).loc Cert.RouterIdeal.main_arg5))) = (fun _ => 1#1)

def Pre_RouterReferenceIdeal (m : (ℓ : Loc Cert.RouterReferenceIdeal.nD Cert.RouterReferenceIdeal.τ Cert.RouterReferenceIdeal.sig) → Buf (Elt Ideal) ℓ) : Prop :=
  True

def Pre_RouterReferenceIdeal_finite5 [hPre_finite5 : Cert.Pre_finite5.Facts] (m : (ℓ : Loc Cert.RouterReferenceIdeal.nD Cert.RouterReferenceIdeal.τ Cert.RouterReferenceIdeal.sig) → Buf (Elt Ideal) ℓ) : Prop :=
  ∀ c : Dev Cert.RouterReferenceIdeal.nD,
    (Cert.Pre_finite5.fn (F := Ideal) (m ((c.tc : Thread Cert.RouterReferenceIdeal.nD Cert.RouterReferenceIdeal.τ).loc Cert.RouterReferenceIdeal.main_arg0)) (m ((c.tc : Thread Cert.RouterReferenceIdeal.nD Cert.RouterReferenceIdeal.τ).loc Cert.RouterReferenceIdeal.main_arg1)) (m ((c.tc : Thread Cert.RouterReferenceIdeal.nD Cert.RouterReferenceIdeal.τ).loc Cert.RouterReferenceIdeal.main_arg2)) (m ((c.tc : Thread Cert.RouterReferenceIdeal.nD Cert.RouterReferenceIdeal.τ).loc Cert.RouterReferenceIdeal.main_arg3)) (m ((c.tc : Thread Cert.RouterReferenceIdeal.nD Cert.RouterReferenceIdeal.τ).loc Cert.RouterReferenceIdeal.main_arg4)) (m ((c.tc : Thread Cert.RouterReferenceIdeal.nD Cert.RouterReferenceIdeal.τ).loc Cert.RouterReferenceIdeal.main_arg5))) = (fun _ => 1#1)

def Pre_Stick (m : (ℓ : Loc Cert.Stick.nD Cert.Stick.τ Cert.Stick.sig) → Buf (Elt Bits) ℓ) : Prop :=
  True

def Pre_StickIdeal (m : (ℓ : Loc Cert.StickIdeal.nD Cert.StickIdeal.τ Cert.StickIdeal.sig) → Buf (Elt Ideal) ℓ) : Prop :=
  True

def Pre_StickIdeal_bounded6 [hPre_bounded6 : Cert.Pre_bounded6.Facts] (m : (ℓ : Loc Cert.StickIdeal.nD Cert.StickIdeal.τ Cert.StickIdeal.sig) → Buf (Elt Ideal) ℓ) : Prop :=
  ∀ c : Dev Cert.StickIdeal.nD,
    (Cert.Pre_bounded6.fn (F := Ideal) (m ((c.tc : Thread Cert.StickIdeal.nD Cert.StickIdeal.τ).loc Cert.StickIdeal.main_arg0)) (m ((c.tc : Thread Cert.StickIdeal.nD Cert.StickIdeal.τ).loc Cert.StickIdeal.main_arg1)) (m ((c.tc : Thread Cert.StickIdeal.nD Cert.StickIdeal.τ).loc Cert.StickIdeal.main_arg2))) = (fun _ => 1#1)

def Pre_StickReferenceIdeal (m : (ℓ : Loc Cert.StickReferenceIdeal.nD Cert.StickReferenceIdeal.τ Cert.StickReferenceIdeal.sig) → Buf (Elt Ideal) ℓ) : Prop :=
  True

def Pre_StickReferenceIdeal_bounded6 [hPre_bounded6 : Cert.Pre_bounded6.Facts] (m : (ℓ : Loc Cert.StickReferenceIdeal.nD Cert.StickReferenceIdeal.τ Cert.StickReferenceIdeal.sig) → Buf (Elt Ideal) ℓ) : Prop :=
  ∀ c : Dev Cert.StickReferenceIdeal.nD,
    (Cert.Pre_bounded6.fn (F := Ideal) (m ((c.tc : Thread Cert.StickReferenceIdeal.nD Cert.StickReferenceIdeal.τ).loc Cert.StickReferenceIdeal.main_arg0)) (m ((c.tc : Thread Cert.StickReferenceIdeal.nD Cert.StickReferenceIdeal.τ).loc Cert.StickReferenceIdeal.main_arg1)) (m ((c.tc : Thread Cert.StickReferenceIdeal.nD Cert.StickReferenceIdeal.τ).loc Cert.StickReferenceIdeal.main_arg2))) = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_finite8 [hPre_finite8 : Cert.Pre_finite8.Facts] (m : (ℓ : Loc Cert.PoolIdeal.nD Cert.PoolIdeal.τ Cert.PoolIdeal.sig) → Buf (Elt Ideal) ℓ) : Prop :=
  ∀ c : Dev Cert.PoolIdeal.nD,
    (Cert.Pre_finite8.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3)) (m ((c.tc : Thread Cert.PoolIdeal.nD Cert.PoolIdeal.τ).loc Cert.PoolIdeal.main_arg4))) = (fun _ => 1#1)

def Pre_PoolReferenceIdeal (m : (ℓ : Loc Cert.PoolReferenceIdeal.nD Cert.PoolReferenceIdeal.τ Cert.PoolReferenceIdeal.sig) → Buf (Elt Ideal) ℓ) : Prop :=
  True

def Pre_PoolReferenceIdeal_finite8 [hPre_finite8 : Cert.Pre_finite8.Facts] (m : (ℓ : Loc Cert.PoolReferenceIdeal.nD Cert.PoolReferenceIdeal.τ Cert.PoolReferenceIdeal.sig) → Buf (Elt Ideal) ℓ) : Prop :=
  ∀ c : Dev Cert.PoolReferenceIdeal.nD,
    (Cert.Pre_finite8.fn (F := Ideal) (m ((c.tc : Thread Cert.PoolReferenceIdeal.nD Cert.PoolReferenceIdeal.τ).loc Cert.PoolReferenceIdeal.main_arg0)) (m ((c.tc : Thread Cert.PoolReferenceIdeal.nD Cert.PoolReferenceIdeal.τ).loc Cert.PoolReferenceIdeal.main_arg1)) (m ((c.tc : Thread Cert.PoolReferenceIdeal.nD Cert.PoolReferenceIdeal.τ).loc Cert.PoolReferenceIdeal.main_arg2)) (m ((c.tc : Thread Cert.PoolReferenceIdeal.nD Cert.PoolReferenceIdeal.τ).loc Cert.PoolReferenceIdeal.main_arg3)) (m ((c.tc : Thread Cert.PoolReferenceIdeal.nD Cert.PoolReferenceIdeal.τ).loc Cert.PoolReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7))
      ∧ r.2.sem = fun _ => 0)

def quiescent_EvenProj [hEvenProj : Cert.EvenProj.Facts] : Prop :=
  ∀ (m : (ℓ : Loc Cert.EvenProj.nD Cert.EvenProj.τ Cert.EvenProj.sig) → Buf (Elt Bits) ℓ) (g : Dev Cert.EvenProj.nD → PrngReg), Pre_EvenProj m →
    θ_run (Cert.EvenProj.defs (F := Bits)) (onTc (τ := Cert.EvenProj.τ) (Cert.EvenProj.main (F := Bits))) ⟨m, fun _ => 0, g⟩ (fun r => (∀ c : Dev Cert.EvenProj.nD,
      r.2.mem ((c.tc : Thread Cert.EvenProj.nD Cert.EvenProj.τ).loc Cert.EvenProj.main_arg0) = m ((c.tc : Thread Cert.EvenProj.nD Cert.EvenProj.τ).loc Cert.EvenProj.main_arg0)
      ∧ r.2.mem ((c.tc : Thread Cert.EvenProj.nD Cert.EvenProj.τ).loc Cert.EvenProj.main_arg1) = m ((c.tc : Thread Cert.EvenProj.nD Cert.EvenProj.τ).loc Cert.EvenProj.main_arg1)
      ∧ r.2.mem ((c.tc : Thread Cert.EvenProj.nD Cert.EvenProj.τ).loc Cert.EvenProj.main_arg2) = m ((c.tc : Thread Cert.EvenProj.nD Cert.EvenProj.τ).loc Cert.EvenProj.main_arg2))
      ∧ r.2.sem = fun _ => 0)

def quiescent_EvenProjIdeal [hEvenProjIdeal : Cert.EvenProjIdeal.Facts] : Prop :=
  ∀ (m : (ℓ : Loc Cert.EvenProjIdeal.nD Cert.EvenProjIdeal.τ Cert.EvenProjIdeal.sig) → Buf (Elt Ideal) ℓ) (g : Dev Cert.EvenProjIdeal.nD → PrngReg), Pre_EvenProjIdeal m →
    θ_run (Cert.EvenProjIdeal.defs (F := Ideal)) (onTc (τ := Cert.EvenProjIdeal.τ) (Cert.EvenProjIdeal.main (F := Ideal))) ⟨m, fun _ => 0, g⟩ (fun r => (∀ c : Dev Cert.EvenProjIdeal.nD,
      r.2.mem ((c.tc : Thread Cert.EvenProjIdeal.nD Cert.EvenProjIdeal.τ).loc Cert.EvenProjIdeal.main_arg0) = m ((c.tc : Thread Cert.EvenProjIdeal.nD Cert.EvenProjIdeal.τ).loc Cert.EvenProjIdeal.main_arg0)
      ∧ r.2.mem ((c.tc : Thread Cert.EvenProjIdeal.nD Cert.EvenProjIdeal.τ).loc Cert.EvenProjIdeal.main_arg1) = m ((c.tc : Thread Cert.EvenProjIdeal.nD Cert.EvenProjIdeal.τ).loc Cert.EvenProjIdeal.main_arg1)
      ∧ r.2.mem ((c.tc : Thread Cert.EvenProjIdeal.nD Cert.EvenProjIdeal.τ).loc Cert.EvenProjIdeal.main_arg2) = m ((c.tc : Thread Cert.EvenProjIdeal.nD Cert.EvenProjIdeal.τ).loc Cert.EvenProjIdeal.main_arg2))
      ∧ r.2.sem = fun _ => 0)

def quiescent_EvenProjReferenceIdeal [hEvenProjReferenceIdeal : Cert.EvenProjReferenceIdeal.Facts] : Prop :=
  ∀ (m : (ℓ : Loc Cert.EvenProjReferenceIdeal.nD Cert.EvenProjReferenceIdeal.τ Cert.EvenProjReferenceIdeal.sig) → Buf (Elt Ideal) ℓ) (g : Dev Cert.EvenProjReferenceIdeal.nD → PrngReg), Pre_EvenProjReferenceIdeal m →
    θ_run (Cert.EvenProjReferenceIdeal.defs (F := Ideal)) (onTc (τ := Cert.EvenProjReferenceIdeal.τ) (Cert.EvenProjReferenceIdeal.main (F := Ideal))) ⟨m, fun _ => 0, g⟩ (fun r => (∀ c : Dev Cert.EvenProjReferenceIdeal.nD,
      r.2.mem ((c.tc : Thread Cert.EvenProjReferenceIdeal.nD Cert.EvenProjReferenceIdeal.τ).loc Cert.EvenProjReferenceIdeal.main_arg0) = m ((c.tc : Thread Cert.EvenProjReferenceIdeal.nD Cert.EvenProjReferenceIdeal.τ).loc Cert.EvenProjReferenceIdeal.main_arg0)
      ∧ r.2.mem ((c.tc : Thread Cert.EvenProjReferenceIdeal.nD Cert.EvenProjReferenceIdeal.τ).loc Cert.EvenProjReferenceIdeal.main_arg1) = m ((c.tc : Thread Cert.EvenProjReferenceIdeal.nD Cert.EvenProjReferenceIdeal.τ).loc Cert.EvenProjReferenceIdeal.main_arg1)
      ∧ r.2.mem ((c.tc : Thread Cert.EvenProjReferenceIdeal.nD Cert.EvenProjReferenceIdeal.τ).loc Cert.EvenProjReferenceIdeal.main_arg2) = m ((c.tc : Thread Cert.EvenProjReferenceIdeal.nD Cert.EvenProjReferenceIdeal.τ).loc Cert.EvenProjReferenceIdeal.main_arg2))
      ∧ r.2.sem = fun _ => 0)

def quiescent_OddProj [hOddProj : Cert.OddProj.Facts] : Prop :=
  ∀ (m : (ℓ : Loc Cert.OddProj.nD Cert.OddProj.τ Cert.OddProj.sig) → Buf (Elt Bits) ℓ) (g : Dev Cert.OddProj.nD → PrngReg), Pre_OddProj m →
    θ_run (Cert.OddProj.defs (F := Bits)) (onTc (τ := Cert.OddProj.τ) (Cert.OddProj.main (F := Bits))) ⟨m, fun _ => 0, g⟩ (fun r => (∀ c : Dev Cert.OddProj.nD,
      r.2.mem ((c.tc : Thread Cert.OddProj.nD Cert.OddProj.τ).loc Cert.OddProj.main_arg0) = m ((c.tc : Thread Cert.OddProj.nD Cert.OddProj.τ).loc Cert.OddProj.main_arg0)
      ∧ r.2.mem ((c.tc : Thread Cert.OddProj.nD Cert.OddProj.τ).loc Cert.OddProj.main_arg1) = m ((c.tc : Thread Cert.OddProj.nD Cert.OddProj.τ).loc Cert.OddProj.main_arg1)
      ∧ r.2.mem ((c.tc : Thread Cert.OddProj.nD Cert.OddProj.τ).loc Cert.OddProj.main_arg2) = m ((c.tc : Thread Cert.OddProj.nD Cert.OddProj.τ).loc Cert.OddProj.main_arg2))
      ∧ r.2.sem = fun _ => 0)

def quiescent_OddProjIdeal [hOddProjIdeal : Cert.OddProjIdeal.Facts] : Prop :=
  ∀ (m : (ℓ : Loc Cert.OddProjIdeal.nD Cert.OddProjIdeal.τ Cert.OddProjIdeal.sig) → Buf (Elt Ideal) ℓ) (g : Dev Cert.OddProjIdeal.nD → PrngReg), Pre_OddProjIdeal m →
    θ_run (Cert.OddProjIdeal.defs (F := Ideal)) (onTc (τ := Cert.OddProjIdeal.τ) (Cert.OddProjIdeal.main (F := Ideal))) ⟨m, fun _ => 0, g⟩ (fun r => (∀ c : Dev Cert.OddProjIdeal.nD,
      r.2.mem ((c.tc : Thread Cert.OddProjIdeal.nD Cert.OddProjIdeal.τ).loc Cert.OddProjIdeal.main_arg0) = m ((c.tc : Thread Cert.OddProjIdeal.nD Cert.OddProjIdeal.τ).loc Cert.OddProjIdeal.main_arg0)
      ∧ r.2.mem ((c.tc : Thread Cert.OddProjIdeal.nD Cert.OddProjIdeal.τ).loc Cert.OddProjIdeal.main_arg1) = m ((c.tc : Thread Cert.OddProjIdeal.nD Cert.OddProjIdeal.τ).loc Cert.OddProjIdeal.main_arg1)
      ∧ r.2.mem ((c.tc : Thread Cert.OddProjIdeal.nD Cert.OddProjIdeal.τ).loc Cert.OddProjIdeal.main_arg2) = m ((c.tc : Thread Cert.OddProjIdeal.nD Cert.OddProjIdeal.τ).loc Cert.OddProjIdeal.main_arg2))
      ∧ r.2.sem = fun _ => 0)

def quiescent_OddProjReferenceIdeal [hOddProjReferenceIdeal : Cert.OddProjReferenceIdeal.Facts] : Prop :=
  ∀ (m : (ℓ : Loc Cert.OddProjReferenceIdeal.nD Cert.OddProjReferenceIdeal.τ Cert.OddProjReferenceIdeal.sig) → Buf (Elt Ideal) ℓ) (g : Dev Cert.OddProjReferenceIdeal.nD → PrngReg), Pre_OddProjReferenceIdeal m →
    θ_run (Cert.OddProjReferenceIdeal.defs (F := Ideal)) (onTc (τ := Cert.OddProjReferenceIdeal.τ) (Cert.OddProjReferenceIdeal.main (F := Ideal))) ⟨m, fun _ => 0, g⟩ (fun r => (∀ c : Dev Cert.OddProjReferenceIdeal.nD,
      r.2.mem ((c.tc : Thread Cert.OddProjReferenceIdeal.nD Cert.OddProjReferenceIdeal.τ).loc Cert.OddProjReferenceIdeal.main_arg0) = m ((c.tc : Thread Cert.OddProjReferenceIdeal.nD Cert.OddProjReferenceIdeal.τ).loc Cert.OddProjReferenceIdeal.main_arg0)
      ∧ r.2.mem ((c.tc : Thread Cert.OddProjReferenceIdeal.nD Cert.OddProjReferenceIdeal.τ).loc Cert.OddProjReferenceIdeal.main_arg1) = m ((c.tc : Thread Cert.OddProjReferenceIdeal.nD Cert.OddProjReferenceIdeal.τ).loc Cert.OddProjReferenceIdeal.main_arg1)
      ∧ r.2.mem ((c.tc : Thread Cert.OddProjReferenceIdeal.nD Cert.OddProjReferenceIdeal.τ).loc Cert.OddProjReferenceIdeal.main_arg2) = m ((c.tc : Thread Cert.OddProjReferenceIdeal.nD Cert.OddProjReferenceIdeal.τ).loc Cert.OddProjReferenceIdeal.main_arg2))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1)
      ∧ r.2.mem ((c.tc : Thread Cert.Router.nD Cert.Router.τ).loc Cert.Router.main_arg2) = m ((c.tc : Thread Cert.Router.nD Cert.Router.τ).loc Cert.Router.main_arg2)
      ∧ r.2.mem ((c.tc : Thread Cert.Router.nD Cert.Router.τ).loc Cert.Router.main_arg3) = m ((c.tc : Thread Cert.Router.nD Cert.Router.τ).loc Cert.Router.main_arg3)
      ∧ r.2.mem ((c.tc : Thread Cert.Router.nD Cert.Router.τ).loc Cert.Router.main_arg4) = m ((c.tc : Thread Cert.Router.nD Cert.Router.τ).loc Cert.Router.main_arg4)
      ∧ r.2.mem ((c.tc : Thread Cert.Router.nD Cert.Router.τ).loc Cert.Router.main_arg5) = m ((c.tc : Thread Cert.Router.nD Cert.Router.τ).loc Cert.Router.main_arg5))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
      ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
      ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5))
      ∧ r.2.sem = fun _ => 0)

def quiescent_RouterIdeal_pre_finite5 [hRouterIdeal : Cert.RouterIdeal.Facts] [hPre_finite5 : Cert.Pre_finite5.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal_finite5 m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
      ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
      ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5))
      ∧ r.2.sem = fun _ => 0)

def quiescent_RouterReferenceIdeal [hRouterReferenceIdeal : Cert.RouterReferenceIdeal.Facts] : Prop :=
  ∀ (m : (ℓ : Loc Cert.RouterReferenceIdeal.nD Cert.RouterReferenceIdeal.τ Cert.RouterReferenceIdeal.sig) → Buf (Elt Ideal) ℓ) (g : Dev Cert.RouterReferenceIdeal.nD → PrngReg), Pre_RouterReferenceIdeal m →
    θ_run (Cert.RouterReferenceIdeal.defs (F := Ideal)) (onTc (τ := Cert.RouterReferenceIdeal.τ) (Cert.RouterReferenceIdeal.main (F := Ideal))) ⟨m, fun _ => 0, g⟩ (fun r => (∀ c : Dev Cert.RouterReferenceIdeal.nD,
      r.2.mem ((c.tc : Thread Cert.RouterReferenceIdeal.nD Cert.RouterReferenceIdeal.τ).loc Cert.RouterReferenceIdeal.main_arg0) = m ((c.tc : Thread Cert.RouterReferenceIdeal.nD Cert.RouterReferenceIdeal.τ).loc Cert.RouterReferenceIdeal.main_arg0)
      ∧ r.2.mem ((c.tc : Thread Cert.RouterReferenceIdeal.nD Cert.RouterReferenceIdeal.τ).loc Cert.RouterReferenceIdeal.main_arg1) = m ((c.tc : Thread Cert.RouterReferenceIdeal.nD Cert.RouterReferenceIdeal.τ).loc Cert.RouterReferenceIdeal.main_arg1)
      ∧ r.2.mem ((c.tc : Thread Cert.RouterReferenceIdeal.nD Cert.RouterReferenceIdeal.τ).loc Cert.RouterReferenceIdeal.main_arg2) = m ((c.tc : Thread Cert.RouterReferenceIdeal.nD Cert.RouterReferenceIdeal.τ).loc Cert.RouterReferenceIdeal.main_arg2)
      ∧ r.2.mem ((c.tc : Thread Cert.RouterReferenceIdeal.nD Cert.RouterReferenceIdeal.τ).loc Cert.RouterReferenceIdeal.main_arg3) = m ((c.tc : Thread Cert.RouterReferenceIdeal.nD Cert.RouterReferenceIdeal.τ).loc Cert.RouterReferenceIdeal.main_arg3)
      ∧ r.2.mem ((c.tc : Thread Cert.RouterReferenceIdeal.nD Cert.RouterReferenceIdeal.τ).loc Cert.RouterReferenceIdeal.main_arg4) = m ((c.tc : Thread Cert.RouterReferenceIdeal.nD Cert.RouterReferenceIdeal.τ).loc Cert.RouterReferenceIdeal.main_arg4)
      ∧ r.2.mem ((c.tc : Thread Cert.RouterReferenceIdeal.nD Cert.RouterReferenceIdeal.τ).loc Cert.RouterReferenceIdeal.main_arg5) = m ((c.tc : Thread Cert.RouterReferenceIdeal.nD Cert.RouterReferenceIdeal.τ).loc Cert.RouterReferenceIdeal.main_arg5))
      ∧ r.2.sem = fun _ => 0)

def quiescent_RouterReferenceIdeal_pre_finite5 [hRouterReferenceIdeal : Cert.RouterReferenceIdeal.Facts] [hPre_finite5 : Cert.Pre_finite5.Facts] : Prop :=
  ∀ (m : (ℓ : Loc Cert.RouterReferenceIdeal.nD Cert.RouterReferenceIdeal.τ Cert.RouterReferenceIdeal.sig) → Buf (Elt Ideal) ℓ) (g : Dev Cert.RouterReferenceIdeal.nD → PrngReg), Pre_RouterReferenceIdeal_finite5 m →
    θ_run (Cert.RouterReferenceIdeal.defs (F := Ideal)) (onTc (τ := Cert.RouterReferenceIdeal.τ) (Cert.RouterReferenceIdeal.main (F := Ideal))) ⟨m, fun _ => 0, g⟩ (fun r => (∀ c : Dev Cert.RouterReferenceIdeal.nD,
      r.2.mem ((c.tc : Thread Cert.RouterReferenceIdeal.nD Cert.RouterReferenceIdeal.τ).loc Cert.RouterReferenceIdeal.main_arg0) = m ((c.tc : Thread Cert.RouterReferenceIdeal.nD Cert.RouterReferenceIdeal.τ).loc Cert.RouterReferenceIdeal.main_arg0)
      ∧ r.2.mem ((c.tc : Thread Cert.RouterReferenceIdeal.nD Cert.RouterReferenceIdeal.τ).loc Cert.RouterReferenceIdeal.main_arg1) = m ((c.tc : Thread Cert.RouterReferenceIdeal.nD Cert.RouterReferenceIdeal.τ).loc Cert.RouterReferenceIdeal.main_arg1)
      ∧ r.2.mem ((c.tc : Thread Cert.RouterReferenceIdeal.nD Cert.RouterReferenceIdeal.τ).loc Cert.RouterReferenceIdeal.main_arg2) = m ((c.tc : Thread Cert.RouterReferenceIdeal.nD Cert.RouterReferenceIdeal.τ).loc Cert.RouterReferenceIdeal.main_arg2)
      ∧ r.2.mem ((c.tc : Thread Cert.RouterReferenceIdeal.nD Cert.RouterReferenceIdeal.τ).loc Cert.RouterReferenceIdeal.main_arg3) = m ((c.tc : Thread Cert.RouterReferenceIdeal.nD Cert.RouterReferenceIdeal.τ).loc Cert.RouterReferenceIdeal.main_arg3)
      ∧ r.2.mem ((c.tc : Thread Cert.RouterReferenceIdeal.nD Cert.RouterReferenceIdeal.τ).loc Cert.RouterReferenceIdeal.main_arg4) = m ((c.tc : Thread Cert.RouterReferenceIdeal.nD Cert.RouterReferenceIdeal.τ).loc Cert.RouterReferenceIdeal.main_arg4)
      ∧ r.2.mem ((c.tc : Thread Cert.RouterReferenceIdeal.nD Cert.RouterReferenceIdeal.τ).loc Cert.RouterReferenceIdeal.main_arg5) = m ((c.tc : Thread Cert.RouterReferenceIdeal.nD Cert.RouterReferenceIdeal.τ).loc Cert.RouterReferenceIdeal.main_arg5))
      ∧ r.2.sem = fun _ => 0)

def quiescent_Stick [hStick : Cert.Stick.Facts] : Prop :=
  ∀ (m : (ℓ : Loc Cert.Stick.nD Cert.Stick.τ Cert.Stick.sig) → Buf (Elt Bits) ℓ) (g : Dev Cert.Stick.nD → PrngReg), Pre_Stick m →
    θ_run (Cert.Stick.defs (F := Bits)) (onTc (τ := Cert.Stick.τ) (Cert.Stick.main (F := Bits))) ⟨m, fun _ => 0, g⟩ (fun r => (∀ c : Dev Cert.Stick.nD,
      r.2.mem ((c.tc : Thread Cert.Stick.nD Cert.Stick.τ).loc Cert.Stick.main_arg0) = m ((c.tc : Thread Cert.Stick.nD Cert.Stick.τ).loc Cert.Stick.main_arg0)
      ∧ r.2.mem ((c.tc : Thread Cert.Stick.nD Cert.Stick.τ).loc Cert.Stick.main_arg1) = m ((c.tc : Thread Cert.Stick.nD Cert.Stick.τ).loc Cert.Stick.main_arg1)
      ∧ r.2.mem ((c.tc : Thread Cert.Stick.nD Cert.Stick.τ).loc Cert.Stick.main_arg2) = m ((c.tc : Thread Cert.Stick.nD Cert.Stick.τ).loc Cert.Stick.main_arg2))
      ∧ r.2.sem = fun _ => 0)

def quiescent_StickIdeal [hStickIdeal : Cert.StickIdeal.Facts] : Prop :=
  ∀ (m : (ℓ : Loc Cert.StickIdeal.nD Cert.StickIdeal.τ Cert.StickIdeal.sig) → Buf (Elt Ideal) ℓ) (g : Dev Cert.StickIdeal.nD → PrngReg), Pre_StickIdeal m →
    θ_run (Cert.StickIdeal.defs (F := Ideal)) (onTc (τ := Cert.StickIdeal.τ) (Cert.StickIdeal.main (F := Ideal))) ⟨m, fun _ => 0, g⟩ (fun r => (∀ c : Dev Cert.StickIdeal.nD,
      r.2.mem ((c.tc : Thread Cert.StickIdeal.nD Cert.StickIdeal.τ).loc Cert.StickIdeal.main_arg0) = m ((c.tc : Thread Cert.StickIdeal.nD Cert.StickIdeal.τ).loc Cert.StickIdeal.main_arg0)
      ∧ r.2.mem ((c.tc : Thread Cert.StickIdeal.nD Cert.StickIdeal.τ).loc Cert.StickIdeal.main_arg1) = m ((c.tc : Thread Cert.StickIdeal.nD Cert.StickIdeal.τ).loc Cert.StickIdeal.main_arg1)
      ∧ r.2.mem ((c.tc : Thread Cert.StickIdeal.nD Cert.StickIdeal.τ).loc Cert.StickIdeal.main_arg2) = m ((c.tc : Thread Cert.StickIdeal.nD Cert.StickIdeal.τ).loc Cert.StickIdeal.main_arg2))
      ∧ r.2.sem = fun _ => 0)

def quiescent_StickIdeal_pre_bounded6 [hStickIdeal : Cert.StickIdeal.Facts] [hPre_bounded6 : Cert.Pre_bounded6.Facts] : Prop :=
  ∀ (m : (ℓ : Loc Cert.StickIdeal.nD Cert.StickIdeal.τ Cert.StickIdeal.sig) → Buf (Elt Ideal) ℓ) (g : Dev Cert.StickIdeal.nD → PrngReg), Pre_StickIdeal_bounded6 m →
    θ_run (Cert.StickIdeal.defs (F := Ideal)) (onTc (τ := Cert.StickIdeal.τ) (Cert.StickIdeal.main (F := Ideal))) ⟨m, fun _ => 0, g⟩ (fun r => (∀ c : Dev Cert.StickIdeal.nD,
      r.2.mem ((c.tc : Thread Cert.StickIdeal.nD Cert.StickIdeal.τ).loc Cert.StickIdeal.main_arg0) = m ((c.tc : Thread Cert.StickIdeal.nD Cert.StickIdeal.τ).loc Cert.StickIdeal.main_arg0)
      ∧ r.2.mem ((c.tc : Thread Cert.StickIdeal.nD Cert.StickIdeal.τ).loc Cert.StickIdeal.main_arg1) = m ((c.tc : Thread Cert.StickIdeal.nD Cert.StickIdeal.τ).loc Cert.StickIdeal.main_arg1)
      ∧ r.2.mem ((c.tc : Thread Cert.StickIdeal.nD Cert.StickIdeal.τ).loc Cert.StickIdeal.main_arg2) = m ((c.tc : Thread Cert.StickIdeal.nD Cert.StickIdeal.τ).loc Cert.StickIdeal.main_arg2))
      ∧ r.2.sem = fun _ => 0)

def quiescent_StickReferenceIdeal [hStickReferenceIdeal : Cert.StickReferenceIdeal.Facts] : Prop :=
  ∀ (m : (ℓ : Loc Cert.StickReferenceIdeal.nD Cert.StickReferenceIdeal.τ Cert.StickReferenceIdeal.sig) → Buf (Elt Ideal) ℓ) (g : Dev Cert.StickReferenceIdeal.nD → PrngReg), Pre_StickReferenceIdeal m →
    θ_run (Cert.StickReferenceIdeal.defs (F := Ideal)) (onTc (τ := Cert.StickReferenceIdeal.τ) (Cert.StickReferenceIdeal.main (F := Ideal))) ⟨m, fun _ => 0, g⟩ (fun r => (∀ c : Dev Cert.StickReferenceIdeal.nD,
      r.2.mem ((c.tc : Thread Cert.StickReferenceIdeal.nD Cert.StickReferenceIdeal.τ).loc Cert.StickReferenceIdeal.main_arg0) = m ((c.tc : Thread Cert.StickReferenceIdeal.nD Cert.StickReferenceIdeal.τ).loc Cert.StickReferenceIdeal.main_arg0)
      ∧ r.2.mem ((c.tc : Thread Cert.StickReferenceIdeal.nD Cert.StickReferenceIdeal.τ).loc Cert.StickReferenceIdeal.main_arg1) = m ((c.tc : Thread Cert.StickReferenceIdeal.nD Cert.StickReferenceIdeal.τ).loc Cert.StickReferenceIdeal.main_arg1)
      ∧ r.2.mem ((c.tc : Thread Cert.StickReferenceIdeal.nD Cert.StickReferenceIdeal.τ).loc Cert.StickReferenceIdeal.main_arg2) = m ((c.tc : Thread Cert.StickReferenceIdeal.nD Cert.StickReferenceIdeal.τ).loc Cert.StickReferenceIdeal.main_arg2))
      ∧ r.2.sem = fun _ => 0)

def quiescent_StickReferenceIdeal_pre_bounded6 [hStickReferenceIdeal : Cert.StickReferenceIdeal.Facts] [hPre_bounded6 : Cert.Pre_bounded6.Facts] : Prop :=
  ∀ (m : (ℓ : Loc Cert.StickReferenceIdeal.nD Cert.StickReferenceIdeal.τ Cert.StickReferenceIdeal.sig) → Buf (Elt Ideal) ℓ) (g : Dev Cert.StickReferenceIdeal.nD → PrngReg), Pre_StickReferenceIdeal_bounded6 m →
    θ_run (Cert.StickReferenceIdeal.defs (F := Ideal)) (onTc (τ := Cert.StickReferenceIdeal.τ) (Cert.StickReferenceIdeal.main (F := Ideal))) ⟨m, fun _ => 0, g⟩ (fun r => (∀ c : Dev Cert.StickReferenceIdeal.nD,
      r.2.mem ((c.tc : Thread Cert.StickReferenceIdeal.nD Cert.StickReferenceIdeal.τ).loc Cert.StickReferenceIdeal.main_arg0) = m ((c.tc : Thread Cert.StickReferenceIdeal.nD Cert.StickReferenceIdeal.τ).loc Cert.StickReferenceIdeal.main_arg0)
      ∧ r.2.mem ((c.tc : Thread Cert.StickReferenceIdeal.nD Cert.StickReferenceIdeal.τ).loc Cert.StickReferenceIdeal.main_arg1) = m ((c.tc : Thread Cert.StickReferenceIdeal.nD Cert.StickReferenceIdeal.τ).loc Cert.StickReferenceIdeal.main_arg1)
      ∧ r.2.mem ((c.tc : Thread Cert.StickReferenceIdeal.nD Cert.StickReferenceIdeal.τ).loc Cert.StickReferenceIdeal.main_arg2) = m ((c.tc : Thread Cert.StickReferenceIdeal.nD Cert.StickReferenceIdeal.τ).loc Cert.StickReferenceIdeal.main_arg2))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3)
      ∧ r.2.mem ((c.tc : Thread Cert.Pool.nD Cert.Pool.τ).loc Cert.Pool.main_arg4) = m ((c.tc : Thread Cert.Pool.nD Cert.Pool.τ).loc Cert.Pool.main_arg4))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4))
      ∧ r.2.sem = fun _ => 0)

def quiescent_PoolIdeal_pre_finite8 [hPoolIdeal : Cert.PoolIdeal.Facts] [hPre_finite8 : Cert.Pre_finite8.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_finite8 m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4))
      ∧ r.2.sem = fun _ => 0)

def quiescent_PoolReferenceIdeal [hPoolReferenceIdeal : Cert.PoolReferenceIdeal.Facts] : Prop :=
  ∀ (m : (ℓ : Loc Cert.PoolReferenceIdeal.nD Cert.PoolReferenceIdeal.τ Cert.PoolReferenceIdeal.sig) → Buf (Elt Ideal) ℓ) (g : Dev Cert.PoolReferenceIdeal.nD → PrngReg), Pre_PoolReferenceIdeal m →
    θ_run (Cert.PoolReferenceIdeal.defs (F := Ideal)) (onTc (τ := Cert.PoolReferenceIdeal.τ) (Cert.PoolReferenceIdeal.main (F := Ideal))) ⟨m, fun _ => 0, g⟩ (fun r => (∀ c : Dev Cert.PoolReferenceIdeal.nD,
      r.2.mem ((c.tc : Thread Cert.PoolReferenceIdeal.nD Cert.PoolReferenceIdeal.τ).loc Cert.PoolReferenceIdeal.main_arg0) = m ((c.tc : Thread Cert.PoolReferenceIdeal.nD Cert.PoolReferenceIdeal.τ).loc Cert.PoolReferenceIdeal.main_arg0)
      ∧ r.2.mem ((c.tc : Thread Cert.PoolReferenceIdeal.nD Cert.PoolReferenceIdeal.τ).loc Cert.PoolReferenceIdeal.main_arg1) = m ((c.tc : Thread Cert.PoolReferenceIdeal.nD Cert.PoolReferenceIdeal.τ).loc Cert.PoolReferenceIdeal.main_arg1)
      ∧ r.2.mem ((c.tc : Thread Cert.PoolReferenceIdeal.nD Cert.PoolReferenceIdeal.τ).loc Cert.PoolReferenceIdeal.main_arg2) = m ((c.tc : Thread Cert.PoolReferenceIdeal.nD Cert.PoolReferenceIdeal.τ).loc Cert.PoolReferenceIdeal.main_arg2)
      ∧ r.2.mem ((c.tc : Thread Cert.PoolReferenceIdeal.nD Cert.PoolReferenceIdeal.τ).loc Cert.PoolReferenceIdeal.main_arg3) = m ((c.tc : Thread Cert.PoolReferenceIdeal.nD Cert.PoolReferenceIdeal.τ).loc Cert.PoolReferenceIdeal.main_arg3)
      ∧ r.2.mem ((c.tc : Thread Cert.PoolReferenceIdeal.nD Cert.PoolReferenceIdeal.τ).loc Cert.PoolReferenceIdeal.main_arg4) = m ((c.tc : Thread Cert.PoolReferenceIdeal.nD Cert.PoolReferenceIdeal.τ).loc Cert.PoolReferenceIdeal.main_arg4))
      ∧ r.2.sem = fun _ => 0)

def quiescent_PoolReferenceIdeal_pre_finite8 [hPoolReferenceIdeal : Cert.PoolReferenceIdeal.Facts] [hPre_finite8 : Cert.Pre_finite8.Facts] : Prop :=
  ∀ (m : (ℓ : Loc Cert.PoolReferenceIdeal.nD Cert.PoolReferenceIdeal.τ Cert.PoolReferenceIdeal.sig) → Buf (Elt Ideal) ℓ) (g : Dev Cert.PoolReferenceIdeal.nD → PrngReg), Pre_PoolReferenceIdeal_finite8 m →
    θ_run (Cert.PoolReferenceIdeal.defs (F := Ideal)) (onTc (τ := Cert.PoolReferenceIdeal.τ) (Cert.PoolReferenceIdeal.main (F := Ideal))) ⟨m, fun _ => 0, g⟩ (fun r => (∀ c : Dev Cert.PoolReferenceIdeal.nD,
      r.2.mem ((c.tc : Thread Cert.PoolReferenceIdeal.nD Cert.PoolReferenceIdeal.τ).loc Cert.PoolReferenceIdeal.main_arg0) = m ((c.tc : Thread Cert.PoolReferenceIdeal.nD Cert.PoolReferenceIdeal.τ).loc Cert.PoolReferenceIdeal.main_arg0)
      ∧ r.2.mem ((c.tc : Thread Cert.PoolReferenceIdeal.nD Cert.PoolReferenceIdeal.τ).loc Cert.PoolReferenceIdeal.main_arg1) = m ((c.tc : Thread Cert.PoolReferenceIdeal.nD Cert.PoolReferenceIdeal.τ).loc Cert.PoolReferenceIdeal.main_arg1)
      ∧ r.2.mem ((c.tc : Thread Cert.PoolReferenceIdeal.nD Cert.PoolReferenceIdeal.τ).loc Cert.PoolReferenceIdeal.main_arg2) = m ((c.tc : Thread Cert.PoolReferenceIdeal.nD Cert.PoolReferenceIdeal.τ).loc Cert.PoolReferenceIdeal.main_arg2)
      ∧ r.2.mem ((c.tc : Thread Cert.PoolReferenceIdeal.nD Cert.PoolReferenceIdeal.τ).loc Cert.PoolReferenceIdeal.main_arg3) = m ((c.tc : Thread Cert.PoolReferenceIdeal.nD Cert.PoolReferenceIdeal.τ).loc Cert.PoolReferenceIdeal.main_arg3)
      ∧ r.2.mem ((c.tc : Thread Cert.PoolReferenceIdeal.nD Cert.PoolReferenceIdeal.τ).loc Cert.PoolReferenceIdeal.main_arg4) = m ((c.tc : Thread Cert.PoolReferenceIdeal.nD Cert.PoolReferenceIdeal.τ).loc Cert.PoolReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)
      ∧ m' ((c.tc : Thread Cert.FfnReferenceIdeal.nD Cert.FfnReferenceIdeal.τ).loc Cert.FfnReferenceIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v8)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v8) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v30) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7))

def preserves_EvenProj_EvenProjIdeal : Prop :=
  True

def algebraic_EvenProjIdeal_EvenProjReferenceIdeal [hEvenProjIdeal : Cert.EvenProjIdeal.Facts] [hEvenProjReferenceIdeal : Cert.EvenProjReferenceIdeal.Facts] : Prop :=
  ∀ (m : (ℓ : Loc Cert.EvenProjIdeal.nD Cert.EvenProjIdeal.τ Cert.EvenProjIdeal.sig) → Buf (Elt Ideal) ℓ) (g : Dev Cert.EvenProjIdeal.nD → PrngReg)
    (m' : (ℓ : Loc Cert.EvenProjReferenceIdeal.nD Cert.EvenProjReferenceIdeal.τ Cert.EvenProjReferenceIdeal.sig) → Buf (Elt Ideal) ℓ) (g' : Dev Cert.EvenProjReferenceIdeal.nD → PrngReg), Pre_EvenProjIdeal m →
    (∀ c : Dev Cert.EvenProjIdeal.nD,
      m' ((c.tc : Thread Cert.EvenProjReferenceIdeal.nD Cert.EvenProjReferenceIdeal.τ).loc Cert.EvenProjReferenceIdeal.main_arg0) = m ((c.tc : Thread Cert.EvenProjIdeal.nD Cert.EvenProjIdeal.τ).loc Cert.EvenProjIdeal.main_arg0)
      ∧ m' ((c.tc : Thread Cert.EvenProjReferenceIdeal.nD Cert.EvenProjReferenceIdeal.τ).loc Cert.EvenProjReferenceIdeal.main_arg1) = m ((c.tc : Thread Cert.EvenProjIdeal.nD Cert.EvenProjIdeal.τ).loc Cert.EvenProjIdeal.main_arg1)
      ∧ m' ((c.tc : Thread Cert.EvenProjReferenceIdeal.nD Cert.EvenProjReferenceIdeal.τ).loc Cert.EvenProjReferenceIdeal.main_arg2) = m ((c.tc : Thread Cert.EvenProjIdeal.nD Cert.EvenProjIdeal.τ).loc Cert.EvenProjIdeal.main_arg2)) →
    ∃ (v0 : (c : Dev Cert.EvenProjIdeal.nD) → Buf (Elt Ideal) ((c.tc : Thread Cert.EvenProjIdeal.nD Cert.EvenProjIdeal.τ).loc Cert.EvenProjIdeal.main_v9_0)) (v1 : (c : Dev Cert.EvenProjIdeal.nD) → Buf (Elt Ideal) ((c.tc : Thread Cert.EvenProjIdeal.nD Cert.EvenProjIdeal.τ).loc Cert.EvenProjIdeal.main_v9_1)) (v2 : (c : Dev Cert.EvenProjIdeal.nD) → Buf (Elt Ideal) ((c.tc : Thread Cert.EvenProjIdeal.nD Cert.EvenProjIdeal.τ).loc Cert.EvenProjIdeal.main_v9_2)),
      θ_run (Cert.EvenProjIdeal.defs (F := Ideal)) (onTc (τ := Cert.EvenProjIdeal.τ) (Cert.EvenProjIdeal.main (F := Ideal))) ⟨m, fun _ => 0, g⟩ (fun r => ∀ c : Dev Cert.EvenProjIdeal.nD,
          r.2.mem ((c.tc : Thread Cert.EvenProjIdeal.nD Cert.EvenProjIdeal.τ).loc Cert.EvenProjIdeal.main_v9_0) = v0 c
          ∧ r.2.mem ((c.tc : Thread Cert.EvenProjIdeal.nD Cert.EvenProjIdeal.τ).loc Cert.EvenProjIdeal.main_v9_1) = v1 c
          ∧ r.2.mem ((c.tc : Thread Cert.EvenProjIdeal.nD Cert.EvenProjIdeal.τ).loc Cert.EvenProjIdeal.main_v9_2) = v2 c
          ∧ r.2.mem ((c.tc : Thread Cert.EvenProjIdeal.nD Cert.EvenProjIdeal.τ).loc Cert.EvenProjIdeal.main_arg0) = m ((c.tc : Thread Cert.EvenProjIdeal.nD Cert.EvenProjIdeal.τ).loc Cert.EvenProjIdeal.main_arg0)
          ∧ r.2.mem ((c.tc : Thread Cert.EvenProjIdeal.nD Cert.EvenProjIdeal.τ).loc Cert.EvenProjIdeal.main_arg1) = m ((c.tc : Thread Cert.EvenProjIdeal.nD Cert.EvenProjIdeal.τ).loc Cert.EvenProjIdeal.main_arg1)
          ∧ r.2.mem ((c.tc : Thread Cert.EvenProjIdeal.nD Cert.EvenProjIdeal.τ).loc Cert.EvenProjIdeal.main_arg2) = m ((c.tc : Thread Cert.EvenProjIdeal.nD Cert.EvenProjIdeal.τ).loc Cert.EvenProjIdeal.main_arg2))
      ∧ θ_run (Cert.EvenProjReferenceIdeal.defs (F := Ideal)) (onTc (τ := Cert.EvenProjReferenceIdeal.τ) (Cert.EvenProjReferenceIdeal.main (F := Ideal))) ⟨m', fun _ => 0, g'⟩ (fun r => ∀ c : Dev Cert.EvenProjReferenceIdeal.nD,
          r.2.mem ((c.tc : Thread Cert.EvenProjReferenceIdeal.nD Cert.EvenProjReferenceIdeal.τ).loc Cert.EvenProjReferenceIdeal.main_v19) = v0 c
          ∧ r.2.mem ((c.tc : Thread Cert.EvenProjReferenceIdeal.nD Cert.EvenProjReferenceIdeal.τ).loc Cert.EvenProjReferenceIdeal.main_v20) = v1 c
          ∧ r.2.mem ((c.tc : Thread Cert.EvenProjReferenceIdeal.nD Cert.EvenProjReferenceIdeal.τ).loc Cert.EvenProjReferenceIdeal.main_v21) = v2 c
          ∧ r.2.mem ((c.tc : Thread Cert.EvenProjReferenceIdeal.nD Cert.EvenProjReferenceIdeal.τ).loc Cert.EvenProjReferenceIdeal.main_arg0) = m' ((c.tc : Thread Cert.EvenProjReferenceIdeal.nD Cert.EvenProjReferenceIdeal.τ).loc Cert.EvenProjReferenceIdeal.main_arg0)
          ∧ r.2.mem ((c.tc : Thread Cert.EvenProjReferenceIdeal.nD Cert.EvenProjReferenceIdeal.τ).loc Cert.EvenProjReferenceIdeal.main_arg1) = m' ((c.tc : Thread Cert.EvenProjReferenceIdeal.nD Cert.EvenProjReferenceIdeal.τ).loc Cert.EvenProjReferenceIdeal.main_arg1)
          ∧ r.2.mem ((c.tc : Thread Cert.EvenProjReferenceIdeal.nD Cert.EvenProjReferenceIdeal.τ).loc Cert.EvenProjReferenceIdeal.main_arg2) = m' ((c.tc : Thread Cert.EvenProjReferenceIdeal.nD Cert.EvenProjReferenceIdeal.τ).loc Cert.EvenProjReferenceIdeal.main_arg2))

def preserves_OddProj_OddProjIdeal : Prop :=
  True

def algebraic_OddProjIdeal_OddProjReferenceIdeal [hOddProjIdeal : Cert.OddProjIdeal.Facts] [hOddProjReferenceIdeal : Cert.OddProjReferenceIdeal.Facts] : Prop :=
  ∀ (m : (ℓ : Loc Cert.OddProjIdeal.nD Cert.OddProjIdeal.τ Cert.OddProjIdeal.sig) → Buf (Elt Ideal) ℓ) (g : Dev Cert.OddProjIdeal.nD → PrngReg)
    (m' : (ℓ : Loc Cert.OddProjReferenceIdeal.nD Cert.OddProjReferenceIdeal.τ Cert.OddProjReferenceIdeal.sig) → Buf (Elt Ideal) ℓ) (g' : Dev Cert.OddProjReferenceIdeal.nD → PrngReg), Pre_OddProjIdeal m →
    (∀ c : Dev Cert.OddProjIdeal.nD,
      m' ((c.tc : Thread Cert.OddProjReferenceIdeal.nD Cert.OddProjReferenceIdeal.τ).loc Cert.OddProjReferenceIdeal.main_arg0) = m ((c.tc : Thread Cert.OddProjIdeal.nD Cert.OddProjIdeal.τ).loc Cert.OddProjIdeal.main_arg0)
      ∧ m' ((c.tc : Thread Cert.OddProjReferenceIdeal.nD Cert.OddProjReferenceIdeal.τ).loc Cert.OddProjReferenceIdeal.main_arg1) = m ((c.tc : Thread Cert.OddProjIdeal.nD Cert.OddProjIdeal.τ).loc Cert.OddProjIdeal.main_arg1)
      ∧ m' ((c.tc : Thread Cert.OddProjReferenceIdeal.nD Cert.OddProjReferenceIdeal.τ).loc Cert.OddProjReferenceIdeal.main_arg2) = m ((c.tc : Thread Cert.OddProjIdeal.nD Cert.OddProjIdeal.τ).loc Cert.OddProjIdeal.main_arg2)) →
    ∃ (v0 : (c : Dev Cert.OddProjIdeal.nD) → Buf (Elt Ideal) ((c.tc : Thread Cert.OddProjIdeal.nD Cert.OddProjIdeal.τ).loc Cert.OddProjIdeal.main_v13_0)) (v1 : (c : Dev Cert.OddProjIdeal.nD) → Buf (Elt Ideal) ((c.tc : Thread Cert.OddProjIdeal.nD Cert.OddProjIdeal.τ).loc Cert.OddProjIdeal.main_v13_1)) (v2 : (c : Dev Cert.OddProjIdeal.nD) → Buf (Elt Ideal) ((c.tc : Thread Cert.OddProjIdeal.nD Cert.OddProjIdeal.τ).loc Cert.OddProjIdeal.main_v13_2)) (v3 : (c : Dev Cert.OddProjIdeal.nD) → Buf (Elt Ideal) ((c.tc : Thread Cert.OddProjIdeal.nD Cert.OddProjIdeal.τ).loc Cert.OddProjIdeal.main_v13_3)) (v4 : (c : Dev Cert.OddProjIdeal.nD) → Buf (Elt Ideal) ((c.tc : Thread Cert.OddProjIdeal.nD Cert.OddProjIdeal.τ).loc Cert.OddProjIdeal.main_v13_4)),
      θ_run (Cert.OddProjIdeal.defs (F := Ideal)) (onTc (τ := Cert.OddProjIdeal.τ) (Cert.OddProjIdeal.main (F := Ideal))) ⟨m, fun _ => 0, g⟩ (fun r => ∀ c : Dev Cert.OddProjIdeal.nD,
          r.2.mem ((c.tc : Thread Cert.OddProjIdeal.nD Cert.OddProjIdeal.τ).loc Cert.OddProjIdeal.main_v13_0) = v0 c
          ∧ r.2.mem ((c.tc : Thread Cert.OddProjIdeal.nD Cert.OddProjIdeal.τ).loc Cert.OddProjIdeal.main_v13_1) = v1 c
          ∧ r.2.mem ((c.tc : Thread Cert.OddProjIdeal.nD Cert.OddProjIdeal.τ).loc Cert.OddProjIdeal.main_v13_2) = v2 c
          ∧ r.2.mem ((c.tc : Thread Cert.OddProjIdeal.nD Cert.OddProjIdeal.τ).loc Cert.OddProjIdeal.main_v13_3) = v3 c
          ∧ r.2.mem ((c.tc : Thread Cert.OddProjIdeal.nD Cert.OddProjIdeal.τ).loc Cert.OddProjIdeal.main_v13_4) = v4 c
          ∧ r.2.mem ((c.tc : Thread Cert.OddProjIdeal.nD Cert.OddProjIdeal.τ).loc Cert.OddProjIdeal.main_arg0) = m ((c.tc : Thread Cert.OddProjIdeal.nD Cert.OddProjIdeal.τ).loc Cert.OddProjIdeal.main_arg0)
          ∧ r.2.mem ((c.tc : Thread Cert.OddProjIdeal.nD Cert.OddProjIdeal.τ).loc Cert.OddProjIdeal.main_arg1) = m ((c.tc : Thread Cert.OddProjIdeal.nD Cert.OddProjIdeal.τ).loc Cert.OddProjIdeal.main_arg1)
          ∧ r.2.mem ((c.tc : Thread Cert.OddProjIdeal.nD Cert.OddProjIdeal.τ).loc Cert.OddProjIdeal.main_arg2) = m ((c.tc : Thread Cert.OddProjIdeal.nD Cert.OddProjIdeal.τ).loc Cert.OddProjIdeal.main_arg2))
      ∧ θ_run (Cert.OddProjReferenceIdeal.defs (F := Ideal)) (onTc (τ := Cert.OddProjReferenceIdeal.τ) (Cert.OddProjReferenceIdeal.main (F := Ideal))) ⟨m', fun _ => 0, g'⟩ (fun r => ∀ c : Dev Cert.OddProjReferenceIdeal.nD,
          r.2.mem ((c.tc : Thread Cert.OddProjReferenceIdeal.nD Cert.OddProjReferenceIdeal.τ).loc Cert.OddProjReferenceIdeal.main_v21) = v0 c
          ∧ r.2.mem ((c.tc : Thread Cert.OddProjReferenceIdeal.nD Cert.OddProjReferenceIdeal.τ).loc Cert.OddProjReferenceIdeal.main_v22) = v1 c
          ∧ r.2.mem ((c.tc : Thread Cert.OddProjReferenceIdeal.nD Cert.OddProjReferenceIdeal.τ).loc Cert.OddProjReferenceIdeal.main_v24) = v2 c
          ∧ r.2.mem ((c.tc : Thread Cert.OddProjReferenceIdeal.nD Cert.OddProjReferenceIdeal.τ).loc Cert.OddProjReferenceIdeal.main_v25) = v3 c
          ∧ r.2.mem ((c.tc : Thread Cert.OddProjReferenceIdeal.nD Cert.OddProjReferenceIdeal.τ).loc Cert.OddProjReferenceIdeal.main_v26) = v4 c
          ∧ r.2.mem ((c.tc : Thread Cert.OddProjReferenceIdeal.nD Cert.OddProjReferenceIdeal.τ).loc Cert.OddProjReferenceIdeal.main_arg0) = m' ((c.tc : Thread Cert.OddProjReferenceIdeal.nD Cert.OddProjReferenceIdeal.τ).loc Cert.OddProjReferenceIdeal.main_arg0)
          ∧ r.2.mem ((c.tc : Thread Cert.OddProjReferenceIdeal.nD Cert.OddProjReferenceIdeal.τ).loc Cert.OddProjReferenceIdeal.main_arg1) = m' ((c.tc : Thread Cert.OddProjReferenceIdeal.nD Cert.OddProjReferenceIdeal.τ).loc Cert.OddProjReferenceIdeal.main_arg1)
          ∧ r.2.mem ((c.tc : Thread Cert.OddProjReferenceIdeal.nD Cert.OddProjReferenceIdeal.τ).loc Cert.OddProjReferenceIdeal.main_arg2) = m' ((c.tc : Thread Cert.OddProjReferenceIdeal.nD Cert.OddProjReferenceIdeal.τ).loc Cert.OddProjReferenceIdeal.main_arg2))

def preserves_Router_RouterIdeal : Prop :=
  True

def algebraic_RouterIdeal_RouterReferenceIdeal_pre_finite5 [hRouterIdeal : Cert.RouterIdeal.Facts] [hRouterReferenceIdeal : Cert.RouterReferenceIdeal.Facts] [hPre_finite5 : Cert.Pre_finite5.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterReferenceIdeal.nD Cert.RouterReferenceIdeal.τ Cert.RouterReferenceIdeal.sig) → Buf (Elt Ideal) ℓ) (g' : Dev Cert.RouterReferenceIdeal.nD → PrngReg), Pre_RouterIdeal_finite5 m →
    (∀ c : Dev Cert.RouterIdeal.nD,
      m' ((c.tc : Thread Cert.RouterReferenceIdeal.nD Cert.RouterReferenceIdeal.τ).loc Cert.RouterReferenceIdeal.main_arg0) = m ((c.tc : Thread Cert.RouterIdeal.nD Cert.RouterIdeal.τ).loc Cert.RouterIdeal.main_arg0)
      ∧ m' ((c.tc : Thread Cert.RouterReferenceIdeal.nD Cert.RouterReferenceIdeal.τ).loc Cert.RouterReferenceIdeal.main_arg1) = m ((c.tc : Thread Cert.RouterIdeal.nD Cert.RouterIdeal.τ).loc Cert.RouterIdeal.main_arg1)
      ∧ m' ((c.tc : Thread Cert.RouterReferenceIdeal.nD Cert.RouterReferenceIdeal.τ).loc Cert.RouterReferenceIdeal.main_arg2) = m ((c.tc : Thread Cert.RouterIdeal.nD Cert.RouterIdeal.τ).loc Cert.RouterIdeal.main_arg2)
      ∧ m' ((c.tc : Thread Cert.RouterReferenceIdeal.nD Cert.RouterReferenceIdeal.τ).loc Cert.RouterReferenceIdeal.main_arg3) = m ((c.tc : Thread Cert.RouterIdeal.nD Cert.RouterIdeal.τ).loc Cert.RouterIdeal.main_arg3)
      ∧ m' ((c.tc : Thread Cert.RouterReferenceIdeal.nD Cert.RouterReferenceIdeal.τ).loc Cert.RouterReferenceIdeal.main_arg4) = m ((c.tc : Thread Cert.RouterIdeal.nD Cert.RouterIdeal.τ).loc Cert.RouterIdeal.main_arg4)
      ∧ m' ((c.tc : Thread Cert.RouterReferenceIdeal.nD Cert.RouterReferenceIdeal.τ).loc Cert.RouterReferenceIdeal.main_arg5) = m ((c.tc : Thread Cert.RouterIdeal.nD Cert.RouterIdeal.τ).loc Cert.RouterIdeal.main_arg5)) →
    ∃ (v0 : (c : Dev Cert.RouterIdeal.nD) → Buf (Elt Ideal) ((c.tc : Thread Cert.RouterIdeal.nD Cert.RouterIdeal.τ).loc Cert.RouterIdeal.main_v11_0)) (v1 : (c : Dev Cert.RouterIdeal.nD) → Buf (Elt Ideal) ((c.tc : Thread Cert.RouterIdeal.nD Cert.RouterIdeal.τ).loc Cert.RouterIdeal.main_v11_1)) (v2 : (c : Dev Cert.RouterIdeal.nD) → Buf (Elt Ideal) ((c.tc : Thread Cert.RouterIdeal.nD Cert.RouterIdeal.τ).loc Cert.RouterIdeal.main_v11_2)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v11_0) = v0 c
          ∧ r.2.mem ((c.tc : Thread Cert.RouterIdeal.nD Cert.RouterIdeal.τ).loc Cert.RouterIdeal.main_v11_1) = v1 c
          ∧ r.2.mem ((c.tc : Thread Cert.RouterIdeal.nD Cert.RouterIdeal.τ).loc Cert.RouterIdeal.main_v11_2) = v2 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
          ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
          ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
          ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
          ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5))
      ∧ θ_run (Cert.RouterReferenceIdeal.defs (F := Ideal)) (onTc (τ := Cert.RouterReferenceIdeal.τ) (Cert.RouterReferenceIdeal.main (F := Ideal))) ⟨m', fun _ => 0, g'⟩ (fun r => ∀ c : Dev Cert.RouterReferenceIdeal.nD,
          r.2.mem ((c.tc : Thread Cert.RouterReferenceIdeal.nD Cert.RouterReferenceIdeal.τ).loc Cert.RouterReferenceIdeal.main_v33) = v0 c
          ∧ r.2.mem ((c.tc : Thread Cert.RouterReferenceIdeal.nD Cert.RouterReferenceIdeal.τ).loc Cert.RouterReferenceIdeal.main_v34) = v1 c
          ∧ r.2.mem ((c.tc : Thread Cert.RouterReferenceIdeal.nD Cert.RouterReferenceIdeal.τ).loc Cert.RouterReferenceIdeal.main_v35) = v2 c
          ∧ r.2.mem ((c.tc : Thread Cert.RouterReferenceIdeal.nD Cert.RouterReferenceIdeal.τ).loc Cert.RouterReferenceIdeal.main_arg0) = m' ((c.tc : Thread Cert.RouterReferenceIdeal.nD Cert.RouterReferenceIdeal.τ).loc Cert.RouterReferenceIdeal.main_arg0)
          ∧ r.2.mem ((c.tc : Thread Cert.RouterReferenceIdeal.nD Cert.RouterReferenceIdeal.τ).loc Cert.RouterReferenceIdeal.main_arg1) = m' ((c.tc : Thread Cert.RouterReferenceIdeal.nD Cert.RouterReferenceIdeal.τ).loc Cert.RouterReferenceIdeal.main_arg1)
          ∧ r.2.mem ((c.tc : Thread Cert.RouterReferenceIdeal.nD Cert.RouterReferenceIdeal.τ).loc Cert.RouterReferenceIdeal.main_arg2) = m' ((c.tc : Thread Cert.RouterReferenceIdeal.nD Cert.RouterReferenceIdeal.τ).loc Cert.RouterReferenceIdeal.main_arg2)
          ∧ r.2.mem ((c.tc : Thread Cert.RouterReferenceIdeal.nD Cert.RouterReferenceIdeal.τ).loc Cert.RouterReferenceIdeal.main_arg3) = m' ((c.tc : Thread Cert.RouterReferenceIdeal.nD Cert.RouterReferenceIdeal.τ).loc Cert.RouterReferenceIdeal.main_arg3)
          ∧ r.2.mem ((c.tc : Thread Cert.RouterReferenceIdeal.nD Cert.RouterReferenceIdeal.τ).loc Cert.RouterReferenceIdeal.main_arg4) = m' ((c.tc : Thread Cert.RouterReferenceIdeal.nD Cert.RouterReferenceIdeal.τ).loc Cert.RouterReferenceIdeal.main_arg4)
          ∧ r.2.mem ((c.tc : Thread Cert.RouterReferenceIdeal.nD Cert.RouterReferenceIdeal.τ).loc Cert.RouterReferenceIdeal.main_arg5) = m' ((c.tc : Thread Cert.RouterReferenceIdeal.nD Cert.RouterReferenceIdeal.τ).loc Cert.RouterReferenceIdeal.main_arg5))

def preserves_Stick_StickIdeal : Prop :=
  True

def algebraic_StickIdeal_StickReferenceIdeal_pre_bounded6 [hStickIdeal : Cert.StickIdeal.Facts] [hStickReferenceIdeal : Cert.StickReferenceIdeal.Facts] [hPre_bounded6 : Cert.Pre_bounded6.Facts] : Prop :=
  ∀ (m : (ℓ : Loc Cert.StickIdeal.nD Cert.StickIdeal.τ Cert.StickIdeal.sig) → Buf (Elt Ideal) ℓ) (g : Dev Cert.StickIdeal.nD → PrngReg)
    (m' : (ℓ : Loc Cert.StickReferenceIdeal.nD Cert.StickReferenceIdeal.τ Cert.StickReferenceIdeal.sig) → Buf (Elt Ideal) ℓ) (g' : Dev Cert.StickReferenceIdeal.nD → PrngReg), Pre_StickIdeal_bounded6 m →
    (∀ c : Dev Cert.StickIdeal.nD,
      m' ((c.tc : Thread Cert.StickReferenceIdeal.nD Cert.StickReferenceIdeal.τ).loc Cert.StickReferenceIdeal.main_arg0) = m ((c.tc : Thread Cert.StickIdeal.nD Cert.StickIdeal.τ).loc Cert.StickIdeal.main_arg0)
      ∧ m' ((c.tc : Thread Cert.StickReferenceIdeal.nD Cert.StickReferenceIdeal.τ).loc Cert.StickReferenceIdeal.main_arg1) = m ((c.tc : Thread Cert.StickIdeal.nD Cert.StickIdeal.τ).loc Cert.StickIdeal.main_arg1)
      ∧ m' ((c.tc : Thread Cert.StickReferenceIdeal.nD Cert.StickReferenceIdeal.τ).loc Cert.StickReferenceIdeal.main_arg2) = m ((c.tc : Thread Cert.StickIdeal.nD Cert.StickIdeal.τ).loc Cert.StickIdeal.main_arg2)) →
    ∃ (v0 : (c : Dev Cert.StickIdeal.nD) → Buf (Elt Ideal) ((c.tc : Thread Cert.StickIdeal.nD Cert.StickIdeal.τ).loc Cert.StickIdeal.main_v7)),
      θ_run (Cert.StickIdeal.defs (F := Ideal)) (onTc (τ := Cert.StickIdeal.τ) (Cert.StickIdeal.main (F := Ideal))) ⟨m, fun _ => 0, g⟩ (fun r => ∀ c : Dev Cert.StickIdeal.nD,
          r.2.mem ((c.tc : Thread Cert.StickIdeal.nD Cert.StickIdeal.τ).loc Cert.StickIdeal.main_v7) = v0 c
          ∧ r.2.mem ((c.tc : Thread Cert.StickIdeal.nD Cert.StickIdeal.τ).loc Cert.StickIdeal.main_arg0) = m ((c.tc : Thread Cert.StickIdeal.nD Cert.StickIdeal.τ).loc Cert.StickIdeal.main_arg0)
          ∧ r.2.mem ((c.tc : Thread Cert.StickIdeal.nD Cert.StickIdeal.τ).loc Cert.StickIdeal.main_arg1) = m ((c.tc : Thread Cert.StickIdeal.nD Cert.StickIdeal.τ).loc Cert.StickIdeal.main_arg1)
          ∧ r.2.mem ((c.tc : Thread Cert.StickIdeal.nD Cert.StickIdeal.τ).loc Cert.StickIdeal.main_arg2) = m ((c.tc : Thread Cert.StickIdeal.nD Cert.StickIdeal.τ).loc Cert.StickIdeal.main_arg2))
      ∧ θ_run (Cert.StickReferenceIdeal.defs (F := Ideal)) (onTc (τ := Cert.StickReferenceIdeal.τ) (Cert.StickReferenceIdeal.main (F := Ideal))) ⟨m', fun _ => 0, g'⟩ (fun r => ∀ c : Dev Cert.StickReferenceIdeal.nD,
          r.2.mem ((c.tc : Thread Cert.StickReferenceIdeal.nD Cert.StickReferenceIdeal.τ).loc Cert.StickReferenceIdeal.main_v28) = v0 c
          ∧ r.2.mem ((c.tc : Thread Cert.StickReferenceIdeal.nD Cert.StickReferenceIdeal.τ).loc Cert.StickReferenceIdeal.main_arg0) = m' ((c.tc : Thread Cert.StickReferenceIdeal.nD Cert.StickReferenceIdeal.τ).loc Cert.StickReferenceIdeal.main_arg0)
          ∧ r.2.mem ((c.tc : Thread Cert.StickReferenceIdeal.nD Cert.StickReferenceIdeal.τ).loc Cert.StickReferenceIdeal.main_arg1) = m' ((c.tc : Thread Cert.StickReferenceIdeal.nD Cert.StickReferenceIdeal.τ).loc Cert.StickReferenceIdeal.main_arg1)
          ∧ r.2.mem ((c.tc : Thread Cert.StickReferenceIdeal.nD Cert.StickReferenceIdeal.τ).loc Cert.StickReferenceIdeal.main_arg2) = m' ((c.tc : Thread Cert.StickReferenceIdeal.nD Cert.StickReferenceIdeal.τ).loc Cert.StickReferenceIdeal.main_arg2))

def preserves_Conv_ConvIdeal : Prop :=
  True

def algebraic_ConvIdeal_ConvReferenceIdeal [hConvIdeal : Cert.ConvIdeal.Facts] [hConvReferenceIdeal : Cert.ConvReferenceIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvIdeal m →
    (∀ c : Dev Cert.ConvIdeal.nD,
      m' ((c.tc : Thread Cert.ConvReferenceIdeal.nD Cert.ConvReferenceIdeal.τ).loc Cert.ConvReferenceIdeal.main_arg0) = m ((c.tc : Thread Cert.ConvIdeal.nD Cert.ConvIdeal.τ).loc Cert.ConvIdeal.main_arg0)
      ∧ m' ((c.tc : Thread Cert.ConvReferenceIdeal.nD Cert.ConvReferenceIdeal.τ).loc Cert.ConvReferenceIdeal.main_arg1) = m ((c.tc : Thread Cert.ConvIdeal.nD Cert.ConvIdeal.τ).loc Cert.ConvIdeal.main_arg1)) →
    ∃ (v0 : (c : Dev Cert.ConvIdeal.nD) → Buf (Elt Ideal) ((c.tc : Thread Cert.ConvIdeal.nD Cert.ConvIdeal.τ).loc Cert.ConvIdeal.main_v4)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v4) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v36) = v0 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1))

def preserves_Pool_PoolIdeal : Prop :=
  True

def algebraic_PoolIdeal_PoolReferenceIdeal_pre_finite8 [hPoolIdeal : Cert.PoolIdeal.Facts] [hPoolReferenceIdeal : Cert.PoolReferenceIdeal.Facts] [hPre_finite8 : Cert.Pre_finite8.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolReferenceIdeal.nD Cert.PoolReferenceIdeal.τ Cert.PoolReferenceIdeal.sig) → Buf (Elt Ideal) ℓ) (g' : Dev Cert.PoolReferenceIdeal.nD → PrngReg), Pre_PoolIdeal_finite8 m →
    (∀ c : Dev Cert.PoolIdeal.nD,
      m' ((c.tc : Thread Cert.PoolReferenceIdeal.nD Cert.PoolReferenceIdeal.τ).loc Cert.PoolReferenceIdeal.main_arg0) = m ((c.tc : Thread Cert.PoolIdeal.nD Cert.PoolIdeal.τ).loc Cert.PoolIdeal.main_arg0)
      ∧ m' ((c.tc : Thread Cert.PoolReferenceIdeal.nD Cert.PoolReferenceIdeal.τ).loc Cert.PoolReferenceIdeal.main_arg1) = m ((c.tc : Thread Cert.PoolIdeal.nD Cert.PoolIdeal.τ).loc Cert.PoolIdeal.main_arg1)
      ∧ m' ((c.tc : Thread Cert.PoolReferenceIdeal.nD Cert.PoolReferenceIdeal.τ).loc Cert.PoolReferenceIdeal.main_arg2) = m ((c.tc : Thread Cert.PoolIdeal.nD Cert.PoolIdeal.τ).loc Cert.PoolIdeal.main_arg2)
      ∧ m' ((c.tc : Thread Cert.PoolReferenceIdeal.nD Cert.PoolReferenceIdeal.τ).loc Cert.PoolReferenceIdeal.main_arg3) = m ((c.tc : Thread Cert.PoolIdeal.nD Cert.PoolIdeal.τ).loc Cert.PoolIdeal.main_arg3)
      ∧ m' ((c.tc : Thread Cert.PoolReferenceIdeal.nD Cert.PoolReferenceIdeal.τ).loc Cert.PoolReferenceIdeal.main_arg4) = m ((c.tc : Thread Cert.PoolIdeal.nD Cert.PoolIdeal.τ).loc Cert.PoolIdeal.main_arg4)) →
    ∃ (v0 : (c : Dev Cert.PoolIdeal.nD) → Buf (Elt Ideal) ((c.tc : Thread Cert.PoolIdeal.nD Cert.PoolIdeal.τ).loc Cert.PoolIdeal.main_v13_0)) (v1 : (c : Dev Cert.PoolIdeal.nD) → Buf (Elt Ideal) ((c.tc : Thread Cert.PoolIdeal.nD Cert.PoolIdeal.τ).loc Cert.PoolIdeal.main_v13_1)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v13_0) = v0 c
          ∧ r.2.mem ((c.tc : Thread Cert.PoolIdeal.nD Cert.PoolIdeal.τ).loc Cert.PoolIdeal.main_v13_1) = v1 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
          ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4))
      ∧ θ_run (Cert.PoolReferenceIdeal.defs (F := Ideal)) (onTc (τ := Cert.PoolReferenceIdeal.τ) (Cert.PoolReferenceIdeal.main (F := Ideal))) ⟨m', fun _ => 0, g'⟩ (fun r => ∀ c : Dev Cert.PoolReferenceIdeal.nD,
          r.2.mem ((c.tc : Thread Cert.PoolReferenceIdeal.nD Cert.PoolReferenceIdeal.τ).loc Cert.PoolReferenceIdeal.main_v76) = v0 c
          ∧ r.2.mem ((c.tc : Thread Cert.PoolReferenceIdeal.nD Cert.PoolReferenceIdeal.τ).loc Cert.PoolReferenceIdeal.main_v79) = v1 c
          ∧ r.2.mem ((c.tc : Thread Cert.PoolReferenceIdeal.nD Cert.PoolReferenceIdeal.τ).loc Cert.PoolReferenceIdeal.main_arg0) = m' ((c.tc : Thread Cert.PoolReferenceIdeal.nD Cert.PoolReferenceIdeal.τ).loc Cert.PoolReferenceIdeal.main_arg0)
          ∧ r.2.mem ((c.tc : Thread Cert.PoolReferenceIdeal.nD Cert.PoolReferenceIdeal.τ).loc Cert.PoolReferenceIdeal.main_arg1) = m' ((c.tc : Thread Cert.PoolReferenceIdeal.nD Cert.PoolReferenceIdeal.τ).loc Cert.PoolReferenceIdeal.main_arg1)
          ∧ r.2.mem ((c.tc : Thread Cert.PoolReferenceIdeal.nD Cert.PoolReferenceIdeal.τ).loc Cert.PoolReferenceIdeal.main_arg2) = m' ((c.tc : Thread Cert.PoolReferenceIdeal.nD Cert.PoolReferenceIdeal.τ).loc Cert.PoolReferenceIdeal.main_arg2)
          ∧ r.2.mem ((c.tc : Thread Cert.PoolReferenceIdeal.nD Cert.PoolReferenceIdeal.τ).loc Cert.PoolReferenceIdeal.main_arg3) = m' ((c.tc : Thread Cert.PoolReferenceIdeal.nD Cert.PoolReferenceIdeal.τ).loc Cert.PoolReferenceIdeal.main_arg3)
          ∧ r.2.mem ((c.tc : Thread Cert.PoolReferenceIdeal.nD Cert.PoolReferenceIdeal.τ).loc Cert.PoolReferenceIdeal.main_arg4) = m' ((c.tc : Thread Cert.PoolReferenceIdeal.nD Cert.PoolReferenceIdeal.τ).loc Cert.PoolReferenceIdeal.main_arg4))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hEvenProj : Cert.EvenProj.Facts) (hEvenProjIdeal : Cert.EvenProjIdeal.Facts) (hEvenProjReferenceIdeal : Cert.EvenProjReferenceIdeal.Facts) (hOddProj : Cert.OddProj.Facts) (hOddProjIdeal : Cert.OddProjIdeal.Facts) (hOddProjReferenceIdeal : Cert.OddProjReferenceIdeal.Facts) (hRouter : Cert.Router.Facts) (hRouterIdeal : Cert.RouterIdeal.Facts) (hRouterReferenceIdeal : Cert.RouterReferenceIdeal.Facts) (hStick : Cert.Stick.Facts) (hStickIdeal : Cert.StickIdeal.Facts) (hStickReferenceIdeal : Cert.StickReferenceIdeal.Facts) (hConv : Cert.Conv.Facts) (hConvIdeal : Cert.ConvIdeal.Facts) (hConvReferenceIdeal : Cert.ConvReferenceIdeal.Facts) (hPool : Cert.Pool.Facts) (hPoolIdeal : Cert.PoolIdeal.Facts) (hPoolReferenceIdeal : Cert.PoolReferenceIdeal.Facts) (hPre_finite : Cert.Pre_finite.Facts) (hPre_finite5 : Cert.Pre_finite5.Facts) (hPre_bounded6 : Cert.Pre_bounded6.Facts) (hPre_finite8 : Cert.Pre_finite8.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnReferenceIdeal (hFfnReferenceIdeal := hFfnReferenceIdeal)
    ∧ quiescent_EvenProj (hEvenProj := hEvenProj)
    ∧ quiescent_EvenProjIdeal (hEvenProjIdeal := hEvenProjIdeal)
    ∧ quiescent_EvenProjReferenceIdeal (hEvenProjReferenceIdeal := hEvenProjReferenceIdeal)
    ∧ quiescent_OddProj (hOddProj := hOddProj)
    ∧ quiescent_OddProjIdeal (hOddProjIdeal := hOddProjIdeal)
    ∧ quiescent_OddProjReferenceIdeal (hOddProjReferenceIdeal := hOddProjReferenceIdeal)
    ∧ quiescent_Router (hRouter := hRouter)
    ∧ quiescent_RouterIdeal (hRouterIdeal := hRouterIdeal)
    ∧ quiescent_RouterIdeal_pre_finite5 (hRouterIdeal := hRouterIdeal) (hPre_finite5 := hPre_finite5)
    ∧ quiescent_RouterReferenceIdeal (hRouterReferenceIdeal := hRouterReferenceIdeal)
    ∧ quiescent_RouterReferenceIdeal_pre_finite5 (hRouterReferenceIdeal := hRouterReferenceIdeal) (hPre_finite5 := hPre_finite5)
    ∧ quiescent_Stick (hStick := hStick)
    ∧ quiescent_StickIdeal (hStickIdeal := hStickIdeal)
    ∧ quiescent_StickIdeal_pre_bounded6 (hStickIdeal := hStickIdeal) (hPre_bounded6 := hPre_bounded6)
    ∧ quiescent_StickReferenceIdeal (hStickReferenceIdeal := hStickReferenceIdeal)
    ∧ quiescent_StickReferenceIdeal_pre_bounded6 (hStickReferenceIdeal := hStickReferenceIdeal) (hPre_bounded6 := hPre_bounded6)
    ∧ quiescent_Conv (hConv := hConv)
    ∧ quiescent_ConvIdeal (hConvIdeal := hConvIdeal)
    ∧ quiescent_ConvReferenceIdeal (hConvReferenceIdeal := hConvReferenceIdeal)
    ∧ quiescent_Pool (hPool := hPool)
    ∧ quiescent_PoolIdeal (hPoolIdeal := hPoolIdeal)
    ∧ quiescent_PoolIdeal_pre_finite8 (hPoolIdeal := hPoolIdeal) (hPre_finite8 := hPre_finite8)
    ∧ quiescent_PoolReferenceIdeal (hPoolReferenceIdeal := hPoolReferenceIdeal)
    ∧ quiescent_PoolReferenceIdeal_pre_finite8 (hPoolReferenceIdeal := hPoolReferenceIdeal) (hPre_finite8 := hPre_finite8)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal (hFfnIdeal := hFfnIdeal) (hFfnReferenceIdeal := hFfnReferenceIdeal)
    ∧ preserves_EvenProj_EvenProjIdeal
    ∧ algebraic_EvenProjIdeal_EvenProjReferenceIdeal (hEvenProjIdeal := hEvenProjIdeal) (hEvenProjReferenceIdeal := hEvenProjReferenceIdeal)
    ∧ preserves_OddProj_OddProjIdeal
    ∧ algebraic_OddProjIdeal_OddProjReferenceIdeal (hOddProjIdeal := hOddProjIdeal) (hOddProjReferenceIdeal := hOddProjReferenceIdeal)
    ∧ preserves_Router_RouterIdeal
    ∧ algebraic_RouterIdeal_RouterReferenceIdeal_pre_finite5 (hRouterIdeal := hRouterIdeal) (hRouterReferenceIdeal := hRouterReferenceIdeal) (hPre_finite5 := hPre_finite5)
    ∧ preserves_Stick_StickIdeal
    ∧ algebraic_StickIdeal_StickReferenceIdeal_pre_bounded6 (hStickIdeal := hStickIdeal) (hStickReferenceIdeal := hStickReferenceIdeal) (hPre_bounded6 := hPre_bounded6)
    ∧ preserves_Conv_ConvIdeal
    ∧ algebraic_ConvIdeal_ConvReferenceIdeal (hConvIdeal := hConvIdeal) (hConvReferenceIdeal := hConvReferenceIdeal)
    ∧ preserves_Pool_PoolIdeal
    ∧ algebraic_PoolIdeal_PoolReferenceIdeal_pre_finite8 (hPoolIdeal := hPoolIdeal) (hPoolReferenceIdeal := hPoolReferenceIdeal) (hPre_finite8 := hPre_finite8)
-- ==== Pre_bounded6.lean ====
abbrev S4x4096x512 : Shape := ⟨3, ![4, 4096, 512]⟩
abbrev S4x4096x8x64 : Shape := ⟨4, ![4, 4096, 8, 64]⟩
abbrev S4x8x4096x64 : Shape := ⟨4, ![4, 8, 4096, 64]⟩
abbrev S4x8x4096x4096 : Shape := ⟨4, ![4, 8, 4096, 4096]⟩
abbrev S_ : Shape := ⟨0, ![]⟩

class Facts : Prop where
  shapeCasts_S4x4096x512_S4x4096x8x64 : S4x4096x512.ShapeCasts S4x4096x8x64
  transposes_S4x4096x8x64_S4x8x4096x64_0_2_1_3 : S4x4096x8x64.Transposes [0, 2, 1, 3] S4x8x4096x64
  bcast_S_S4x8x4096x4096 : S_.BroadcastsInDim S4x8x4096x4096 (![] : Fin 0 → Fin S4x8x4096x4096.rank)
  bcast_S_S4x4096x512 : S_.BroadcastsInDim S4x4096x512 (![] : Fin 0 → Fin S4x4096x512.rank)
  reducesTo_S4x4096x512_S_d0_1_2 : S4x4096x512.ReducesTo [0, 1, 2] S_
  h_S_ : 0 < S_.numel
  reducesTo_S4x8x4096x4096_S_d0_1_2_3 : S4x8x4096x4096.ReducesTo [0, 1, 2, 3] S_
  dot_S4x8x4096x64_S4x8x4096x64_S4x8x4096x4096_3_3_2_2_01_01_wf : DotDims.WF S4x8x4096x64 S4x8x4096x64 S4x8x4096x4096 [3] [3] [2] [2] [0, 1] [0, 1]

variable [Facts]

def dot_S4x8x4096x64_S4x8x4096x64_S4x8x4096x4096_3_3_2_2_01_01 : DotDims S4x8x4096x64 S4x8x4096x64 S4x8x4096x4096 where
  lhsContracting := [3]
  rhsContracting := [3]
  lhsNonContracting := [2]
  rhsNonContracting := [2]
  lhsBatch := [0, 1]
  rhsBatch := [0, 1]
  wf := dot_S4x8x4096x64_S4x8x4096x64_S4x8x4096x4096_3_3_2_2_01_01_wf
def fn_part1 {F : FTy → Type} [FloatOps F] (main_v15 : IVec S_ 1) (main_v17 : IVec S4x8x4096x4096 1) : IVec S_ 1 :=
  let main_c_4 : IVec S_ 1 := constantI S_ 1 1#1
  let main_v18 : IVec S_ 1 := (fun x v => Host.reduce IntOp.andi x v reducesTo_S4x8x4096x4096_S_d0_1_2_3 h_S_) main_v17 main_c_4
  let main_v19 : IVec S_ 1 := andi main_v15 main_v18
  main_v19

def fn {F : FTy → Type} [FloatOps F] (main_arg0 : FVec F S4x4096x512 .f32) (main_arg1 : FVec F S4x4096x512 .f32) (main_arg2 : FVec F S4x4096x512 .f32) : IVec S_ 1 :=
  let main_v0 : FVec F S4x4096x8x64 .f32 := shapeCast S4x4096x8x64 main_arg0 shapeCasts_S4x4096x512_S4x4096x8x64
  let main_v1 : FVec F S4x8x4096x64 .f32 := (transpose S4x8x4096x64 [0, 2, 1, 3] · transposes_S4x4096x8x64_S4x8x4096x64_0_2_1_3) main_v0
  let main_v2 : FVec F S4x4096x8x64 .f32 := shapeCast S4x4096x8x64 main_arg1 shapeCasts_S4x4096x512_S4x4096x8x64
  let main_v3 : FVec F S4x8x4096x64 .f32 := (transpose S4x8x4096x64 [0, 2, 1, 3] · transposes_S4x4096x8x64_S4x8x4096x64_0_2_1_3) main_v2
  let main_v4 : FVec F S4x8x4096x4096 .f32 := (fun l r => Host.dotGeneral dot_S4x8x4096x64_S4x8x4096x64_S4x8x4096x4096_3_3_2_2_01_01 none l r) main_v1 main_v3
  let main_cst : FVec F S_ .f32 := constant S_ .f32 0x3E000000#32
  let main_v5 : FVec F S4x8x4096x4096 .f32 := broadcastInDim S4x8x4096x4096 ![] bcast_S_S4x8x4096x4096 main_cst
  let main_v6 : FVec F S4x8x4096x4096 .f32 := mulf main_v4 main_v5
  let main_v7 : FVec F S4x4096x512 .f32 := Host.absf main_arg0
  let main_cst_0 : FVec F S_ .f32 := constant S_ .f32 0x7F800000#32
  let main_v8 : FVec F S4x4096x512 .f32 := broadcastInDim S4x4096x512 ![] bcast_S_S4x4096x512 main_cst_0
  let main_v9 : IVec S4x4096x512 1 := cmpf .olt main_v7 main_v8
  let main_c : IVec S_ 1 := constantI S_ 1 1#1
  let main_v10 : IVec S_ 1 := (fun x v => Host.reduce IntOp.andi x v reducesTo_S4x4096x512_S_d0_1_2 h_S_) main_v9 main_c
  let main_v11 : FVec F S4x4096x512 .f32 := Host.absf main_arg1
  let main_cst_1 : FVec F S_ .f32 := constant S_ .f32 0x7F800000#32
  let main_v12 : FVec F S4x4096x512 .f32 := broadcastInDim S4x4096x512 ![] bcast_S_S4x4096x512 main_cst_1
  let main_v13 : IVec S4x4096x512 1 := cmpf .olt main_v11 main_v12
  let main_c_2 : IVec S_ 1 := constantI S_ 1 1#1
  let main_v14 : IVec S_ 1 := (fun x v => Host.reduce IntOp.andi x v reducesTo_S4x4096x512_S_d0_1_2 h_S_) main_v13 main_c_2
  let main_v15 : IVec S_ 1 := andi main_v10 main_v14
  let main_cst_3 : FVec F S_ .f32 := constant S_ .f32 0x42300000#32
  let main_v16 : FVec F S4x8x4096x4096 .f32 := broadcastInDim S4x8x4096x4096 ![] bcast_S_S4x8x4096x4096 main_cst_3
  let main_v17 : IVec S4x8x4096x4096 1 := cmpf .olt main_v6 main_v16
  fn_part1 (F := F) main_v15 main_v17
-- ==== Pre_finite.lean ====
abbrev S4x4096x768 : Shape := ⟨3, ![4, 4096, 768]⟩
abbrev S4x4096x12 : Shape := ⟨3, ![4, 4096, 12]⟩
abbrev S_ : Shape := ⟨0, ![]⟩

class Facts : Prop where
  bcast_S_S4x4096x768 : S_.BroadcastsInDim S4x4096x768 (![] : Fin 0 → Fin S4x4096x768.rank)
  reducesTo_S4x4096x768_S_d0_1_2 : S4x4096x768.ReducesTo [0, 1, 2] S_
  h_S_ : 0 < S_.numel
  bcast_S_S4x4096x12 : S_.BroadcastsInDim S4x4096x12 (![] : Fin 0 → Fin S4x4096x12.rank)
  reducesTo_S4x4096x12_S_d0_1_2 : S4x4096x12.ReducesTo [0, 1, 2] S_

variable [Facts]

def fn {F : FTy → Type} [FloatOps F] (main_arg0 : FVec F S4x4096x768 .f32) (main_arg1 : FVec F S4x4096x768 .f32) (main_arg2 : FVec F S4x4096x768 .f32) (main_arg3 : FVec F S4x4096x12 .f32) : IVec S_ 1 :=
  let main_v0 : FVec F S4x4096x768 .f32 := Host.absf main_arg0
  let main_cst : FVec F S_ .f32 := constant S_ .f32 0x7F800000#32
  let main_v1 : FVec F S4x4096x768 .f32 := broadcastInDim S4x4096x768 ![] bcast_S_S4x4096x768 main_cst
  let main_v2 : IVec S4x4096x768 1 := cmpf .olt main_v0 main_v1
  let main_c : IVec S_ 1 := constantI S_ 1 1#1
  let main_v3 : IVec S_ 1 := (fun x v => Host.reduce IntOp.andi x v reducesTo_S4x4096x768_S_d0_1_2 h_S_) main_v2 main_c
  let main_v4 : FVec F S4x4096x768 .f32 := Host.absf main_arg1
  let main_cst_0 : FVec F S_ .f32 := constant S_ .f32 0x7F800000#32
  let main_v5 : FVec F S4x4096x768 .f32 := broadcastInDim S4x4096x768 ![] bcast_S_S4x4096x768 main_cst_0
  let main_v6 : IVec S4x4096x768 1 := cmpf .olt main_v4 main_v5
  let main_c_1 : IVec S_ 1 := constantI S_ 1 1#1
  let main_v7 : IVec S_ 1 := (fun x v => Host.reduce IntOp.andi x v reducesTo_S4x4096x768_S_d0_1_2 h_S_) main_v6 main_c_1
  let main_v8 : IVec S_ 1 := andi main_v3 main_v7
  let main_v9 : FVec F S4x4096x12 .f32 := Host.absf main_arg3
  let main_cst_2 : FVec F S_ .f32 := constant S_ .f32 0x7F800000#32
  let main_v10 : FVec F S4x4096x12 .f32 := broadcastInDim S4x4096x12 ![] bcast_S_S4x4096x12 main_cst_2
  let main_v11 : IVec S4x4096x12 1 := cmpf .olt main_v9 main_v10
  let main_c_3 : IVec S_ 1 := constantI S_ 1 1#1
  let main_v12 : IVec S_ 1 := (fun x v => Host.reduce IntOp.andi x v reducesTo_S4x4096x12_S_d0_1_2 h_S_) main_v11 main_c_3
  let main_v13 : IVec S_ 1 := andi main_v8 main_v12
  main_v13
-- ==== Pre_finite5.lean ====
abbrev S4x4096x1024 : Shape := ⟨3, ![4, 4096, 1024]⟩
abbrev S4x4096x512 : Shape := ⟨3, ![4, 4096, 512]⟩
abbrev S1024x1024 : Shape := ⟨2, ![1024, 1024]⟩
abbrev S1024 : Shape := ⟨1, ![1024]⟩
abbrev S1024x8 : Shape := ⟨2, ![1024, 8]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bitsLt_bf16_f32 : FTy.bits .bf16 < FTy.bits .f32
  bcast_S_S4x4096x512 : S_.BroadcastsInDim S4x4096x512 (![] : Fin 0 → Fin S4x4096x512.rank)
  reducesTo_S4x4096x512_S_d0_1_2 : S4x4096x512.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x8 : S_.BroadcastsInDim S1024x8 (![] : Fin 0 → Fin S1024x8.rank)
  reducesTo_S1024x8_S_d0_1 : S1024x8.ReducesTo [0, 1] S_

variable [Facts]

def fn_part1 {F : FTy → Type} [FloatOps F] (main_arg4 : FVec F S1024 .f32) (main_arg5 : FVec F S1024x8 .f32) (main_v15 : IVec S_ 1) (main_v16 : FVec F S1024x1024 .f32) (main_cst_4 : FVec F S_ .f32) : IVec S_ 1 :=
  let main_v17 : FVec F S1024x1024 .f32 := broadcastInDim S1024x1024 ![] bcast_S_S1024x1024 main_cst_4
  let main_v18 : IVec S1024x1024 1 := cmpf .olt main_v16 main_v17
  let main_c_5 : IVec S_ 1 := constantI S_ 1 1#1
  let main_v19 : IVec S_ 1 := (fun x v => Host.reduce IntOp.andi x v reducesTo_S1024x1024_S_d0_1 h_S_) main_v18 main_c_5
  let main_v20 : IVec S_ 1 := andi main_v15 main_v19
  let main_v21 : FVec F S1024 .f32 := Host.absf main_arg4
  let main_cst_6 : FVec F S_ .f32 := constant S_ .f32 0x7F800000#32
  let main_v22 : FVec F S1024 .f32 := broadcastInDim S1024 ![] bcast_S_S1024 main_cst_6
  let main_v23 : IVec S1024 1 := cmpf .olt main_v21 main_v22
  let main_c_7 : IVec S_ 1 := constantI S_ 1 1#1
  let main_v24 : IVec S_ 1 := (fun x v => Host.reduce IntOp.andi x v reducesTo_S1024_S_d0 h_S_) main_v23 main_c_7
  let main_v25 : IVec S_ 1 := andi main_v20 main_v24
  let main_v26 : FVec F S1024x8 .f32 := Host.absf main_arg5
  let main_cst_8 : FVec F S_ .f32 := constant S_ .f32 0x7F800000#32
  let main_v27 : FVec F S1024x8 .f32 := broadcastInDim S1024x8 ![] bcast_S_S1024x8 main_cst_8
  let main_v28 : IVec S1024x8 1 := cmpf .olt main_v26 main_v27
  let main_c_9 : IVec S_ 1 := constantI S_ 1 1#1
  let main_v29 : IVec S_ 1 := (fun x v => Host.reduce IntOp.andi x v reducesTo_S1024x8_S_d0_1 h_S_) main_v28 main_c_9
  let main_v30 : IVec S_ 1 := andi main_v25 main_v29
  main_v30

def fn {F : FTy → Type} [FloatOps F] (main_arg0 : FVec F S4x4096x1024 .f32) (main_arg1 : FVec F S4x4096x512 .bf16) (main_arg2 : FVec F S4x4096x512 .bf16) (main_arg3 : FVec F S1024x1024 .f32) (main_arg4 : FVec F S1024 .f32) (main_arg5 : FVec F S1024x8 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4x4096x512 .f32 := (extf .f32 · bitsLt_bf16_f32) main_arg1
  let main_v5 : FVec F S4x4096x512 .f32 := Host.absf main_v4
  let main_cst_0 : FVec F S_ .f32 := constant S_ .f32 0x7F800000#32
  let main_v6 : FVec F S4x4096x512 .f32 := broadcastInDim S4x4096x512 ![] bcast_S_S4x4096x512 main_cst_0
  let main_v7 : IVec S4x4096x512 1 := cmpf .olt main_v5 main_v6
  let main_c_1 : IVec S_ 1 := constantI S_ 1 1#1
  let main_v8 : IVec S_ 1 := (fun x v => Host.reduce IntOp.andi x v reducesTo_S4x4096x512_S_d0_1_2 h_S_) main_v7 main_c_1
  let main_v9 : IVec S_ 1 := andi main_v3 main_v8
  let main_v10 : FVec F S4x4096x512 .f32 := (extf .f32 · bitsLt_bf16_f32) main_arg2
  let main_v11 : FVec F S4x4096x512 .f32 := Host.absf main_v10
  let main_cst_2 : FVec F S_ .f32 := constant S_ .f32 0x7F800000#32
  let main_v12 : FVec F S4x4096x512 .f32 := broadcastInDim S4x4096x512 ![] bcast_S_S4x4096x512 main_cst_2
  let main_v13 : IVec S4x4096x512 1 := cmpf .olt main_v11 main_v12
  let main_c_3 : IVec S_ 1 := constantI S_ 1 1#1
  let main_v14 : IVec S_ 1 := (fun x v => Host.reduce IntOp.andi x v reducesTo_S4x4096x512_S_d0_1_2 h_S_) main_v13 main_c_3
  let main_v15 : IVec S_ 1 := andi main_v9 main_v14
  let main_v16 : FVec F S1024x1024 .f32 := Host.absf main_arg3
  let main_cst_4 : FVec F S_ .f32 := constant S_ .f32 0x7F800000#32
  fn_part1 (F := F) main_arg4 main_arg5 main_v15 main_v16 main_cst_4
-- ==== Pre_finite8.lean ====
abbrev S4x4096x256 : Shape := ⟨3, ![4, 4096, 256]⟩
abbrev S4x4096x128 : Shape := ⟨3, ![4, 4096, 128]⟩
abbrev S12 : Shape := ⟨1, ![12]⟩
abbrev S4x64x64 : Shape := ⟨3, ![4, 64, 64]⟩
abbrev S256 : Shape := ⟨1, ![256]⟩
abbrev S_ : Shape := ⟨0, ![]⟩

class Facts : Prop where
  bcast_S_S4x4096x256 : S_.BroadcastsInDim S4x4096x256 (![] : Fin 0 → Fin S4x4096x256.rank)
  reducesTo_S4x4096x256_S_d0_1_2 : S4x4096x256.ReducesTo [0, 1, 2] S_
  h_S_ : 0 < S_.numel

variable [Facts]

def fn {F : FTy → Type} [FloatOps F] (main_arg0 : FVec F S4x4096x256 .f32) (main_arg1 : FVec F S4x4096x128 .f32) (main_arg2 : FVec F S12 .f32) (main_arg3 : FVec F S4x64x64 .f32) (main_arg4 : FVec F S256 .f32) : IVec S_ 1 :=
  let main_v0 : FVec F S4x4096x256 .f32 := Host.absf main_arg0
  let main_cst : FVec F S_ .f32 := constant S_ .f32 0x7F800000#32
  let main_v1 : FVec F S4x4096x256 .f32 := broadcastInDim S4x4096x256 ![] bcast_S_S4x4096x256 main_cst
  let main_v2 : IVec S4x4096x256 1 := cmpf .olt main_v0 main_v1
  let main_c : IVec S_ 1 := constantI S_ 1 1#1
  let main_v3 : IVec S_ 1 := (fun x v => Host.reduce IntOp.andi x v reducesTo_S4x4096x256_S_d0_1_2 h_S_) main_v2 main_c
  main_v3
-- ==== Kernel.lean ====
abbrev S4x4096x768 : Shape := ⟨3, ![4, 4096, 768]⟩
abbrev S4x4096x12 : Shape := ⟨3, ![4, 4096, 12]⟩
abbrev S_ : Shape := ⟨0, ![]⟩
abbrev S4x4096x2304 : Shape := ⟨3, ![4, 4096, 2304]⟩
abbrev S4x8x512x6x2 : Shape := ⟨5, ![4, 8, 512, 6, 2]⟩
abbrev S4x6x8x2x512 : Shape := ⟨5, ![4, 6, 8, 2, 512]⟩
abbrev S1x512x128 : Shape := ⟨3, ![1, 512, 128]⟩
abbrev S1x4096x128 : Shape := ⟨3, ![1, 4096, 128]⟩
abbrev S1x1x8x2x512 : Shape := ⟨5, ![1, 1, 8, 2, 512]⟩
abbrev S1x128 : Shape := ⟨2, ![1, 128]⟩
abbrev S512x128 : Shape := ⟨2, ![512, 128]⟩
abbrev S512x512 : Shape := ⟨2, ![512, 512]⟩
abbrev S512x1 : Shape := ⟨2, ![512, 1]⟩
abbrev S1x1x1x2x512 : Shape := ⟨5, ![1, 1, 1, 2, 512]⟩
abbrev S2x512 : Shape := ⟨2, ![2, 512]⟩
abbrev S1x512 : Shape := ⟨2, ![1, 512]⟩
abbrev S512 : Shape := ⟨1, ![512]⟩

abbrev nBuf : Space → Nat
  | .hbm => 19
  | .vmem => 10
  | .smem => 0
  | _ => 0

abbrev bufTy : (tb : Table) → Fin (tcTables nBuf tb) → BufTy
  | .hbm, ⟨0, _⟩ => ⟨S4x4096x768, .f32⟩
  | .hbm, ⟨1, _⟩ => ⟨S4x4096x768, .f32⟩
  | .hbm, ⟨2, _⟩ => ⟨S4x4096x768, .f32⟩
  | .hbm, ⟨3, _⟩ => ⟨S4x4096x12, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4x4096x768, .f32⟩
  | .hbm, ⟨11, _⟩ => ⟨S4x4096x768, .f32⟩
  | .hbm, ⟨12, _⟩ => ⟨S4x4096x2304, .f32⟩
  | .hbm, ⟨13, _⟩ => ⟨S4x4096x2304, .bf16⟩
  | .hbm, ⟨14, _⟩ => ⟨S4x4096x12, .f32⟩
  | .hbm, ⟨15, _⟩ => ⟨S4x4096x12, .f32⟩
  | .hbm, ⟨16, _⟩ => ⟨S4x8x512x6x2, .f32⟩
  | .hbm, ⟨17, _⟩ => ⟨S4x6x8x2x512, .f32⟩
  | .hbm, ⟨18, _⟩ => ⟨S4x4096x768, .bf16⟩
  | .local _ .vmem, ⟨0, _⟩ => ⟨S1x512x128, .bf16⟩
  | .local _ .vmem, ⟨1, _⟩ => ⟨S1x512x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x1x8x2x512, .f32⟩
  | .local _ .vmem, ⟨7, _⟩ => ⟨S1x1x8x2x512, .f32⟩
  | .local _ .vmem, ⟨8, _⟩ => ⟨S1x512x128, .bf16⟩
  | .local _ .vmem, ⟨9, _⟩ => ⟨S1x512x128, .bf16⟩
  | _, _ => ⟨S4x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 6, 8], ![false, false, false]⟩

@[reducible] def k0_t1_loop (i : grid0.Coords) : Scf.Loop 32 :=
  let c0_i32_9 : BitVec 32 := 0#32
  let arg2 : BitVec 32 := BitVec.ofNat 32 (i 2).val
  let c0_i32 : BitVec 32 := 0#32
  let v18 : BitVec 1 := Scalar.cmpi .sgt arg2 c0_i32
  let v19 : BitVec 32 := Scalar.extui v18
  let c0_i32_5 : BitVec 32 := 0#32
  let v20 : BitVec 1 := Scalar.cmpi .slt arg2 c0_i32_5
  let v21 : BitVec 32 := Scalar.extui v20
  let v22 : BitVec 32 := Scalar.subi v19 v21
  let c4_i32 : BitVec 32 := 4#32
  let c0_i32_6 : BitVec 32 := 0#32
  let v23 : BitVec 1 := Scalar.cmpi .sgt c4_i32 c0_i32_6
  let v24 : BitVec 32 := Scalar.extui v23
  let c0_i32_7 : BitVec 32 := 0#32
  let v25 : BitVec 1 := Scalar.cmpi .slt c4_i32 c0_i32_7
  let v26 : BitVec 32 := Scalar.extui v25
  let v27 : BitVec 32 := Scalar.subi v24 v26
  let v28 : BitVec 1 := Scalar.cmpi .ne v22 v27
  let v29 : BitVec 32 := Scalar.remsi arg2 c4_i32
  let c0_i32_8 : BitVec 32 := 0#32
  let v30 : BitVec 1 := Scalar.cmpi .ne v29 c0_i32_8
  let v31 : BitVec 1 := Scalar.andi v28 v30
  let v17 : BitVec 32 := Scalar.divsi arg2 c4_i32
  let c1_i32 : BitVec 32 := 1#32
  let v32 : BitVec 32 := Scalar.subi v17 c1_i32
  let v33 : BitVec 32 := Scalar.select v31 v32 v17
  let v34 : BitVec 32 := Scalar.subi v33 c0_i32_9
  let c1_i32_10 : BitVec 32 := 1#32
  let v36 : BitVec 32 := Scalar.divsi v34 c1_i32_10
  let v37 : BitVec 32 := Scalar.muli v36 c1_i32_10
  let v38 : BitVec 32 := Scalar.addi c0_i32_9 v37
  let c1_i32_11 : BitVec 32 := 1#32
  ⟨c0_i32_9, v38, c1_i32_11⟩
def k0_mult1 (i : grid0.Coords) (k0_t1 : Fin (k0_t1_loop i).trips) : BitVec 32 :=
  let c4_i32_19 : BitVec 32 := 4#32
  let c0_i32_9 : BitVec 32 := 0#32
  let c1_i32_11 : BitVec 32 := 1#32
  let arg8 : BitVec 32 := Scf.iv c0_i32_9 c1_i32_11 k0_t1
  let v60 : BitVec 32 := Scalar.muli c4_i32_19 arg8
  let c0_i32_20 : BitVec 32 := 0#32
  let v61 : BitVec 32 := Scalar.addi v60 c0_i32_20
  let c512_i32 : BitVec 32 := 512#32
  let v62 : BitVec 32 := Scalar.muli v61 c512_i32
  v62
def k0_off1 (i : grid0.Coords) (k0_t1 : Fin (k0_t1_loop i).trips) (c0_i32_20 : BitVec 32) : Fin 3 → Nat :=
  let c0_21 : Index := 0#32
  let c4_i32_19 : BitVec 32 := 4#32
  let c0_i32_9 : BitVec 32 := 0#32
  let c1_i32_11 : BitVec 32 := 1#32
  let arg8 : BitVec 32 := Scf.iv c0_i32_9 c1_i32_11 k0_t1
  let v60 : BitVec 32 := Scalar.muli c4_i32_19 arg8
  let v61 : BitVec 32 := Scalar.addi v60 c0_i32_20
  let c512_i32 : BitVec 32 := 512#32
  let v62 : BitVec 32 := Scalar.muli v61 c512_i32
  let v63 : BitVec 32 := v62
  let v64 : Index := Scalar.indexCast v63
  let c0_22 : Index := 0#32
  ![0, v64.toNat, 0]
def k0_off2 (i : grid0.Coords) (k0_t1 : Fin (k0_t1_loop i).trips) (c0_i32_20 : BitVec 32) : Fin 5 → Nat :=
  let c0_26 : Index := 0#32
  let c0_27 : Index := 0#32
  let c4_i32_19 : BitVec 32 := 4#32
  let c0_i32_9 : BitVec 32 := 0#32
  let c1_i32_11 : BitVec 32 := 1#32
  let arg8 : BitVec 32 := Scf.iv c0_i32_9 c1_i32_11 k0_t1
  let v60 : BitVec 32 := Scalar.muli c4_i32_19 arg8
  let v61 : BitVec 32 := Scalar.addi v60 c0_i32_20
  let v77 : Index := Scalar.indexCast v61
  let c0_28 : Index := 0#32
  let c0_29 : Index := 0#32
  ![0, 0, v77.toNat, 0, 0]
def k0_mult2 (i : grid0.Coords) (k0_t1 : Fin (k0_t1_loop i).trips) : BitVec 32 :=
  let c4_i32_19 : BitVec 32 := 4#32
  let c0_i32_9 : BitVec 32 := 0#32
  let c1_i32_11 : BitVec 32 := 1#32
  let arg8 : BitVec 32 := Scf.iv c0_i32_9 c1_i32_11 k0_t1
  let v60 : BitVec 32 := Scalar.muli c4_i32_19 arg8
  let c1_i32_36 : BitVec 32 := 1#32
  let v114 : BitVec 32 := Scalar.addi v60 c1_i32_36
  let c512_i32_37 : BitVec 32 := 512#32
  let v115 : BitVec 32 := Scalar.muli v114 c512_i32_37
  v115
def k0_mult3 (i : grid0.Coords) (k0_t1 : Fin (k0_t1_loop i).trips) : BitVec 32 :=
  let c4_i32_19 : BitVec 32 := 4#32
  let c0_i32_9 : BitVec 32 := 0#32
  let c1_i32_11 : BitVec 32 := 1#32
  let arg8 : BitVec 32 := Scf.iv c0_i32_9 c1_i32_11 k0_t1
  let v60 : BitVec 32 := Scalar.muli c4_i32_19 arg8
  let c2_i32 : BitVec 32 := 2#32
  let v167 : BitVec 32 := Scalar.addi v60 c2_i32
  let c512_i32_53 : BitVec 32 := 512#32
  let v168 : BitVec 32 := Scalar.muli v167 c512_i32_53
  v168
def k0_mult4 (i : grid0.Coords) (k0_t1 : Fin (k0_t1_loop i).trips) : BitVec 32 :=
  let c4_i32_19 : BitVec 32 := 4#32
  let c0_i32_9 : BitVec 32 := 0#32
  let c1_i32_11 : BitVec 32 := 1#32
  let arg8 : BitVec 32 := Scf.iv c0_i32_9 c1_i32_11 k0_t1
  let v60 : BitVec 32 := Scalar.muli c4_i32_19 arg8
  let c3_i32_69 : BitVec 32 := 3#32
  let v220 : BitVec 32 := Scalar.addi v60 c3_i32_69
  let c512_i32_70 : BitVec 32 := 512#32
  let v221 : BitVec 32 := Scalar.muli v220 c512_i32_70
  v221
@[reducible] def k0_t2_loop (i : grid0.Coords) : Scf.Loop 32 :=
  let c0_i32_9 : BitVec 32 := 0#32
  let arg2 : BitVec 32 := BitVec.ofNat 32 (i 2).val
  let c0_i32 : BitVec 32 := 0#32
  let v18 : BitVec 1 := Scalar.cmpi .sgt arg2 c0_i32
  let v19 : BitVec 32 := Scalar.extui v18
  let c0_i32_5 : BitVec 32 := 0#32
  let v20 : BitVec 1 := Scalar.cmpi .slt arg2 c0_i32_5
  let v21 : BitVec 32 := Scalar.extui v20
  let v22 : BitVec 32 := Scalar.subi v19 v21
  let c4_i32 : BitVec 32 := 4#32
  let c0_i32_6 : BitVec 32 := 0#32
  let v23 : BitVec 1 := Scalar.cmpi .sgt c4_i32 c0_i32_6
  let v24 : BitVec 32 := Scalar.extui v23
  let c0_i32_7 : BitVec 32 := 0#32
  let v25 : BitVec 1 := Scalar.cmpi .slt c4_i32 c0_i32_7
  let v26 : BitVec 32 := Scalar.extui v25
  let v27 : BitVec 32 := Scalar.subi v24 v26
  let v28 : BitVec 1 := Scalar.cmpi .ne v22 v27
  let v29 : BitVec 32 := Scalar.remsi arg2 c4_i32
  let c0_i32_8 : BitVec 32 := 0#32
  let v30 : BitVec 1 := Scalar.cmpi .ne v29 c0_i32_8
  let v31 : BitVec 1 := Scalar.andi v28 v30
  let v17 : BitVec 32 := Scalar.divsi arg2 c4_i32
  let c1_i32 : BitVec 32 := 1#32
  let v32 : BitVec 32 := Scalar.subi v17 c1_i32
  let v33 : BitVec 32 := Scalar.select v31 v32 v17
  let v34 : BitVec 32 := Scalar.subi v33 c0_i32_9
  let c1_i32_10 : BitVec 32 := 1#32
  let v36 : BitVec 32 := Scalar.divsi v34 c1_i32_10
  let v37 : BitVec 32 := Scalar.muli v36 c1_i32_10
  let v38 : BitVec 32 := Scalar.addi c0_i32_9 v37
  let v35 : BitVec 32 := Scalar.addi c0_i32_9 v34
  let c1_i32_12 : BitVec 32 := 1#32
  ⟨v38, v35, c1_i32_12⟩
def k0_mult5 (i : grid0.Coords) (k0_t2 : Fin (k0_t2_loop i).trips) : BitVec 32 :=
  let c4_i32_19 : BitVec 32 := 4#32
  let c0_i32_9 : BitVec 32 := 0#32
  let arg2 : BitVec 32 := BitVec.ofNat 32 (i 2).val
  let c0_i32 : BitVec 32 := 0#32
  let v18 : BitVec 1 := Scalar.cmpi .sgt arg2 c0_i32
  let v19 : BitVec 32 := Scalar.extui v18
  let c0_i32_5 : BitVec 32 := 0#32
  let v20 : BitVec 1 := Scalar.cmpi .slt arg2 c0_i32_5
  let v21 : BitVec 32 := Scalar.extui v20
  let v22 : BitVec 32 := Scalar.subi v19 v21
  let c4_i32 : BitVec 32 := 4#32
  let c0_i32_6 : BitVec 32 := 0#32
  let v23 : BitVec 1 := Scalar.cmpi .sgt c4_i32 c0_i32_6
  let v24 : BitVec 32 := Scalar.extui v23
  let c0_i32_7 : BitVec 32 := 0#32
  let v25 : BitVec 1 := Scalar.cmpi .slt c4_i32 c0_i32_7
  let v26 : BitVec 32 := Scalar.extui v25
  let v27 : BitVec 32 := Scalar.subi v24 v26
  let v28 : BitVec 1 := Scalar.cmpi .ne v22 v27
  let v29 : BitVec 32 := Scalar.remsi arg2 c4_i32
  let c0_i32_8 : BitVec 32 := 0#32
  let v30 : BitVec 1 := Scalar.cmpi .ne v29 c0_i32_8
  let v31 : BitVec 1 := Scalar.andi v28 v30
  let v17 : BitVec 32 := Scalar.divsi arg2 c4_i32
  let c1_i32 : BitVec 32 := 1#32
  let v32 : BitVec 32 := Scalar.subi v17 c1_i32
  let v33 : BitVec 32 := Scalar.select v31 v32 v17
  let v34 : BitVec 32 := Scalar.subi v33 c0_i32_9
  let c1_i32_10 : BitVec 32 := 1#32
  let v36 : BitVec 32 := Scalar.divsi v34 c1_i32_10
  let v37 : BitVec 32 := Scalar.muli v36 c1_i32_10
  let v38 : BitVec 32 := Scalar.addi c0_i32_9 v37
  let c1_i32_12 : BitVec 32 := 1#32
  let arg8 : BitVec 32 := Scf.iv v38 c1_i32_12 k0_t2
  let v60 : BitVec 32 := Scalar.muli c4_i32_19 arg8
  let c0_i32_20 : BitVec 32 := 0#32
  let v61 : BitVec 32 := Scalar.addi v60 c0_i32_20
  let c512_i32 : BitVec 32 := 512#32
  let v62 : BitVec 32 := Scalar.muli v61 c512_i32
  v62
def k0_off3 (i : grid0.Coords) (k0_t2 : Fin (k0_t2_loop i).trips) (c0_i32_20 : BitVec 32) : Fin 3 → Nat :=
  let c0_21 : Index := 0#32
  let c4_i32_19 : BitVec 32 := 4#32
  let c0_i32_9 : BitVec 32 := 0#32
  let arg2 : BitVec 32 := BitVec.ofNat 32 (i 2).val
  let c0_i32 : BitVec 32 := 0#32
  let v18 : BitVec 1 := Scalar.cmpi .sgt arg2 c0_i32
  let v19 : BitVec 32 := Scalar.extui v18
  let c0_i32_5 : BitVec 32 := 0#32
  let v20 : BitVec 1 := Scalar.cmpi .slt arg2 c0_i32_5
  let v21 : BitVec 32 := Scalar.extui v20
  let v22 : BitVec 32 := Scalar.subi v19 v21
  let c4_i32 : BitVec 32 := 4#32
  let c0_i32_6 : BitVec 32 := 0#32
  let v23 : BitVec 1 := Scalar.cmpi .sgt c4_i32 c0_i32_6
  let v24 : BitVec 32 := Scalar.extui v23
  let c0_i32_7 : BitVec 32 := 0#32
  let v25 : BitVec 1 := Scalar.cmpi .slt c4_i32 c0_i32_7
  let v26 : BitVec 32 := Scalar.extui v25
  let v27 : BitVec 32 := Scalar.subi v24 v26
  let v28 : BitVec 1 := Scalar.cmpi .ne v22 v27
  let v29 : BitVec 32 := Scalar.remsi arg2 c4_i32
  let c0_i32_8 : BitVec 32 := 0#32
  let v30 : BitVec 1 := Scalar.cmpi .ne v29 c0_i32_8
  let v31 : BitVec 1 := Scalar.andi v28 v30
  let v17 : BitVec 32 := Scalar.divsi arg2 c4_i32
  let c1_i32 : BitVec 32 := 1#32
  let v32 : BitVec 32 := Scalar.subi v17 c1_i32
  let v33 : BitVec 32 := Scalar.select v31 v32 v17
  let v34 : BitVec 32 := Scalar.subi v33 c0_i32_9
  let c1_i32_10 : BitVec 32 := 1#32
  let v36 : BitVec 32 := Scalar.divsi v34 c1_i32_10
  let v37 : BitVec 32 := Scalar.muli v36 c1_i32_10
  let v38 : BitVec 32 := Scalar.addi c0_i32_9 v37
  let c1_i32_12 : BitVec 32 := 1#32
  let arg8 : BitVec 32 := Scf.iv v38 c1_i32_12 k0_t2
  let v60 : BitVec 32 := Scalar.muli c4_i32_19 arg8
  let v61 : BitVec 32 := Scalar.addi v60 c0_i32_20
  let c512_i32 : BitVec 32 := 512#32
  let v62 : BitVec 32 := Scalar.muli v61 c512_i32
  let v63 : BitVec 32 := v62
  let v64 : Index := Scalar.indexCast v63
  let c0_22 : Index := 0#32
  ![0, v64.toNat, 0]
def k0_off4 (i : grid0.Coords) (k0_t2 : Fin (k0_t2_loop i).trips) (c0_i32_20 : BitVec 32) : Fin 5 → Nat :=
  let c0_26 : Index := 0#32
  let c0_27 : Index := 0#32
  let c4_i32_19 : BitVec 32 := 4#32
  let c0_i32_9 : BitVec 32 := 0#32
  let arg2 : BitVec 32 := BitVec.ofNat 32 (i 2).val
  let c0_i32 : BitVec 32 := 0#32
  let v18 : BitVec 1 := Scalar.cmpi .sgt arg2 c0_i32
  let v19 : BitVec 32 := Scalar.extui v18
  let c0_i32_5 : BitVec 32 := 0#32
  let v20 : BitVec 1 := Scalar.cmpi .slt arg2 c0_i32_5
  let v21 : BitVec 32 := Scalar.extui v20
  let v22 : BitVec 32 := Scalar.subi v19 v21
  let c4_i32 : BitVec 32 := 4#32
  let c0_i32_6 : BitVec 32 := 0#32
  let v23 : BitVec 1 := Scalar.cmpi .sgt c4_i32 c0_i32_6
  let v24 : BitVec 32 := Scalar.extui v23
  let c0_i32_7 : BitVec 32 := 0#32
  let v25 : BitVec 1 := Scalar.cmpi .slt c4_i32 c0_i32_7
  let v26 : BitVec 32 := Scalar.extui v25
  let v27 : BitVec 32 := Scalar.subi v24 v26
  let v28 : BitVec 1 := Scalar.cmpi .ne v22 v27
  let v29 : BitVec 32 := Scalar.remsi arg2 c4_i32
  let c0_i32_8 : BitVec 32 := 0#32
  let v30 : BitVec 1 := Scalar.cmpi .ne v29 c0_i32_8
  let v31 : BitVec 1 := Scalar.andi v28 v30
  let v17 : BitVec 32 := Scalar.divsi arg2 c4_i32
  let c1_i32 : BitVec 32 := 1#32
  let v32 : BitVec 32 := Scalar.subi v17 c1_i32
  let v33 : BitVec 32 := Scalar.select v31 v32 v17
  let v34 : BitVec 32 := Scalar.subi v33 c0_i32_9
  let c1_i32_10 : BitVec 32 := 1#32
  let v36 : BitVec 32 := Scalar.divsi v34 c1_i32_10
  let v37 : BitVec 32 := Scalar.muli v36 c1_i32_10
  let v38 : BitVec 32 := Scalar.addi c0_i32_9 v37
  let c1_i32_12 : BitVec 32 := 1#32
  let arg8 : BitVec 32 := Scf.iv v38 c1_i32_12 k0_t2
  let v60 : BitVec 32 := Scalar.muli c4_i32_19 arg8
  let v61 : BitVec 32 := Scalar.addi v60 c0_i32_20
  let v77 : Index := Scalar.indexCast v61
  let c0_28 : Index := 0#32
  let c0_29 : Index := 0#32
  ![0, 0, v77.toNat, 0, 0]
def k0_mult6 (i : grid0.Coords) (k0_t2 : Fin (k0_t2_loop i).trips) : BitVec 32 :=
  let c4_i32_19 : BitVec 32 := 4#32
  let c0_i32_9 : BitVec 32 := 0#32
  let arg2 : BitVec 32 := BitVec.ofNat 32 (i 2).val
  let c0_i32 : BitVec 32 := 0#32
  let v18 : BitVec 1 := Scalar.cmpi .sgt arg2 c0_i32
  let v19 : BitVec 32 := Scalar.extui v18
  let c0_i32_5 : BitVec 32 := 0#32
  let v20 : BitVec 1 := Scalar.cmpi .slt arg2 c0_i32_5
  let v21 : BitVec 32 := Scalar.extui v20
  let v22 : BitVec 32 := Scalar.subi v19 v21
  let c4_i32 : BitVec 32 := 4#32
  let c0_i32_6 : BitVec 32 := 0#32
  let v23 : BitVec 1 := Scalar.cmpi .sgt c4_i32 c0_i32_6
  let v24 : BitVec 32 := Scalar.extui v23
  let c0_i32_7 : BitVec 32 := 0#32
  let v25 : BitVec 1 := Scalar.cmpi .slt c4_i32 c0_i32_7
  let v26 : BitVec 32 := Scalar.extui v25
  let v27 : BitVec 32 := Scalar.subi v24 v26
  let v28 : BitVec 1 := Scalar.cmpi .ne v22 v27
  let v29 : BitVec 32 := Scalar.remsi arg2 c4_i32
  let c0_i32_8 : BitVec 32 := 0#32
  let v30 : BitVec 1 := Scalar.cmpi .ne v29 c0_i32_8
  let v31 : BitVec 1 := Scalar.andi v28 v30
  let v17 : BitVec 32 := Scalar.divsi arg2 c4_i32
  let c1_i32 : BitVec 32 := 1#32
  let v32 : BitVec 32 := Scalar.subi v17 c1_i32
  let v33 : BitVec 32 := Scalar.select v31 v32 v17
  let v34 : BitVec 32 := Scalar.subi v33 c0_i32_9
  let c1_i32_10 : BitVec 32 := 1#32
  let v36 : BitVec 32 := Scalar.divsi v34 c1_i32_10
  let v37 : BitVec 32 := Scalar.muli v36 c1_i32_10
  let v38 : BitVec 32 := Scalar.addi c0_i32_9 v37
  let c1_i32_12 : BitVec 32 := 1#32
  let arg8 : BitVec 32 := Scf.iv v38 c1_i32_12 k0_t2
  let v60 : BitVec 32 := Scalar.muli c4_i32_19 arg8
  let c1_i32_36 : BitVec 32 := 1#32
  let v114 : BitVec 32 := Scalar.addi v60 c1_i32_36
  let c512_i32_37 : BitVec 32 := 512#32
  let v115 : BitVec 32 := Scalar.muli v114 c512_i32_37
  v115
def k0_mult7 (i : grid0.Coords) (k0_t2 : Fin (k0_t2_loop i).trips) : BitVec 32 :=
  let c4_i32_19 : BitVec 32 := 4#32
  let c0_i32_9 : BitVec 32 := 0#32
  let arg2 : BitVec 32 := BitVec.ofNat 32 (i 2).val
  let c0_i32 : BitVec 32 := 0#32
  let v18 : BitVec 1 := Scalar.cmpi .sgt arg2 c0_i32
  let v19 : BitVec 32 := Scalar.extui v18
  let c0_i32_5 : BitVec 32 := 0#32
  let v20 : BitVec 1 := Scalar.cmpi .slt arg2 c0_i32_5
  let v21 : BitVec 32 := Scalar.extui v20
  let v22 : BitVec 32 := Scalar.subi v19 v21
  let c4_i32 : BitVec 32 := 4#32
  let c0_i32_6 : BitVec 32 := 0#32
  let v23 : BitVec 1 := Scalar.cmpi .sgt c4_i32 c0_i32_6
  let v24 : BitVec 32 := Scalar.extui v23
  let c0_i32_7 : BitVec 32 := 0#32
  let v25 : BitVec 1 := Scalar.cmpi .slt c4_i32 c0_i32_7
  let v26 : BitVec 32 := Scalar.extui v25
  let v27 : BitVec 32 := Scalar.subi v24 v26
  let v28 : BitVec 1 := Scalar.cmpi .ne v22 v27
  let v29 : BitVec 32 := Scalar.remsi arg2 c4_i32
  let c0_i32_8 : BitVec 32 := 0#32
  let v30 : BitVec 1 := Scalar.cmpi .ne v29 c0_i32_8
  let v31 : BitVec 1 := Scalar.andi v28 v30
  let v17 : BitVec 32 := Scalar.divsi arg2 c4_i32
  let c1_i32 : BitVec 32 := 1#32
  let v32 : BitVec 32 := Scalar.subi v17 c1_i32
  let v33 : BitVec 32 := Scalar.select v31 v32 v17
  let v34 : BitVec 32 := Scalar.subi v33 c0_i32_9
  let c1_i32_10 : BitVec 32 := 1#32
  let v36 : BitVec 32 := Scalar.divsi v34 c1_i32_10
  let v37 : BitVec 32 := Scalar.muli v36 c1_i32_10
  let v38 : BitVec 32 := Scalar.addi c0_i32_9 v37
  let c1_i32_12 : BitVec 32 := 1#32
  let arg8 : BitVec 32 := Scf.iv v38 c1_i32_12 k0_t2
  let v60 : BitVec 32 := Scalar.muli c4_i32_19 arg8
  let c2_i32 : BitVec 32 := 2#32
  let v167 : BitVec 32 := Scalar.addi v60 c2_i32
  let c512_i32_53 : BitVec 32 := 512#32
  let v168 : BitVec 32 := Scalar.muli v167 c512_i32_53
  v168
def k0_mult8 (i : grid0.Coords) (k0_t2 : Fin (k0_t2_loop i).trips) : BitVec 32 :=
  let c4_i32_19 : BitVec 32 := 4#32
  let c0_i32_9 : BitVec 32 := 0#32
  let arg2 : BitVec 32 := BitVec.ofNat 32 (i 2).val
  let c0_i32 : BitVec 32 := 0#32
  let v18 : BitVec 1 := Scalar.cmpi .sgt arg2 c0_i32
  let v19 : BitVec 32 := Scalar.extui v18
  let c0_i32_5 : BitVec 32 := 0#32
  let v20 : BitVec 1 := Scalar.cmpi .slt arg2 c0_i32_5
  let v21 : BitVec 32 := Scalar.extui v20
  let v22 : BitVec 32 := Scalar.subi v19 v21
  let c4_i32 : BitVec 32 := 4#32
  let c0_i32_6 : BitVec 32 := 0#32
  let v23 : BitVec 1 := Scalar.cmpi .sgt c4_i32 c0_i32_6
  let v24 : BitVec 32 := Scalar.extui v23
  let c0_i32_7 : BitVec 32 := 0#32
  let v25 : BitVec 1 := Scalar.cmpi .slt c4_i32 c0_i32_7
  let v26 : BitVec 32 := Scalar.extui v25
  let v27 : BitVec 32 := Scalar.subi v24 v26
  let v28 : BitVec 1 := Scalar.cmpi .ne v22 v27
  let v29 : BitVec 32 := Scalar.remsi arg2 c4_i32
  let c0_i32_8 : BitVec 32 := 0#32
  let v30 : BitVec 1 := Scalar.cmpi .ne v29 c0_i32_8
  let v31 : BitVec 1 := Scalar.andi v28 v30
  let v17 : BitVec 32 := Scalar.divsi arg2 c4_i32
  let c1_i32 : BitVec 32 := 1#32
  let v32 : BitVec 32 := Scalar.subi v17 c1_i32
  let v33 : BitVec 32 := Scalar.select v31 v32 v17
  let v34 : BitVec 32 := Scalar.subi v33 c0_i32_9
  let c1_i32_10 : BitVec 32 := 1#32
  let v36 : BitVec 32 := Scalar.divsi v34 c1_i32_10
  let v37 : BitVec 32 := Scalar.muli v36 c1_i32_10
  let v38 : BitVec 32 := Scalar.addi c0_i32_9 v37
  let c1_i32_12 : BitVec 32 := 1#32
  let arg8 : BitVec 32 := Scf.iv v38 c1_i32_12 k0_t2
  let v60 : BitVec 32 := Scalar.muli c4_i32_19 arg8
  let c3_i32_69 : BitVec 32 := 3#32
  let v220 : BitVec 32 := Scalar.addi v60 c3_i32_69
  let c512_i32_70 : BitVec 32 := 512#32
  let v221 : BitVec 32 := Scalar.muli v220 c512_i32_70
  v221
def k0_cond1 (i : grid0.Coords) : BitVec 1 :=
  let arg2 : BitVec 32 := BitVec.ofNat 32 (i 2).val
  let c4_i32_13 : BitVec 32 := 4#32
  let c0_i32 : BitVec 32 := 0#32
  let v18 : BitVec 1 := Scalar.cmpi .sgt arg2 c0_i32
  let v19 : BitVec 32 := Scalar.extui v18
  let c0_i32_5 : BitVec 32 := 0#32
  let v20 : BitVec 1 := Scalar.cmpi .slt arg2 c0_i32_5
  let v21 : BitVec 32 := Scalar.extui v20
  let v22 : BitVec 32 := Scalar.subi v19 v21
  let c4_i32 : BitVec 32 := 4#32
  let c0_i32_6 : BitVec 32 := 0#32
  let v23 : BitVec 1 := Scalar.cmpi .sgt c4_i32 c0_i32_6
  let v24 : BitVec 32 := Scalar.extui v23
  let c0_i32_7 : BitVec 32 := 0#32
  let v25 : BitVec 1 := Scalar.cmpi .slt c4_i32 c0_i32_7
  let v26 : BitVec 32 := Scalar.extui v25
  let v27 : BitVec 32 := Scalar.subi v24 v26
  let v28 : BitVec 1 := Scalar.cmpi .ne v22 v27
  let v29 : BitVec 32 := Scalar.remsi arg2 c4_i32
  let c0_i32_8 : BitVec 32 := 0#32
  let v30 : BitVec 1 := Scalar.cmpi .ne v29 c0_i32_8
  let v31 : BitVec 1 := Scalar.andi v28 v30
  let v17 : BitVec 32 := Scalar.divsi arg2 c4_i32
  let c1_i32 : BitVec 32 := 1#32
  let v32 : BitVec 32 := Scalar.subi v17 c1_i32
  let v33 : BitVec 32 := Scalar.select v31 v32 v17
  let v41 : BitVec 32 := Scalar.muli c4_i32_13 v33
  let v42 : BitVec 32 := Scalar.subi arg2 v41
  let c0_i32_14 : BitVec 32 := 0#32
  let v43 : BitVec 32 := Scalar.maxsi v42 c0_i32_14
  let c3_i32 : BitVec 32 := 3#32
  let v44 : BitVec 32 := Scalar.minsi v43 c3_i32
  let c0_i32_15 : BitVec 32 := 0#32
  let v45 : BitVec 1 := Scalar.cmpi .ne v44 c0_i32_15
  v45

def k0_cond2 (i : grid0.Coords) : BitVec 1 :=
  let arg2 : BitVec 32 := BitVec.ofNat 32 (i 2).val
  let c4_i32_13 : BitVec 32 := 4#32
  let c0_i32 : BitVec 32 := 0#32
  let v18 : BitVec 1 := Scalar.cmpi .sgt arg2 c0_i32
  let v19 : BitVec 32 := Scalar.extui v18
  let c0_i32_5 : BitVec 32 := 0#32
  let v20 : BitVec 1 := Scalar.cmpi .slt arg2 c0_i32_5
  let v21 : BitVec 32 := Scalar.extui v20
  let v22 : BitVec 32 := Scalar.subi v19 v21
  let c4_i32 : BitVec 32 := 4#32
  let c0_i32_6 : BitVec 32 := 0#32
  let v23 : BitVec 1 := Scalar.cmpi .sgt c4_i32 c0_i32_6
  let v24 : BitVec 32 := Scalar.extui v23
  let c0_i32_7 : BitVec 32 := 0#32
  let v25 : BitVec 1 := Scalar.cmpi .slt c4_i32 c0_i32_7
  let v26 : BitVec 32 := Scalar.extui v25
  let v27 : BitVec 32 := Scalar.subi v24 v26
  let v28 : BitVec 1 := Scalar.cmpi .ne v22 v27
  let v29 : BitVec 32 := Scalar.remsi arg2 c4_i32
  let c0_i32_8 : BitVec 32 := 0#32
  let v30 : BitVec 1 := Scalar.cmpi .ne v29 c0_i32_8
  let v31 : BitVec 1 := Scalar.andi v28 v30
  let v17 : BitVec 32 := Scalar.divsi arg2 c4_i32
  let c1_i32 : BitVec 32 := 1#32
  let v32 : BitVec 32 := Scalar.subi v17 c1_i32
  let v33 : BitVec 32 := Scalar.select v31 v32 v17
  let v41 : BitVec 32 := Scalar.muli c4_i32_13 v33
  let v42 : BitVec 32 := Scalar.subi arg2 v41
  let c0_i32_14 : BitVec 32 := 0#32
  let v43 : BitVec 32 := Scalar.maxsi v42 c0_i32_14
  let c3_i32 : BitVec 32 := 3#32
  let v44 : BitVec 32 := Scalar.minsi v43 c3_i32
  let c1_i32_19 : BitVec 32 := 1#32
  let v60 : BitVec 32 := Scalar.subi v44 c1_i32_19
  let c0_i32_20 : BitVec 32 := 0#32
  let v61 : BitVec 1 := Scalar.cmpi .ne v60 c0_i32_20
  v61

def k0_cond3 (i : grid0.Coords) : BitVec 1 :=
  let arg2 : BitVec 32 := BitVec.ofNat 32 (i 2).val
  let c4_i32_13 : BitVec 32 := 4#32
  let c0_i32 : BitVec 32 := 0#32
  let v18 : BitVec 1 := Scalar.cmpi .sgt arg2 c0_i32
  let v19 : BitVec 32 := Scalar.extui v18
  let c0_i32_5 : BitVec 32 := 0#32
  let v20 : BitVec 1 := Scalar.cmpi .slt arg2 c0_i32_5
  let v21 : BitVec 32 := Scalar.extui v20
  let v22 : BitVec 32 := Scalar.subi v19 v21
  let c4_i32 : BitVec 32 := 4#32
  let c0_i32_6 : BitVec 32 := 0#32
  let v23 : BitVec 1 := Scalar.cmpi .sgt c4_i32 c0_i32_6
  let v24 : BitVec 32 := Scalar.extui v23
  let c0_i32_7 : BitVec 32 := 0#32
  let v25 : BitVec 1 := Scalar.cmpi .slt c4_i32 c0_i32_7
  let v26 : BitVec 32 := Scalar.extui v25
  let v27 : BitVec 32 := Scalar.subi v24 v26
  let v28 : BitVec 1 := Scalar.cmpi .ne v22 v27
  let v29 : BitVec 32 := Scalar.remsi arg2 c4_i32
  let c0_i32_8 : BitVec 32 := 0#32
  let v30 : BitVec 1 := Scalar.cmpi .ne v29 c0_i32_8
  let v31 : BitVec 1 := Scalar.andi v28 v30
  let v17 : BitVec 32 := Scalar.divsi arg2 c4_i32
  let c1_i32 : BitVec 32 := 1#32
  let v32 : BitVec 32 := Scalar.subi v17 c1_i32
  let v33 : BitVec 32 := Scalar.select v31 v32 v17
  let v41 : BitVec 32 := Scalar.muli c4_i32_13 v33
  let v42 : BitVec 32 := Scalar.subi arg2 v41
  let c0_i32_14 : BitVec 32 := 0#32
  let v43 : BitVec 32 := Scalar.maxsi v42 c0_i32_14
  let c3_i32 : BitVec 32 := 3#32
  let v44 : BitVec 32 := Scalar.minsi v43 c3_i32
  let c1_i32_19 : BitVec 32 := 1#32
  let v60 : BitVec 32 := Scalar.subi v44 c1_i32_19
  let c1_i32_21 : BitVec 32 := 1#32
  let v63 : BitVec 32 := Scalar.subi v60 c1_i32_21
  let c0_i32_22 : BitVec 32 := 0#32
  let v64 : BitVec 1 := Scalar.cmpi .ne v63 c0_i32_22
  v64

def k0_mult9 (i : grid0.Coords) : BitVec 32 :=
  let arg2 : BitVec 32 := BitVec.ofNat 32 (i 2).val
  let c3_i32_23 : BitVec 32 := 3#32
  let v66 : BitVec 32 := Scalar.subi arg2 c3_i32_23
  let c0_i32_24 : BitVec 32 := 0#32
  let v67 : BitVec 32 := Scalar.addi v66 c0_i32_24
  let c512_i32 : BitVec 32 := 512#32
  let v68 : BitVec 32 := Scalar.muli v67 c512_i32
  v68
def k0_off5 (i : grid0.Coords) (c0_i32_24 : BitVec 32) : Fin 3 → Nat :=
  let c0_25 : Index := 0#32
  let arg2 : BitVec 32 := BitVec.ofNat 32 (i 2).val
  let c3_i32_23 : BitVec 32 := 3#32
  let v66 : BitVec 32 := Scalar.subi arg2 c3_i32_23
  let v67 : BitVec 32 := Scalar.addi v66 c0_i32_24
  let c512_i32 : BitVec 32 := 512#32
  let v68 : BitVec 32 := Scalar.muli v67 c512_i32
  let v69 : BitVec 32 := v68
  let v70 : Index := Scalar.indexCast v69
  let c0_26 : Index := 0#32
  ![0, v70.toNat, 0]
def k0_off6 (i : grid0.Coords) (c0_i32_24 : BitVec 32) : Fin 5 → Nat :=
  let c0_30 : Index := 0#32
  let c0_31 : Index := 0#32
  let arg2 : BitVec 32 := BitVec.ofNat 32 (i 2).val
  let c3_i32_23 : BitVec 32 := 3#32
  let v66 : BitVec 32 := Scalar.subi arg2 c3_i32_23
  let v67 : BitVec 32 := Scalar.addi v66 c0_i32_24
  let v83 : Index := Scalar.indexCast v67
  let c0_32 : Index := 0#32
  let c0_33 : Index := 0#32
  ![0, 0, v83.toNat, 0, 0]
def k0_mult10 (i : grid0.Coords) : BitVec 32 :=
  let arg2 : BitVec 32 := BitVec.ofNat 32 (i 2).val
  let c3_i32_23 : BitVec 32 := 3#32
  let v66 : BitVec 32 := Scalar.subi arg2 c3_i32_23
  let c1_i32_40 : BitVec 32 := 1#32
  let v120 : BitVec 32 := Scalar.addi v66 c1_i32_40
  let c512_i32_41 : BitVec 32 := 512#32
  let v121 : BitVec 32 := Scalar.muli v120 c512_i32_41
  v121
def k0_mult11 (i : grid0.Coords) : BitVec 32 :=
  let arg2 : BitVec 32 := BitVec.ofNat 32 (i 2).val
  let c3_i32_23 : BitVec 32 := 3#32
  let v66 : BitVec 32 := Scalar.subi arg2 c3_i32_23
  let c2_i32 : BitVec 32 := 2#32
  let v173 : BitVec 32 := Scalar.addi v66 c2_i32
  let c512_i32_57 : BitVec 32 := 512#32
  let v174 : BitVec 32 := Scalar.muli v173 c512_i32_57
  v174
def k0_mult12 (i : grid0.Coords) : BitVec 32 :=
  let arg2 : BitVec 32 := BitVec.ofNat 32 (i 2).val
  let c512_i32_73 : BitVec 32 := 512#32
  let v226 : BitVec 32 := Scalar.muli arg2 c512_i32_73
  v226
def k0_off7 (i : grid0.Coords) : Fin 3 → Nat :=
  let c0_74 : Index := 0#32
  let arg2 : BitVec 32 := BitVec.ofNat 32 (i 2).val
  let c512_i32_73 : BitVec 32 := 512#32
  let v226 : BitVec 32 := Scalar.muli arg2 c512_i32_73
  let v227 : BitVec 32 := v226
  let v228 : Index := Scalar.indexCast v227
  let c0_75 : Index := 0#32
  ![0, v228.toNat, 0]
def k0_off8 (i : grid0.Coords) : Fin 5 → Nat :=
  let c0_79 : Index := 0#32
  let c0_80 : Index := 0#32
  let arg2 : BitVec 32 := BitVec.ofNat 32 (i 2).val
  let v241 : Index := Scalar.indexCast arg2
  let c0_81 : Index := 0#32
  let c0_82 : Index := 0#32
  ![0, 0, v241.toNat, 0, 0]
def k0_mult13 (i : grid0.Coords) : BitVec 32 :=
  let arg2 : BitVec 32 := BitVec.ofNat 32 (i 2).val
  let c2_i32 : BitVec 32 := 2#32
  let v66 : BitVec 32 := Scalar.subi arg2 c2_i32
  let c0_i32_23 : BitVec 32 := 0#32
  let v67 : BitVec 32 := Scalar.addi v66 c0_i32_23
  let c512_i32 : BitVec 32 := 512#32
  let v68 : BitVec 32 := Scalar.muli v67 c512_i32
  v68
def k0_off9 (i : grid0.Coords) (c0_i32_23 : BitVec 32) : Fin 3 → Nat :=
  let c0_24 : Index := 0#32
  let arg2 : BitVec 32 := BitVec.ofNat 32 (i 2).val
  let c2_i32 : BitVec 32 := 2#32
  let v66 : BitVec 32 := Scalar.subi arg2 c2_i32
  let v67 : BitVec 32 := Scalar.addi v66 c0_i32_23
  let c512_i32 : BitVec 32 := 512#32
  let v68 : BitVec 32 := Scalar.muli v67 c512_i32
  let v69 : BitVec 32 := v68
  let v70 : Index := Scalar.indexCast v69
  let c0_25 : Index := 0#32
  ![0, v70.toNat, 0]
def k0_off10 (i : grid0.Coords) (c0_i32_23 : BitVec 32) : Fin 5 → Nat :=
  let c0_29 : Index := 0#32
  let c0_30 : Index := 0#32
  let arg2 : BitVec 32 := BitVec.ofNat 32 (i 2).val
  let c2_i32 : BitVec 32 := 2#32
  let v66 : BitVec 32 := Scalar.subi arg2 c2_i32
  let v67 : BitVec 32 := Scalar.addi v66 c0_i32_23
  let v83 : Index := Scalar.indexCast v67
  let c0_31 : Index := 0#32
  let c0_32 : Index := 0#32
  ![0, 0, v83.toNat, 0, 0]
def k0_mult14 (i : grid0.Coords) : BitVec 32 :=
  let arg2 : BitVec 32 := BitVec.ofNat 32 (i 2).val
  let c2_i32 : BitVec 32 := 2#32
  let v66 : BitVec 32 := Scalar.subi arg2 c2_i32
  let c1_i32_39 : BitVec 32 := 1#32
  let v120 : BitVec 32 := Scalar.addi v66 c1_i32_39
  let c512_i32_40 : BitVec 32 := 512#32
  let v121 : BitVec 32 := Scalar.muli v120 c512_i32_40
  v121
def k0_mult15 (i : grid0.Coords) : BitVec 32 :=
  let arg2 : BitVec 32 := BitVec.ofNat 32 (i 2).val
  let c512_i32_56 : BitVec 32 := 512#32
  let v173 : BitVec 32 := Scalar.muli arg2 c512_i32_56
  v173
def k0_off11 (i : grid0.Coords) : Fin 3 → Nat :=
  let c0_57 : Index := 0#32
  let arg2 : BitVec 32 := BitVec.ofNat 32 (i 2).val
  let c512_i32_56 : BitVec 32 := 512#32
  let v173 : BitVec 32 := Scalar.muli arg2 c512_i32_56
  let v174 : BitVec 32 := v173
  let v175 : Index := Scalar.indexCast v174
  let c0_58 : Index := 0#32
  ![0, v175.toNat, 0]
def k0_off12 (i : grid0.Coords) : Fin 5 → Nat :=
  let c0_62 : Index := 0#32
  let c0_63 : Index := 0#32
  let arg2 : BitVec 32 := BitVec.ofNat 32 (i 2).val
  let v188 : Index := Scalar.indexCast arg2
  let c0_64 : Index := 0#32
  let c0_65 : Index := 0#32
  ![0, 0, v188.toNat, 0, 0]
def k0_mult16 (i : grid0.Coords) : BitVec 32 :=
  let arg2 : BitVec 32 := BitVec.ofNat 32 (i 2).val
  let c1_i32_21 : BitVec 32 := 1#32
  let v63 : BitVec 32 := Scalar.subi arg2 c1_i32_21
  let c0_i32_22 : BitVec 32 := 0#32
  let v64 : BitVec 32 := Scalar.addi v63 c0_i32_22
  let c512_i32 : BitVec 32 := 512#32
  let v65 : BitVec 32 := Scalar.muli v64 c512_i32
  v65
def k0_off13 (i : grid0.Coords) : Fin 3 → Nat :=
  let c0_23 : Index := 0#32
  let arg2 : BitVec 32 := BitVec.ofNat 32 (i 2).val
  let c1_i32_21 : BitVec 32 := 1#32
  let v63 : BitVec 32 := Scalar.subi arg2 c1_i32_21
  let c0_i32_22 : BitVec 32 := 0#32
  let v64 : BitVec 32 := Scalar.addi v63 c0_i32_22
  let c512_i32 : BitVec 32 := 512#32
  let v65 : BitVec 32 := Scalar.muli v64 c512_i32
  let v66 : BitVec 32 := v65
  let v67 : Index := Scalar.indexCast v66
  let c0_24 : Index := 0#32
  ![0, v67.toNat, 0]
def k0_off14 (i : grid0.Coords) : Fin 5 → Nat :=
  let c0_28 : Index := 0#32
  let c0_29 : Index := 0#32
  let arg2 : BitVec 32 := BitVec.ofNat 32 (i 2).val
  let c1_i32_21 : BitVec 32 := 1#32
  let v63 : BitVec 32 := Scalar.subi arg2 c1_i32_21
  let c0_i32_22 : BitVec 32 := 0#32
  let v64 : BitVec 32 := Scalar.addi v63 c0_i32_22
  let v80 : Index := Scalar.indexCast v64
  let c0_30 : Index := 0#32
  let c0_31 : Index := 0#32
  ![0, 0, v80.toNat, 0, 0]
def k0_mult17 (i : grid0.Coords) : BitVec 32 :=
  let arg2 : BitVec 32 := BitVec.ofNat 32 (i 2).val
  let c512_i32_38 : BitVec 32 := 512#32
  let v117 : BitVec 32 := Scalar.muli arg2 c512_i32_38
  v117
def k0_off15 (i : grid0.Coords) : Fin 3 → Nat :=
  let c0_39 : Index := 0#32
  let arg2 : BitVec 32 := BitVec.ofNat 32 (i 2).val
  let c512_i32_38 : BitVec 32 := 512#32
  let v117 : BitVec 32 := Scalar.muli arg2 c512_i32_38
  let v118 : BitVec 32 := v117
  let v119 : Index := Scalar.indexCast v118
  let c0_40 : Index := 0#32
  ![0, v119.toNat, 0]
def k0_off16 (i : grid0.Coords) : Fin 5 → Nat :=
  let c0_44 : Index := 0#32
  let c0_45 : Index := 0#32
  let arg2 : BitVec 32 := BitVec.ofNat 32 (i 2).val
  let v132 : Index := Scalar.indexCast arg2
  let c0_46 : Index := 0#32
  let c0_47 : Index := 0#32
  ![0, 0, v132.toNat, 0, 0]
def k0_mult18 (i : grid0.Coords) : BitVec 32 :=
  let arg2 : BitVec 32 := BitVec.ofNat 32 (i 2).val
  let c512_i32 : BitVec 32 := 512#32
  let v60 : BitVec 32 := Scalar.muli arg2 c512_i32
  v60
def k0_off17 (i : grid0.Coords) : Fin 3 → Nat :=
  let c0_19 : Index := 0#32
  let arg2 : BitVec 32 := BitVec.ofNat 32 (i 2).val
  let c512_i32 : BitVec 32 := 512#32
  let v60 : BitVec 32 := Scalar.muli arg2 c512_i32
  let v61 : BitVec 32 := v60
  let v62 : Index := Scalar.indexCast v61
  let c0_20 : Index := 0#32
  ![0, v62.toNat, 0]
def k0_off18 (i : grid0.Coords) : Fin 5 → Nat :=
  let c0_24 : Index := 0#32
  let c0_25 : Index := 0#32
  let arg2 : BitVec 32 := BitVec.ofNat 32 (i 2).val
  let v75 : Index := Scalar.indexCast arg2
  let c0_26 : Index := 0#32
  let c0_27 : Index := 0#32
  ![0, 0, v75.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x8x2x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S4x4096x768 : Shape := ⟨3, ![4, 4096, 768]⟩
abbrev S4x4096x12 : Shape := ⟨3, ![4, 4096, 12]⟩
abbrev S4x4096x12x64 : Shape := ⟨4, ![4, 4096, 12, 64]⟩
abbrev S4x12x4096x64 : Shape := ⟨4, ![4, 12, 4096, 64]⟩
abbrev S4x12x4096 : Shape := ⟨3, ![4, 12, 4096]⟩
abbrev S4x12x4096x4096 : Shape := ⟨4, ![4, 12, 4096, 4096]⟩
abbrev S_ : Shape := ⟨0, ![]⟩
abbrev S4x12x4096x1 : Shape := ⟨4, ![4, 12, 4096, 1]⟩
abbrev S4x12x1x4096 : Shape := ⟨4, ![4, 12, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩

abbrev nBuf : Space → Nat
  | .hbm => 51
  | .vmem => 0
  | .smem => 0
  | _ => 0

abbrev bufTy : (tb : Table) → Fin (tcTables nBuf tb) → BufTy
  | .hbm, ⟨0, _⟩ => ⟨S4x4096x768, .f32⟩
  | .hbm, ⟨1, _⟩ => ⟨S4x4096x768, .f32⟩
  | .hbm, ⟨2, _⟩ => ⟨S4x4096x768, .f32⟩
  | .hbm, ⟨3, _⟩ => ⟨S4x4096x12, .f32⟩
  | .hbm, ⟨4, _⟩ => ⟨S4x4096x12x64, .f32⟩
  | .hbm, ⟨5, _⟩ => ⟨S4x12x4096x64, .f32⟩
  | .hbm, ⟨6, _⟩ => ⟨S4x4096x12x64, .f32⟩
  | .hbm, ⟨7, _⟩ => ⟨S4x12x4096x64, .f32⟩
  | .hbm, ⟨8, _⟩ => ⟨S4x4096x12x64, .f32⟩
  | .hbm, ⟨9, _⟩ => ⟨S4x12x4096x64, .f32⟩
  | .hbm, ⟨10, _⟩ => ⟨S4x12x4096, .f32⟩
  | .hbm, ⟨11, _⟩ => ⟨S4x12x4096x4096, .f32⟩
  | .hbm, ⟨12, _⟩ => ⟨S_, .f32⟩
  | .hbm, ⟨13, _⟩ => ⟨S4x12x4096x4096, .f32⟩
  | .hbm, ⟨14, _⟩ => ⟨S4x12x4096x4096, .f32⟩
  | .hbm, ⟨15, _⟩ => ⟨S4x12x4096x1, .f32⟩
  | .hbm, ⟨16, _⟩ => ⟨S4x12x4096x4096, .f32⟩
  | .hbm, ⟨17, _⟩ => ⟨S4x12x4096x4096, .f32⟩
  | .hbm, ⟨18, _⟩ => ⟨S4x12x1x4096, .f32⟩
  | .hbm, ⟨19, _⟩ => ⟨S4x12x4096x4096, .f32⟩
  | .hbm, ⟨20, _⟩ => ⟨S4x12x4096x4096, .f32⟩
  | .hbm, ⟨21, _⟩ => ⟨S4096, .i32⟩
  | .hbm, ⟨22, _⟩ => ⟨S1x4096, .i32⟩
  | .hbm, ⟨23, _⟩ => ⟨S4096, .i32⟩
  | .hbm, ⟨24, _⟩ => ⟨S4096x1, .i32⟩
  | .hbm, ⟨25, _⟩ => ⟨S4096x4096, .i32⟩
  | .hbm, ⟨26, _⟩ => ⟨S4096x4096, .i32⟩
  | .hbm, ⟨27, _⟩ => ⟨S4096x4096, .i1⟩
  | .hbm, ⟨28, _⟩ => ⟨S_, .f32⟩
  | .hbm, ⟨29, _⟩ => ⟨S_, .f32⟩
  | .hbm, ⟨30, _⟩ => ⟨S4x12x4096x4096, .i1⟩
  | .hbm, ⟨31, _⟩ => ⟨S4x12x4096x4096, .f32⟩
  | .hbm, ⟨32, _⟩ => ⟨S4x12x4096x4096, .f32⟩
  | .hbm, ⟨33, _⟩ => ⟨S_, .f32⟩
  | .hbm, ⟨34, _⟩ => ⟨S4x12x4096, .f32⟩
  | .hbm, ⟨35, _⟩ => ⟨S_, .f32⟩
  | .hbm, ⟨36, _⟩ => ⟨S4x12x4096, .f32⟩
  | .hbm, ⟨37, _⟩ => ⟨S4x12x4096, .f32⟩
  | .hbm, ⟨38, _⟩ => ⟨S4x12x4096x1, .f32⟩
  | .hbm, ⟨39, _⟩ => ⟨S4x12x4096x4096, .f32⟩
  | .hbm, ⟨40, _⟩ => ⟨S4x12x4096x4096, .f32⟩
  | .hbm, ⟨41, _⟩ => ⟨S4x12x4096x4096, .f32⟩
  | .hbm, ⟨42, _⟩ => ⟨S_, .f32⟩
  | .hbm, ⟨43, _⟩ => ⟨S4x12x4096, .f32⟩
  | .hbm, ⟨44, _⟩ => ⟨S4x12x4096x1, .f32⟩
  | .hbm, ⟨45, _⟩ => ⟨S4x12x4096x4096, .f32⟩
  | .hbm, ⟨46, _⟩ => ⟨S4x12x4096x4096, .f32⟩
  | .hbm, ⟨47, _⟩ => ⟨S4x12x4096x64, .f32⟩
  | .hbm, ⟨48, _⟩ => ⟨S4x4096x12x64, .f32⟩
  | .hbm, ⟨49, _⟩ => ⟨S4x4096x768, .f32⟩
  | .hbm, ⟨50, _⟩ => ⟨S4x4096x768, .bf16⟩
  | _, _ => ⟨S4x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== Ffn.lean ====
abbrev S4x4096x1024 : Shape := ⟨3, ![4, 4096, 1024]⟩
abbrev S4x4096x256 : Shape := ⟨3, ![4, 4096, 256]⟩
abbrev S4x4096x768 : Shape := ⟨3, ![4, 4096, 768]⟩
abbrev S1024x1024 : Shape := ⟨2, ![1024, 1024]⟩
abbrev S1024 : Shape := ⟨1, ![1024]⟩
abbrev S2x1024x3584 : Shape := ⟨3, ![2, 1024, 3584]⟩
abbrev S2x3584x1024 : Shape := ⟨3, ![2, 3584, 1024]⟩
abbrev S16384x1024 : Shape := ⟨2, ![16384, 1024]⟩
abbrev S16384x256 : Shape := ⟨2, ![16384, 256]⟩
abbrev S16384x768 : Shape := ⟨2, ![16384, 768]⟩
abbrev S1x1024 : Shape := ⟨2, ![1, 1024]⟩
abbrev S1024x256 : Shape := ⟨2, ![1024, 256]⟩
abbrev S1024x768 : Shape := ⟨2, ![1024, 768]⟩
abbrev S1x1024x1792 : Shape := ⟨3, ![1, 1024, 1792]⟩
abbrev S1x1792x1024 : Shape := ⟨3, ![1, 1792, 1024]⟩
abbrev S1024x1792 : Shape := ⟨2, ![1024, 1792]⟩
abbrev S256x1024 : Shape := ⟨2, ![256, 1024]⟩
abbrev S768x1024 : Shape := ⟨2, ![768, 1024]⟩
abbrev S1024x1 : Shape := ⟨2, ![1024, 1]⟩
abbrev S1x1024x512 : Shape := ⟨3, ![1, 1024, 512]⟩
abbrev S1024x512 : Shape := ⟨2, ![1024, 512]⟩
abbrev S1x1024x256 : Shape := ⟨3, ![1, 1024, 256]⟩
abbrev S1792x1024 : Shape := ⟨2, ![1792, 1024]⟩

abbrev nBuf : Space → Nat
  | .hbm => 17
  | .vmem => 18
  | .smem => 0
  | _ => 0

abbrev bufTy : (tb : Table) → Fin (tcTables nBuf tb) → BufTy
  | .hbm, ⟨0, _⟩ => ⟨S4x4096x1024, .f32⟩
  | .hbm, ⟨1, _⟩ => ⟨S4x4096x256, .bf16⟩
  | .hbm, ⟨2, _⟩ => ⟨S4x4096x768, .bf16⟩
  | .hbm, ⟨3, _⟩ => ⟨S1024x1024, .f32⟩
  | .hbm, ⟨4, _⟩ => ⟨S1024, .f32⟩
  | .hbm, ⟨5, _⟩ => ⟨S2x1024x3584, .f32⟩
  | .hbm, ⟨6, _⟩ => ⟨S2x1024x3584, .f32⟩
  | .hbm, ⟨7, _⟩ => ⟨S2x3584x1024, .f32⟩
  | .hbm, ⟨8, _⟩ => ⟨S16384x1024, .f32⟩
  | .hbm, ⟨9, _⟩ => ⟨S16384x256, .bf16⟩
  | .hbm, ⟨10, _⟩ => ⟨S16384x768, .bf16⟩
  | .hbm, ⟨11, _⟩ => ⟨S1024x1024, .bf16⟩
  | .hbm, ⟨12, _⟩ => ⟨S2x1024x3584, .bf16⟩
  | .hbm, ⟨13, _⟩ => ⟨S2x1024x3584, .bf16⟩
  | .hbm, ⟨14, _⟩ => ⟨S2x3584x1024, .bf16⟩
  | .hbm, ⟨15, _⟩ => ⟨S1x1024, .f32⟩
  | .hbm, ⟨16, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x256, .bf16⟩
  | .local _ .vmem, ⟨3, _⟩ => ⟨S1024x256, .bf16⟩
  | .local _ .vmem, ⟨4, _⟩ => ⟨S1024x768, .bf16⟩
  | .local _ .vmem, ⟨5, _⟩ => ⟨S1024x768, .bf16⟩
  | .local _ .vmem, ⟨6, _⟩ => ⟨S1024x1024, .bf16⟩
  | .local _ .vmem, ⟨7, _⟩ => ⟨S1x1024, .f32⟩
  | .local _ .vmem, ⟨8, _⟩ => ⟨S1x1024x1792, .bf16⟩
  | .local _ .vmem, ⟨9, _⟩ => ⟨S1x1024x1792, .bf16⟩
  | .local _ .vmem, ⟨10, _⟩ => ⟨S1x1024x1792, .bf16⟩
  | .local _ .vmem, ⟨11, _⟩ => ⟨S1x1024x1792, .bf16⟩
  | .local _ .vmem, ⟨12, _⟩ => ⟨S1x1792x1024, .bf16⟩
  | .local _ .vmem, ⟨13, _⟩ => ⟨S1x1792x1024, .bf16⟩
  | .local _ .vmem, ⟨14, _⟩ => ⟨S1024x1024, .f32⟩
  | .local _ .vmem, ⟨15, _⟩ => ⟨S1024x1024, .f32⟩
  | .local _ .vmem, ⟨16, _⟩ => ⟨S1024x1024, .bf16⟩
  | .local _ .vmem, ⟨17, _⟩ => ⟨S1024x1792, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1792 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024x1792 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1792x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== FfnReferenceIdeal.lean ====
abbrev S4x4096x1024 : Shape := ⟨3, ![4, 4096, 1024]⟩
abbrev S4x4096x256 : Shape := ⟨3, ![4, 4096, 256]⟩
abbrev S4x4096x768 : Shape := ⟨3, ![4, 4096, 768]⟩
abbrev S1024x1024 : Shape := ⟨2, ![1024, 1024]⟩
abbrev S1024 : Shape := ⟨1, ![1024]⟩
abbrev S2x1024x3584 : Shape := ⟨3, ![2, 1024, 3584]⟩
abbrev S2x3584x1024 : Shape := ⟨3, ![2, 3584, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x3584 : Shape := ⟨3, ![1, 1024, 3584]⟩
abbrev S1024x3584 : Shape := ⟨2, ![1024, 3584]⟩
abbrev S1x3584x1024 : Shape := ⟨3, ![1, 3584, 1024]⟩
abbrev S3584x1024 : Shape := ⟨2, ![3584, 1024]⟩
abbrev S4x4096x3584 : Shape := ⟨3, ![4, 4096, 3584]⟩
abbrev S16384x1024 : Shape := ⟨2, ![16384, 1024]⟩

abbrev nBuf : Space → Nat
  | .hbm => 50
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x256, .bf16⟩
  | .hbm, ⟨2, _⟩ => ⟨S4x4096x768, .bf16⟩
  | .hbm, ⟨3, _⟩ => ⟨S1024x1024, .f32⟩
  | .hbm, ⟨4, _⟩ => ⟨S1024, .f32⟩
  | .hbm, ⟨5, _⟩ => ⟨S2x1024x3584, .f32⟩
  | .hbm, ⟨6, _⟩ => ⟨S2x1024x3584, .f32⟩
  | .hbm, ⟨7, _⟩ => ⟨S2x3584x1024, .f32⟩
  | .hbm, ⟨8, _⟩ => ⟨S4x4096x256, .f32⟩
  | .hbm, ⟨9, _⟩ => ⟨S4x4096x768, .f32⟩
  | .hbm, ⟨10, _⟩ => ⟨S4x4096x1024, .f32⟩
  | .hbm, ⟨11, _⟩ => ⟨S4x4096x1024, .f32⟩
  | .hbm, ⟨12, _⟩ => ⟨S4x4096x1024, .f32⟩
  | .hbm, ⟨13, _⟩ => ⟨S4x4096x1024, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S4x4096x1, .f32⟩
  | .hbm, ⟨24, _⟩ => ⟨S4x4096x1024, .f32⟩
  | .hbm, ⟨25, _⟩ => ⟨S4x4096x1024, .f32⟩
  | .hbm, ⟨26, _⟩ => ⟨S1x1x1024, .f32⟩
  | .hbm, ⟨27, _⟩ => ⟨S4x4096x1024, .f32⟩
  | .hbm, ⟨28, _⟩ => ⟨S4x4096x1024, .f32⟩
  | .hbm, ⟨29, _⟩ => ⟨S1x1024x3584, .f32⟩
  | .hbm, ⟨30, _⟩ => ⟨S1024x3584, .f32⟩
  | .hbm, ⟨31, _⟩ => ⟨S1x1024x3584, .f32⟩
  | .hbm, ⟨32, _⟩ => ⟨S1024x3584, .f32⟩
  | .hbm, ⟨33, _⟩ => ⟨S1x3584x1024, .f32⟩
  | .hbm, ⟨34, _⟩ => ⟨S3584x1024, .f32⟩
  | .hbm, ⟨35, _⟩ => ⟨S4x4096x3584, .f32⟩
  | .hbm, ⟨36, _⟩ => ⟨S4x4096x3584, .f32⟩
  | .hbm, ⟨37, _⟩ => ⟨S4x4096x3584, .f32⟩
  | .hbm, ⟨38, _⟩ => ⟨S_, .f32⟩
  | .hbm, ⟨39, _⟩ => ⟨S4x4096x3584, .f32⟩
  | .hbm, ⟨40, _⟩ => ⟨S4x4096x3584, .f32⟩
  | .hbm, ⟨41, _⟩ => ⟨S_, .f32⟩
  | .hbm, ⟨42, _⟩ => ⟨S4x4096x3584, .f32⟩
  | .hbm, ⟨43, _⟩ => ⟨S4x4096x3584, .f32⟩
  | .hbm, ⟨44, _⟩ => ⟨S4x4096x3584, .f32⟩
  | .hbm, ⟨45, _⟩ => ⟨S4x4096x3584, .f32⟩
  | .hbm, ⟨46, _⟩ => ⟨S4x4096x3584, .f32⟩
  | .hbm, ⟨47, _⟩ => ⟨S4x4096x1024, .f32⟩
  | .hbm, ⟨48, _⟩ => ⟨S4x4096x1024, .f32⟩
  | .hbm, ⟨49, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩

abbrev nD : Nat := 1
abbrev τ : Topo := Topo.v7x

variable {F : FTy → Type} [FloatOps F]
-- ==== EvenProj.lean ====
abbrev S4x4096x1024 : Shape := ⟨3, ![4, 4096, 1024]⟩
abbrev S1024 : Shape := ⟨1, ![1024]⟩
abbrev S1024x2572 : Shape := ⟨2, ![1024, 2572]⟩
abbrev S1024x256 : Shape := ⟨2, ![1024, 256]⟩
abbrev S1024x2304 : Shape := ⟨2, ![1024, 2304]⟩
abbrev S1024x12 : Shape := ⟨2, ![1024, 12]⟩
abbrev S_ : Shape := ⟨0, ![]⟩
abbrev S1024x128 : Shape := ⟨2, ![1024, 128]⟩
abbrev S16384x1024 : Shape := ⟨2, ![16384, 1024]⟩
abbrev S1x1024 : Shape := ⟨2, ![1, 1024]⟩
abbrev S16384x2304 : Shape := ⟨2, ![16384, 2304]⟩
abbrev S16384x256 : Shape := ⟨2, ![16384, 256]⟩
abbrev S16384x128 : Shape := ⟨2, ![16384, 128]⟩
abbrev S512x1024 : Shape := ⟨2, ![512, 1024]⟩
abbrev S512x2304 : Shape := ⟨2, ![512, 2304]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 17
  | .vmem => 12
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x2572, .f32⟩
  | .hbm, ⟨3, _⟩ => ⟨S1024x256, .f32⟩
  | .hbm, ⟨4, _⟩ => ⟨S1024x256, .bf16⟩
  | .hbm, ⟨5, _⟩ => ⟨S1024x2304, .f32⟩
  | .hbm, ⟨6, _⟩ => ⟨S1024x2304, .bf16⟩
  | .hbm, ⟨7, _⟩ => ⟨S1024x12, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x128, .bf16⟩
  | .hbm, ⟨12, _⟩ => ⟨S16384x1024, .f32⟩
  | .hbm, ⟨13, _⟩ => ⟨S1x1024, .f32⟩
  | .hbm, ⟨14, _⟩ => ⟨S16384x2304, .bf16⟩
  | .hbm, ⟨15, _⟩ => ⟨S16384x256, .f32⟩
  | .hbm, ⟨16, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2304, .bf16⟩
  | .local _ .vmem, ⟨4, _⟩ => ⟨S1024x256, .bf16⟩
  | .local _ .vmem, ⟨5, _⟩ => ⟨S1024x128, .bf16⟩
  | .local _ .vmem, ⟨6, _⟩ => ⟨S512x2304, .bf16⟩
  | .local _ .vmem, ⟨7, _⟩ => ⟨S512x2304, .bf16⟩
  | .local _ .vmem, ⟨8, _⟩ => ⟨S512x256, .f32⟩
  | .local _ .vmem, ⟨9, _⟩ => ⟨S512x256, .f32⟩
  | .local _ .vmem, ⟨10, _⟩ => ⟨S512x128, .f32⟩
  | .local _ .vmem, ⟨11, _⟩ => ⟨S512x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2304 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== EvenProjReferenceIdeal.lean ====
abbrev S4x4096x1024 : Shape := ⟨3, ![4, 4096, 1024]⟩
abbrev S1024 : Shape := ⟨1, ![1024]⟩
abbrev S1024x2572 : Shape := ⟨2, ![1024, 2572]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x2572 : Shape := ⟨3, ![4, 4096, 2572]⟩
abbrev S4x4096x256 : Shape := ⟨3, ![4, 4096, 256]⟩
abbrev S4x4096x2304 : Shape := ⟨3, ![4, 4096, 2304]⟩
abbrev S4x4096x12 : Shape := ⟨3, ![4, 4096, 12]⟩
abbrev S4x4096x128 : Shape := ⟨3, ![4, 4096, 128]⟩
abbrev S16384x2304 : Shape := ⟨2, ![16384, 2304]⟩
abbrev S16384x256 : Shape := ⟨2, ![16384, 256]⟩
abbrev S16384x128 : Shape := ⟨2, ![16384, 128]⟩

abbrev nBuf : Space → Nat
  | .hbm => 30
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x2572, .f32⟩
  | .hbm, ⟨3, _⟩ => ⟨S4x4096x1024, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x1, .f32⟩
  | .hbm, ⟨14, _⟩ => ⟨S4x4096x1024, .f32⟩
  | .hbm, ⟨15, _⟩ => ⟨S4x4096x1024, .f32⟩
  | .hbm, ⟨16, _⟩ => ⟨S1x1x1024, .f32⟩
  | .hbm, ⟨17, _⟩ => ⟨S4x4096x1024, .f32⟩
  | .hbm, ⟨18, _⟩ => ⟨S4x4096x1024, .f32⟩
  | .hbm, ⟨19, _⟩ => ⟨S4x4096x2572, .f32⟩
  | .hbm, ⟨20, _⟩ => ⟨S4x4096x256, .f32⟩
  | .hbm, ⟨21, _⟩ => ⟨S4x4096x2304, .f32⟩
  | .hbm, ⟨22, _⟩ => ⟨S4x4096x12, .f32⟩
  | .hbm, ⟨23, _⟩ => ⟨S_, .i32⟩
  | .hbm, ⟨24, _⟩ => ⟨S_, .f32⟩
  | .hbm, ⟨25, _⟩ => ⟨S4x4096x128, .f32⟩
  | .hbm, ⟨26, _⟩ => ⟨S16384x2304, .f32⟩
  | .hbm, ⟨27, _⟩ => ⟨S16384x2304, .bf16⟩
  | .hbm, ⟨28, _⟩ => ⟨S16384x256, .f32⟩
  | .hbm, ⟨29, _⟩ => ⟨S16384x128, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_call0_v0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== OddProj.lean ====
abbrev S4x4096x1024 : Shape := ⟨3, ![4, 4096, 1024]⟩
abbrev S1024 : Shape := ⟨1, ![1024]⟩
abbrev S1024x3592 : Shape := ⟨2, ![1024, 3592]⟩
abbrev S1024x1536 : Shape := ⟨2, ![1024, 1536]⟩
abbrev S1024x1024 : Shape := ⟨2, ![1024, 1024]⟩
abbrev S1024x512 : Shape := ⟨2, ![1024, 512]⟩
abbrev S1024x8 : Shape := ⟨2, ![1024, 8]⟩
abbrev S_ : Shape := ⟨0, ![]⟩
abbrev S1024x128 : Shape := ⟨2, ![1024, 128]⟩
abbrev S16384x1024 : Shape := ⟨2, ![16384, 1024]⟩
abbrev S1x1024 : Shape := ⟨2, ![1, 1024]⟩
abbrev S16384x1536 : Shape := ⟨2, ![16384, 1536]⟩
abbrev S16384x512 : Shape := ⟨2, ![16384, 512]⟩
abbrev S16384x128 : Shape := ⟨2, ![16384, 128]⟩
abbrev S512x1024 : Shape := ⟨2, ![512, 1024]⟩
abbrev S512x1536 : Shape := ⟨2, ![512, 1536]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 23
  | .vmem => 18
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x3592, .f32⟩
  | .hbm, ⟨3, _⟩ => ⟨S1024x1536, .f32⟩
  | .hbm, ⟨4, _⟩ => ⟨S1024x1536, .bf16⟩
  | .hbm, ⟨5, _⟩ => ⟨S1024x1024, .f32⟩
  | .hbm, ⟨6, _⟩ => ⟨S1024x1024, .bf16⟩
  | .hbm, ⟨7, _⟩ => ⟨S1024x512, .f32⟩
  | .hbm, ⟨8, _⟩ => ⟨S1024x512, .bf16⟩
  | .hbm, ⟨9, _⟩ => ⟨S1024x512, .f32⟩
  | .hbm, ⟨10, _⟩ => ⟨S1024x512, .bf16⟩
  | .hbm, ⟨11, _⟩ => ⟨S1024x8, .f32⟩
  | .hbm, ⟨12, _⟩ => ⟨S_, .i32⟩
  | .hbm, ⟨13, _⟩ => ⟨S_, .f32⟩
  | .hbm, ⟨14, _⟩ => ⟨S1024x128, .f32⟩
  | .hbm, ⟨15, _⟩ => ⟨S1024x128, .bf16⟩
  | .hbm, ⟨16, _⟩ => ⟨S16384x1024, .f32⟩
  | .hbm, ⟨17, _⟩ => ⟨S1x1024, .f32⟩
  | .hbm, ⟨18, _⟩ => ⟨S16384x1536, .bf16⟩
  | .hbm, ⟨19, _⟩ => ⟨S16384x1024, .f32⟩
  | .hbm, ⟨20, _⟩ => ⟨S16384x512, .bf16⟩
  | .hbm, ⟨21, _⟩ => ⟨S16384x512, .f32⟩
  | .hbm, ⟨22, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1536, .bf16⟩
  | .local _ .vmem, ⟨4, _⟩ => ⟨S1024x1024, .bf16⟩
  | .local _ .vmem, ⟨5, _⟩ => ⟨S1024x512, .bf16⟩
  | .local _ .vmem, ⟨6, _⟩ => ⟨S1024x512, .bf16⟩
  | .local _ .vmem, ⟨7, _⟩ => ⟨S1024x128, .bf16⟩
  | .local _ .vmem, ⟨8, _⟩ => ⟨S512x1536, .bf16⟩
  | .local _ .vmem, ⟨9, _⟩ => ⟨S512x1536, .bf16⟩
  | .local _ .vmem, ⟨10, _⟩ => ⟨S512x1024, .f32⟩
  | .local _ .vmem, ⟨11, _⟩ => ⟨S512x1024, .f32⟩
  | .local _ .vmem, ⟨12, _⟩ => ⟨S512x512, .bf16⟩
  | .local _ .vmem, ⟨13, _⟩ => ⟨S512x512, .bf16⟩
  | .local _ .vmem, ⟨14, _⟩ => ⟨S512x512, .f32⟩
  | .local _ .vmem, ⟨15, _⟩ => ⟨S512x512, .f32⟩
  | .local _ .vmem, ⟨16, _⟩ => ⟨S512x128, .f32⟩
  | .local _ .vmem, ⟨17, _⟩ => ⟨S512x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev main_v13_2 : Ref sig .tc := ⟨.hbm, 20, rfl⟩
abbrev main_v13_3 : Ref sig .tc := ⟨.hbm, 21, rfl⟩
abbrev main_v13_4 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== OddProjReferenceIdeal.lean ====
abbrev S4x4096x1024 : Shape := ⟨3, ![4, 4096, 1024]⟩
abbrev S1024 : Shape := ⟨1, ![1024]⟩
abbrev S1024x3592 : Shape := ⟨2, ![1024, 3592]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x3592 : Shape := ⟨3, ![4, 4096, 3592]⟩
abbrev S4x4096x1536 : Shape := ⟨3, ![4, 4096, 1536]⟩
abbrev S4x4096x512 : Shape := ⟨3, ![4, 4096, 512]⟩
abbrev S4x4096x8 : Shape := ⟨3, ![4, 4096, 8]⟩
abbrev S4x4096x128 : Shape := ⟨3, ![4, 4096, 128]⟩
abbrev S16384x1536 : Shape := ⟨2, ![16384, 1536]⟩
abbrev S16384x1024 : Shape := ⟨2, ![16384, 1024]⟩
abbrev S16384x512 : Shape := ⟨2, ![16384, 512]⟩
abbrev S16384x128 : Shape := ⟨2, ![16384, 128]⟩

abbrev nBuf : Space → Nat
  | .hbm => 35
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x3592, .f32⟩
  | .hbm, ⟨3, _⟩ => ⟨S4x4096x1024, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x1, .f32⟩
  | .hbm, ⟨14, _⟩ => ⟨S4x4096x1024, .f32⟩
  | .hbm, ⟨15, _⟩ => ⟨S4x4096x1024, .f32⟩
  | .hbm, ⟨16, _⟩ => ⟨S1x1x1024, .f32⟩
  | .hbm, ⟨17, _⟩ => ⟨S4x4096x1024, .f32⟩
  | .hbm, ⟨18, _⟩ => ⟨S4x4096x1024, .f32⟩
  | .hbm, ⟨19, _⟩ => ⟨S4x4096x3592, .f32⟩
  | .hbm, ⟨20, _⟩ => ⟨S4x4096x1536, .f32⟩
  | .hbm, ⟨21, _⟩ => ⟨S4x4096x1024, .f32⟩
  | .hbm, ⟨22, _⟩ => ⟨S4x4096x512, .f32⟩
  | .hbm, ⟨23, _⟩ => ⟨S4x4096x512, .f32⟩
  | .hbm, ⟨24, _⟩ => ⟨S4x4096x8, .f32⟩
  | .hbm, ⟨25, _⟩ => ⟨S_, .i32⟩
  | .hbm, ⟨26, _⟩ => ⟨S_, .f32⟩
  | .hbm, ⟨27, _⟩ => ⟨S4x4096x128, .f32⟩
  | .hbm, ⟨28, _⟩ => ⟨S16384x1536, .f32⟩
  | .hbm, ⟨29, _⟩ => ⟨S16384x1536, .bf16⟩
  | .hbm, ⟨30, _⟩ => ⟨S16384x1024, .f32⟩
  | .hbm, ⟨31, _⟩ => ⟨S16384x512, .f32⟩
  | .hbm, ⟨32, _⟩ => ⟨S16384x512, .bf16⟩
  | .hbm, ⟨33, _⟩ => ⟨S16384x512, .f32⟩
  | .hbm, ⟨34, _⟩ => ⟨S16384x128, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_call0_v0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== Router.lean ====
abbrev S4x4096x1024 : Shape := ⟨3, ![4, 4096, 1024]⟩
abbrev S4x4096x512 : Shape := ⟨3, ![4, 4096, 512]⟩
abbrev S1024x1024 : Shape := ⟨2, ![1024, 1024]⟩
abbrev S1024 : Shape := ⟨1, ![1024]⟩
abbrev S1024x8 : Shape := ⟨2, ![1024, 8]⟩
abbrev S16384x1024 : Shape := ⟨2, ![16384, 1024]⟩
abbrev S16384x512 : Shape := ⟨2, ![16384, 512]⟩
abbrev S_ : Shape := ⟨0, ![]⟩
abbrev S1024x128 : Shape := ⟨2, ![1024, 128]⟩
abbrev S1024x256 : Shape := ⟨2, ![1024, 256]⟩
abbrev S1x1024 : Shape := ⟨2, ![1, 1024]⟩
abbrev S131072x128 : Shape := ⟨2, ![131072, 128]⟩
abbrev S16384x128 : Shape := ⟨2, ![16384, 128]⟩
abbrev S512x1024 : Shape := ⟨2, ![512, 1024]⟩
abbrev S512x512 : Shape := ⟨2, ![512, 512]⟩
abbrev S4096x128 : Shape := ⟨2, ![4096, 128]⟩
abbrev S512x128 : Shape := ⟨2, ![512, 128]⟩
abbrev S512 : Shape := ⟨1, ![512]⟩
abbrev S512x1 : Shape := ⟨2, ![512, 1]⟩
abbrev S512x256 : Shape := ⟨2, ![512, 256]⟩

abbrev nBuf : Space → Nat
  | .hbm => 22
  | .vmem => 15
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .bf16⟩
  | .hbm, ⟨2, _⟩ => ⟨S4x4096x512, .bf16⟩
  | .hbm, ⟨3, _⟩ => ⟨S1024x1024, .f32⟩
  | .hbm, ⟨4, _⟩ => ⟨S1024, .f32⟩
  | .hbm, ⟨5, _⟩ => ⟨S1024x8, .f32⟩
  | .hbm, ⟨6, _⟩ => ⟨S16384x1024, .f32⟩
  | .hbm, ⟨7, _⟩ => ⟨S16384x512, .bf16⟩
  | .hbm, ⟨8, _⟩ => ⟨S16384x512, .bf16⟩
  | .hbm, ⟨9, _⟩ => ⟨S1024x1024, .bf16⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x128, .bf16⟩
  | .hbm, ⟨14, _⟩ => ⟨S1024x128, .f32⟩
  | .hbm, ⟨15, _⟩ => ⟨S1024x128, .f32⟩
  | .hbm, ⟨16, _⟩ => ⟨S1024x128, .bf16⟩
  | .hbm, ⟨17, _⟩ => ⟨S1024x256, .bf16⟩
  | .hbm, ⟨18, _⟩ => ⟨S1x1024, .f32⟩
  | .hbm, ⟨19, _⟩ => ⟨S16384x1024, .f32⟩
  | .hbm, ⟨20, _⟩ => ⟨S131072x128, .f32⟩
  | .hbm, ⟨21, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S1024x256, .bf16⟩
  | .local _ .vmem, ⟨9, _⟩ => ⟨S512x1024, .f32⟩
  | .local _ .vmem, ⟨10, _⟩ => ⟨S512x1024, .f32⟩
  | .local _ .vmem, ⟨11, _⟩ => ⟨S4096x128, .f32⟩
  | .local _ .vmem, ⟨12, _⟩ => ⟨S4096x128, .f32⟩
  | .local _ .vmem, ⟨13, _⟩ => ⟨S512x128, .f32⟩
  | .local _ .vmem, ⟨14, _⟩ => ⟨S512x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RouterReferenceIdeal.lean ====
abbrev S4x4096x1024 : Shape := ⟨3, ![4, 4096, 1024]⟩
abbrev S4x4096x512 : Shape := ⟨3, ![4, 4096, 512]⟩
abbrev S1024x1024 : Shape := ⟨2, ![1024, 1024]⟩
abbrev S1024 : Shape := ⟨1, ![1024]⟩
abbrev S1024x8 : Shape := ⟨2, ![1024, 8]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S16384x1024 : Shape := ⟨2, ![16384, 1024]⟩
abbrev S16384x8 : Shape := ⟨2, ![16384, 8]⟩
abbrev S16384x2 : Shape := ⟨2, ![16384, 2]⟩
abbrev S16384 : Shape := ⟨1, ![16384]⟩
abbrev S16384x1 : Shape := ⟨2, ![16384, 1]⟩
abbrev S16384x4 : Shape := ⟨2, ![16384, 4]⟩
abbrev S131072x128 : Shape := ⟨2, ![131072, 128]⟩
abbrev S16384x128 : Shape := ⟨2, ![16384, 128]⟩

abbrev nBuf : Space → Nat
  | .hbm => 52
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .bf16⟩
  | .hbm, ⟨2, _⟩ => ⟨S4x4096x512, .bf16⟩
  | .hbm, ⟨3, _⟩ => ⟨S1024x1024, .f32⟩
  | .hbm, ⟨4, _⟩ => ⟨S1024, .f32⟩
  | .hbm, ⟨5, _⟩ => ⟨S1024x8, .f32⟩
  | .hbm, ⟨6, _⟩ => ⟨S4x4096x512, .f32⟩
  | .hbm, ⟨7, _⟩ => ⟨S4x4096x512, .f32⟩
  | .hbm, ⟨8, _⟩ => ⟨S4x4096x1024, .f32⟩
  | .hbm, ⟨9, _⟩ => ⟨S4x4096x1024, .f32⟩
  | .hbm, ⟨10, _⟩ => ⟨S4x4096x1024, .f32⟩
  | .hbm, ⟨11, _⟩ => ⟨S4x4096x1024, .f32⟩
  | .hbm, ⟨12, _⟩ => ⟨S_, .f32⟩
  | .hbm, ⟨13, _⟩ => ⟨S4x4096, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S4x4096x1, .f32⟩
  | .hbm, ⟨22, _⟩ => ⟨S4x4096x1024, .f32⟩
  | .hbm, ⟨23, _⟩ => ⟨S4x4096x1024, .f32⟩
  | .hbm, ⟨24, _⟩ => ⟨S1x1x1024, .f32⟩
  | .hbm, ⟨25, _⟩ => ⟨S4x4096x1024, .f32⟩
  | .hbm, ⟨26, _⟩ => ⟨S4x4096x1024, .f32⟩
  | .hbm, ⟨27, _⟩ => ⟨S16384x1024, .f32⟩
  | .hbm, ⟨28, _⟩ => ⟨S16384x8, .f32⟩
  | .hbm, ⟨29, _⟩ => ⟨S16384x2, .f32⟩
  | .hbm, ⟨30, _⟩ => ⟨S16384x2, .i32⟩
  | .hbm, ⟨31, _⟩ => ⟨S_, .f32⟩
  | .hbm, ⟨32, _⟩ => ⟨S16384, .f32⟩
  | .hbm, ⟨33, _⟩ => ⟨S_, .f32⟩
  | .hbm, ⟨34, _⟩ => ⟨S16384, .f32⟩
  | .hbm, ⟨35, _⟩ => ⟨S16384, .f32⟩
  | .hbm, ⟨36, _⟩ => ⟨S16384x1, .f32⟩
  | .hbm, ⟨37, _⟩ => ⟨S16384x2, .f32⟩
  | .hbm, ⟨38, _⟩ => ⟨S16384x2, .f32⟩
  | .hbm, ⟨39, _⟩ => ⟨S16384x2, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S16384x2, .f32⟩
  | .hbm, ⟨44, _⟩ => ⟨S16384x2, .f32⟩
  | .hbm, ⟨45, _⟩ => ⟨S16384x2, .f32⟩
  | .hbm, ⟨46, _⟩ => ⟨S16384x4, .f32⟩
  | .hbm, ⟨47, _⟩ => ⟨S16384x1024, .f32⟩
  | .hbm, ⟨48, _⟩ => ⟨S131072x128, .f32⟩
  | .hbm, ⟨49, _⟩ => ⟨S_, .i32⟩
  | .hbm, ⟨50, _⟩ => ⟨S_, .f32⟩
  | .hbm, ⟨51, _⟩ => ⟨S16384x128, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_values : Ref sig .tc := ⟨.hbm, 29, rfl⟩
abbrev main_indices : Ref sig .tc := ⟨.hbm, 30, rfl⟩
abbrev main_cst_2 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c : Ref sig .tc := ⟨.hbm, 49, rfl⟩
abbrev main_call0_v0 : Ref sig .tc := ⟨.hbm, 50, rfl⟩
abbrev main_v35 : Ref sig .tc := ⟨.hbm, 51, rfl⟩

abbrev nD : Nat := 1
abbrev τ : Topo := Topo.v7x

variable {F : FTy → Type} [FloatOps F]
-- ==== Stick.lean ====
abbrev S4x4096x512 : Shape := ⟨3, ![4, 4096, 512]⟩
abbrev S_ : Shape := ⟨0, ![]⟩
abbrev S4x4096x1536 : Shape := ⟨3, ![4, 4096, 1536]⟩
abbrev S1x512x128 : Shape := ⟨3, ![1, 512, 128]⟩
abbrev S1x4096x128 : Shape := ⟨3, ![1, 4096, 128]⟩
abbrev S1x128 : Shape := ⟨2, ![1, 128]⟩
abbrev S512x128 : Shape := ⟨2, ![512, 128]⟩
abbrev S512x256 : Shape := ⟨2, ![512, 256]⟩
abbrev S256x256 : Shape := ⟨2, ![256, 256]⟩
abbrev S512x1 : Shape := ⟨2, ![512, 1]⟩
abbrev S1x256x128 : Shape := ⟨3, ![1, 256, 128]⟩
abbrev S256x128 : Shape := ⟨2, ![256, 128]⟩
abbrev S256x1 : Shape := ⟨2, ![256, 1]⟩

abbrev nBuf : Space → Nat
  | .hbm => 14
  | .vmem => 8
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x512, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4x4096x512, .f32⟩
  | .hbm, ⟨10, _⟩ => ⟨S4x4096x512, .f32⟩
  | .hbm, ⟨11, _⟩ => ⟨S4x4096x1536, .f32⟩
  | .hbm, ⟨12, _⟩ => ⟨S4x4096x1536, .bf16⟩
  | .hbm, ⟨13, _⟩ => ⟨S4x4096x512, .bf16⟩
  | .local _ .vmem, ⟨0, _⟩ => ⟨S1x512x128, .bf16⟩
  | .local _ .vmem, ⟨1, _⟩ => ⟨S1x512x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x512x128, .bf16⟩
  | .local _ .vmem, ⟨7, _⟩ => ⟨S1x512x128, .bf16⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 8], ![false, false, false]⟩

def k0_cond1 (i : grid0.Coords) : BitVec 1 :=
  let arg2 : BitVec 32 := BitVec.ofNat 32 (i 2).val
  let c2_i32 : BitVec 32 := 2#32
  let v22 : BitVec 32 := Scalar.muli arg2 c2_i32
  let c4_i32 : BitVec 32 := 4#32
  let c0_i32 : BitVec 32 := 0#32
  let v23 : BitVec 1 := Scalar.cmpi .eq c4_i32 c0_i32
  let c1_i32 : BitVec 32 := 1#32
  let v24 : BitVec 32 := Scalar.select v23 c1_i32 c4_i32
  let v25 : BitVec 32 := Scalar.remsi v22 v24
  let c0_i32_6 : BitVec 32 := 0#32
  let v27 : BitVec 1 := Scalar.cmpi .slt v25 c0_i32_6
  let c0_i32_7 : BitVec 32 := 0#32
  let v28 : BitVec 1 := Scalar.cmpi .slt v24 c0_i32_7
  let v29 : BitVec 1 := Scalar.xori v27 v28
  let c0_i32_5 : BitVec 32 := 0#32
  let v26 : BitVec 1 := Scalar.cmpi .ne v25 c0_i32_5
  let v30 : BitVec 1 := Scalar.andi v29 v26
  let v31 : BitVec 32 := Scalar.addi v25 v24
  let v32 : BitVec 32 := Scalar.select v30 v31 v25
  let c0_i32_11 : BitVec 32 := 0#32
  let v36 : BitVec 1 := Scalar.cmpi .sgt v32 c0_i32_11
  let v37 : BitVec 32 := Scalar.extui v36
  let c0_i32_12 : BitVec 32 := 0#32
  let v38 : BitVec 1 := Scalar.cmpi .slt v32 c0_i32_12
  let v39 : BitVec 32 := Scalar.extui v38
  let v40 : BitVec 32 := Scalar.subi v37 v39
  let c2_i32_10 : BitVec 32 := 2#32
  let c0_i32_13 : BitVec 32 := 0#32
  let v41 : BitVec 1 := Scalar.cmpi .sgt c2_i32_10 c0_i32_13
  let v42 : BitVec 32 := Scalar.extui v41
  let c0_i32_14 : BitVec 32 := 0#32
  let v43 : BitVec 1 := Scalar.cmpi .slt c2_i32_10 c0_i32_14
  let v44 : BitVec 32 := Scalar.extui v43
  let v45 : BitVec 32 := Scalar.subi v42 v44
  let v46 : BitVec 1 := Scalar.cmpi .ne v40 v45
  let v47 : BitVec 32 := Scalar.remsi v32 c2_i32_10
  let c0_i32_15 : BitVec 32 := 0#32
  let v48 : BitVec 1 := Scalar.cmpi .ne v47 c0_i32_15
  let v49 : BitVec 1 := Scalar.andi v46 v48
  let v35 : BitVec 32 := Scalar.divsi v32 c2_i32_10
  let c1_i32_16 : BitVec 32 := 1#32
  let v50 : BitVec 32 := Scalar.subi v35 c1_i32_16
  let v51 : BitVec 32 := Scalar.select v49 v50 v35
  let c0_i32_17 : BitVec 32 := 0#32
  let v52 : BitVec 32 := Scalar.maxsi v51 c0_i32_17
  let c1_i32_18 : BitVec 32 := 1#32
  let v53 : BitVec 32 := Scalar.minsi v52 c1_i32_18
  let c0_i32_19 : BitVec 32 := 0#32
  let v54 : BitVec 1 := Scalar.cmpi .ne v53 c0_i32_19
  v54

def k0_mult1 (i : grid0.Coords) : BitVec 32 :=
  let arg2 : BitVec 32 := BitVec.ofNat 32 (i 2).val
  let c1_i32_34 : BitVec 32 := 1#32
  let v85 : BitVec 32 := Scalar.addi arg2 c1_i32_34
  let c2_i32_35 : BitVec 32 := 2#32
  let v86 : BitVec 32 := Scalar.muli v85 c2_i32_35
  let c1_i32_36 : BitVec 32 := 1#32
  let v87 : BitVec 32 := Scalar.subi v86 c1_i32_36
  let c0_i32_37 : BitVec 32 := 0#32
  let v88 : BitVec 32 := Scalar.subi v87 c0_i32_37
  let c256_i32 : BitVec 32 := 256#32
  let v89 : BitVec 32 := Scalar.muli v88 c256_i32
  v89
def k0_off1 (i : grid0.Coords) (c0_i32_37 : BitVec 32) : Fin 3 → Nat :=
  let c0_38 : Index := 0#32
  let arg2 : BitVec 32 := BitVec.ofNat 32 (i 2).val
  let c1_i32_34 : BitVec 32 := 1#32
  let v85 : BitVec 32 := Scalar.addi arg2 c1_i32_34
  let c2_i32_35 : BitVec 32 := 2#32
  let v86 : BitVec 32 := Scalar.muli v85 c2_i32_35
  let c1_i32_36 : BitVec 32 := 1#32
  let v87 : BitVec 32 := Scalar.subi v86 c1_i32_36
  let v88 : BitVec 32 := Scalar.subi v87 c0_i32_37
  let c256_i32 : BitVec 32 := 256#32
  let v89 : BitVec 32 := Scalar.muli v88 c256_i32
  let v90 : BitVec 32 := v89
  let v91 : Index := Scalar.indexCast v90
  let c0_39 : Index := 0#32
  ![0, v91.toNat, 0]
def k0_mult2 (i : grid0.Coords) : BitVec 32 :=
  let arg2 : BitVec 32 := BitVec.ofNat 32 (i 2).val
  let c1_i32_34 : BitVec 32 := 1#32
  let v85 : BitVec 32 := Scalar.addi arg2 c1_i32_34
  let c2_i32_35 : BitVec 32 := 2#32
  let v86 : BitVec 32 := Scalar.muli v85 c2_i32_35
  let c1_i32_36 : BitVec 32 := 1#32
  let v87 : BitVec 32 := Scalar.subi v86 c1_i32_36
  let c0_i32_37 : BitVec 32 := 0#32
  let v88 : BitVec 32 := Scalar.subi v87 c0_i32_37
  let c256_i32_42 : BitVec 32 := 256#32
  let v98 : BitVec 32 := Scalar.muli v88 c256_i32_42
  v98
def k0_mult3 (i : grid0.Coords) : BitVec 32 :=
  let arg2 : BitVec 32 := BitVec.ofNat 32 (i 2).val
  let c1_i32_59 : BitVec 32 := 1#32
  let v174 : BitVec 32 := Scalar.addi arg2 c1_i32_59
  let c2_i32_60 : BitVec 32 := 2#32
  let v175 : BitVec 32 := Scalar.muli v174 c2_i32_60
  let c1_i32_61 : BitVec 32 := 1#32
  let v176 : BitVec 32 := Scalar.subi v175 c1_i32_61
  let c1_i32_62 : BitVec 32 := 1#32
  let v177 : BitVec 32 := Scalar.subi v176 c1_i32_62
  let c256_i32_63 : BitVec 32 := 256#32
  let v178 : BitVec 32 := Scalar.muli v177 c256_i32_63
  v178
def k0_mult4 (i : grid0.Coords) : BitVec 32 :=
  let arg2 : BitVec 32 := BitVec.ofNat 32 (i 2).val
  let c1_i32_59 : BitVec 32 := 1#32
  let v174 : BitVec 32 := Scalar.addi arg2 c1_i32_59
  let c2_i32_60 : BitVec 32 := 2#32
  let v175 : BitVec 32 := Scalar.muli v174 c2_i32_60
  let c1_i32_61 : BitVec 32 := 1#32
  let v176 : BitVec 32 := Scalar.subi v175 c1_i32_61
  let c1_i32_62 : BitVec 32 := 1#32
  let v177 : BitVec 32 := Scalar.subi v176 c1_i32_62
  let c256_i32_68 : BitVec 32 := 256#32
  let v185 : BitVec 32 := Scalar.muli v177 c256_i32_68
  v185
def k0_mult5 (i : grid0.Coords) : BitVec 32 :=
  let arg2 : BitVec 32 := BitVec.ofNat 32 (i 2).val
  let c2_i32 : BitVec 32 := 2#32
  let v22 : BitVec 32 := Scalar.muli arg2 c2_i32
  let c1_i32_85 : BitVec 32 := 1#32
  let v249 : BitVec 32 := Scalar.subi v22 c1_i32_85
  let c0_i32_87 : BitVec 32 := 0#32
  let v251 : BitVec 32 := Scalar.subi v249 c0_i32_87
  let c256_i32_88 : BitVec 32 := 256#32
  let v252 : BitVec 32 := Scalar.muli v251 c256_i32_88
  v252
def k0_off2 (i : grid0.Coords) (c0_i32_87 : BitVec 32) : Fin 3 → Nat :=
  let c0_89 : Index := 0#32
  let arg2 : BitVec 32 := BitVec.ofNat 32 (i 2).val
  let c2_i32 : BitVec 32 := 2#32
  let v22 : BitVec 32 := Scalar.muli arg2 c2_i32
  let c1_i32_85 : BitVec 32 := 1#32
  let v249 : BitVec 32 := Scalar.subi v22 c1_i32_85
  let v251 : BitVec 32 := Scalar.subi v249 c0_i32_87
  let c256_i32_88 : BitVec 32 := 256#32
  let v252 : BitVec 32 := Scalar.muli v251 c256_i32_88
  let v253 : BitVec 32 := v252
  let v254 : Index := Scalar.indexCast v253
  let c0_90 : Index := 0#32
  ![0, v254.toNat, 0]
def k0_mult6 (i : grid0.Coords) : BitVec 32 :=
  let arg2 : BitVec 32 := BitVec.ofNat 32 (i 2).val
  let c2_i32 : BitVec 32 := 2#32
  let v22 : BitVec 32 := Scalar.muli arg2 c2_i32
  let c1_i32_85 : BitVec 32 := 1#32
  let v249 : BitVec 32 := Scalar.subi v22 c1_i32_85
  let c0_i32_86 : BitVec 32 := 0#32
  let v250 : BitVec 32 := Scalar.subi v249 c0_i32_86
  let c256_i32_93 : BitVec 32 := 256#32
  let v259 : BitVec 32 := Scalar.muli v250 c256_i32_93
  v259
def k0_mult7 (i : grid0.Coords) : BitVec 32 :=
  let arg2 : BitVec 32 := BitVec.ofNat 32 (i 2).val
  let c2_i32 : BitVec 32 := 2#32
  let v22 : BitVec 32 := Scalar.muli arg2 c2_i32
  let c1_i32_85 : BitVec 32 := 1#32
  let v249 : BitVec 32 := Scalar.subi v22 c1_i32_85
  let c1_i32_107 : BitVec 32 := 1#32
  let v315 : BitVec 32 := Scalar.subi v249 c1_i32_107
  let c256_i32_108 : BitVec 32 := 256#32
  let v316 : BitVec 32 := Scalar.muli v315 c256_i32_108
  v316
def k0_mult8 (i : grid0.Coords) : BitVec 32 :=
  let arg2 : BitVec 32 := BitVec.ofNat 32 (i 2).val
  let c2_i32 : BitVec 32 := 2#32
  let v22 : BitVec 32 := Scalar.muli arg2 c2_i32
  let c1_i32_85 : BitVec 32 := 1#32
  let v249 : BitVec 32 := Scalar.subi v22 c1_i32_85
  let c1_i32_106 : BitVec 32 := 1#32
  let v314 : BitVec 32 := Scalar.subi v249 c1_i32_106
  let c256_i32_113 : BitVec 32 := 256#32
  let v323 : BitVec 32 := Scalar.muli v314 c256_i32_113
  v323
def k0_mult9 (i : grid0.Coords) : BitVec 32 :=
  let arg2 : BitVec 32 := BitVec.ofNat 32 (i 2).val
  let c1_i32_34 : BitVec 32 := 1#32
  let v85 : BitVec 32 := Scalar.addi arg2 c1_i32_34
  let c2_i32_35 : BitVec 32 := 2#32
  let v86 : BitVec 32 := Scalar.muli v85 c2_i32_35
  let c1_i32_36 : BitVec 32 := 1#32
  let v87 : BitVec 32 := Scalar.subi v86 c1_i32_36
  let c0_i32_37 : BitVec 32 := 0#32
  let v88 : BitVec 32 := Scalar.subi v87 c0_i32_37
  let c256_i32 : BitVec 32 := 256#32
  let v89 : BitVec 32 := Scalar.muli v88 c256_i32
  v89
def k0_off3 (i : grid0.Coords) (c0_i32_37 : BitVec 32) : Fin 3 → Nat :=
  let c0_38 : Index := 0#32
  let arg2 : BitVec 32 := BitVec.ofNat 32 (i 2).val
  let c1_i32_34 : BitVec 32 := 1#32
  let v85 : BitVec 32 := Scalar.addi arg2 c1_i32_34
  let c2_i32_35 : BitVec 32 := 2#32
  let v86 : BitVec 32 := Scalar.muli v85 c2_i32_35
  let c1_i32_36 : BitVec 32 := 1#32
  let v87 : BitVec 32 := Scalar.subi v86 c1_i32_36
  let v88 : BitVec 32 := Scalar.subi v87 c0_i32_37
  let c256_i32 : BitVec 32 := 256#32
  let v89 : BitVec 32 := Scalar.muli v88 c256_i32
  let v90 : BitVec 32 := v89
  let v91 : Index := Scalar.indexCast v90
  let c0_39 : Index := 0#32
  ![0, v91.toNat, 0]
def k0_mult10 (i : grid0.Coords) : BitVec 32 :=
  let arg2 : BitVec 32 := BitVec.ofNat 32 (i 2).val
  let c1_i32_34 : BitVec 32 := 1#32
  let v85 : BitVec 32 := Scalar.addi arg2 c1_i32_34
  let c2_i32_35 : BitVec 32 := 2#32
  let v86 : BitVec 32 := Scalar.muli v85 c2_i32_35
  let c1_i32_36 : BitVec 32 := 1#32
  let v87 : BitVec 32 := Scalar.subi v86 c1_i32_36
  let c0_i32_37 : BitVec 32 := 0#32
  let v88 : BitVec 32 := Scalar.subi v87 c0_i32_37
  let c256_i32_42 : BitVec 32 := 256#32
  let v98 : BitVec 32 := Scalar.muli v88 c256_i32_42
  v98
def k0_mult11 (i : grid0.Coords) : BitVec 32 :=
  let arg2 : BitVec 32 := BitVec.ofNat 32 (i 2).val
  let c1_i32_59 : BitVec 32 := 1#32
  let v174 : BitVec 32 := Scalar.addi arg2 c1_i32_59
  let c2_i32_60 : BitVec 32 := 2#32
  let v175 : BitVec 32 := Scalar.muli v174 c2_i32_60
  let c1_i32_61 : BitVec 32 := 1#32
  let v176 : BitVec 32 := Scalar.subi v175 c1_i32_61
  let c1_i32_62 : BitVec 32 := 1#32
  let v177 : BitVec 32 := Scalar.subi v176 c1_i32_62
  let c256_i32_63 : BitVec 32 := 256#32
  let v178 : BitVec 32 := Scalar.muli v177 c256_i32_63
  v178
def k0_mult12 (i : grid0.Coords) : BitVec 32 :=
  let arg2 : BitVec 32 := BitVec.ofNat 32 (i 2).val
  let c1_i32_59 : BitVec 32 := 1#32
  let v174 : BitVec 32 := Scalar.addi arg2 c1_i32_59
  let c2_i32_60 : BitVec 32 := 2#32
  let v175 : BitVec 32 := Scalar.muli v174 c2_i32_60
  let c1_i32_61 : BitVec 32 := 1#32
  let v176 : BitVec 32 := Scalar.subi v175 c1_i32_61
  let c1_i32_62 : BitVec 32 := 1#32
  let v177 : BitVec 32 := Scalar.subi v176 c1_i32_62
  let c256_i32_68 : BitVec 32 := 256#32
  let v185 : BitVec 32 := Scalar.muli v177 c256_i32_68
  v185
@[reducible] def k0_t1_loop (i : grid0.Coords) : Scf.Loop 32 :=
  let c0_i32_27 : BitVec 32 := 0#32
  let arg2 : BitVec 32 := BitVec.ofNat 32 (i 2).val
  let c2_i32 : BitVec 32 := 2#32
  let v22 : BitVec 32 := Scalar.muli arg2 c2_i32
  let c4_i32 : BitVec 32 := 4#32
  let c0_i32 : BitVec 32 := 0#32
  let v23 : BitVec 1 := Scalar.cmpi .eq c4_i32 c0_i32
  let c1_i32 : BitVec 32 := 1#32
  let v24 : BitVec 32 := Scalar.select v23 c1_i32 c4_i32
  let v25 : BitVec 32 := Scalar.remsi v22 v24
  let c0_i32_6 : BitVec 32 := 0#32
  let v27 : BitVec 1 := Scalar.cmpi .slt v25 c0_i32_6
  let c0_i32_7 : BitVec 32 := 0#32
  let v28 : BitVec 1 := Scalar.cmpi .slt v24 c0_i32_7
  let v29 : BitVec 1 := Scalar.xori v27 v28
  let c0_i32_5 : BitVec 32 := 0#32
  let v26 : BitVec 1 := Scalar.cmpi .ne v25 c0_i32_5
  let v30 : BitVec 1 := Scalar.andi v29 v26
  let v31 : BitVec 32 := Scalar.addi v25 v24
  let v32 : BitVec 32 := Scalar.select v30 v31 v25
  let v56 : BitVec 32 := Scalar.subi v22 v32
  let c0_i32_21 : BitVec 32 := 0#32
  let v58 : BitVec 1 := Scalar.cmpi .sgt v56 c0_i32_21
  let v59 : BitVec 32 := Scalar.extui v58
  let c0_i32_22 : BitVec 32 := 0#32
  let v60 : BitVec 1 := Scalar.cmpi .slt v56 c0_i32_22
  let v61 : BitVec 32 := Scalar.extui v60
  let v62 : BitVec 32 := Scalar.subi v59 v61
  let c4_i32_20 : BitVec 32 := 4#32
  let c0_i32_23 : BitVec 32 := 0#32
  let v63 : BitVec 1 := Scalar.cmpi .sgt c4_i32_20 c0_i32_23
  let v64 : BitVec 32 := Scalar.extui v63
  let c0_i32_24 : BitVec 32 := 0#32
  let v65 : BitVec 1 := Scalar.cmpi .slt c4_i32_20 c0_i32_24
  let v66 : BitVec 32 := Scalar.extui v65
  let v67 : BitVec 32 := Scalar.subi v64 v66
  let v68 : BitVec 1 := Scalar.cmpi .ne v62 v67
  let v69 : BitVec 32 := Scalar.remsi v56 c4_i32_20
  let c0_i32_25 : BitVec 32 := 0#32
  let v70 : BitVec 1 := Scalar.cmpi .ne v69 c0_i32_25
  let v71 : BitVec 1 := Scalar.andi v68 v70
  let v57 : BitVec 32 := Scalar.divsi v56 c4_i32_20
  let c1_i32_26 : BitVec 32 := 1#32
  let v72 : BitVec 32 := Scalar.subi v57 c1_i32_26
  let v73 : BitVec 32 := Scalar.select v71 v72 v57
  let v74 : BitVec 32 := Scalar.subi v73 c0_i32_27
  let c1_i32_28 : BitVec 32 := 1#32
  let v76 : BitVec 32 := Scalar.divsi v74 c1_i32_28
  let v77 : BitVec 32 := Scalar.muli v76 c1_i32_28
  let v78 : BitVec 32 := Scalar.addi c0_i32_27 v77
  let c1_i32_29 : BitVec 32 := 1#32
  ⟨c0_i32_27, v78, c1_i32_29⟩
def k0_mult13 (i : grid0.Coords) (k0_t1 : Fin (k0_t1_loop i).trips) : BitVec 32 :=
  let arg2 : BitVec 32 := BitVec.ofNat 32 (i 2).val
  let c2_i32 : BitVec 32 := 2#32
  let v22 : BitVec 32 := Scalar.muli arg2 c2_i32
  let c4_i32 : BitVec 32 := 4#32
  let c0_i32 : BitVec 32 := 0#32
  let v23 : BitVec 1 := Scalar.cmpi .eq c4_i32 c0_i32
  let c1_i32 : BitVec 32 := 1#32
  let v24 : BitVec 32 := Scalar.select v23 c1_i32 c4_i32
  let v25 : BitVec 32 := Scalar.remsi v22 v24
  let c0_i32_6 : BitVec 32 := 0#32
  let v27 : BitVec 1 := Scalar.cmpi .slt v25 c0_i32_6
  let c0_i32_7 : BitVec 32 := 0#32
  let v28 : BitVec 1 := Scalar.cmpi .slt v24 c0_i32_7
  let v29 : BitVec 1 := Scalar.xori v27 v28
  let c0_i32_5 : BitVec 32 := 0#32
  let v26 : BitVec 1 := Scalar.cmpi .ne v25 c0_i32_5
  let v30 : BitVec 1 := Scalar.andi v29 v26
  let v31 : BitVec 32 := Scalar.addi v25 v24
  let v32 : BitVec 32 := Scalar.select v30 v31 v25
  let v56 : BitVec 32 := Scalar.subi v22 v32
  let c1_i32_34 : BitVec 32 := 1#32
  let v85 : BitVec 32 := Scalar.subi v56 c1_i32_34
  let c4_i32_35 : BitVec 32 := 4#32
  let c0_i32_27 : BitVec 32 := 0#32
  let c1_i32_29 : BitVec 32 := 1#32
  let arg7 : BitVec 32 := Scf.iv c0_i32_27 c1_i32_29 k0_t1
  let v86 : BitVec 32 := Scalar.muli c4_i32_35 arg7
  let v87 : BitVec 32 := Scalar.subi v85 v86
  let c0_i32_37 : BitVec 32 := 0#32
  let v89 : BitVec 32 := Scalar.subi v87 c0_i32_37
  let c256_i32 : BitVec 32 := 256#32
  let v90 : BitVec 32 := Scalar.muli v89 c256_i32
  v90
def k0_off4 (i : grid0.Coords) (k0_t1 : Fin (k0_t1_loop i).trips) (c0_i32_37 : BitVec 32) : Fin 3 → Nat :=
  let c0_38 : Index := 0#32
  let arg2 : BitVec 32 := BitVec.ofNat 32 (i 2).val
  let c2_i32 : BitVec 32 := 2#32
  let v22 : BitVec 32 := Scalar.muli arg2 c2_i32
  let c4_i32 : BitVec 32 := 4#32
  let c0_i32 : BitVec 32 := 0#32
  let v23 : BitVec 1 := Scalar.cmpi .eq c4_i32 c0_i32
  let c1_i32 : BitVec 32 := 1#32
  let v24 : BitVec 32 := Scalar.select v23 c1_i32 c4_i32
  let v25 : BitVec 32 := Scalar.remsi v22 v24
  let c0_i32_6 : BitVec 32 := 0#32
  let v27 : BitVec 1 := Scalar.cmpi .slt v25 c0_i32_6
  let c0_i32_7 : BitVec 32 := 0#32
  let v28 : BitVec 1 := Scalar.cmpi .slt v24 c0_i32_7
  let v29 : BitVec 1 := Scalar.xori v27 v28
  let c0_i32_5 : BitVec 32 := 0#32
  let v26 : BitVec 1 := Scalar.cmpi .ne v25 c0_i32_5
  let v30 : BitVec 1 := Scalar.andi v29 v26
  let v31 : BitVec 32 := Scalar.addi v25 v24
  let v32 : BitVec 32 := Scalar.select v30 v31 v25
  let v56 : BitVec 32 := Scalar.subi v22 v32
  let c1_i32_34 : BitVec 32 := 1#32
  let v85 : BitVec 32 := Scalar.subi v56 c1_i32_34
  let c4_i32_35 : BitVec 32 := 4#32
  let c0_i32_27 : BitVec 32 := 0#32
  let c1_i32_29 : BitVec 32 := 1#32
  let arg7 : BitVec 32 := Scf.iv c0_i32_27 c1_i32_29 k0_t1
  let v86 : BitVec 32 := Scalar.muli c4_i32_35 arg7
  let v87 : BitVec 32 := Scalar.subi v85 v86
  let v89 : BitVec 32 := Scalar.subi v87 c0_i32_37
  let c256_i32 : BitVec 32 := 256#32
  let v90 : BitVec 32 := Scalar.muli v89 c256_i32
  let v91 : BitVec 32 := v90
  let v92 : Index := Scalar.indexCast v91
  let c0_39 : Index := 0#32
  ![0, v92.toNat, 0]
def k0_mult14 (i : grid0.Coords) (k0_t1 : Fin (k0_t1_loop i).trips) : BitVec 32 :=
  let arg2 : BitVec 32 := BitVec.ofNat 32 (i 2).val
  let c2_i32 : BitVec 32 := 2#32
  let v22 : BitVec 32 := Scalar.muli arg2 c2_i32
  let c4_i32 : BitVec 32 := 4#32
  let c0_i32 : BitVec 32 := 0#32
  let v23 : BitVec 1 := Scalar.cmpi .eq c4_i32 c0_i32
  let c1_i32 : BitVec 32 := 1#32
  let v24 : BitVec 32 := Scalar.select v23 c1_i32 c4_i32
  let v25 : BitVec 32 := Scalar.remsi v22 v24
  let c0_i32_6 : BitVec 32 := 0#32
  let v27 : BitVec 1 := Scalar.cmpi .slt v25 c0_i32_6
  let c0_i32_7 : BitVec 32 := 0#32
  let v28 : BitVec 1 := Scalar.cmpi .slt v24 c0_i32_7
  let v29 : BitVec 1 := Scalar.xori v27 v28
  let c0_i32_5 : BitVec 32 := 0#32
  let v26 : BitVec 1 := Scalar.cmpi .ne v25 c0_i32_5
  let v30 : BitVec 1 := Scalar.andi v29 v26
  let v31 : BitVec 32 := Scalar.addi v25 v24
  let v32 : BitVec 32 := Scalar.select v30 v31 v25
  let v56 : BitVec 32 := Scalar.subi v22 v32
  let c1_i32_34 : BitVec 32 := 1#32
  let v85 : BitVec 32 := Scalar.subi v56 c1_i32_34
  let c4_i32_35 : BitVec 32 := 4#32
  let c0_i32_27 : BitVec 32 := 0#32
  let c1_i32_29 : BitVec 32 := 1#32
  let arg7 : BitVec 32 := Scf.iv c0_i32_27 c1_i32_29 k0_t1
  let v86 : BitVec 32 := Scalar.muli c4_i32_35 arg7
  let v87 : BitVec 32 := Scalar.subi v85 v86
  let c0_i32_36 : BitVec 32 := 0#32
  let v88 : BitVec 32 := Scalar.subi v87 c0_i32_36
  let c256_i32_42 : BitVec 32 := 256#32
  let v97 : BitVec 32 := Scalar.muli v88 c256_i32_42
  v97
def k0_mult15 (i : grid0.Coords) (k0_t1 : Fin (k0_t1_loop i).trips) : BitVec 32 :=
  let arg2 : BitVec 32 := BitVec.ofNat 32 (i 2).val
  let c2_i32 : BitVec 32 := 2#32
  let v22 : BitVec 32 := Scalar.muli arg2 c2_i32
  let c4_i32 : BitVec 32 := 4#32
  let c0_i32 : BitVec 32 := 0#32
  let v23 : BitVec 1 := Scalar.cmpi .eq c4_i32 c0_i32
  let c1_i32 : BitVec 32 := 1#32
  let v24 : BitVec 32 := Scalar.select v23 c1_i32 c4_i32
  let v25 : BitVec 32 := Scalar.remsi v22 v24
  let c0_i32_6 : BitVec 32 := 0#32
  let v27 : BitVec 1 := Scalar.cmpi .slt v25 c0_i32_6
  let c0_i32_7 : BitVec 32 := 0#32
  let v28 : BitVec 1 := Scalar.cmpi .slt v24 c0_i32_7
  let v29 : BitVec 1 := Scalar.xori v27 v28
  let c0_i32_5 : BitVec 32 := 0#32
  let v26 : BitVec 1 := Scalar.cmpi .ne v25 c0_i32_5
  let v30 : BitVec 1 := Scalar.andi v29 v26
  let v31 : BitVec 32 := Scalar.addi v25 v24
  let v32 : BitVec 32 := Scalar.select v30 v31 v25
  let v56 : BitVec 32 := Scalar.subi v22 v32
  let c1_i32_34 : BitVec 32 := 1#32
  let v85 : BitVec 32 := Scalar.subi v56 c1_i32_34
  let c4_i32_35 : BitVec 32 := 4#32
  let c0_i32_27 : BitVec 32 := 0#32
  let c1_i32_29 : BitVec 32 := 1#32
  let arg7 : BitVec 32 := Scf.iv c0_i32_27 c1_i32_29 k0_t1
  let v86 : BitVec 32 := Scalar.muli c4_i32_35 arg7
  let v87 : BitVec 32 := Scalar.subi v85 v86
  let c1_i32_56 : BitVec 32 := 1#32
  let v153 : BitVec 32 := Scalar.subi v87 c1_i32_56
  let c256_i32_57 : BitVec 32 := 256#32
  let v154 : BitVec 32 := Scalar.muli v153 c256_i32_57
  v154
def k0_mult16 (i : grid0.Coords) (k0_t1 : Fin (k0_t1_loop i).trips) : BitVec 32 :=
  let arg2 : BitVec 32 := BitVec.ofNat 32 (i 2).val
  let c2_i32 : BitVec 32 := 2#32
  let v22 : BitVec 32 := Scalar.muli arg2 c2_i32
  let c4_i32 : BitVec 32 := 4#32
  let c0_i32 : BitVec 32 := 0#32
  let v23 : BitVec 1 := Scalar.cmpi .eq c4_i32 c0_i32
  let c1_i32 : BitVec 32 := 1#32
  let v24 : BitVec 32 := Scalar.select v23 c1_i32 c4_i32
  let v25 : BitVec 32 := Scalar.remsi v22 v24
  let c0_i32_6 : BitVec 32 := 0#32
  let v27 : BitVec 1 := Scalar.cmpi .slt v25 c0_i32_6
  let c0_i32_7 : BitVec 32 := 0#32
  let v28 : BitVec 1 := Scalar.cmpi .slt v24 c0_i32_7
  let v29 : BitVec 1 := Scalar.xori v27 v28
  let c0_i32_5 : BitVec 32 := 0#32
  let v26 : BitVec 1 := Scalar.cmpi .ne v25 c0_i32_5
  let v30 : BitVec 1 := Scalar.andi v29 v26
  let v31 : BitVec 32 := Scalar.addi v25 v24
  let v32 : BitVec 32 := Scalar.select v30 v31 v25
  let v56 : BitVec 32 := Scalar.subi v22 v32
  let c1_i32_34 : BitVec 32 := 1#32
  let v85 : BitVec 32 := Scalar.subi v56 c1_i32_34
  let c4_i32_35 : BitVec 32 := 4#32
  let c0_i32_27 : BitVec 32 := 0#32
  let c1_i32_29 : BitVec 32 := 1#32
  let arg7 : BitVec 32 := Scf.iv c0_i32_27 c1_i32_29 k0_t1
  let v86 : BitVec 32 := Scalar.muli c4_i32_35 arg7
  let v87 : BitVec 32 := Scalar.subi v85 v86
  let c1_i32_55 : BitVec 32 := 1#32
  let v152 : BitVec 32 := Scalar.subi v87 c1_i32_55
  let c256_i32_62 : BitVec 32 := 256#32
  let v161 : BitVec 32 := Scalar.muli v152 c256_i32_62
  v161
def k0_mult17 (i : grid0.Coords) (k0_t1 : Fin (k0_t1_loop i).trips) : BitVec 32 :=
  let arg2 : BitVec 32 := BitVec.ofNat 32 (i 2).val
  let c2_i32 : BitVec 32 := 2#32
  let v22 : BitVec 32 := Scalar.muli arg2 c2_i32
  let c4_i32 : BitVec 32 := 4#32
  let c0_i32 : BitVec 32 := 0#32
  let v23 : BitVec 1 := Scalar.cmpi .eq c4_i32 c0_i32
  let c1_i32 : BitVec 32 := 1#32
  let v24 : BitVec 32 := Scalar.select v23 c1_i32 c4_i32
  let v25 : BitVec 32 := Scalar.remsi v22 v24
  let c0_i32_6 : BitVec 32 := 0#32
  let v27 : BitVec 1 := Scalar.cmpi .slt v25 c0_i32_6
  let c0_i32_7 : BitVec 32 := 0#32
  let v28 : BitVec 1 := Scalar.cmpi .slt v24 c0_i32_7
  let v29 : BitVec 1 := Scalar.xori v27 v28
  let c0_i32_5 : BitVec 32 := 0#32
  let v26 : BitVec 1 := Scalar.cmpi .ne v25 c0_i32_5
  let v30 : BitVec 1 := Scalar.andi v29 v26
  let v31 : BitVec 32 := Scalar.addi v25 v24
  let v32 : BitVec 32 := Scalar.select v30 v31 v25
  let v56 : BitVec 32 := Scalar.subi v22 v32
  let c1_i32_34 : BitVec 32 := 1#32
  let v85 : BitVec 32 := Scalar.subi v56 c1_i32_34
  let c4_i32_35 : BitVec 32 := 4#32
  let c0_i32_27 : BitVec 32 := 0#32
  let c1_i32_29 : BitVec 32 := 1#32
  let arg7 : BitVec 32 := Scf.iv c0_i32_27 c1_i32_29 k0_t1
  let v86 : BitVec 32 := Scalar.muli c4_i32_35 arg7
  let v87 : BitVec 32 := Scalar.subi v85 v86
  let c2_i32_76 : BitVec 32 := 2#32
  let v217 : BitVec 32 := Scalar.subi v87 c2_i32_76
  let c256_i32_77 : BitVec 32 := 256#32
  let v218 : BitVec 32 := Scalar.muli v217 c256_i32_77
  v218
def k0_mult18 (i : grid0.Coords) (k0_t1 : Fin (k0_t1_loop i).trips) : BitVec 32 :=
  let arg2 : BitVec 32 := BitVec.ofNat 32 (i 2).val
  let c2_i32 : BitVec 32 := 2#32
  let v22 : BitVec 32 := Scalar.muli arg2 c2_i32
  let c4_i32 : BitVec 32 := 4#32
  let c0_i32 : BitVec 32 := 0#32
  let v23 : BitVec 1 := Scalar.cmpi .eq c4_i32 c0_i32
  let c1_i32 : BitVec 32 := 1#32
  let v24 : BitVec 32 := Scalar.select v23 c1_i32 c4_i32
  let v25 : BitVec 32 := Scalar.remsi v22 v24
  let c0_i32_6 : BitVec 32 := 0#32
  let v27 : BitVec 1 := Scalar.cmpi .slt v25 c0_i32_6
  let c0_i32_7 : BitVec 32 := 0#32
  let v28 : BitVec 1 := Scalar.cmpi .slt v24 c0_i32_7
  let v29 : BitVec 1 := Scalar.xori v27 v28
  let c0_i32_5 : BitVec 32 := 0#32
  let v26 : BitVec 1 := Scalar.cmpi .ne v25 c0_i32_5
  let v30 : BitVec 1 := Scalar.andi v29 v26
  let v31 : BitVec 32 := Scalar.addi v25 v24
  let v32 : BitVec 32 := Scalar.select v30 v31 v25
  let v56 : BitVec 32 := Scalar.subi v22 v32
  let c1_i32_34 : BitVec 32 := 1#32
  let v85 : BitVec 32 := Scalar.subi v56 c1_i32_34
  let c4_i32_35 : BitVec 32 := 4#32
  let c0_i32_27 : BitVec 32 := 0#32
  let c1_i32_29 : BitVec 32 := 1#32
  let arg7 : BitVec 32 := Scf.iv c0_i32_27 c1_i32_29 k0_t1
  let v86 : BitVec 32 := Scalar.muli c4_i32_35 arg7
  let v87 : BitVec 32 := Scalar.subi v85 v86
  let c2_i32_75 : BitVec 32 := 2#32
  let v216 : BitVec 32 := Scalar.subi v87 c2_i32_75
  let c256_i32_82 : BitVec 32 := 256#32
  let v225 : BitVec 32 := Scalar.muli v216 c256_i32_82
  v225
def k0_mult19 (i : grid0.Coords) (k0_t1 : Fin (k0_t1_loop i).trips) : BitVec 32 :=
  let arg2 : BitVec 32 := BitVec.ofNat 32 (i 2).val
  let c2_i32 : BitVec 32 := 2#32
  let v22 : BitVec 32 := Scalar.muli arg2 c2_i32
  let c4_i32 : BitVec 32 := 4#32
  let c0_i32 : BitVec 32 := 0#32
  let v23 : BitVec 1 := Scalar.cmpi .eq c4_i32 c0_i32
  let c1_i32 : BitVec 32 := 1#32
  let v24 : BitVec 32 := Scalar.select v23 c1_i32 c4_i32
  let v25 : BitVec 32 := Scalar.remsi v22 v24
  let c0_i32_6 : BitVec 32 := 0#32
  let v27 : BitVec 1 := Scalar.cmpi .slt v25 c0_i32_6
  let c0_i32_7 : BitVec 32 := 0#32
  let v28 : BitVec 1 := Scalar.cmpi .slt v24 c0_i32_7
  let v29 : BitVec 1 := Scalar.xori v27 v28
  let c0_i32_5 : BitVec 32 := 0#32
  let v26 : BitVec 1 := Scalar.cmpi .ne v25 c0_i32_5
  let v30 : BitVec 1 := Scalar.andi v29 v26
  let v31 : BitVec 32 := Scalar.addi v25 v24
  let v32 : BitVec 32 := Scalar.select v30 v31 v25
  let v56 : BitVec 32 := Scalar.subi v22 v32
  let c1_i32_34 : BitVec 32 := 1#32
  let v85 : BitVec 32 := Scalar.subi v56 c1_i32_34
  let c4_i32_35 : BitVec 32 := 4#32
  let c0_i32_27 : BitVec 32 := 0#32
  let c1_i32_29 : BitVec 32 := 1#32
  let arg7 : BitVec 32 := Scf.iv c0_i32_27 c1_i32_29 k0_t1
  let v86 : BitVec 32 := Scalar.muli c4_i32_35 arg7
  let v87 : BitVec 32 := Scalar.subi v85 v86
  let c3_i32_95 : BitVec 32 := 3#32
  let v281 : BitVec 32 := Scalar.subi v87 c3_i32_95
  let c256_i32_96 : BitVec 32 := 256#32
  let v282 : BitVec 32 := Scalar.muli v281 c256_i32_96
  v282
def k0_mult20 (i : grid0.Coords) (k0_t1 : Fin (k0_t1_loop i).trips) : BitVec 32 :=
  let arg2 : BitVec 32 := BitVec.ofNat 32 (i 2).val
  let c2_i32 : BitVec 32 := 2#32
  let v22 : BitVec 32 := Scalar.muli arg2 c2_i32
  let c4_i32 : BitVec 32 := 4#32
  let c0_i32 : BitVec 32 := 0#32
  let v23 : BitVec 1 := Scalar.cmpi .eq c4_i32 c0_i32
  let c1_i32 : BitVec 32 := 1#32
  let v24 : BitVec 32 := Scalar.select v23 c1_i32 c4_i32
  let v25 : BitVec 32 := Scalar.remsi v22 v24
  let c0_i32_6 : BitVec 32 := 0#32
  let v27 : BitVec 1 := Scalar.cmpi .slt v25 c0_i32_6
  let c0_i32_7 : BitVec 32 := 0#32
  let v28 : BitVec 1 := Scalar.cmpi .slt v24 c0_i32_7
  let v29 : BitVec 1 := Scalar.xori v27 v28
  let c0_i32_5 : BitVec 32 := 0#32
  let v26 : BitVec 1 := Scalar.cmpi .ne v25 c0_i32_5
  let v30 : BitVec 1 := Scalar.andi v29 v26
  let v31 : BitVec 32 := Scalar.addi v25 v24
  let v32 : BitVec 32 := Scalar.select v30 v31 v25
  let v56 : BitVec 32 := Scalar.subi v22 v32
  let c1_i32_34 : BitVec 32 := 1#32
  let v85 : BitVec 32 := Scalar.subi v56 c1_i32_34
  let c4_i32_35 : BitVec 32 := 4#32
  let c0_i32_27 : BitVec 32 := 0#32
  let c1_i32_29 : BitVec 32 := 1#32
  let arg7 : BitVec 32 := Scf.iv c0_i32_27 c1_i32_29 k0_t1
  let v86 : BitVec 32 := Scalar.muli c4_i32_35 arg7
  let v87 : BitVec 32 := Scalar.subi v85 v86
  let c3_i32 : BitVec 32 := 3#32
  let v280 : BitVec 32 := Scalar.subi v87 c3_i32
  let c256_i32_101 : BitVec 32 := 256#32
  let v289 : BitVec 32 := Scalar.muli v280 c256_i32_101
  v289
@[reducible] def k0_t2_loop (i : grid0.Coords) : Scf.Loop 32 :=
  let c0_i32_27 : BitVec 32 := 0#32
  let arg2 : BitVec 32 := BitVec.ofNat 32 (i 2).val
  let c2_i32 : BitVec 32 := 2#32
  let v22 : BitVec 32 := Scalar.muli arg2 c2_i32
  let c4_i32 : BitVec 32 := 4#32
  let c0_i32 : BitVec 32 := 0#32
  let v23 : BitVec 1 := Scalar.cmpi .eq c4_i32 c0_i32
  let c1_i32 : BitVec 32 := 1#32
  let v24 : BitVec 32 := Scalar.select v23 c1_i32 c4_i32
  let v25 : BitVec 32 := Scalar.remsi v22 v24
  let c0_i32_6 : BitVec 32 := 0#32
  let v27 : BitVec 1 := Scalar.cmpi .slt v25 c0_i32_6
  let c0_i32_7 : BitVec 32 := 0#32
  let v28 : BitVec 1 := Scalar.cmpi .slt v24 c0_i32_7
  let v29 : BitVec 1 := Scalar.xori v27 v28
  let c0_i32_5 : BitVec 32 := 0#32
  let v26 : BitVec 1 := Scalar.cmpi .ne v25 c0_i32_5
  let v30 : BitVec 1 := Scalar.andi v29 v26
  let v31 : BitVec 32 := Scalar.addi v25 v24
  let v32 : BitVec 32 := Scalar.select v30 v31 v25
  let v56 : BitVec 32 := Scalar.subi v22 v32
  let c0_i32_21 : BitVec 32 := 0#32
  let v58 : BitVec 1 := Scalar.cmpi .sgt v56 c0_i32_21
  let v59 : BitVec 32 := Scalar.extui v58
  let c0_i32_22 : BitVec 32 := 0#32
  let v60 : BitVec 1 := Scalar.cmpi .slt v56 c0_i32_22
  let v61 : BitVec 32 := Scalar.extui v60
  let v62 : BitVec 32 := Scalar.subi v59 v61
  let c4_i32_20 : BitVec 32 := 4#32
  let c0_i32_23 : BitVec 32 := 0#32
  let v63 : BitVec 1 := Scalar.cmpi .sgt c4_i32_20 c0_i32_23
  let v64 : BitVec 32 := Scalar.extui v63
  let c0_i32_24 : BitVec 32 := 0#32
  let v65 : BitVec 1 := Scalar.cmpi .slt c4_i32_20 c0_i32_24
  let v66 : BitVec 32 := Scalar.extui v65
  let v67 : BitVec 32 := Scalar.subi v64 v66
  let v68 : BitVec 1 := Scalar.cmpi .ne v62 v67
  let v69 : BitVec 32 := Scalar.remsi v56 c4_i32_20
  let c0_i32_25 : BitVec 32 := 0#32
  let v70 : BitVec 1 := Scalar.cmpi .ne v69 c0_i32_25
  let v71 : BitVec 1 := Scalar.andi v68 v70
  let v57 : BitVec 32 := Scalar.divsi v56 c4_i32_20
  let c1_i32_26 : BitVec 32 := 1#32
  let v72 : BitVec 32 := Scalar.subi v57 c1_i32_26
  let v73 : BitVec 32 := Scalar.select v71 v72 v57
  let v74 : BitVec 32 := Scalar.subi v73 c0_i32_27
  let c1_i32_28 : BitVec 32 := 1#32
  let v76 : BitVec 32 := Scalar.divsi v74 c1_i32_28
  let v77 : BitVec 32 := Scalar.muli v76 c1_i32_28
  let v78 : BitVec 32 := Scalar.addi c0_i32_27 v77
  let v75 : BitVec 32 := Scalar.addi c0_i32_27 v74
  let c1_i32_30 : BitVec 32 := 1#32
  ⟨v78, v75, c1_i32_30⟩
def k0_mult21 (i : grid0.Coords) (k0_t2 : Fin (k0_t2_loop i).trips) : BitVec 32 :=
  let arg2 : BitVec 32 := BitVec.ofNat 32 (i 2).val
  let c2_i32 : BitVec 32 := 2#32
  let v22 : BitVec 32 := Scalar.muli arg2 c2_i32
  let c4_i32 : BitVec 32 := 4#32
  let c0_i32 : BitVec 32 := 0#32
  let v23 : BitVec 1 := Scalar.cmpi .eq c4_i32 c0_i32
  let c1_i32 : BitVec 32 := 1#32
  let v24 : BitVec 32 := Scalar.select v23 c1_i32 c4_i32
  let v25 : BitVec 32 := Scalar.remsi v22 v24
  let c0_i32_6 : BitVec 32 := 0#32
  let v27 : BitVec 1 := Scalar.cmpi .slt v25 c0_i32_6
  let c0_i32_7 : BitVec 32 := 0#32
  let v28 : BitVec 1 := Scalar.cmpi .slt v24 c0_i32_7
  let v29 : BitVec 1 := Scalar.xori v27 v28
  let c0_i32_5 : BitVec 32 := 0#32
  let v26 : BitVec 1 := Scalar.cmpi .ne v25 c0_i32_5
  let v30 : BitVec 1 := Scalar.andi v29 v26
  let v31 : BitVec 32 := Scalar.addi v25 v24
  let v32 : BitVec 32 := Scalar.select v30 v31 v25
  let v56 : BitVec 32 := Scalar.subi v22 v32
  let c1_i32_34 : BitVec 32 := 1#32
  let v85 : BitVec 32 := Scalar.subi v56 c1_i32_34
  let c4_i32_35 : BitVec 32 := 4#32
  let c0_i32_27 : BitVec 32 := 0#32
  let c0_i32_21 : BitVec 32 := 0#32
  let v58 : BitVec 1 := Scalar.cmpi .sgt v56 c0_i32_21
  let v59 : BitVec 32 := Scalar.extui v58
  let c0_i32_22 : BitVec 32 := 0#32
  let v60 : BitVec 1 := Scalar.cmpi .slt v56 c0_i32_22
  let v61 : BitVec 32 := Scalar.extui v60
  let v62 : BitVec 32 := Scalar.subi v59 v61
  let c4_i32_20 : BitVec 32 := 4#32
  let c0_i32_23 : BitVec 32 := 0#32
  let v63 : BitVec 1 := Scalar.cmpi .sgt c4_i32_20 c0_i32_23
  let v64 : BitVec 32 := Scalar.extui v63
  let c0_i32_24 : BitVec 32 := 0#32
  let v65 : BitVec 1 := Scalar.cmpi .slt c4_i32_20 c0_i32_24
  let v66 : BitVec 32 := Scalar.extui v65
  let v67 : BitVec 32 := Scalar.subi v64 v66
  let v68 : BitVec 1 := Scalar.cmpi .ne v62 v67
  let v69 : BitVec 32 := Scalar.remsi v56 c4_i32_20
  let c0_i32_25 : BitVec 32 := 0#32
  let v70 : BitVec 1 := Scalar.cmpi .ne v69 c0_i32_25
  let v71 : BitVec 1 := Scalar.andi v68 v70
  let v57 : BitVec 32 := Scalar.divsi v56 c4_i32_20
  let c1_i32_26 : BitVec 32 := 1#32
  let v72 : BitVec 32 := Scalar.subi v57 c1_i32_26
  let v73 : BitVec 32 := Scalar.select v71 v72 v57
  let v74 : BitVec 32 := Scalar.subi v73 c0_i32_27
  let c1_i32_28 : BitVec 32 := 1#32
  let v76 : BitVec 32 := Scalar.divsi v74 c1_i32_28
  let v77 : BitVec 32 := Scalar.muli v76 c1_i32_28
  let v78 : BitVec 32 := Scalar.addi c0_i32_27 v77
  let c1_i32_30 : BitVec 32 := 1#32
  let arg7 : BitVec 32 := Scf.iv v78 c1_i32_30 k0_t2
  let v86 : BitVec 32 := Scalar.muli c4_i32_35 arg7
  let v87 : BitVec 32 := Scalar.subi v85 v86
  let c0_i32_37 : BitVec 32 := 0#32
  let v89 : BitVec 32 := Scalar.subi v87 c0_i32_37
  let c256_i32 : BitVec 32 := 256#32
  let v90 : BitVec 32 := Scalar.muli v89 c256_i32
  v90
def k0_off5 (i : grid0.Coords) (k0_t2 : Fin (k0_t2_loop i).trips) (c0_i32_37 : BitVec 32) : Fin 3 → Nat :=
  let c0_38 : Index := 0#32
  let arg2 : BitVec 32 := BitVec.ofNat 32 (i 2).val
  let c2_i32 : BitVec 32 := 2#32
  let v22 : BitVec 32 := Scalar.muli arg2 c2_i32
  let c4_i32 : BitVec 32 := 4#32
  let c0_i32 : BitVec 32 := 0#32
  let v23 : BitVec 1 := Scalar.cmpi .eq c4_i32 c0_i32
  let c1_i32 : BitVec 32 := 1#32
  let v24 : BitVec 32 := Scalar.select v23 c1_i32 c4_i32
  let v25 : BitVec 32 := Scalar.remsi v22 v24
  let c0_i32_6 : BitVec 32 := 0#32
  let v27 : BitVec 1 := Scalar.cmpi .slt v25 c0_i32_6
  let c0_i32_7 : BitVec 32 := 0#32
  let v28 : BitVec 1 := Scalar.cmpi .slt v24 c0_i32_7
  let v29 : BitVec 1 := Scalar.xori v27 v28
  let c0_i32_5 : BitVec 32 := 0#32
  let v26 : BitVec 1 := Scalar.cmpi .ne v25 c0_i32_5
  let v30 : BitVec 1 := Scalar.andi v29 v26
  let v31 : BitVec 32 := Scalar.addi v25 v24
  let v32 : BitVec 32 := Scalar.select v30 v31 v25
  let v56 : BitVec 32 := Scalar.subi v22 v32
  let c1_i32_34 : BitVec 32 := 1#32
  let v85 : BitVec 32 := Scalar.subi v56 c1_i32_34
  let c4_i32_35 : BitVec 32 := 4#32
  let c0_i32_27 : BitVec 32 := 0#32
  let c0_i32_21 : BitVec 32 := 0#32
  let v58 : BitVec 1 := Scalar.cmpi .sgt v56 c0_i32_21
  let v59 : BitVec 32 := Scalar.extui v58
  let c0_i32_22 : BitVec 32 := 0#32
  let v60 : BitVec 1 := Scalar.cmpi .slt v56 c0_i32_22
  let v61 : BitVec 32 := Scalar.extui v60
  let v62 : BitVec 32 := Scalar.subi v59 v61
  let c4_i32_20 : BitVec 32 := 4#32
  let c0_i32_23 : BitVec 32 := 0#32
  let v63 : BitVec 1 := Scalar.cmpi .sgt c4_i32_20 c0_i32_23
  let v64 : BitVec 32 := Scalar.extui v63
  let c0_i32_24 : BitVec 32 := 0#32
  let v65 : BitVec 1 := Scalar.cmpi .slt c4_i32_20 c0_i32_24
  let v66 : BitVec 32 := Scalar.extui v65
  let v67 : BitVec 32 := Scalar.subi v64 v66
  let v68 : BitVec 1 := Scalar.cmpi .ne v62 v67
  let v69 : BitVec 32 := Scalar.remsi v56 c4_i32_20
  let c0_i32_25 : BitVec 32 := 0#32
  let v70 : BitVec 1 := Scalar.cmpi .ne v69 c0_i32_25
  let v71 : BitVec 1 := Scalar.andi v68 v70
  let v57 : BitVec 32 := Scalar.divsi v56 c4_i32_20
  let c1_i32_26 : BitVec 32 := 1#32
  let v72 : BitVec 32 := Scalar.subi v57 c1_i32_26
  let v73 : BitVec 32 := Scalar.select v71 v72 v57
  let v74 : BitVec 32 := Scalar.subi v73 c0_i32_27
  let c1_i32_28 : BitVec 32 := 1#32
  let v76 : BitVec 32 := Scalar.divsi v74 c1_i32_28
  let v77 : BitVec 32 := Scalar.muli v76 c1_i32_28
  let v78 : BitVec 32 := Scalar.addi c0_i32_27 v77
  let c1_i32_30 : BitVec 32 := 1#32
  let arg7 : BitVec 32 := Scf.iv v78 c1_i32_30 k0_t2
  let v86 : BitVec 32 := Scalar.muli c4_i32_35 arg7
  let v87 : BitVec 32 := Scalar.subi v85 v86
  let v89 : BitVec 32 := Scalar.subi v87 c0_i32_37
  let c256_i32 : BitVec 32 := 256#32
  let v90 : BitVec 32 := Scalar.muli v89 c256_i32
  let v91 : BitVec 32 := v90
  let v92 : Index := Scalar.indexCast v91
  let c0_39 : Index := 0#32
  ![0, v92.toNat, 0]
def k0_mult22 (i : grid0.Coords) (k0_t2 : Fin (k0_t2_loop i).trips) : BitVec 32 :=
  let arg2 : BitVec 32 := BitVec.ofNat 32 (i 2).val
  let c2_i32 : BitVec 32 := 2#32
  let v22 : BitVec 32 := Scalar.muli arg2 c2_i32
  let c4_i32 : BitVec 32 := 4#32
  let c0_i32 : BitVec 32 := 0#32
  let v23 : BitVec 1 := Scalar.cmpi .eq c4_i32 c0_i32
  let c1_i32 : BitVec 32 := 1#32
  let v24 : BitVec 32 := Scalar.select v23 c1_i32 c4_i32
  let v25 : BitVec 32 := Scalar.remsi v22 v24
  let c0_i32_6 : BitVec 32 := 0#32
  let v27 : BitVec 1 := Scalar.cmpi .slt v25 c0_i32_6
  let c0_i32_7 : BitVec 32 := 0#32
  let v28 : BitVec 1 := Scalar.cmpi .slt v24 c0_i32_7
  let v29 : BitVec 1 := Scalar.xori v27 v28
  let c0_i32_5 : BitVec 32 := 0#32
  let v26 : BitVec 1 := Scalar.cmpi .ne v25 c0_i32_5
  let v30 : BitVec 1 := Scalar.andi v29 v26
  let v31 : BitVec 32 := Scalar.addi v25 v24
  let v32 : BitVec 32 := Scalar.select v30 v31 v25
  let v56 : BitVec 32 := Scalar.subi v22 v32
  let c1_i32_34 : BitVec 32 := 1#32
  let v85 : BitVec 32 := Scalar.subi v56 c1_i32_34
  let c4_i32_35 : BitVec 32 := 4#32
  let c0_i32_27 : BitVec 32 := 0#32
  let c0_i32_21 : BitVec 32 := 0#32
  let v58 : BitVec 1 := Scalar.cmpi .sgt v56 c0_i32_21
  let v59 : BitVec 32 := Scalar.extui v58
  let c0_i32_22 : BitVec 32 := 0#32
  let v60 : BitVec 1 := Scalar.cmpi .slt v56 c0_i32_22
  let v61 : BitVec 32 := Scalar.extui v60
  let v62 : BitVec 32 := Scalar.subi v59 v61
  let c4_i32_20 : BitVec 32 := 4#32
  let c0_i32_23 : BitVec 32 := 0#32
  let v63 : BitVec 1 := Scalar.cmpi .sgt c4_i32_20 c0_i32_23
  let v64 : BitVec 32 := Scalar.extui v63
  let c0_i32_24 : BitVec 32 := 0#32
  let v65 : BitVec 1 := Scalar.cmpi .slt c4_i32_20 c0_i32_24
  let v66 : BitVec 32 := Scalar.extui v65
  let v67 : BitVec 32 := Scalar.subi v64 v66
  let v68 : BitVec 1 := Scalar.cmpi .ne v62 v67
  let v69 : BitVec 32 := Scalar.remsi v56 c4_i32_20
  let c0_i32_25 : BitVec 32 := 0#32
  let v70 : BitVec 1 := Scalar.cmpi .ne v69 c0_i32_25
  let v71 : BitVec 1 := Scalar.andi v68 v70
  let v57 : BitVec 32 := Scalar.divsi v56 c4_i32_20
  let c1_i32_26 : BitVec 32 := 1#32
  let v72 : BitVec 32 := Scalar.subi v57 c1_i32_26
  let v73 : BitVec 32 := Scalar.select v71 v72 v57
  let v74 : BitVec 32 := Scalar.subi v73 c0_i32_27
  let c1_i32_28 : BitVec 32 := 1#32
  let v76 : BitVec 32 := Scalar.divsi v74 c1_i32_28
  let v77 : BitVec 32 := Scalar.muli v76 c1_i32_28
  let v78 : BitVec 32 := Scalar.addi c0_i32_27 v77
  let c1_i32_30 : BitVec 32 := 1#32
  let arg7 : BitVec 32 := Scf.iv v78 c1_i32_30 k0_t2
  let v86 : BitVec 32 := Scalar.muli c4_i32_35 arg7
  let v87 : BitVec 32 := Scalar.subi v85 v86
  let c0_i32_36 : BitVec 32 := 0#32
  let v88 : BitVec 32 := Scalar.subi v87 c0_i32_36
  let c256_i32_42 : BitVec 32 := 256#32
  let v97 : BitVec 32 := Scalar.muli v88 c256_i32_42
  v97
def k0_mult23 (i : grid0.Coords) (k0_t2 : Fin (k0_t2_loop i).trips) : BitVec 32 :=
  let arg2 : BitVec 32 := BitVec.ofNat 32 (i 2).val
  let c2_i32 : BitVec 32 := 2#32
  let v22 : BitVec 32 := Scalar.muli arg2 c2_i32
  let c4_i32 : BitVec 32 := 4#32
  let c0_i32 : BitVec 32 := 0#32
  let v23 : BitVec 1 := Scalar.cmpi .eq c4_i32 c0_i32
  let c1_i32 : BitVec 32 := 1#32
  let v24 : BitVec 32 := Scalar.select v23 c1_i32 c4_i32
  let v25 : BitVec 32 := Scalar.remsi v22 v24
  let c0_i32_6 : BitVec 32 := 0#32
  let v27 : BitVec 1 := Scalar.cmpi .slt v25 c0_i32_6
  let c0_i32_7 : BitVec 32 := 0#32
  let v28 : BitVec 1 := Scalar.cmpi .slt v24 c0_i32_7
  let v29 : BitVec 1 := Scalar.xori v27 v28
  let c0_i32_5 : BitVec 32 := 0#32
  let v26 : BitVec 1 := Scalar.cmpi .ne v25 c0_i32_5
  let v30 : BitVec 1 := Scalar.andi v29 v26
  let v31 : BitVec 32 := Scalar.addi v25 v24
  let v32 : BitVec 32 := Scalar.select v30 v31 v25
  let v56 : BitVec 32 := Scalar.subi v22 v32
  let c1_i32_34 : BitVec 32 := 1#32
  let v85 : BitVec 32 := Scalar.subi v56 c1_i32_34
  let c4_i32_35 : BitVec 32 := 4#32
  let c0_i32_27 : BitVec 32 := 0#32
  let c0_i32_21 : BitVec 32 := 0#32
  let v58 : BitVec 1 := Scalar.cmpi .sgt v56 c0_i32_21
  let v59 : BitVec 32 := Scalar.extui v58
  let c0_i32_22 : BitVec 32 := 0#32
  let v60 : BitVec 1 := Scalar.cmpi .slt v56 c0_i32_22
  let v61 : BitVec 32 := Scalar.extui v60
  let v62 : BitVec 32 := Scalar.subi v59 v61
  let c4_i32_20 : BitVec 32 := 4#32
  let c0_i32_23 : BitVec 32 := 0#32
  let v63 : BitVec 1 := Scalar.cmpi .sgt c4_i32_20 c0_i32_23
  let v64 : BitVec 32 := Scalar.extui v63
  let c0_i32_24 : BitVec 32 := 0#32
  let v65 : BitVec 1 := Scalar.cmpi .slt c4_i32_20 c0_i32_24
  let v66 : BitVec 32 := Scalar.extui v65
  let v67 : BitVec 32 := Scalar.subi v64 v66
  let v68 : BitVec 1 := Scalar.cmpi .ne v62 v67
  let v69 : BitVec 32 := Scalar.remsi v56 c4_i32_20
  let c0_i32_25 : BitVec 32 := 0#32
  let v70 : BitVec 1 := Scalar.cmpi .ne v69 c0_i32_25
  let v71 : BitVec 1 := Scalar.andi v68 v70
  let v57 : BitVec 32 := Scalar.divsi v56 c4_i32_20
  let c1_i32_26 : BitVec 32 := 1#32
  let v72 : BitVec 32 := Scalar.subi v57 c1_i32_26
  let v73 : BitVec 32 := Scalar.select v71 v72 v57
  let v74 : BitVec 32 := Scalar.subi v73 c0_i32_27
  let c1_i32_28 : BitVec 32 := 1#32
  let v76 : BitVec 32 := Scalar.divsi v74 c1_i32_28
  let v77 : BitVec 32 := Scalar.muli v76 c1_i32_28
  let v78 : BitVec 32 := Scalar.addi c0_i32_27 v77
  let c1_i32_30 : BitVec 32 := 1#32
  let arg7 : BitVec 32 := Scf.iv v78 c1_i32_30 k0_t2
  let v86 : BitVec 32 := Scalar.muli c4_i32_35 arg7
  let v87 : BitVec 32 := Scalar.subi v85 v86
  let c1_i32_56 : BitVec 32 := 1#32
  let v153 : BitVec 32 := Scalar.subi v87 c1_i32_56
  let c256_i32_57 : BitVec 32 := 256#32
  let v154 : BitVec 32 := Scalar.muli v153 c256_i32_57
  v154
def k0_mult24 (i : grid0.Coords) (k0_t2 : Fin (k0_t2_loop i).trips) : BitVec 32 :=
  let arg2 : BitVec 32 := BitVec.ofNat 32 (i 2).val
  let c2_i32 : BitVec 32 := 2#32
  let v22 : BitVec 32 := Scalar.muli arg2 c2_i32
  let c4_i32 : BitVec 32 := 4#32
  let c0_i32 : BitVec 32 := 0#32
  let v23 : BitVec 1 := Scalar.cmpi .eq c4_i32 c0_i32
  let c1_i32 : BitVec 32 := 1#32
  let v24 : BitVec 32 := Scalar.select v23 c1_i32 c4_i32
  let v25 : BitVec 32 := Scalar.remsi v22 v24
  let c0_i32_6 : BitVec 32 := 0#32
  let v27 : BitVec 1 := Scalar.cmpi .slt v25 c0_i32_6
  let c0_i32_7 : BitVec 32 := 0#32
  let v28 : BitVec 1 := Scalar.cmpi .slt v24 c0_i32_7
  let v29 : BitVec 1 := Scalar.xori v27 v28
  let c0_i32_5 : BitVec 32 := 0#32
  let v26 : BitVec 1 := Scalar.cmpi .ne v25 c0_i32_5
  let v30 : BitVec 1 := Scalar.andi v29 v26
  let v31 : BitVec 32 := Scalar.addi v25 v24
  let v32 : BitVec 32 := Scalar.select v30 v31 v25
  let v56 : BitVec 32 := Scalar.subi v22 v32
  let c1_i32_34 : BitVec 32 := 1#32
  let v85 : BitVec 32 := Scalar.subi v56 c1_i32_34
  let c4_i32_35 : BitVec 32 := 4#32
  let c0_i32_27 : BitVec 32 := 0#32
  let c0_i32_21 : BitVec 32 := 0#32
  let v58 : BitVec 1 := Scalar.cmpi .sgt v56 c0_i32_21
  let v59 : BitVec 32 := Scalar.extui v58
  let c0_i32_22 : BitVec 32 := 0#32
  let v60 : BitVec 1 := Scalar.cmpi .slt v56 c0_i32_22
  let v61 : BitVec 32 := Scalar.extui v60
  let v62 : BitVec 32 := Scalar.subi v59 v61
  let c4_i32_20 : BitVec 32 := 4#32
  let c0_i32_23 : BitVec 32 := 0#32
  let v63 : BitVec 1 := Scalar.cmpi .sgt c4_i32_20 c0_i32_23
  let v64 : BitVec 32 := Scalar.extui v63
  let c0_i32_24 : BitVec 32 := 0#32
  let v65 : BitVec 1 := Scalar.cmpi .slt c4_i32_20 c0_i32_24
  let v66 : BitVec 32 := Scalar.extui v65
  let v67 : BitVec 32 := Scalar.subi v64 v66
  let v68 : BitVec 1 := Scalar.cmpi .ne v62 v67
  let v69 : BitVec 32 := Scalar.remsi v56 c4_i32_20
  let c0_i32_25 : BitVec 32 := 0#32
  let v70 : BitVec 1 := Scalar.cmpi .ne v69 c0_i32_25
  let v71 : BitVec 1 := Scalar.andi v68 v70
  let v57 : BitVec 32 := Scalar.divsi v56 c4_i32_20
  let c1_i32_26 : BitVec 32 := 1#32
  let v72 : BitVec 32 := Scalar.subi v57 c1_i32_26
  let v73 : BitVec 32 := Scalar.select v71 v72 v57
  let v74 : BitVec 32 := Scalar.subi v73 c0_i32_27
  let c1_i32_28 : BitVec 32 := 1#32
  let v76 : BitVec 32 := Scalar.divsi v74 c1_i32_28
  let v77 : BitVec 32 := Scalar.muli v76 c1_i32_28
  let v78 : BitVec 32 := Scalar.addi c0_i32_27 v77
  let c1_i32_30 : BitVec 32 := 1#32
  let arg7 : BitVec 32 := Scf.iv v78 c1_i32_30 k0_t2
  let v86 : BitVec 32 := Scalar.muli c4_i32_35 arg7
  let v87 : BitVec 32 := Scalar.subi v85 v86
  let c1_i32_55 : BitVec 32 := 1#32
  let v152 : BitVec 32 := Scalar.subi v87 c1_i32_55
  let c256_i32_62 : BitVec 32 := 256#32
  let v161 : BitVec 32 := Scalar.muli v152 c256_i32_62
  v161
def k0_mult25 (i : grid0.Coords) (k0_t2 : Fin (k0_t2_loop i).trips) : BitVec 32 :=
  let arg2 : BitVec 32 := BitVec.ofNat 32 (i 2).val
  let c2_i32 : BitVec 32 := 2#32
  let v22 : BitVec 32 := Scalar.muli arg2 c2_i32
  let c4_i32 : BitVec 32 := 4#32
  let c0_i32 : BitVec 32 := 0#32
  let v23 : BitVec 1 := Scalar.cmpi .eq c4_i32 c0_i32
  let c1_i32 : BitVec 32 := 1#32
  let v24 : BitVec 32 := Scalar.select v23 c1_i32 c4_i32
  let v25 : BitVec 32 := Scalar.remsi v22 v24
  let c0_i32_6 : BitVec 32 := 0#32
  let v27 : BitVec 1 := Scalar.cmpi .slt v25 c0_i32_6
  let c0_i32_7 : BitVec 32 := 0#32
  let v28 : BitVec 1 := Scalar.cmpi .slt v24 c0_i32_7
  let v29 : BitVec 1 := Scalar.xori v27 v28
  let c0_i32_5 : BitVec 32 := 0#32
  let v26 : BitVec 1 := Scalar.cmpi .ne v25 c0_i32_5
  let v30 : BitVec 1 := Scalar.andi v29 v26
  let v31 : BitVec 32 := Scalar.addi v25 v24
  let v32 : BitVec 32 := Scalar.select v30 v31 v25
  let v56 : BitVec 32 := Scalar.subi v22 v32
  let c1_i32_34 : BitVec 32 := 1#32
  let v85 : BitVec 32 := Scalar.subi v56 c1_i32_34
  let c4_i32_35 : BitVec 32 := 4#32
  let c0_i32_27 : BitVec 32 := 0#32
  let c0_i32_21 : BitVec 32 := 0#32
  let v58 : BitVec 1 := Scalar.cmpi .sgt v56 c0_i32_21
  let v59 : BitVec 32 := Scalar.extui v58
  let c0_i32_22 : BitVec 32 := 0#32
  let v60 : BitVec 1 := Scalar.cmpi .slt v56 c0_i32_22
  let v61 : BitVec 32 := Scalar.extui v60
  let v62 : BitVec 32 := Scalar.subi v59 v61
  let c4_i32_20 : BitVec 32 := 4#32
  let c0_i32_23 : BitVec 32 := 0#32
  let v63 : BitVec 1 := Scalar.cmpi .sgt c4_i32_20 c0_i32_23
  let v64 : BitVec 32 := Scalar.extui v63
  let c0_i32_24 : BitVec 32 := 0#32
  let v65 : BitVec 1 := Scalar.cmpi .slt c4_i32_20 c0_i32_24
  let v66 : BitVec 32 := Scalar.extui v65
  let v67 : BitVec 32 := Scalar.subi v64 v66
  let v68 : BitVec 1 := Scalar.cmpi .ne v62 v67
  let v69 : BitVec 32 := Scalar.remsi v56 c4_i32_20
  let c0_i32_25 : BitVec 32 := 0#32
  let v70 : BitVec 1 := Scalar.cmpi .ne v69 c0_i32_25
  let v71 : BitVec 1 := Scalar.andi v68 v70
  let v57 : BitVec 32 := Scalar.divsi v56 c4_i32_20
  let c1_i32_26 : BitVec 32 := 1#32
  let v72 : BitVec 32 := Scalar.subi v57 c1_i32_26
  let v73 : BitVec 32 := Scalar.select v71 v72 v57
  let v74 : BitVec 32 := Scalar.subi v73 c0_i32_27
  let c1_i32_28 : BitVec 32 := 1#32
  let v76 : BitVec 32 := Scalar.divsi v74 c1_i32_28
  let v77 : BitVec 32 := Scalar.muli v76 c1_i32_28
  let v78 : BitVec 32 := Scalar.addi c0_i32_27 v77
  let c1_i32_30 : BitVec 32 := 1#32
  let arg7 : BitVec 32 := Scf.iv v78 c1_i32_30 k0_t2
  let v86 : BitVec 32 := Scalar.muli c4_i32_35 arg7
  let v87 : BitVec 32 := Scalar.subi v85 v86
  let c2_i32_76 : BitVec 32 := 2#32
  let v217 : BitVec 32 := Scalar.subi v87 c2_i32_76
  let c256_i32_77 : BitVec 32 := 256#32
  let v218 : BitVec 32 := Scalar.muli v217 c256_i32_77
  v218
def k0_mult26 (i : grid0.Coords) (k0_t2 : Fin (k0_t2_loop i).trips) : BitVec 32 :=
  let arg2 : BitVec 32 := BitVec.ofNat 32 (i 2).val
  let c2_i32 : BitVec 32 := 2#32
  let v22 : BitVec 32 := Scalar.muli arg2 c2_i32
  let c4_i32 : BitVec 32 := 4#32
  let c0_i32 : BitVec 32 := 0#32
  let v23 : BitVec 1 := Scalar.cmpi .eq c4_i32 c0_i32
  let c1_i32 : BitVec 32 := 1#32
  let v24 : BitVec 32 := Scalar.select v23 c1_i32 c4_i32
  let v25 : BitVec 32 := Scalar.remsi v22 v24
  let c0_i32_6 : BitVec 32 := 0#32
  let v27 : BitVec 1 := Scalar.cmpi .slt v25 c0_i32_6
  let c0_i32_7 : BitVec 32 := 0#32
  let v28 : BitVec 1 := Scalar.cmpi .slt v24 c0_i32_7
  let v29 : BitVec 1 := Scalar.xori v27 v28
  let c0_i32_5 : BitVec 32 := 0#32
  let v26 : BitVec 1 := Scalar.cmpi .ne v25 c0_i32_5
  let v30 : BitVec 1 := Scalar.andi v29 v26
  let v31 : BitVec 32 := Scalar.addi v25 v24
  let v32 : BitVec 32 := Scalar.select v30 v31 v25
  let v56 : BitVec 32 := Scalar.subi v22 v32
  let c1_i32_34 : BitVec 32 := 1#32
  let v85 : BitVec 32 := Scalar.subi v56 c1_i32_34
  let c4_i32_35 : BitVec 32 := 4#32
  let c0_i32_27 : BitVec 32 := 0#32
  let c0_i32_21 : BitVec 32 := 0#32
  let v58 : BitVec 1 := Scalar.cmpi .sgt v56 c0_i32_21
  let v59 : BitVec 32 := Scalar.extui v58
  let c0_i32_22 : BitVec 32 := 0#32
  let v60 : BitVec 1 := Scalar.cmpi .slt v56 c0_i32_22
  let v61 : BitVec 32 := Scalar.extui v60
  let v62 : BitVec 32 := Scalar.subi v59 v61
  let c4_i32_20 : BitVec 32 := 4#32
  let c0_i32_23 : BitVec 32 := 0#32
  let v63 : BitVec 1 := Scalar.cmpi .sgt c4_i32_20 c0_i32_23
  let v64 : BitVec 32 := Scalar.extui v63
  let c0_i32_24 : BitVec 32 := 0#32
  let v65 : BitVec 1 := Scalar.cmpi .slt c4_i32_20 c0_i32_24
  let v66 : BitVec 32 := Scalar.extui v65
  let v67 : BitVec 32 := Scalar.subi v64 v66
  let v68 : BitVec 1 := Scalar.cmpi .ne v62 v67
  let v69 : BitVec 32 := Scalar.remsi v56 c4_i32_20
  let c0_i32_25 : BitVec 32 := 0#32
  let v70 : BitVec 1 := Scalar.cmpi .ne v69 c0_i32_25
  let v71 : BitVec 1 := Scalar.andi v68 v70
  let v57 : BitVec 32 := Scalar.divsi v56 c4_i32_20
  let c1_i32_26 : BitVec 32 := 1#32
  let v72 : BitVec 32 := Scalar.subi v57 c1_i32_26
  let v73 : BitVec 32 := Scalar.select v71 v72 v57
  let v74 : BitVec 32 := Scalar.subi v73 c0_i32_27
  let c1_i32_28 : BitVec 32 := 1#32
  let v76 : BitVec 32 := Scalar.divsi v74 c1_i32_28
  let v77 : BitVec 32 := Scalar.muli v76 c1_i32_28
  let v78 : BitVec 32 := Scalar.addi c0_i32_27 v77
  let c1_i32_30 : BitVec 32 := 1#32
  let arg7 : BitVec 32 := Scf.iv v78 c1_i32_30 k0_t2
  let v86 : BitVec 32 := Scalar.muli c4_i32_35 arg7
  let v87 : BitVec 32 := Scalar.subi v85 v86
  let c2_i32_75 : BitVec 32 := 2#32
  let v216 : BitVec 32 := Scalar.subi v87 c2_i32_75
  let c256_i32_82 : BitVec 32 := 256#32
  let v225 : BitVec 32 := Scalar.muli v216 c256_i32_82
  v225
def k0_mult27 (i : grid0.Coords) (k0_t2 : Fin (k0_t2_loop i).trips) : BitVec 32 :=
  let arg2 : BitVec 32 := BitVec.ofNat 32 (i 2).val
  let c2_i32 : BitVec 32 := 2#32
  let v22 : BitVec 32 := Scalar.muli arg2 c2_i32
  let c4_i32 : BitVec 32 := 4#32
  let c0_i32 : BitVec 32 := 0#32
  let v23 : BitVec 1 := Scalar.cmpi .eq c4_i32 c0_i32
  let c1_i32 : BitVec 32 := 1#32
  let v24 : BitVec 32 := Scalar.select v23 c1_i32 c4_i32
  let v25 : BitVec 32 := Scalar.remsi v22 v24
  let c0_i32_6 : BitVec 32 := 0#32
  let v27 : BitVec 1 := Scalar.cmpi .slt v25 c0_i32_6
  let c0_i32_7 : BitVec 32 := 0#32
  let v28 : BitVec 1 := Scalar.cmpi .slt v24 c0_i32_7
  let v29 : BitVec 1 := Scalar.xori v27 v28
  let c0_i32_5 : BitVec 32 := 0#32
  let v26 : BitVec 1 := Scalar.cmpi .ne v25 c0_i32_5
  let v30 : BitVec 1 := Scalar.andi v29 v26
  let v31 : BitVec 32 := Scalar.addi v25 v24
  let v32 : BitVec 32 := Scalar.select v30 v31 v25
  let v56 : BitVec 32 := Scalar.subi v22 v32
  let c1_i32_34 : BitVec 32 := 1#32
  let v85 : BitVec 32 := Scalar.subi v56 c1_i32_34
  let c4_i32_35 : BitVec 32 := 4#32
  let c0_i32_27 : BitVec 32 := 0#32
  let c0_i32_21 : BitVec 32 := 0#32
  let v58 : BitVec 1 := Scalar.cmpi .sgt v56 c0_i32_21
  let v59 : BitVec 32 := Scalar.extui v58
  let c0_i32_22 : BitVec 32 := 0#32
  let v60 : BitVec 1 := Scalar.cmpi .slt v56 c0_i32_22
  let v61 : BitVec 32 := Scalar.extui v60
  let v62 : BitVec 32 := Scalar.subi v59 v61
  let c4_i32_20 : BitVec 32 := 4#32
  let c0_i32_23 : BitVec 32 := 0#32
  let v63 : BitVec 1 := Scalar.cmpi .sgt c4_i32_20 c0_i32_23
  let v64 : BitVec 32 := Scalar.extui v63
  let c0_i32_24 : BitVec 32 := 0#32
  let v65 : BitVec 1 := Scalar.cmpi .slt c4_i32_20 c0_i32_24
  let v66 : BitVec 32 := Scalar.extui v65
  let v67 : BitVec 32 := Scalar.subi v64 v66
  let v68 : BitVec 1 := Scalar.cmpi .ne v62 v67
  let v69 : BitVec 32 := Scalar.remsi v56 c4_i32_20
  let c0_i32_25 : BitVec 32 := 0#32
  let v70 : BitVec 1 := Scalar.cmpi .ne v69 c0_i32_25
  let v71 : BitVec 1 := Scalar.andi v68 v70
  let v57 : BitVec 32 := Scalar.divsi v56 c4_i32_20
  let c1_i32_26 : BitVec 32 := 1#32
  let v72 : BitVec 32 := Scalar.subi v57 c1_i32_26
  let v73 : BitVec 32 := Scalar.select v71 v72 v57
  let v74 : BitVec 32 := Scalar.subi v73 c0_i32_27
  let c1_i32_28 : BitVec 32 := 1#32
  let v76 : BitVec 32 := Scalar.divsi v74 c1_i32_28
  let v77 : BitVec 32 := Scalar.muli v76 c1_i32_28
  let v78 : BitVec 32 := Scalar.addi c0_i32_27 v77
  let c1_i32_30 : BitVec 32 := 1#32
  let arg7 : BitVec 32 := Scf.iv v78 c1_i32_30 k0_t2
  let v86 : BitVec 32 := Scalar.muli c4_i32_35 arg7
  let v87 : BitVec 32 := Scalar.subi v85 v86
  let c3_i32_95 : BitVec 32 := 3#32
  let v281 : BitVec 32 := Scalar.subi v87 c3_i32_95
  let c256_i32_96 : BitVec 32 := 256#32
  let v282 : BitVec 32 := Scalar.muli v281 c256_i32_96
  v282
def k0_mult28 (i : grid0.Coords) (k0_t2 : Fin (k0_t2_loop i).trips) : BitVec 32 :=
  let arg2 : BitVec 32 := BitVec.ofNat 32 (i 2).val
  let c2_i32 : BitVec 32 := 2#32
  let v22 : BitVec 32 := Scalar.muli arg2 c2_i32
  let c4_i32 : BitVec 32 := 4#32
  let c0_i32 : BitVec 32 := 0#32
  let v23 : BitVec 1 := Scalar.cmpi .eq c4_i32 c0_i32
  let c1_i32 : BitVec 32 := 1#32
  let v24 : BitVec 32 := Scalar.select v23 c1_i32 c4_i32
  let v25 : BitVec 32 := Scalar.remsi v22 v24
  let c0_i32_6 : BitVec 32 := 0#32
  let v27 : BitVec 1 := Scalar.cmpi .slt v25 c0_i32_6
  let c0_i32_7 : BitVec 32 := 0#32
  let v28 : BitVec 1 := Scalar.cmpi .slt v24 c0_i32_7
  let v29 : BitVec 1 := Scalar.xori v27 v28
  let c0_i32_5 : BitVec 32 := 0#32
  let v26 : BitVec 1 := Scalar.cmpi .ne v25 c0_i32_5
  let v30 : BitVec 1 := Scalar.andi v29 v26
  let v31 : BitVec 32 := Scalar.addi v25 v24
  let v32 : BitVec 32 := Scalar.select v30 v31 v25
  let v56 : BitVec 32 := Scalar.subi v22 v32
  let c1_i32_34 : BitVec 32 := 1#32
  let v85 : BitVec 32 := Scalar.subi v56 c1_i32_34
  let c4_i32_35 : BitVec 32 := 4#32
  let c0_i32_27 : BitVec 32 := 0#32
  let c0_i32_21 : BitVec 32 := 0#32
  let v58 : BitVec 1 := Scalar.cmpi .sgt v56 c0_i32_21
  let v59 : BitVec 32 := Scalar.extui v58
  let c0_i32_22 : BitVec 32 := 0#32
  let v60 : BitVec 1 := Scalar.cmpi .slt v56 c0_i32_22
  let v61 : BitVec 32 := Scalar.extui v60
  let v62 : BitVec 32 := Scalar.subi v59 v61
  let c4_i32_20 : BitVec 32 := 4#32
  let c0_i32_23 : BitVec 32 := 0#32
  let v63 : BitVec 1 := Scalar.cmpi .sgt c4_i32_20 c0_i32_23
  let v64 : BitVec 32 := Scalar.extui v63
  let c0_i32_24 : BitVec 32 := 0#32
  let v65 : BitVec 1 := Scalar.cmpi .slt c4_i32_20 c0_i32_24
  let v66 : BitVec 32 := Scalar.extui v65
  let v67 : BitVec 32 := Scalar.subi v64 v66
  let v68 : BitVec 1 := Scalar.cmpi .ne v62 v67
  let v69 : BitVec 32 := Scalar.remsi v56 c4_i32_20
  let c0_i32_25 : BitVec 32 := 0#32
  let v70 : BitVec 1 := Scalar.cmpi .ne v69 c0_i32_25
  let v71 : BitVec 1 := Scalar.andi v68 v70
  let v57 : BitVec 32 := Scalar.divsi v56 c4_i32_20
  let c1_i32_26 : BitVec 32 := 1#32
  let v72 : BitVec 32 := Scalar.subi v57 c1_i32_26
  let v73 : BitVec 32 := Scalar.select v71 v72 v57
  let v74 : BitVec 32 := Scalar.subi v73 c0_i32_27
  let c1_i32_28 : BitVec 32 := 1#32
  let v76 : BitVec 32 := Scalar.divsi v74 c1_i32_28
  let v77 : BitVec 32 := Scalar.muli v76 c1_i32_28
  let v78 : BitVec 32 := Scalar.addi c0_i32_27 v77
  let c1_i32_30 : BitVec 32 := 1#32
  let arg7 : BitVec 32 := Scf.iv v78 c1_i32_30 k0_t2
  let v86 : BitVec 32 := Scalar.muli c4_i32_35 arg7
  let v87 : BitVec 32 := Scalar.subi v85 v86
  let c3_i32 : BitVec 32 := 3#32
  let v280 : BitVec 32 := Scalar.subi v87 c3_i32
  let c256_i32_101 : BitVec 32 := 256#32
  let v289 : BitVec 32 := Scalar.muli v280 c256_i32_101
  v289
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== StickReferenceIdeal.lean ====
abbrev S4x4096x512 : Shape := ⟨3, ![4, 4096, 512]⟩
abbrev S4x4096x8x64 : Shape := ⟨4, ![4, 4096, 8, 64]⟩
abbrev S4x8x4096x64 : Shape := ⟨4, ![4, 8, 4096, 64]⟩
abbrev S4x8x4096x4096 : Shape := ⟨4, ![4, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩

abbrev nBuf : Space → Nat
  | .hbm => 73
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x512, .f32⟩
  | .hbm, ⟨3, _⟩ => ⟨S4x4096x8x64, .f32⟩
  | .hbm, ⟨4, _⟩ => ⟨S4x8x4096x64, .f32⟩
  | .hbm, ⟨5, _⟩ => ⟨S4x4096x8x64, .f32⟩
  | .hbm, ⟨6, _⟩ => ⟨S4x8x4096x64, .f32⟩
  | .hbm, ⟨7, _⟩ => ⟨S4x4096x8x64, .f32⟩
  | .hbm, ⟨8, _⟩ => ⟨S4x8x4096x64, .f32⟩
  | .hbm, ⟨9, _⟩ => ⟨S4x8x4096x4096, .f32⟩
  | .hbm, ⟨10, _⟩ => ⟨S_, .f32⟩
  | .hbm, ⟨11, _⟩ => ⟨S4x8x4096x4096, .f32⟩
  | .hbm, ⟨12, _⟩ => ⟨S4x8x4096x4096, .f32⟩
  | .hbm, ⟨13, _⟩ => ⟨S4096, .i32⟩
  | .hbm, ⟨14, _⟩ => ⟨S1x4096, .i32⟩
  | .hbm, ⟨15, _⟩ => ⟨S4096, .i32⟩
  | .hbm, ⟨16, _⟩ => ⟨S4096x1, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S4x8x4096x4096, .f32⟩
  | .hbm, ⟨21, _⟩ => ⟨S4x8x4096x4096, .f32⟩
  | .hbm, ⟨22, _⟩ => ⟨S_, .f32⟩
  | .hbm, ⟨23, _⟩ => ⟨S4x8x4096x4096, .f32⟩
  | .hbm, ⟨24, _⟩ => ⟨S4x8x4096x4096, .f32⟩
  | .hbm, ⟨25, _⟩ => ⟨S4x8x4096x4096, .f32⟩
  | .hbm, ⟨26, _⟩ => ⟨S4x8x4096x4096, .f32⟩
  | .hbm, ⟨27, _⟩ => ⟨S4x8x4096x4096, .i1⟩
  | .hbm, ⟨28, _⟩ => ⟨S4x8x4096x4096, .f32⟩
  | .hbm, ⟨29, _⟩ => ⟨S4x8x4096x4096, .f32⟩
  | .hbm, ⟨30, _⟩ => ⟨S4x8x4096x4096, .f32⟩
  | .hbm, ⟨31, _⟩ => ⟨S4x8x4096x4096, .f32⟩
  | .hbm, ⟨32, _⟩ => ⟨S4x8x4096x4096, .f32⟩
  | .hbm, ⟨33, _⟩ => ⟨S4x8x4096x4096, .f32⟩
  | .hbm, ⟨34, _⟩ => ⟨S4x8x4096x4096, .f32⟩
  | .hbm, ⟨35, _⟩ => ⟨S4x8x4096x4096, .f32⟩
  | .hbm, ⟨36, _⟩ => ⟨S4x8x4096x4096, .f32⟩
  | .hbm, ⟨37, _⟩ => ⟨S_, .f32⟩
  | .hbm, ⟨38, _⟩ => ⟨S_, .f32⟩
  | .hbm, ⟨39, _⟩ => ⟨S4x8x4096x4096, .i1⟩
  | .hbm, ⟨40, _⟩ => ⟨S4x8x4096x4096, .f32⟩
  | .hbm, ⟨41, _⟩ => ⟨S4x8x4096x4096, .f32⟩
  | .hbm, ⟨42, _⟩ => ⟨S_, .f32⟩
  | .hbm, ⟨43, _⟩ => ⟨S_, .f32⟩
  | .hbm, ⟨44, _⟩ => ⟨S4x8x4096x4096, .f32⟩
  | .hbm, ⟨45, _⟩ => ⟨S4x8x4096x4096, .f32⟩
  | .hbm, ⟨46, _⟩ => ⟨S4x8x4096x4096, .f32⟩
  | .hbm, ⟨47, _⟩ => ⟨S_, .f32⟩
  | .hbm, ⟨48, _⟩ => ⟨S4x8x4096x4096, .f32⟩
  | .hbm, ⟨49, _⟩ => ⟨S4x8x4096x4096, .f32⟩
  | .hbm, ⟨50, _⟩ => ⟨S4x8x4096x4096, .f32⟩
  | .hbm, ⟨51, _⟩ => ⟨S4x8x4096x4096, .f32⟩
  | .hbm, ⟨52, _⟩ => ⟨S4x8x4096x4096, .i1⟩
  | .hbm, ⟨53, _⟩ => ⟨S4x8x4096x4096, .f32⟩
  | .hbm, ⟨54, _⟩ => ⟨S4x8x4096x4096, .f32⟩
  | .hbm, ⟨55, _⟩ => ⟨S4x8x4096x4096, .f32⟩
  | .hbm, ⟨56, _⟩ => ⟨S4x8x4096x4096, .f32⟩
  | .hbm, ⟨57, _⟩ => ⟨S4x8x4096x4096, .f32⟩
  | .hbm, ⟨58, _⟩ => ⟨S4x8x4096x4096, .f32⟩
  | .hbm, ⟨59, _⟩ => ⟨S4x8x4096x4096, .f32⟩
  | .hbm, ⟨60, _⟩ => ⟨S4x8x4096x4096, .f32⟩
  | .hbm, ⟨61, _⟩ => ⟨S4x8x4096x4096, .f32⟩
  | .hbm, ⟨62, _⟩ => ⟨S4x8x4096x4096, .f32⟩
  | .hbm, ⟨63, _⟩ => ⟨S4x8x4096x4096, .f32⟩
  | .hbm, ⟨64, _⟩ => ⟨S_, .f32⟩
  | .hbm, ⟨65, _⟩ => ⟨S_, .f32⟩
  | .hbm, ⟨66, _⟩ => ⟨S4x8x4096x4096, .i1⟩
  | .hbm, ⟨67, _⟩ => ⟨S4x8x4096x4096, .f32⟩
  | .hbm, ⟨68, _⟩ => ⟨S4x8x4096x4096, .f32⟩
  | .hbm, ⟨69, _⟩ => ⟨S4x8x4096x64, .f32⟩
  | .hbm, ⟨70, _⟩ => ⟨S4x4096x8x64, .f32⟩
  | .hbm, ⟨71, _⟩ => ⟨S4x4096x512, .f32⟩
  | .hbm, ⟨72, _⟩ => ⟨S4x4096x512, .bf16⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v17 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v18 : Ref sig .tc := ⟨.hbm, 41, rfl⟩
abbrev main_call2_cst : Ref sig .tc := ⟨.hbm, 42, rfl⟩
abbrev main_call2_v0 : Ref sig .tc := ⟨.hbm, 43, rfl⟩
abbrev main_v19 : Ref sig .tc := ⟨.hbm, 44, rfl⟩
abbrev main_v20 : Ref sig .tc := ⟨.hbm, 45, rfl⟩
abbrev main_call3_v0 : Ref sig .tc := ⟨.hbm, 46, rfl⟩
abbrev main_call3_call0_cst : Ref sig .tc := ⟨.hbm, 47, rfl⟩
abbrev main_call3_call0_v0 : Ref sig .tc := ⟨.hbm, 48, rfl⟩
abbrev main_call3_call0_v1 : Ref sig .tc := ⟨.hbm, 49, rfl⟩
abbrev main_call3_call0_v2 : Ref sig .tc := ⟨.hbm, 50, rfl⟩
abbrev main_call3_call0_v3 : Ref sig .tc := ⟨.hbm, 51, rfl⟩
abbrev main_call3_call0_v4 : Ref sig .tc := ⟨.hbm, 52, rfl⟩
abbrev main_call3_call0_v5 : Ref sig .tc := ⟨.hbm, 53, rfl⟩
abbrev main_call3_call0_v6 : Ref sig .tc := ⟨.hbm, 54, rfl⟩
abbrev main_call3_call0_v7 : Ref sig .tc := ⟨.hbm, 55, rfl⟩
abbrev main_call3_call0_v8 : Ref sig .tc := ⟨.hbm, 56, rfl⟩
abbrev main_call3_call0_v9 : Ref sig .tc := ⟨.hbm, 57, rfl⟩
abbrev main_call3_call0_v10 : Ref sig .tc := ⟨.hbm, 58, rfl⟩
abbrev main_call3_call0_v11 : Ref sig .tc := ⟨.hbm, 59, rfl⟩
abbrev main_call3_v1 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_cst_1 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩

abbrev nD : Nat := 1
abbrev τ : Topo := Topo.v7x

variable {F : FTy → Type} [FloatOps F]
-- ==== Conv.lean ====
abbrev S4x4096x1024 : Shape := ⟨3, ![4, 4096, 1024]⟩
abbrev S4x1024 : Shape := ⟨2, ![4, 1024]⟩
abbrev S_ : Shape := ⟨0, ![]⟩
abbrev S512 : Shape := ⟨1, ![512]⟩
abbrev S1024 : Shape := ⟨1, ![1024]⟩
abbrev S1x1024 : Shape := ⟨2, ![1, 1024]⟩
abbrev S1x512x1024 : Shape := ⟨3, ![1, 512, 1024]⟩
abbrev S1x8x1024 : Shape := ⟨3, ![1, 8, 1024]⟩
abbrev S8x1024 : Shape := ⟨2, ![8, 1024]⟩
abbrev S512x1024 : Shape := ⟨2, ![512, 1024]⟩
abbrev S520x1024 : Shape := ⟨2, ![520, 1024]⟩

abbrev nBuf : Space → Nat
  | .hbm => 9
  | .vmem => 8
  | .smem => 0
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S_, .f32⟩
  | .hbm, ⟨3, _⟩ => ⟨S512, .f32⟩
  | .hbm, ⟨4, _⟩ => ⟨S_, .f32⟩
  | .hbm, ⟨5, _⟩ => ⟨S512, .f32⟩
  | .hbm, ⟨6, _⟩ => ⟨S1024, .f32⟩
  | .hbm, ⟨7, _⟩ => ⟨S1x1024, .f32⟩
  | .hbm, ⟨8, _⟩ => ⟨S4x4096x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S4x1024, .f32⟩
  | .local _ .vmem, ⟨5, _⟩ => ⟨S1x1024, .f32⟩
  | .local _ .vmem, ⟨6, _⟩ => ⟨S1x512x1024, .bf16⟩
  | .local _ .vmem, ⟨7, _⟩ => ⟨S1x512x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ConvReferenceIdeal.lean ====
abbrev S4x4096x1024 : Shape := ⟨3, ![4, 4096, 1024]⟩
abbrev S4x1024 : Shape := ⟨2, ![4, 1024]⟩
abbrev S_ : Shape := ⟨0, ![]⟩
abbrev S4x4099x1024 : Shape := ⟨3, ![4, 4099, 1024]⟩
abbrev S1x1024 : Shape := ⟨2, ![1, 1024]⟩
abbrev S1024 : Shape := ⟨1, ![1024]⟩
abbrev S1x1x1024 : Shape := ⟨3, ![1, 1, 1024]⟩
abbrev S4x4096x512 : Shape := ⟨3, ![4, 4096, 512]⟩

abbrev nBuf : Space → Nat
  | .hbm => 51
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S_, .i32⟩
  | .hbm, ⟨3, _⟩ => ⟨S_, .f32⟩
  | .hbm, ⟨4, _⟩ => ⟨S4x4099x1024, .f32⟩
  | .hbm, ⟨5, _⟩ => ⟨S4x4096x1024, .f32⟩
  | .hbm, ⟨6, _⟩ => ⟨S1x1024, .f32⟩
  | .hbm, ⟨7, _⟩ => ⟨S1024, .f32⟩
  | .hbm, ⟨8, _⟩ => ⟨S1x1x1024, .f32⟩
  | .hbm, ⟨9, _⟩ => ⟨S4x4096x1024, .f32⟩
  | .hbm, ⟨10, _⟩ => ⟨S4x4096x1024, .f32⟩
  | .hbm, ⟨11, _⟩ => ⟨S_, .f32⟩
  | .hbm, ⟨12, _⟩ => ⟨S4x4096x1024, .f32⟩
  | .hbm, ⟨13, _⟩ => ⟨S4x4096x1024, .f32⟩
  | .hbm, ⟨14, _⟩ => ⟨S4x4096x1024, .f32⟩
  | .hbm, ⟨15, _⟩ => ⟨S1x1024, .f32⟩
  | .hbm, ⟨16, _⟩ => ⟨S1024, .f32⟩
  | .hbm, ⟨17, _⟩ => ⟨S1x1x1024, .f32⟩
  | .hbm, ⟨18, _⟩ => ⟨S4x4096x1024, .f32⟩
  | .hbm, ⟨19, _⟩ => ⟨S4x4096x1024, .f32⟩
  | .hbm, ⟨20, _⟩ => ⟨S4x4096x1024, .f32⟩
  | .hbm, ⟨21, _⟩ => ⟨S4x4096x1024, .f32⟩
  | .hbm, ⟨22, _⟩ => ⟨S1x1024, .f32⟩
  | .hbm, ⟨23, _⟩ => ⟨S1024, .f32⟩
  | .hbm, ⟨24, _⟩ => ⟨S1x1x1024, .f32⟩
  | .hbm, ⟨25, _⟩ => ⟨S4x4096x1024, .f32⟩
  | .hbm, ⟨26, _⟩ => ⟨S4x4096x1024, .f32⟩
  | .hbm, ⟨27, _⟩ => ⟨S4x4096x1024, .f32⟩
  | .hbm, ⟨28, _⟩ => ⟨S4x4096x1024, .f32⟩
  | .hbm, ⟨29, _⟩ => ⟨S1x1024, .f32⟩
  | .hbm, ⟨30, _⟩ => ⟨S1024, .f32⟩
  | .hbm, ⟨31, _⟩ => ⟨S1x1x1024, .f32⟩
  | .hbm, ⟨32, _⟩ => ⟨S4x4096x1024, .f32⟩
  | .hbm, ⟨33, _⟩ => ⟨S4x4096x1024, .f32⟩
  | .hbm, ⟨34, _⟩ => ⟨S4x4096x1024, .f32⟩
  | .hbm, ⟨35, _⟩ => ⟨S4x4096x1024, .f32⟩
  | .hbm, ⟨36, _⟩ => ⟨S4x4096x1024, .f32⟩
  | .hbm, ⟨37, _⟩ => ⟨S_, .f32⟩
  | .hbm, ⟨38, _⟩ => ⟨S4x4096x1024, .f32⟩
  | .hbm, ⟨39, _⟩ => ⟨S4x4096x1024, .f32⟩
  | .hbm, ⟨40, _⟩ => ⟨S_, .f32⟩
  | .hbm, ⟨41, _⟩ => ⟨S4x4096x1024, .f32⟩
  | .hbm, ⟨42, _⟩ => ⟨S4x4096x1024, .f32⟩
  | .hbm, ⟨43, _⟩ => ⟨S4x4096x1024, .f32⟩
  | .hbm, ⟨44, _⟩ => ⟨S4x4096x512, .f32⟩
  | .hbm, ⟨45, _⟩ => ⟨S4x4096x512, .f32⟩
  | .hbm, ⟨46, _⟩ => ⟨S_, .f32⟩
  | .hbm, ⟨47, _⟩ => ⟨S4x4096x512, .f32⟩
  | .hbm, ⟨48, _⟩ => ⟨S4x4096x512, .f32⟩
  | .hbm, ⟨49, _⟩ => ⟨S4x4096x1024, .f32⟩
  | .hbm, ⟨50, _⟩ => ⟨S4x4096x1024, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_call1_v0 : Ref sig .tc := ⟨.hbm, 35, rfl⟩
abbrev main_call1_v1 : Ref sig .tc := ⟨.hbm, 36, rfl⟩
abbrev main_call1_cst : Ref sig .tc := ⟨.hbm, 37, rfl⟩
abbrev main_call1_v2 : Ref sig .tc := ⟨.hbm, 38, rfl⟩
abbrev main_call1_v3 : Ref sig .tc := ⟨.hbm, 39, rfl⟩
abbrev main_call1_cst_0 : Ref sig .tc := ⟨.hbm, 40, rfl⟩
abbrev main_call1_v4 : Ref sig .tc := ⟨.hbm, 41, rfl⟩
abbrev main_call1_v5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_0 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]
-- ==== Pool.lean ====
abbrev S4x4096x256 : Shape := ⟨3, ![4, 4096, 256]⟩
abbrev S4x4096x128 : Shape := ⟨3, ![4, 4096, 128]⟩
abbrev S12 : Shape := ⟨1, ![12]⟩
abbrev S4x64x64 : Shape := ⟨3, ![4, 64, 64]⟩
abbrev S256 : Shape := ⟨1, ![256]⟩
abbrev S1x64x64 : Shape := ⟨3, ![1, 64, 64]⟩
abbrev S64x64 : Shape := ⟨2, ![64, 64]⟩
abbrev S_ : Shape := ⟨0, ![]⟩
abbrev S64x256 : Shape := ⟨2, ![64, 256]⟩
abbrev S256x256 : Shape := ⟨2, ![256, 256]⟩
abbrev S1x12 : Shape := ⟨2, ![1, 12]⟩
abbrev S1x128 : Shape := ⟨2, ![1, 128]⟩
abbrev S1x256 : Shape := ⟨2, ![1, 256]⟩
abbrev S1x4096x256 : Shape := ⟨3, ![1, 4096, 256]⟩
abbrev S1x4096x128 : Shape := ⟨3, ![1, 4096, 128]⟩
abbrev S16x256 : Shape := ⟨2, ![16, 256]⟩
abbrev S1x256x256 : Shape := ⟨3, ![1, 256, 256]⟩
abbrev S272x256 : Shape := ⟨2, ![272, 256]⟩
abbrev S256x1 : Shape := ⟨2, ![256, 1]⟩
abbrev S1x256x128 : Shape := ⟨3, ![1, 256, 128]⟩
abbrev S256x128 : Shape := ⟨2, ![256, 128]⟩
abbrev S1x272x256 : Shape := ⟨3, ![1, 272, 256]⟩

abbrev nBuf : Space → Nat
  | .hbm => 30
  | .vmem => 11
  | .smem => 0
  | _ => 0

abbrev bufTy : (tb : Table) → Fin (tcTables nBuf tb) → BufTy
  | .hbm, ⟨0, _⟩ => ⟨S4x4096x256, .f32⟩
  | .hbm, ⟨1, _⟩ => ⟨S4x4096x128, .f32⟩
  | .hbm, ⟨2, _⟩ => ⟨S12, .f32⟩
  | .hbm, ⟨3, _⟩ => ⟨S4x64x64, .f32⟩
  | .hbm, ⟨4, _⟩ => ⟨S256, .f32⟩
  | .hbm, ⟨5, _⟩ => ⟨S1x64x64, .f32⟩
  | .hbm, ⟨6, _⟩ => ⟨S64x64, .f32⟩
  | .hbm, ⟨7, _⟩ => ⟨S1x64x64, .f32⟩
  | .hbm, ⟨8, _⟩ => ⟨S64x64, .f32⟩
  | .hbm, ⟨9, _⟩ => ⟨S1x64x64, .f32⟩
  | .hbm, ⟨10, _⟩ => ⟨S64x64, .f32⟩
  | .hbm, ⟨11, _⟩ => ⟨S1x64x64, .f32⟩
  | .hbm, ⟨12, _⟩ => ⟨S64x64, .f32⟩
  | .hbm, ⟨13, _⟩ => ⟨S_, .f32⟩
  | .hbm, ⟨14, _⟩ => ⟨S64x256, .f32⟩
  | .hbm, ⟨15, _⟩ => ⟨S_, .f32⟩
  | .hbm, ⟨16, _⟩ => ⟨S64x256, .f32⟩
  | .hbm, ⟨17, _⟩ => ⟨S_, .f32⟩
  | .hbm, ⟨18, _⟩ => ⟨S64x256, .f32⟩
  | .hbm, ⟨19, _⟩ => ⟨S_, .f32⟩
  | .hbm, ⟨20, _⟩ => ⟨S64x256, .f32⟩
  | .hbm, ⟨21, _⟩ => ⟨S256x256, .f32⟩
  | .hbm, ⟨22, _⟩ => ⟨S256x256, .bf16⟩
  | .hbm, ⟨23, _⟩ => ⟨S1x12, .f32⟩
  | .hbm, ⟨24, _⟩ => ⟨S_, .i32⟩
  | .hbm, ⟨25, _⟩ => ⟨S_, .f32⟩
  | .hbm, ⟨26, _⟩ => ⟨S1x128, .f32⟩
  | .hbm, ⟨27, _⟩ => ⟨S1x256, .f32⟩
  | .hbm, ⟨28, _⟩ => ⟨S4x4096x256, .bf16⟩
  | .hbm, ⟨29, _⟩ => ⟨S4x4096x128, .f32⟩
  | .local _ .vmem, ⟨0, _⟩ => ⟨S1x4096x256, .f32⟩
  | .local _ .vmem, ⟨1, _⟩ => ⟨S1x4096x256, .f32⟩
  | .local _ .vmem, ⟨2, _⟩ => ⟨S1x4096x128, .f32⟩
  | .local _ .vmem, ⟨3, _⟩ => ⟨S1x4096x128, .f32⟩
  | .local _ .vmem, ⟨4, _⟩ => ⟨S1x128, .f32⟩
  | .local _ .vmem, ⟨5, _⟩ => ⟨S256x256, .bf16⟩
  | .local _ .vmem, ⟨6, _⟩ => ⟨S1x256, .f32⟩
  | .local _ .vmem, ⟨7, _⟩ => ⟨S1x4096x256, .bf16⟩
  | .local _ .vmem, ⟨8, _⟩ => ⟨S1x4096x256, .bf16⟩
  | .local _ .vmem, ⟨9, _⟩ => ⟨S1x4096x128, .f32⟩
  | .local _ .vmem, ⟨10, _⟩ => ⟨S1x4096x128, .f32⟩
  | _, _ => ⟨S4x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_cst : Ref sig .tc := ⟨.hbm, 13, rfl⟩
abbrev main_call0_v4 : Ref sig .tc := ⟨.hbm, 14, rfl⟩
abbrev main_call0_cst_0 : Ref sig .tc := ⟨.hbm, 15, rfl⟩
abbrev main_call0_v5 : Ref sig .tc := ⟨.hbm, 16, rfl⟩
abbrev main_call0_cst_1 : Ref sig .tc := ⟨.hbm, 17, rfl⟩
abbrev main_call0_v6 : Ref sig .tc := ⟨.hbm, 18, rfl⟩
abbrev main_call0_cst_2 : Ref sig .tc := ⟨.hbm, 19, rfl⟩
abbrev main_call0_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_call1_v0 : Ref sig .tc := ⟨.hbm, 25, rfl⟩
abbrev main_v11 : Ref sig .tc := ⟨.hbm, 26, rfl⟩
abbrev main_v12 : Ref sig .tc := ⟨.hbm, 27, rfl⟩
abbrev main_v13_0 : Ref sig .tc := ⟨.hbm, 28, rfl⟩
abbrev main_v13_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PoolReferenceIdeal.lean ====
abbrev S4x4096x256 : Shape := ⟨3, ![4, 4096, 256]⟩
abbrev S4x4096x128 : Shape := ⟨3, ![4, 4096, 128]⟩
abbrev S12 : Shape := ⟨1, ![12]⟩
abbrev S4x64x64 : Shape := ⟨3, ![4, 64, 64]⟩
abbrev S256 : Shape := ⟨1, ![256]⟩
abbrev S_ : Shape := ⟨0, ![]⟩
abbrev S128 : Shape := ⟨1, ![128]⟩
abbrev S1x1x128 : Shape := ⟨3, ![1, 1, 128]⟩
abbrev S4x4096x64 : Shape := ⟨3, ![4, 4096, 64]⟩
abbrev S4x4098x64 : Shape := ⟨3, ![4, 4098, 64]⟩
abbrev S4096 : Shape := ⟨1, ![4096]⟩
abbrev S1x4096x1 : Shape := ⟨3, ![1, 4096, 1]⟩
abbrev S4x4100x64 : Shape := ⟨3, ![4, 4100, 64]⟩
abbrev S4x4104x64 : Shape := ⟨3, ![4, 4104, 64]⟩
abbrev S4x4112x64 : Shape := ⟨3, ![4, 4112, 64]⟩
abbrev S4x4096x1x64 : Shape := ⟨4, ![4, 4096, 1, 64]⟩
abbrev S4x4096x4x64 : Shape := ⟨4, ![4, 4096, 4, 64]⟩
abbrev S4x64x4x4096 : Shape := ⟨4, ![4, 64, 4, 4096]⟩
abbrev S1x1x256 : Shape := ⟨3, ![1, 1, 256]⟩

abbrev nBuf : Space → Nat
  | .hbm => 129
  | .vmem => 0
  | .smem => 0
  | _ => 0

abbrev hbmTy0_0 (i : Nat) : BufTy := match i % 128 with
  | 0 => ⟨S4x4096x256, .f32⟩
  | 1 => ⟨S4x4096x128, .f32⟩
  | 2 => ⟨S12, .f32⟩
  | 3 => ⟨S4x64x64, .f32⟩
  | 4 => ⟨S256, .f32⟩
  | 5 => ⟨S_, .i32⟩
  | 6 => ⟨S_, .f32⟩
  | 7 => ⟨S128, .f32⟩
  | 8 => ⟨S1x1x128, .f32⟩
  | 9 => ⟨S4x4096x128, .f32⟩
  | 10 => ⟨S4x4096x128, .f32⟩
  | 11 => ⟨S4x4096x128, .f32⟩
  | 12 => ⟨S_, .f32⟩
  | 13 => ⟨S4x4096x128, .f32⟩
  | 14 => ⟨S4x4096x128, .f32⟩
  | 15 => ⟨S4x4096x128, .f32⟩
  | 16 => ⟨S4x4096x128, .f32⟩
  | 17 => ⟨S4x4096x128, .i1⟩
  | 18 => ⟨S4x4096x128, .f32⟩
  | 19 => ⟨S4x4096x128, .f32⟩
  | 20 => ⟨S4x4096x128, .f32⟩
  | 21 => ⟨S4x4096x128, .f32⟩
  | 22 => ⟨S4x4096x128, .f32⟩
  | 23 => ⟨S4x4096x128, .f32⟩
  | 24 => ⟨S4x4096x128, .f32⟩
  | 25 => ⟨S4x4096x128, .f32⟩
  | 26 => ⟨S4x4096x128, .f32⟩
  | 27 => ⟨S4x4096x64, .f32⟩
  | 28 => ⟨S_, .f32⟩
  | 29 => ⟨S_, .f32⟩
  | 30 => ⟨S4x4096x64, .f32⟩
  | 31 => ⟨S_, .i32⟩
  | 32 => ⟨S_, .f32⟩
  | 33 => ⟨S4x4098x64, .f32⟩
  | 34 => ⟨S4x4096x64, .f32⟩
  | 35 => ⟨S4096, .i32⟩
  | 36 => ⟨S_, .i32⟩
  | 37 => ⟨S4096, .i32⟩
  | 38 => ⟨S4096, .i32⟩
  | 39 => ⟨S_, .i32⟩
  | 40 => ⟨S4096, .i32⟩
  | 41 => ⟨S4096, .i32⟩
  | 42 => ⟨S4096, .f32⟩
  | 43 => ⟨S4x4096x64, .f32⟩
  | 44 => ⟨S1x4096x1, .f32⟩
  | 45 => ⟨S4x4096x64, .f32⟩
  | 46 => ⟨S4x4096x64, .f32⟩
  | 47 => ⟨S4x4096x64, .f32⟩
  | 48 => ⟨S4x4096x64, .f32⟩
  | 49 => ⟨S_, .f32⟩
  | 50 => ⟨S_, .f32⟩
  | 51 => ⟨S4x4096x64, .f32⟩
  | 52 => ⟨S_, .i32⟩
  | 53 => ⟨S_, .f32⟩
  | 54 => ⟨S4x4100x64, .f32⟩
  | 55 => ⟨S4x4096x64, .f32⟩
  | 56 => ⟨S4096, .i32⟩
  | 57 => ⟨S_, .i32⟩
  | 58 => ⟨S4096, .i32⟩
  | 59 => ⟨S4096, .i32⟩
  | 60 => ⟨S_, .i32⟩
  | 61 => ⟨S4096, .i32⟩
  | 62 => ⟨S4096, .i32⟩
  | 63 => ⟨S4096, .f32⟩
  | 64 => ⟨S4x4096x64, .f32⟩
  | 65 => ⟨S1x4096x1, .f32⟩
  | 66 => ⟨S4x4096x64, .f32⟩
  | 67 => ⟨S4x4096x64, .f32⟩
  | 68 => ⟨S4x4096x64, .f32⟩
  | 69 => ⟨S4x4096x64, .f32⟩
  | 70 => ⟨S_, .f32⟩
  | 71 => ⟨S_, .f32⟩
  | 72 => ⟨S4x4096x64, .f32⟩
  | 73 => ⟨S_, .i32⟩
  | 74 => ⟨S_, .f32⟩
  | 75 => ⟨S4x4104x64, .f32⟩
  | 76 => ⟨S4x4096x64, .f32⟩
  | 77 => ⟨S4096, .i32⟩
  | 78 => ⟨S_, .i32⟩
  | 79 => ⟨S4096, .i32⟩
  | 80 => ⟨S4096, .i32⟩
  | 81 => ⟨S_, .i32⟩
  | 82 => ⟨S4096, .i32⟩
  | 83 => ⟨S4096, .i32⟩
  | 84 => ⟨S4096, .f32⟩
  | 85 => ⟨S4x4096x64, .f32⟩
  | 86 => ⟨S1x4096x1, .f32⟩
  | 87 => ⟨S4x4096x64, .f32⟩
  | 88 => ⟨S4x4096x64, .f32⟩
  | 89 => ⟨S4x4096x64, .f32⟩
  | 90 => ⟨S4x4096x64, .f32⟩
  | 91 => ⟨S_, .f32⟩
  | 92 => ⟨S_, .f32⟩
  | 93 => ⟨S4x4096x64, .f32⟩
  | 94 => ⟨S_, .i32⟩
  | 95 => ⟨S_, .f32⟩
  | 96 => ⟨S4x4112x64, .f32⟩
  | 97 => ⟨S4x4096x64, .f32⟩
  | 98 => ⟨S4096, .i32⟩
  | 99 => ⟨S_, .i32⟩
  | 100 => ⟨S4096, .i32⟩
  | 101 => ⟨S4096, .i32⟩
  | 102 => ⟨S_, .i32⟩
  | 103 => ⟨S4096, .i32⟩
  | 104 => ⟨S4096, .i32⟩
  | 105 => ⟨S4096, .f32⟩
  | 106 => ⟨S4x4096x64, .f32⟩
  | 107 => ⟨S1x4096x1, .f32⟩
  | 108 => ⟨S4x4096x64, .f32⟩
  | 109 => ⟨S4x4096x64, .f32⟩
  | 110 => ⟨S4x4096x64, .f32⟩
  | 111 => ⟨S4x4096x1x64, .f32⟩
  | 112 => ⟨S4x4096x1x64, .f32⟩
  | 113 => ⟨S4x4096x1x64, .f32⟩
  | 114 => ⟨S4x4096x1x64, .f32⟩
  | 115 => ⟨S4x4096x4x64, .f32⟩
  | 116 => ⟨S4x64x4x4096, .f32⟩
  | 117 => ⟨S4x4096x4x64, .f32⟩
  | 118 => ⟨S4x4096x256, .f32⟩
  | 119 => ⟨S1x1x256, .f32⟩
  | 120 => ⟨S4x4096x256, .f32⟩
  | 121 => ⟨S4x4096x256, .f32⟩
  | 122 => ⟨S4x4096x256, .bf16⟩
  | 123 => ⟨S_, .f32⟩
  | 124 => ⟨S_, .f32⟩
  | 125 => ⟨S4x4096x128, .f32⟩
  | 126 => ⟨S_, .f32⟩
  | 127 => ⟨S4x4096x128, .f32⟩
  | _ => ⟨S4x4096x256, .f32⟩

abbrev hbmTy0_1 (i : Nat) : BufTy := match i % 128 with
  | 0 => ⟨S4x4096x128, .f32⟩
  | _ => ⟨S4x4096x256, .f32⟩

abbrev hbmTy (i : Nat) : BufTy := match i / 128 with
  | 0 => hbmTy0_0 i
  | 1 => hbmTy0_1 i
  | _ => ⟨S4x4096x256, .f32⟩

abbrev bufTy : (tb : Table) → Fin (tcTables nBuf tb) → BufTy
  | .hbm, ⟨i, _⟩ => hbmTy i
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call1_v0 : Ref sig .tc := ⟨.hbm, 11, rfl⟩
abbrev main_call1_call0_cst : Ref sig .tc := ⟨.hbm, 12, rfl⟩
abbrev main_call1_call0_v0 : Ref sig .tc := ⟨.hbm, 13, rfl⟩
abbrev main_call1_call0_v1 : Ref sig .tc := ⟨.hbm, 14, rfl⟩
abbrev main_call1_call0_v2 : Ref sig .tc := ⟨.hbm, 15, rfl⟩
abbrev main_call1_call0_v3 : Ref sig .tc := ⟨.hbm, 16, rfl⟩
abbrev main_call1_call0_v4 : Ref sig .tc := ⟨.hbm, 17, rfl⟩
abbrev main_call1_call0_v5 : Ref sig .tc := ⟨.hbm, 18, rfl⟩
abbrev main_call1_call0_v6 : Ref sig .tc := ⟨.hbm, 19, rfl⟩
abbrev main_call1_call0_v7 : Ref sig .tc := ⟨.hbm, 20, rfl⟩
abbrev main_call1_call0_v8 : Ref sig .tc := ⟨.hbm, 21, rfl⟩
abbrev main_call1_call0_v9 : Ref sig .tc := ⟨.hbm, 22, rfl⟩
abbrev main_call1_call0_v10 : Ref sig .tc := ⟨.hbm, 23, rfl⟩
abbrev main_call1_call0_v11 : Ref sig .tc := ⟨.hbm, 24, rfl⟩
abbrev main_call1_v1 : Ref sig .tc := ⟨.hbm, 25, rfl⟩
abbrev main_v4 : Ref sig .tc := ⟨.hbm, 26, rfl⟩
abbrev main_v5 : Ref sig .tc := ⟨.hbm, 27, rfl⟩
abbrev main_call2_call0_cst : Ref sig .tc := ⟨.hbm, 28, rfl⟩
abbrev main_call2_call0_v0 : Ref sig .tc := ⟨.hbm, 29, rfl⟩
abbrev main_v6 : Ref sig .tc := ⟨.hbm, 30, rfl⟩
abbrev main_c_0 : Ref sig .tc := ⟨.hbm, 31, rfl⟩
abbrev main_call3_v0 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_c_1 : Ref sig .tc := ⟨.hbm, 36, rfl⟩
abbrev main_v10 : Ref sig .tc := ⟨.hbm, 37, rfl⟩
abbrev main_v11 : Ref sig .tc := ⟨.hbm, 38, rfl⟩
abbrev main_c_2 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_call4_call0_cst : Ref sig .tc := ⟨.hbm, 49, rfl⟩
abbrev main_call4_call0_v0 : Ref sig .tc := ⟨.hbm, 50, rfl⟩
abbrev main_v21 : Ref sig .tc := ⟨.hbm, 51, rfl⟩
abbrev main_c_3 : Ref sig .tc := ⟨.hbm, 52, rfl⟩
abbrev main_call5_v0 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_c_4 : Ref sig .tc := ⟨.hbm, 57, rfl⟩
abbrev main_v25 : Ref sig .tc := ⟨.hbm, 58, rfl⟩
abbrev main_v26 : Ref sig .tc := ⟨.hbm, 59, rfl⟩
abbrev main_c_5 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_call6_call0_cst : Ref sig .tc := ⟨.hbm, 70, rfl⟩
abbrev main_call6_call0_v0 : Ref sig .tc := ⟨.hbm, 71, rfl⟩
abbrev main_v36 : Ref sig .tc := ⟨.hbm, 72, rfl⟩
abbrev main_c_6 : Ref sig .tc := ⟨.hbm, 73, rfl⟩
abbrev main_call7_v0 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_c_7 : Ref sig .tc := ⟨.hbm, 78, rfl⟩
abbrev main_v40 : Ref sig .tc := ⟨.hbm, 79, rfl⟩
abbrev main_v41 : Ref sig .tc := ⟨.hbm, 80, rfl⟩
abbrev main_c_8 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_call8_call0_cst : Ref sig .tc := ⟨.hbm, 91, rfl⟩
abbrev main_call8_call0_v0 : Ref sig .tc := ⟨.hbm, 92, rfl⟩
abbrev main_v51 : Ref sig .tc := ⟨.hbm, 93, rfl⟩
abbrev main_c_9 : Ref sig .tc := ⟨.hbm, 94, rfl⟩
abbrev main_call9_v0 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_c_10 : Ref sig .tc := ⟨.hbm, 99, rfl⟩
abbrev main_v55 : Ref sig .tc := ⟨.hbm, 100, rfl⟩
abbrev main_v56 : Ref sig .tc := ⟨.hbm, 101, rfl⟩
abbrev main_c_11 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_call10_call0_cst : Ref sig .tc := ⟨.hbm, 123, rfl⟩
abbrev main_call10_call0_v0 : Ref sig .tc := ⟨.hbm, 124, rfl⟩
abbrev main_v77 : Ref sig .tc := ⟨.hbm, 125, rfl⟩
abbrev main_cst : Ref sig .tc := ⟨.hbm, 126, rfl⟩
abbrev main_v78 : Ref sig .tc := ⟨.hbm, 127, rfl⟩
abbrev main_v79 : Ref sig .tc := ⟨.hbm, 128, rfl⟩

abbrev nD : Nat := 1
abbrev τ : Topo := Topo.v7x

variable {F : FTy → Type} [FloatOps F]
-- ==== Proof.FoxDefs.lean ====
module

public import proofs.«01_k».proof.Proof.Gen.KernelIdeal
public import proofs.«01_k».proof.Proof.Gen.KernelIdeal.Skeleton
public import proofs.«01_k».proof.Proof.Gen.KernelIdeal.Loops
public import Idealize.ShloMosaic.Lib.WholeRead

@[expose] public section

set_option maxRecDepth 65536

noncomputable section

namespace Cert.KernelIdeal.Fox

open Cert.KernelIdeal Cert.KernelIdeal.Gen
open Idealize.ShloMosaic Idealize.ShloMosaic.TcCoe Idealize.ShloMosaic.Tactic
open Idealize.SL Idealize.SL.Sem

variable {F : FTy → Type} [FloatOps F]

/-- What a head carries from one key block to the next: per head the running maximum of its scores,
    and per head the running weighted sum of values, with the sum of the weights in the other head's lanes. -/
abbrev Carry (F : FTy → Type) := FVec F S512x1 .f32 × FVec F S512x1 .f32 × FVec F S512x128 .f32 × FVec F S512x128 .f32

/-- The mask of the first head's lanes, spread over the rows. -/
def lanes (v2 : IVec S1x128 1) : IVec S512x128 1 :=
  broadcastTo S512x128 (shapeCast S1x128 v2 shapeCasts_S1x128_S1x128) broadcasts_S1x128_S512x128

/-- A block of ones. -/
def ones : FVec F S512x128 .bf16 := broadcast S512x128 (Scalar.ofBits .bf16 0x3F80#16)

/-- Head 0's scores against a key block: the products less the key's forgetting sum. -/
def sc0 (q : FVec F S512x128 .bf16) (K : Vec F S1x512x128 .bf16) (C : Vec F S1x1x1x2x512 .f32) : FVec F S512x512 .f32 :=
  subf (matmul dot_S512x128_S512x128_S512x512_1_1_0_0_n_n none q (shapeCast S512x128 K shapeCasts_S1x512x128_S512x128) (constant S512x512 .f32 0x00000000#32))
    (broadcastTo S512x512 (extractStridedSlice S1x512 ![0, 0] (shapeCast S2x512 C shapeCasts_S1x1x1x2x512_S2x512) slices_S2x512_o0_0_S1x512) broadcasts_S1x512_S512x512)

/-- Head 1's scores against a key block. -/
def sc1 (q : FVec F S512x128 .bf16) (K : Vec F S1x512x128 .bf16) (C : Vec F S1x1x1x2x512 .f32) : FVec F S512x512 .f32 :=
  subf (matmul dot_S512x128_S512x128_S512x512_1_1_0_0_n_n none q (shapeCast S512x128 K shapeCasts_S1x512x128_S512x128) (constant S512x512 .f32 0x00000000#32))
    (broadcastTo S512x512 (extractStridedSlice S1x512 ![1, 0] (shapeCast S2x512 C shapeCasts_S1x1x1x2x512_S2x512) slices_S2x512_o1_0_S1x512) broadcasts_S1x512_S512x512)

/-- The scores of the diagonal block with the future masked. -/
def msk (v13 v14 : IVec S512x512 32) (s : FVec F S512x512 .f32) : FVec F S512x512 .f32 :=
  select (cmpi .sle v14 v13) s (broadcast S512x512 (Scalar.ofBits .f32 0xFF800000#32))

/-- Head 0's values, with ones in the other lanes. -/
def vh0 (v2 : IVec S1x128 1) (V : Vec F S1x512x128 .bf16) : FVec F S512x128 .bf16 :=
  select (lanes v2) (shapeCast S512x128 V shapeCasts_S1x512x128_S512x128) ones

/-- Head 1's values, with ones in the other lanes. -/
def vh1 (v2 : IVec S1x128 1) (V : Vec F S1x512x128 .bf16) : FVec F S512x128 .bf16 :=
  select (lanes v2) ones (shapeCast S512x128 V shapeCasts_S1x512x128_S512x128)

/-- The running maximum after a block of scores. -/
def upM (m : FVec F S512x1 .f32) (s : FVec F S512x512 .f32) : FVec F S512x1 .f32 :=
  maximumf m (shapeCast S512x1 (multiReduction .maximumf [1] S512 s 0xFF800000#32 reduces_S512x512_S512 (.inl rfl) rfl) shapeCasts_S512_S512x1)

/-- The running sum after a block of scores and values. -/
def upA (m : FVec F S512x1 .f32) (a : FVec F S512x128 .f32) (s : FVec F S512x512 .f32) (v : FVec F S512x128 .bf16) : FVec F S512x128 .f32 :=
  addf (mulf (broadcastTo S512x128 (exp2 (subf m (upM m s))) broadcasts_S512x1_S512x128) a)
    (matmul dot_S512x512_S512x128_S512x128_1_0_0_1_n_n none
      (exp2 (truncf .bf16 (subf s (broadcastTo S512x512 (upM m s) broadcasts_S512x1_S512x512)) bitsLt_bf16_f32)) v (constant S512x128 .f32 0x00000000#32))

/-- One key block that lies wholly in the past. -/
def blk (v2 : IVec S1x128 1) (q0 q1 : FVec F S512x128 .bf16) (K V : Vec F S1x512x128 .bf16) (C : Vec F S1x1x1x2x512 .f32) (c : Carry F) : Carry F :=
  (upM c.1 (sc0 q0 K C), upM c.2.1 (sc1 q1 K C), upA c.1 c.2.2.1 (sc0 q0 K C) (vh0 v2 V), upA c.2.1 c.2.2.2 (sc1 q1 K C) (vh1 v2 V))

/-- The diagonal key block, after which only the sums are kept. -/
def diag (v2 : IVec S1x128 1) (v13 v14 : IVec S512x512 32) (q0 q1 : FVec F S512x128 .bf16) (K V : Vec F S1x512x128 .bf16) (C : Vec F S1x1x1x2x512 .f32) (c : Carry F) :
    FVec F S512x128 .f32 × FVec F S512x128 .f32 :=
  (upA c.1 c.2.2.1 (msk v13 v14 (sc0 q0 K C)) (vh0 v2 V), upA c.2.1 c.2.2.2 (msk v13 v14 (sc1 q1 K C)) (vh1 v2 V))

/-- One trip of the loop: four key blocks, one after another. -/
theorem trip1_eq (𝒱 : Variants) (c : Dev nD) (bd : Option 𝒱.V) (i : grid0.Coords) (arg3 : Memref sig .tc .vmem S1x512x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x1x8x2x512 .f32) (harg6 : arg6.IsWhole) (arg7 : Memref sig .tc .vmem S1x512x128 .bf16) (harg7 : arg7.IsWhole) (v2 : IVec S1x128 1) (v8 : FVec F S512x128 .bf16) (v12 : FVec F S512x128 .bf16) (c0_i32_9 : BitVec 32) (c1_i32_11 : BitVec 32) (X_arg4 : BufTy.Contents (Elt F) arg4.view.ty) (X_arg5 : BufTy.Contents (Elt F) arg5.view.ty) (X_arg6 : BufTy.Contents (Elt F) arg6.view.ty) (k : Fin (k0_t1_loop i).trips) (acc : Carry F) :
    tripR_k0_t1 (F := F) 𝒱 c bd i arg3 harg3 arg4 harg4 arg5 harg5 arg6 harg6 arg7 harg7 v2 v8 v12 c0_i32_9 c1_i32_11 X_arg4 X_arg5 X_arg6 k acc
      = (let K (d : Fin 4) : Vec F S1x512x128 .bf16 := View.readAt (Elt F) arg4.view (Rect.unit (s := S1x4096x128) (k0_off1 i k (BitVec.ofNat 32 d.val)) S1x512x128.size (k0_off1_inb i k d)).toLoadRect X_arg4
         let V (d : Fin 4) : Vec F S1x512x128 .bf16 := View.readAt (Elt F) arg5.view (Rect.unit (s := S1x4096x128) (k0_off1 i k (BitVec.ofNat 32 d.val)) S1x512x128.size (k0_off1_inb i k d)).toLoadRect X_arg5
         let C (d : Fin 4) : Vec F S1x1x1x2x512 .f32 := View.readAt (Elt F) arg6.view (Rect.unit (s := S1x1x8x2x512) (k0_off2 i k (BitVec.ofNat 32 d.val)) S1x1x1x2x512.size (k0_off2_inb i k d)).toLoadRect X_arg6
         let b (d : Fin 4) := blk v2 v8 v12 (K d) (V d) (C d)
         b 3 (b 2 (b 1 (b 0 acc)))) := by
  unfold tripR_k0_t1 trip_k0_t1
  rfl

end Cert.KernelIdeal.Fox
end
-- ==== Proof.FoxRun.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.FoxDefs

@[expose] public section

set_option maxRecDepth 65536

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- From its arguments' blocks the body runs, leaves them as they were, and leaves `L` written in the result's buffer. -/
def Runs (c : Dev nD) (i : grid0.Coords) (arg3 : Memref sig .tc .vmem S1x512x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x1x8x2x512 .f32) (harg6 : arg6.IsWhole) (arg7 : Memref sig .tc .vmem S1x512x128 .bf16) (harg7 : arg7.IsWhole)
    (x0 : Vec F S1x512x128 .bf16) (x1 : Vec F S1x4096x128 .bf16) (x2 : Vec F S1x4096x128 .bf16) (x3 : Vec F S1x1x8x2x512 .f32) (L : List (View.Piece (Elt F) S1x512x128 .bf16)) : Prop :=
  ∀ (E : Set ℕ) (K : PUnit → sProp 𝕄),
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L)) -∗ K ⟨⟩))
      ⊢ wp frame (wpE (defs₀ (F := F)) Variants.none c none) E (cc0_fox_attention i arg3 harg3 arg4 harg4 arg5 harg5 arg6 harg6 arg7 harg7) K

/-- The body where no whole block is left over: what it stores, found by running it. -/
def run0 (c : Dev nD) (i : grid0.Coords) (arg3 : Memref sig .tc .vmem S1x512x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x1x8x2x512 .f32) (harg6 : arg6.IsWhole) (arg7 : Memref sig .tc .vmem S1x512x128 .bf16) (harg7 : arg7.IsWhole)
    (hc1 : ¬k0_cond1 i = 1#1)
    (x0 : Vec F S1x512x128 .bf16) (x1 : Vec F S1x4096x128 .bf16) (x2 : Vec F S1x4096x128 .bf16) (x3 : Vec F S1x1x8x2x512 .f32) :
    { L : List (View.Piece (Elt F) S1x512x128 .bf16) // Runs c i arg3 harg3 arg4 harg4 arg5 harg5 arg6 harg6 arg7 harg7 x0 x1 x2 x3 L } := by
  refine ⟨?_, fun E K => ?run⟩
  case run =>
    simp only [cc0_fox_attention_eq_skeleton]; unfold cc0_fox_attention_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg3.eq_unread hf0; obtain rfl := harg4.eq_unread hf1; obtain rfl := harg5.eq_unread hf2; obtain rfl := harg6.eq_unread hf3
    sl_exec (disch := first | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

/-- The body where one whole block is left over: what it stores, found by running it. -/
def run1 (c : Dev nD) (i : grid0.Coords) (arg3 : Memref sig .tc .vmem S1x512x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x1x8x2x512 .f32) (harg6 : arg6.IsWhole) (arg7 : Memref sig .tc .vmem S1x512x128 .bf16) (harg7 : arg7.IsWhole)
    (hc1 : k0_cond1 i = 1#1) (hc2 : ¬k0_cond2 i = 1#1)
    (x0 : Vec F S1x512x128 .bf16) (x1 : Vec F S1x4096x128 .bf16) (x2 : Vec F S1x4096x128 .bf16) (x3 : Vec F S1x1x8x2x512 .f32) :
    { L : List (View.Piece (Elt F) S1x512x128 .bf16) // Runs c i arg3 harg3 arg4 harg4 arg5 harg5 arg6 harg6 arg7 harg7 x0 x1 x2 x3 L } := by
  refine ⟨?_, fun E K => ?run⟩
  case run =>
    simp only [cc0_fox_attention_eq_skeleton]; unfold cc0_fox_attention_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg3.eq_unread hf0; obtain rfl := harg4.eq_unread hf1; obtain rfl := harg5.eq_unread hf2; obtain rfl := harg6.eq_unread hf3
    sl_exec (disch := first | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

/-- The body where two whole blocks are left over: what it stores, found by running it. -/
def run2 (c : Dev nD) (i : grid0.Coords) (arg3 : Memref sig .tc .vmem S1x512x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x1x8x2x512 .f32) (harg6 : arg6.IsWhole) (arg7 : Memref sig .tc .vmem S1x512x128 .bf16) (harg7 : arg7.IsWhole)
    (hc1 : k0_cond1 i = 1#1) (hc2 : k0_cond2 i = 1#1) (hc3 : ¬k0_cond3 i = 1#1)
    (x0 : Vec F S1x512x128 .bf16) (x1 : Vec F S1x4096x128 .bf16) (x2 : Vec F S1x4096x128 .bf16) (x3 : Vec F S1x1x8x2x512 .f32) :
    { L : List (View.Piece (Elt F) S1x512x128 .bf16) // Runs c i arg3 harg3 arg4 harg4 arg5 harg5 arg6 harg6 arg7 harg7 x0 x1 x2 x3 L } := by
  refine ⟨?_, fun E K => ?run⟩
  case run =>
    simp only [cc0_fox_attention_eq_skeleton]; unfold cc0_fox_attention_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg3.eq_unread hf0; obtain rfl := harg4.eq_unread hf1; obtain rfl := harg5.eq_unread hf2; obtain rfl := harg6.eq_unread hf3
    sl_exec (disch := first | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

/-- The body where three whole blocks are left over: what it stores, found by running it. -/
def run3 (c : Dev nD) (i : grid0.Coords) (arg3 : Memref sig .tc .vmem S1x512x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x1x8x2x512 .f32) (harg6 : arg6.IsWhole) (arg7 : Memref sig .tc .vmem S1x512x128 .bf16) (harg7 : arg7.IsWhole)
    (hc1 : k0_cond1 i = 1#1) (hc2 : k0_cond2 i = 1#1) (hc3 : k0_cond3 i = 1#1)
    (x0 : Vec F S1x512x128 .bf16) (x1 : Vec F S1x4096x128 .bf16) (x2 : Vec F S1x4096x128 .bf16) (x3 : Vec F S1x1x8x2x512 .f32) :
    { L : List (View.Piece (Elt F) S1x512x128 .bf16) // Runs c i arg3 harg3 arg4 harg4 arg5 harg5 arg6 harg6 arg7 harg7 x0 x1 x2 x3 L } := by
  refine ⟨?_, fun E K => ?run⟩
  case run =>
    simp only [cc0_fox_attention_eq_skeleton]; unfold cc0_fox_attention_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg3.eq_unread hf0; obtain rfl := harg4.eq_unread hf1; obtain rfl := harg5.eq_unread hf2; obtain rfl := harg6.eq_unread hf3
    sl_exec (disch := first | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

end Cert.KernelIdeal.Fox
end
-- ==== Proof.FoxOut.lean ====
module

public import proofs.«01_k».proof.Proof.FoxRun
public import Idealize.ShloMosaic.Lib.Pointwise.Index
public import Idealize.ShloMosaic.Lib.Tactic
public import Mathlib.Tactic.IntervalCases
public import Mathlib.Tactic.FinCases

@[expose] public section

set_option maxRecDepth 65536

noncomputable section

namespace Cert.KernelIdeal.Fox

open Cert.KernelIdeal Cert.KernelIdeal.Gen
open Idealize.ShloMosaic Idealize.ShloMosaic.TcCoe Idealize.ShloMosaic.Tactic
open Idealize.SL Idealize.SL.Sem

variable {F : FTy → Type} [FloatOps F]

/-- Key or value block `j`. -/
def kb (x : Vec F S1x4096x128 .bf16) (j : ℕ) : Vec F S1x512x128 .bf16 := fun y =>
  x (ix3 0 ⟨(512 * j + (y 1).val) % 4096, Nat.mod_lt _ (by decide)⟩ (y 2))

/-- The forgetting sums of key block `j`. -/
def cb (x : Vec F S1x1x8x2x512 .f32) (j : ℕ) : Vec F S1x1x1x2x512 .f32 := fun y =>
  x (ix5 0 0 ⟨j % 8, Nat.mod_lt _ (by decide)⟩ (y 3) (y 4))

theorem read_kb {m : Memref sig .tc .vmem S1x4096x128 .bf16} (h : m.IsWhole) (x : Vec F S1x4096x128 .bf16) (j : ℕ) (hj : j < 8)
    {off : Fin 3 → ℕ} (inb : ∀ a, off a + S1x512x128.size a ≤ S1x4096x128.size a) (ho : off = ![0, 512 * j, 0]) :
    View.readAt (Elt F) m.view (Rect.unit (s := S1x4096x128) off S1x512x128.size inb).toLoadRect (h.unread x) = kb x j := by
  subst ho
  funext y
  rw [h.readAt_unread]
  unfold kb
  congr 1
  funext a
  match a with
  | ⟨0, _⟩ => exact Subsingleton.elim (α := Fin 1) _ _
  | ⟨1, _⟩ =>
    apply Fin.ext
    have hy : (y 1).val < 512 := (y 1).isLt
    show 512 * j + 1 * (y 1).val = (512 * j + (y 1).val) % 4096
    omega
  | ⟨2, _⟩ =>
    apply Fin.ext
    show 0 + 1 * (y 2).val = (y 2).val
    omega

theorem read_cb {m : Memref sig .tc .vmem S1x1x8x2x512 .f32} (h : m.IsWhole) (x : Vec F S1x1x8x2x512 .f32) (j : ℕ) (hj : j < 8)
    {off : Fin 5 → ℕ} (inb : ∀ a, off a + S1x1x1x2x512.size a ≤ S1x1x8x2x512.size a) (ho : off = ![0, 0, j, 0, 0]) :
    View.readAt (Elt F) m.view (Rect.unit (s := S1x1x8x2x512) off S1x1x1x2x512.size inb).toLoadRect (h.unread x) = cb x j := by
  subst ho
  funext y
  rw [h.readAt_unread]
  unfold cb
  congr 1
  funext a
  match a with
  | ⟨0, _⟩ => exact Subsingleton.elim (α := Fin 1) _ _
  | ⟨1, _⟩ => exact Subsingleton.elim (α := Fin 1) _ _
  | ⟨2, _⟩ =>
    apply Fin.ext
    have hy : (y 2).val < 1 := (y 2).isLt
    show j + 1 * (y 2).val = j % 8
    omega
  | ⟨3, _⟩ =>
    apply Fin.ext
    show 0 + 1 * (y 3).val = (y 3).val
    omega
  | ⟨4, _⟩ =>
    apply Fin.ext
    show 0 + 1 * (y 4).val = (y 4).val
    omega

theorem read_q {m : Memref sig .tc .vmem S1x512x128 .bf16} (h : m.IsWhole) (x : Vec F S1x512x128 .bf16)
    (inb : ∀ a, (![0, 0, 0] : Fin 3 → ℕ) a + S1x512x128.size a ≤ S1x512x128.size a) :
    View.readAt (Elt F) m.view (Rect.unit (s := S1x512x128) ![0, 0, 0] S1x512x128.size inb).toLoadRect (h.unread x) = x := by
  funext y
  rw [h.readAt_unread]
  congr 1
  funext a
  apply Fin.ext
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- What is carried before key block `j`. -/
def st (x0 : Vec F S1x512x128 .bf16) (x1 x2 : Vec F S1x4096x128 .bf16) (x3 : Vec F S1x1x8x2x512 .f32) : ℕ → Carry F
  | 0 => (k0_pay232, k0_pay232, k0_pay233, k0_pay233)
  | j + 1 => blk k0_pay228 (k0_pay230 x0) (k0_pay231 x0) (kb x1 j) (kb x2 j) (cb x3 j) (st x0 x1 x2 x3 j)

/-- What the body leaves of query block `i`: the key blocks before it, then the diagonal one, then the quotients. -/
def outv (i : ℕ) (x0 : Vec F S1x512x128 .bf16) (x1 x2 : Vec F S1x4096x128 .bf16) (x3 : Vec F S1x1x8x2x512 .f32) : Vec F S1x512x128 .bf16 :=
  k0_pay22 k0_pay228
    (diag k0_pay228 (iota .tc S512x512 32 [0] iota_S512x512_d0_w32) (iota .tc S512x512 32 [1] iota_S512x512_d1_w32) (k0_pay230 x0) (k0_pay231 x0) (kb x1 i) (kb x2 i) (cb x3 i) (st x0 x1 x2 x3 i)).1
    (diag k0_pay228 (iota .tc S512x512 32 [0] iota_S512x512_d0_w32) (iota .tc S512x512 32 [1] iota_S512x512_d1_w32) (k0_pay230 x0) (k0_pay231 x0) (kb x1 i) (kb x2 i) (cb x3 i) (st x0 x1 x2 x3 i)).2

theorem lt8 (i : grid0.Coords) : (i 2).val < 8 := (i 2).isLt

theorem cond1_iff (i : grid0.Coords) : k0_cond1 i = 1#1 ↔ (i 2).val % 4 ≠ 0 := by
  have h := lt8 i
  unfold k0_cond1
  generalize (i 2).val = n at *
  interval_cases n <;> decide

theorem cond2_iff (i : grid0.Coords) : k0_cond2 i = 1#1 ↔ (i 2).val % 4 ≠ 1 := by
  have h := lt8 i
  unfold k0_cond2
  generalize (i 2).val = n at *
  interval_cases n <;> decide

theorem cond3_iff (i : grid0.Coords) : k0_cond3 i = 1#1 ↔ (i 2).val % 4 ≠ 2 := by
  have h := lt8 i
  unfold k0_cond3
  generalize (i 2).val = n at *
  interval_cases n <;> decide

theorem trips1 (i : grid0.Coords) : (k0_t1_loop i).trips = (i 2).val / 4 := by
  have h := lt8 i
  unfold k0_t1_loop Scf.Loop.trips
  dsimp only
  generalize (i 2).val = n at *
  interval_cases n <;> decide

theorem trips2 (i : grid0.Coords) : (k0_t2_loop i).trips = 0 := by
  have h := lt8 i
  unfold k0_t2_loop Scf.Loop.trips
  dsimp only
  generalize (i 2).val = n at *
  interval_cases n <;> decide

theorem off1_eq (i : grid0.Coords) (k : Fin (k0_t1_loop i).trips) (d : Fin 4) : k0_off1 i k (BitVec.ofNat 32 d.val) = ![0, 512 * d.val, 0] := by
  have hk : k.val = 0 := by have := k.isLt; have := trips1 i; have := lt8 i; omega
  unfold k0_off1
  rw [hk]
  fin_cases d <;> rfl

theorem off2_eq (i : grid0.Coords) (k : Fin (k0_t1_loop i).trips) (d : Fin 4) : k0_off2 i k (BitVec.ofNat 32 d.val) = ![0, 0, d.val, 0, 0] := by
  have hk : k.val = 0 := by have := k.isLt; have := trips1 i; have := lt8 i; omega
  unfold k0_off2
  rw [hk]
  fin_cases d <;> rfl

theorem off5_eq (i : grid0.Coords) (d : Fin 3) (h3 : (i 2).val % 4 = 3) : k0_off5 i (BitVec.ofNat 32 d.val) = ![0, 512 * ((i 2).val - 3 + d.val), 0] := by
  have h := lt8 i
  unfold k0_off5
  generalize (i 2).val = n at *
  fin_cases d <;> interval_cases n <;> first | rfl | omega

theorem off6_eq (i : grid0.Coords) (d : Fin 3) (h3 : (i 2).val % 4 = 3) : k0_off6 i (BitVec.ofNat 32 d.val) = ![0, 0, (i 2).val - 3 + d.val, 0, 0] := by
  have h := lt8 i
  unfold k0_off6
  generalize (i 2).val = n at *
  fin_cases d <;> interval_cases n <;> first | rfl | omega

theorem off7_eq (i : grid0.Coords) : k0_off7 i = ![0, 512 * ((i 2).val), 0] := by
  have h := lt8 i
  unfold k0_off7
  generalize (i 2).val = n at *
  interval_cases n <;> first | rfl | omega

theorem off8_eq (i : grid0.Coords) : k0_off8 i = ![0, 0, (i 2).val, 0, 0] := by
  have h := lt8 i
  unfold k0_off8
  generalize (i 2).val = n at *
  interval_cases n <;> first | rfl | omega

theorem off9_eq (i : grid0.Coords) (d : Fin 2) (h3 : (i 2).val % 4 = 2) : k0_off9 i (BitVec.ofNat 32 d.val) = ![0, 512 * ((i 2).val - 2 + d.val), 0] := by
  have h := lt8 i
  unfold k0_off9
  generalize (i 2).val = n at *
  fin_cases d <;> interval_cases n <;> first | rfl | omega

theorem off10_eq (i : grid0.Coords) (d : Fin 2) (h3 : (i 2).val % 4 = 2) : k0_off10 i (BitVec.ofNat 32 d.val) = ![0, 0, (i 2).val - 2 + d.val, 0, 0] := by
  have h := lt8 i
  unfold k0_off10
  generalize (i 2).val = n at *
  fin_cases d <;> interval_cases n <;> first | rfl | omega

theorem off11_eq (i : grid0.Coords) : k0_off11 i = ![0, 512 * ((i 2).val), 0] := by
  have h := lt8 i
  unfold k0_off11
  generalize (i 2).val = n at *
  interval_cases n <;> first | rfl | omega

theorem off12_eq (i : grid0.Coords) : k0_off12 i = ![0, 0, (i 2).val, 0, 0] := by
  have h := lt8 i
  unfold k0_off12
  generalize (i 2).val = n at *
  interval_cases n <;> first | rfl | omega

theorem off13_eq (i : grid0.Coords) (h3 : (i 2).val % 4 = 1) : k0_off13 i = ![0, 512 * ((i 2).val - 1), 0] := by
  have h := lt8 i
  unfold k0_off13
  generalize (i 2).val = n at *
  interval_cases n <;> first | rfl | omega

theorem off14_eq (i : grid0.Coords) (h3 : (i 2).val % 4 = 1) : k0_off14 i = ![0, 0, (i 2).val - 1, 0, 0] := by
  have h := lt8 i
  unfold k0_off14
  generalize (i 2).val = n at *
  interval_cases n <;> first | rfl | omega

theorem off15_eq (i : grid0.Coords) : k0_off15 i = ![0, 512 * ((i 2).val), 0] := by
  have h := lt8 i
  unfold k0_off15
  generalize (i 2).val = n at *
  interval_cases n <;> first | rfl | omega

theorem off16_eq (i : grid0.Coords) : k0_off16 i = ![0, 0, (i 2).val, 0, 0] := by
  have h := lt8 i
  unfold k0_off16
  generalize (i 2).val = n at *
  interval_cases n <;> first | rfl | omega

theorem off17_eq (i : grid0.Coords) : k0_off17 i = ![0, 512 * ((i 2).val), 0] := by
  have h := lt8 i
  unfold k0_off17
  generalize (i 2).val = n at *
  interval_cases n <;> first | rfl | omega

theorem off18_eq (i : grid0.Coords) : k0_off18 i = ![0, 0, (i 2).val, 0, 0] := by
  have h := lt8 i
  unfold k0_off18
  generalize (i 2).val = n at *
  interval_cases n <;> first | rfl | omega

end Cert.KernelIdeal.Fox
end
-- ==== Proof.FoxCases.lean ====
module

public import proofs.«01_k».proof.Proof.FoxOut

@[expose] public section

set_option maxRecDepth 65536

noncomputable section

namespace Cert.KernelIdeal.Fox

open Cert.KernelIdeal Cert.KernelIdeal.Gen
open Idealize.ShloMosaic Idealize.ShloMosaic.TcCoe Idealize.ShloMosaic.Tactic
open Idealize.SL Idealize.SL.Sem

variable {F : FTy → Type} [FloatOps F]

/-- The loop, in whole: the key blocks of its trips, four a trip. -/
theorem st1_eq (c : Dev nD) (i : grid0.Coords) (arg3 : Memref sig .tc .vmem S1x512x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x1x8x2x512 .f32) (harg6 : arg6.IsWhole) (arg7 : Memref sig .tc .vmem S1x512x128 .bf16) (harg7 : arg7.IsWhole)
    (x0 : Vec F S1x512x128 .bf16) (x1 : Vec F S1x4096x128 .bf16) (x2 : Vec F S1x4096x128 .bf16) (x3 : Vec F S1x1x8x2x512 .f32) (c0 c1 : BitVec 32) (n : ℕ) (hn : n = (i 2).val / 4) :
    st_k0_t1 (F := F) Variants.none c none i arg3 harg3 arg4 harg4 arg5 harg5 arg6 harg6 arg7 harg7 k0_pay228 (k0_pay230 x0) (k0_pay231 x0) c0 c1
      (harg4.unread x1) (harg5.unread x2) (harg6.unread x3) (k0_pay232, k0_pay232, k0_pay233, k0_pay233) n = st x0 x1 x2 x3 (4 * n) := by
  have h8 := lt8 i
  have ht := trips1 i
  subst hn
  generalize hN : (i 2).val / 4 = N at *
  have hN1 : N = 0 ∨ N = 1 := by omega
  rcases hN1 with rfl | rfl
  · rfl
  · refine (st_k0_t1_succ (F := F) Variants.none c none i arg3 harg3 arg4 harg4 arg5 harg5 arg6 harg6 arg7 harg7 k0_pay228 (k0_pay230 x0) (k0_pay231 x0) c0 c1
      (harg4.unread x1) (harg5.unread x2) (harg6.unread x3) (k0_pay232, k0_pay232, k0_pay233, k0_pay233) ⟨0, by omega⟩).trans ?_
    rw [trip1_eq]
    dsimp only
    rw [read_kb harg4 x1 0 (by omega) _ (off1_eq i _ 0), read_kb harg4 x1 1 (by omega) _ (off1_eq i _ 1), read_kb harg4 x1 2 (by omega) _ (off1_eq i _ 2), read_kb harg4 x1 3 (by omega) _ (off1_eq i _ 3),
      read_kb harg5 x2 0 (by omega) _ (off1_eq i _ 0), read_kb harg5 x2 1 (by omega) _ (off1_eq i _ 1), read_kb harg5 x2 2 (by omega) _ (off1_eq i _ 2), read_kb harg5 x2 3 (by omega) _ (off1_eq i _ 3),
      read_cb harg6 x3 0 (by omega) _ (off2_eq i _ 0), read_cb harg6 x3 1 (by omega) _ (off2_eq i _ 1), read_cb harg6 x3 2 (by omega) _ (off2_eq i _ 2), read_cb harg6 x3 3 (by omega) _ (off2_eq i _ 3)]
    rfl

/-- What both loops leave: the second has no trips. -/
theorem st2_eq (c : Dev nD) (i : grid0.Coords) (arg3 : Memref sig .tc .vmem S1x512x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x1x8x2x512 .f32) (harg6 : arg6.IsWhole) (arg7 : Memref sig .tc .vmem S1x512x128 .bf16) (harg7 : arg7.IsWhole)
    (x0 : Vec F S1x512x128 .bf16) (x1 : Vec F S1x4096x128 .bf16) (x2 : Vec F S1x4096x128 .bf16) (x3 : Vec F S1x1x8x2x512 .f32) (c0 c1 v38 : BitVec 32) :
    st_k0_t2 (F := F) Variants.none c none i arg3 harg3 arg4 harg4 arg5 harg5 arg6 harg6 arg7 harg7 k0_pay228 (k0_pay230 x0) (k0_pay231 x0) v38
      (harg4.unread x1) (harg5.unread x2) (harg6.unread x3)
      (st_k0_t1 (F := F) Variants.none c none i arg3 harg3 arg4 harg4 arg5 harg5 arg6 harg6 arg7 harg7 k0_pay228 (k0_pay230 x0) (k0_pay231 x0) c0 c1
        (harg4.unread x1) (harg5.unread x2) (harg6.unread x3) (k0_pay232, k0_pay232, k0_pay233, k0_pay233) (k0_t1_loop i).trips) (k0_t2_loop i).trips = st x0 x1 x2 x3 (4 * ((i 2).val / 4)) := by
  rw [trips2, st1_eq c i arg3 harg3 arg4 harg4 arg5 harg5 arg6 harg6 arg7 harg7 x0 x1 x2 x3 c0 c1 _ (trips1 i), trips1]
  rfl

/-- The stored value where 0 whole blocks are left over. -/
theorem run0_eq (c : Dev nD) (i : grid0.Coords) (arg3 : Memref sig .tc .vmem S1x512x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x1x8x2x512 .f32) (harg6 : arg6.IsWhole) (arg7 : Memref sig .tc .vmem S1x512x128 .bf16) (harg7 : arg7.IsWhole)
    (hc1 : ¬k0_cond1 i = 1#1)
    (x0 : Vec F S1x512x128 .bf16) (x1 : Vec F S1x4096x128 .bf16) (x2 : Vec F S1x4096x128 .bf16) (x3 : Vec F S1x1x8x2x512 .f32) :
    (run0 c i arg3 harg3 arg4 harg4 arg5 harg5 arg6 harg6 arg7 harg7 hc1 x0 x1 x2 x3).1 = [⟨Rect.unit ![0, 0, 0] S1x512x128.size inb_S1x512x128_S1x512x128_0_0_0, outv (i 2).val x0 x1 x2 x3⟩] := by
  have h8 := lt8 i
  have hm : (i 2).val % 4 = 0 := by by_contra h; exact hc1 ((cond1_iff i).mpr h)
  have key : (run0 c i arg3 harg3 arg4 harg4 arg5 harg5 arg6 harg6 arg7 harg7 hc1 x0 x1 x2 x3).1 = [⟨Rect.unit ![0, 0, 0] S1x512x128.size inb_S1x512x128_S1x512x128_0_0_0,
      let X0 : Vec F S1x512x128 .bf16 := View.readAt (Elt F) arg3.view (Rect.unit (s := S1x512x128) ![0, 0, 0] S1x512x128.size inb_S1x512x128_S1x512x128_0_0_0).toLoadRect (harg3.unread x0)
      let S : Carry F := st_k0_t2 (F := F) Variants.none c none i arg3 harg3 arg4 harg4 arg5 harg5 arg6 harg6 arg7 harg7 k0_pay228 (k0_pay230 X0) (k0_pay231 X0) (run0.sl.v38 i)
        (harg4.unread x1) (harg5.unread x2) (harg6.unread x3)
        (st_k0_t1 (F := F) Variants.none c none i arg3 harg3 arg4 harg4 arg5 harg5 arg6 harg6 arg7 harg7 k0_pay228 (k0_pay230 X0) (k0_pay231 X0) (0#32) (1#32)
          (harg4.unread x1) (harg5.unread x2) (harg6.unread x3) (k0_pay232, k0_pay232, k0_pay233, k0_pay233) (k0_t1_loop i).trips) (k0_t2_loop i).trips
      let D : FVec F S512x128 .f32 × FVec F S512x128 .f32 := diag k0_pay228 (iota .tc S512x512 32 [0] iota_S512x512_d0_w32) (iota .tc S512x512 32 [1] iota_S512x512_d1_w32) (k0_pay230 X0) (k0_pay231 X0)
          (View.readAt (Elt F) arg4.view (Rect.unit (s := S1x4096x128) (k0_off17 i) S1x512x128.size (k0_off17_inb i hc1)).toLoadRect (harg4.unread x1)) (View.readAt (Elt F) arg5.view (Rect.unit (s := S1x4096x128) (k0_off17 i) S1x512x128.size (k0_off17_inb i hc1)).toLoadRect (harg5.unread x2)) (View.readAt (Elt F) arg6.view (Rect.unit (s := S1x1x8x2x512) (k0_off18 i) S1x1x1x2x512.size (k0_off18_inb i hc1)).toLoadRect (harg6.unread x3))
          S
      k0_pay22 k0_pay228 D.1 D.2⟩] := by
    unfold run0
    rfl
  rw [key]
  dsimp only
  rw [read_q harg3, st2_eq,
    read_kb harg4 x1 (i 2).val (by omega) _ (off17_eq i),
    read_kb harg5 x2 (i 2).val (by omega) _ (off17_eq i),
    read_cb harg6 x3 (i 2).val (by omega) _ (off18_eq i)]
  unfold outv
  rw [show 4 * ((i 2).val / 4) = (i 2).val from by omega]

/-- The stored value where 1 whole blocks are left over. -/
theorem run1_eq (c : Dev nD) (i : grid0.Coords) (arg3 : Memref sig .tc .vmem S1x512x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x1x8x2x512 .f32) (harg6 : arg6.IsWhole) (arg7 : Memref sig .tc .vmem S1x512x128 .bf16) (harg7 : arg7.IsWhole)
    (hc1 : k0_cond1 i = 1#1) (hc2 : ¬k0_cond2 i = 1#1)
    (x0 : Vec F S1x512x128 .bf16) (x1 : Vec F S1x4096x128 .bf16) (x2 : Vec F S1x4096x128 .bf16) (x3 : Vec F S1x1x8x2x512 .f32) :
    (run1 c i arg3 harg3 arg4 harg4 arg5 harg5 arg6 harg6 arg7 harg7 hc1 hc2 x0 x1 x2 x3).1 = [⟨Rect.unit ![0, 0, 0] S1x512x128.size inb_S1x512x128_S1x512x128_0_0_0, outv (i 2).val x0 x1 x2 x3⟩] := by
  have h8 := lt8 i
  have hm : (i 2).val % 4 = 1 := by by_contra h; exact hc2 ((cond2_iff i).mpr h)
  have key : (run1 c i arg3 harg3 arg4 harg4 arg5 harg5 arg6 harg6 arg7 harg7 hc1 hc2 x0 x1 x2 x3).1 = [⟨Rect.unit ![0, 0, 0] S1x512x128.size inb_S1x512x128_S1x512x128_0_0_0,
      let X0 : Vec F S1x512x128 .bf16 := View.readAt (Elt F) arg3.view (Rect.unit (s := S1x512x128) ![0, 0, 0] S1x512x128.size inb_S1x512x128_S1x512x128_0_0_0).toLoadRect (harg3.unread x0)
      let S : Carry F := st_k0_t2 (F := F) Variants.none c none i arg3 harg3 arg4 harg4 arg5 harg5 arg6 harg6 arg7 harg7 k0_pay228 (k0_pay230 X0) (k0_pay231 X0) (run1.sl.v38 i)
        (harg4.unread x1) (harg5.unread x2) (harg6.unread x3)
        (st_k0_t1 (F := F) Variants.none c none i arg3 harg3 arg4 harg4 arg5 harg5 arg6 harg6 arg7 harg7 k0_pay228 (k0_pay230 X0) (k0_pay231 X0) (0#32) (1#32)
          (harg4.unread x1) (harg5.unread x2) (harg6.unread x3) (k0_pay232, k0_pay232, k0_pay233, k0_pay233) (k0_t1_loop i).trips) (k0_t2_loop i).trips
      let D : FVec F S512x128 .f32 × FVec F S512x128 .f32 := diag k0_pay228 (iota .tc S512x512 32 [0] iota_S512x512_d0_w32) (iota .tc S512x512 32 [1] iota_S512x512_d1_w32) (k0_pay230 X0) (k0_pay231 X0)
          (View.readAt (Elt F) arg4.view (Rect.unit (s := S1x4096x128) (k0_off15 i) S1x512x128.size (k0_off15_inb i hc1 hc2)).toLoadRect (harg4.unread x1)) (View.readAt (Elt F) arg5.view (Rect.unit (s := S1x4096x128) (k0_off15 i) S1x512x128.size (k0_off15_inb i hc1 hc2)).toLoadRect (harg5.unread x2)) (View.readAt (Elt F) arg6.view (Rect.unit (s := S1x1x8x2x512) (k0_off16 i) S1x1x1x2x512.size (k0_off16_inb i hc1 hc2)).toLoadRect (harg6.unread x3))
          (blk k0_pay228 (k0_pay230 X0) (k0_pay231 X0)
          (View.readAt (Elt F) arg4.view (Rect.unit (s := S1x4096x128) (k0_off13 i) S1x512x128.size (k0_off13_inb i hc1 hc2)).toLoadRect (harg4.unread x1)) (View.readAt (Elt F) arg5.view (Rect.unit (s := S1x4096x128) (k0_off13 i) S1x512x128.size (k0_off13_inb i hc1 hc2)).toLoadRect (harg5.unread x2)) (View.readAt (Elt F) arg6.view (Rect.unit (s := S1x1x8x2x512) (k0_off14 i) S1x1x1x2x512.size (k0_off14_inb i hc1 hc2)).toLoadRect (harg6.unread x3))
          S)
      k0_pay22 k0_pay228 D.1 D.2⟩] := by
    unfold run1
    rfl
  rw [key]
  dsimp only
  rw [read_q harg3, st2_eq,
    read_kb harg4 x1 ((i 2).val - 1) (by omega) _ (off13_eq i hm),
    read_kb harg5 x2 ((i 2).val - 1) (by omega) _ (off13_eq i hm),
    read_cb harg6 x3 ((i 2).val - 1) (by omega) _ (off14_eq i hm),
    read_kb harg4 x1 (i 2).val (by omega) _ (off15_eq i),
    read_kb harg5 x2 (i 2).val (by omega) _ (off15_eq i),
    read_cb harg6 x3 (i 2).val (by omega) _ (off16_eq i)]
  unfold outv
  obtain ⟨b, hb⟩ : ∃ b, b = 4 * ((i 2).val / 4) := ⟨_, rfl⟩
  rw [← hb, show (i 2).val = b + 1 from by omega]
  rw [show b + 1 - 1 = b from by omega]
  rfl

/-- The stored value where 2 whole blocks are left over. -/
theorem run2_eq (c : Dev nD) (i : grid0.Coords) (arg3 : Memref sig .tc .vmem S1x512x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x1x8x2x512 .f32) (harg6 : arg6.IsWhole) (arg7 : Memref sig .tc .vmem S1x512x128 .bf16) (harg7 : arg7.IsWhole)
    (hc1 : k0_cond1 i = 1#1) (hc2 : k0_cond2 i = 1#1) (hc3 : ¬k0_cond3 i = 1#1)
    (x0 : Vec F S1x512x128 .bf16) (x1 : Vec F S1x4096x128 .bf16) (x2 : Vec F S1x4096x128 .bf16) (x3 : Vec F S1x1x8x2x512 .f32) :
    (run2 c i arg3 harg3 arg4 harg4 arg5 harg5 arg6 harg6 arg7 harg7 hc1 hc2 hc3 x0 x1 x2 x3).1 = [⟨Rect.unit ![0, 0, 0] S1x512x128.size inb_S1x512x128_S1x512x128_0_0_0, outv (i 2).val x0 x1 x2 x3⟩] := by
  have h8 := lt8 i
  have hm : (i 2).val % 4 = 2 := by by_contra h; exact hc3 ((cond3_iff i).mpr h)
  have key : (run2 c i arg3 harg3 arg4 harg4 arg5 harg5 arg6 harg6 arg7 harg7 hc1 hc2 hc3 x0 x1 x2 x3).1 = [⟨Rect.unit ![0, 0, 0] S1x512x128.size inb_S1x512x128_S1x512x128_0_0_0,
      let X0 : Vec F S1x512x128 .bf16 := View.readAt (Elt F) arg3.view (Rect.unit (s := S1x512x128) ![0, 0, 0] S1x512x128.size inb_S1x512x128_S1x512x128_0_0_0).toLoadRect (harg3.unread x0)
      let S : Carry F := st_k0_t2 (F := F) Variants.none c none i arg3 harg3 arg4 harg4 arg5 harg5 arg6 harg6 arg7 harg7 k0_pay228 (k0_pay230 X0) (k0_pay231 X0) (run2.sl.v38 i)
        (harg4.unread x1) (harg5.unread x2) (harg6.unread x3)
        (st_k0_t1 (F := F) Variants.none c none i arg3 harg3 arg4 harg4 arg5 harg5 arg6 harg6 arg7 harg7 k0_pay228 (k0_pay230 X0) (k0_pay231 X0) (0#32) (1#32)
          (harg4.unread x1) (harg5.unread x2) (harg6.unread x3) (k0_pay232, k0_pay232, k0_pay233, k0_pay233) (k0_t1_loop i).trips) (k0_t2_loop i).trips
      let D : FVec F S512x128 .f32 × FVec F S512x128 .f32 := diag k0_pay228 (iota .tc S512x512 32 [0] iota_S512x512_d0_w32) (iota .tc S512x512 32 [1] iota_S512x512_d1_w32) (k0_pay230 X0) (k0_pay231 X0)
          (View.readAt (Elt F) arg4.view (Rect.unit (s := S1x4096x128) (k0_off11 i) S1x512x128.size (k0_off11_inb i hc1 hc2 hc3)).toLoadRect (harg4.unread x1)) (View.readAt (Elt F) arg5.view (Rect.unit (s := S1x4096x128) (k0_off11 i) S1x512x128.size (k0_off11_inb i hc1 hc2 hc3)).toLoadRect (harg5.unread x2)) (View.readAt (Elt F) arg6.view (Rect.unit (s := S1x1x8x2x512) (k0_off12 i) S1x1x1x2x512.size (k0_off12_inb i hc1 hc2 hc3)).toLoadRect (harg6.unread x3))
          (blk k0_pay228 (k0_pay230 X0) (k0_pay231 X0)
          (View.readAt (Elt F) arg4.view (Rect.unit (s := S1x4096x128) (k0_off9 i (BitVec.ofNat 32 ((1 : Fin 2)).val)) S1x512x128.size (k0_off9_inb i hc1 hc2 hc3 1)).toLoadRect (harg4.unread x1)) (View.readAt (Elt F) arg5.view (Rect.unit (s := S1x4096x128) (k0_off9 i (BitVec.ofNat 32 ((1 : Fin 2)).val)) S1x512x128.size (k0_off9_inb i hc1 hc2 hc3 1)).toLoadRect (harg5.unread x2)) (View.readAt (Elt F) arg6.view (Rect.unit (s := S1x1x8x2x512) (k0_off10 i (BitVec.ofNat 32 ((1 : Fin 2)).val)) S1x1x1x2x512.size (k0_off10_inb i hc1 hc2 hc3 1)).toLoadRect (harg6.unread x3))
          (blk k0_pay228 (k0_pay230 X0) (k0_pay231 X0)
          (View.readAt (Elt F) arg4.view (Rect.unit (s := S1x4096x128) (k0_off9 i (BitVec.ofNat 32 ((0 : Fin 2)).val)) S1x512x128.size (k0_off9_inb i hc1 hc2 hc3 0)).toLoadRect (harg4.unread x1)) (View.readAt (Elt F) arg5.view (Rect.unit (s := S1x4096x128) (k0_off9 i (BitVec.ofNat 32 ((0 : Fin 2)).val)) S1x512x128.size (k0_off9_inb i hc1 hc2 hc3 0)).toLoadRect (harg5.unread x2)) (View.readAt (Elt F) arg6.view (Rect.unit (s := S1x1x8x2x512) (k0_off10 i (BitVec.ofNat 32 ((0 : Fin 2)).val)) S1x1x1x2x512.size (k0_off10_inb i hc1 hc2 hc3 0)).toLoadRect (harg6.unread x3))
          S))
      k0_pay22 k0_pay228 D.1 D.2⟩] := by
    unfold run2
    rfl
  rw [key]
  dsimp only
  rw [read_q harg3, st2_eq,
    read_kb harg4 x1 ((i 2).val - 2 + 0) (by omega) _ (off9_eq i 0 hm),
    read_kb harg5 x2 ((i 2).val - 2 + 0) (by omega) _ (off9_eq i 0 hm),
    read_cb harg6 x3 ((i 2).val - 2 + 0) (by omega) _ (off10_eq i 0 hm),
    read_kb harg4 x1 ((i 2).val - 2 + 1) (by omega) _ (off9_eq i 1 hm),
    read_kb harg5 x2 ((i 2).val - 2 + 1) (by omega) _ (off9_eq i 1 hm),
    read_cb harg6 x3 ((i 2).val - 2 + 1) (by omega) _ (off10_eq i 1 hm),
    read_kb harg4 x1 (i 2).val (by omega) _ (off11_eq i),
    read_kb harg5 x2 (i 2).val (by omega) _ (off11_eq i),
    read_cb harg6 x3 (i 2).val (by omega) _ (off12_eq i)]
  unfold outv
  obtain ⟨b, hb⟩ : ∃ b, b = 4 * ((i 2).val / 4) := ⟨_, rfl⟩
  rw [← hb, show (i 2).val = b + 2 from by omega]
  rw [show b + 2 - 2 + 0 = b from by omega, show b + 2 - 2 + 1 = b + 1 from by omega]
  rfl

/-- The stored value where 3 whole blocks are left over. -/
theorem run3_eq (c : Dev nD) (i : grid0.Coords) (arg3 : Memref sig .tc .vmem S1x512x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x1x8x2x512 .f32) (harg6 : arg6.IsWhole) (arg7 : Memref sig .tc .vmem S1x512x128 .bf16) (harg7 : arg7.IsWhole)
    (hc1 : k0_cond1 i = 1#1) (hc2 : k0_cond2 i = 1#1) (hc3 : k0_cond3 i = 1#1)
    (x0 : Vec F S1x512x128 .bf16) (x1 : Vec F S1x4096x128 .bf16) (x2 : Vec F S1x4096x128 .bf16) (x3 : Vec F S1x1x8x2x512 .f32) :
    (run3 c i arg3 harg3 arg4 harg4 arg5 harg5 arg6 harg6 arg7 harg7 hc1 hc2 hc3 x0 x1 x2 x3).1 = [⟨Rect.unit ![0, 0, 0] S1x512x128.size inb_S1x512x128_S1x512x128_0_0_0, outv (i 2).val x0 x1 x2 x3⟩] := by
  have h8 := lt8 i
  have hm : (i 2).val % 4 = 3 := by
    have h1 := (cond1_iff i).mp hc1
    have h2 := (cond2_iff i).mp hc2
    have h3 := (cond3_iff i).mp hc3
    omega
  have key : (run3 c i arg3 harg3 arg4 harg4 arg5 harg5 arg6 harg6 arg7 harg7 hc1 hc2 hc3 x0 x1 x2 x3).1 = [⟨Rect.unit ![0, 0, 0] S1x512x128.size inb_S1x512x128_S1x512x128_0_0_0,
      let X0 : Vec F S1x512x128 .bf16 := View.readAt (Elt F) arg3.view (Rect.unit (s := S1x512x128) ![0, 0, 0] S1x512x128.size inb_S1x512x128_S1x512x128_0_0_0).toLoadRect (harg3.unread x0)
      let S : Carry F := st_k0_t2 (F := F) Variants.none c none i arg3 harg3 arg4 harg4 arg5 harg5 arg6 harg6 arg7 harg7 k0_pay228 (k0_pay230 X0) (k0_pay231 X0) (run3.sl.v38 i)
        (harg4.unread x1) (harg5.unread x2) (harg6.unread x3)
        (st_k0_t1 (F := F) Variants.none c none i arg3 harg3 arg4 harg4 arg5 harg5 arg6 harg6 arg7 harg7 k0_pay228 (k0_pay230 X0) (k0_pay231 X0) (0#32) (1#32)
          (harg4.unread x1) (harg5.unread x2) (harg6.unread x3) (k0_pay232, k0_pay232, k0_pay233, k0_pay233) (k0_t1_loop i).trips) (k0_t2_loop i).trips
      let D : FVec F S512x128 .f32 × FVec F S512x128 .f32 := diag k0_pay228 (iota .tc S512x512 32 [0] iota_S512x512_d0_w32) (iota .tc S512x512 32 [1] iota_S512x512_d1_w32) (k0_pay230 X0) (k0_pay231 X0)
          (View.readAt (Elt F) arg4.view (Rect.unit (s := S1x4096x128) (k0_off7 i) S1x512x128.size (k0_off7_inb i hc1 hc2 hc3)).toLoadRect (harg4.unread x1)) (View.readAt (Elt F) arg5.view (Rect.unit (s := S1x4096x128) (k0_off7 i) S1x512x128.size (k0_off7_inb i hc1 hc2 hc3)).toLoadRect (harg5.unread x2)) (View.readAt (Elt F) arg6.view (Rect.unit (s := S1x1x8x2x512) (k0_off8 i) S1x1x1x2x512.size (k0_off8_inb i hc1 hc2 hc3)).toLoadRect (harg6.unread x3))
          (blk k0_pay228 (k0_pay230 X0) (k0_pay231 X0)
          (View.readAt (Elt F) arg4.view (Rect.unit (s := S1x4096x128) (k0_off5 i (BitVec.ofNat 32 ((2 : Fin 3)).val)) S1x512x128.size (k0_off5_inb i hc1 hc2 hc3 2)).toLoadRect (harg4.unread x1)) (View.readAt (Elt F) arg5.view (Rect.unit (s := S1x4096x128) (k0_off5 i (BitVec.ofNat 32 ((2 : Fin 3)).val)) S1x512x128.size (k0_off5_inb i hc1 hc2 hc3 2)).toLoadRect (harg5.unread x2)) (View.readAt (Elt F) arg6.view (Rect.unit (s := S1x1x8x2x512) (k0_off6 i (BitVec.ofNat 32 ((2 : Fin 3)).val)) S1x1x1x2x512.size (k0_off6_inb i hc1 hc2 hc3 2)).toLoadRect (harg6.unread x3))
          (blk k0_pay228 (k0_pay230 X0) (k0_pay231 X0)
          (View.readAt (Elt F) arg4.view (Rect.unit (s := S1x4096x128) (k0_off5 i (BitVec.ofNat 32 ((1 : Fin 3)).val)) S1x512x128.size (k0_off5_inb i hc1 hc2 hc3 1)).toLoadRect (harg4.unread x1)) (View.readAt (Elt F) arg5.view (Rect.unit (s := S1x4096x128) (k0_off5 i (BitVec.ofNat 32 ((1 : Fin 3)).val)) S1x512x128.size (k0_off5_inb i hc1 hc2 hc3 1)).toLoadRect (harg5.unread x2)) (View.readAt (Elt F) arg6.view (Rect.unit (s := S1x1x8x2x512) (k0_off6 i (BitVec.ofNat 32 ((1 : Fin 3)).val)) S1x1x1x2x512.size (k0_off6_inb i hc1 hc2 hc3 1)).toLoadRect (harg6.unread x3))
          (blk k0_pay228 (k0_pay230 X0) (k0_pay231 X0)
          (View.readAt (Elt F) arg4.view (Rect.unit (s := S1x4096x128) (k0_off5 i (BitVec.ofNat 32 ((0 : Fin 3)).val)) S1x512x128.size (k0_off5_inb i hc1 hc2 hc3 0)).toLoadRect (harg4.unread x1)) (View.readAt (Elt F) arg5.view (Rect.unit (s := S1x4096x128) (k0_off5 i (BitVec.ofNat 32 ((0 : Fin 3)).val)) S1x512x128.size (k0_off5_inb i hc1 hc2 hc3 0)).toLoadRect (harg5.unread x2)) (View.readAt (Elt F) arg6.view (Rect.unit (s := S1x1x8x2x512) (k0_off6 i (BitVec.ofNat 32 ((0 : Fin 3)).val)) S1x1x1x2x512.size (k0_off6_inb i hc1 hc2 hc3 0)).toLoadRect (harg6.unread x3))
          S)))
      k0_pay22 k0_pay228 D.1 D.2⟩] := by
    unfold run3
    rfl
  rw [key]
  dsimp only
  rw [read_q harg3, st2_eq,
    read_kb harg4 x1 ((i 2).val - 3 + 0) (by omega) _ (off5_eq i 0 hm),
    read_kb harg5 x2 ((i 2).val - 3 + 0) (by omega) _ (off5_eq i 0 hm),
    read_cb harg6 x3 ((i 2).val - 3 + 0) (by omega) _ (off6_eq i 0 hm),
    read_kb harg4 x1 ((i 2).val - 3 + 1) (by omega) _ (off5_eq i 1 hm),
    read_kb harg5 x2 ((i 2).val - 3 + 1) (by omega) _ (off5_eq i 1 hm),
    read_cb harg6 x3 ((i 2).val - 3 + 1) (by omega) _ (off6_eq i 1 hm),
    read_kb harg4 x1 ((i 2).val - 3 + 2) (by omega) _ (off5_eq i 2 hm),
    read_kb harg5 x2 ((i 2).val - 3 + 2) (by omega) _ (off5_eq i 2 hm),
    read_cb harg6 x3 ((i 2).val - 3 + 2) (by omega) _ (off6_eq i 2 hm),
    read_kb harg4 x1 (i 2).val (by omega) _ (off7_eq i),
    read_kb harg5 x2 (i 2).val (by omega) _ (off7_eq i),
    read_cb harg6 x3 (i 2).val (by omega) _ (off8_eq i)]
  unfold outv
  obtain ⟨b, hb⟩ : ∃ b, b = 4 * ((i 2).val / 4) := ⟨_, rfl⟩
  rw [← hb, show (i 2).val = b + 3 from by omega]
  rw [show b + 3 - 3 + 0 = b from by omega, show b + 3 - 3 + 1 = b + 1 from by omega, show b + 3 - 3 + 2 = b + 2 from by omega]
  rfl

end Cert.KernelIdeal.Fox
end
-- ==== Proof.FoxFrame.lean ====
module

public import proofs.«01_k».proof.Proof.FoxCases
public import Idealize.ShloMosaic.Lib.Claim
public import Idealize.ShloMosaic.Lib.Pipeline.Value

@[expose] public section

set_option maxRecDepth 65536

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Whichever number of whole blocks is left over, the body stores `outv`. -/
theorem runs (c : Dev nD) (i : grid0.Coords) (arg3 : Memref sig .tc .vmem S1x512x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x1x8x2x512 .f32) (harg6 : arg6.IsWhole) (arg7 : Memref sig .tc .vmem S1x512x128 .bf16) (harg7 : arg7.IsWhole)
    (x0 : Vec F S1x512x128 .bf16) (x1 : Vec F S1x4096x128 .bf16) (x2 : Vec F S1x4096x128 .bf16) (x3 : Vec F S1x1x8x2x512 .f32) :
    Runs c i arg3 harg3 arg4 harg4 arg5 harg5 arg6 harg6 arg7 harg7 x0 x1 x2 x3
      [⟨Rect.unit ![0, 0, 0] S1x512x128.size inb_S1x512x128_S1x512x128_0_0_0, outv (i 2).val x0 x1 x2 x3⟩] := by
  by_cases hc1 : k0_cond1 i = 1#1
  · by_cases hc2 : k0_cond2 i = 1#1
    · by_cases hc3 : k0_cond3 i = 1#1
      · rw [← run3_eq c i arg3 harg3 arg4 harg4 arg5 harg5 arg6 harg6 arg7 harg7 hc1 hc2 hc3]; exact (run3 c i arg3 harg3 arg4 harg4 arg5 harg5 arg6 harg6 arg7 harg7 hc1 hc2 hc3 x0 x1 x2 x3).2
      · rw [← run2_eq c i arg3 harg3 arg4 harg4 arg5 harg5 arg6 harg6 arg7 harg7 hc1 hc2 hc3]; exact (run2 c i arg3 harg3 arg4 harg4 arg5 harg5 arg6 harg6 arg7 harg7 hc1 hc2 hc3 x0 x1 x2 x3).2
    · rw [← run1_eq c i arg3 harg3 arg4 harg4 arg5 harg5 arg6 harg6 arg7 harg7 hc1 hc2]; exact (run1 c i arg3 harg3 arg4 harg4 arg5 harg5 arg6 harg6 arg7 harg7 hc1 hc2 x0 x1 x2 x3).2
  · rw [← run0_eq c i arg3 harg3 arg4 harg4 arg5 harg5 arg6 harg6 arg7 harg7 hc1]; exact (run0 c i arg3 harg3 arg4 harg4 arg5 harg5 arg6 harg6 arg7 harg7 hc1 x0 x1 x2 x3).2

/-- What is stored covers the block, so the block reads back as it. -/
theorem read_outv {arg7 : Memref sig .tc .vmem S1x512x128 .bf16} (w : Vec F S1x512x128 .bf16) (f : arg7.view.ty.Contents (Elt F)) :
    arg7.view.read (Elt F) (arg7.view.writes (Elt F) f [⟨Rect.unit ![0, 0, 0] S1x512x128.size inb_S1x512x128_S1x512x128_0_0_0, w⟩]) = w := by
  rw [View.read_writes_eq_canon]
  · exact View.canon_unit_zero (by funext a; fin_cases a <;> rfl) _ _
  · intro y
    refine ⟨_, List.mem_singleton.mpr rfl, ?_⟩
    rw [Rect.mem_set_unit]
    intro a
    have := (y a).isLt
    fin_cases a <;> exact ⟨Nat.zero_le _, by simpa using this⟩

variable (m : (ℓ : Loc nD τ sig) → Buf (Elt F) ℓ) (ρ : Dev nD → PrngReg)

/-- The proof data: inputs stay, the result's block is `outv` of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outv (grid0.coords t 2).val (iblk m c 0 t) (iblk m c 1 t) (iblk m c 2 t) (iblk m c 3 t)
  Φ t := Pipeline.ΦA spec0 c
  q := Pipeline.shareOf spec0
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t
    = outv (grid0.coords t 2).val (iblk m c 0 t) (iblk m c 1 t) (iblk m c 2 t) (iblk m c 3 t) := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d

/-- What the body is given at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body takes the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    show (dats m 0 c).Φ t.succ = (dats m 0 c).Φ t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (runs c (grid0.coords t) _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact read_outv _ _

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The whole program runs; its arrays end at what the proof data says, its counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame, at any floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Fox
end
-- ==== Proof.FoxRef.lean ====
module

public import proofs.«01_k».proof.Proof.Gen.ReferenceIdeal
public import proofs.«01_k».proof.Proof.Gen.ReferenceIdeal.Run
public import proofs.«01_k».proof.Proof.Gen.ReferenceIdeal.Read
public import Idealize.ShloMosaic.Lib.Quiescent

@[expose] public section

noncomputable section

namespace Cert.ReferenceIdeal.Fox

open Cert.ReferenceIdeal Cert.ReferenceIdeal.Gen
open Idealize.ShloMosaic Idealize.ShloMosaic.TcCoe Idealize.SL.Sem

variable {F : FTy → Type} [FloatOps F]

/-- The reference runs, leaves its arguments and has no counter to leave. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2, sem_eq_zero_of_no_sems (by decide) r.2⟩) (Value.run m ρ)

end Cert.ReferenceIdeal.Fox

end
-- ==== Proof.FoxMath.lean ====
module

public import Idealize.ShloMosaic.PureOps
public import Idealize.ShloMosaic.PureOps.Ideal
public import Idealize.ShloMosaic.Lib.Pointwise

@[expose] public section

noncomputable section

/-! The running softmax over the extended reals: a row's scores and values are sequences, and the weighted sum over the first
    `n` of them, taken relative to their maximum, is built a block at a time. -/

namespace Cert.KernelIdeal.Fox

open Idealize.ShloMosaic

/-- The largest of the first `n` scores. -/
def mx (T : ℕ → EReal) (n : ℕ) : EReal := (Finset.range n).sup T

/-- The sum of the first `n` values, each weighted by two to its score less the largest. -/
def ws (T v : ℕ → EReal) (n : ℕ) : EReal := ∑ k ∈ Finset.range n, Ideal.exp2 (T k - mx T n) * v k

theorem exp2_nonneg (x : EReal) : 0 ≤ Ideal.exp2 x := by
  induction x with
  | bot => simp
  | top => simp
  | coe r => rw [Ideal.exp2_coe]; exact_mod_cast (Real.rpow_pos_of_pos (by norm_num) r).le

theorem exp2_ne_top {x : EReal} (h : x ≠ ⊤) : Ideal.exp2 x ≠ ⊤ := by
  induction x with
  | bot => simp
  | top => exact absurd rfl h
  | coe r => rw [Ideal.exp2_coe]; exact EReal.coe_ne_top _

theorem mx_zero (T : ℕ → EReal) : mx T 0 = ⊥ := by simp [mx]

theorem le_mx {T : ℕ → EReal} {n k : ℕ} (h : k < n) : T k ≤ mx T n :=
  Finset.le_sup (f := T) (Finset.mem_range.2 h)

theorem mx_ne_top {T : ℕ → EReal} {n : ℕ} (h : ∀ k < n, T k ≠ ⊤) : mx T n ≠ ⊤ := by
  have : mx T n < ⊤ := (Finset.sup_lt_iff (by exact bot_lt_top)).2 fun k hk => lt_top_iff_ne_top.2 (h k (Finset.mem_range.1 hk))
  exact this.ne

theorem mx_ne_bot {T : ℕ → EReal} {n : ℕ} (hn : 0 < n) (h : T 0 ≠ ⊥) : mx T n ≠ ⊥ := fun e =>
  h (le_bot_iff.1 (e ▸ le_mx hn))

theorem mx_congr {T T' : ℕ → EReal} {n : ℕ} (h : ∀ k < n, T k = T' k) : mx T n = mx T' n :=
  Finset.sup_congr rfl fun k hk => h k (Finset.mem_range.1 hk)

theorem ws_congr {T T' v v' : ℕ → EReal} {n : ℕ} (h : ∀ k < n, T k = T' k) (hv : ∀ k < n, v k = v' k) : ws T v n = ws T' v' n := by
  unfold ws
  rw [mx_congr h]
  exact Finset.sum_congr rfl fun k hk => by rw [h k (Finset.mem_range.1 hk), hv k (Finset.mem_range.1 hk)]

theorem mx_fin (T : ℕ → EReal) (n : ℕ) : (Finset.univ : Finset (Fin n)).fold max ⊥ (fun k => T k.val) = mx T n := by
  change (Finset.univ : Finset (Fin n)).sup (fun k => T k.val) = _
  unfold mx
  apply le_antisymm
  · exact Finset.sup_le fun k _ => Finset.le_sup (f := T) (Finset.mem_range.2 k.isLt)
  · exact Finset.sup_le fun k hk => Finset.le_sup (f := fun k : Fin n => T k.val) (Finset.mem_univ (⟨k, Finset.mem_range.1 hk⟩ : Fin n))

theorem mx_add (T : ℕ → EReal) (n K : ℕ) :
    mx T (n + K) = max (mx T n) ((Finset.univ : Finset (Fin K)).fold max ⊥ fun k => T (n + k.val)) := by
  rw [mx_fin (fun k => T (n + k)) K]
  unfold mx
  apply le_antisymm
  · refine Finset.sup_le fun k hk => ?_
    rcases Nat.lt_or_ge k n with h | h
    · exact le_max_of_le_left (Finset.le_sup (f := T) (Finset.mem_range.2 h))
    · refine le_max_of_le_right ?_
      have hk' := Finset.mem_range.1 hk
      have := Finset.le_sup (f := fun k => T (n + k)) (Finset.mem_range.2 (show k - n < K by omega))
      simpa only [Nat.add_sub_cancel' h] using this
  · refine max_le (Finset.sup_le fun k hk => ?_) (Finset.sup_le fun k hk => ?_)
    · exact Finset.le_sup (f := T) (Finset.mem_range.2 (by have := Finset.mem_range.1 hk; omega))
    · exact Finset.le_sup (f := T) (Finset.mem_range.2 (by have := Finset.mem_range.1 hk; omega))

theorem exp2_mul {a b t : EReal} (ha : a ≠ ⊤) (ha' : a ≠ ⊥) (hb : b ≠ ⊤) (hb' : b ≠ ⊥) (ht : t ≠ ⊤) :
    Ideal.exp2 (a - b) * Ideal.exp2 (t - a) = Ideal.exp2 (t - b) := by
  lift a to ℝ using ⟨ha, ha'⟩
  lift b to ℝ using ⟨hb, hb'⟩
  induction t with
  | top => exact absurd rfl ht
  | bot => rw [EReal.bot_sub, EReal.bot_sub, Ideal.exp2_bot, mul_zero]
  | coe t =>
    rw [← EReal.coe_sub, ← EReal.coe_sub, ← EReal.coe_sub, Ideal.exp2_coe, Ideal.exp2_coe, Ideal.exp2_coe, ← EReal.coe_mul]
    congr 1
    change (2 : ℝ) ^ (a - b) * (2 : ℝ) ^ (t - a) = (2 : ℝ) ^ (t - b)
    rw [← Real.rpow_add (by norm_num)]
    congr 1
    ring

theorem mul_sum {ι : Type} (s : Finset ι) (f : ι → EReal) {c : EReal} (h : 0 ≤ c) (h' : c ≠ ⊤) : c * ∑ k ∈ s, f k = ∑ k ∈ s, c * f k := by
  classical
  induction s using Finset.induction_on with
  | empty => simp
  | insert a s ha ih => rw [Finset.sum_insert ha, Finset.sum_insert ha, EReal.left_distrib_of_nonneg_of_ne_top h h', ih]

/-- One block: the sum so far is rescaled to the new maximum and the block's own weighted sum added. -/
theorem ws_add (T v : ℕ → EReal) (n K : ℕ) (hT : ∀ k < n + K, T k ≠ ⊤) (h0 : T 0 ≠ ⊥) :
    ws T v (n + K) = Ideal.exp2 (mx T n - mx T (n + K)) * ws T v n
      + ∑ k : Fin K, Ideal.exp2 (T (n + k.val) - mx T (n + K)) * v (n + k.val) := by
  rcases Nat.eq_zero_or_pos n with rfl | hn
  · unfold ws
    rw [Finset.range_zero, Finset.sum_empty, mul_zero, zero_add, Finset.sum_range]
    simp only [zero_add]
  · have m1 : mx T n ≠ ⊤ := mx_ne_top fun k hk => hT k (by omega)
    have m1' : mx T n ≠ ⊥ := mx_ne_bot hn h0
    have m2 : mx T (n + K) ≠ ⊤ := mx_ne_top hT
    have m2' : mx T (n + K) ≠ ⊥ := mx_ne_bot (by omega) h0
    have hc : Ideal.exp2 (mx T n - mx T (n + K)) ≠ ⊤ := by
      refine exp2_ne_top ?_
      generalize mx T n = a at *
      generalize mx T (n + K) = b at *
      lift a to ℝ using ⟨m1, m1'⟩
      lift b to ℝ using ⟨m2, m2'⟩
      rw [← EReal.coe_sub]
      exact EReal.coe_ne_top _
    conv_lhs => unfold ws
    rw [Finset.sum_range_add]
    refine congrArg₂ (· + ·) ?_ ?_
    · unfold ws
      rw [mul_sum _ _ (exp2_nonneg _) hc]
      refine Finset.sum_congr rfl fun k hk => ?_
      rw [← mul_assoc, exp2_mul m1 m1' m2 m2' (hT k (by have := Finset.mem_range.1 hk; omega))]
    · exact Finset.sum_range _

/-- The quotient of the sums is the softmax of the logits `L`, natural where the scores `T` are binary. -/
theorem softmax_eq (T v L : ℕ → EReal) (n N : ℕ) (hn : 0 < n) (hN : n ≤ N) (hT : ∀ k < n, T k ≠ ⊤) (h0 : T 0 ≠ ⊥)
    (d : ℝ) (hL : ∀ k < n, L k = ((Real.log 2 : ℝ) : EReal) * T k + (d : EReal)) (hL' : ∀ k < N, n ≤ k → L k = ⊥) :
    Ideal.div (ws T v n) (ws T (fun _ => 1) n)
      = ∑ k ∈ Finset.range N, Ideal.div (Ideal.exp (L k - mx L N)) (∑ j ∈ Finset.range N, Ideal.exp (L j - mx L N)) * v k := by
  have m1 : mx T n ≠ ⊤ := mx_ne_top hT
  have m1' : mx T n ≠ ⊥ := mx_ne_bot hn h0
  have hl : 0 < Real.log 2 := Real.log_pos (by norm_num)
  have hmono : Monotone fun t : EReal => ((Real.log 2 : ℝ) : EReal) * t + (d : EReal) := fun a b h =>
    add_le_add_left (mul_le_mul_of_nonneg_left h (by exact_mod_cast hl.le)) _
  have hM : mx L N = ((Real.log 2 : ℝ) : EReal) * mx T n + (d : EReal) := by
    apply le_antisymm
    · refine Finset.sup_le fun k hk => ?_
      rcases Nat.lt_or_ge k n with h | h
      · rw [hL k h]; exact hmono (le_mx h)
      · rw [hL' k (Finset.mem_range.1 hk) h]; exact bot_le
    · obtain ⟨k, hk, e⟩ := Finset.exists_mem_eq_sup (Finset.range n) ⟨0, Finset.mem_range.2 hn⟩ T
      have hk' := Finset.mem_range.1 hk
      rw [show mx T n = T k from e, ← hL k hk']
      exact le_mx (by omega)
  have key : ∀ k < n, Ideal.exp (L k - mx L N) = Ideal.exp2 (T k - mx T n) := by
    intro k hk
    rw [hM, hL k hk]
    have ht := hT k hk
    generalize T k = t at ht ⊢
    generalize mx T n = a at m1 m1' ⊢
    lift a to ℝ using ⟨m1, m1'⟩
    induction t with
    | top => exact absurd rfl ht
    | bot => rw [EReal.coe_mul_bot_of_pos hl, EReal.bot_add, EReal.bot_sub, EReal.bot_sub, Ideal.exp2_bot, Ideal.exp_bot]
    | coe t =>
      rw [← EReal.coe_mul, ← EReal.coe_add, ← EReal.coe_mul, ← EReal.coe_add, ← EReal.coe_sub, ← EReal.coe_sub, Ideal.exp_coe, Ideal.exp2_coe]
      congr 1
      change _ = (2 : ℝ) ^ (t - a)
      rw [Real.rpow_def_of_pos (by norm_num)]
      congr 1
      ring
  have key' : ∀ k < N, n ≤ k → Ideal.exp (L k - mx L N) = 0 := by
    intro k hk h
    rw [hL' k hk h, EReal.bot_sub, Ideal.exp_bot]
  have split : ∀ f : ℕ → EReal, (∀ k < N, n ≤ k → f k = 0) → ∑ k ∈ Finset.range N, f k = ∑ k ∈ Finset.range n, f k := by
    intro f hf
    symm
    refine Finset.sum_subset (fun k hk => Finset.mem_range.2 ((Finset.mem_range.1 hk).trans_le hN)) fun k hk hk' => ?_
    exact hf k (Finset.mem_range.1 hk) (Nat.le_of_not_lt fun h => hk' (Finset.mem_range.2 h))
  have hD : ∑ j ∈ Finset.range N, Ideal.exp (L j - mx L N) = ws T (fun _ => 1) n := by
    rw [split _ key']
    unfold ws
    exact Finset.sum_congr rfl fun k hk => by rw [key k (Finset.mem_range.1 hk), mul_one]
  have hpos : 0 < ws T (fun _ => 1) n := by
    have h1 : Ideal.exp2 (T 0 - mx T n) * 1 ≤ ws T (fun _ => 1) n :=
      Finset.single_le_sum (f := fun k => Ideal.exp2 (T k - mx T n) * 1) (fun k _ => by rw [mul_one]; exact exp2_nonneg _) (Finset.mem_range.2 hn)
    refine lt_of_lt_of_le ?_ h1
    rw [mul_one]
    have ht := hT 0 hn
    generalize T 0 = t at ht h0 ⊢
    generalize mx T n = a at m1 m1' ⊢
    lift a to ℝ using ⟨m1, m1'⟩
    lift t to ℝ using ⟨ht, h0⟩
    rw [← EReal.coe_sub, Ideal.exp2_coe]
    exact_mod_cast Real.rpow_pos_of_pos (by norm_num) _
  have hinv : 0 ≤ (ws T (fun _ => 1) n)⁻¹ := EReal.inv_nonneg_of_nonneg hpos.le
  have hinv' : (ws T (fun _ => 1) n)⁻¹ ≠ ⊤ := by
    generalize ws T (fun _ => 1) n = D at hpos ⊢
    induction D with
    | bot => simp
    | top => simp
    | coe r => rw [← EReal.coe_inv]; exact EReal.coe_ne_top _
  rw [hD]
  unfold Ideal.div
  rw [if_neg hpos.ne']
  simp only [if_neg hpos.ne']
  rw [split _ fun k hk h => by rw [key' k hk h, zero_mul, zero_mul], mul_comm]
  conv_lhs => arg 2; unfold ws
  rw [mul_sum _ _ hinv hinv']
  refine Finset.sum_congr rfl fun k hk => ?_
  rw [key k (Finset.mem_range.1 hk), mul_comm _ (ws T (fun _ => 1) n)⁻¹, mul_assoc]

end Cert.KernelIdeal.Fox

end
-- ==== Proof.FoxRead.lean ====
module

public import proofs.«01_k».proof.Proof.FoxOut
public import proofs.«01_k».proof.Proof.FoxMath
public import Idealize.ShloMosaic.Lib.Pointwise
public import Idealize.ShloMosaic.Lib.WordCmp

@[expose] public section

set_option maxRecDepth 65536

noncomputable section

/-! What the body leaves, read at an index: the quotient of two running sums over the row's own past. -/

namespace Cert.KernelIdeal.Fox

open Cert.KernelIdeal Cert.KernelIdeal.Gen
open Idealize.ShloMosaic

theorem ofBits_bot : Ideal.ofBits .f32 0xFF800000#32 = ⊥ := by
  simp [Ideal.ofBits, Ideal.ieee]

theorem upM_apply (m : FVec Ideal S512x1 .f32) (s : FVec Ideal S512x512 .f32) (r : Fin 512) (z : Fin 1) :
    upM m s (ix2 r z) = max (m (ix2 r 0)) ((Finset.univ : Finset (Fin 512)).fold max ⊥ fun k => s (ix2 r k)) := by
  obtain rfl : z = 0 := Subsingleton.elim _ _
  pointwise [upM]
  rw [ofBits_bot]

theorem upA_apply (m : FVec Ideal S512x1 .f32) (a : FVec Ideal S512x128 .f32) (s : FVec Ideal S512x512 .f32) (v : FVec Ideal S512x128 .bf16) (r : Fin 512) (l : Fin 128) :
    upA m a s v (ix2 r l) = Ideal.exp2 (m (ix2 r 0) - upM m s (ix2 r 0)) * a (ix2 r l)
      + ∑ k : Fin 512, Ideal.exp2 (s (ix2 r k) - upM m s (ix2 r 0)) * v (ix2 k l) := by
  unfold upA
  generalize upM m s = M
  pointwise
  rfl

/-- The lane mask, evaluated. -/
theorem lane_select {α : Type} (l : Fin 128) (x y : α) :
    Scalar.select (IntOp.cmpi CmpIPredicate.slt (BitVec.ofNat 32 l.val) 64#32) x y = if l.val < 64 then x else y := by
  have h : ∀ l : Fin 128, IntOp.cmpi CmpIPredicate.slt (BitVec.ofNat 32 l.val) 64#32 = if l.val < 64 then 1#1 else 0#1 := by decide +kernel
  rw [h l]
  split <;> rfl

/-- Key row `k` of the key or value block. -/
def key (x1 : Vec Ideal S1x4096x128 .bf16) (k : ℕ) (l : Fin 128) : EReal := x1 (ix3 0 ⟨k % 4096, Nat.mod_lt _ (by decide)⟩ l)

/-- Query row `r`'s score against key `k` in head `h` of the pair. -/
def sg (h : Fin 2) (x0 : Vec Ideal S1x512x128 .bf16) (x1 : Vec Ideal S1x4096x128 .bf16) (x3 : Vec Ideal S1x1x8x2x512 .f32) (r : Fin 512) (k : ℕ) : EReal :=
  ∑ d : Fin 64, x0 (ix3 0 r ⟨64 * h.val + d.val, by omega⟩) * key x1 k ⟨64 * h.val + d.val, by omega⟩
    - x3 (ix5 0 0 ⟨k / 512 % 8, Nat.mod_lt _ (by decide)⟩ h ⟨k % 512, Nat.mod_lt _ (by decide)⟩)

/-- The same, with the keys after query `512 * i + r` shut out. -/
def tg (h : Fin 2) (i : ℕ) (x0 : Vec Ideal S1x512x128 .bf16) (x1 : Vec Ideal S1x4096x128 .bf16) (x3 : Vec Ideal S1x1x8x2x512 .f32) (r : Fin 512) (k : ℕ) : EReal :=
  if k ≤ 512 * i + r.val then sg h x0 x1 x3 r k else ⊥

/-- Key `k`'s value in lane `l` as the head multiplies it: its own lanes' values, ones in the other head's lanes. -/
def vl (h : Fin 2) (x2 : Vec Ideal S1x4096x128 .bf16) (l : Fin 128) (k : ℕ) : EReal :=
  if l.val / 64 = h.val then key x2 k l else 1

theorem sum_low (f : Fin 128 → EReal) : ∑ x : Fin 128, (if x.val < 64 then f x else 0) = ∑ d : Fin 64, f ⟨64 * (0 : Fin 2).val + d.val, by simp; omega⟩ := by
  rw [Fin.sum_univ_two_halves 64 64 rfl]
  have h1 : ∀ d : Fin 64, d.val < 64 := fun d => d.isLt
  simp [h1]

theorem sum_high (f : Fin 128 → EReal) : ∑ x : Fin 128, (if x.val < 64 then 0 else f x) = ∑ d : Fin 64, f ⟨64 * (1 : Fin 2).val + d.val, by simp; omega⟩ := by
  rw [Fin.sum_univ_two_halves 64 64 rfl]
  have h1 : ∀ d : Fin 64, d.val < 64 := fun d => d.isLt
  simp [h1]

theorem sc0_apply (x0 : Vec Ideal S1x512x128 .bf16) (x1 : Vec Ideal S1x4096x128 .bf16) (x3 : Vec Ideal S1x1x8x2x512 .f32) (j : ℕ) (r k : Fin 512) :
    sc0 (k0_pay230 x0) (kb x1 j) (cb x3 j) (ix2 r k) = sg 0 x0 x1 x3 r (512 * j + k.val) := by
  have hj : (512 * j + k.val) / 512 = j := by omega
  have hk : (512 * j + k.val) % 512 = k.val := by omega
  pointwise [sc0, k0_pay230, k0_pay229, k0_pay228, kb, cb]
  simp only [lane_select]
  rw [sum_low]
  unfold sg key
  simp only [hj, hk]

theorem sc1_apply (x0 : Vec Ideal S1x512x128 .bf16) (x1 : Vec Ideal S1x4096x128 .bf16) (x3 : Vec Ideal S1x1x8x2x512 .f32) (j : ℕ) (r k : Fin 512) :
    sc1 (k0_pay231 x0) (kb x1 j) (cb x3 j) (ix2 r k) = sg 1 x0 x1 x3 r (512 * j + k.val) := by
  have hj : (512 * j + k.val) / 512 = j := by omega
  have hk : (512 * j + k.val) % 512 = k.val := by omega
  pointwise [sc1, k0_pay231, k0_pay229, k0_pay228, kb, cb]
  simp only [lane_select]
  rw [sum_high]
  unfold sg key
  simp only [hj, hk]

theorem vh0_apply (x2 : Vec Ideal S1x4096x128 .bf16) (j : ℕ) (k : Fin 512) (l : Fin 128) :
    vh0 k0_pay228 (kb x2 j) (ix2 k l) = vl 0 x2 l (512 * j + k.val) := by
  pointwise [vh0, lanes, ones, k0_pay228, kb]
  simp only [lane_select]
  unfold vl key
  refine if_congr ?_ rfl rfl
  simp

theorem vh1_apply (x2 : Vec Ideal S1x4096x128 .bf16) (j : ℕ) (k : Fin 512) (l : Fin 128) :
    vh1 k0_pay228 (kb x2 j) (ix2 k l) = vl 1 x2 l (512 * j + k.val) := by
  pointwise [vh1, lanes, ones, k0_pay228, kb]
  simp only [lane_select]
  unfold vl key
  have : (l.val / 64 = (1 : Fin 2).val) ↔ ¬ l.val < 64 := by simp; omega
  rw [if_congr this rfl rfl, ite_not]

/-- The causal comparison, evaluated. -/
theorem le_select {α : Type} {a b : ℕ} (ha : a < 2 ^ 31) (hb : b < 2 ^ 31) (x y : α) :
    Scalar.select (IntOp.cmpi CmpIPredicate.sle (BitVec.ofNat 32 a) (BitVec.ofNat 32 b)) x y = if a ≤ b then x else y := by
  rw [WordCmp.cmpi_sle_ofNat ha hb]
  by_cases h : a ≤ b <;> simp [h, Scalar.select]

theorem msk_apply (s : FVec Ideal S512x512 .f32) (r k : Fin 512) :
    msk (iota .tc S512x512 32 [0] iota_S512x512_d0_w32) (iota .tc S512x512 32 [1] iota_S512x512_d1_w32) s (ix2 r k) = if k.val ≤ r.val then s (ix2 r k) else ⊥ := by
  pointwise [msk]
  rw [le_select (by omega) (by omega), ofBits_bot]

/-- One block of scores and values, row by row: the running maximum and the running sum advance. -/
theorem step (T v : ℕ → EReal) (n : ℕ) (hT : ∀ k, T k ≠ ⊤) (h0 : T 0 ≠ ⊥) (m : FVec Ideal S512x1 .f32) (a : FVec Ideal S512x128 .f32)
    (s : FVec Ideal S512x512 .f32) (V : FVec Ideal S512x128 .bf16) (r : Fin 512) (l : Fin 128)
    (hm : m (ix2 r 0) = mx T n) (ha : a (ix2 r l) = ws T v n) (hs : ∀ k : Fin 512, s (ix2 r k) = T (n + k.val)) (hv : ∀ k : Fin 512, V (ix2 k l) = v (n + k.val)) :
    upM m s (ix2 r 0) = mx T (n + 512) ∧ upA m a s V (ix2 r l) = ws T v (n + 512) := by
  have e : upM m s (ix2 r 0) = mx T (n + 512) := by
    rw [upM_apply, hm, mx_add]
    simp only [hs]
  refine ⟨e, ?_⟩
  rw [upA_apply, e, hm, ha, ws_add T v n 512 (fun k _ => hT k) h0]
  simp only [hs, hv]

section
variable (i : ℕ) (x0 : Vec Ideal S1x512x128 .bf16) (x1 x2 : Vec Ideal S1x4096x128 .bf16) (x3 : Vec Ideal S1x1x8x2x512 .f32)

theorem tg_ne_top (hσ : ∀ h r k, sg h x0 x1 x3 r k ≠ ⊤) (h : Fin 2) (r : Fin 512) (k : ℕ) : tg h i x0 x1 x3 r k ≠ ⊤ := by
  unfold tg
  split
  · exact hσ h r k
  · exact bot_ne_top

theorem tg_zero (hσ' : ∀ h r k, sg h x0 x1 x3 r k ≠ ⊥) (h : Fin 2) (r : Fin 512) : tg h i x0 x1 x3 r 0 ≠ ⊥ := by
  unfold tg
  rw [if_pos (Nat.zero_le _)]
  exact hσ' h r 0

theorem st_apply (hσ : ∀ h r k, sg h x0 x1 x3 r k ≠ ⊤) (hσ' : ∀ h r k, sg h x0 x1 x3 r k ≠ ⊥) (r : Fin 512) (l : Fin 128) (j : ℕ) (hj : j ≤ i) :
    (st x0 x1 x2 x3 j).1 (ix2 r 0) = mx (tg 0 i x0 x1 x3 r) (512 * j) ∧ (st x0 x1 x2 x3 j).2.1 (ix2 r 0) = mx (tg 1 i x0 x1 x3 r) (512 * j)
      ∧ (st x0 x1 x2 x3 j).2.2.1 (ix2 r l) = ws (tg 0 i x0 x1 x3 r) (vl 0 x2 l) (512 * j)
      ∧ (st x0 x1 x2 x3 j).2.2.2 (ix2 r l) = ws (tg 1 i x0 x1 x3 r) (vl 1 x2 l) (512 * j) := by
  induction j with
  | zero =>
    have e1 : (k0_pay232 (F := Ideal)) (ix2 r 0) = ⊥ := by pointwise [k0_pay232]; exact ofBits_bot
    have e2 : (k0_pay233 (F := Ideal)) (ix2 r l) = 0 := by pointwise [k0_pay233]
    unfold st ws mx
    simp only [Nat.mul_zero, Finset.range_zero, Finset.sup_empty, Finset.sum_empty]
    exact ⟨e1, e1, e2, e2⟩
  | succ j ih =>
    obtain ⟨h1, h2, h3, h4⟩ := ih (by omega)
    have past : ∀ k : Fin 512, 512 * j + k.val ≤ 512 * i + r.val := fun k => by omega
    have s0 := step (tg 0 i x0 x1 x3 r) (vl 0 x2 l) (512 * j) (tg_ne_top i x0 x1 x3 hσ 0 r) (tg_zero i x0 x1 x3 hσ' 0 r)
      _ _ (sc0 (k0_pay230 x0) (kb x1 j) (cb x3 j)) (vh0 k0_pay228 (kb x2 j)) r l h1 h3
      (fun k => by rw [sc0_apply]; unfold tg; rw [if_pos (past k)]) (fun k => vh0_apply x2 j k l)
    have s1 := step (tg 1 i x0 x1 x3 r) (vl 1 x2 l) (512 * j) (tg_ne_top i x0 x1 x3 hσ 1 r) (tg_zero i x0 x1 x3 hσ' 1 r)
      _ _ (sc1 (k0_pay231 x0) (kb x1 j) (cb x3 j)) (vh1 k0_pay228 (kb x2 j)) r l h2 h4
      (fun k => by rw [sc1_apply]; unfold tg; rw [if_pos (past k)]) (fun k => vh1_apply x2 j k l)
    rw [Nat.mul_succ]
    exact ⟨s0.1, s1.1, s0.2, s1.2⟩

/-- What the body leaves in row `r` and lane `l` of query block `i`. -/
theorem outv_apply (hσ : ∀ h r k, sg h x0 x1 x3 r k ≠ ⊤) (hσ' : ∀ h r k, sg h x0 x1 x3 r k ≠ ⊥) (h : Fin 2) (r : Fin 512) (l : Fin 128) (hl : l.val / 64 = h.val) :
    outv i x0 x1 x2 x3 (ix3 0 r l)
      = Ideal.div (ws (tg h i x0 x1 x3 r) (fun k => key x2 k l) (512 * i + 512)) (ws (tg h i x0 x1 x3 r) (fun _ => 1) (512 * i + 512)) := by
  have d : ∀ l : Fin 128,
      (diag k0_pay228 (iota .tc S512x512 32 [0] iota_S512x512_d0_w32) (iota .tc S512x512 32 [1] iota_S512x512_d1_w32) (k0_pay230 x0) (k0_pay231 x0) (kb x1 i) (kb x2 i) (cb x3 i) (st x0 x1 x2 x3 i)).1 (ix2 r l)
        = ws (tg 0 i x0 x1 x3 r) (vl 0 x2 l) (512 * i + 512)
      ∧ (diag k0_pay228 (iota .tc S512x512 32 [0] iota_S512x512_d0_w32) (iota .tc S512x512 32 [1] iota_S512x512_d1_w32) (k0_pay230 x0) (k0_pay231 x0) (kb x1 i) (kb x2 i) (cb x3 i) (st x0 x1 x2 x3 i)).2 (ix2 r l)
        = ws (tg 1 i x0 x1 x3 r) (vl 1 x2 l) (512 * i + 512) := by
    intro l
    obtain ⟨h1, h2, h3, h4⟩ := st_apply i x0 x1 x2 x3 hσ hσ' r l i le_rfl
    have cut : ∀ k : Fin 512, (512 * i + k.val ≤ 512 * i + r.val) = (k.val ≤ r.val) := fun k => propext (by omega)
    exact ⟨(step (tg 0 i x0 x1 x3 r) (vl 0 x2 l) (512 * i) (tg_ne_top i x0 x1 x3 hσ 0 r) (tg_zero i x0 x1 x3 hσ' 0 r)
        _ _ _ (vh0 k0_pay228 (kb x2 i)) r l h1 h3
        (fun k => by rw [msk_apply, sc0_apply]; unfold tg; simp only [cut]) (fun k => vh0_apply x2 i k l)).2,
      (step (tg 1 i x0 x1 x3 r) (vl 1 x2 l) (512 * i) (tg_ne_top i x0 x1 x3 hσ 1 r) (tg_zero i x0 x1 x3 hσ' 1 r)
        _ _ _ (vh1 k0_pay228 (kb x2 i)) r l h2 h4
        (fun k => by rw [msk_apply, sc1_apply]; unfold tg; simp only [cut]) (fun k => vh1_apply x2 i k l)).2⟩
  unfold outv
  generalize (diag k0_pay228 (iota .tc S512x512 32 [0] iota_S512x512_d0_w32) (iota .tc S512x512 32 [1] iota_S512x512_d1_w32) (k0_pay230 x0) (k0_pay231 x0) (kb x1 i) (kb x2 i) (cb x3 i) (st x0 x1 x2 x3 i)) = D at d ⊢
  obtain ⟨D0, D1⟩ := D
  have d0 : ∀ l, D0 (ix2 r l) = _ := fun l => (d l).1
  have d1 : ∀ l, D1 (ix2 r l) = _ := fun l => (d l).2
  pointwise [k0_pay22, k0_pay228]
  simp only [lane_select]
  have hv : ∀ k, vl h x2 l k = key x2 k l := fun k => by unfold vl; rw [if_pos hl]
  have one0 : ∀ k, vl 0 x2 64 k = 1 := fun k => by unfold vl; rw [if_neg (by decide)]
  have one1 : ∀ k, vl 1 x2 0 k = 1 := fun k => by unfold vl; rw [if_neg (by decide)]
  match h, hl, hv with
  | ⟨0, _⟩, hl, hv =>
    have hl' : l.val < 64 := by simp at hl; omega
    rw [if_pos hl', d0, d0]
    refine congrArg₂ Ideal.div ?_ ?_
    · exact ws_congr (fun _ _ => rfl) fun k _ => hv k
    · exact ws_congr (fun _ _ => rfl) fun k _ => one0 k
  | ⟨1, _⟩, hl, hv =>
    have hl' : ¬ l.val < 64 := by simp at hl; omega
    rw [if_neg hl', d1, d1]
    refine congrArg₂ Ideal.div ?_ ?_
    · exact ws_congr (fun _ _ => rfl) fun k _ => hv k
    · exact ws_congr (fun _ _ => rfl) fun k _ => one1 k
end

end Cert.KernelIdeal.Fox

end
-- ==== Proof.FoxHost.lean ====
module

public import proofs.«01_k».proof.Proof.FoxRead
public import proofs.«01_k».proof.Proof.FoxFrame
public import Idealize.ShloMosaic.Lib.Pointwise
public import Idealize.ShloMosaic.Lib.StableHlo.ReadAt

@[expose] public section

set_option maxRecDepth 65536

noncomputable section

/-! The arrays the region finds: the host's arrays read at an index. -/

namespace Cert.KernelIdeal.Fox

open Cert.KernelIdeal Cert.KernelIdeal.Gen
open Idealize.ShloMosaic Idealize.ShloMosaic.TcCoe

variable (m : (ℓ : Loc nD τ sig) → Buf (Elt Ideal) ℓ) (c : Dev nD)

/-- The change of base: one over the natural logarithm of two, as the host computes it. -/
def lam : EReal := Ideal.div 1 (Ideal.log (Ideal.ofBits FTy.f32 1073741824#32))

theorem lam_eq : lam = (((Real.log 2)⁻¹ : ℝ) : EReal) := by
  have h2 : Ideal.ofBits FTy.f32 1073741824#32 = ((2 : ℝ) : EReal) := by
    simp [Ideal.ofBits, Ideal.ieee, -EReal.coe_mul]; norm_num
  have hl : Real.log 2 ≠ 0 := (Real.log_pos (by norm_num)).ne'
  have hlog : Ideal.log ((2 : ℝ) : EReal) = ((Real.log 2 : ℝ) : EReal) := by
    show (if (2 : ℝ) ≤ 0 then ⊥ else ((Real.log 2 : ℝ) : EReal)) = _
    rw [if_neg (by norm_num)]
  unfold lam
  rw [h2, hlog]
  unfold Ideal.div
  rw [if_neg (by exact_mod_cast hl), one_mul, ← EReal.coe_inv]

theorem eighth : Ideal.ofBits FTy.f32 1040187392#32 = ((1 / 8 : ℝ) : EReal) := by
  simp [Ideal.ofBits, Ideal.ieee, -EReal.coe_mul]; norm_num

/-- The arguments' entries: queries, -/
def aq (b : Fin 4) (s : Fin 4096) (l : Fin 768) : EReal := (m (c, Proc.tc.devRef main_arg0) : S4x4096x768.Idx → EReal) (ix3 b s l)
/-- keys, -/
def ak (b : Fin 4) (s : Fin 4096) (l : Fin 768) : EReal := (m (c, Proc.tc.devRef main_arg1) : S4x4096x768.Idx → EReal) (ix3 b s l)
/-- values -/
def av (b : Fin 4) (s : Fin 4096) (l : Fin 768) : EReal := (m (c, Proc.tc.devRef main_arg2) : S4x4096x768.Idx → EReal) (ix3 b s l)
/-- and the forgetting sums. -/
def ac (b : Fin 4) (s : Fin 4096) (h : Fin 12) : EReal := (m (c, Proc.tc.devRef main_arg3) : S4x4096x12.Idx → EReal) (ix3 b s h)

theorem V6_q (b : Fin 4) (s : Fin 4096) (l : Fin 2304) (h : l.val < 768) :
    (V m c main_v6 : S4x4096x2304.Idx → EReal) (ix3 b s l)
      = aq m c b s ⟨l.val, h⟩ * (lam * Ideal.ofBits FTy.f32 1040187392#32) := by
  unfold V
  after_reads_at
  rw [dif_pos h]
  after_reads_at
  rfl

theorem V6_k (b : Fin 4) (s : Fin 4096) (l : Fin 2304) (h : 768 ≤ l.val) (h' : l.val - 768 < 768) :
    (V m c main_v6 : S4x4096x2304.Idx → EReal) (ix3 b s l)
      = ak m c b s ⟨l.val - 768, h'⟩ := by
  unfold V
  after_reads_at
  rw [dif_neg (by omega), dif_pos h']
  after_reads_at
  rfl

theorem V6_v (b : Fin 4) (s : Fin 4096) (l : Fin 2304) (h : 1536 ≤ l.val) :
    (V m c main_v6 : S4x4096x2304.Idx → EReal) (ix3 b s l)
      = av m c b s ⟨l.val - 1536, by omega⟩ := by
  unfold V
  after_reads_at
  rw [dif_neg (by omega), dif_neg (by omega)]
  after_reads_at
  rfl

theorem V10 (b : Fin 4) (p : Fin 6) (J : Fin 8) (z : Fin 2) (y : Fin 512) :
    (V m c main_v10 : S4x6x8x2x512.Idx → EReal) (ix5 b p J z y)
      = ac m c b ⟨J.val * 512 + y.val, by omega⟩ ⟨p.val * 2 + z.val, by omega⟩ * lam := by
  unfold V
  after_reads_at
  rfl

/-- Where each window's block lies. -/
theorem idx_facts : ∀ t : Fin cfg0.N,
    (win0_0.index t (0 : Fin 3) = t.val / 48 ∧ win0_0.index t (1 : Fin 3) = t.val % 8 ∧ win0_0.index t (2 : Fin 3) = t.val / 8 % 6)
    ∧ (win0_1.index t (0 : Fin 3) = t.val / 48 ∧ win0_1.index t (1 : Fin 3) = 0 ∧ win0_1.index t (2 : Fin 3) = 6 + t.val / 8 % 6)
    ∧ (win0_2.index t (0 : Fin 3) = t.val / 48 ∧ win0_2.index t (1 : Fin 3) = 0 ∧ win0_2.index t (2 : Fin 3) = 12 + t.val / 8 % 6)
    ∧ (win0_3.index t (0 : Fin 5) = t.val / 48 ∧ win0_3.index t (1 : Fin 5) = t.val / 8 % 6 ∧ win0_3.index t (2 : Fin 5) = 0 ∧ win0_3.index t (3 : Fin 5) = 0 ∧ win0_3.index t (4 : Fin 5) = 0)
    ∧ (win0_4.index t (0 : Fin 3) = t.val / 48 ∧ win0_4.index t (1 : Fin 3) = t.val % 8 ∧ win0_4.index t (2 : Fin 3) = t.val / 8 % 6)
    ∧ (grid0.coords t 2).val = t.val % 8 :=
  (by decide +kernel : ∀ t : Fin grid0.N, _)

theorem t_lt (t : Fin cfg0.N) : t.val < 192 := lt_of_lt_of_eq t.isLt N_0

theorem iblk0 (t : Fin cfg0.N) (r : Fin 512) (l : Fin 128) :
    (iblk m c 0 t : S1x512x128.Idx → EReal) (ix3 0 r l)
      = (V m c main_v6 : S4x4096x2304.Idx → EReal) (ix3 ⟨t.val / 48, by have := t_lt t; omega⟩ ⟨t.val % 8 * 512 + r.val, by omega⟩ ⟨t.val / 8 % 6 * 128 + l.val, by omega⟩) := by
  obtain ⟨⟨h0, h1, h2⟩, -⟩ := idx_facts t
  unfold iblk
  rw [View.read_apply]
  show V m c main_v6 _ = V m c main_v6 _
  congr 1
  funext a
  apply Fin.ext
  match a with
  | ⟨0, _⟩ => show win0_0.index t (0 : Fin 3) * 1 + 1 * 0 = t.val / 48; rw [h0]; omega
  | ⟨1, _⟩ => show win0_0.index t (1 : Fin 3) * 512 + 1 * r.val = _; rw [h1]; show _ = t.val % 8 * 512 + r.val; omega
  | ⟨2, _⟩ => show win0_0.index t (2 : Fin 3) * 128 + 1 * l.val = _; rw [h2]; show _ = t.val / 8 % 6 * 128 + l.val; omega

theorem iblk1 (t : Fin cfg0.N) (s : Fin 4096) (l : Fin 128) :
    (iblk m c 1 t : S1x4096x128.Idx → EReal) (ix3 0 s l)
      = (V m c main_v6 : S4x4096x2304.Idx → EReal) (ix3 ⟨t.val / 48, by have := t_lt t; omega⟩ s ⟨768 + (t.val / 8 % 6 * 128 + l.val), by omega⟩) := by
  obtain ⟨-, ⟨h0, h1, h2⟩, -⟩ := idx_facts t
  unfold iblk
  rw [View.read_apply]
  show V m c main_v6 _ = V m c main_v6 _
  congr 1
  funext a
  apply Fin.ext
  match a with
  | ⟨0, _⟩ => show win0_1.index t (0 : Fin 3) * 1 + 1 * 0 = t.val / 48; rw [h0]; omega
  | ⟨1, _⟩ => show win0_1.index t (1 : Fin 3) * 4096 + 1 * s.val = s.val; rw [h1]; omega
  | ⟨2, _⟩ => show win0_1.index t (2 : Fin 3) * 128 + 1 * l.val = _; rw [h2]; show _ = 768 + (t.val / 8 % 6 * 128 + l.val); omega

theorem iblk2 (t : Fin cfg0.N) (s : Fin 4096) (l : Fin 128) :
    (iblk m c 2 t : S1x4096x128.Idx → EReal) (ix3 0 s l)
      = (V m c main_v6 : S4x4096x2304.Idx → EReal) (ix3 ⟨t.val / 48, by have := t_lt t; omega⟩ s ⟨1536 + (t.val / 8 % 6 * 128 + l.val), by omega⟩) := by
  obtain ⟨-, -, ⟨h0, h1, h2⟩, -⟩ := idx_facts t
  unfold iblk
  rw [View.read_apply]
  show V m c main_v6 _ = V m c main_v6 _
  congr 1
  funext a
  apply Fin.ext
  match a with
  | ⟨0, _⟩ => show win0_2.index t (0 : Fin 3) * 1 + 1 * 0 = t.val / 48; rw [h0]; omega
  | ⟨1, _⟩ => show win0_2.index t (1 : Fin 3) * 4096 + 1 * s.val = s.val; rw [h1]; omega
  | ⟨2, _⟩ => show win0_2.index t (2 : Fin 3) * 128 + 1 * l.val = _; rw [h2]; show _ = 1536 + (t.val / 8 % 6 * 128 + l.val); omega

theorem iblk3 (t : Fin cfg0.N) (J : Fin 8) (z : Fin 2) (y : Fin 512) :
    (iblk m c 3 t : S1x1x8x2x512.Idx → EReal) (ix5 0 0 J z y)
      = (V m c main_v10 : S4x6x8x2x512.Idx → EReal) (ix5 ⟨t.val / 48, by have := t_lt t; omega⟩ ⟨t.val / 8 % 6, by omega⟩ J z y) := by
  obtain ⟨-, -, -, ⟨h0, h1, h2, h3, h4⟩, -⟩ := idx_facts t
  unfold iblk
  rw [View.read_apply]
  show V m c main_v10 _ = V m c main_v10 _
  congr 1
  funext a
  apply Fin.ext
  match a with
  | ⟨0, _⟩ => show win0_3.index t (0 : Fin 5) * 1 + 1 * 0 = t.val / 48; rw [h0]; omega
  | ⟨1, _⟩ => show win0_3.index t (1 : Fin 5) * 1 + 1 * 0 = t.val / 8 % 6; rw [h1]; omega
  | ⟨2, _⟩ => show win0_3.index t (2 : Fin 5) * 8 + 1 * J.val = J.val; rw [h2]; omega
  | ⟨3, _⟩ => show win0_3.index t (3 : Fin 5) * 2 + 1 * z.val = z.val; rw [h3]; omega
  | ⟨4, _⟩ => show win0_3.index t (4 : Fin 5) * 512 + 1 * y.val = y.val; rw [h4]; omega

end Cert.KernelIdeal.Fox

end
-- ==== Proof.FoxSoft.lean ====
module

public import proofs.«01_k».proof.Proof.FoxMath

@[expose] public section

noncomputable section

/-! The forgetting attention as a formula over the arguments' entries. -/

namespace Cert.KernelIdeal.Fox

open Idealize.ShloMosaic

section
variable (q k v : Fin 4 → Fin 4096 → Fin 768 → EReal) (cu : Fin 4 → Fin 4096 → Fin 12 → EReal)

/-- Query `Q`'s logit against key `j` in head `h`. -/
def lg (b : Fin 4) (Q : Fin 4096) (h : Fin 12) (j : ℕ) : EReal :=
  if j ≤ Q.val then
    (∑ d : Fin 64, q b Q ⟨64 * h.val + d.val, by omega⟩ * k b ⟨j % 4096, Nat.mod_lt _ (by decide)⟩ ⟨64 * h.val + d.val, by omega⟩)
      * Ideal.ofBits FTy.f32 1040187392#32 + cu b Q h - cu b ⟨j % 4096, Nat.mod_lt _ (by decide)⟩ h
  else ⊥

/-- Lane `l` of query `Q`'s result: the softmax of its logits, applied to the values. -/
def sm (b : Fin 4) (Q : Fin 4096) (l : Fin 768) : EReal :=
  ∑ j ∈ Finset.range 4096,
    Ideal.div (Ideal.exp (lg q k cu b Q ⟨l.val / 64, by omega⟩ j - mx (lg q k cu b Q ⟨l.val / 64, by omega⟩) 4096))
      (∑ j' ∈ Finset.range 4096, Ideal.exp (lg q k cu b Q ⟨l.val / 64, by omega⟩ j' - mx (lg q k cu b Q ⟨l.val / 64, by omega⟩) 4096))
    * v b ⟨j % 4096, Nat.mod_lt _ (by decide)⟩ l
end

theorem coe_sum {ι : Type} (s : Finset ι) (f : ι → ℝ) : ∑ d ∈ s, (f d : EReal) = ((∑ d ∈ s, f d : ℝ) : EReal) := by
  classical
  induction s using Finset.induction_on with
  | empty => simp
  | insert a s ha ih => rw [Finset.sum_insert ha, Finset.sum_insert ha, ih, EReal.coe_add]

/-- The binary score of finite entries is a number, -/
theorem score (q k : Fin 64 → ℝ) (ck : ℝ) :
    ∑ d, (q d : EReal) * ((((Real.log 2)⁻¹ : ℝ) : EReal) * ((1 / 8 : ℝ) : EReal)) * (k d : EReal) - (ck : EReal) * (((Real.log 2)⁻¹ : ℝ) : EReal)
      = ((∑ d, q d * ((Real.log 2)⁻¹ * (1 / 8)) * k d - ck * (Real.log 2)⁻¹ : ℝ) : EReal) := by
  simp only [← EReal.coe_mul]
  rw [coe_sum, ← EReal.coe_sub]

/-- and the natural logit is that number in natural units, up to the query's own forgetting sum. -/
theorem logit (q k : Fin 64 → ℝ) (cq ck : ℝ) :
    (∑ d, (q d : EReal) * (k d : EReal)) * ((1 / 8 : ℝ) : EReal) + (cq : EReal) - (ck : EReal)
      = ((Real.log 2 : ℝ) : EReal) * ((∑ d, q d * ((Real.log 2)⁻¹ * (1 / 8)) * k d - ck * (Real.log 2)⁻¹ : ℝ) : EReal) + (cq : EReal) := by
  have hl : Real.log 2 ≠ 0 := (Real.log_pos (by norm_num)).ne'
  simp only [← EReal.coe_mul]
  rw [coe_sum, ← EReal.coe_mul, ← EReal.coe_add, ← EReal.coe_sub, ← EReal.coe_add]
  congr 1
  have : ∑ d, q d * ((Real.log 2)⁻¹ * (1 / 8)) * k d = (∑ d, q d * k d) * ((Real.log 2)⁻¹ * (1 / 8)) := by
    rw [Finset.sum_mul]; exact Finset.sum_congr rfl fun d _ => by ring
  rw [this]
  field_simp
  ring

end Cert.KernelIdeal.Fox

end
-- ==== Proof.FoxFinal.lean ====
module

public import proofs.«01_k».proof.Proof.FoxHost
public import proofs.«01_k».proof.Proof.FoxSoft

@[expose] public section

set_option maxRecDepth 65536

noncomputable section

/-! The result array after the run: the formula at every entry. -/

namespace Cert.KernelIdeal.Fox

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- The arguments the scores are made of are finite. -/
structure Fin3 : Prop where
  q : ∀ b s l, ∃ x : ℝ, aq m c b s l = (x : EReal)
  k : ∀ b s l, ∃ x : ℝ, ak m c b s l = (x : EReal)
  c : ∀ b s h, ∃ x : ℝ, ac m c b s h = (x : EReal)

variable {m c}

theorem pt_b (t : Fin cfg0.N) : t.val / 48 < 4 := by have := t_lt t; omega

/-- A block's score, over the arguments. -/
theorem sg_eq (t : Fin cfg0.N) (h : Fin 2) (r : Fin 512) (j : ℕ) :
    sg h (iblk m c 0 t) (iblk m c 1 t) (iblk m c 3 t) r j
      = ∑ d : Fin 64, aq m c ⟨t.val / 48, pt_b t⟩ ⟨t.val % 8 * 512 + r.val, by omega⟩ ⟨64 * (t.val / 8 % 6 * 2 + h.val) + d.val, by omega⟩
            * (lam * Ideal.ofBits FTy.f32 1040187392#32)
            * ak m c ⟨t.val / 48, pt_b t⟩ ⟨j % 4096, Nat.mod_lt _ (by decide)⟩ ⟨64 * (t.val / 8 % 6 * 2 + h.val) + d.val, by omega⟩
          - ac m c ⟨t.val / 48, pt_b t⟩ ⟨j % 4096, Nat.mod_lt _ (by decide)⟩ ⟨t.val / 8 % 6 * 2 + h.val, by omega⟩ * lam := by
  unfold sg key
  rw [iblk3, V10]
  refine congrArg₂ (· - ·) (Finset.sum_congr rfl fun d _ => ?_) ?_
  · rw [iblk0, iblk1, V6_q m c _ _ _ (by show t.val / 8 % 6 * 128 + (64 * h.val + d.val) < 768; omega),
      V6_k m c _ _ _ (by show 768 ≤ 768 + (t.val / 8 % 6 * 128 + (64 * h.val + d.val)); omega)
        (by show 768 + (t.val / 8 % 6 * 128 + (64 * h.val + d.val)) - 768 < 768; omega)]
    have e : t.val / 8 % 6 * 128 + (64 * h.val + d.val) = 64 * (t.val / 8 % 6 * 2 + h.val) + d.val := by omega
    simp only [e, Nat.add_sub_cancel_left]
  · have e : j / 512 % 8 * 512 + j % 512 = j % 4096 := by omega
    simp only [e]

/-- It is a number, the logit in binary units less the query's own forgetting sum. -/
theorem sg_logit (F : Fin3 m c) (t : Fin cfg0.N) (h : Fin 2) (r : Fin 512) :
    ∃ cq : ℝ, ∀ j : ℕ, ∃ s : ℝ, sg h (iblk m c 0 t) (iblk m c 1 t) (iblk m c 3 t) r j = (s : EReal)
      ∧ (j ≤ t.val % 8 * 512 + r.val → lg (aq m c) (ak m c) (ac m c) ⟨t.val / 48, pt_b t⟩ ⟨t.val % 8 * 512 + r.val, by omega⟩ ⟨t.val / 8 % 6 * 2 + h.val, by omega⟩ j
          = ((Real.log 2 : ℝ) : EReal) * (s : EReal) + (cq : EReal)) := by
  obtain ⟨cq, hcq⟩ := F.c ⟨t.val / 48, pt_b t⟩ ⟨t.val % 8 * 512 + r.val, by omega⟩ ⟨t.val / 8 % 6 * 2 + h.val, by omega⟩
  refine ⟨cq, fun j => ?_⟩
  obtain ⟨ck, hck⟩ := F.c ⟨t.val / 48, pt_b t⟩ ⟨j % 4096, Nat.mod_lt _ (by decide)⟩ ⟨t.val / 8 % 6 * 2 + h.val, by omega⟩
  choose q hq using F.q
  choose k hk using F.k
  let q' : Fin 64 → ℝ := fun d => q ⟨t.val / 48, pt_b t⟩ ⟨t.val % 8 * 512 + r.val, by omega⟩ ⟨64 * (t.val / 8 % 6 * 2 + h.val) + d.val, by omega⟩
  let k' : Fin 64 → ℝ := fun d => k ⟨t.val / 48, pt_b t⟩ ⟨j % 4096, Nat.mod_lt _ (by decide)⟩ ⟨64 * (t.val / 8 % 6 * 2 + h.val) + d.val, by omega⟩
  refine ⟨∑ d, q' d * ((Real.log 2)⁻¹ * (1 / 8)) * k' d - ck * (Real.log 2)⁻¹, ?_, fun hj => ?_⟩
  · rw [sg_eq, hck, lam_eq, eighth]
    simp only [hq, hk]
    exact score q' k' ck
  · unfold lg
    rw [if_pos hj, hcq, hck, eighth]
    simp only [hq, hk]
    exact logit q' k' cq ck

variable (m c)

/-- The result array. -/
def G : Buf (Elt Ideal) ((c : Thread nD τ).loc main_v11) := fun i : S4x4096x768.Idx =>
  sm (aq m c) (ak m c) (av m c) (ac m c) (i 0) (i 1) (i 2)

variable {m c}

/-- What a point stores is the formula at its block's entries. -/
theorem outv_eq (F : Fin3 m c) (t : Fin cfg0.N) (r : Fin 512) (l : Fin 128) :
    outv (t.val % 8) (iblk m c 0 t) (iblk m c 1 t) (iblk m c 2 t) (iblk m c 3 t) (ix3 0 r l)
      = sm (aq m c) (ak m c) (av m c) (ac m c) ⟨t.val / 48, pt_b t⟩ ⟨t.val % 8 * 512 + r.val, by omega⟩ ⟨t.val / 8 % 6 * 128 + l.val, by omega⟩ := by
  have hσ : ∀ h r k, sg h (iblk m c 0 t) (iblk m c 1 t) (iblk m c 3 t) r k ≠ ⊤ := fun h r k => by
    obtain ⟨_, hh⟩ := sg_logit F t h r
    obtain ⟨s, hs, -⟩ := hh k
    rw [hs]; exact EReal.coe_ne_top s
  have hσ' : ∀ h r k, sg h (iblk m c 0 t) (iblk m c 1 t) (iblk m c 3 t) r k ≠ ⊥ := fun h r k => by
    obtain ⟨_, hh⟩ := sg_logit F t h r
    obtain ⟨s, hs, -⟩ := hh k
    rw [hs]; exact EReal.coe_ne_bot s
  have hl2 : l.val / 64 < 2 := by omega
  obtain ⟨cq, hh⟩ := sg_logit F t ⟨l.val / 64, hl2⟩ r
  have hh0 : (t.val / 8 % 6 * 128 + l.val) / 64 = t.val / 8 % 6 * 2 + l.val / 64 := by omega
  have hl : 0 < Real.log 2 := Real.log_pos (by norm_num)
  rw [outv_apply _ _ _ _ _ hσ hσ' ⟨l.val / 64, hl2⟩ r l rfl,
    softmax_eq (tg ⟨l.val / 64, hl2⟩ (t.val % 8) (iblk m c 0 t) (iblk m c 1 t) (iblk m c 3 t) r) _
      (lg (aq m c) (ak m c) (ac m c) ⟨t.val / 48, pt_b t⟩ ⟨t.val % 8 * 512 + r.val, by omega⟩ ⟨(t.val / 8 % 6 * 128 + l.val) / 64, by omega⟩)
      (512 * (t.val % 8) + 512) 4096 (by omega) (by omega)
      (fun k _ => tg_ne_top _ _ _ _ hσ _ _ _) (tg_zero _ _ _ _ hσ' _ _) cq ?_ ?_]
  · unfold sm
    refine Finset.sum_congr rfl fun j _ => congrArg₂ (HMul.hMul : EReal → EReal → EReal) rfl ?_
    unfold key
    rw [iblk2, V6_v m c _ _ _ (by show 1536 ≤ 1536 + (t.val / 8 % 6 * 128 + l.val); omega)]
    have e : 1536 + (t.val / 8 % 6 * 128 + l.val) - 1536 = t.val / 8 % 6 * 128 + l.val := by omega
    simp only [e]
  · intro k hk
    simp only [hh0]
    obtain ⟨s, hs, hL⟩ := hh k
    unfold tg
    by_cases hle : k ≤ 512 * (t.val % 8) + r.val
    · rw [if_pos hle, hs, hL (by omega)]
    · rw [if_neg hle, EReal.coe_mul_bot_of_pos hl, EReal.bot_add]
      unfold lg
      rw [if_neg (by show ¬ k ≤ t.val % 8 * 512 + r.val; omega)]
  · intro k _ hk
    unfold lg
    rw [if_neg (by show ¬ k ≤ t.val % 8 * 512 + r.val; omega)]

theorem flushed_eq (F : Fin3 m c) (t : Fin cfg0.N) :
    (dats m 0 c).flushed 4 t = ((cfg0.win 4).blk t).view.read (Elt Ideal) (G m c) := by
  obtain ⟨-, -, -, -, ⟨e0, e1, e2⟩, ei⟩ := idx_facts t
  show (cfg0.win 4).cut (grid0.coords t) ((dats m 0 c).after 4 t) = _
  rw [after0_4, ei]
  funext y
  have hy : (cfg0.win 4).xinj (grid0.coords t) y = ix3 0 (y 1) (y 2) := by
    funext a
    apply Fin.ext
    match a with
    | ⟨0, _⟩ => show (y 0).val = 0; have : (y 0).val < 1 := (y 0).isLt; omega
    | ⟨1, _⟩ => rfl
    | ⟨2, _⟩ => rfl
  show outv (t.val % 8) (iblk m c 0 t) (iblk m c 1 t) (iblk m c 2 t) (iblk m c 3 t) ((cfg0.win 4).xinj (grid0.coords t) y) = G m c (((cfg0.win 4).blk t).view.emb y)
  rw [hy]
  have hy1 : (y 1).val < 512 := (y 1).isLt
  have hy2 : (y 2).val < 128 := (y 2).isLt
  refine (outv_eq F t ⟨(y 1).val, hy1⟩ ⟨(y 2).val, hy2⟩).trans ?_
  unfold G
  have hb0 : ((((cfg0.win 4).blk t).view.emb y : S4x4096x768.Idx) 0) = (⟨t.val / 48, pt_b t⟩ : Fin 4) := by
    apply Fin.ext
    show win0_4.index t (0 : Fin 3) * 1 + 1 * (y 0).val = t.val / 48
    have : (y 0).val < 1 := (y 0).isLt
    rw [e0]; omega
  have hb1 : ((((cfg0.win 4).blk t).view.emb y : S4x4096x768.Idx) 1) = (⟨t.val % 8 * 512 + (y 1).val, by omega⟩ : Fin 4096) := by
    apply Fin.ext
    show win0_4.index t (1 : Fin 3) * 512 + 1 * (y 1).val = t.val % 8 * 512 + (y 1).val
    rw [e1]; omega
  have hb2 : ((((cfg0.win 4).blk t).view.emb y : S4x4096x768.Idx) 2) = (⟨t.val / 8 % 6 * 128 + (y 2).val, by omega⟩ : Fin 768) := by
    apply Fin.ext
    show win0_4.index t (2 : Fin 3) * 128 + 1 * (y 2).val = t.val / 8 % 6 * 128 + (y 2).val
    rw [e2]; omega
  show _ = sm (aq m c) (ak m c) (av m c) (ac m c) ((((cfg0.win 4).blk t).view.emb y : S4x4096x768.Idx) 0) ((((cfg0.win 4).blk t).view.emb y : S4x4096x768.Idx) 1) ((((cfg0.win 4).blk t).view.emb y : S4x4096x768.Idx) 2)
  rw [hb0, hb1, hb2]

/-- An index of the array is in a point's block iff each coordinate is in the block's range. -/
theorem mem_blk (t : Fin cfg0.N) (i : S4x4096x768.Idx) :
    i ∈ ((cfg0.win 4).blk t).view.set ↔ ∀ a : Fin 3, win0_4.index t a * S1x512x128.size a ≤ (i a).val ∧ (i a).val < win0_4.index t a * S1x512x128.size a + S1x512x128.size a := by
  show i ∈ ((View.whole main_v11).slice (win0_4.rect t)).set ↔ _
  rw [View.set_slice_whole, Rect.mem_set_unit]
  exact Iff.rfl

theorem cover (i : S4x4096x768.Idx) : ∃ t : Fin cfg0.N, (cfg0.win 4).flush t = true ∧ i ∈ ((cfg0.win 4).blk t).view.set := by
  have i0 : (i 0).val < 4 := (i 0).isLt
  have i1 : (i 1).val < 4096 := (i 1).isLt
  have i2 : (i 2).val < 768 := (i 2).isLt
  have hN : cfg0.N = 192 := N_0
  let t : Fin cfg0.N := ⟨48 * (i 0).val + 8 * ((i 2).val / 128) + (i 1).val / 512, by omega⟩
  have ht : t.val = 48 * (i 0).val + 8 * ((i 2).val / 128) + (i 1).val / 512 := rfl
  refine ⟨t, flush0_4 t, ?_⟩
  obtain ⟨-, -, -, -, ⟨e0, e1, e2⟩, -⟩ := idx_facts t
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 128 ≤ (i 2).val ∧ (i 2).val < win0_4.index t (2 : Fin 3) * 128 + 128; omega

/-- The result array ends at the formula. -/
theorem final (F : Fin3 m c) : (dats m 0 c).arrAt 4 cfg0.N = G m c :=
  (dats m 0 c).arrAt_eq_of_cover 4 (G m c) (fun t _ => flushed_eq F t) fun i => cover i

end Cert.KernelIdeal.Fox

end
-- ==== Proof.FoxRefRead.lean ====
module

public import proofs.«01_k».proof.Proof.FoxRef
public import proofs.«01_k».proof.Proof.FoxSoft
public import proofs.«01_k».proof.Proof.FoxRead

@[expose] public section

set_option maxRecDepth 65536

noncomputable section

/-! The reference's result read at an index: the formula. -/

namespace Cert.ReferenceIdeal.Fox

open Cert.ReferenceIdeal Cert.ReferenceIdeal.Read Cert.ReferenceIdeal.Gen
open Idealize.ShloMosaic
open Cert.KernelIdeal.Fox (lg sm mx le_select ofBits_bot mx_fin)

variable (x0 x1 x2 : (⟨S4x4096x768, .f32⟩ : BufTy).Contents (Elt Ideal)) (x3 : (⟨S4x4096x12, .f32⟩ : BufTy).Contents (Elt Ideal))

/-- An argument by its three coordinates. -/
abbrev ent (x : S4x4096x768.Idx → EReal) (b : Fin 4) (s : Fin 4096) (l : Fin 768) : EReal := x (ix3 b s l)
/-- The forgetting sums by their three coordinates. -/
abbrev entc (x : S4x4096x12.Idx → EReal) (b : Fin 4) (s : Fin 4096) (h : Fin 12) : EReal := x (ix3 b s h)

/-- Logits before the mask. -/
theorem v15_apply (b : Fin 4) (h : Fin 12) (Q j : Fin 4096) :
    (val_main_v15 x0 x1 x3 : S4x12x4096x4096.Idx → EReal) (ix4 b h Q j)
      = (∑ d : Fin 64, ent x0 b Q ⟨h.val * 64 + d.val, by omega⟩ * ent x1 b j ⟨h.val * 64 + d.val, by omega⟩) * Ideal.ofBits FTy.f32 1040187392#32 + entc x3 b Q h - entc x3 b j h := by
  pointwise [val_main_v15, val_main_v14, val_main_v13, val_main_v12, val_main_v11, val_main_v10, val_main_v9, val_main_v8, val_main_v7, val_main_cst, val_main_v6, val_main_v3, val_main_v2, val_main_v1, val_main_v0]

/-- Logits. -/
theorem v23_apply (b : Fin 4) (h : Fin 12) (Q j : Fin 4096) :
    (val_main_v23 x0 x1 x3 : S4x12x4096x4096.Idx → EReal) (ix4 b h Q j) = lg (ent x0) (ent x1) (entc x3) b Q h j.val := by
  pointwise [val_main_v23, val_main_call0_v1, val_main_call0_v2, val_main_call0_v0, val_main_cst_0, val_main_v22, val_main_v21, val_main_v20, val_main_v19, val_main_v18, val_main_v17, val_main_v16]
  rw [le_select (by omega) (by omega), v15_apply]
  unfold lg
  have hb : (id (constant (F := Ideal) S_ FTy.f32 4286578688#32) ix0 : EReal) = ⊥ := ofBits_bot
  have hj : j.val % 4096 = j.val := by omega
  refine if_congr Iff.rfl ?_ hb
  simp only [hj, Nat.mul_comm 64]

/-- The row's largest logit. -/
theorem v26_apply (b : Fin 4) (h : Fin 12) (Q : Fin 4096) :
    (val_main_v26 x0 x1 x3 : S4x12x4096.Idx → EReal) (ix3 b h Q) = mx (lg (ent x0) (ent x1) (entc x3) b Q h) 4096 := by
  have h24 : (val_main_v24 x0 x1 x3 : S4x12x4096.Idx → EReal) (ix3 b h Q)
      = (Finset.univ : Finset (Fin 4096)).fold max ⊥ fun k => lg (ent x0) (ent x1) (entc x3) b Q h k.val := by
    have hS : ∀ k, (val_main_v23 x0 x1 x3 : S4x12x4096x4096.Idx → EReal) (ix4 b h Q k) = lg (ent x0) (ent x1) (entc x3) b Q h k.val := v23_apply x0 x1 x3 b h Q
    have hi : (val_main_cst_1 (F := Ideal)) (Shape.Idx.first h_S_) = (⊥ : EReal) := ofBits_bot
    unfold val_main_v24
    generalize val_main_v23 x0 x1 x3 = S at hS ⊢
    rw [Host.reduce_eq_fold_single (a := (3 : Fin 4)) (FloatOps.maximumf (F := Ideal)) S (val_main_cst_1 (F := Ideal)) reducesTo_S4x12x4096x4096_S4x12x4096_d3 (by decide) h_S_ (ix3 b h Q)]
    rw [hi]
    refine congrArg (fun f => Finset.fold max ⊥ f (Finset.univ : Finset (Fin 4096))) (funext fun k => ?_)
    rw [← hS k]
    exact congrArg S (funext fun a => Fin.ext (by match a with | ⟨0, _⟩ => rfl | ⟨1, _⟩ => rfl | ⟨2, _⟩ => rfl | ⟨3, _⟩ => rfl))
  rw [val_main_v26_apply, h24, mx_fin]
  have h25 : (val_main_v25 (F := Ideal)) (ix3 b h Q) = (⊥ : EReal) := by
    rw [val_main_v25_apply]; exact ofBits_bot
  rw [h25]
  exact max_eq_right bot_le

/-- The row's weights, -/
theorem v30_apply (b : Fin 4) (h : Fin 12) (Q j : Fin 4096) :
    (val_main_v30 x0 x1 x3 : S4x12x4096x4096.Idx → EReal) (ix4 b h Q j)
      = Ideal.exp (lg (ent x0) (ent x1) (entc x3) b Q h j.val - mx (lg (ent x0) (ent x1) (entc x3) b Q h) 4096) := by
  pointwise [val_main_v30, val_main_v29, val_main_v28, val_main_v27]
  rw [v23_apply, v26_apply]

/-- their sum, -/
theorem v31_apply (b : Fin 4) (h : Fin 12) (Q : Fin 4096) :
    (val_main_v31 x0 x1 x3 : S4x12x4096.Idx → EReal) (ix3 b h Q)
      = ∑ j ∈ Finset.range 4096, Ideal.exp (lg (ent x0) (ent x1) (entc x3) b Q h j - mx (lg (ent x0) (ent x1) (entc x3) b Q h) 4096) := by
  pointwise [val_main_v31, val_main_cst_3]
  rw [Finset.sum_range]
  exact Finset.sum_congr rfl fun j _ => v30_apply x0 x1 x3 b h Q j

/-- and the result. -/
theorem v38_apply (b : Fin 4) (Q : Fin 4096) (l : Fin 768) :
    (val_main_v38 x0 x1 x2 x3 : S4x4096x768.Idx → EReal) (ix3 b Q l) = sm (ent x0) (ent x1) (ent x2) (entc x3) b Q l := by
  pointwise [val_main_v38, val_main_v37, val_main_v36, val_main_v35, val_main_v34, val_main_v33, val_main_v32, val_main_v5, val_main_v4]
  unfold sm
  rw [Finset.sum_range]
  refine Finset.sum_congr rfl fun j _ => ?_
  rw [v30_apply, v31_apply]
  have hj : j.val % 4096 = j.val := by omega
  simp only [hj]

end Cert.ReferenceIdeal.Fox

end
-- ==== Proof.FoxTie.lean ====
module

public import proofs.«01_k».proof.Pre_finite
public import proofs.«01_k».proof.Defs
public import proofs.«01_k».proof.Proof.FoxFinal
public import proofs.«01_k».proof.Proof.FoxRefRead
public import Idealize.ShloMosaic.Lib.ReduceAll
public import Idealize.ShloMosaic.Lib.Affine

@[expose] public section

set_option maxRecDepth 65536

noncomputable section

/-! The precondition read as finiteness, and the two runs tied at the formula. -/

namespace Cert.Pre_finite.Fox

open Cert.Pre_finite Idealize.ShloMosaic

/-- The shape relations of the precondition's operations. -/
instance facts : Cert.Pre_finite.Facts where
  bcast_S_S4x4096x768 := by decide
  reducesTo_S4x4096x768_S_d0_1_2 := by decide
  h_S_ := by decide
  bcast_S_S4x4096x12 := by decide
  reducesTo_S4x4096x12_S_d0_1_2 := by decide

/-- The bound the precondition compares with is plus infinity. -/
theorem ofBits_top : (Ideal.ofBits .f32 (0x7F800000#32) : EReal) = ⊤ := by
  simp [Ideal.ofBits, Ideal.ieee]

/-- A magnitude that the comparison finds below plus infinity is a real number. -/
theorem real_of_olt (x : EReal) (h : Ideal.cmp .olt (max x (-x)) (Ideal.ofBits .f32 (0x7F800000#32)) = 1#1) : ∃ y : ℝ, x = y := by
  rw [ofBits_top] at h
  have hlt : max x (-x) < ⊤ := by
    by_contra hn
    simp [Ideal.cmp, hn] at h
  have h1 := lt_of_le_of_lt (le_max_left _ _) hlt
  have h2 := lt_of_le_of_lt (le_max_right _ _) hlt
  refine ⟨x.toReal, (EReal.coe_toReal h1.ne ?_).symm⟩
  rintro rfl
  simp at h2

/-- An array every magnitude of which is below plus infinity has real entries. -/
theorem reals_of_all {s : Shape} {axes : List (Fin s.rank)} (x : FVec Ideal s .f32) (hb : S_.BroadcastsInDim s (![] : Fin 0 → Fin s.rank))
    (h : s.ReducesTo axes S_) (hu : 0 < S_.numel) (j : S_.Idx)
    (e : Host.reduce IntOp.andi (cmpf .olt (Host.absf x) (broadcastInDim s ![] hb (constant S_ .f32 0x7F800000#32))) (constantI S_ 1 1#1) h hu j = 1#1)
    (i : s.Idx) : ∃ y : ℝ, (x i : EReal) = y := by
  haveI : Subsingleton S_.Idx := ⟨fun a b => funext fun k => k.elim0⟩
  exact real_of_olt _ (Host.reduce_andi_all _ _ h hu j e i)

/-- What the precondition says: the first, second and fourth arrays have real entries. -/
theorem reals (x0 x1 x2 : FVec Ideal S4x4096x768 .f32) (x3 : FVec Ideal S4x4096x12 .f32) (j : S_.Idx) (h : fn (F := Ideal) x0 x1 x2 x3 j = 1#1) :
    (∀ i, ∃ y : ℝ, (x0 i : EReal) = y) ∧ (∀ i, ∃ y : ℝ, (x1 i : EReal) = y) ∧ ∀ i, ∃ y : ℝ, (x3 i : EReal) = y := by
  obtain ⟨h01, h3⟩ := IntOp.andi_eq_one.1 h
  obtain ⟨h0, h1⟩ := IntOp.andi_eq_one.1 h01
  exact ⟨reals_of_all x0 _ _ _ j h0, reals_of_all x1 _ _ _ j h1, reals_of_all x3 _ _ _ j h3⟩

end Cert.Pre_finite.Fox

namespace Cert.Fox

open Idealize.ShloMosaic Idealize.ShloMosaic.TcCoe Idealize.SL.Sem

/-- The precondition in the kernel's memory is what the value theorem asks for. -/
theorem fin3 (m : (ℓ : Loc Cert.KernelIdeal.nD Cert.KernelIdeal.τ Cert.KernelIdeal.sig) → Buf (Elt Ideal) ℓ)
    (h : Cert.Pre_KernelIdeal_finite m) (c : Dev Cert.KernelIdeal.nD) : Cert.KernelIdeal.Fox.Fin3 m c := by
  obtain ⟨h0, h1, h3⟩ := Cert.Pre_finite.Fox.reals _ _ _ _ (fun k => k.elim0) (congrFun (h c) _)
  exact ⟨fun b s l => h0 (ix3 b s l), fun b s l => h1 (ix3 b s l), fun b s l => h3 (ix3 b s l)⟩

/-- The kernel's run leaves the formula in its result. -/
theorem kernel_run (m : (ℓ : Loc Cert.KernelIdeal.nD Cert.KernelIdeal.τ Cert.KernelIdeal.sig) → Buf (Elt Ideal) ℓ)
    (g : Dev Cert.KernelIdeal.nD → PrngReg) (h : Cert.Pre_KernelIdeal_finite m) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v11) = Cert.KernelIdeal.Fox.G m c) :=
  (θ_run _ _ _).mono (fun r hr c => ((hr c).1 4).trans (Cert.KernelIdeal.Fox.final (fin3 m h c))) (Cert.KernelIdeal.Fox.run_main m g)

/-- The reference's result is the formula in its own memory. -/
theorem reference_value (m' : (ℓ : Loc Cert.ReferenceIdeal.nD Cert.ReferenceIdeal.τ Cert.ReferenceIdeal.sig) → Buf (Elt Ideal) ℓ) (c : Dev Cert.ReferenceIdeal.nD)
    (b : Fin 4) (Q : Fin 4096) (l : Fin 768) :
    (Cert.ReferenceIdeal.Value.res_main_v38 m' c : Cert.ReferenceIdeal.S4x4096x768.Idx → EReal) (ix3 b Q l)
      = Cert.KernelIdeal.Fox.sm (Cert.ReferenceIdeal.Fox.ent (m' ((c.tc : Thread Cert.ReferenceIdeal.nD Cert.ReferenceIdeal.τ).loc Cert.ReferenceIdeal.main_arg0)))
          (Cert.ReferenceIdeal.Fox.ent (m' ((c.tc : Thread Cert.ReferenceIdeal.nD Cert.ReferenceIdeal.τ).loc Cert.ReferenceIdeal.main_arg1)))
          (Cert.ReferenceIdeal.Fox.ent (m' ((c.tc : Thread Cert.ReferenceIdeal.nD Cert.ReferenceIdeal.τ).loc Cert.ReferenceIdeal.main_arg2)))
          (Cert.ReferenceIdeal.Fox.entc (m' ((c.tc : Thread Cert.ReferenceIdeal.nD Cert.ReferenceIdeal.τ).loc Cert.ReferenceIdeal.main_arg3))) b Q l := by
  rw [Cert.ReferenceIdeal.Read.val_main_v38_eq m' c]
  exact Cert.ReferenceIdeal.Fox.v38_apply _ _ _ _ b Q l

/-- The same as one array. -/
theorem reference_eq (m' : (ℓ : Loc Cert.ReferenceIdeal.nD Cert.ReferenceIdeal.τ Cert.ReferenceIdeal.sig) → Buf (Elt Ideal) ℓ) (c : Dev Cert.ReferenceIdeal.nD) :
    (Cert.ReferenceIdeal.Value.res_main_v38 m' c : Cert.ReferenceIdeal.S4x4096x768.Idx → EReal)
      = fun i => Cert.KernelIdeal.Fox.sm (Cert.ReferenceIdeal.Fox.ent (m' ((c.tc : Thread Cert.ReferenceIdeal.nD Cert.ReferenceIdeal.τ).loc Cert.ReferenceIdeal.main_arg0)))
          (Cert.ReferenceIdeal.Fox.ent (m' ((c.tc : Thread Cert.ReferenceIdeal.nD Cert.ReferenceIdeal.τ).loc Cert.ReferenceIdeal.main_arg1)))
          (Cert.ReferenceIdeal.Fox.ent (m' ((c.tc : Thread Cert.ReferenceIdeal.nD Cert.ReferenceIdeal.τ).loc Cert.ReferenceIdeal.main_arg2)))
          (Cert.ReferenceIdeal.Fox.entc (m' ((c.tc : Thread Cert.ReferenceIdeal.nD Cert.ReferenceIdeal.τ).loc Cert.ReferenceIdeal.main_arg3))) (i 0) (i 1) (i 2) := by
  refine funext fun i => ?_
  have h := reference_value m' c (i 0) (i 1) (i 2)
  rw [← eq_ix3 i] at h
  exact h

/-- The algebraic claim: from equal arguments the two programs end with equal results. -/
theorem algebraic : Cert.algebraic_KernelIdeal_ReferenceIdeal_pre_finite := by
  intro m g m' g' hp hargs
  refine ⟨fun c => Cert.KernelIdeal.Fox.G m c, ?_, ?_⟩
  · exact (θ_run _ _ _).mono (fun r hr c => ⟨hr.1 c, hr.2.1 c⟩) (θ_run_and (kernel_run m g hp) (Cert.KernelIdeal.Fox.frame m g))
  · refine (θ_run _ _ _).mono (fun r hr c => ⟨?_, (hr c).2⟩) (Cert.ReferenceIdeal.Value.run m' g')
    obtain ⟨e0, e1, e2, e3⟩ := hargs c
    refine (hr c).1.trans ((reference_eq m' c).trans ?_)
    rw [e0, e1, e2, e3]
    rfl

end Cert.Fox

end
-- ==== Proof.FfnRead.lean ====
module

public import proofs.«01_k».proof.Proof.Gen.FfnIdeal.Value
public import Idealize.ShloMosaic.PureOps.Ideal
public import Idealize.ShloMosaic.Lib.Pointwise

@[expose] public section

set_option maxRecDepth 65536

noncomputable section

/-! What the stores of the channel mixer's body hold, entry by entry. -/

namespace Cert.FfnIdeal.Ff

open Cert.FfnIdeal Cert.FfnIdeal.Gen
open Idealize.ShloMosaic

/-- The logistic function as the kernel writes it. -/
def sgm (x : EReal) : EReal := Ideal.div 1 (1 + Ideal.exp (0 - x))

/-- The gated product of one hidden channel. -/
def gu (g u : EReal) : EReal := g * sgm g * u

/-- A row times a column. -/
def dot {n : ℕ} (f w : Fin n → EReal) : EReal := ∑ d, f d * w d

theorem pay5_apply (v3 : Vec Ideal S1024x1024 .bf16) (v4 v7 : Vec Ideal S1x1024x512 .bf16) (r : Fin 1024) (k : Fin 512) :
    (k0_pay5 v3 v4 v7 : S1024x512.Idx → EReal) (ix2 r k) = gu (dot (fun d => v3 (ix2 r d)) fun d => v4 (ix3 0 d k)) (dot (fun d => v3 (ix2 r d)) fun d => v7 (ix3 0 d k)) := by
  pointwise [k0_pay5, gu, sgm, dot]

theorem pay10_apply (v3 : Vec Ideal S1024x1024 .bf16) (v4 v7 : Vec Ideal S1x1024x512 .bf16) (r : Fin 1024) (k : Fin 512) :
    (k0_pay10 v3 v4 v7 : S1024x512.Idx → EReal) (ix2 r k) = gu (dot (fun d => v3 (ix2 r d)) fun d => v4 (ix3 0 d k)) (dot (fun d => v3 (ix2 r d)) fun d => v7 (ix3 0 d k)) := by
  pointwise [k0_pay10, gu, sgm, dot]

theorem pay9_apply (v3 : Vec Ideal S1024x1024 .bf16) (v4 v7 : Vec Ideal S1x1024x512 .bf16) (r : Fin 1024) (k : Fin 512) :
    (k0_pay9 (k0_pay6 v3 v4) (k0_pay7 v3 v7) k0_pay8 : S1024x512.Idx → EReal) (ix2 r k) = gu (dot (fun d => v3 (ix2 r d)) fun d => v4 (ix3 0 d k)) (dot (fun d => v3 (ix2 r d)) fun d => v7 (ix3 0 d k)) := by
  pointwise [k0_pay9, k0_pay6, k0_pay7, k0_pay8, gu, sgm, dot]

theorem pay1_apply (v3 : Vec Ideal S1024x1024 .bf16) (v4 v7 : Vec Ideal S1x1024x256 .bf16) (r : Fin 1024) (k : Fin 256) :
    (k0_pay1 v3 (k0_pay11 v3 v4) v7 : S1024x256.Idx → EReal) (ix2 r k) = gu (dot (fun d => v3 (ix2 r d)) fun d => v4 (ix3 0 d k)) (dot (fun d => v3 (ix2 r d)) fun d => v7 (ix3 0 d k)) := by
  pointwise [k0_pay1, k0_pay11, gu, sgm, dot]

theorem pay2_apply (v80 : Vec Ideal S1024x1024 .f32) (v82 : Vec Ideal S1024x1792 .bf16) (v83 : Vec Ideal S1x1792x1024 .bf16) (r l : Fin 1024) :
    (k0_pay2 v80 v82 v83 : S1024x1024.Idx → EReal) (ix2 r l) = v80 (ix2 r l) + dot (fun k => v82 (ix2 r k)) fun k => v83 (ix3 0 k l) := by
  pointwise [k0_pay2, dot]

theorem pay3_apply (v88 : Vec Ideal S1024x1024 .f32) (v90 : Vec Ideal S1024x256 .bf16) (v92 : Vec Ideal S256x1024 .bf16) (v96 : Vec Ideal S1024x768 .bf16) (v98 : Vec Ideal S768x1024 .bf16) (r l : Fin 1024) :
    (k0_pay3 v88 v90 v92 v96 v98 : S1024x1024.Idx → EReal) (ix2 r l)
      = v88 (ix2 r l) + dot (fun k => v90 (ix2 r k)) (fun k => v92 (ix2 k l)) + dot (fun k => v96 (ix2 r k)) fun k => v98 (ix2 k l) := by
  pointwise [k0_pay3, dot]

/-- A row scaled by the reciprocal root of its mean square, then by the gain. -/
def rms (x g : Fin 1024 → EReal) (l : Fin 1024) : EReal :=
  x l * Ideal.rsqrt (Ideal.div (∑ d, x d * x d) (Ideal.ofBits .f32 0x44800000#32) + Ideal.ofBits .f32 0x358637BD#32) * g l

theorem pay4_apply (v88 : Vec Ideal S1024x1024 .f32) (v90 : Vec Ideal S1024x256 .bf16) (v92 : Vec Ideal S256x1024 .bf16) (v96 : Vec Ideal S1024x768 .bf16) (v98 : Vec Ideal S768x1024 .bf16)
    (v102 : Vec Ideal S1x1024 .f32) (r l : Fin 1024) :
    (k0_pay4 v88 v90 v92 v96 v98 v102 : S1024x1024.Idx → EReal) (ix2 r l)
      = rms (fun d => k0_pay3 v88 v90 v92 v96 v98 (ix2 r d)) (fun d => v102 (ix2 0 d)) l := by
  unfold k0_pay4
  generalize k0_pay3 v88 v90 v92 v96 v98 = x
  pointwise [rms]

end Cert.FfnIdeal.Ff

end
-- ==== Proof.FfnBody.lean ====
module

public import proofs.«01_k».proof.Proof.FfnRead
public import Idealize.ShloMosaic.Lib.VecWindow
public import Idealize.ShloMosaic.Lib.WholeRead
public import Idealize.ShloMosaic.Lib.Tactic

@[expose] public section

set_option maxRecDepth 65536

noncomputable section

/-! What a grid point of the channel mixer leaves in its result block and in the normalised rows it carries. -/

namespace Cert.FfnIdeal.Ff

open Cert.FfnIdeal Cert.FfnIdeal.Gen
open Idealize.ShloMosaic Idealize.ShloMosaic.TcCoe Idealize.ShloMosaic.Tactic
open Idealize.SL Idealize.SL.Sem

/-- A load of 512 columns of a weight block. -/
theorem ld_0 {m : Memref sig .tc .vmem S1x1024x1792 .bf16} (h : m.IsWhole) (x : Vec Ideal S1x1024x1792 .bf16)
    (inb : ∀ a, (![0, 0, 0] : Fin 3 → ℕ) a + S1x1024x512.size a ≤ S1x1024x1792.size a) (d : Fin 1024) (k : Fin 512) :
    (View.readAt (Elt Ideal) m.view (Rect.unit (s := S1x1024x1792) ![0, 0, 0] S1x1024x512.size inb).toLoadRect (h.unread x) : S1x1024x512.Idx → EReal) (ix3 0 d k)
      = x (ix3 0 d ⟨0 + k.val, by have := k.isLt; omega⟩) := by
  rw [h.readAt_unread]
  refine congrArg (x : S1x1024x1792.Idx → EReal) (funext fun a => ?_)
  match a with
  | ⟨0, _⟩ => exact Subsingleton.elim (α := Fin 1) _ _
  | ⟨1, _⟩ => exact Fin.ext (by show 0 + 1 * d.val = d.val; omega)
  | ⟨2, _⟩ => exact Fin.ext (by show 0 + 1 * k.val = 0 + k.val; omega)

/-- A load of 512 columns of a weight block. -/
theorem ld_512 {m : Memref sig .tc .vmem S1x1024x1792 .bf16} (h : m.IsWhole) (x : Vec Ideal S1x1024x1792 .bf16)
    (inb : ∀ a, (![0, 0, 512] : Fin 3 → ℕ) a + S1x1024x512.size a ≤ S1x1024x1792.size a) (d : Fin 1024) (k : Fin 512) :
    (View.readAt (Elt Ideal) m.view (Rect.unit (s := S1x1024x1792) ![0, 0, 512] S1x1024x512.size inb).toLoadRect (h.unread x) : S1x1024x512.Idx → EReal) (ix3 0 d k)
      = x (ix3 0 d ⟨512 + k.val, by have := k.isLt; omega⟩) := by
  rw [h.readAt_unread]
  refine congrArg (x : S1x1024x1792.Idx → EReal) (funext fun a => ?_)
  match a with
  | ⟨0, _⟩ => exact Subsingleton.elim (α := Fin 1) _ _
  | ⟨1, _⟩ => exact Fin.ext (by show 0 + 1 * d.val = d.val; omega)
  | ⟨2, _⟩ => exact Fin.ext (by show 512 + 1 * k.val = 512 + k.val; omega)

/-- A load of 512 columns of a weight block. -/
theorem ld_1024 {m : Memref sig .tc .vmem S1x1024x1792 .bf16} (h : m.IsWhole) (x : Vec Ideal S1x1024x1792 .bf16)
    (inb : ∀ a, (![0, 0, 1024] : Fin 3 → ℕ) a + S1x1024x512.size a ≤ S1x1024x1792.size a) (d : Fin 1024) (k : Fin 512) :
    (View.readAt (Elt Ideal) m.view (Rect.unit (s := S1x1024x1792) ![0, 0, 1024] S1x1024x512.size inb).toLoadRect (h.unread x) : S1x1024x512.Idx → EReal) (ix3 0 d k)
      = x (ix3 0 d ⟨1024 + k.val, by have := k.isLt; omega⟩) := by
  rw [h.readAt_unread]
  refine congrArg (x : S1x1024x1792.Idx → EReal) (funext fun a => ?_)
  match a with
  | ⟨0, _⟩ => exact Subsingleton.elim (α := Fin 1) _ _
  | ⟨1, _⟩ => exact Fin.ext (by show 0 + 1 * d.val = d.val; omega)
  | ⟨2, _⟩ => exact Fin.ext (by show 1024 + 1 * k.val = 1024 + k.val; omega)

/-- A load of 256 columns of a weight block. -/
theorem ld_1536 {m : Memref sig .tc .vmem S1x1024x1792 .bf16} (h : m.IsWhole) (x : Vec Ideal S1x1024x1792 .bf16)
    (inb : ∀ a, (![0, 0, 1536] : Fin 3 → ℕ) a + S1x1024x256.size a ≤ S1x1024x1792.size a) (d : Fin 1024) (k : Fin 256) :
    (View.readAt (Elt Ideal) m.view (Rect.unit (s := S1x1024x1792) ![0, 0, 1536] S1x1024x256.size inb).toLoadRect (h.unread x) : S1x1024x256.Idx → EReal) (ix3 0 d k)
      = x (ix3 0 d ⟨1536 + k.val, by have := k.isLt; omega⟩) := by
  rw [h.readAt_unread]
  refine congrArg (x : S1x1024x1792.Idx → EReal) (funext fun a => ?_)
  match a with
  | ⟨0, _⟩ => exact Subsingleton.elim (α := Fin 1) _ _
  | ⟨1, _⟩ => exact Fin.ext (by show 0 + 1 * d.val = d.val; omega)
  | ⟨2, _⟩ => exact Fin.ext (by show 1536 + 1 * k.val = 1536 + k.val; omega)

/-- A load of a whole matrix. -/
theorem ld_all {s : Shape} {e : EltTy} {m : Memref sig .tc .vmem s e} (h : m.IsWhole) (x : Vec Ideal s e) {off : Fin s.rank → ℕ}
    (inb : ∀ a, off a + s.size a ≤ s.size a) :
    View.readAt (Elt Ideal) m.view (Rect.unit (s := s) off s.size inb).toLoadRect (h.unread x) = x := by
  funext y
  rw [h.readAt_unread]
  refine congrArg x (funext fun a => Fin.ext ?_)
  have := inb a
  show off a + 1 * (y a).val = (y a).val
  omega

/-- The hidden activations of one half of the channels, from the normalised rows. -/
def act (h : Vec Ideal S1024x1024 .bf16) (x5 x6 : Vec Ideal S1x1024x1792 .bf16) : Vec Ideal S1024x1792 .bf16 := fun y =>
  gu (dot (fun d => (h : S1024x1024.Idx → EReal) (ix2 (y 0) d)) fun d => (x5 : S1x1024x1792.Idx → EReal) (ix3 0 d (y 1)))
    (dot (fun d => (h : S1024x1024.Idx → EReal) (ix2 (y 0) d)) fun d => (x6 : S1x1024x1792.Idx → EReal) (ix3 0 d (y 1)))

/-- A stored chunk is a chunk of the activations. -/
theorem act_chunk {n : ℕ} (o : ℕ) (ho : o + n ≤ 1792) (h : Vec Ideal S1024x1024 .bf16) (x5 x6 : Vec Ideal S1x1024x1792 .bf16)
    (w4 w7 : Fin 1024 → Fin n → EReal) (hw4 : ∀ d (k : Fin n), w4 d k = (x5 : S1x1024x1792.Idx → EReal) (ix3 0 d ⟨o + k.val, by have := k.isLt; omega⟩))
    (hw7 : ∀ d (k : Fin n), w7 d k = (x6 : S1x1024x1792.Idx → EReal) (ix3 0 d ⟨o + k.val, by have := k.isLt; omega⟩))
    (r : Fin 1024) (k : Fin n) (y : S1024x1792.Idx) (h0 : (y 0).val = r.val) (h1 : (y 1).val = o + k.val) :
    gu (dot (fun d => (h : S1024x1024.Idx → EReal) (ix2 r d)) fun d => w4 d k) (dot (fun d => (h : S1024x1024.Idx → EReal) (ix2 r d)) fun d => w7 d k) = act h x5 x6 y := by
  have e0 : y 0 = r := Fin.ext h0
  have e1 : y 1 = (⟨o + k.val, by have := k.isLt; omega⟩ : Fin 1792) := Fin.ext h1
  unfold act
  rw [e0, e1]
  simp only [hw4, hw7]

variable (c : Dev nD) (i : grid0.Coords) (arg2 : Memref sig .tc .vmem S1024x1024 .f32) (harg2 : arg2.IsWhole) (arg3 : Memref sig .tc .vmem S1024x256 .bf16) (harg3 : arg3.IsWhole) (arg4 : Memref sig .tc .vmem S1024x768 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024x1792 .bf16) (harg7 : arg7.IsWhole) (arg8 : Memref sig .tc .vmem S1x1024x1792 .bf16) (harg8 : arg8.IsWhole) (arg9 : Memref sig .tc .vmem S1x1792x1024 .bf16) (harg9 : arg9.IsWhole) (arg10 : Memref sig .tc .vmem S1024x1024 .f32) (harg10 : arg10.IsWhole) (arg11 : Memref sig .tc .vmem S1024x1024 .bf16) (harg11 : arg11.IsWhole) (arg12 : Memref sig .tc .vmem S1024x1792 .bf16) (harg12 : arg12.IsWhole)

variable (x0 : Vec Ideal S1024x1024 .f32) (x1 : Vec Ideal S1024x256 .bf16) (x2 : Vec Ideal S1024x768 .bf16) (x3 : Vec Ideal S1024x1024 .bf16) (x4 : Vec Ideal S1x1024 .f32) (x5 : Vec Ideal S1x1024x1792 .bf16) (x6 : Vec Ideal S1x1024x1792 .bf16) (x7 : Vec Ideal S1x1792x1024 .bf16) (z : Vec Ideal S1024x1024 .f32) (h : Vec Ideal S1024x1024 .bf16)

/-- The chunks of the activations that the body stores, last first. -/
theorem chunks_read (v : View sig .tc .vmem S1024x1792 .bf16) (i0 i1 i2 i3) (w0 w1 w2 : Vec Ideal S1024x512 .bf16) (w3 : Vec Ideal S1024x256 .bf16)
    (h3 : ∀ r k, (w3 : S1024x256.Idx → EReal) (ix2 r k) = act h x5 x6 (ix2 r ⟨1536 + k.val, by have := k.isLt; omega⟩))
    (h2 : ∀ r k, (w2 : S1024x512.Idx → EReal) (ix2 r k) = act h x5 x6 (ix2 r ⟨1024 + k.val, by have := k.isLt; omega⟩))
    (h1 : ∀ r k, (w1 : S1024x512.Idx → EReal) (ix2 r k) = act h x5 x6 (ix2 r ⟨512 + k.val, by have := k.isLt; omega⟩))
    (h0 : ∀ r k, (w0 : S1024x512.Idx → EReal) (ix2 r k) = act h x5 x6 (ix2 r ⟨0 + k.val, by have := k.isLt; omega⟩)) (inb) :
    v.readCov (Val := Elt Ideal) [⟨Rect.unit (s := S1024x1792) ![0, 1536] S1024x256.size i3, w3⟩, ⟨Rect.unit (s := S1024x1792) ![0, 1024] S1024x512.size i2, w2⟩,
        ⟨Rect.unit (s := S1024x1792) ![0, 512] S1024x512.size i1, w1⟩, ⟨Rect.unit (s := S1024x1792) ![0, 0] S1024x512.size i0, w0⟩]
      (Rect.unit (s := S1024x1792) ![0, 0] S1024x1792.size inb).toLoadRect = act h x5 x6 := by
  unfold View.readCov
  rw [View.readAt_full]
  funext y
  refine View.read_writes_apply_of_pieces v _ (act h x5 x6) _ ?_ y ?_
  · intro p hp x
    simp only [List.mem_cons, List.not_mem_nil, or_false] at hp
    rcases hp with rfl | rfl | rfl | rfl
    · refine ((congrArg w3 (eq_ix2 x)).trans (h3 (x 0) (x 1))).trans (congrArg (act h x5 x6) (funext fun a => ?_))
      match a with
      | ⟨0, _⟩ => exact Fin.ext (by show (x 0).val = 0 + 1 * (x 0).val; omega)
      | ⟨1, _⟩ => exact Fin.ext (by show 1536 + (x 1).val = 1536 + 1 * (x 1).val; omega)
    · refine ((congrArg w2 (eq_ix2 x)).trans (h2 (x 0) (x 1))).trans (congrArg (act h x5 x6) (funext fun a => ?_))
      match a with
      | ⟨0, _⟩ => exact Fin.ext (by show (x 0).val = 0 + 1 * (x 0).val; omega)
      | ⟨1, _⟩ => exact Fin.ext (by show 1024 + (x 1).val = 1024 + 1 * (x 1).val; omega)
    · refine ((congrArg w1 (eq_ix2 x)).trans (h1 (x 0) (x 1))).trans (congrArg (act h x5 x6) (funext fun a => ?_))
      match a with
      | ⟨0, _⟩ => exact Fin.ext (by show (x 0).val = 0 + 1 * (x 0).val; omega)
      | ⟨1, _⟩ => exact Fin.ext (by show 512 + (x 1).val = 512 + 1 * (x 1).val; omega)
    · refine ((congrArg w0 (eq_ix2 x)).trans (h0 (x 0) (x 1))).trans (congrArg (act h x5 x6) (funext fun a => ?_))
      match a with
      | ⟨0, _⟩ => exact Fin.ext (by show (x 0).val = 0 + 1 * (x 0).val; omega)
      | ⟨1, _⟩ => exact Fin.ext (by show 0 + (x 1).val = 0 + 1 * (x 1).val; omega)
  · exact View.cover_of_tiledBy (Val := Elt Ideal) [⟨Rect.unit (s := S1024x1792) ![0, 1536] S1024x256.size i3, w3⟩, ⟨Rect.unit (s := S1024x1792) ![0, 1024] S1024x512.size i2, w2⟩,
        ⟨Rect.unit (s := S1024x1792) ![0, 512] S1024x512.size i1, w1⟩, ⟨Rect.unit (s := S1024x1792) ![0, 0] S1024x512.size i0, w0⟩] ![1024, 256] (by sl_kernel_rfl) y

/-- The first 256 rows of the output weights. -/
def lo (x : Vec Ideal S1024x1024 .bf16) : Vec Ideal S256x1024 .bf16 := fun y => (x : S1024x1024.Idx → EReal) (ix2 ⟨(y 0).val, by have : (y 0).val < 256 := (y 0).isLt; omega⟩ (y 1))
/-- The other 768 rows of the output weights. -/
def hi (x : Vec Ideal S1024x1024 .bf16) : Vec Ideal S768x1024 .bf16 := fun y => (x : S1024x1024.Idx → EReal) (ix2 ⟨256 + (y 0).val, by have : (y 0).val < 768 := (y 0).isLt; omega⟩ (y 1))

theorem ld_lo {m : Memref sig .tc .vmem S1024x1024 .bf16} (h : m.IsWhole) (x : Vec Ideal S1024x1024 .bf16)
    (inb : ∀ a, (![0, 0] : Fin 2 → ℕ) a + S256x1024.size a ≤ S1024x1024.size a) :
    View.readAt (Elt Ideal) m.view (Rect.unit (s := S1024x1024) ![0, 0] S256x1024.size inb).toLoadRect (h.unread x) = lo x := by
  funext y
  rw [h.readAt_unread]
  refine congrArg (x : S1024x1024.Idx → EReal) (funext fun a => ?_)
  match a with
  | ⟨0, _⟩ => exact Fin.ext (by show 0 + 1 * (y 0).val = (y 0).val; omega)
  | ⟨1, _⟩ => exact Fin.ext (by show 0 + 1 * (y 1).val = (y 1).val; omega)

theorem ld_hi {m : Memref sig .tc .vmem S1024x1024 .bf16} (h : m.IsWhole) (x : Vec Ideal S1024x1024 .bf16)
    (inb : ∀ a, (![256, 0] : Fin 2 → ℕ) a + S768x1024.size a ≤ S1024x1024.size a) :
    View.readAt (Elt Ideal) m.view (Rect.unit (s := S1024x1024) ![256, 0] S768x1024.size inb).toLoadRect (h.unread x) = hi x := by
  funext y
  rw [h.readAt_unread]
  refine congrArg (x : S1024x1024.Idx → EReal) (funext fun a => ?_)
  match a with
  | ⟨0, _⟩ => exact Fin.ext (by show 256 + 1 * (y 0).val = 256 + (y 0).val; omega)
  | ⟨1, _⟩ => exact Fin.ext (by show 0 + 1 * (y 1).val = (y 1).val; omega)

/-- The residual with the output projection added. -/
abbrev res (x0 : Vec Ideal S1024x1024 .f32) (x1 : Vec Ideal S1024x256 .bf16) (x2 : Vec Ideal S1024x768 .bf16) (x3 : Vec Ideal S1024x1024 .bf16) : Vec Ideal S1024x1024 .f32 :=
  k0_pay3 x0 x1 (lo x3) x2 (hi x3)
/-- Its normalised rows. -/
abbrev nrm (x0 : Vec Ideal S1024x1024 .f32) (x1 : Vec Ideal S1024x256 .bf16) (x2 : Vec Ideal S1024x768 .bf16) (x3 : Vec Ideal S1024x1024 .bf16) (x4 : Vec Ideal S1x1024 .f32) : Vec Ideal S1024x1024 .bf16 :=
  k0_pay4 x0 x1 (lo x3) x2 (hi x3) x4

theorem out_B (hc0 : ¬ cond0_0 i) : out0_B_8 c i arg2 harg2 arg3 harg3 arg4 harg4 arg5 harg5 arg6 harg6 arg7 harg7 arg8 harg8 arg9 harg9 arg10 harg10 arg11 harg11 arg12 harg12 hc0 x0 x1 x2 x3 x4 x5 x6 x7 z h = k0_pay2 z (act h x5 x6) x7 := by
  unfold out0_B_8 kernelRun0_B
  dsimp only
  rw [View.read_writes_full]
  unfold kernelRun0_B.sl.v82 kernelRun0_B.sl.HS1_4 kernelRun0_B.sl.r_1 kernelRun0_B.sl.r_2 kernelRun0_B.sl.r_3
  dsimp only
  have hact := chunks_read (x5 := x5) (x6 := x6) h arg12.view inb_S1024x1792_S1024x512_0_0 inb_S1024x1792_S1024x512_0_512 inb_S1024x1792_S1024x512_0_1024 inb_S1024x1792_S1024x256_0_1536
    _ _ _ _ (fun r k => pay1_apply h _ _ r k |>.trans (act_chunk 1536 (by decide) h x5 x6 _ _ (fun d k => ld_1536 harg7 x5 inb_S1x1024x1792_S1x1024x256_0_0_1536 d k) (fun d k => ld_1536 harg8 x6 inb_S1x1024x1792_S1x1024x256_0_0_1536 d k) r k _ rfl rfl))
    (fun r k => pay10_apply h _ _ r k |>.trans (act_chunk 1024 (by decide) h x5 x6 _ _ (fun d k => ld_1024 harg7 x5 inb_S1x1024x1792_S1x1024x512_0_0_1024 d k) (fun d k => ld_1024 harg8 x6 inb_S1x1024x1792_S1x1024x512_0_0_1024 d k) r k _ rfl rfl))
    (fun r k => pay9_apply h _ _ r k |>.trans (act_chunk 512 (by decide) h x5 x6 _ _ (fun d k => ld_512 harg7 x5 inb_S1x1024x1792_S1x1024x512_0_0_512 d k) (fun d k => ld_512 harg8 x6 inb_S1x1024x1792_S1x1024x512_0_0_512 d k) r k _ rfl rfl))
    (fun r k => pay5_apply h _ _ r k |>.trans (act_chunk 0 (by decide) h x5 x6 _ _ (fun d k => ld_0 harg7 x5 inb_S1x1024x1792_S1x1024x512_0_0_0 d k) (fun d k => ld_0 harg8 x6 inb_S1x1024x1792_S1x1024x512_0_0_0 d k) r k _ rfl rfl))
    inb_S1024x1792_S1024x1792_0_0
  have e10 := ld_all harg10 z inb_S1024x1024_S1024x1024_0_0
  have e9 := ld_all harg9 x7 inb_S1x1792x1024_S1x1792x1024_0_0_0
  have e11 := ld_all harg11 h inb_S1024x1024_S1024x1024_0_0
  refine congr (congr (congrArg k0_pay2 e10) (Eq.trans ?_ hact)) e9
  have er : kernelRun0_B.sl.r c arg11 harg11 h = h := e11
  rw [er, e11]

theorem out_A (hc0 : cond0_0 i) : out0_A_8 c i arg2 harg2 arg3 harg3 arg4 harg4 arg5 harg5 arg6 harg6 arg7 harg7 arg8 harg8 arg9 harg9 arg10 harg10 arg11 harg11 arg12 harg12 hc0 x0 x1 x2 x3 x4 x5 x6 x7 = k0_pay2 (res x0 x1 x2 x3) (act (nrm x0 x1 x2 x3 x4) x5 x6) x7
    ∧ sout0_A_0 c i arg2 harg2 arg3 harg3 arg4 harg4 arg5 harg5 arg6 harg6 arg7 harg7 arg8 harg8 arg9 harg9 arg10 harg10 arg11 harg11 arg12 harg12 hc0 x0 x1 x2 x3 x4 x5 x6 x7 = nrm x0 x1 x2 x3 x4 := by
  have e0 := ld_all harg2 x0 inb_S1024x1024_S1024x1024_0_0
  have e1 := ld_all harg3 x1 inb_S1024x256_S1024x256_0_0
  have e2 := ld_all harg4 x2 inb_S1024x768_S1024x768_0_0
  have e4 := ld_all harg6 x4 inb_S1x1024_S1x1024_0_0
  have e9 := ld_all harg9 x7 inb_S1x1792x1024_S1x1792x1024_0_0_0
  have el := ld_lo harg5 x3 inb_S1024x1024_S256x1024_0_0
  have eh := ld_hi harg5 x3 inb_S1024x1024_S768x1024_256_0
  constructor
  · unfold out0_A_8 kernelRun0_A
    dsimp only
    rw [View.read_writes_full]
    unfold kernelRun0_A.sl.v80 kernelRun0_A.sl.v82 kernelRun0_A.sl.HS1_4 kernelRun0_A.sl.r kernelRun0_A.sl.r_1 kernelRun0_A.sl.r_2
    dsimp only
    have er : kernelRun0_A.sl.v3 c arg2 harg2 arg3 harg3 arg4 harg4 arg5 harg5 arg6 harg6 arg11 x0 x1 x2 x3 x4 = nrm x0 x1 x2 x3 x4 := by
      unfold kernelRun0_A.sl.v3 kernelRun0_A.sl.HS0_1
      rw [View.readCov_full]
      exact congr (congr (congr (congr (congr (congrArg k0_pay4 e0) e1) el) e2) eh) e4
    have e8 : arg10.view.readCov (kernelRun0_A.sl.H8_1 c arg2 harg2 arg3 harg3 arg4 harg4 arg5 harg5 x0 x1 x2 x3) (Rect.unit ![0, 0] ![1024, 1024] inb_S1024x1024_S1024x1024_0_0).toLoadRect = res x0 x1 x2 x3 := by
      unfold kernelRun0_A.sl.H8_1
      rw [View.readCov_full]
      exact congr (congr (congr (congr (congrArg k0_pay3 e0) e1) el) e2) eh
    have hact := chunks_read (x5 := x5) (x6 := x6) (nrm x0 x1 x2 x3 x4) arg12.view inb_S1024x1792_S1024x512_0_0 inb_S1024x1792_S1024x512_0_512 inb_S1024x1792_S1024x512_0_1024 inb_S1024x1792_S1024x256_0_1536
      _ _ _ _ (fun r k => pay1_apply (nrm x0 x1 x2 x3 x4) _ _ r k |>.trans (act_chunk 1536 (by decide) (nrm x0 x1 x2 x3 x4) x5 x6 _ _ (fun d k => ld_1536 harg7 x5 inb_S1x1024x1792_S1x1024x256_0_0_1536 d k) (fun d k => ld_1536 harg8 x6 inb_S1x1024x1792_S1x1024x256_0_0_1536 d k) r k _ rfl rfl))
      (fun r k => pay10_apply (nrm x0 x1 x2 x3 x4) _ _ r k |>.trans (act_chunk 1024 (by decide) (nrm x0 x1 x2 x3 x4) x5 x6 _ _ (fun d k => ld_1024 harg7 x5 inb_S1x1024x1792_S1x1024x512_0_0_1024 d k) (fun d k => ld_1024 harg8 x6 inb_S1x1024x1792_S1x1024x512_0_0_1024 d k) r k _ rfl rfl))
      (fun r k => pay9_apply (nrm x0 x1 x2 x3 x4) _ _ r k |>.trans (act_chunk 512 (by decide) (nrm x0 x1 x2 x3 x4) x5 x6 _ _ (fun d k => ld_512 harg7 x5 inb_S1x1024x1792_S1x1024x512_0_0_512 d k) (fun d k => ld_512 harg8 x6 inb_S1x1024x1792_S1x1024x512_0_0_512 d k) r k _ rfl rfl))
      (fun r k => pay5_apply (nrm x0 x1 x2 x3 x4) _ _ r k |>.trans (act_chunk 0 (by decide) (nrm x0 x1 x2 x3 x4) x5 x6 _ _ (fun d k => ld_0 harg7 x5 inb_S1x1024x1792_S1x1024x512_0_0_0 d k) (fun d k => ld_0 harg8 x6 inb_S1x1024x1792_S1x1024x512_0_0_0 d k) r k _ rfl rfl))
      inb_S1024x1792_S1024x1792_0_0
    refine congr (congr (congrArg k0_pay2 e8) (Eq.trans ?_ hact)) e9
    rw [er]
  · unfold sout0_A_0 kernelRun0_A
    dsimp only
    unfold kernelRun0_A.sl.HS0_1
    rw [View.read_writes_full]
    refine congr (congr (congr (congr (congr (congrArg k0_pay4 e0) e1) el) e2) eh) e4

end Cert.FfnIdeal.Ff

end
-- ==== Proof.FfnHost.lean ====
module

public import proofs.«01_k».proof.Proof.FfnBody
public import Idealize.ShloMosaic.Lib.StableHlo.ReadAt

@[expose] public section

set_option maxRecDepth 65536

noncomputable section

/-! The channel mixer's result: the formula, the arrays the region finds, and the blocks of each point. -/

namespace Cert.FfnIdeal.Ff

open Cert.FfnIdeal Cert.FfnIdeal.Gen Cert.FfnIdeal.Value
open Idealize.ShloMosaic Idealize.ShloMosaic.TcCoe

/-- The residual row with the output projection of the two heads' outputs added. -/
def x1 (x : Fin 1024 → EReal) (a : Fin 256 → EReal) (b : Fin 768 → EReal) (w : Fin 1024 → Fin 1024 → EReal) (l : Fin 1024) : EReal :=
  x l + dot a (fun k => w ⟨k.val, by omega⟩ l) + dot b fun k => w ⟨256 + k.val, by omega⟩ l

/-- One hidden channel of a row. -/
def hid (h : Fin 1024 → EReal) (wg wu : Fin 1024 → Fin 3584 → EReal) (k : Fin 3584) : EReal :=
  gu (dot h fun d => wg d k) (dot h fun d => wu d k)

/-- The first half of the channels, -/
def k0 (k : Fin 1792) : Fin 3584 := ⟨k.val, by omega⟩
/-- the second. -/
def k1 (k : Fin 1792) : Fin 3584 := ⟨1792 + k.val, by omega⟩

/-- A row of the result from the row after the projection and its normalised form. -/
def mix (y h : Fin 1024 → EReal) (wg wu : Fin 1024 → Fin 3584 → EReal) (wd : Fin 3584 → Fin 1024 → EReal) (l : Fin 1024) : EReal :=
  y l + dot (fun k => hid h wg wu (k0 k)) (fun k => wd (k0 k) l) + dot (fun k => hid h wg wu (k1 k)) fun k => wd (k1 k) l

/-- The result at a row and a channel. -/
def ff (x : Fin 16384 → Fin 1024 → EReal) (a : Fin 16384 → Fin 256 → EReal) (b : Fin 16384 → Fin 768 → EReal) (w : Fin 1024 → Fin 1024 → EReal)
    (g : Fin 1024 → EReal) (wg wu : Fin 1024 → Fin 3584 → EReal) (wd : Fin 3584 → Fin 1024 → EReal) (R : Fin 16384) (l : Fin 1024) : EReal :=
  mix (x1 (x R) (a R) (b R) w) (rms (x1 (x R) (a R) (b R) w) g) wg wu wd l

/-- The rows of an array kept by batch and position: -/
def rows0 (x : S4x4096x1024.Idx → EReal) (R : Fin 16384) (l : Fin 1024) : EReal := x (ix3 ⟨R.val / 4096, by omega⟩ ⟨R.val % 4096, by omega⟩ l)
/-- the same for the first heads' width -/
def rows1 (x : S4x4096x256.Idx → EReal) (R : Fin 16384) (l : Fin 256) : EReal := x (ix3 ⟨R.val / 4096, by omega⟩ ⟨R.val % 4096, by omega⟩ l)
/-- and the others'. -/
def rows2 (x : S4x4096x768.Idx → EReal) (R : Fin 16384) (l : Fin 768) : EReal := x (ix3 ⟨R.val / 4096, by omega⟩ ⟨R.val % 4096, by omega⟩ l)
/-- A matrix by its entries, -/
def ent3 (x : S1024x1024.Idx → EReal) (k l : Fin 1024) : EReal := x (ix2 k l)
/-- a vector by its entries, -/
def ent4 (x : S1024.Idx → EReal) (l : Fin 1024) : EReal := x (ix1 l)
/-- the first layer of stacked widening matrices -/
def ent5 (x : S2x1024x3584.Idx → EReal) (k : Fin 1024) (l : Fin 3584) : EReal := x (ix3 0 k l)
/-- and of stacked narrowing ones. -/
def ent7 (x : S2x3584x1024.Idx → EReal) (k : Fin 3584) (l : Fin 1024) : EReal := x (ix3 0 k l)

/-- The result from the argument arrays. -/
def ffa (x0 : S4x4096x1024.Idx → EReal) (x1 : S4x4096x256.Idx → EReal) (x2 : S4x4096x768.Idx → EReal) (x3 : S1024x1024.Idx → EReal) (x4 : S1024.Idx → EReal)
    (x5 x6 : S2x1024x3584.Idx → EReal) (x7 : S2x3584x1024.Idx → EReal) : Fin 16384 → Fin 1024 → EReal :=
  ff (rows0 x0) (rows1 x1) (rows2 x2) (ent3 x3) (ent4 x4) (ent5 x5) (ent5 x6) (ent7 x7)

variable (m : (ℓ : Loc nD τ sig) → Buf (Elt Ideal) ℓ) (c : Dev nD)

theorem V0 (R : Fin 16384) (l : Fin 1024) : (V m c main_v0 : S16384x1024.Idx → EReal) (ix2 R l) = rows0 (m (c, Proc.tc.devRef main_arg0)) R l := by
  unfold V
  after_reads_at
  rfl
theorem V1 (R : Fin 16384) (l : Fin 256) : (V m c main_v1 : S16384x256.Idx → EReal) (ix2 R l) = rows1 (m (c, Proc.tc.devRef main_arg1)) R l := by
  unfold V
  after_reads_at
  rfl
theorem V2 (R : Fin 16384) (l : Fin 768) : (V m c main_v2 : S16384x768.Idx → EReal) (ix2 R l) = rows2 (m (c, Proc.tc.devRef main_arg2)) R l := by
  unfold V
  after_reads_at
  rfl
theorem V3 (k l : Fin 1024) : (V m c main_v3 : S1024x1024.Idx → EReal) (ix2 k l) = ent3 (m (c, Proc.tc.devRef main_arg3)) k l := by
  unfold V
  after_reads_at
  rfl
theorem V7 (l : Fin 1024) : (V m c main_v7 : S1x1024.Idx → EReal) (ix2 0 l) = ent4 (m (c, Proc.tc.devRef main_arg4)) l := by
  unfold V
  after_reads_at
  rfl
theorem V4 (k : Fin 1024) (l : Fin 3584) : (V m c main_v4 : S2x1024x3584.Idx → EReal) (ix3 0 k l) = ent5 (m (c, Proc.tc.devRef main_arg5)) k l := by
  unfold V
  after_reads_at
  rfl
theorem V5 (k : Fin 1024) (l : Fin 3584) : (V m c main_v5 : S2x1024x3584.Idx → EReal) (ix3 0 k l) = ent5 (m (c, Proc.tc.devRef main_arg6)) k l := by
  unfold V
  after_reads_at
  rfl
theorem V6 (k : Fin 3584) (l : Fin 1024) : (V m c main_v6 : S2x3584x1024.Idx → EReal) (ix3 0 k l) = ent7 (m (c, Proc.tc.devRef main_arg7)) k l := by
  unfold V
  after_reads_at
  rfl

/-- Where each window's block lies. -/
theorem idx_facts : ∀ t : Fin cfg0.N,
    (win0_0.index t (0 : Fin 2) = t.val / 2 ∧ win0_0.index t (1 : Fin 2) = 0)
    ∧ (win0_1.index t (0 : Fin 2) = t.val / 2 ∧ win0_1.index t (1 : Fin 2) = 0)
    ∧ (win0_2.index t (0 : Fin 2) = t.val / 2 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 3) = 0 ∧ win0_5.index t (1 : Fin 3) = 0 ∧ win0_5.index t (2 : Fin 3) = t.val % 2)
    ∧ (win0_6.index t (0 : Fin 3) = 0 ∧ win0_6.index t (1 : Fin 3) = 0 ∧ win0_6.index t (2 : Fin 3) = t.val % 2)
    ∧ (win0_7.index t (0 : Fin 3) = 0 ∧ win0_7.index t (1 : Fin 3) = t.val % 2 ∧ win0_7.index t (2 : Fin 3) = 0) :=
  (by decide +kernel : ∀ t : Fin grid0.N, _)

theorem t_lt (t : Fin cfg0.N) : t.val < 32 := lt_of_lt_of_eq t.isLt N_0

theorem iblk0 (t : Fin cfg0.N) (r : Fin 1024) (l : Fin 1024) :
    (iblk m c 0 t : S1024x1024.Idx → EReal) (ix2 r l) = (V m c main_v0 : S16384x1024.Idx → EReal) (ix2 ⟨t.val / 2 * 1024 + r.val, by have := t_lt t; omega⟩ l) := by
  obtain ⟨⟨h0, h1⟩, -⟩ := idx_facts t
  unfold iblk
  rw [View.read_apply]
  show V m c main_v0 _ = V m c main_v0 _
  congr 1
  funext a
  apply Fin.ext
  match a with
  | ⟨0, _⟩ => show win0_0.index t (0 : Fin 2) * 1024 + 1 * r.val = t.val / 2 * 1024 + r.val; rw [h0]; omega
  | ⟨1, _⟩ => show win0_0.index t (1 : Fin 2) * 1024 + 1 * l.val = l.val; rw [h1]; omega

theorem iblk1 (t : Fin cfg0.N) (r : Fin 1024) (l : Fin 256) :
    (iblk m c 1 t : S1024x256.Idx → EReal) (ix2 r l) = (V m c main_v1 : S16384x256.Idx → EReal) (ix2 ⟨t.val / 2 * 1024 + r.val, by have := t_lt t; omega⟩ l) := by
  obtain ⟨-, ⟨h0, h1⟩, -⟩ := idx_facts t
  unfold iblk
  rw [View.read_apply]
  show V m c main_v1 _ = V m c main_v1 _
  congr 1
  funext a
  apply Fin.ext
  match a with
  | ⟨0, _⟩ => show win0_1.index t (0 : Fin 2) * 1024 + 1 * r.val = t.val / 2 * 1024 + r.val; rw [h0]; omega
  | ⟨1, _⟩ => show win0_1.index t (1 : Fin 2) * 256 + 1 * l.val = l.val; rw [h1]; omega

theorem iblk2 (t : Fin cfg0.N) (r : Fin 1024) (l : Fin 768) :
    (iblk m c 2 t : S1024x768.Idx → EReal) (ix2 r l) = (V m c main_v2 : S16384x768.Idx → EReal) (ix2 ⟨t.val / 2 * 1024 + r.val, by have := t_lt t; omega⟩ l) := by
  obtain ⟨-, -, ⟨h0, h1⟩, -⟩ := idx_facts t
  unfold iblk
  rw [View.read_apply]
  show V m c main_v2 _ = V m c main_v2 _
  congr 1
  funext a
  apply Fin.ext
  match a with
  | ⟨0, _⟩ => show win0_2.index t (0 : Fin 2) * 1024 + 1 * r.val = t.val / 2 * 1024 + r.val; rw [h0]; omega
  | ⟨1, _⟩ => show win0_2.index t (1 : Fin 2) * 768 + 1 * l.val = l.val; rw [h1]; omega

theorem iblk3 (t : Fin cfg0.N) (r l : Fin 1024) :
    (iblk m c 3 t : S1024x1024.Idx → EReal) (ix2 r l) = (V m c main_v3 : S1024x1024.Idx → EReal) (ix2 r l) := by
  obtain ⟨-, -, -, ⟨h0, h1⟩, -⟩ := idx_facts t
  unfold iblk
  rw [View.read_apply]
  show V m c main_v3 _ = V m c main_v3 _
  congr 1
  funext a
  apply Fin.ext
  match a with
  | ⟨0, _⟩ => show win0_3.index t (0 : Fin 2) * 1024 + 1 * r.val = r.val; rw [h0]; omega
  | ⟨1, _⟩ => show win0_3.index t (1 : Fin 2) * 1024 + 1 * l.val = l.val; rw [h1]; omega

theorem iblk4 (t : Fin cfg0.N) (l : Fin 1024) :
    (iblk m c 4 t : S1x1024.Idx → EReal) (ix2 0 l) = (V m c main_v7 : S1x1024.Idx → EReal) (ix2 0 l) := by
  obtain ⟨-, -, -, -, ⟨h0, h1⟩, -⟩ := idx_facts t
  unfold iblk
  rw [View.read_apply]
  show V m c main_v7 _ = V m c main_v7 _
  congr 1
  funext a
  apply Fin.ext
  match a with
  | ⟨0, _⟩ => show win0_4.index t (0 : Fin 2) * 1 + 1 * 0 = 0; rw [h0]
  | ⟨1, _⟩ => show win0_4.index t (1 : Fin 2) * 1024 + 1 * l.val = l.val; rw [h1]; omega

theorem iblk5 (t : Fin cfg0.N) (d : Fin 1024) (k : Fin 1792) :
    (iblk m c 5 t : S1x1024x1792.Idx → EReal) (ix3 0 d k) = (V m c main_v4 : S2x1024x3584.Idx → EReal) (ix3 0 d ⟨t.val % 2 * 1792 + k.val, by omega⟩) := by
  obtain ⟨-, -, -, -, -, ⟨h0, h1, h2⟩, -⟩ := idx_facts t
  unfold iblk
  rw [View.read_apply]
  show V m c main_v4 _ = V m c main_v4 _
  congr 1
  funext a
  apply Fin.ext
  match a with
  | ⟨0, _⟩ => show win0_5.index t (0 : Fin 3) * 1 + 1 * 0 = 0; rw [h0]
  | ⟨1, _⟩ => show win0_5.index t (1 : Fin 3) * 1024 + 1 * d.val = d.val; rw [h1]; omega
  | ⟨2, _⟩ => show win0_5.index t (2 : Fin 3) * 1792 + 1 * k.val = t.val % 2 * 1792 + k.val; rw [h2]; omega

theorem iblk6 (t : Fin cfg0.N) (d : Fin 1024) (k : Fin 1792) :
    (iblk m c 6 t : S1x1024x1792.Idx → EReal) (ix3 0 d k) = (V m c main_v5 : S2x1024x3584.Idx → EReal) (ix3 0 d ⟨t.val % 2 * 1792 + k.val, by omega⟩) := by
  obtain ⟨-, -, -, -, -, -, ⟨h0, h1, h2⟩, -⟩ := idx_facts t
  unfold iblk
  rw [View.read_apply]
  show V m c main_v5 _ = V m c main_v5 _
  congr 1
  funext a
  apply Fin.ext
  match a with
  | ⟨0, _⟩ => show win0_6.index t (0 : Fin 3) * 1 + 1 * 0 = 0; rw [h0]
  | ⟨1, _⟩ => show win0_6.index t (1 : Fin 3) * 1024 + 1 * d.val = d.val; rw [h1]; omega
  | ⟨2, _⟩ => show win0_6.index t (2 : Fin 3) * 1792 + 1 * k.val = t.val % 2 * 1792 + k.val; rw [h2]; omega

theorem iblk7 (t : Fin cfg0.N) (k : Fin 1792) (l : Fin 1024) :
    (iblk m c 7 t : S1x1792x1024.Idx → EReal) (ix3 0 k l) = (V m c main_v6 : S2x3584x1024.Idx → EReal) (ix3 0 ⟨t.val % 2 * 1792 + k.val, by omega⟩ l) := by
  obtain ⟨-, -, -, -, -, -, -, ⟨h0, h1, h2⟩⟩ := idx_facts t
  unfold iblk
  rw [View.read_apply]
  show V m c main_v6 _ = V m c main_v6 _
  congr 1
  funext a
  apply Fin.ext
  match a with
  | ⟨0, _⟩ => show win0_7.index t (0 : Fin 3) * 1 + 1 * 0 = 0; rw [h0]
  | ⟨1, _⟩ => show win0_7.index t (1 : Fin 3) * 1792 + 1 * k.val = t.val % 2 * 1792 + k.val; rw [h1]; omega
  | ⟨2, _⟩ => show win0_7.index t (2 : Fin 3) * 1024 + 1 * l.val = l.val; rw [h2]; omega

end Cert.FfnIdeal.Ff

end
-- ==== Proof.FfnFinal.lean ====
module

public import proofs.«01_k».proof.Proof.FfnHost

@[expose] public section

set_option maxRecDepth 65536

noncomputable section

/-! The channel mixer's result array after the run: the formula at every entry. -/

namespace Cert.FfnIdeal.Ff

open Cert.FfnIdeal Cert.FfnIdeal.Gen Cert.FfnIdeal.Value
open Idealize.ShloMosaic Idealize.ShloMosaic.TcCoe Idealize.SL.Sem
open Idealize.ShloMosaic.Pipeline (Dat)

variable (m : (ℓ : Loc nD τ sig) → Buf (Elt Ideal) ℓ) (c : Dev nD)

/-- The row after the projection, in the kernel's memory. -/
def Y (R : Fin 16384) : Fin 1024 → EReal :=
  x1 (rows0 (m (c, Proc.tc.devRef main_arg0)) R) (rows1 (m (c, Proc.tc.devRef main_arg1)) R) (rows2 (m (c, Proc.tc.devRef main_arg2)) R) (ent3 (m (c, Proc.tc.devRef main_arg3)))
/-- The row normalised. -/
def H (R : Fin 16384) : Fin 1024 → EReal := rms (Y m c R) (ent4 (m (c, Proc.tc.devRef main_arg4)))

/-- A point's row among all rows. -/
def rw_ (t : Fin cfg0.N) (r : Fin 1024) : Fin 16384 := ⟨t.val / 2 * 1024 + r.val, by have := t_lt t; omega⟩

theorem res_eq (t : Fin cfg0.N) (r l : Fin 1024) :
    (res (iblk m c 0 t) (iblk m c 1 t) (iblk m c 2 t) (iblk m c 3 t) : S1024x1024.Idx → EReal) (ix2 r l) = Y m c (rw_ t r) l := by
  unfold res
  rw [pay3_apply]
  unfold Y x1
  rw [iblk0, V0]
  refine congrArg₂ (· + ·) (congrArg₂ (· + ·) rfl ?_) ?_
  · refine congrArg₂ dot (funext fun k => ?_) (funext fun k => ?_)
    · rw [iblk1, V1]; rfl
    · exact (iblk3 m c t ⟨k.val, by omega⟩ l).trans (V3 m c _ _)
  · refine congrArg₂ dot (funext fun k => ?_) (funext fun k => ?_)
    · rw [iblk2, V2]; rfl
    · exact (iblk3 m c t ⟨256 + k.val, by omega⟩ l).trans (V3 m c _ _)

theorem nrm_eq (t : Fin cfg0.N) (r l : Fin 1024) :
    (nrm (iblk m c 0 t) (iblk m c 1 t) (iblk m c 2 t) (iblk m c 3 t) (iblk m c 4 t) : S1024x1024.Idx → EReal) (ix2 r l) = H m c (rw_ t r) l := by
  unfold nrm
  rw [pay4_apply]
  unfold H
  refine congrArg₂ (fun a b => rms a b l) (funext fun d => ?_) (funext fun d => ?_)
  · exact res_eq m c t r d
  · exact (iblk4 m c t d).trans (V7 m c d)

/-- A half's product with its narrowing rows. -/
def half (R : Fin 16384) (j : ℕ) (hj : j < 2) (l : Fin 1024) : EReal :=
  dot (fun k : Fin 1792 => hid (H m c R) (ent5 (m (c, Proc.tc.devRef main_arg5))) (ent5 (m (c, Proc.tc.devRef main_arg6))) ⟨j * 1792 + k.val, by omega⟩)
    fun k => ent7 (m (c, Proc.tc.devRef main_arg7)) ⟨j * 1792 + k.val, by omega⟩ l

theorem half_eq (t : Fin cfg0.N) (h : Vec Ideal S1024x1024 .bf16) (r l : Fin 1024) (hh : ∀ d, (h : S1024x1024.Idx → EReal) (ix2 r d) = H m c (rw_ t r) d) :
    dot (fun k => (act h (iblk m c 5 t) (iblk m c 6 t) : S1024x1792.Idx → EReal) (ix2 r k)) (fun k => (iblk m c 7 t : S1x1792x1024.Idx → EReal) (ix3 0 k l))
      = half m c (rw_ t r) (t.val % 2) (Nat.mod_lt _ (by decide)) l := by
  unfold half
  refine congrArg₂ dot (funext fun k => ?_) (funext fun k => ?_)
  · unfold act hid
    refine congrArg₂ gu ?_ ?_
    · refine congrArg₂ dot (funext fun d => hh d) (funext fun d => ?_)
      exact (iblk5 m c t d k).trans (V4 m c _ _)
    · refine congrArg₂ dot (funext fun d => hh d) (funext fun d => ?_)
      exact (iblk6 m c t d k).trans (V5 m c _ _)
  · exact (iblk7 m c t k l).trans (V6 m c _ _)

/-- After the first point of a block: the residual and the first half, and the normalised rows kept. -/
theorem first (t : Fin cfg0.N) (h0 : t.val % 2 = 0) (r l : Fin 1024) :
    ((outsAt0 m c t.val t.isLt).1 : S1024x1024.Idx → EReal) (ix2 r l) = Y m c (rw_ t r) l + half m c (rw_ t r) 0 (by decide) l
    ∧ ((outsAt0 m c t.val t.isLt).2 : S1024x1024.Idx → EReal) (ix2 r l) = H m c (rw_ t r) l := by
  obtain ⟨e1, e2⟩ := out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _)
    (iblk m c 0 t) (iblk m c 1 t) (iblk m c 2 t) (iblk m c 3 t) (iblk m c 4 t) (iblk m c 5 t) (iblk m c 6 t) (iblk m c 7 t) ((hcond0_0 t).mpr h0)
  have e := (outsAt0_A m c t h0).trans (congrArg₂ Prod.mk e1 e2)
  rw [e]
  refine ⟨?_, nrm_eq m c t r l⟩
  dsimp only
  rw [pay2_apply, res_eq, half_eq m c t _ r l fun d => nrm_eq m c t r d]
  simp only [h0]

/-- After the second: the result. -/
theorem second (t : Fin cfg0.N) (h0 : ¬ t.val % 2 = 0) (r l : Fin 1024) :
    ((outsAt0 m c t.val t.isLt).1 : S1024x1024.Idx → EReal) (ix2 r l)
      = Y m c (rw_ t r) l + half m c (rw_ t r) 0 (by decide) l + half m c (rw_ t r) 1 (by decide) l := by
  have ht : (⟨t.val - 1, Nat.lt_of_le_of_lt (Nat.sub_le _ _) t.isLt⟩ : Fin cfg0.N).val % 2 = 0 := by show (t.val - 1) % 2 = 0; omega
  have hf := fun l => first m c ⟨t.val - 1, Nat.lt_of_le_of_lt (Nat.sub_le _ _) t.isLt⟩ ht r l
  have hr : rw_ ⟨t.val - 1, Nat.lt_of_le_of_lt (Nat.sub_le _ _) t.isLt⟩ r = rw_ t r := Fin.ext (by show (t.val - 1) / 2 * 1024 + r.val = t.val / 2 * 1024 + r.val; omega)
  rw [hr] at hf
  have e1 := out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _)
    (iblk m c 0 t) (iblk m c 1 t) (iblk m c 2 t) (iblk m c 3 t) (iblk m c 4 t) (iblk m c 5 t) (iblk m c 6 t) (iblk m c 7 t)
    (outsAt0 m c (t.val - 1) (Nat.lt_of_le_of_lt (Nat.sub_le _ _) t.isLt)).1 (outsAt0 m c (t.val - 1) (Nat.lt_of_le_of_lt (Nat.sub_le _ _) t.isLt)).2 (fun h => h0 ((hcond0_0 t).mp h))
  have e := congrArg Prod.fst ((outsAt0_B m c t h0).trans (congrArg₂ Prod.mk e1 rfl))
  rw [e]
  dsimp only
  rw [pay2_apply, half_eq m c t _ r l fun d => (hf d).2]
  have h1 : t.val % 2 = 1 := by omega
  simp only [h1]
  exact congrArg (· + _) (hf l).1

/-- The result array. -/
def G : Buf (Elt Ideal) ((c : Thread nD τ).loc main_v8) := fun i : S16384x1024.Idx =>
  ffa (m (c, Proc.tc.devRef main_arg0)) (m (c, Proc.tc.devRef main_arg1)) (m (c, Proc.tc.devRef main_arg2)) (m (c, Proc.tc.devRef main_arg3)) (m (c, Proc.tc.devRef main_arg4))
    (m (c, Proc.tc.devRef main_arg5)) (m (c, Proc.tc.devRef main_arg6)) (m (c, Proc.tc.devRef main_arg7)) (i 0) (i 1)

theorem ff_eq (R : Fin 16384) (l : Fin 1024) : Y m c R l + half m c R 0 (by decide) l + half m c R 1 (by decide) l
    = G m c (ix2 R l) := by
  have hh0 : half m c R 0 (by decide) l = dot (fun k : Fin 1792 => hid (H m c R) (ent5 (m (c, Proc.tc.devRef main_arg5))) (ent5 (m (c, Proc.tc.devRef main_arg6))) (k0 k)) fun k => ent7 (m (c, Proc.tc.devRef main_arg7)) (k0 k) l := by
    have e : ∀ k : Fin 1792, (⟨0 * 1792 + k.val, by omega⟩ : Fin 3584) = k0 k := fun k => Fin.ext (by show 0 * 1792 + k.val = k.val; omega)
    unfold half
    simp only [e]
  have hh1 : half m c R 1 (by decide) l = dot (fun k : Fin 1792 => hid (H m c R) (ent5 (m (c, Proc.tc.devRef main_arg5))) (ent5 (m (c, Proc.tc.devRef main_arg6))) (k1 k)) fun k => ent7 (m (c, Proc.tc.devRef main_arg7)) (k1 k) l := by
    have e : ∀ k : Fin 1792, (⟨1 * 1792 + k.val, by omega⟩ : Fin 3584) = k1 k := fun k => Fin.ext (by show 1 * 1792 + k.val = 1792 + k.val; omega)
    unfold half
    simp only [e]
  rw [hh0, hh1]
  rfl

theorem G8_eq : G8 m c = G m c := by
  refine funext fun i => ?_
  have hi0 : (i 0).val < 16384 := (i 0).isLt
  have hi1 : (i 1).val < 1024 := (i 1).isLt
  have hp : pt8Of i < cfg0.N := lt_of_lt_of_eq (by show 2 * (1 * ((i 0).val / 1024 - 0) + 1 * ((i 1).val / 1024 - 0)) + 1 < 32; omega) N_0.symm
  unfold G8
  rw [dif_pos hp, ← outsAt0_sweep m c (pt8Of i) hp]
  have hl : loc8Of i = ix2 ⟨(i 0).val % 1024, Nat.mod_lt _ (by decide)⟩ ⟨(i 1).val % 1024, Nat.mod_lt _ (by decide)⟩ := by
    funext a
    match a with
    | ⟨0, _⟩ => rfl
    | ⟨1, _⟩ => rfl
  rw [hl]
  refine (second m c ⟨pt8Of i, hp⟩ (by show ¬ (2 * (1 * ((i 0).val / 1024 - 0) + 1 * ((i 1).val / 1024 - 0)) + 1) % 2 = 0; omega) _ _).trans ?_
  have e0 : rw_ ⟨pt8Of i, hp⟩ ⟨(i 0).val % 1024, Nat.mod_lt _ (by decide)⟩ = i 0 :=
    Fin.ext (by show (2 * (1 * ((i 0).val / 1024 - 0) + 1 * ((i 1).val / 1024 - 0)) + 1) / 2 * 1024 + (i 0).val % 1024 = (i 0).val; omega)
  have e1 : (⟨(i 1).val % 1024, Nat.mod_lt _ (by decide)⟩ : Fin 1024) = i 1 := Fin.ext (Nat.mod_eq_of_lt hi1)
  rw [e0, e1]
  exact (ff_eq m c (i 0) (i 1)).trans (congrArg (G m c) (eq_ix2 (i : S16384x1024.Idx)).symm)

end Cert.FfnIdeal.Ff

end
-- ==== Proof.FfnRefRead.lean ====
module

public import proofs.«01_k».proof.Proof.Gen.FfnReferenceIdeal.Read
public import proofs.«01_k».proof.Proof.FfnHost
public import Idealize.ShloMosaic.Lib.Pointwise

@[expose] public section

set_option maxRecDepth 65536

noncomputable section

/-! The plain channel mixer's result read at an index: the formula. -/

namespace Cert.FfnReferenceIdeal.Ff

open Cert.FfnReferenceIdeal Cert.FfnReferenceIdeal.Read Cert.FfnReferenceIdeal.Gen
open Idealize.ShloMosaic
open Cert.FfnIdeal.Ff (dot gu sgm rms x1 hid k0 k1 mix ff ffa rows0 rows1 rows2 ent3 ent4 ent5 ent7)

variable (y0 : (⟨S4x4096x1024, .f32⟩ : BufTy).Contents (Elt Ideal)) (y1 : (⟨S4x4096x256, .bf16⟩ : BufTy).Contents (Elt Ideal))
  (y2 : (⟨S4x4096x768, .bf16⟩ : BufTy).Contents (Elt Ideal)) (y3 : (⟨S1024x1024, .f32⟩ : BufTy).Contents (Elt Ideal)) (y4 : (⟨S1024, .f32⟩ : BufTy).Contents (Elt Ideal))
  (y5 y6 : (⟨S2x1024x3584, .f32⟩ : BufTy).Contents (Elt Ideal)) (y7 : (⟨S2x3584x1024, .f32⟩ : BufTy).Contents (Elt Ideal))

/-- The row number of a position. -/
def row (b : Fin 4) (s : Fin 4096) : Fin 16384 := ⟨b.val * 4096 + s.val, by omega⟩

theorem rows0_row (b : Fin 4) (s : Fin 4096) (l : Fin 1024) : rows0 y0 (row b s) l = (y0 : S4x4096x1024.Idx → EReal) (ix3 b s l) := by
  have e0 : (⟨(row b s).val / 4096, by have := (row b s).isLt; omega⟩ : Fin 4) = b := Fin.ext (by show (b.val * 4096 + s.val) / 4096 = b.val; omega)
  have e1 : (⟨(row b s).val % 4096, by omega⟩ : Fin 4096) = s := Fin.ext (by show (b.val * 4096 + s.val) % 4096 = s.val; omega)
  unfold rows0
  rw [e0, e1]
theorem rows1_row (b : Fin 4) (s : Fin 4096) (l : Fin 256) : rows1 y1 (row b s) l = (y1 : S4x4096x256.Idx → EReal) (ix3 b s l) := by
  have e0 : (⟨(row b s).val / 4096, by have := (row b s).isLt; omega⟩ : Fin 4) = b := Fin.ext (by show (b.val * 4096 + s.val) / 4096 = b.val; omega)
  have e1 : (⟨(row b s).val % 4096, by omega⟩ : Fin 4096) = s := Fin.ext (by show (b.val * 4096 + s.val) % 4096 = s.val; omega)
  unfold rows1
  rw [e0, e1]
theorem rows2_row (b : Fin 4) (s : Fin 4096) (l : Fin 768) : rows2 y2 (row b s) l = (y2 : S4x4096x768.Idx → EReal) (ix3 b s l) := by
  have e0 : (⟨(row b s).val / 4096, by have := (row b s).isLt; omega⟩ : Fin 4) = b := Fin.ext (by show (b.val * 4096 + s.val) / 4096 = b.val; omega)
  have e1 : (⟨(row b s).val % 4096, by omega⟩ : Fin 4096) = s := Fin.ext (by show (b.val * 4096 + s.val) % 4096 = s.val; omega)
  unfold rows2
  rw [e0, e1]

/-- The two heads' outputs side by side. -/
theorem v2_lo (b : Fin 4) (s : Fin 4096) (l : Fin 1024) (h : l.val < 256) :
    (val_main_v2 y1 y2 : S4x4096x1024.Idx → EReal) (ix3 b s l) = (y1 : S4x4096x256.Idx → EReal) (ix3 b s ⟨l.val, h⟩) := by
  pointwise [val_main_v2, val_main_v1, val_main_v0]
  exact dif_pos h

theorem v2_hi (b : Fin 4) (s : Fin 4096) (l : Fin 1024) (h : ¬ l.val < 256) :
    (val_main_v2 y1 y2 : S4x4096x1024.Idx → EReal) (ix3 b s l) = (y2 : S4x4096x768.Idx → EReal) (ix3 b s ⟨l.val - 256, by omega⟩) := by
  pointwise [val_main_v2, val_main_v1, val_main_v0]
  exact dif_neg h

/-- A sum over the joined width is the two parts' sums. -/
theorem dot_split {a b n : ℕ} (e : a + b = n) (f w : Fin n → EReal) :
    dot f w = dot (fun k : Fin a => f ⟨k.val, by omega⟩) (fun k => w ⟨k.val, by omega⟩) + dot (fun k : Fin b => f ⟨a + k.val, by omega⟩) (fun k => w ⟨a + k.val, by omega⟩) := by
  subst e
  unfold dot
  rw [Fin.sum_univ_add]
  rfl

/-- After the projection. -/
theorem v4_apply (b : Fin 4) (s : Fin 4096) (l : Fin 1024) :
    (val_main_v4 y0 y1 y2 y3 : S4x4096x1024.Idx → EReal) (ix3 b s l) = x1 (rows0 y0 (row b s)) (rows1 y1 (row b s)) (rows2 y2 (row b s)) (ent3 y3) l := by
  have h : (val_main_v4 y0 y1 y2 y3 : S4x4096x1024.Idx → EReal) (ix3 b s l)
      = (y0 : S4x4096x1024.Idx → EReal) (ix3 b s l) + dot (fun k => (val_main_v2 y1 y2 : S4x4096x1024.Idx → EReal) (ix3 b s k)) fun k => ent3 y3 k l := by
    pointwise [val_main_v4, val_main_v3, dot, ent3]
  rw [h, dot_split (a := 256) (b := 768) rfl]
  unfold x1
  rw [rows0_row, add_assoc]
  refine congrArg₂ (· + ·) rfl (congrArg₂ (· + ·) ?_ ?_)
  · refine congrArg₂ dot (funext fun k => ?_) rfl
    rw [v2_lo y1 y2 b s _ k.isLt, rows1_row]
  · refine congrArg₂ dot (funext fun k => ?_) rfl
    rw [v2_hi y1 y2 b s _ (by show ¬ 256 + k.val < 256; omega), rows2_row]
    have e : (⟨256 + k.val - 256, by omega⟩ : Fin 768) = k := Fin.ext (by show 256 + k.val - 256 = k.val; omega)
    exact congrArg (fun k => (y2 : S4x4096x768.Idx → EReal) (ix3 b s k)) e

/-- Normalised. -/
theorem v17_apply (b : Fin 4) (s : Fin 4096) (l : Fin 1024) :
    (val_main_v17 y0 y1 y2 y3 y4 : S4x4096x1024.Idx → EReal) (ix3 b s l)
      = rms (x1 (rows0 y0 (row b s)) (rows1 y1 (row b s)) (rows2 y2 (row b s)) (ent3 y3)) (ent4 y4) l := by
  have h4 := fun k => v4_apply y0 y1 y2 y3 b s k
  pointwise [val_main_v17, val_main_v16, val_main_v15, val_main_v14, val_main_v13, val_main_v12, val_main_v11, val_main_v10, val_main_v9, val_main_v8, val_main_v7, val_main_v6, val_main_v5, val_main_cst, val_main_cst_0, val_main_cst_1]
  simp only [h4]
  unfold rms ent4
  rfl

/-- The hidden channels. -/
theorem v27_apply (b : Fin 4) (s : Fin 4096) (k : Fin 3584) :
    (val_main_v27 y0 y1 y2 y3 y4 y5 y6 : S4x4096x3584.Idx → EReal) (ix3 b s k)
      = hid (rms (x1 (rows0 y0 (row b s)) (rows1 y1 (row b s)) (rows2 y2 (row b s)) (ent3 y3)) (ent4 y4)) (ent5 y5) (ent5 y6) k := by
  have h17 := fun k => v17_apply y0 y1 y2 y3 y4 b s k
  pointwise [val_main_v27, val_main_v26, val_main_v25, val_main_v24, val_main_v21, val_main_v20, val_main_v19, val_main_v18, val_main_call0_v5, val_main_call0_v4, val_main_call0_v3, val_main_call0_v2, val_main_call0_v1, val_main_call0_v0, val_main_call0_cst, val_main_call0_cst_0]
  simp only [h17]
  unfold hid gu sgm dot ent5
  simp only [sub_eq_add_neg, zero_add]

/-- The result. -/
theorem v29_apply (b : Fin 4) (s : Fin 4096) (l : Fin 1024) :
    (val_main_v29 y0 y1 y2 y3 y4 y5 y6 y7 : S4x4096x1024.Idx → EReal) (ix3 b s l) = ffa y0 y1 y2 y3 y4 y5 y6 y7 (row b s) l := by
  have h27 := fun k => v27_apply y0 y1 y2 y3 y4 y5 y6 b s k
  have h : (val_main_v29 y0 y1 y2 y3 y4 y5 y6 y7 : S4x4096x1024.Idx → EReal) (ix3 b s l)
      = (val_main_v4 y0 y1 y2 y3 : S4x4096x1024.Idx → EReal) (ix3 b s l) + dot (fun k => (val_main_v27 y0 y1 y2 y3 y4 y5 y6 : S4x4096x3584.Idx → EReal) (ix3 b s k)) fun k => ent7 y7 k l := by
    pointwise [val_main_v29, val_main_v28, val_main_v23, val_main_v22, dot, ent7]
  rw [h, v4_apply, dot_split (a := 1792) (b := 1792) rfl]
  simp only [h27]
  unfold ffa ff mix
  rw [add_assoc]
  rfl

/-- The result as kept, by rows. -/
theorem v30_apply (R : Fin 16384) (l : Fin 1024) :
    (val_main_v30 y0 y1 y2 y3 y4 y5 y6 y7 : S16384x1024.Idx → EReal) (ix2 R l) = ffa y0 y1 y2 y3 y4 y5 y6 y7 R l := by
  have h : (val_main_v30 y0 y1 y2 y3 y4 y5 y6 y7 : S16384x1024.Idx → EReal) (ix2 R l)
      = (val_main_v29 y0 y1 y2 y3 y4 y5 y6 y7 : S4x4096x1024.Idx → EReal) (ix3 ⟨R.val / 4096, by omega⟩ ⟨R.val % 4096, by omega⟩ l) := by
    pointwise [val_main_v30]
  have e : row ⟨R.val / 4096, by omega⟩ ⟨R.val % 4096, by omega⟩ = R := Fin.ext (by show R.val / 4096 * 4096 + R.val % 4096 = R.val; omega)
  rw [h, v29_apply, e]

end Cert.FfnReferenceIdeal.Ff

end
-- ==== Proof.FfnTie.lean ====
module

public import proofs.«01_k».proof.Defs
public import proofs.«01_k».proof.Proof.FfnFinal
public import proofs.«01_k».proof.Proof.FfnRefRead
public import proofs.«01_k».proof.Proof.Gen.FfnReferenceIdeal.Run
public import proofs.«01_k».proof.Proof.Gen.Ffn.Frame
public import Idealize.ShloMosaic.Lib.Quiescent

@[expose] public section

set_option maxRecDepth 65536

noncomputable section

/-! The channel mixer's claims. -/

namespace Cert.FfnTie

open Idealize.ShloMosaic Idealize.ShloMosaic.TcCoe Idealize.SL.Sem

/-- The reference's result is the formula in its own memory. -/
theorem reference_eq (m' : (ℓ : Loc Cert.FfnReferenceIdeal.nD Cert.FfnReferenceIdeal.τ Cert.FfnReferenceIdeal.sig) → Buf (Elt Ideal) ℓ) (c : Dev Cert.FfnReferenceIdeal.nD) :
    (Cert.FfnReferenceIdeal.Value.res_main_v30 m' c : Cert.FfnReferenceIdeal.S16384x1024.Idx → EReal)
      = fun i => Cert.FfnIdeal.Ff.ffa (m' ((c.tc : Thread Cert.FfnReferenceIdeal.nD Cert.FfnReferenceIdeal.τ).loc Cert.FfnReferenceIdeal.main_arg0))
          (m' ((c.tc : Thread Cert.FfnReferenceIdeal.nD Cert.FfnReferenceIdeal.τ).loc Cert.FfnReferenceIdeal.main_arg1))
          (m' ((c.tc : Thread Cert.FfnReferenceIdeal.nD Cert.FfnReferenceIdeal.τ).loc Cert.FfnReferenceIdeal.main_arg2))
          (m' ((c.tc : Thread Cert.FfnReferenceIdeal.nD Cert.FfnReferenceIdeal.τ).loc Cert.FfnReferenceIdeal.main_arg3))
          (m' ((c.tc : Thread Cert.FfnReferenceIdeal.nD Cert.FfnReferenceIdeal.τ).loc Cert.FfnReferenceIdeal.main_arg4))
          (m' ((c.tc : Thread Cert.FfnReferenceIdeal.nD Cert.FfnReferenceIdeal.τ).loc Cert.FfnReferenceIdeal.main_arg5))
          (m' ((c.tc : Thread Cert.FfnReferenceIdeal.nD Cert.FfnReferenceIdeal.τ).loc Cert.FfnReferenceIdeal.main_arg6))
          (m' ((c.tc : Thread Cert.FfnReferenceIdeal.nD Cert.FfnReferenceIdeal.τ).loc Cert.FfnReferenceIdeal.main_arg7)) (i 0) (i 1) := by
  refine funext fun i => ?_
  rw [Cert.FfnReferenceIdeal.Read.val_main_v30_eq m' c]
  have h := Cert.FfnReferenceIdeal.Ff.v30_apply (m' ((c.tc : Thread Cert.FfnReferenceIdeal.nD Cert.FfnReferenceIdeal.τ).loc Cert.FfnReferenceIdeal.main_arg0))
          (m' ((c.tc : Thread Cert.FfnReferenceIdeal.nD Cert.FfnReferenceIdeal.τ).loc Cert.FfnReferenceIdeal.main_arg1))
          (m' ((c.tc : Thread Cert.FfnReferenceIdeal.nD Cert.FfnReferenceIdeal.τ).loc Cert.FfnReferenceIdeal.main_arg2))
          (m' ((c.tc : Thread Cert.FfnReferenceIdeal.nD Cert.FfnReferenceIdeal.τ).loc Cert.FfnReferenceIdeal.main_arg3))
          (m' ((c.tc : Thread Cert.FfnReferenceIdeal.nD Cert.FfnReferenceIdeal.τ).loc Cert.FfnReferenceIdeal.main_arg4))
          (m' ((c.tc : Thread Cert.FfnReferenceIdeal.nD Cert.FfnReferenceIdeal.τ).loc Cert.FfnReferenceIdeal.main_arg5))
          (m' ((c.tc : Thread Cert.FfnReferenceIdeal.nD Cert.FfnReferenceIdeal.τ).loc Cert.FfnReferenceIdeal.main_arg6))
          (m' ((c.tc : Thread Cert.FfnReferenceIdeal.nD Cert.FfnReferenceIdeal.τ).loc Cert.FfnReferenceIdeal.main_arg7)) (i 0) (i 1)
  rw [← eq_ix2 i] at h
  exact h

/-- The reference runs, leaves its arguments and has no counter to leave. -/
theorem reference_frame : Cert.quiescent_FfnReferenceIdeal := fun m ρ _ =>
  (θ_run Cert.FfnReferenceIdeal.defs _ _).mono (fun r h => ⟨fun c => (h c).2, sem_eq_zero_of_no_sems (by decide) r.2⟩) (Cert.FfnReferenceIdeal.Value.run m ρ)

/-- The kernel runs on machine words, -/
theorem frame : Cert.quiescent_Ffn := fun m ρ _ => Cert.Ffn.Gen.frame m ρ

/-- and on the extended reals. -/
theorem ideal_frame : Cert.quiescent_FfnIdeal := fun m ρ _ => Cert.FfnIdeal.Gen.frame m ρ

/-- From equal arguments the two programs end with equal results. -/
theorem algebraic : Cert.algebraic_FfnIdeal_FfnReferenceIdeal := by
  intro m g m' g' _ hargs
  refine ⟨fun c => Cert.FfnIdeal.Ff.G m c, ?_, ?_⟩
  · exact (θ_run _ _ _).mono (fun r hr c => ⟨(hr c).1.trans (Cert.FfnIdeal.Ff.G8_eq m c), (hr c).2⟩) (Cert.FfnIdeal.Value.run m g)
  · refine (θ_run _ _ _).mono (fun r hr c => ⟨?_, (hr c).2⟩) (Cert.FfnReferenceIdeal.Value.run m' g')
    obtain ⟨e0, e1, e2, e3, e4, e5, e6, e7⟩ := hargs c
    refine (hr c).1.trans ((reference_eq m' c).trans ?_)
    rw [e0, e1, e2, e3, e4, e5, e6, e7]
    rfl

end Cert.FfnTie

end
-- ==== Proof.EvenBody.lean ====
module

public import proofs.«01_k».proof.Proof.Gen.EvenProjIdeal.Value
public import proofs.«01_k».proof.Proof.FfnHost
public import Idealize.ShloMosaic.Lib.VecWindow
public import Idealize.ShloMosaic.Lib.WholeRead
public import Idealize.ShloMosaic.Lib.Tactic
public import Idealize.ShloMosaic.Lib.Pipeline.ValueKit

@[expose] public section

set_option maxRecDepth 65536

noncomputable section

/-! What a grid point of the input projections of even layers leaves in its result blocks. -/

namespace Cert.EvenProjIdeal.Np

open Cert.EvenProjIdeal Cert.EvenProjIdeal.Gen
open Idealize.ShloMosaic Idealize.ShloMosaic.TcCoe Idealize.ShloMosaic.Tactic
open Idealize.SL Idealize.SL.Sem
open Cert.FfnIdeal.Ff (dot rms)

/-- A block's rows normalised. -/
theorem nrm_apply (v0 : Vec Ideal S512x1024 .f32) (v2 : Vec Ideal S1x1024 .f32) (r : Fin 512) (l : Fin 1024) :
    (k0_pay5 v0 v2 : S512x1024.Idx → EReal) (ix2 r l) = rms (fun d => v0 (ix2 r d)) (fun d => v2 (ix2 0 d)) l := by
  pointwise [k0_pay5, rms]

theorem pay2_apply (h : Vec Ideal S512x1024 .bf16) (w : Vec Ideal S1024x256 .bf16) (r : Fin 512) (k : Fin 256) :
    (k0_pay2 h w : S512x256.Idx → EReal) (ix2 r k) = dot (fun d => h (ix2 r d)) fun d => w (ix2 d k) := by
  pointwise [k0_pay2, dot]

theorem pay1_apply (h : Vec Ideal S512x1024 .bf16) (w : Vec Ideal S1024x512 .bf16) (r : Fin 512) (k : Fin 512) :
    (k0_pay1 h w : S512x512.Idx → EReal) (ix2 r k) = dot (fun d => h (ix2 r d)) fun d => w (ix2 d k) := by
  pointwise [k0_pay1, dot]

theorem pay8_apply (v0 : Vec Ideal S512x1024 .f32) (v2 : Vec Ideal S1x1024 .f32) (w : Vec Ideal S1024x512 .bf16) (r : Fin 512) (k : Fin 512) :
    (k0_pay8 v0 v2 w : S512x512.Idx → EReal) (ix2 r k) = dot (fun d => k0_pay5 v0 v2 (ix2 r d)) fun d => w (ix2 d k) := by
  unfold k0_pay8
  generalize k0_pay5 v0 v2 = h
  pointwise [dot]

theorem pay7_apply (v0 : Vec Ideal S512x1024 .f32) (v2 : Vec Ideal S1x1024 .f32) (w : Vec Ideal S1024x512 .bf16) (r : Fin 512) (k : Fin 512) :
    (k0_pay7 v0 v2 w : S512x512.Idx → EReal) (ix2 r k) = dot (fun d => k0_pay5 v0 v2 (ix2 r d)) fun d => w (ix2 d k) := by
  unfold k0_pay7
  generalize k0_pay5 v0 v2 = h
  pointwise [dot]

theorem pay6_apply (v0 : Vec Ideal S512x1024 .f32) (v2 : Vec Ideal S1x1024 .f32) (w : Vec Ideal S1024x512 .bf16) (r : Fin 512) (k : Fin 512) :
    (k0_pay6 v0 v2 w : S512x512.Idx → EReal) (ix2 r k) = dot (fun d => k0_pay5 v0 v2 (ix2 r d)) fun d => w (ix2 d k) := by
  unfold k0_pay6
  generalize k0_pay5 v0 v2 = h
  pointwise [dot]

theorem pay3_apply (h : Vec Ideal S512x1024 .bf16) (w : Vec Ideal S1024x256 .bf16) (r : Fin 512) (k : Fin 256) :
    (k0_pay3 h w : S512x256.Idx → EReal) (ix2 r k) = dot (fun d => h (ix2 r d)) fun d => w (ix2 d k) := by
  pointwise [k0_pay3, dot]

theorem pay4_apply (h : Vec Ideal S512x1024 .bf16) (w : Vec Ideal S1024x128 .bf16) (r : Fin 512) (k : Fin 128) :
    (k0_pay4 h w : S512x128.Idx → EReal) (ix2 r k) = dot (fun d => h (ix2 r d)) fun d => w (ix2 d k) := by
  pointwise [k0_pay4, dot]

/-- A load of the whole of an array reads it. -/
theorem ld_all {s : Shape} {e : EltTy} {m : Memref sig .tc .vmem s e} (h : m.IsWhole) (x : Vec Ideal s e) {off : Fin s.rank → ℕ} (hz : ∀ a, off a = 0) (inb : ∀ a, off a + s.size a ≤ s.size a) :
    View.readAt (Elt Ideal) m.view (Rect.unit (s := s) off s.size inb).toLoadRect (h.unread x) = x := by
  funext y
  rw [h.readAt_unread]
  refine congrArg x (funext fun a => ?_)
  exact Fin.ext (by show off a + 1 * (y a).val = (y a).val; rw [hz a]; omega)

/-- The block of result 0: the normalised rows times the columns of its weights. -/
theorem out5 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2304 .bf16) (harg3 : arg3.IsWhole) (arg4 : Memref sig .tc .vmem S1024x256 .bf16) (harg4 : arg4.IsWhole) (arg5 : Memref sig .tc .vmem S1024x128 .bf16) (harg5 : arg5.IsWhole) (arg6 : Memref sig .tc .vmem S512x2304 .bf16) (harg6 : arg6.IsWhole) (arg7 : Memref sig .tc .vmem S512x256 .f32) (harg7 : arg7.IsWhole) (arg8 : Memref sig .tc .vmem S512x128 .f32) (harg8 : arg8.IsWhole) (x0 : Vec Ideal S512x1024 .f32) (x1 : Vec Ideal S1x1024 .f32) (x2 : Vec Ideal S1024x2304 .bf16) (x3 : Vec Ideal S1024x256 .bf16) (x4 : Vec Ideal S1024x128 .bf16) (r : Fin 512) (j : Fin 2304) :
    (out0_A_5 c i arg1 harg1 arg2 harg2 arg3 harg3 arg4 harg4 arg5 harg5 arg6 harg6 arg7 harg7 arg8 harg8 x0 x1 x2 x3 x4 : S512x2304.Idx → EReal) (ix2 r j) = dot (fun d => k0_pay5 x0 x1 (ix2 r d)) fun d => x2 (ix2 d j) := by
  have e0 := ld_all harg1 x0 (off := ![0, 0]) (by decide) inb_S512x1024_S512x1024_0_0
  have e1 := ld_all harg2 x1 (off := ![0, 0]) (by decide) inb_S1x1024_S1x1024_0_0
  let D : S512x2304.Idx → EReal := fun y => dot (fun d => k0_pay5 x0 x1 (ix2 (y 0) d)) fun d => x2 (ix2 d (y 1))
  show _ = D (ix2 r j)
  unfold out0_A_5
  refine View.read_writes_apply_of_pieces VO0_5 _ D _ ?_ _ (cover0_A_5 c i arg1 harg1 arg2 harg2 arg3 harg3 arg4 harg4 arg5 harg5 arg6 harg6 arg7 harg7 arg8 harg8 x0 x1 x2 x3 x4 _)
  unfold kernelRun0_A
  dsimp only
  intro p hp x
  simp only [List.mem_cons, List.not_mem_nil, or_false] at hp
  rcases hp with rfl | rfl | rfl | rfl | rfl
  · refine (congrArg _ (eq_ix2 (x : S512x256.Idx))).trans ((pay2_apply _ _ (x 0) (x 1)).trans ?_)
    refine congrArg₂ dot (funext fun d => ?_) (funext fun d => ?_)
    · refine Eq.trans (b := (k0_pay5 x0 x1 : S512x1024.Idx → EReal) (ix2 (x 0) d)) ?_ ?_
      · exact congrArg (· (ix2 (x 0) d)) (congr (congrArg k0_pay5 e0) e1)
      · exact congrArg (fun r => (k0_pay5 x0 x1 : S512x1024.Idx → EReal) (ix2 r d)) (Fin.ext (by show (x 0).val = 0 + 1 * (x 0).val; omega))
    · rw [harg3.readAt_unread]; refine congrArg (x2 : S1024x2304.Idx → EReal) (funext fun a => ?_)
      match a with
      | ⟨0, _⟩ => exact Fin.ext (by show 0 + 1 * d.val = d.val; omega)
      | ⟨1, _⟩ => exact Fin.ext (by show 2048 + 1 * (x 1).val = 2048 + 1 * (x 1).val; omega)
  · refine (congrArg _ (eq_ix2 (x : S512x512.Idx))).trans ((pay1_apply _ _ (x 0) (x 1)).trans ?_)
    refine congrArg₂ dot (funext fun d => ?_) (funext fun d => ?_)
    · refine Eq.trans (b := (k0_pay5 x0 x1 : S512x1024.Idx → EReal) (ix2 (x 0) d)) ?_ ?_
      · exact congrArg (· (ix2 (x 0) d)) (congr (congrArg k0_pay5 e0) e1)
      · exact congrArg (fun r => (k0_pay5 x0 x1 : S512x1024.Idx → EReal) (ix2 r d)) (Fin.ext (by show (x 0).val = 0 + 1 * (x 0).val; omega))
    · rw [harg3.readAt_unread]; refine congrArg (x2 : S1024x2304.Idx → EReal) (funext fun a => ?_)
      match a with
      | ⟨0, _⟩ => exact Fin.ext (by show 0 + 1 * d.val = d.val; omega)
      | ⟨1, _⟩ => exact Fin.ext (by show 1536 + 1 * (x 1).val = 1536 + 1 * (x 1).val; omega)
  · refine (congrArg _ (eq_ix2 (x : S512x512.Idx))).trans ((pay8_apply _ _ _ (x 0) (x 1)).trans ?_)
    refine congrArg₂ dot (funext fun d => ?_) (funext fun d => ?_)
    · refine Eq.trans (b := (k0_pay5 x0 x1 : S512x1024.Idx → EReal) (ix2 (x 0) d)) ?_ ?_
      · exact congrArg (· (ix2 (x 0) d)) (congr (congrArg k0_pay5 e0) e1)
      · exact congrArg (fun r => (k0_pay5 x0 x1 : S512x1024.Idx → EReal) (ix2 r d)) (Fin.ext (by show (x 0).val = 0 + 1 * (x 0).val; omega))
    · rw [harg3.readAt_unread]; refine congrArg (x2 : S1024x2304.Idx → EReal) (funext fun a => ?_)
      match a with
      | ⟨0, _⟩ => exact Fin.ext (by show 0 + 1 * d.val = d.val; omega)
      | ⟨1, _⟩ => exact Fin.ext (by show 1024 + 1 * (x 1).val = 1024 + 1 * (x 1).val; omega)
  · refine (congrArg _ (eq_ix2 (x : S512x512.Idx))).trans ((pay7_apply _ _ _ (x 0) (x 1)).trans ?_)
    refine congrArg₂ dot (funext fun d => ?_) (funext fun d => ?_)
    · refine Eq.trans (b := (k0_pay5 x0 x1 : S512x1024.Idx → EReal) (ix2 (x 0) d)) ?_ ?_
      · exact congrArg (· (ix2 (x 0) d)) (congr (congrArg k0_pay5 e0) e1)
      · exact congrArg (fun r => (k0_pay5 x0 x1 : S512x1024.Idx → EReal) (ix2 r d)) (Fin.ext (by show (x 0).val = 0 + 1 * (x 0).val; omega))
    · rw [harg3.readAt_unread]; refine congrArg (x2 : S1024x2304.Idx → EReal) (funext fun a => ?_)
      match a with
      | ⟨0, _⟩ => exact Fin.ext (by show 0 + 1 * d.val = d.val; omega)
      | ⟨1, _⟩ => exact Fin.ext (by show 512 + 1 * (x 1).val = 512 + 1 * (x 1).val; omega)
  · refine (congrArg _ (eq_ix2 (x : S512x512.Idx))).trans ((pay6_apply _ _ _ (x 0) (x 1)).trans ?_)
    refine congrArg₂ dot (funext fun d => ?_) (funext fun d => ?_)
    · refine Eq.trans (b := (k0_pay5 x0 x1 : S512x1024.Idx → EReal) (ix2 (x 0) d)) ?_ ?_
      · exact congrArg (· (ix2 (x 0) d)) (congr (congrArg k0_pay5 e0) e1)
      · exact congrArg (fun r => (k0_pay5 x0 x1 : S512x1024.Idx → EReal) (ix2 r d)) (Fin.ext (by show (x 0).val = 0 + 1 * (x 0).val; omega))
    · rw [harg3.readAt_unread]; refine congrArg (x2 : S1024x2304.Idx → EReal) (funext fun a => ?_)
      match a with
      | ⟨0, _⟩ => exact Fin.ext (by show 0 + 1 * d.val = d.val; omega)
      | ⟨1, _⟩ => exact Fin.ext (by show 0 + 1 * (x 1).val = 0 + 1 * (x 1).val; omega)

/-- The block of result 1: the normalised rows times the columns of its weights. -/
theorem out6 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2304 .bf16) (harg3 : arg3.IsWhole) (arg4 : Memref sig .tc .vmem S1024x256 .bf16) (harg4 : arg4.IsWhole) (arg5 : Memref sig .tc .vmem S1024x128 .bf16) (harg5 : arg5.IsWhole) (arg6 : Memref sig .tc .vmem S512x2304 .bf16) (harg6 : arg6.IsWhole) (arg7 : Memref sig .tc .vmem S512x256 .f32) (harg7 : arg7.IsWhole) (arg8 : Memref sig .tc .vmem S512x128 .f32) (harg8 : arg8.IsWhole) (x0 : Vec Ideal S512x1024 .f32) (x1 : Vec Ideal S1x1024 .f32) (x2 : Vec Ideal S1024x2304 .bf16) (x3 : Vec Ideal S1024x256 .bf16) (x4 : Vec Ideal S1024x128 .bf16) (r : Fin 512) (j : Fin 256) :
    (out0_A_6 c i arg1 harg1 arg2 harg2 arg3 harg3 arg4 harg4 arg5 harg5 arg6 harg6 arg7 harg7 arg8 harg8 x0 x1 x2 x3 x4 : S512x256.Idx → EReal) (ix2 r j) = dot (fun d => k0_pay5 x0 x1 (ix2 r d)) fun d => x3 (ix2 d j) := by
  have e0 := ld_all harg1 x0 (off := ![0, 0]) (by decide) inb_S512x1024_S512x1024_0_0
  have e1 := ld_all harg2 x1 (off := ![0, 0]) (by decide) inb_S1x1024_S1x1024_0_0
  let D : S512x256.Idx → EReal := fun y => dot (fun d => k0_pay5 x0 x1 (ix2 (y 0) d)) fun d => x3 (ix2 d (y 1))
  show _ = D (ix2 r j)
  unfold out0_A_6
  refine View.read_writes_apply_of_pieces VO0_6 _ D _ ?_ _ (cover0_A_6 c i arg1 harg1 arg2 harg2 arg3 harg3 arg4 harg4 arg5 harg5 arg6 harg6 arg7 harg7 arg8 harg8 x0 x1 x2 x3 x4 _)
  unfold kernelRun0_A
  dsimp only
  intro p hp x
  simp only [List.mem_cons, List.not_mem_nil, or_false] at hp
  subst hp
  · refine (congrArg _ (eq_ix2 (x : S512x256.Idx))).trans ((pay3_apply _ _ (x 0) (x 1)).trans ?_)
    refine congrArg₂ dot (funext fun d => ?_) (funext fun d => ?_)
    · refine Eq.trans (b := (k0_pay5 x0 x1 : S512x1024.Idx → EReal) (ix2 (x 0) d)) ?_ ?_
      · exact congrArg (· (ix2 (x 0) d)) (congr (congrArg k0_pay5 e0) e1)
      · exact congrArg (fun r => (k0_pay5 x0 x1 : S512x1024.Idx → EReal) (ix2 r d)) (Fin.ext (by show (x 0).val = 0 + 1 * (x 0).val; omega))
    · rw [harg4.readAt_unread]; refine congrArg (x3 : S1024x256.Idx → EReal) (funext fun a => ?_)
      match a with
      | ⟨0, _⟩ => exact Fin.ext (by show 0 + 1 * d.val = d.val; omega)
      | ⟨1, _⟩ => exact Fin.ext (by show 0 + 1 * (x 1).val = 0 + 1 * (x 1).val; omega)

/-- The block of result 2: the normalised rows times the columns of its weights. -/
theorem out7 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2304 .bf16) (harg3 : arg3.IsWhole) (arg4 : Memref sig .tc .vmem S1024x256 .bf16) (harg4 : arg4.IsWhole) (arg5 : Memref sig .tc .vmem S1024x128 .bf16) (harg5 : arg5.IsWhole) (arg6 : Memref sig .tc .vmem S512x2304 .bf16) (harg6 : arg6.IsWhole) (arg7 : Memref sig .tc .vmem S512x256 .f32) (harg7 : arg7.IsWhole) (arg8 : Memref sig .tc .vmem S512x128 .f32) (harg8 : arg8.IsWhole) (x0 : Vec Ideal S512x1024 .f32) (x1 : Vec Ideal S1x1024 .f32) (x2 : Vec Ideal S1024x2304 .bf16) (x3 : Vec Ideal S1024x256 .bf16) (x4 : Vec Ideal S1024x128 .bf16) (r : Fin 512) (j : Fin 128) :
    (out0_A_7 c i arg1 harg1 arg2 harg2 arg3 harg3 arg4 harg4 arg5 harg5 arg6 harg6 arg7 harg7 arg8 harg8 x0 x1 x2 x3 x4 : S512x128.Idx → EReal) (ix2 r j) = dot (fun d => k0_pay5 x0 x1 (ix2 r d)) fun d => x4 (ix2 d j) := by
  have e0 := ld_all harg1 x0 (off := ![0, 0]) (by decide) inb_S512x1024_S512x1024_0_0
  have e1 := ld_all harg2 x1 (off := ![0, 0]) (by decide) inb_S1x1024_S1x1024_0_0
  let D : S512x128.Idx → EReal := fun y => dot (fun d => k0_pay5 x0 x1 (ix2 (y 0) d)) fun d => x4 (ix2 d (y 1))
  show _ = D (ix2 r j)
  unfold out0_A_7
  refine View.read_writes_apply_of_pieces VO0_7 _ D _ ?_ _ (cover0_A_7 c i arg1 harg1 arg2 harg2 arg3 harg3 arg4 harg4 arg5 harg5 arg6 harg6 arg7 harg7 arg8 harg8 x0 x1 x2 x3 x4 _)
  unfold kernelRun0_A
  dsimp only
  intro p hp x
  simp only [List.mem_cons, List.not_mem_nil, or_false] at hp
  subst hp
  · refine (congrArg _ (eq_ix2 (x : S512x128.Idx))).trans ((pay4_apply _ _ (x 0) (x 1)).trans ?_)
    refine congrArg₂ dot (funext fun d => ?_) (funext fun d => ?_)
    · refine Eq.trans (b := (k0_pay5 x0 x1 : S512x1024.Idx → EReal) (ix2 (x 0) d)) ?_ ?_
      · exact congrArg (· (ix2 (x 0) d)) (congr (congrArg k0_pay5 e0) e1)
      · exact congrArg (fun r => (k0_pay5 x0 x1 : S512x1024.Idx → EReal) (ix2 r d)) (Fin.ext (by show (x 0).val = 0 + 1 * (x 0).val; omega))
    · rw [harg5.readAt_unread]; refine congrArg (x4 : S1024x128.Idx → EReal) (funext fun a => ?_)
      match a with
      | ⟨0, _⟩ => exact Fin.ext (by show 0 + 1 * d.val = d.val; omega)
      | ⟨1, _⟩ => exact Fin.ext (by show 0 + 1 * (x 1).val = 0 + 1 * (x 1).val; omega)

end Cert.EvenProjIdeal.Np

end
-- ==== Proof.EvenFinal.lean ====
module

public import proofs.«01_k».proof.Proof.EvenBody
public import Idealize.ShloMosaic.Lib.StableHlo.ReadAt

@[expose] public section

set_option maxRecDepth 65536

noncomputable section

/-! The result arrays of the input projections of even layers after the run: the formula at every entry. -/

namespace Cert.EvenProjIdeal.Np

open Cert.EvenProjIdeal Cert.EvenProjIdeal.Gen Cert.EvenProjIdeal.Value
open Idealize.ShloMosaic Idealize.ShloMosaic.TcCoe Idealize.SL.Sem
open Idealize.ShloMosaic.Pipeline (Dat)
open Cert.FfnIdeal.Ff (dot rms rows0 ent4)

variable (m : (ℓ : Loc nD τ sig) → Buf (Elt Ideal) ℓ) (c : Dev nD)

/-- A weight. -/
def wt (w : S1024x2572.Idx → EReal) (k : Fin 1024) (j : Fin 2572) : EReal := w (ix2 k j)
/-- An entry of the projection: a row normalised times a column of the weights. -/
def pr (x : S4x4096x1024.Idx → EReal) (g : S1024.Idx → EReal) (w : S1024x2572.Idx → EReal) (R : Fin 16384) (j : Fin 2572) : EReal :=
  dot (rms (rows0 x R) (ent4 g)) fun k => wt w k j
/-- Result 0. -/
def res0 (x : S4x4096x1024.Idx → EReal) (g : S1024.Idx → EReal) (w : S1024x2572.Idx → EReal) (R : Fin 16384) (j : Fin 2304) : EReal :=
  pr x g w R ⟨256 + j.val, by omega⟩
/-- Result 1. -/
def res1 (x : S4x4096x1024.Idx → EReal) (g : S1024.Idx → EReal) (w : S1024x2572.Idx → EReal) (R : Fin 16384) (j : Fin 256) : EReal :=
  pr x g w R ⟨0 + j.val, by omega⟩
/-- Result 2: the gates' columns, then zeros. -/
def res2 (x : S4x4096x1024.Idx → EReal) (g : S1024.Idx → EReal) (w : S1024x2572.Idx → EReal) (R : Fin 16384) (j : Fin 128) : EReal :=
  if h : j.val < 12 then pr x g w R ⟨2560 + j.val, by omega⟩ else 0

theorem Vx (R : Fin 16384) (l : Fin 1024) : (V m c main_v7 : S16384x1024.Idx → EReal) (ix2 R l) = rows0 (m (c, Proc.tc.devRef main_arg0)) R l := by
  unfold V
  after_reads_at
  rfl
theorem Vg (l : Fin 1024) : (V m c main_v8 : S1x1024.Idx → EReal) (ix2 0 l) = ent4 (m (c, Proc.tc.devRef main_arg1)) l := by
  unfold V
  after_reads_at
  rfl
theorem Vw0 (d : Fin 1024) (j : Fin 2304) : (V m c main_v3 : S1024x2304.Idx → EReal) (ix2 d j) = wt (m (c, Proc.tc.devRef main_arg2)) d ⟨256 + j.val, by omega⟩ := by
  unfold V
  after_reads_at
  unfold wt
  rfl
theorem Vw1 (d : Fin 1024) (j : Fin 256) : (V m c main_v1 : S1024x256.Idx → EReal) (ix2 d j) = wt (m (c, Proc.tc.devRef main_arg2)) d ⟨0 + j.val, by omega⟩ := by
  unfold V
  after_reads_at
  unfold wt
  rfl
theorem Vw2 (d : Fin 1024) (j : Fin 128) : (V m c main_v6 : S1024x128.Idx → EReal) (ix2 d j) = if h : j.val < 12 then wt (m (c, Proc.tc.devRef main_arg2)) d ⟨2560 + j.val, by omega⟩ else 0 := by
  unfold V
  after_reads_at
  by_cases h : j.val < 12
  · rw [dif_pos h, dif_pos h]
    rfl
  · rw [dif_neg h, dif_neg h]
    show (((0#32 : BitVec 32).toInt : ℝ) : EReal) = 0
    rw [show (0#32 : BitVec 32).toInt = 0 from rfl, Int.cast_zero, EReal.coe_zero]

/-- Where each window's block lies. -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

theorem t_lt (t : Fin cfg0.N) : t.val < 32 := lt_of_lt_of_eq t.isLt N_0

/-- A point's row among all rows. -/
def rw_ (t : Fin cfg0.N) (r : Fin 512) : Fin 16384 := ⟨t.val * 512 + r.val, by have := t_lt t; omega⟩

theorem iblk0 (t : Fin cfg0.N) (r : Fin 512) (l : Fin 1024) :
    (iblk m c 0 t : S512x1024.Idx → EReal) (ix2 r l) = rows0 (m (c, Proc.tc.devRef main_arg0)) (rw_ t r) l := by
  obtain ⟨⟨h0, h1⟩, -⟩ := idx_facts t
  refine Eq.trans ?_ (Vx m c (rw_ t r) l)
  unfold iblk
  rw [View.read_apply]
  show V m c main_v7 _ = V m c main_v7 _
  congr 1
  funext a
  apply Fin.ext
  match a with
  | ⟨0, _⟩ => show win0_0.index t (0 : Fin 2) * 512 + 1 * r.val = t.val * 512 + r.val; rw [h0]; omega
  | ⟨1, _⟩ => show win0_0.index t (1 : Fin 2) * 1024 + 1 * l.val = l.val; rw [h1]; omega

theorem iblk1 (t : Fin cfg0.N) (l : Fin 1024) :
    (iblk m c 1 t : S1x1024.Idx → EReal) (ix2 0 l) = ent4 (m (c, Proc.tc.devRef main_arg1)) l := by
  obtain ⟨-, ⟨h0, h1⟩, -⟩ := idx_facts t
  refine Eq.trans ?_ (Vg m c l)
  unfold iblk
  rw [View.read_apply]
  show V m c main_v8 _ = V m c main_v8 _
  congr 1
  funext a
  apply Fin.ext
  match a with
  | ⟨0, _⟩ => show win0_1.index t (0 : Fin 2) * 1 + 1 * 0 = 0; rw [h0]
  | ⟨1, _⟩ => show win0_1.index t (1 : Fin 2) * 1024 + 1 * l.val = l.val; rw [h1]; omega

theorem iblk2 (t : Fin cfg0.N) (d : Fin 1024) (j : Fin 2304) :
    (iblk m c 2 t : S1024x2304.Idx → EReal) (ix2 d j) = (V m c main_v3 : S1024x2304.Idx → EReal) (ix2 d j) := by
  obtain ⟨-, -, ⟨h0, h1⟩, -⟩ := idx_facts t
  unfold iblk
  rw [View.read_apply]
  show V m c main_v3 _ = V m c main_v3 _
  congr 1
  funext a
  apply Fin.ext
  match a with
  | ⟨0, _⟩ => show win0_2.index t (0 : Fin 2) * 1024 + 1 * d.val = d.val; rw [h0]; omega
  | ⟨1, _⟩ => show win0_2.index t (1 : Fin 2) * 2304 + 1 * j.val = j.val; rw [h1]; omega

theorem iblk3 (t : Fin cfg0.N) (d : Fin 1024) (j : Fin 256) :
    (iblk m c 3 t : S1024x256.Idx → EReal) (ix2 d j) = (V m c main_v1 : S1024x256.Idx → EReal) (ix2 d j) := by
  obtain ⟨-, -, -, ⟨h0, h1⟩, -⟩ := idx_facts t
  unfold iblk
  rw [View.read_apply]
  show V m c main_v1 _ = V m c main_v1 _
  congr 1
  funext a
  apply Fin.ext
  match a with
  | ⟨0, _⟩ => show win0_3.index t (0 : Fin 2) * 1024 + 1 * d.val = d.val; rw [h0]; omega
  | ⟨1, _⟩ => show win0_3.index t (1 : Fin 2) * 256 + 1 * j.val = j.val; rw [h1]; omega

theorem iblk4 (t : Fin cfg0.N) (d : Fin 1024) (j : Fin 128) :
    (iblk m c 4 t : S1024x128.Idx → EReal) (ix2 d j) = (V m c main_v6 : S1024x128.Idx → EReal) (ix2 d j) := by
  obtain ⟨-, -, -, -, ⟨h0, h1⟩, -⟩ := idx_facts t
  unfold iblk
  rw [View.read_apply]
  show V m c main_v6 _ = V m c main_v6 _
  congr 1
  funext a
  apply Fin.ext
  match a with
  | ⟨0, _⟩ => show win0_4.index t (0 : Fin 2) * 1024 + 1 * d.val = d.val; rw [h0]; omega
  | ⟨1, _⟩ => show win0_4.index t (1 : Fin 2) * 128 + 1 * j.val = j.val; rw [h1]; omega

theorem nrm_eq (t : Fin cfg0.N) (r : Fin 512) (l : Fin 1024) :
    (k0_pay5 (iblk m c 0 t) (iblk m c 1 t) : S512x1024.Idx → EReal) (ix2 r l) = rms (rows0 (m (c, Proc.tc.devRef main_arg0)) (rw_ t r)) (ent4 (m (c, Proc.tc.devRef main_arg1))) l := by
  rw [nrm_apply]
  refine congrArg₂ (fun a b => rms a b l) (funext fun d => ?_) (funext fun d => ?_)
  · exact iblk0 m c t r d
  · exact iblk1 m c t d

/-- Result array 0. -/
def G5 : Buf (Elt Ideal) ((c : Thread nD τ).loc main_v9_0) := fun i : S16384x2304.Idx => res0 (m (c, Proc.tc.devRef main_arg0)) (m (c, Proc.tc.devRef main_arg1)) (m (c, Proc.tc.devRef main_arg2)) (i 0) (i 1)

theorem point5 (t : Fin cfg0.N) (r : Fin 512) (j : Fin 2304) :
    (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) : S512x2304.Idx → EReal) (ix2 r j) = res0 (m (c, Proc.tc.devRef main_arg0)) (m (c, Proc.tc.devRef main_arg1)) (m (c, Proc.tc.devRef main_arg2)) (rw_ t r) j := by
  refine (out5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) r j).trans ?_
  have hn := fun l => nrm_eq m c t r l
  unfold res0 pr
  refine congrArg₂ dot (funext hn) (funext fun d => ?_)
  exact (iblk2 m c t d j).trans (Vw0 m c d j)

theorem mem_blk5 (t : Fin cfg0.N) (i : S16384x2304.Idx) :
    i ∈ ((cfg0.win 5).blk t).view.set ↔ ∀ a : Fin 2, win0_5.index t a * S512x2304.size a ≤ (i a).val ∧ (i a).val < win0_5.index t a * S512x2304.size a + S512x2304.size a := by
  show i ∈ ((View.whole main_v9_0).slice (win0_5.rect t)).set ↔ _
  rw [View.set_slice_whole, Rect.mem_set_unit]
  exact Iff.rfl

theorem final5 : (dats m 0 c).arrAt 5 cfg0.N = G5 m c := by
  refine (dats m 0 c).arrAt_eq_of_cover 5 _ (fun t hf => ?_) fun i => ?_
  · rw [flushed5_A]
    obtain ⟨-, -, -, -, -, ⟨h0, h1⟩, -⟩ := idx_facts t
    funext y
    have hy0 : (y 0).val < 512 := (y 0).isLt
    have hy1 : (y 1).val < 2304 := (y 1).isLt
    have hx : (cfg0.win 5).xinj (grid0.coords t) y = (ix2 ⟨(y 0).val, hy0⟩ ⟨(y 1).val, hy1⟩ : S512x2304.Idx) := by
      funext a
      match a with
      | ⟨0, _⟩ => rfl
      | ⟨1, _⟩ => rfl
    refine (congrArg (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) : S512x2304.Idx → EReal) hx).trans ((point5 m c t _ _).trans ?_)
    show _ = G5 m c (((cfg0.win 5).blk t).view.emb y)
    refine congrArg₂ (res0 (m (c, Proc.tc.devRef main_arg0)) (m (c, Proc.tc.devRef main_arg1)) (m (c, Proc.tc.devRef main_arg2))) (Fin.ext ?_) (Fin.ext ?_)
    · show t.val * 512 + (y 0).val = win0_5.index t (0 : Fin 2) * 512 + 1 * (y 0).val
      rw [h0]; omega
    · show (y 1).val = win0_5.index t (1 : Fin 2) * 2304 + 1 * (y 1).val
      rw [h1]; omega
  · have hi0 : (i 0).val < 16384 := (i 0).isLt
    have hi1 : (i 1).val < 2304 := (i 1).isLt
    have ht : (i 0).val / 512 < cfg0.N := lt_of_lt_of_eq (by omega : (i 0).val / 512 < 32) N_0.symm
    refine ⟨⟨(i 0).val / 512, ht⟩, flush0_5 _, ?_⟩
    obtain ⟨-, -, -, -, -, ⟨h0, h1⟩, -⟩ := idx_facts ⟨(i 0).val / 512, ht⟩
    refine (mem_blk5 _ i).mpr fun a => ?_
    match a with
    | ⟨0, _⟩ => show win0_5.index _ (0 : Fin 2) * 512 ≤ (i 0).val ∧ (i 0).val < win0_5.index _ (0 : Fin 2) * 512 + 512; rw [h0]; dsimp only; omega
    | ⟨1, _⟩ => show win0_5.index _ (1 : Fin 2) * 2304 ≤ (i 1).val ∧ (i 1).val < win0_5.index _ (1 : Fin 2) * 2304 + 2304; rw [h1]; omega

/-- Result array 1. -/
def G6 : Buf (Elt Ideal) ((c : Thread nD τ).loc main_v9_1) := fun i : S16384x256.Idx => res1 (m (c, Proc.tc.devRef main_arg0)) (m (c, Proc.tc.devRef main_arg1)) (m (c, Proc.tc.devRef main_arg2)) (i 0) (i 1)

theorem point6 (t : Fin cfg0.N) (r : Fin 512) (j : Fin 256) :
    (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) : S512x256.Idx → EReal) (ix2 r j) = res1 (m (c, Proc.tc.devRef main_arg0)) (m (c, Proc.tc.devRef main_arg1)) (m (c, Proc.tc.devRef main_arg2)) (rw_ t r) j := by
  refine (out6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) r j).trans ?_
  have hn := fun l => nrm_eq m c t r l
  unfold res1 pr
  refine congrArg₂ dot (funext hn) (funext fun d => ?_)
  exact (iblk3 m c t d j).trans (Vw1 m c d j)

theorem mem_blk6 (t : Fin cfg0.N) (i : S16384x256.Idx) :
    i ∈ ((cfg0.win 6).blk t).view.set ↔ ∀ a : Fin 2, win0_6.index t a * S512x256.size a ≤ (i a).val ∧ (i a).val < win0_6.index t a * S512x256.size a + S512x256.size a := by
  show i ∈ ((View.whole main_v9_1).slice (win0_6.rect t)).set ↔ _
  rw [View.set_slice_whole, Rect.mem_set_unit]
  exact Iff.rfl

theorem final6 : (dats m 0 c).arrAt 6 cfg0.N = G6 m c := by
  refine (dats m 0 c).arrAt_eq_of_cover 6 _ (fun t hf => ?_) fun i => ?_
  · rw [flushed6_A]
    obtain ⟨-, -, -, -, -, -, ⟨h0, h1⟩, -⟩ := idx_facts t
    funext y
    have hy0 : (y 0).val < 512 := (y 0).isLt
    have hy1 : (y 1).val < 256 := (y 1).isLt
    have hx : (cfg0.win 6).xinj (grid0.coords t) y = (ix2 ⟨(y 0).val, hy0⟩ ⟨(y 1).val, hy1⟩ : S512x256.Idx) := by
      funext a
      match a with
      | ⟨0, _⟩ => rfl
      | ⟨1, _⟩ => rfl
    refine (congrArg (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) : S512x256.Idx → EReal) hx).trans ((point6 m c t _ _).trans ?_)
    show _ = G6 m c (((cfg0.win 6).blk t).view.emb y)
    refine congrArg₂ (res1 (m (c, Proc.tc.devRef main_arg0)) (m (c, Proc.tc.devRef main_arg1)) (m (c, Proc.tc.devRef main_arg2))) (Fin.ext ?_) (Fin.ext ?_)
    · show t.val * 512 + (y 0).val = win0_6.index t (0 : Fin 2) * 512 + 1 * (y 0).val
      rw [h0]; omega
    · show (y 1).val = win0_6.index t (1 : Fin 2) * 256 + 1 * (y 1).val
      rw [h1]; omega
  · have hi0 : (i 0).val < 16384 := (i 0).isLt
    have hi1 : (i 1).val < 256 := (i 1).isLt
    have ht : (i 0).val / 512 < cfg0.N := lt_of_lt_of_eq (by omega : (i 0).val / 512 < 32) N_0.symm
    refine ⟨⟨(i 0).val / 512, ht⟩, flush0_6 _, ?_⟩
    obtain ⟨-, -, -, -, -, -, ⟨h0, h1⟩, -⟩ := idx_facts ⟨(i 0).val / 512, ht⟩
    refine (mem_blk6 _ i).mpr fun a => ?_
    match a with
    | ⟨0, _⟩ => show win0_6.index _ (0 : Fin 2) * 512 ≤ (i 0).val ∧ (i 0).val < win0_6.index _ (0 : Fin 2) * 512 + 512; rw [h0]; dsimp only; omega
    | ⟨1, _⟩ => show win0_6.index _ (1 : Fin 2) * 256 ≤ (i 1).val ∧ (i 1).val < win0_6.index _ (1 : Fin 2) * 256 + 256; rw [h1]; omega

/-- Result array 2. -/
def G7 : Buf (Elt Ideal) ((c : Thread nD τ).loc main_v9_2) := fun i : S16384x128.Idx => res2 (m (c, Proc.tc.devRef main_arg0)) (m (c, Proc.tc.devRef main_arg1)) (m (c, Proc.tc.devRef main_arg2)) (i 0) (i 1)

theorem point7 (t : Fin cfg0.N) (r : Fin 512) (j : Fin 128) :
    (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) : S512x128.Idx → EReal) (ix2 r j) = res2 (m (c, Proc.tc.devRef main_arg0)) (m (c, Proc.tc.devRef main_arg1)) (m (c, Proc.tc.devRef main_arg2)) (rw_ t r) j := by
  refine (out7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) r j).trans ?_
  have hn := fun l => nrm_eq m c t r l
  unfold res2
  by_cases h : j.val < 12
  · rw [dif_pos h]
    unfold pr
    refine congrArg₂ dot (funext hn) (funext fun d => ?_)
    exact (iblk4 m c t d j).trans ((Vw2 m c d j).trans (dif_pos h))
  · rw [dif_neg h]
    unfold dot
    refine Finset.sum_eq_zero fun d _ => ?_
    exact (congrArg (fun z : EReal => (k0_pay5 (iblk m c 0 t) (iblk m c 1 t) : S512x1024.Idx → EReal) (ix2 r d) * z) ((iblk4 m c t d j).trans ((Vw2 m c d j).trans (dif_neg h)))).trans (mul_zero _)

theorem mem_blk7 (t : Fin cfg0.N) (i : S16384x128.Idx) :
    i ∈ ((cfg0.win 7).blk t).view.set ↔ ∀ a : Fin 2, win0_7.index t a * S512x128.size a ≤ (i a).val ∧ (i a).val < win0_7.index t a * S512x128.size a + S512x128.size a := by
  show i ∈ ((View.whole main_v9_2).slice (win0_7.rect t)).set ↔ _
  rw [View.set_slice_whole, Rect.mem_set_unit]
  exact Iff.rfl

theorem final7 : (dats m 0 c).arrAt 7 cfg0.N = G7 m c := by
  refine (dats m 0 c).arrAt_eq_of_cover 7 _ (fun t hf => ?_) fun i => ?_
  · rw [flushed7_A]
    obtain ⟨-, -, -, -, -, -, -, ⟨h0, h1⟩⟩ := idx_facts t
    funext y
    have hy0 : (y 0).val < 512 := (y 0).isLt
    have hy1 : (y 1).val < 128 := (y 1).isLt
    have hx : (cfg0.win 7).xinj (grid0.coords t) y = (ix2 ⟨(y 0).val, hy0⟩ ⟨(y 1).val, hy1⟩ : S512x128.Idx) := by
      funext a
      match a with
      | ⟨0, _⟩ => rfl
      | ⟨1, _⟩ => rfl
    refine (congrArg (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) : S512x128.Idx → EReal) hx).trans ((point7 m c t _ _).trans ?_)
    show _ = G7 m c (((cfg0.win 7).blk t).view.emb y)
    refine congrArg₂ (res2 (m (c, Proc.tc.devRef main_arg0)) (m (c, Proc.tc.devRef main_arg1)) (m (c, Proc.tc.devRef main_arg2))) (Fin.ext ?_) (Fin.ext ?_)
    · show t.val * 512 + (y 0).val = win0_7.index t (0 : Fin 2) * 512 + 1 * (y 0).val
      rw [h0]; omega
    · show (y 1).val = win0_7.index t (1 : Fin 2) * 128 + 1 * (y 1).val
      rw [h1]; omega
  · have hi0 : (i 0).val < 16384 := (i 0).isLt
    have hi1 : (i 1).val < 128 := (i 1).isLt
    have ht : (i 0).val / 512 < cfg0.N := lt_of_lt_of_eq (by omega : (i 0).val / 512 < 32) N_0.symm
    refine ⟨⟨(i 0).val / 512, ht⟩, flush0_7 _, ?_⟩
    obtain ⟨-, -, -, -, -, -, -, ⟨h0, h1⟩⟩ := idx_facts ⟨(i 0).val / 512, ht⟩
    refine (mem_blk7 _ i).mpr fun a => ?_
    match a with
    | ⟨0, _⟩ => show win0_7.index _ (0 : Fin 2) * 512 ≤ (i 0).val ∧ (i 0).val < win0_7.index _ (0 : Fin 2) * 512 + 512; rw [h0]; dsimp only; omega
    | ⟨1, _⟩ => show win0_7.index _ (1 : Fin 2) * 128 ≤ (i 1).val ∧ (i 1).val < win0_7.index _ (1 : Fin 2) * 128 + 128; rw [h1]; omega

end Cert.EvenProjIdeal.Np

end
-- ==== Proof.EvenRefRead.lean ====
module

public import proofs.«01_k».proof.Proof.Gen.EvenProjReferenceIdeal.Read
public import proofs.«01_k».proof.Proof.EvenFinal
public import Idealize.ShloMosaic.Lib.Pointwise

@[expose] public section

set_option maxRecDepth 65536

noncomputable section

/-! The plain input projections of even layers read at an index: the formula. -/

namespace Cert.EvenProjReferenceIdeal.Np

open Cert.EvenProjReferenceIdeal Cert.EvenProjReferenceIdeal.Read Cert.EvenProjReferenceIdeal.Gen
open Idealize.ShloMosaic
open Cert.FfnIdeal.Ff (dot rms rows0 ent4)
open Cert.EvenProjIdeal.Np (wt pr res0 res1 res2)

variable (y0 : (⟨S4x4096x1024, .f32⟩ : BufTy).Contents (Elt Ideal)) (y1 : (⟨S1024, .f32⟩ : BufTy).Contents (Elt Ideal)) (y2 : (⟨S1024x2572, .f32⟩ : BufTy).Contents (Elt Ideal))

/-- Normalised. -/
theorem v12_apply (b : Fin 4) (s : Fin 4096) (l : Fin 1024) :
    (val_main_v12 y0 y1 : S4x4096x1024.Idx → EReal) (ix3 b s l) = rms (fun d => (y0 : S4x4096x1024.Idx → EReal) (ix3 b s d)) (ent4 y1) l := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  unfold rms ent4
  rfl

/-- Projected. -/
theorem v13_apply (R : Fin 16384) (j : Fin 2572) :
    (val_main_v13 y0 y1 y2 : S4x4096x2572.Idx → EReal) (ix3 ⟨R.val / 4096, by omega⟩ ⟨R.val % 4096, by omega⟩ j) = pr y0 y1 y2 R j := by
  have h12 := fun k => v12_apply y0 y1 ⟨R.val / 4096, by omega⟩ ⟨R.val % 4096, by omega⟩ k
  pointwise [val_main_v13]
  simp only [h12]
  rfl

theorem r0_apply (R : Fin 16384) (j : Fin 2304) : (val_main_v19 y0 y1 y2 : S16384x2304.Idx → EReal) (ix2 R j) = res0 y0 y1 y2 R j := by
  have h : (val_main_v19 y0 y1 y2 : S16384x2304.Idx → EReal) (ix2 R j)
      = (val_main_v13 y0 y1 y2 : S4x4096x2572.Idx → EReal) (ix3 ⟨R.val / 4096, by omega⟩ ⟨R.val % 4096, by omega⟩ ⟨256 + j.val, by omega⟩) := by
    pointwise [val_main_v19, val_main_v18, val_main_v15]
  rw [h, v13_apply]
  rfl

theorem r1_apply (R : Fin 16384) (j : Fin 256) : (val_main_v20 y0 y1 y2 : S16384x256.Idx → EReal) (ix2 R j) = res1 y0 y1 y2 R j := by
  have h : (val_main_v20 y0 y1 y2 : S16384x256.Idx → EReal) (ix2 R j)
      = (val_main_v13 y0 y1 y2 : S4x4096x2572.Idx → EReal) (ix3 ⟨R.val / 4096, by omega⟩ ⟨R.val % 4096, by omega⟩ ⟨0 + j.val, by omega⟩) := by
    pointwise [val_main_v20, val_main_v14]
  rw [h, v13_apply]
  rfl

theorem r2_apply (R : Fin 16384) (j : Fin 128) : (val_main_v21 y0 y1 y2 : S16384x128.Idx → EReal) (ix2 R j) = res2 y0 y1 y2 R j := by
  pointwise [val_main_v21, val_main_v17, val_main_v16, val_main_call0_v0, val_main_c]
  split
  · next h =>
    refine (v13_apply y0 y1 y2 R ⟨2560 + j.val, by omega⟩).trans ?_
    unfold res2
    rw [dif_pos h.2.2]
  · next h =>
    unfold res2
    rw [dif_neg (fun hj : j.val < 12 => h ⟨by omega, by omega, hj⟩)]
    show (((0#32 : BitVec 32).toInt : ℝ) : EReal) = 0
    rw [show (0#32 : BitVec 32).toInt = 0 from rfl, Int.cast_zero, EReal.coe_zero]

end Cert.EvenProjReferenceIdeal.Np

end
-- ==== Proof.EvenTie.lean ====
module

public import proofs.«01_k».proof.Defs
public import proofs.«01_k».proof.Proof.EvenFinal
public import proofs.«01_k».proof.Proof.EvenRefRead
public import proofs.«01_k».proof.Proof.Gen.EvenProjReferenceIdeal.Run
public import proofs.«01_k».proof.Proof.Gen.EvenProj.Frame
public import Idealize.ShloMosaic.Lib.Quiescent

@[expose] public section

set_option maxRecDepth 65536

noncomputable section

/-! The claims on the input projections of even layers. -/

namespace Cert.EvenTie

open Idealize.ShloMosaic Idealize.ShloMosaic.TcCoe Idealize.SL.Sem

variable (m' : (ℓ : Loc Cert.EvenProjReferenceIdeal.nD Cert.EvenProjReferenceIdeal.τ Cert.EvenProjReferenceIdeal.sig) → Buf (Elt Ideal) ℓ) (c : Dev Cert.EvenProjReferenceIdeal.nD)

theorem ref0 : (Cert.EvenProjReferenceIdeal.Read.val_main_v19 (m' ((c.tc : Thread Cert.EvenProjReferenceIdeal.nD Cert.EvenProjReferenceIdeal.τ).loc Cert.EvenProjReferenceIdeal.main_arg0)) (m' ((c.tc : Thread Cert.EvenProjReferenceIdeal.nD Cert.EvenProjReferenceIdeal.τ).loc Cert.EvenProjReferenceIdeal.main_arg1)) (m' ((c.tc : Thread Cert.EvenProjReferenceIdeal.nD Cert.EvenProjReferenceIdeal.τ).loc Cert.EvenProjReferenceIdeal.main_arg2)) : Cert.EvenProjReferenceIdeal.S16384x2304.Idx → EReal)
    = fun i => Cert.EvenProjIdeal.Np.res0 (m' ((c.tc : Thread Cert.EvenProjReferenceIdeal.nD Cert.EvenProjReferenceIdeal.τ).loc Cert.EvenProjReferenceIdeal.main_arg0)) (m' ((c.tc : Thread Cert.EvenProjReferenceIdeal.nD Cert.EvenProjReferenceIdeal.τ).loc Cert.EvenProjReferenceIdeal.main_arg1)) (m' ((c.tc : Thread Cert.EvenProjReferenceIdeal.nD Cert.EvenProjReferenceIdeal.τ).loc Cert.EvenProjReferenceIdeal.main_arg2)) (i 0) (i 1) := by
  refine funext fun i => ?_
  have h := Cert.EvenProjReferenceIdeal.Np.r0_apply (m' ((c.tc : Thread Cert.EvenProjReferenceIdeal.nD Cert.EvenProjReferenceIdeal.τ).loc Cert.EvenProjReferenceIdeal.main_arg0)) (m' ((c.tc : Thread Cert.EvenProjReferenceIdeal.nD Cert.EvenProjReferenceIdeal.τ).loc Cert.EvenProjReferenceIdeal.main_arg1)) (m' ((c.tc : Thread Cert.EvenProjReferenceIdeal.nD Cert.EvenProjReferenceIdeal.τ).loc Cert.EvenProjReferenceIdeal.main_arg2)) (i 0) (i 1)
  rw [← eq_ix2 i] at h
  exact h

theorem ref1 : (Cert.EvenProjReferenceIdeal.Read.val_main_v20 (m' ((c.tc : Thread Cert.EvenProjReferenceIdeal.nD Cert.EvenProjReferenceIdeal.τ).loc Cert.EvenProjReferenceIdeal.main_arg0)) (m' ((c.tc : Thread Cert.EvenProjReferenceIdeal.nD Cert.EvenProjReferenceIdeal.τ).loc Cert.EvenProjReferenceIdeal.main_arg1)) (m' ((c.tc : Thread Cert.EvenProjReferenceIdeal.nD Cert.EvenProjReferenceIdeal.τ).loc Cert.EvenProjReferenceIdeal.main_arg2)) : Cert.EvenProjReferenceIdeal.S16384x256.Idx → EReal)
    = fun i => Cert.EvenProjIdeal.Np.res1 (m' ((c.tc : Thread Cert.EvenProjReferenceIdeal.nD Cert.EvenProjReferenceIdeal.τ).loc Cert.EvenProjReferenceIdeal.main_arg0)) (m' ((c.tc : Thread Cert.EvenProjReferenceIdeal.nD Cert.EvenProjReferenceIdeal.τ).loc Cert.EvenProjReferenceIdeal.main_arg1)) (m' ((c.tc : Thread Cert.EvenProjReferenceIdeal.nD Cert.EvenProjReferenceIdeal.τ).loc Cert.EvenProjReferenceIdeal.main_arg2)) (i 0) (i 1) := by
  refine funext fun i => ?_
  have h := Cert.EvenProjReferenceIdeal.Np.r1_apply (m' ((c.tc : Thread Cert.EvenProjReferenceIdeal.nD Cert.EvenProjReferenceIdeal.τ).loc Cert.EvenProjReferenceIdeal.main_arg0)) (m' ((c.tc : Thread Cert.EvenProjReferenceIdeal.nD Cert.EvenProjReferenceIdeal.τ).loc Cert.EvenProjReferenceIdeal.main_arg1)) (m' ((c.tc : Thread Cert.EvenProjReferenceIdeal.nD Cert.EvenProjReferenceIdeal.τ).loc Cert.EvenProjReferenceIdeal.main_arg2)) (i 0) (i 1)
  rw [← eq_ix2 i] at h
  exact h

theorem ref2 : (Cert.EvenProjReferenceIdeal.Read.val_main_v21 (m' ((c.tc : Thread Cert.EvenProjReferenceIdeal.nD Cert.EvenProjReferenceIdeal.τ).loc Cert.EvenProjReferenceIdeal.main_arg0)) (m' ((c.tc : Thread Cert.EvenProjReferenceIdeal.nD Cert.EvenProjReferenceIdeal.τ).loc Cert.EvenProjReferenceIdeal.main_arg1)) (m' ((c.tc : Thread Cert.EvenProjReferenceIdeal.nD Cert.EvenProjReferenceIdeal.τ).loc Cert.EvenProjReferenceIdeal.main_arg2)) : Cert.EvenProjReferenceIdeal.S16384x128.Idx → EReal)
    = fun i => Cert.EvenProjIdeal.Np.res2 (m' ((c.tc : Thread Cert.EvenProjReferenceIdeal.nD Cert.EvenProjReferenceIdeal.τ).loc Cert.EvenProjReferenceIdeal.main_arg0)) (m' ((c.tc : Thread Cert.EvenProjReferenceIdeal.nD Cert.EvenProjReferenceIdeal.τ).loc Cert.EvenProjReferenceIdeal.main_arg1)) (m' ((c.tc : Thread Cert.EvenProjReferenceIdeal.nD Cert.EvenProjReferenceIdeal.τ).loc Cert.EvenProjReferenceIdeal.main_arg2)) (i 0) (i 1) := by
  refine funext fun i => ?_
  have h := Cert.EvenProjReferenceIdeal.Np.r2_apply (m' ((c.tc : Thread Cert.EvenProjReferenceIdeal.nD Cert.EvenProjReferenceIdeal.τ).loc Cert.EvenProjReferenceIdeal.main_arg0)) (m' ((c.tc : Thread Cert.EvenProjReferenceIdeal.nD Cert.EvenProjReferenceIdeal.τ).loc Cert.EvenProjReferenceIdeal.main_arg1)) (m' ((c.tc : Thread Cert.EvenProjReferenceIdeal.nD Cert.EvenProjReferenceIdeal.τ).loc Cert.EvenProjReferenceIdeal.main_arg2)) (i 0) (i 1)
  rw [← eq_ix2 i] at h
  exact h

/-- The reference runs, leaves its arguments and has no counter to leave. -/
theorem reference_frame : Cert.quiescent_EvenProjReferenceIdeal := fun m ρ _ =>
  (θ_run Cert.EvenProjReferenceIdeal.defs _ _).mono (fun r h => ⟨fun c => (h c).2.2.2, sem_eq_zero_of_no_sems (by decide) r.2⟩) (Cert.EvenProjReferenceIdeal.Value.run m ρ)

/-- The kernel runs on machine words, -/
theorem frame : Cert.quiescent_EvenProj := fun m ρ _ => Cert.EvenProj.Gen.frame m ρ

/-- and on the extended reals. -/
theorem ideal_frame : Cert.quiescent_EvenProjIdeal := fun m ρ _ => Cert.EvenProjIdeal.Gen.frame m ρ

/-- From equal arguments the two programs end with equal results. -/
theorem algebraic : Cert.algebraic_EvenProjIdeal_EvenProjReferenceIdeal := by
  intro m g m' g' _ hargs
  refine ⟨fun c => Cert.EvenProjIdeal.Np.G5 m c, fun c => Cert.EvenProjIdeal.Np.G6 m c, fun c => Cert.EvenProjIdeal.Np.G7 m c, ?_, ?_⟩
  · exact (θ_run _ _ _).mono (fun r hr c => ⟨(hr c).1.trans (Cert.EvenProjIdeal.Np.final5 m c), (hr c).2.1.trans (Cert.EvenProjIdeal.Np.final6 m c), (hr c).2.2.1.trans (Cert.EvenProjIdeal.Np.final7 m c), (hr c).2.2.2⟩) (Cert.EvenProjIdeal.Value.run_blocks m g)
  · refine (θ_run _ _ _).mono (fun r hr c => ⟨?_, ?_, ?_, (hr c).2.2.2⟩) (Cert.EvenProjReferenceIdeal.Value.run m' g')
    · obtain ⟨e0, e1, e2⟩ := hargs c
      refine (hr c).1.trans ((Cert.EvenProjReferenceIdeal.Read.val_main_v19_eq _ _ _).trans ((ref0 m' c).trans ?_))
      rw [e0, e1, e2]
      rfl
    · obtain ⟨e0, e1, e2⟩ := hargs c
      refine (hr c).2.1.trans ((Cert.EvenProjReferenceIdeal.Read.val_main_v20_eq _ _ _).trans ((ref1 m' c).trans ?_))
      rw [e0, e1, e2]
      rfl
    · obtain ⟨e0, e1, e2⟩ := hargs c
      refine (hr c).2.2.1.trans ((Cert.EvenProjReferenceIdeal.Read.val_main_v21_eq _ _ _).trans ((ref2 m' c).trans ?_))
      rw [e0, e1, e2]
      rfl

end Cert.EvenTie

end
-- ==== Proof.OddBody.lean ====
module

public import proofs.«01_k».proof.Proof.Gen.OddProjIdeal.Value
public import proofs.«01_k».proof.Proof.FfnHost
public import Idealize.ShloMosaic.Lib.VecWindow
public import Idealize.ShloMosaic.Lib.WholeRead
public import Idealize.ShloMosaic.Lib.Tactic
public import Idealize.ShloMosaic.Lib.Pipeline.ValueKit

@[expose] public section

set_option maxRecDepth 65536

noncomputable section

/-! What a grid point of the input projections of odd layers leaves in its result blocks. -/

namespace Cert.OddProjIdeal.Np

open Cert.OddProjIdeal Cert.OddProjIdeal.Gen
open Idealize.ShloMosaic Idealize.ShloMosaic.TcCoe Idealize.ShloMosaic.Tactic
open Idealize.SL Idealize.SL.Sem
open Cert.FfnIdeal.Ff (dot rms)

/-- A block's rows normalised. -/
theorem nrm_apply (v0 : Vec Ideal S512x1024 .f32) (v2 : Vec Ideal S1x1024 .f32) (r : Fin 512) (l : Fin 1024) :
    (k0_pay6 v0 v2 : S512x1024.Idx → EReal) (ix2 r l) = rms (fun d => v0 (ix2 r d)) (fun d => v2 (ix2 0 d)) l := by
  pointwise [k0_pay6, rms]

theorem pay9_apply (v0 : Vec Ideal S512x1024 .f32) (v2 : Vec Ideal S1x1024 .f32) (w : Vec Ideal S1024x512 .bf16) (r : Fin 512) (k : Fin 512) :
    (k0_pay9 v0 v2 w : S512x512.Idx → EReal) (ix2 r k) = dot (fun d => k0_pay6 v0 v2 (ix2 r d)) fun d => w (ix2 d k) := by
  unfold k0_pay9
  generalize k0_pay6 v0 v2 = h
  pointwise [dot]

theorem pay8_apply (v0 : Vec Ideal S512x1024 .f32) (v2 : Vec Ideal S1x1024 .f32) (w : Vec Ideal S1024x512 .bf16) (r : Fin 512) (k : Fin 512) :
    (k0_pay8 v0 v2 w : S512x512.Idx → EReal) (ix2 r k) = dot (fun d => k0_pay6 v0 v2 (ix2 r d)) fun d => w (ix2 d k) := by
  unfold k0_pay8
  generalize k0_pay6 v0 v2 = h
  pointwise [dot]

theorem pay7_apply (v0 : Vec Ideal S512x1024 .f32) (v2 : Vec Ideal S1x1024 .f32) (w : Vec Ideal S1024x512 .bf16) (r : Fin 512) (k : Fin 512) :
    (k0_pay7 v0 v2 w : S512x512.Idx → EReal) (ix2 r k) = dot (fun d => k0_pay6 v0 v2 (ix2 r d)) fun d => w (ix2 d k) := by
  unfold k0_pay7
  generalize k0_pay6 v0 v2 = h
  pointwise [dot]

theorem pay2_apply (h : Vec Ideal S512x1024 .bf16) (w : Vec Ideal S1024x512 .bf16) (r : Fin 512) (k : Fin 512) :
    (k0_pay2 h w : S512x512.Idx → EReal) (ix2 r k) = dot (fun d => h (ix2 r d)) fun d => w (ix2 d k) := by
  pointwise [k0_pay2, dot]

theorem pay1_apply (h : Vec Ideal S512x1024 .bf16) (w : Vec Ideal S1024x512 .bf16) (r : Fin 512) (k : Fin 512) :
    (k0_pay1 h w : S512x512.Idx → EReal) (ix2 r k) = dot (fun d => h (ix2 r d)) fun d => w (ix2 d k) := by
  pointwise [k0_pay1, dot]

theorem pay3_apply (h : Vec Ideal S512x1024 .bf16) (w : Vec Ideal S1024x512 .bf16) (r : Fin 512) (k : Fin 512) :
    (k0_pay3 h w : S512x512.Idx → EReal) (ix2 r k) = dot (fun d => h (ix2 r d)) fun d => w (ix2 d k) := by
  pointwise [k0_pay3, dot]

theorem pay4_apply (h : Vec Ideal S512x1024 .bf16) (w : Vec Ideal S1024x512 .bf16) (r : Fin 512) (k : Fin 512) :
    (k0_pay4 h w : S512x512.Idx → EReal) (ix2 r k) = dot (fun d => h (ix2 r d)) fun d => w (ix2 d k) := by
  pointwise [k0_pay4, dot]

theorem pay5_apply (h : Vec Ideal S512x1024 .bf16) (w : Vec Ideal S1024x128 .bf16) (r : Fin 512) (k : Fin 128) :
    (k0_pay5 h w : S512x128.Idx → EReal) (ix2 r k) = dot (fun d => h (ix2 r d)) fun d => w (ix2 d k) := by
  pointwise [k0_pay5, dot]

/-- The block of result 0: the normalised rows times the columns of its weights. -/
theorem out7 (x0 : Vec Ideal S512x1024 .f32) (x1 : Vec Ideal S1x1024 .f32) (x2 : Vec Ideal S1024x1536 .bf16) (x3 : Vec Ideal S1024x1024 .bf16) (x4 : Vec Ideal S1024x512 .bf16) (x5 : Vec Ideal S1024x512 .bf16) (x6 : Vec Ideal S1024x128 .bf16) (r : Fin 512) (j : Fin 1536) :
    (out0_7 x0 x1 x2 x3 x4 x5 x6 : S512x1536.Idx → EReal) (ix2 r j) = dot (fun d => k0_pay6 x0 x1 (ix2 r d)) fun d => x2 (ix2 d j) := by
  have e0 : View.ld x0 r0_0 = x0 := View.ld_unit_lit (S := S512x1024) (off := ![0, 0]) _ _ (by decide)
  have e1 : View.ld x1 r0_1 = x1 := View.ld_unit_lit (S := S1x1024) (off := ![0, 0]) _ _ (by decide)
  let D : S512x1536.Idx → EReal := fun y => dot (fun d => k0_pay6 x0 x1 (ix2 (y 0) d)) fun d => x2 (ix2 d (y 1))
  show _ = D (ix2 r j)
  unfold out0_7
  refine View.canon_apply_of_pieces (Val := Elt Ideal) D _ ?_ _ (cover0_7 _ _ _ _)
  intro p hp x
  simp only [List.mem_cons, List.not_mem_nil, or_false] at hp
  rcases hp with rfl | rfl | rfl
  · refine (congrArg _ (eq_ix2 (x : S512x512.Idx))).trans ((pay9_apply _ _ _ (x 0) (x 1)).trans ?_)
    refine congrArg₂ dot (funext fun d => ?_) (funext fun d => ?_)
    · refine Eq.trans (b := (k0_pay6 x0 x1 : S512x1024.Idx → EReal) (ix2 (x 0) d)) ?_ ?_
      · rw [e0, e1]
      · exact congrArg (fun r => (k0_pay6 x0 x1 : S512x1024.Idx → EReal) (ix2 r d)) (Fin.ext (by show (x 0).val = 0 + 1 * (x 0).val; omega))
    · refine congrArg (x2 : S1024x1536.Idx → EReal) (funext fun a => ?_)
      match a with
      | ⟨0, _⟩ => exact Fin.ext (by show 0 + 1 * d.val = d.val; omega)
      | ⟨1, _⟩ => exact Fin.ext (by show 1024 + 1 * (x 1).val = 1024 + 1 * (x 1).val; omega)
  · refine (congrArg _ (eq_ix2 (x : S512x512.Idx))).trans ((pay8_apply _ _ _ (x 0) (x 1)).trans ?_)
    refine congrArg₂ dot (funext fun d => ?_) (funext fun d => ?_)
    · refine Eq.trans (b := (k0_pay6 x0 x1 : S512x1024.Idx → EReal) (ix2 (x 0) d)) ?_ ?_
      · rw [e0, e1]
      · exact congrArg (fun r => (k0_pay6 x0 x1 : S512x1024.Idx → EReal) (ix2 r d)) (Fin.ext (by show (x 0).val = 0 + 1 * (x 0).val; omega))
    · refine congrArg (x2 : S1024x1536.Idx → EReal) (funext fun a => ?_)
      match a with
      | ⟨0, _⟩ => exact Fin.ext (by show 0 + 1 * d.val = d.val; omega)
      | ⟨1, _⟩ => exact Fin.ext (by show 512 + 1 * (x 1).val = 512 + 1 * (x 1).val; omega)
  · refine (congrArg _ (eq_ix2 (x : S512x512.Idx))).trans ((pay7_apply _ _ _ (x 0) (x 1)).trans ?_)
    refine congrArg₂ dot (funext fun d => ?_) (funext fun d => ?_)
    · refine Eq.trans (b := (k0_pay6 x0 x1 : S512x1024.Idx → EReal) (ix2 (x 0) d)) ?_ ?_
      · rw [e0, e1]
      · exact congrArg (fun r => (k0_pay6 x0 x1 : S512x1024.Idx → EReal) (ix2 r d)) (Fin.ext (by show (x 0).val = 0 + 1 * (x 0).val; omega))
    · refine congrArg (x2 : S1024x1536.Idx → EReal) (funext fun a => ?_)
      match a with
      | ⟨0, _⟩ => exact Fin.ext (by show 0 + 1 * d.val = d.val; omega)
      | ⟨1, _⟩ => exact Fin.ext (by show 0 + 1 * (x 1).val = 0 + 1 * (x 1).val; omega)

/-- The block of result 1: the normalised rows times the columns of its weights. -/
theorem out8 (x0 : Vec Ideal S512x1024 .f32) (x1 : Vec Ideal S1x1024 .f32) (x2 : Vec Ideal S1024x1536 .bf16) (x3 : Vec Ideal S1024x1024 .bf16) (x4 : Vec Ideal S1024x512 .bf16) (x5 : Vec Ideal S1024x512 .bf16) (x6 : Vec Ideal S1024x128 .bf16) (r : Fin 512) (j : Fin 1024) :
    (out0_8 x0 x1 x2 x3 x4 x5 x6 : S512x1024.Idx → EReal) (ix2 r j) = dot (fun d => k0_pay6 x0 x1 (ix2 r d)) fun d => x3 (ix2 d j) := by
  have e0 : View.ld x0 r0_0 = x0 := View.ld_unit_lit (S := S512x1024) (off := ![0, 0]) _ _ (by decide)
  have e1 : View.ld x1 r0_1 = x1 := View.ld_unit_lit (S := S1x1024) (off := ![0, 0]) _ _ (by decide)
  let D : S512x1024.Idx → EReal := fun y => dot (fun d => k0_pay6 x0 x1 (ix2 (y 0) d)) fun d => x3 (ix2 d (y 1))
  show _ = D (ix2 r j)
  unfold out0_8 k0_pay10
  refine View.canon_apply_of_pieces (Val := Elt Ideal) D _ ?_ _ (cover0_8 _ _ _)
  intro p hp x
  simp only [List.mem_cons, List.not_mem_nil, or_false] at hp
  rcases hp with rfl | rfl
  · refine (congrArg _ (eq_ix2 (x : S512x512.Idx))).trans ((pay2_apply _ _ (x 0) (x 1)).trans ?_)
    refine congrArg₂ dot (funext fun d => ?_) (funext fun d => ?_)
    · refine Eq.trans (b := (k0_pay6 x0 x1 : S512x1024.Idx → EReal) (ix2 (x 0) d)) ?_ ?_
      · rw [e0, e1]
      · exact congrArg (fun r => (k0_pay6 x0 x1 : S512x1024.Idx → EReal) (ix2 r d)) (Fin.ext (by show (x 0).val = 0 + 1 * (x 0).val; omega))
    · refine congrArg (x3 : S1024x1024.Idx → EReal) (funext fun a => ?_)
      match a with
      | ⟨0, _⟩ => exact Fin.ext (by show 0 + 1 * d.val = d.val; omega)
      | ⟨1, _⟩ => exact Fin.ext (by show 512 + 1 * (x 1).val = 512 + 1 * (x 1).val; omega)
  · refine (congrArg _ (eq_ix2 (x : S512x512.Idx))).trans ((pay1_apply _ _ (x 0) (x 1)).trans ?_)
    refine congrArg₂ dot (funext fun d => ?_) (funext fun d => ?_)
    · refine Eq.trans (b := (k0_pay6 x0 x1 : S512x1024.Idx → EReal) (ix2 (x 0) d)) ?_ ?_
      · rw [e0, e1]
      · exact congrArg (fun r => (k0_pay6 x0 x1 : S512x1024.Idx → EReal) (ix2 r d)) (Fin.ext (by show (x 0).val = 0 + 1 * (x 0).val; omega))
    · refine congrArg (x3 : S1024x1024.Idx → EReal) (funext fun a => ?_)
      match a with
      | ⟨0, _⟩ => exact Fin.ext (by show 0 + 1 * d.val = d.val; omega)
      | ⟨1, _⟩ => exact Fin.ext (by show 0 + 1 * (x 1).val = 0 + 1 * (x 1).val; omega)

/-- The block of result 2: the normalised rows times the columns of its weights. -/
theorem out9 (x0 : Vec Ideal S512x1024 .f32) (x1 : Vec Ideal S1x1024 .f32) (x2 : Vec Ideal S1024x1536 .bf16) (x3 : Vec Ideal S1024x1024 .bf16) (x4 : Vec Ideal S1024x512 .bf16) (x5 : Vec Ideal S1024x512 .bf16) (x6 : Vec Ideal S1024x128 .bf16) (r : Fin 512) (j : Fin 512) :
    (out0_9 x0 x1 x2 x3 x4 x5 x6 : S512x512.Idx → EReal) (ix2 r j) = dot (fun d => k0_pay6 x0 x1 (ix2 r d)) fun d => x4 (ix2 d j) := by
  have e0 : View.ld x0 r0_0 = x0 := View.ld_unit_lit (S := S512x1024) (off := ![0, 0]) _ _ (by decide)
  have e1 : View.ld x1 r0_1 = x1 := View.ld_unit_lit (S := S1x1024) (off := ![0, 0]) _ _ (by decide)
  let D : S512x512.Idx → EReal := fun y => dot (fun d => k0_pay6 x0 x1 (ix2 (y 0) d)) fun d => x4 (ix2 d (y 1))
  show _ = D (ix2 r j)
  unfold out0_9 k0_pay10
  refine View.canon_apply_of_pieces (Val := Elt Ideal) D _ ?_ _ (cover0_9 _ _)
  intro p hp x
  simp only [List.mem_cons, List.not_mem_nil, or_false] at hp
  subst hp
  · refine (congrArg _ (eq_ix2 (x : S512x512.Idx))).trans ((pay3_apply _ _ (x 0) (x 1)).trans ?_)
    refine congrArg₂ dot (funext fun d => ?_) (funext fun d => ?_)
    · refine Eq.trans (b := (k0_pay6 x0 x1 : S512x1024.Idx → EReal) (ix2 (x 0) d)) ?_ ?_
      · rw [e0, e1]
      · exact congrArg (fun r => (k0_pay6 x0 x1 : S512x1024.Idx → EReal) (ix2 r d)) (Fin.ext (by show (x 0).val = 0 + 1 * (x 0).val; omega))
    · refine congrArg (x4 : S1024x512.Idx → EReal) (funext fun a => ?_)
      match a with
      | ⟨0, _⟩ => exact Fin.ext (by show 0 + 1 * d.val = d.val; omega)
      | ⟨1, _⟩ => exact Fin.ext (by show 0 + 1 * (x 1).val = 0 + 1 * (x 1).val; omega)

/-- The block of result 3: the normalised rows times the columns of its weights. -/
theorem out10 (x0 : Vec Ideal S512x1024 .f32) (x1 : Vec Ideal S1x1024 .f32) (x2 : Vec Ideal S1024x1536 .bf16) (x3 : Vec Ideal S1024x1024 .bf16) (x4 : Vec Ideal S1024x512 .bf16) (x5 : Vec Ideal S1024x512 .bf16) (x6 : Vec Ideal S1024x128 .bf16) (r : Fin 512) (j : Fin 512) :
    (out0_10 x0 x1 x2 x3 x4 x5 x6 : S512x512.Idx → EReal) (ix2 r j) = dot (fun d => k0_pay6 x0 x1 (ix2 r d)) fun d => x5 (ix2 d j) := by
  have e0 : View.ld x0 r0_0 = x0 := View.ld_unit_lit (S := S512x1024) (off := ![0, 0]) _ _ (by decide)
  have e1 : View.ld x1 r0_1 = x1 := View.ld_unit_lit (S := S1x1024) (off := ![0, 0]) _ _ (by decide)
  let D : S512x512.Idx → EReal := fun y => dot (fun d => k0_pay6 x0 x1 (ix2 (y 0) d)) fun d => x5 (ix2 d (y 1))
  show _ = D (ix2 r j)
  unfold out0_10 k0_pay10
  refine View.canon_apply_of_pieces (Val := Elt Ideal) D _ ?_ _ (cover0_10 _ _)
  intro p hp x
  simp only [List.mem_cons, List.not_mem_nil, or_false] at hp
  subst hp
  · refine (congrArg _ (eq_ix2 (x : S512x512.Idx))).trans ((pay4_apply _ _ (x 0) (x 1)).trans ?_)
    refine congrArg₂ dot (funext fun d => ?_) (funext fun d => ?_)
    · refine Eq.trans (b := (k0_pay6 x0 x1 : S512x1024.Idx → EReal) (ix2 (x 0) d)) ?_ ?_
      · rw [e0, e1]
      · exact congrArg (fun r => (k0_pay6 x0 x1 : S512x1024.Idx → EReal) (ix2 r d)) (Fin.ext (by show (x 0).val = 0 + 1 * (x 0).val; omega))
    · refine congrArg (x5 : S1024x512.Idx → EReal) (funext fun a => ?_)
      match a with
      | ⟨0, _⟩ => exact Fin.ext (by show 0 + 1 * d.val = d.val; omega)
      | ⟨1, _⟩ => exact Fin.ext (by show 0 + 1 * (x 1).val = 0 + 1 * (x 1).val; omega)

/-- The block of result 4: the normalised rows times the columns of its weights. -/
theorem out11 (x0 : Vec Ideal S512x1024 .f32) (x1 : Vec Ideal S1x1024 .f32) (x2 : Vec Ideal S1024x1536 .bf16) (x3 : Vec Ideal S1024x1024 .bf16) (x4 : Vec Ideal S1024x512 .bf16) (x5 : Vec Ideal S1024x512 .bf16) (x6 : Vec Ideal S1024x128 .bf16) (r : Fin 512) (j : Fin 128) :
    (out0_11 x0 x1 x2 x3 x4 x5 x6 : S512x128.Idx → EReal) (ix2 r j) = dot (fun d => k0_pay6 x0 x1 (ix2 r d)) fun d => x6 (ix2 d j) := by
  have e0 : View.ld x0 r0_0 = x0 := View.ld_unit_lit (S := S512x1024) (off := ![0, 0]) _ _ (by decide)
  have e1 : View.ld x1 r0_1 = x1 := View.ld_unit_lit (S := S1x1024) (off := ![0, 0]) _ _ (by decide)
  let D : S512x128.Idx → EReal := fun y => dot (fun d => k0_pay6 x0 x1 (ix2 (y 0) d)) fun d => x6 (ix2 d (y 1))
  show _ = D (ix2 r j)
  unfold out0_11 k0_pay10
  refine View.canon_apply_of_pieces (Val := Elt Ideal) D _ ?_ _ (cover0_11 _ _)
  intro p hp x
  simp only [List.mem_cons, List.not_mem_nil, or_false] at hp
  subst hp
  · refine (congrArg _ (eq_ix2 (x : S512x128.Idx))).trans ((pay5_apply _ _ (x 0) (x 1)).trans ?_)
    refine congrArg₂ dot (funext fun d => ?_) (funext fun d => ?_)
    · refine Eq.trans (b := (k0_pay6 x0 x1 : S512x1024.Idx → EReal) (ix2 (x 0) d)) ?_ ?_
      · rw [e0, e1]
      · exact congrArg (fun r => (k0_pay6 x0 x1 : S512x1024.Idx → EReal) (ix2 r d)) (Fin.ext (by show (x 0).val = 0 + 1 * (x 0).val; omega))
    · refine congrArg (x6 : S1024x128.Idx → EReal) (funext fun a => ?_)
      match a with
      | ⟨0, _⟩ => exact Fin.ext (by show 0 + 1 * d.val = d.val; omega)
      | ⟨1, _⟩ => exact Fin.ext (by show 0 + 1 * (x 1).val = 0 + 1 * (x 1).val; omega)

end Cert.OddProjIdeal.Np

end
-- ==== Proof.OddFinal.lean ====
module

public import proofs.«01_k».proof.Proof.OddBody
public import Idealize.ShloMosaic.Lib.StableHlo.ReadAt

@[expose] public section

set_option maxRecDepth 65536

noncomputable section

/-! The result arrays of the input projections of odd layers after the run: the formula at every entry. -/

namespace Cert.OddProjIdeal.Np

open Cert.OddProjIdeal Cert.OddProjIdeal.Gen Cert.OddProjIdeal.Value
open Idealize.ShloMosaic Idealize.ShloMosaic.TcCoe Idealize.SL.Sem
open Idealize.ShloMosaic.Pipeline (Dat)
open Cert.FfnIdeal.Ff (dot rms rows0 ent4)

variable (m : (ℓ : Loc nD τ sig) → Buf (Elt Ideal) ℓ) (c : Dev nD)

/-- A weight. -/
def wt (w : S1024x3592.Idx → EReal) (k : Fin 1024) (j : Fin 3592) : EReal := w (ix2 k j)
/-- An entry of the projection: a row normalised times a column of the weights. -/
def pr (x : S4x4096x1024.Idx → EReal) (g : S1024.Idx → EReal) (w : S1024x3592.Idx → EReal) (R : Fin 16384) (j : Fin 3592) : EReal :=
  dot (rms (rows0 x R) (ent4 g)) fun k => wt w k j
/-- Result 0. -/
def res0 (x : S4x4096x1024.Idx → EReal) (g : S1024.Idx → EReal) (w : S1024x3592.Idx → EReal) (R : Fin 16384) (j : Fin 1536) : EReal :=
  pr x g w R ⟨0 + j.val, by omega⟩
/-- Result 1. -/
def res1 (x : S4x4096x1024.Idx → EReal) (g : S1024.Idx → EReal) (w : S1024x3592.Idx → EReal) (R : Fin 16384) (j : Fin 1024) : EReal :=
  pr x g w R ⟨1536 + j.val, by omega⟩
/-- Result 2. -/
def res2 (x : S4x4096x1024.Idx → EReal) (g : S1024.Idx → EReal) (w : S1024x3592.Idx → EReal) (R : Fin 16384) (j : Fin 512) : EReal :=
  pr x g w R ⟨2560 + j.val, by omega⟩
/-- Result 3. -/
def res3 (x : S4x4096x1024.Idx → EReal) (g : S1024.Idx → EReal) (w : S1024x3592.Idx → EReal) (R : Fin 16384) (j : Fin 512) : EReal :=
  pr x g w R ⟨3072 + j.val, by omega⟩
/-- Result 4: the gates' columns, then zeros. -/
def res4 (x : S4x4096x1024.Idx → EReal) (g : S1024.Idx → EReal) (w : S1024x3592.Idx → EReal) (R : Fin 16384) (j : Fin 128) : EReal :=
  if h : j.val < 8 then pr x g w R ⟨3584 + j.val, by omega⟩ else 0

theorem Vx (R : Fin 16384) (l : Fin 1024) : (V m c main_v11 : S16384x1024.Idx → EReal) (ix2 R l) = rows0 (m (c, Proc.tc.devRef main_arg0)) R l := by
  unfold V
  after_reads_at
  rfl
theorem Vg (l : Fin 1024) : (V m c main_v12 : S1x1024.Idx → EReal) (ix2 0 l) = ent4 (m (c, Proc.tc.devRef main_arg1)) l := by
  unfold V
  after_reads_at
  rfl
theorem Vw0 (d : Fin 1024) (j : Fin 1536) : (V m c main_v1 : S1024x1536.Idx → EReal) (ix2 d j) = wt (m (c, Proc.tc.devRef main_arg2)) d ⟨0 + j.val, by omega⟩ := by
  unfold V
  after_reads_at
  unfold wt
  rfl
theorem Vw1 (d : Fin 1024) (j : Fin 1024) : (V m c main_v3 : S1024x1024.Idx → EReal) (ix2 d j) = wt (m (c, Proc.tc.devRef main_arg2)) d ⟨1536 + j.val, by omega⟩ := by
  unfold V
  after_reads_at
  unfold wt
  rfl
theorem Vw2 (d : Fin 1024) (j : Fin 512) : (V m c main_v5 : S1024x512.Idx → EReal) (ix2 d j) = wt (m (c, Proc.tc.devRef main_arg2)) d ⟨2560 + j.val, by omega⟩ := by
  unfold V
  after_reads_at
  unfold wt
  rfl
theorem Vw3 (d : Fin 1024) (j : Fin 512) : (V m c main_v7 : S1024x512.Idx → EReal) (ix2 d j) = wt (m (c, Proc.tc.devRef main_arg2)) d ⟨3072 + j.val, by omega⟩ := by
  unfold V
  after_reads_at
  unfold wt
  rfl
theorem Vw4 (d : Fin 1024) (j : Fin 128) : (V m c main_v10 : S1024x128.Idx → EReal) (ix2 d j) = if h : j.val < 8 then wt (m (c, Proc.tc.devRef main_arg2)) d ⟨3584 + j.val, by omega⟩ else 0 := by
  unfold V
  after_reads_at
  by_cases h : j.val < 8
  · rw [dif_pos h, dif_pos h]
    rfl
  · rw [dif_neg h, dif_neg h]
    show (((0#32 : BitVec 32).toInt : ℝ) : EReal) = 0
    rw [show (0#32 : BitVec 32).toInt = 0 from rfl, Int.cast_zero, EReal.coe_zero]

/-- Where each window's block lies. -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0) :=
  (by decide +kernel : ∀ t : Fin grid0.N, _)

theorem t_lt (t : Fin cfg0.N) : t.val < 32 := lt_of_lt_of_eq t.isLt N_0

/-- A point's row among all rows. -/
def rw_ (t : Fin cfg0.N) (r : Fin 512) : Fin 16384 := ⟨t.val * 512 + r.val, by have := t_lt t; omega⟩

theorem iblk0 (t : Fin cfg0.N) (r : Fin 512) (l : Fin 1024) :
    (iblk m c 0 t : S512x1024.Idx → EReal) (ix2 r l) = rows0 (m (c, Proc.tc.devRef main_arg0)) (rw_ t r) l := by
  obtain ⟨⟨h0, h1⟩, -⟩ := idx_facts t
  refine Eq.trans ?_ (Vx m c (rw_ t r) l)
  unfold iblk
  rw [View.read_apply]
  show V m c main_v11 _ = V m c main_v11 _
  congr 1
  funext a
  apply Fin.ext
  match a with
  | ⟨0, _⟩ => show win0_0.index t (0 : Fin 2) * 512 + 1 * r.val = t.val * 512 + r.val; rw [h0]; omega
  | ⟨1, _⟩ => show win0_0.index t (1 : Fin 2) * 1024 + 1 * l.val = l.val; rw [h1]; omega

theorem iblk1 (t : Fin cfg0.N) (l : Fin 1024) :
    (iblk m c 1 t : S1x1024.Idx → EReal) (ix2 0 l) = ent4 (m (c, Proc.tc.devRef main_arg1)) l := by
  obtain ⟨-, ⟨h0, h1⟩, -⟩ := idx_facts t
  refine Eq.trans ?_ (Vg m c l)
  unfold iblk
  rw [View.read_apply]
  show V m c main_v12 _ = V m c main_v12 _
  congr 1
  funext a
  apply Fin.ext
  match a with
  | ⟨0, _⟩ => show win0_1.index t (0 : Fin 2) * 1 + 1 * 0 = 0; rw [h0]
  | ⟨1, _⟩ => show win0_1.index t (1 : Fin 2) * 1024 + 1 * l.val = l.val; rw [h1]; omega

theorem iblk2 (t : Fin cfg0.N) (d : Fin 1024) (j : Fin 1536) :
    (iblk m c 2 t : S1024x1536.Idx → EReal) (ix2 d j) = (V m c main_v1 : S1024x1536.Idx → EReal) (ix2 d j) := by
  obtain ⟨-, -, ⟨h0, h1⟩, -⟩ := idx_facts t
  unfold iblk
  rw [View.read_apply]
  show V m c main_v1 _ = V m c main_v1 _
  congr 1
  funext a
  apply Fin.ext
  match a with
  | ⟨0, _⟩ => show win0_2.index t (0 : Fin 2) * 1024 + 1 * d.val = d.val; rw [h0]; omega
  | ⟨1, _⟩ => show win0_2.index t (1 : Fin 2) * 1536 + 1 * j.val = j.val; rw [h1]; omega

theorem iblk3 (t : Fin cfg0.N) (d : Fin 1024) (j : Fin 1024) :
    (iblk m c 3 t : S1024x1024.Idx → EReal) (ix2 d j) = (V m c main_v3 : S1024x1024.Idx → EReal) (ix2 d j) := by
  obtain ⟨-, -, -, ⟨h0, h1⟩, -⟩ := idx_facts t
  unfold iblk
  rw [View.read_apply]
  show V m c main_v3 _ = V m c main_v3 _
  congr 1
  funext a
  apply Fin.ext
  match a with
  | ⟨0, _⟩ => show win0_3.index t (0 : Fin 2) * 1024 + 1 * d.val = d.val; rw [h0]; omega
  | ⟨1, _⟩ => show win0_3.index t (1 : Fin 2) * 1024 + 1 * j.val = j.val; rw [h1]; omega

theorem iblk4 (t : Fin cfg0.N) (d : Fin 1024) (j : Fin 512) :
    (iblk m c 4 t : S1024x512.Idx → EReal) (ix2 d j) = (V m c main_v5 : S1024x512.Idx → EReal) (ix2 d j) := by
  obtain ⟨-, -, -, -, ⟨h0, h1⟩, -⟩ := idx_facts t
  unfold iblk
  rw [View.read_apply]
  show V m c main_v5 _ = V m c main_v5 _
  congr 1
  funext a
  apply Fin.ext
  match a with
  | ⟨0, _⟩ => show win0_4.index t (0 : Fin 2) * 1024 + 1 * d.val = d.val; rw [h0]; omega
  | ⟨1, _⟩ => show win0_4.index t (1 : Fin 2) * 512 + 1 * j.val = j.val; rw [h1]; omega

theorem iblk5 (t : Fin cfg0.N) (d : Fin 1024) (j : Fin 512) :
    (iblk m c 5 t : S1024x512.Idx → EReal) (ix2 d j) = (V m c main_v7 : S1024x512.Idx → EReal) (ix2 d j) := by
  obtain ⟨-, -, -, -, -, ⟨h0, h1⟩, -⟩ := idx_facts t
  unfold iblk
  rw [View.read_apply]
  show V m c main_v7 _ = V m c main_v7 _
  congr 1
  funext a
  apply Fin.ext
  match a with
  | ⟨0, _⟩ => show win0_5.index t (0 : Fin 2) * 1024 + 1 * d.val = d.val; rw [h0]; omega
  | ⟨1, _⟩ => show win0_5.index t (1 : Fin 2) * 512 + 1 * j.val = j.val; rw [h1]; omega

theorem iblk6 (t : Fin cfg0.N) (d : Fin 1024) (j : Fin 128) :
    (iblk m c 6 t : S1024x128.Idx → EReal) (ix2 d j) = (V m c main_v10 : S1024x128.Idx → EReal) (ix2 d j) := by
  obtain ⟨-, -, -, -, -, -, ⟨h0, h1⟩, -⟩ := idx_facts t
  unfold iblk
  rw [View.read_apply]
  show V m c main_v10 _ = V m c main_v10 _
  congr 1
  funext a
  apply Fin.ext
  match a with
  | ⟨0, _⟩ => show win0_6.index t (0 : Fin 2) * 1024 + 1 * d.val = d.val; rw [h0]; omega
  | ⟨1, _⟩ => show win0_6.index t (1 : Fin 2) * 128 + 1 * j.val = j.val; rw [h1]; omega

theorem nrm_eq (t : Fin cfg0.N) (r : Fin 512) (l : Fin 1024) :
    (k0_pay6 (iblk m c 0 t) (iblk m c 1 t) : S512x1024.Idx → EReal) (ix2 r l) = rms (rows0 (m (c, Proc.tc.devRef main_arg0)) (rw_ t r)) (ent4 (m (c, Proc.tc.devRef main_arg1))) l := by
  rw [nrm_apply]
  refine congrArg₂ (fun a b => rms a b l) (funext fun d => ?_) (funext fun d => ?_)
  · exact iblk0 m c t r d
  · exact iblk1 m c t d

/-- Result array 0. -/
def G7 : Buf (Elt Ideal) ((c : Thread nD τ).loc main_v13_0) := fun i : S16384x1536.Idx => res0 (m (c, Proc.tc.devRef main_arg0)) (m (c, Proc.tc.devRef main_arg1)) (m (c, Proc.tc.devRef main_arg2)) (i 0) (i 1)

theorem point7 (t : Fin cfg0.N) (r : Fin 512) (j : Fin 1536) :
    (out0_7 (iblk m c 0 t) (iblk m c 1 t) (iblk m c 2 t) (iblk m c 3 t) (iblk m c 4 t) (iblk m c 5 t) (iblk m c 6 t) : S512x1536.Idx → EReal) (ix2 r j) = res0 (m (c, Proc.tc.devRef main_arg0)) (m (c, Proc.tc.devRef main_arg1)) (m (c, Proc.tc.devRef main_arg2)) (rw_ t r) j := by
  refine (out7 (iblk m c 0 t) (iblk m c 1 t) (iblk m c 2 t) (iblk m c 3 t) (iblk m c 4 t) (iblk m c 5 t) (iblk m c 6 t) r j).trans ?_
  have hn := fun l => nrm_eq m c t r l
  unfold res0 pr
  refine congrArg₂ dot (funext hn) (funext fun d => ?_)
  exact (iblk2 m c t d j).trans (Vw0 m c d j)

theorem mem_blk7 (t : Fin cfg0.N) (i : S16384x1536.Idx) :
    i ∈ ((cfg0.win 7).blk t).view.set ↔ ∀ a : Fin 2, win0_7.index t a * S512x1536.size a ≤ (i a).val ∧ (i a).val < win0_7.index t a * S512x1536.size a + S512x1536.size a := by
  show i ∈ ((View.whole main_v13_0).slice (win0_7.rect t)).set ↔ _
  rw [View.set_slice_whole, Rect.mem_set_unit]
  exact Iff.rfl

theorem final7 : (dats m 0 c).arrAt 7 cfg0.N = G7 m c := by
  refine (dats m 0 c).arrAt_eq_of_cover 7 _ (fun t hf => ?_) fun i => ?_
  · rw [flushed7]
    obtain ⟨-, -, -, -, -, -, -, ⟨h0, h1⟩, -⟩ := idx_facts t
    funext y
    have hy0 : (y 0).val < 512 := (y 0).isLt
    have hy1 : (y 1).val < 1536 := (y 1).isLt
    have hx : (cfg0.win 7).xinj (grid0.coords t) y = (ix2 ⟨(y 0).val, hy0⟩ ⟨(y 1).val, hy1⟩ : S512x1536.Idx) := by
      funext a
      match a with
      | ⟨0, _⟩ => rfl
      | ⟨1, _⟩ => rfl
    refine (congrArg (out0_7 (iblk m c 0 t) (iblk m c 1 t) (iblk m c 2 t) (iblk m c 3 t) (iblk m c 4 t) (iblk m c 5 t) (iblk m c 6 t) : S512x1536.Idx → EReal) hx).trans ((point7 m c t _ _).trans ?_)
    show _ = G7 m c (((cfg0.win 7).blk t).view.emb y)
    refine congrArg₂ (res0 (m (c, Proc.tc.devRef main_arg0)) (m (c, Proc.tc.devRef main_arg1)) (m (c, Proc.tc.devRef main_arg2))) (Fin.ext ?_) (Fin.ext ?_)
    · show t.val * 512 + (y 0).val = win0_7.index t (0 : Fin 2) * 512 + 1 * (y 0).val
      rw [h0]; omega
    · show (y 1).val = win0_7.index t (1 : Fin 2) * 1536 + 1 * (y 1).val
      rw [h1]; omega
  · have hi0 : (i 0).val < 16384 := (i 0).isLt
    have hi1 : (i 1).val < 1536 := (i 1).isLt
    have ht : (i 0).val / 512 < cfg0.N := lt_of_lt_of_eq (by omega : (i 0).val / 512 < 32) N_0.symm
    refine ⟨⟨(i 0).val / 512, ht⟩, flush0_7 _, ?_⟩
    obtain ⟨-, -, -, -, -, -, -, ⟨h0, h1⟩, -⟩ := idx_facts ⟨(i 0).val / 512, ht⟩
    refine (mem_blk7 _ i).mpr fun a => ?_
    match a with
    | ⟨0, _⟩ => show win0_7.index _ (0 : Fin 2) * 512 ≤ (i 0).val ∧ (i 0).val < win0_7.index _ (0 : Fin 2) * 512 + 512; rw [h0]; dsimp only; omega
    | ⟨1, _⟩ => show win0_7.index _ (1 : Fin 2) * 1536 ≤ (i 1).val ∧ (i 1).val < win0_7.index _ (1 : Fin 2) * 1536 + 1536; rw [h1]; omega

/-- Result array 1. -/
def G8 : Buf (Elt Ideal) ((c : Thread nD τ).loc main_v13_1) := fun i : S16384x1024.Idx => res1 (m (c, Proc.tc.devRef main_arg0)) (m (c, Proc.tc.devRef main_arg1)) (m (c, Proc.tc.devRef main_arg2)) (i 0) (i 1)

theorem point8 (t : Fin cfg0.N) (r : Fin 512) (j : Fin 1024) :
    (out0_8 (iblk m c 0 t) (iblk m c 1 t) (iblk m c 2 t) (iblk m c 3 t) (iblk m c 4 t) (iblk m c 5 t) (iblk m c 6 t) : S512x1024.Idx → EReal) (ix2 r j) = res1 (m (c, Proc.tc.devRef main_arg0)) (m (c, Proc.tc.devRef main_arg1)) (m (c, Proc.tc.devRef main_arg2)) (rw_ t r) j := by
  refine (out8 (iblk m c 0 t) (iblk m c 1 t) (iblk m c 2 t) (iblk m c 3 t) (iblk m c 4 t) (iblk m c 5 t) (iblk m c 6 t) r j).trans ?_
  have hn := fun l => nrm_eq m c t r l
  unfold res1 pr
  refine congrArg₂ dot (funext hn) (funext fun d => ?_)
  exact (iblk3 m c t d j).trans (Vw1 m c d j)

theorem mem_blk8 (t : Fin cfg0.N) (i : S16384x1024.Idx) :
    i ∈ ((cfg0.win 8).blk t).view.set ↔ ∀ a : Fin 2, win0_8.index t a * S512x1024.size a ≤ (i a).val ∧ (i a).val < win0_8.index t a * S512x1024.size a + S512x1024.size a := by
  show i ∈ ((View.whole main_v13_1).slice (win0_8.rect t)).set ↔ _
  rw [View.set_slice_whole, Rect.mem_set_unit]
  exact Iff.rfl

theorem final8 : (dats m 0 c).arrAt 8 cfg0.N = G8 m c := by
  refine (dats m 0 c).arrAt_eq_of_cover 8 _ (fun t hf => ?_) fun i => ?_
  · rw [flushed8]
    obtain ⟨-, -, -, -, -, -, -, -, ⟨h0, h1⟩, -⟩ := idx_facts t
    funext y
    have hy0 : (y 0).val < 512 := (y 0).isLt
    have hy1 : (y 1).val < 1024 := (y 1).isLt
    have hx : (cfg0.win 8).xinj (grid0.coords t) y = (ix2 ⟨(y 0).val, hy0⟩ ⟨(y 1).val, hy1⟩ : S512x1024.Idx) := by
      funext a
      match a with
      | ⟨0, _⟩ => rfl
      | ⟨1, _⟩ => rfl
    refine (congrArg (out0_8 (iblk m c 0 t) (iblk m c 1 t) (iblk m c 2 t) (iblk m c 3 t) (iblk m c 4 t) (iblk m c 5 t) (iblk m c 6 t) : S512x1024.Idx → EReal) hx).trans ((point8 m c t _ _).trans ?_)
    show _ = G8 m c (((cfg0.win 8).blk t).view.emb y)
    refine congrArg₂ (res1 (m (c, Proc.tc.devRef main_arg0)) (m (c, Proc.tc.devRef main_arg1)) (m (c, Proc.tc.devRef main_arg2))) (Fin.ext ?_) (Fin.ext ?_)
    · show t.val * 512 + (y 0).val = win0_8.index t (0 : Fin 2) * 512 + 1 * (y 0).val
      rw [h0]; omega
    · show (y 1).val = win0_8.index t (1 : Fin 2) * 1024 + 1 * (y 1).val
      rw [h1]; omega
  · have hi0 : (i 0).val < 16384 := (i 0).isLt
    have hi1 : (i 1).val < 1024 := (i 1).isLt
    have ht : (i 0).val / 512 < cfg0.N := lt_of_lt_of_eq (by omega : (i 0).val / 512 < 32) N_0.symm
    refine ⟨⟨(i 0).val / 512, ht⟩, flush0_8 _, ?_⟩
    obtain ⟨-, -, -, -, -, -, -, -, ⟨h0, h1⟩, -⟩ := idx_facts ⟨(i 0).val / 512, ht⟩
    refine (mem_blk8 _ i).mpr fun a => ?_
    match a with
    | ⟨0, _⟩ => show win0_8.index _ (0 : Fin 2) * 512 ≤ (i 0).val ∧ (i 0).val < win0_8.index _ (0 : Fin 2) * 512 + 512; rw [h0]; dsimp only; omega
    | ⟨1, _⟩ => show win0_8.index _ (1 : Fin 2) * 1024 ≤ (i 1).val ∧ (i 1).val < win0_8.index _ (1 : Fin 2) * 1024 + 1024; rw [h1]; omega

/-- Result array 2. -/
def G9 : Buf (Elt Ideal) ((c : Thread nD τ).loc main_v13_2) := fun i : S16384x512.Idx => res2 (m (c, Proc.tc.devRef main_arg0)) (m (c, Proc.tc.devRef main_arg1)) (m (c, Proc.tc.devRef main_arg2)) (i 0) (i 1)

theorem point9 (t : Fin cfg0.N) (r : Fin 512) (j : Fin 512) :
    (out0_9 (iblk m c 0 t) (iblk m c 1 t) (iblk m c 2 t) (iblk m c 3 t) (iblk m c 4 t) (iblk m c 5 t) (iblk m c 6 t) : S512x512.Idx → EReal) (ix2 r j) = res2 (m (c, Proc.tc.devRef main_arg0)) (m (c, Proc.tc.devRef main_arg1)) (m (c, Proc.tc.devRef main_arg2)) (rw_ t r) j := by
  refine (out9 (iblk m c 0 t) (iblk m c 1 t) (iblk m c 2 t) (iblk m c 3 t) (iblk m c 4 t) (iblk m c 5 t) (iblk m c 6 t) r j).trans ?_
  have hn := fun l => nrm_eq m c t r l
  unfold res2 pr
  refine congrArg₂ dot (funext hn) (funext fun d => ?_)
  exact (iblk4 m c t d j).trans (Vw2 m c d j)

theorem mem_blk9 (t : Fin cfg0.N) (i : S16384x512.Idx) :
    i ∈ ((cfg0.win 9).blk t).view.set ↔ ∀ a : Fin 2, win0_9.index t a * S512x512.size a ≤ (i a).val ∧ (i a).val < win0_9.index t a * S512x512.size a + S512x512.size a := by
  show i ∈ ((View.whole main_v13_2).slice (win0_9.rect t)).set ↔ _
  rw [View.set_slice_whole, Rect.mem_set_unit]
  exact Iff.rfl

theorem final9 : (dats m 0 c).arrAt 9 cfg0.N = G9 m c := by
  refine (dats m 0 c).arrAt_eq_of_cover 9 _ (fun t hf => ?_) fun i => ?_
  · rw [flushed9]
    obtain ⟨-, -, -, -, -, -, -, -, -, ⟨h0, h1⟩, -⟩ := idx_facts t
    funext y
    have hy0 : (y 0).val < 512 := (y 0).isLt
    have hy1 : (y 1).val < 512 := (y 1).isLt
    have hx : (cfg0.win 9).xinj (grid0.coords t) y = (ix2 ⟨(y 0).val, hy0⟩ ⟨(y 1).val, hy1⟩ : S512x512.Idx) := by
      funext a
      match a with
      | ⟨0, _⟩ => rfl
      | ⟨1, _⟩ => rfl
    refine (congrArg (out0_9 (iblk m c 0 t) (iblk m c 1 t) (iblk m c 2 t) (iblk m c 3 t) (iblk m c 4 t) (iblk m c 5 t) (iblk m c 6 t) : S512x512.Idx → EReal) hx).trans ((point9 m c t _ _).trans ?_)
    show _ = G9 m c (((cfg0.win 9).blk t).view.emb y)
    refine congrArg₂ (res2 (m (c, Proc.tc.devRef main_arg0)) (m (c, Proc.tc.devRef main_arg1)) (m (c, Proc.tc.devRef main_arg2))) (Fin.ext ?_) (Fin.ext ?_)
    · show t.val * 512 + (y 0).val = win0_9.index t (0 : Fin 2) * 512 + 1 * (y 0).val
      rw [h0]; omega
    · show (y 1).val = win0_9.index t (1 : Fin 2) * 512 + 1 * (y 1).val
      rw [h1]; omega
  · have hi0 : (i 0).val < 16384 := (i 0).isLt
    have hi1 : (i 1).val < 512 := (i 1).isLt
    have ht : (i 0).val / 512 < cfg0.N := lt_of_lt_of_eq (by omega : (i 0).val / 512 < 32) N_0.symm
    refine ⟨⟨(i 0).val / 512, ht⟩, flush0_9 _, ?_⟩
    obtain ⟨-, -, -, -, -, -, -, -, -, ⟨h0, h1⟩, -⟩ := idx_facts ⟨(i 0).val / 512, ht⟩
    refine (mem_blk9 _ i).mpr fun a => ?_
    match a with
    | ⟨0, _⟩ => show win0_9.index _ (0 : Fin 2) * 512 ≤ (i 0).val ∧ (i 0).val < win0_9.index _ (0 : Fin 2) * 512 + 512; rw [h0]; dsimp only; omega
    | ⟨1, _⟩ => show win0_9.index _ (1 : Fin 2) * 512 ≤ (i 1).val ∧ (i 1).val < win0_9.index _ (1 : Fin 2) * 512 + 512; rw [h1]; omega

/-- Result array 3. -/
def G10 : Buf (Elt Ideal) ((c : Thread nD τ).loc main_v13_3) := fun i : S16384x512.Idx => res3 (m (c, Proc.tc.devRef main_arg0)) (m (c, Proc.tc.devRef main_arg1)) (m (c, Proc.tc.devRef main_arg2)) (i 0) (i 1)

theorem point10 (t : Fin cfg0.N) (r : Fin 512) (j : Fin 512) :
    (out0_10 (iblk m c 0 t) (iblk m c 1 t) (iblk m c 2 t) (iblk m c 3 t) (iblk m c 4 t) (iblk m c 5 t) (iblk m c 6 t) : S512x512.Idx → EReal) (ix2 r j) = res3 (m (c, Proc.tc.devRef main_arg0)) (m (c, Proc.tc.devRef main_arg1)) (m (c, Proc.tc.devRef main_arg2)) (rw_ t r) j := by
  refine (out10 (iblk m c 0 t) (iblk m c 1 t) (iblk m c 2 t) (iblk m c 3 t) (iblk m c 4 t) (iblk m c 5 t) (iblk m c 6 t) r j).trans ?_
  have hn := fun l => nrm_eq m c t r l
  unfold res3 pr
  refine congrArg₂ dot (funext hn) (funext fun d => ?_)
  exact (iblk5 m c t d j).trans (Vw3 m c d j)

theorem mem_blk10 (t : Fin cfg0.N) (i : S16384x512.Idx) :
    i ∈ ((cfg0.win 10).blk t).view.set ↔ ∀ a : Fin 2, win0_10.index t a * S512x512.size a ≤ (i a).val ∧ (i a).val < win0_10.index t a * S512x512.size a + S512x512.size a := by
  show i ∈ ((View.whole main_v13_3).slice (win0_10.rect t)).set ↔ _
  rw [View.set_slice_whole, Rect.mem_set_unit]
  exact Iff.rfl

theorem final10 : (dats m 0 c).arrAt 10 cfg0.N = G10 m c := by
  refine (dats m 0 c).arrAt_eq_of_cover 10 _ (fun t hf => ?_) fun i => ?_
  · rw [flushed10]
    obtain ⟨-, -, -, -, -, -, -, -, -, -, ⟨h0, h1⟩, -⟩ := idx_facts t
    funext y
    have hy0 : (y 0).val < 512 := (y 0).isLt
    have hy1 : (y 1).val < 512 := (y 1).isLt
    have hx : (cfg0.win 10).xinj (grid0.coords t) y = (ix2 ⟨(y 0).val, hy0⟩ ⟨(y 1).val, hy1⟩ : S512x512.Idx) := by
      funext a
      match a with
      | ⟨0, _⟩ => rfl
      | ⟨1, _⟩ => rfl
    refine (congrArg (out0_10 (iblk m c 0 t) (iblk m c 1 t) (iblk m c 2 t) (iblk m c 3 t) (iblk m c 4 t) (iblk m c 5 t) (iblk m c 6 t) : S512x512.Idx → EReal) hx).trans ((point10 m c t _ _).trans ?_)
    show _ = G10 m c (((cfg0.win 10).blk t).view.emb y)
    refine congrArg₂ (res3 (m (c, Proc.tc.devRef main_arg0)) (m (c, Proc.tc.devRef main_arg1)) (m (c, Proc.tc.devRef main_arg2))) (Fin.ext ?_) (Fin.ext ?_)
    · show t.val * 512 + (y 0).val = win0_10.index t (0 : Fin 2) * 512 + 1 * (y 0).val
      rw [h0]; omega
    · show (y 1).val = win0_10.index t (1 : Fin 2) * 512 + 1 * (y 1).val
      rw [h1]; omega
  · have hi0 : (i 0).val < 16384 := (i 0).isLt
    have hi1 : (i 1).val < 512 := (i 1).isLt
    have ht : (i 0).val / 512 < cfg0.N := lt_of_lt_of_eq (by omega : (i 0).val / 512 < 32) N_0.symm
    refine ⟨⟨(i 0).val / 512, ht⟩, flush0_10 _, ?_⟩
    obtain ⟨-, -, -, -, -, -, -, -, -, -, ⟨h0, h1⟩, -⟩ := idx_facts ⟨(i 0).val / 512, ht⟩
    refine (mem_blk10 _ i).mpr fun a => ?_
    match a with
    | ⟨0, _⟩ => show win0_10.index _ (0 : Fin 2) * 512 ≤ (i 0).val ∧ (i 0).val < win0_10.index _ (0 : Fin 2) * 512 + 512; rw [h0]; dsimp only; omega
    | ⟨1, _⟩ => show win0_10.index _ (1 : Fin 2) * 512 ≤ (i 1).val ∧ (i 1).val < win0_10.index _ (1 : Fin 2) * 512 + 512; rw [h1]; omega

/-- Result array 4. -/
def G11 : Buf (Elt Ideal) ((c : Thread nD τ).loc main_v13_4) := fun i : S16384x128.Idx => res4 (m (c, Proc.tc.devRef main_arg0)) (m (c, Proc.tc.devRef main_arg1)) (m (c, Proc.tc.devRef main_arg2)) (i 0) (i 1)

theorem point11 (t : Fin cfg0.N) (r : Fin 512) (j : Fin 128) :
    (out0_11 (iblk m c 0 t) (iblk m c 1 t) (iblk m c 2 t) (iblk m c 3 t) (iblk m c 4 t) (iblk m c 5 t) (iblk m c 6 t) : S512x128.Idx → EReal) (ix2 r j) = res4 (m (c, Proc.tc.devRef main_arg0)) (m (c, Proc.tc.devRef main_arg1)) (m (c, Proc.tc.devRef main_arg2)) (rw_ t r) j := by
  refine (out11 (iblk m c 0 t) (iblk m c 1 t) (iblk m c 2 t) (iblk m c 3 t) (iblk m c 4 t) (iblk m c 5 t) (iblk m c 6 t) r j).trans ?_
  have hn := fun l => nrm_eq m c t r l
  unfold res4
  by_cases h : j.val < 8
  · rw [dif_pos h]
    unfold pr
    refine congrArg₂ dot (funext hn) (funext fun d => ?_)
    exact (iblk6 m c t d j).trans ((Vw4 m c d j).trans (dif_pos h))
  · rw [dif_neg h]
    unfold dot
    refine Finset.sum_eq_zero fun d _ => ?_
    exact (congrArg (fun z : EReal => (k0_pay6 (iblk m c 0 t) (iblk m c 1 t) : S512x1024.Idx → EReal) (ix2 r d) * z) ((iblk6 m c t d j).trans ((Vw4 m c d j).trans (dif_neg h)))).trans (mul_zero _)

theorem mem_blk11 (t : Fin cfg0.N) (i : S16384x128.Idx) :
    i ∈ ((cfg0.win 11).blk t).view.set ↔ ∀ a : Fin 2, win0_11.index t a * S512x128.size a ≤ (i a).val ∧ (i a).val < win0_11.index t a * S512x128.size a + S512x128.size a := by
  show i ∈ ((View.whole main_v13_4).slice (win0_11.rect t)).set ↔ _
  rw [View.set_slice_whole, Rect.mem_set_unit]
  exact Iff.rfl

theorem final11 : (dats m 0 c).arrAt 11 cfg0.N = G11 m c := by
  refine (dats m 0 c).arrAt_eq_of_cover 11 _ (fun t hf => ?_) fun i => ?_
  · rw [flushed11]
    obtain ⟨-, -, -, -, -, -, -, -, -, -, -, ⟨h0, h1⟩⟩ := idx_facts t
    funext y
    have hy0 : (y 0).val < 512 := (y 0).isLt
    have hy1 : (y 1).val < 128 := (y 1).isLt
    have hx : (cfg0.win 11).xinj (grid0.coords t) y = (ix2 ⟨(y 0).val, hy0⟩ ⟨(y 1).val, hy1⟩ : S512x128.Idx) := by
      funext a
      match a with
      | ⟨0, _⟩ => rfl
      | ⟨1, _⟩ => rfl
    refine (congrArg (out0_11 (iblk m c 0 t) (iblk m c 1 t) (iblk m c 2 t) (iblk m c 3 t) (iblk m c 4 t) (iblk m c 5 t) (iblk m c 6 t) : S512x128.Idx → EReal) hx).trans ((point11 m c t _ _).trans ?_)
    show _ = G11 m c (((cfg0.win 11).blk t).view.emb y)
    refine congrArg₂ (res4 (m (c, Proc.tc.devRef main_arg0)) (m (c, Proc.tc.devRef main_arg1)) (m (c, Proc.tc.devRef main_arg2))) (Fin.ext ?_) (Fin.ext ?_)
    · show t.val * 512 + (y 0).val = win0_11.index t (0 : Fin 2) * 512 + 1 * (y 0).val
      rw [h0]; omega
    · show (y 1).val = win0_11.index t (1 : Fin 2) * 128 + 1 * (y 1).val
      rw [h1]; omega
  · have hi0 : (i 0).val < 16384 := (i 0).isLt
    have hi1 : (i 1).val < 128 := (i 1).isLt
    have ht : (i 0).val / 512 < cfg0.N := lt_of_lt_of_eq (by omega : (i 0).val / 512 < 32) N_0.symm
    refine ⟨⟨(i 0).val / 512, ht⟩, flush0_11 _, ?_⟩
    obtain ⟨-, -, -, -, -, -, -, -, -, -, -, ⟨h0, h1⟩⟩ := idx_facts ⟨(i 0).val / 512, ht⟩
    refine (mem_blk11 _ i).mpr fun a => ?_
    match a with
    | ⟨0, _⟩ => show win0_11.index _ (0 : Fin 2) * 512 ≤ (i 0).val ∧ (i 0).val < win0_11.index _ (0 : Fin 2) * 512 + 512; rw [h0]; dsimp only; omega
    | ⟨1, _⟩ => show win0_11.index _ (1 : Fin 2) * 128 ≤ (i 1).val ∧ (i 1).val < win0_11.index _ (1 : Fin 2) * 128 + 128; rw [h1]; omega

end Cert.OddProjIdeal.Np

end
-- ==== Proof.OddRefRead.lean ====
module

public import proofs.«01_k».proof.Proof.Gen.OddProjReferenceIdeal.Read
public import proofs.«01_k».proof.Proof.OddFinal
public import Idealize.ShloMosaic.Lib.Pointwise

@[expose] public section

set_option maxRecDepth 65536

noncomputable section

/-! The plain input projections of odd layers read at an index: the formula. -/

namespace Cert.OddProjReferenceIdeal.Np

open Cert.OddProjReferenceIdeal Cert.OddProjReferenceIdeal.Read Cert.OddProjReferenceIdeal.Gen
open Idealize.ShloMosaic
open Cert.FfnIdeal.Ff (dot rms rows0 ent4)
open Cert.OddProjIdeal.Np (wt pr res0 res1 res2 res3 res4)

variable (y0 : (⟨S4x4096x1024, .f32⟩ : BufTy).Contents (Elt Ideal)) (y1 : (⟨S1024, .f32⟩ : BufTy).Contents (Elt Ideal)) (y2 : (⟨S1024x3592, .f32⟩ : BufTy).Contents (Elt Ideal))

/-- Normalised. -/
theorem v12_apply (b : Fin 4) (s : Fin 4096) (l : Fin 1024) :
    (val_main_v12 y0 y1 : S4x4096x1024.Idx → EReal) (ix3 b s l) = rms (fun d => (y0 : S4x4096x1024.Idx → EReal) (ix3 b s d)) (ent4 y1) l := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  unfold rms ent4
  rfl

/-- Projected. -/
theorem v13_apply (R : Fin 16384) (j : Fin 3592) :
    (val_main_v13 y0 y1 y2 : S4x4096x3592.Idx → EReal) (ix3 ⟨R.val / 4096, by omega⟩ ⟨R.val % 4096, by omega⟩ j) = pr y0 y1 y2 R j := by
  have h12 := fun k => v12_apply y0 y1 ⟨R.val / 4096, by omega⟩ ⟨R.val % 4096, by omega⟩ k
  pointwise [val_main_v13]
  simp only [h12]
  rfl

theorem r0_apply (R : Fin 16384) (j : Fin 1536) : (val_main_v21 y0 y1 y2 : S16384x1536.Idx → EReal) (ix2 R j) = res0 y0 y1 y2 R j := by
  have h : (val_main_v21 y0 y1 y2 : S16384x1536.Idx → EReal) (ix2 R j)
      = (val_main_v13 y0 y1 y2 : S4x4096x3592.Idx → EReal) (ix3 ⟨R.val / 4096, by omega⟩ ⟨R.val % 4096, by omega⟩ ⟨0 + j.val, by omega⟩) := by
    pointwise [val_main_v21, val_main_v20, val_main_v14]
  rw [h, v13_apply]
  rfl

theorem r1_apply (R : Fin 16384) (j : Fin 1024) : (val_main_v22 y0 y1 y2 : S16384x1024.Idx → EReal) (ix2 R j) = res1 y0 y1 y2 R j := by
  have h : (val_main_v22 y0 y1 y2 : S16384x1024.Idx → EReal) (ix2 R j)
      = (val_main_v13 y0 y1 y2 : S4x4096x3592.Idx → EReal) (ix3 ⟨R.val / 4096, by omega⟩ ⟨R.val % 4096, by omega⟩ ⟨1536 + j.val, by omega⟩) := by
    pointwise [val_main_v22, val_main_v15]
  rw [h, v13_apply]
  rfl

theorem r2_apply (R : Fin 16384) (j : Fin 512) : (val_main_v24 y0 y1 y2 : S16384x512.Idx → EReal) (ix2 R j) = res2 y0 y1 y2 R j := by
  have h : (val_main_v24 y0 y1 y2 : S16384x512.Idx → EReal) (ix2 R j)
      = (val_main_v13 y0 y1 y2 : S4x4096x3592.Idx → EReal) (ix3 ⟨R.val / 4096, by omega⟩ ⟨R.val % 4096, by omega⟩ ⟨2560 + j.val, by omega⟩) := by
    pointwise [val_main_v24, val_main_v23, val_main_v16]
  rw [h, v13_apply]
  rfl

theorem r3_apply (R : Fin 16384) (j : Fin 512) : (val_main_v25 y0 y1 y2 : S16384x512.Idx → EReal) (ix2 R j) = res3 y0 y1 y2 R j := by
  have h : (val_main_v25 y0 y1 y2 : S16384x512.Idx → EReal) (ix2 R j)
      = (val_main_v13 y0 y1 y2 : S4x4096x3592.Idx → EReal) (ix3 ⟨R.val / 4096, by omega⟩ ⟨R.val % 4096, by omega⟩ ⟨3072 + j.val, by omega⟩) := by
    pointwise [val_main_v25, val_main_v17]
  rw [h, v13_apply]
  rfl

theorem r4_apply (R : Fin 16384) (j : Fin 128) : (val_main_v26 y0 y1 y2 : S16384x128.Idx → EReal) (ix2 R j) = res4 y0 y1 y2 R j := by
  pointwise [val_main_v26, val_main_v19, val_main_v18, val_main_call0_v0, val_main_c]
  split
  · next h =>
    refine (v13_apply y0 y1 y2 R ⟨3584 + j.val, by omega⟩).trans ?_
    unfold res4
    rw [dif_pos h.2.2]
  · next h =>
    unfold res4
    rw [dif_neg (fun hj : j.val < 8 => h ⟨by omega, by omega, hj⟩)]
    show (((0#32 : BitVec 32).toInt : ℝ) : EReal) = 0
    rw [show (0#32 : BitVec 32).toInt = 0 from rfl, Int.cast_zero, EReal.coe_zero]

end Cert.OddProjReferenceIdeal.Np

end
-- ==== Proof.OddTie.lean ====
module

public import proofs.«01_k».proof.Defs
public import proofs.«01_k».proof.Proof.OddFinal
public import proofs.«01_k».proof.Proof.OddRefRead
public import proofs.«01_k».proof.Proof.Gen.OddProjReferenceIdeal.Run
public import proofs.«01_k».proof.Proof.Gen.OddProj.Frame
public import Idealize.ShloMosaic.Lib.Quiescent

@[expose] public section

set_option maxRecDepth 65536

noncomputable section

/-! The claims on the input projections of odd layers. -/

namespace Cert.OddTie

open Idealize.ShloMosaic Idealize.ShloMosaic.TcCoe Idealize.SL.Sem

variable (m' : (ℓ : Loc Cert.OddProjReferenceIdeal.nD Cert.OddProjReferenceIdeal.τ Cert.OddProjReferenceIdeal.sig) → Buf (Elt Ideal) ℓ) (c : Dev Cert.OddProjReferenceIdeal.nD)

theorem ref0 : (Cert.OddProjReferenceIdeal.Read.val_main_v21 (m' ((c.tc : Thread Cert.OddProjReferenceIdeal.nD Cert.OddProjReferenceIdeal.τ).loc Cert.OddProjReferenceIdeal.main_arg0)) (m' ((c.tc : Thread Cert.OddProjReferenceIdeal.nD Cert.OddProjReferenceIdeal.τ).loc Cert.OddProjReferenceIdeal.main_arg1)) (m' ((c.tc : Thread Cert.OddProjReferenceIdeal.nD Cert.OddProjReferenceIdeal.τ).loc Cert.OddProjReferenceIdeal.main_arg2)) : Cert.OddProjReferenceIdeal.S16384x1536.Idx → EReal)
    = fun i => Cert.OddProjIdeal.Np.res0 (m' ((c.tc : Thread Cert.OddProjReferenceIdeal.nD Cert.OddProjReferenceIdeal.τ).loc Cert.OddProjReferenceIdeal.main_arg0)) (m' ((c.tc : Thread Cert.OddProjReferenceIdeal.nD Cert.OddProjReferenceIdeal.τ).loc Cert.OddProjReferenceIdeal.main_arg1)) (m' ((c.tc : Thread Cert.OddProjReferenceIdeal.nD Cert.OddProjReferenceIdeal.τ).loc Cert.OddProjReferenceIdeal.main_arg2)) (i 0) (i 1) := by
  refine funext fun i => ?_
  have h := Cert.OddProjReferenceIdeal.Np.r0_apply (m' ((c.tc : Thread Cert.OddProjReferenceIdeal.nD Cert.OddProjReferenceIdeal.τ).loc Cert.OddProjReferenceIdeal.main_arg0)) (m' ((c.tc : Thread Cert.OddProjReferenceIdeal.nD Cert.OddProjReferenceIdeal.τ).loc Cert.OddProjReferenceIdeal.main_arg1)) (m' ((c.tc : Thread Cert.OddProjReferenceIdeal.nD Cert.OddProjReferenceIdeal.τ).loc Cert.OddProjReferenceIdeal.main_arg2)) (i 0) (i 1)
  rw [← eq_ix2 i] at h
  exact h

theorem ref1 : (Cert.OddProjReferenceIdeal.Read.val_main_v22 (m' ((c.tc : Thread Cert.OddProjReferenceIdeal.nD Cert.OddProjReferenceIdeal.τ).loc Cert.OddProjReferenceIdeal.main_arg0)) (m' ((c.tc : Thread Cert.OddProjReferenceIdeal.nD Cert.OddProjReferenceIdeal.τ).loc Cert.OddProjReferenceIdeal.main_arg1)) (m' ((c.tc : Thread Cert.OddProjReferenceIdeal.nD Cert.OddProjReferenceIdeal.τ).loc Cert.OddProjReferenceIdeal.main_arg2)) : Cert.OddProjReferenceIdeal.S16384x1024.Idx → EReal)
    = fun i => Cert.OddProjIdeal.Np.res1 (m' ((c.tc : Thread Cert.OddProjReferenceIdeal.nD Cert.OddProjReferenceIdeal.τ).loc Cert.OddProjReferenceIdeal.main_arg0)) (m' ((c.tc : Thread Cert.OddProjReferenceIdeal.nD Cert.OddProjReferenceIdeal.τ).loc Cert.OddProjReferenceIdeal.main_arg1)) (m' ((c.tc : Thread Cert.OddProjReferenceIdeal.nD Cert.OddProjReferenceIdeal.τ).loc Cert.OddProjReferenceIdeal.main_arg2)) (i 0) (i 1) := by
  refine funext fun i => ?_
  have h := Cert.OddProjReferenceIdeal.Np.r1_apply (m' ((c.tc : Thread Cert.OddProjReferenceIdeal.nD Cert.OddProjReferenceIdeal.τ).loc Cert.OddProjReferenceIdeal.main_arg0)) (m' ((c.tc : Thread Cert.OddProjReferenceIdeal.nD Cert.OddProjReferenceIdeal.τ).loc Cert.OddProjReferenceIdeal.main_arg1)) (m' ((c.tc : Thread Cert.OddProjReferenceIdeal.nD Cert.OddProjReferenceIdeal.τ).loc Cert.OddProjReferenceIdeal.main_arg2)) (i 0) (i 1)
  rw [← eq_ix2 i] at h
  exact h

theorem ref2 : (Cert.OddProjReferenceIdeal.Read.val_main_v24 (m' ((c.tc : Thread Cert.OddProjReferenceIdeal.nD Cert.OddProjReferenceIdeal.τ).loc Cert.OddProjReferenceIdeal.main_arg0)) (m' ((c.tc : Thread Cert.OddProjReferenceIdeal.nD Cert.OddProjReferenceIdeal.τ).loc Cert.OddProjReferenceIdeal.main_arg1)) (m' ((c.tc : Thread Cert.OddProjReferenceIdeal.nD Cert.OddProjReferenceIdeal.τ).loc Cert.OddProjReferenceIdeal.main_arg2)) : Cert.OddProjReferenceIdeal.S16384x512.Idx → EReal)
    = fun i => Cert.OddProjIdeal.Np.res2 (m' ((c.tc : Thread Cert.OddProjReferenceIdeal.nD Cert.OddProjReferenceIdeal.τ).loc Cert.OddProjReferenceIdeal.main_arg0)) (m' ((c.tc : Thread Cert.OddProjReferenceIdeal.nD Cert.OddProjReferenceIdeal.τ).loc Cert.OddProjReferenceIdeal.main_arg1)) (m' ((c.tc : Thread Cert.OddProjReferenceIdeal.nD Cert.OddProjReferenceIdeal.τ).loc Cert.OddProjReferenceIdeal.main_arg2)) (i 0) (i 1) := by
  refine funext fun i => ?_
  have h := Cert.OddProjReferenceIdeal.Np.r2_apply (m' ((c.tc : Thread Cert.OddProjReferenceIdeal.nD Cert.OddProjReferenceIdeal.τ).loc Cert.OddProjReferenceIdeal.main_arg0)) (m' ((c.tc : Thread Cert.OddProjReferenceIdeal.nD Cert.OddProjReferenceIdeal.τ).loc Cert.OddProjReferenceIdeal.main_arg1)) (m' ((c.tc : Thread Cert.OddProjReferenceIdeal.nD Cert.OddProjReferenceIdeal.τ).loc Cert.OddProjReferenceIdeal.main_arg2)) (i 0) (i 1)
  rw [← eq_ix2 i] at h
  exact h

theorem ref3 : (Cert.OddProjReferenceIdeal.Read.val_main_v25 (m' ((c.tc : Thread Cert.OddProjReferenceIdeal.nD Cert.OddProjReferenceIdeal.τ).loc Cert.OddProjReferenceIdeal.main_arg0)) (m' ((c.tc : Thread Cert.OddProjReferenceIdeal.nD Cert.OddProjReferenceIdeal.τ).loc Cert.OddProjReferenceIdeal.main_arg1)) (m' ((c.tc : Thread Cert.OddProjReferenceIdeal.nD Cert.OddProjReferenceIdeal.τ).loc Cert.OddProjReferenceIdeal.main_arg2)) : Cert.OddProjReferenceIdeal.S16384x512.Idx → EReal)
    = fun i => Cert.OddProjIdeal.Np.res3 (m' ((c.tc : Thread Cert.OddProjReferenceIdeal.nD Cert.OddProjReferenceIdeal.τ).loc Cert.OddProjReferenceIdeal.main_arg0)) (m' ((c.tc : Thread Cert.OddProjReferenceIdeal.nD Cert.OddProjReferenceIdeal.τ).loc Cert.OddProjReferenceIdeal.main_arg1)) (m' ((c.tc : Thread Cert.OddProjReferenceIdeal.nD Cert.OddProjReferenceIdeal.τ).loc Cert.OddProjReferenceIdeal.main_arg2)) (i 0) (i 1) := by
  refine funext fun i => ?_
  have h := Cert.OddProjReferenceIdeal.Np.r3_apply (m' ((c.tc : Thread Cert.OddProjReferenceIdeal.nD Cert.OddProjReferenceIdeal.τ).loc Cert.OddProjReferenceIdeal.main_arg0)) (m' ((c.tc : Thread Cert.OddProjReferenceIdeal.nD Cert.OddProjReferenceIdeal.τ).loc Cert.OddProjReferenceIdeal.main_arg1)) (m' ((c.tc : Thread Cert.OddProjReferenceIdeal.nD Cert.OddProjReferenceIdeal.τ).loc Cert.OddProjReferenceIdeal.main_arg2)) (i 0) (i 1)
  rw [← eq_ix2 i] at h
  exact h

theorem ref4 : (Cert.OddProjReferenceIdeal.Read.val_main_v26 (m' ((c.tc : Thread Cert.OddProjReferenceIdeal.nD Cert.OddProjReferenceIdeal.τ).loc Cert.OddProjReferenceIdeal.main_arg0)) (m' ((c.tc : Thread Cert.OddProjReferenceIdeal.nD Cert.OddProjReferenceIdeal.τ).loc Cert.OddProjReferenceIdeal.main_arg1)) (m' ((c.tc : Thread Cert.OddProjReferenceIdeal.nD Cert.OddProjReferenceIdeal.τ).loc Cert.OddProjReferenceIdeal.main_arg2)) : Cert.OddProjReferenceIdeal.S16384x128.Idx → EReal)
    = fun i => Cert.OddProjIdeal.Np.res4 (m' ((c.tc : Thread Cert.OddProjReferenceIdeal.nD Cert.OddProjReferenceIdeal.τ).loc Cert.OddProjReferenceIdeal.main_arg0)) (m' ((c.tc : Thread Cert.OddProjReferenceIdeal.nD Cert.OddProjReferenceIdeal.τ).loc Cert.OddProjReferenceIdeal.main_arg1)) (m' ((c.tc : Thread Cert.OddProjReferenceIdeal.nD Cert.OddProjReferenceIdeal.τ).loc Cert.OddProjReferenceIdeal.main_arg2)) (i 0) (i 1) := by
  refine funext fun i => ?_
  have h := Cert.OddProjReferenceIdeal.Np.r4_apply (m' ((c.tc : Thread Cert.OddProjReferenceIdeal.nD Cert.OddProjReferenceIdeal.τ).loc Cert.OddProjReferenceIdeal.main_arg0)) (m' ((c.tc : Thread Cert.OddProjReferenceIdeal.nD Cert.OddProjReferenceIdeal.τ).loc Cert.OddProjReferenceIdeal.main_arg1)) (m' ((c.tc : Thread Cert.OddProjReferenceIdeal.nD Cert.OddProjReferenceIdeal.τ).loc Cert.OddProjReferenceIdeal.main_arg2)) (i 0) (i 1)
  rw [← eq_ix2 i] at h
  exact h

/-- The reference runs, leaves its arguments and has no counter to leave. -/
theorem reference_frame : Cert.quiescent_OddProjReferenceIdeal := fun m ρ _ =>
  (θ_run Cert.OddProjReferenceIdeal.defs _ _).mono (fun r h => ⟨fun c => (h c).2.2.2.2.2, sem_eq_zero_of_no_sems (by decide) r.2⟩) (Cert.OddProjReferenceIdeal.Value.run m ρ)

/-- The kernel runs on machine words, -/
theorem frame : Cert.quiescent_OddProj := fun m ρ _ => Cert.OddProj.Gen.frame m ρ

/-- and on the extended reals. -/
theorem ideal_frame : Cert.quiescent_OddProjIdeal := fun m ρ _ => Cert.OddProjIdeal.Gen.frame m ρ

/-- From equal arguments the two programs end with equal results. -/
theorem algebraic : Cert.algebraic_OddProjIdeal_OddProjReferenceIdeal := by
  intro m g m' g' _ hargs
  refine ⟨fun c => Cert.OddProjIdeal.Np.G7 m c, fun c => Cert.OddProjIdeal.Np.G8 m c, fun c => Cert.OddProjIdeal.Np.G9 m c, fun c => Cert.OddProjIdeal.Np.G10 m c, fun c => Cert.OddProjIdeal.Np.G11 m c, ?_, ?_⟩
  · exact (θ_run _ _ _).mono (fun r hr c => ⟨(hr c).1.trans (Cert.OddProjIdeal.Np.final7 m c), (hr c).2.1.trans (Cert.OddProjIdeal.Np.final8 m c), (hr c).2.2.1.trans (Cert.OddProjIdeal.Np.final9 m c), (hr c).2.2.2.1.trans (Cert.OddProjIdeal.Np.final10 m c), (hr c).2.2.2.2.1.trans (Cert.OddProjIdeal.Np.final11 m c), (hr c).2.2.2.2.2⟩) (Cert.OddProjIdeal.Value.run_blocks m g)
  · refine (θ_run _ _ _).mono (fun r hr c => ⟨?_, ?_, ?_, ?_, ?_, (hr c).2.2.2.2.2⟩) (Cert.OddProjReferenceIdeal.Value.run m' g')
    · obtain ⟨e0, e1, e2⟩ := hargs c
      refine (hr c).1.trans ((Cert.OddProjReferenceIdeal.Read.val_main_v21_eq _ _ _).trans ((ref0 m' c).trans ?_))
      rw [e0, e1, e2]
      rfl
    · obtain ⟨e0, e1, e2⟩ := hargs c
      refine (hr c).2.1.trans ((Cert.OddProjReferenceIdeal.Read.val_main_v22_eq _ _ _).trans ((ref1 m' c).trans ?_))
      rw [e0, e1, e2]
      rfl
    · obtain ⟨e0, e1, e2⟩ := hargs c
      refine (hr c).2.2.1.trans ((Cert.OddProjReferenceIdeal.Read.val_main_v24_eq _ _ _).trans ((ref2 m' c).trans ?_))
      rw [e0, e1, e2]
      rfl
    · obtain ⟨e0, e1, e2⟩ := hargs c
      refine (hr c).2.2.2.1.trans ((Cert.OddProjReferenceIdeal.Read.val_main_v25_eq _ _ _).trans ((ref3 m' c).trans ?_))
      rw [e0, e1, e2]
      rfl
    · obtain ⟨e0, e1, e2⟩ := hargs c
      refine (hr c).2.2.2.2.1.trans ((Cert.OddProjReferenceIdeal.Read.val_main_v26_eq _ _ _).trans ((ref4 m' c).trans ?_))
      rw [e0, e1, e2]
      rfl

end Cert.OddTie

end
-- ==== Proof.RouterMath.lean ====
module

public import Idealize.ShloMosaic.Lib.SortFacts
public import Idealize.ShloMosaic.Lib.SortNet.Extract
public import Idealize.ShloMosaic.PureOps.Ideal
public import Idealize.ShloMosaic.PureOps.Ideal.Laws
public import Idealize.ShloMosaic.PureOps.Reduce
public import Mathlib.Data.EReal.Operations

@[expose] public section

set_option maxRecDepth 65536

noncomputable section

/-! Facts the routing needs: what a stable descending sort puts first and second, the first lane that holds
    a row's maximum, and the two gates of a pair of scores. -/

namespace Cert.RouterIdeal.Rt

open Idealize.ShloMosaic

/-! ### The order of a stable descending sort -/

/-- Greater first, and of equals the earlier. -/
def lex {n : ℕ} (f : Fin n → EReal) (a b : Fin n) : Prop := f b < f a ∨ (f a = f b ∧ a < b)

/-- The comparison the sort makes. -/
def gtb {n : ℕ} (f : Fin n → EReal) (a b : Fin n) : Bool := decide (f b < f a)

theorem lex_trans {n : ℕ} {f : Fin n → EReal} {a b c : Fin n} (h : lex f a b) (h' : lex f b c) : lex f a c := by
  rcases h with h | ⟨h, k⟩ <;> rcases h' with h' | ⟨h', k'⟩
  · exact .inl (h'.trans h)
  · exact .inl (by rw [← h']; exact h)
  · exact .inl (by rw [h]; exact h')
  · exact .inr ⟨h.trans h', k.trans k'⟩

theorem pairwise_insert {n : ℕ} (f : Fin n → EReal) (a : Fin n) (l : List (Fin n)) (hl : l.Pairwise (lex f)) (ha : ∀ b ∈ l, a < b) :
    (insertBefore (gtb f) a l).Pairwise (lex f) := by
  induction l with
  | nil => exact List.pairwise_singleton _ _
  | cons b l ih =>
    obtain ⟨hb, hl⟩ := List.pairwise_cons.1 hl
    unfold insertBefore
    by_cases h : f a < f b
    · rw [if_pos (show gtb f b a = true from decide_eq_true h)]
      refine List.pairwise_cons.2 ⟨fun c hc => ?_, ih hl fun c hc => ha c (List.mem_cons_of_mem _ hc)⟩
      rcases List.mem_cons.1 ((perm_insertBefore _ a l).mem_iff.1 hc) with rfl | hc
      · exact .inl h
      · exact hb c hc
    · rw [if_neg (show ¬ gtb f b a = true by rw [show gtb f b a = false from decide_eq_false h]; exact Bool.false_ne_true)]
      have hab : lex f a b := by
        rcases lt_or_eq_of_le (not_lt.1 h) with h | h
        · exact .inl h
        · exact .inr ⟨h.symm, ha b List.mem_cons_self⟩
      refine List.pairwise_cons.2 ⟨fun c hc => ?_, List.pairwise_cons.2 ⟨hb, hl⟩⟩
      rcases List.mem_cons.1 hc with rfl | hc
      · exact hab
      · exact lex_trans hab (hb c hc)

theorem pairwise_sorted {n : ℕ} (f : Fin n → EReal) (l : List (Fin n)) (hl : l.Pairwise (· < ·)) : (stableSort (gtb f) l).Pairwise (lex f) := by
  induction l with
  | nil => exact List.Pairwise.nil
  | cons a l ih =>
    obtain ⟨ha, hl⟩ := List.pairwise_cons.1 hl
    exact pairwise_insert f a _ (ih hl) fun b hb => ha b ((perm_stableSort _ l).mem_iff.1 hb)

/-- Later in the sorted order is later in the order. -/
theorem sorted_lex {n : ℕ} (f : Fin n → EReal) (i j : Fin n) (h : i < j) : lex f (sortedFrom (gtb f) i) (sortedFrom (gtb f) j) := by
  have hp : (sortPositions n (gtb f)).Pairwise (lex f) := pairwise_sorted f _ (List.pairwise_lt_finRange n)
  exact List.pairwise_iff_get.1 hp (i.cast (length_sortPositions n _).symm) (j.cast (length_sortPositions n _).symm) h

/-- The first and the second of a row of eight. -/
def p0 (f : Fin 8 → EReal) : Fin 8 := sortedFrom (gtb f) 0
def p1 (f : Fin 8 → EReal) : Fin 8 := sortedFrom (gtb f) 1

theorem p1_ne (f : Fin 8 → EReal) : p1 f ≠ p0 f := fun h => by
  have := sortedFrom_injective (gtb f) h
  exact absurd this (by decide)

theorem lex_p0 (f : Fin 8 → EReal) (q : Fin 8) (h : q ≠ p0 f) : lex f (p0 f) q := by
  obtain ⟨k, rfl⟩ := sortedFrom_surjective (gtb f) q
  refine sorted_lex f 0 k (Fin.pos_iff_ne_zero.2 ?_)
  rintro rfl
  exact h rfl

theorem lex_p1 (f : Fin 8 → EReal) (q : Fin 8) (h : q ≠ p0 f) (h' : q ≠ p1 f) : lex f (p1 f) q := by
  obtain ⟨k, rfl⟩ := sortedFrom_surjective (gtb f) q
  refine sorted_lex f 1 k ?_
  have h0 : k ≠ 0 := by rintro rfl; exact h rfl
  have h1 : k ≠ 1 := by rintro rfl; exact h' rfl
  refine Fin.lt_def.2 ?_
  have e0 : k.val ≠ 0 := fun e => h0 (Fin.ext e)
  have e1 : k.val ≠ 1 := fun e => h1 (Fin.ext e)
  show 1 < k.val
  omega

theorem le_p0 (f : Fin 8 → EReal) (q : Fin 8) : f q ≤ f (p0 f) := by
  by_cases h : q = p0 f
  · rw [h]
  · rcases lex_p0 f q h with h | ⟨h, _⟩
    · exact h.le
    · exact h.ge

theorem le_p1 (f : Fin 8 → EReal) (q : Fin 8) (h : q ≠ p0 f) : f q ≤ f (p1 f) := by
  by_cases h' : q = p1 f
  · rw [h']
  · rcases lex_p1 f q h h' with h | ⟨h, _⟩
    · exact h.le
    · exact h.ge

theorem first_p0 (f : Fin 8 → EReal) (q : Fin 8) (h : f q = f (p0 f)) : p0 f ≤ q := by
  by_cases e : q = p0 f
  · exact e.ge
  · rcases lex_p0 f q e with h' | ⟨_, h'⟩
    · exact absurd h h'.ne
    · exact h'.le

theorem first_p1 (f : Fin 8 → EReal) (q : Fin 8) (hq : q ≠ p0 f) (h : f q = f (p1 f)) : p1 f ≤ q := by
  by_cases e : q = p1 f
  · exact e.ge
  · rcases lex_p1 f q hq e with h' | ⟨_, h'⟩
    · exact absurd h h'.ne
    · exact h'.le

/-! ### Folds along a row -/

/-- A row's maximum from minus infinity is an entry that no entry exceeds. -/
theorem fold_max {n : ℕ} (g : Fin n → EReal) (p : Fin n) (h : ∀ q, g q ≤ g p) : (Finset.univ : Finset (Fin n)).fold max ⊥ g = g p := by
  refine le_antisymm (Finset.fold_max_le _ |>.2 ⟨bot_le, fun q _ => h q⟩) (Finset.le_fold_max _ |>.2 (.inr ⟨p, Finset.mem_univ _, le_rfl⟩))

/-- The least of the lanes that hold a maximum. -/
theorem fold_min {w : Fin 128 → BitVec 32} (P : Fin 128 → Prop) (p : Fin 128) (hp : P p) (hmin : ∀ q, P q → p ≤ q)
    (hw : ∀ q, P q → w q = BitVec.ofNat 32 q.val) (hw' : ∀ q, ¬ P q → w q = 128#32) :
    (Finset.univ : Finset (Fin 128)).fold IntOp.minsi 2147483647#32 w = BitVec.ofNat 32 p.val := by
  have hv : ∀ q : Fin 128, (BitVec.ofNat 32 q.val).toInt = q.val := by decide
  refine BitVec.eq_of_toInt_eq ?_
  have hh := Finset.fold_hom (op := IntOp.minsi (w := 32)) (op' := (min : ℤ → ℤ → ℤ)) (s := (Finset.univ : Finset (Fin 128))) (b := 2147483647#32) (f := w) (m := BitVec.toInt) (fun a b => SortNet.toInt_minsi a b)
  rw [← hh, hv]
  refine le_antisymm ?_ ?_
  · refine Finset.fold_min_le _ |>.2 (.inr ⟨p, Finset.mem_univ _, ?_⟩)
    rw [hw p hp, hv]
  · refine Finset.le_fold_min _ |>.2 ⟨?_, fun q _ => ?_⟩
    · have := p.isLt
      rw [show (2147483647#32 : BitVec 32).toInt = 2147483647 by decide]
      omega
    · by_cases h : P q
      · rw [hw q h, hv]
        exact_mod_cast hmin q h
      · rw [hw' q h, show (128#32 : BitVec 32).toInt = 128 by decide]
        have := p.isLt
        omega

/-! ### The lanes of a row -/

/-- The eight scores and minus infinity after them. -/
def lanes (f : Fin 8 → EReal) (l : Fin 128) : EReal := if h : l.val < 8 then f ⟨l.val, h⟩ else ⊥
/-- The same with the first pick taken out. -/
def lanes' (f : Fin 8 → EReal) (l : Fin 128) : EReal := if l.val = (p0 f).val then ⊥ else lanes f l
/-- An expert's lane. -/
def ln (p : Fin 8) : Fin 128 := ⟨p.val, by omega⟩

theorem lanes_ln (f : Fin 8 → EReal) (p : Fin 8) : lanes f (ln p) = f p := dif_pos p.isLt

theorem lanes'_p1 (f : Fin 8 → EReal) : lanes' f (ln (p1 f)) = f (p1 f) := by
  unfold lanes'
  rw [if_neg (show ¬ (ln (p1 f)).val = (p0 f).val from fun h => p1_ne f (Fin.ext h)), lanes_ln]

theorem lanes_max (f : Fin 8 → EReal) : (Finset.univ : Finset (Fin 128)).fold max ⊥ (lanes f) = f (p0 f) := by
  refine (fold_max (lanes f) (ln (p0 f)) fun q => ?_).trans (lanes_ln f _)
  rw [lanes_ln]
  unfold lanes
  split
  · exact le_p0 f _
  · exact bot_le

theorem lanes'_max (f : Fin 8 → EReal) : (Finset.univ : Finset (Fin 128)).fold max ⊥ (lanes' f) = f (p1 f) := by
  refine (fold_max (lanes' f) (ln (p1 f)) fun q => ?_).trans (lanes'_p1 f)
  rw [lanes'_p1]
  unfold lanes' lanes
  split
  · exact bot_le
  · next h =>
    split
    · next h' => exact le_p1 f _ fun e => h (congrArg Fin.val e)
    · exact bot_le

/-- The first lane of the maximum is the first pick. -/
theorem lanes_first (f : Fin 8 → EReal) (hf : ∀ q, f q ≠ ⊥) {w : Fin 128 → BitVec 32} (hw : ∀ q, lanes f q = f (p0 f) → w q = BitVec.ofNat 32 q.val)
    (hw' : ∀ q, lanes f q ≠ f (p0 f) → w q = 128#32) :
    (Finset.univ : Finset (Fin 128)).fold IntOp.minsi 2147483647#32 w = BitVec.ofNat 32 (p0 f).val := by
  refine fold_min (fun q => lanes f q = f (p0 f)) (ln (p0 f)) (lanes_ln f _) (fun q h => ?_) hw hw'
  unfold lanes at h
  split at h
  · exact first_p0 f _ h
  · exact absurd h.symm (hf _)

/-- The first lane of what is left's maximum is the second pick. -/
theorem lanes'_first (f : Fin 8 → EReal) (hf : ∀ q, f q ≠ ⊥) {w : Fin 128 → BitVec 32} (hw : ∀ q, lanes' f q = f (p1 f) → w q = BitVec.ofNat 32 q.val)
    (hw' : ∀ q, lanes' f q ≠ f (p1 f) → w q = 128#32) :
    (Finset.univ : Finset (Fin 128)).fold IntOp.minsi 2147483647#32 w = BitVec.ofNat 32 (p1 f).val := by
  refine fold_min (fun q => lanes' f q = f (p1 f)) (ln (p1 f)) (lanes'_p1 f) (fun q h => ?_) hw hw'
  unfold lanes' lanes at h
  split at h
  · exact absurd h.symm (hf _)
  · next h0 =>
    split at h
    · exact first_p1 f _ (fun e => h0 (congrArg Fin.val e)) h
    · exact absurd h.symm (hf _)

/-! ### Real numbers among the extended ones -/

/-- An extended real that is a number. -/
def Num (x : EReal) : Prop := ∃ y : ℝ, x = y

theorem Num.add {x y : EReal} : Num x → Num y → Num (x + y)
  | ⟨a, ha⟩, ⟨b, hb⟩ => ⟨a + b, by rw [ha, hb, EReal.coe_add]⟩
theorem Num.mul {x y : EReal} : Num x → Num y → Num (x * y)
  | ⟨a, ha⟩, ⟨b, hb⟩ => ⟨a * b, by rw [ha, hb, EReal.coe_mul]⟩
theorem Num.sum {ι : Type} (s : Finset ι) {f : ι → EReal} (h : ∀ i, Num (f i)) : Num (∑ i ∈ s, f i) := by
  classical
  induction s using Finset.induction_on with
  | empty => exact ⟨0, by rw [Finset.sum_empty, EReal.coe_zero]⟩
  | insert a s ha ih => rw [Finset.sum_insert ha]; exact (h a).add ih
theorem Num.sub_self {x : EReal} : Num x → x - x = 0
  | ⟨a, ha⟩ => by rw [ha, ← EReal.coe_sub, _root_.sub_self, EReal.coe_zero]
theorem Num.add_neg {x : EReal} (h : Num x) : x + -x = 0 := by rw [← sub_eq_add_neg]; exact h.sub_self
theorem Num.ne_bot {x : EReal} : Num x → x ≠ ⊥
  | ⟨a, ha⟩ => by rw [ha]; exact EReal.coe_ne_bot a

end Cert.RouterIdeal.Rt

end
-- ==== Proof.RouterRun.lean ====
module

public import proofs.«01_k».proof.Proof.Gen.RouterIdeal
public import proofs.«01_k».proof.Proof.Gen.RouterIdeal.Skeleton
public import proofs.«01_k».proof.Proof.Gen.RouterIdeal.Launch
public import proofs.«01_k».proof.Proof.Gen.RouterIdeal.Points
public import proofs.«01_k».proof.Proof.Gen.RouterIdeal.Frame
public import Idealize.ShloMosaic.Lib.Claim
public import Idealize.ShloMosaic.Lib.WholeRead
public import Idealize.ShloMosaic.Lib.Pipeline.ValueKit
public import Idealize.ShloMosaic.Lib.Pipeline.Value

@[expose] public section

set_option maxRecDepth 65536

noncomputable section

namespace Cert.RouterIdeal.Rt

open Cert.RouterIdeal Cert.RouterIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The stream after the output projection: the block's rows, plus the two heads' outputs times their halves of the weights. -/
def x1V (x0 : Vec F S512x1024 .f32) (x1 : Vec F S512x512 .bf16) (x2 : Vec F S512x512 .bf16) (x3 : Vec F S1024x1024 .bf16) : Vec F S512x1024 .f32 :=
  k0_pay2 x0 x1 (View.ld x3 (Rect.unit (s := S1024x1024) ![0, 0] S512x1024.size inb_S1024x1024_S512x1024_0_0)) x2 (View.ld x3 (Rect.unit (s := S1024x1024) ![512, 0] S512x1024.size inb_S1024x1024_S512x1024_512_0))

/-- The normalised rows. -/
def hV (x0 : Vec F S512x1024 .f32) (x1 : Vec F S512x512 .bf16) (x2 : Vec F S512x512 .bf16) (x3 : Vec F S1024x1024 .bf16) (x4 : Vec F S1x1024 .f32) : Vec F S512x1024 .f32 :=
  k0_pay3 x0 x1 (View.ld x3 (Rect.unit (s := S1024x1024) ![0, 0] S512x1024.size inb_S1024x1024_S512x1024_0_0)) x2 (View.ld x3 (Rect.unit (s := S1024x1024) ![512, 0] S512x1024.size inb_S1024x1024_S512x1024_512_0)) x4

/-- The logits, the lanes past the experts at minus infinity, -/
def lgV (h : Vec F S512x1024 .f32) (x5 : Vec F S1024x256 .bf16) : Vec F S512x128 .f32 :=
  k0_pay12 h x5 (View.ld x5 (Rect.unit (s := S1024x256) ![0, 0] S1024x128.size inb_S1024x256_S1024x128_0_0))

/-- and a row's greatest. -/
def m1V (h : Vec F S512x1024 .f32) (x5 : Vec F S1024x256 .bf16) : Vec F S512x1 .f32 :=
  k0_pay13 h x5 (View.ld x5 (Rect.unit (s := S1024x256) ![0, 0] S1024x128.size inb_S1024x256_S1024x128_0_0))

/-- The lanes' numbers. -/
def laneV : IVec S512x128 32 := iota .tc S512x128 32 [1] iota_S512x128_d1_w32

/-- What the routing makes of the logits and their greatest. -/
def rtV (lg : Vec F S512x128 .f32) (m : Vec F S512x1 .f32) : Vec F S512x128 .f32 :=
  k0_pay1 (k0_pay17 laneV) (k0_pay18 laneV lg m) (k0_pay19 laneV) (k0_pay20 laneV lg m) (k0_pay21 laneV lg m)

/-- The stores of the stream, -/
def L6V (x0 : Vec F S512x1024 .f32) (x1 : Vec F S512x512 .bf16) (x2 : Vec F S512x512 .bf16) (x3 : Vec F S1024x1024 .bf16) : List (View.Piece (Elt F) S512x1024 .f32) :=
  [⟨Rect.unit (s := S512x1024) ![0, 0] S512x1024.size inb_S512x1024_S512x1024_0_0, x1V x0 x1 x2 x3⟩]

/-- of the normalised rows, one lane tile of every row at a time, -/
def L7V (h : Vec F S512x1024 .f32) : List (View.Piece (Elt F) S4096x128 .f32) :=
  [⟨⟨(⟨![7, 0], S512x128.size, ![8, 1], inb_S4096x128_S512x128_7_0_s_8_1⟩ : LoadRect S4096x128), spos_8_1⟩, extractStridedSlice S512x128 ![0, 896] h slices_S512x1024_o0_896_S512x128⟩, ⟨⟨(⟨![6, 0], S512x128.size, ![8, 1], inb_S4096x128_S512x128_6_0_s_8_1⟩ : LoadRect S4096x128), spos_8_1⟩, extractStridedSlice S512x128 ![0, 768] h slices_S512x1024_o0_768_S512x128⟩, ⟨⟨(⟨![5, 0], S512x128.size, ![8, 1], inb_S4096x128_S512x128_5_0_s_8_1⟩ : LoadRect S4096x128), spos_8_1⟩, extractStridedSlice S512x128 ![0, 640] h slices_S512x1024_o0_640_S512x128⟩, ⟨⟨(⟨![4, 0], S512x128.size, ![8, 1], inb_S4096x128_S512x128_4_0_s_8_1⟩ : LoadRect S4096x128), spos_8_1⟩, extractStridedSlice S512x128 ![0, 512] h slices_S512x1024_o0_512_S512x128⟩, ⟨⟨(⟨![3, 0], S512x128.size, ![8, 1], inb_S4096x128_S512x128_3_0_s_8_1⟩ : LoadRect S4096x128), spos_8_1⟩, extractStridedSlice S512x128 ![0, 384] h slices_S512x1024_o0_384_S512x128⟩, ⟨⟨(⟨![2, 0], S512x128.size, ![8, 1], inb_S4096x128_S512x128_2_0_s_8_1⟩ : LoadRect S4096x128), spos_8_1⟩, extractStridedSlice S512x128 ![0, 256] h slices_S512x1024_o0_256_S512x128⟩, ⟨⟨(⟨![1, 0], S512x128.size, ![8, 1], inb_S4096x128_S512x128_1_0_s_8_1⟩ : LoadRect S4096x128), spos_8_1⟩, extractStridedSlice S512x128 ![0, 128] h slices_S512x1024_o0_128_S512x128⟩, ⟨⟨(⟨![0, 0], S512x128.size, ![8, 1], inb_S4096x128_S512x128_0_0_s_8_1⟩ : LoadRect S4096x128), spos_8_1⟩, extractStridedSlice S512x128 ![0, 0] h slices_S512x1024_o0_0_S512x128⟩]

/-- and of the routing. -/
def L8V (r : Vec F S512x128 .f32) : List (View.Piece (Elt F) S512x128 .f32) :=
  [⟨Rect.unit (s := S512x128) ![0, 0] S512x128.size inb_S512x128_S512x128_0_0, r⟩]

/-- From its arguments' blocks the body runs, leaves them as they were, and leaves the lists written in the results' buffers. -/
def Runs (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x256 .bf16) (harg6 : arg6.IsWhole) (arg7 : Memref sig .tc .vmem S512x1024 .f32) (harg7 : arg7.IsWhole) (arg8 : Memref sig .tc .vmem S4096x128 .f32) (harg8 : arg8.IsWhole) (arg9 : Memref sig .tc .vmem S512x128 .f32) (harg9 : arg9.IsWhole)
    (x0 : Vec F S512x1024 .f32) (x1 : Vec F S512x512 .bf16) (x2 : Vec F S512x512 .bf16) (x3 : Vec F S1024x1024 .bf16) (x4 : Vec F S1x1024 .f32) (x5 : Vec F S1024x256 .bf16) (L6 : List (View.Piece (Elt F) S512x1024 .f32)) (L7 : List (View.Piece (Elt F) S4096x128 .f32)) (L8 : List (View.Piece (Elt F) S512x128 .f32)) : Prop :=
  ∀ (E : Set ℕ) (K : PUnit → sProp 𝕄),
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
      ⊢ wp frame (wpE (defs₀ (F := F)) Variants.none c none) E (cc0_out_proj_router i arg1 harg1 arg2 harg2 arg3 harg3 arg4 harg4 arg5 harg5 arg6 harg6 arg7 harg7 arg8 harg8 arg9 harg9) K

/-- The body: what it stores, found by running it. -/
def run (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x256 .bf16) (harg6 : arg6.IsWhole) (arg7 : Memref sig .tc .vmem S512x1024 .f32) (harg7 : arg7.IsWhole) (arg8 : Memref sig .tc .vmem S4096x128 .f32) (harg8 : arg8.IsWhole) (arg9 : Memref sig .tc .vmem S512x128 .f32) (harg9 : arg9.IsWhole)
    (x0 : Vec F S512x1024 .f32) (x1 : Vec F S512x512 .bf16) (x2 : Vec F S512x512 .bf16) (x3 : Vec F S1024x1024 .bf16) (x4 : Vec F S1x1024 .f32) (x5 : Vec F S1024x256 .bf16) :
    { L : List (View.Piece (Elt F) S512x1024 .f32) × List (View.Piece (Elt F) S4096x128 .f32) × List (View.Piece (Elt F) S512x128 .f32) // Runs c i arg1 harg1 arg2 harg2 arg3 harg3 arg4 harg4 arg5 harg5 arg6 harg6 arg7 harg7 arg8 harg8 arg9 harg9 x0 x1 x2 x3 x4 x5 L.1 L.2.1 L.2.2 } := by
  refine ⟨(?_, ?_, ?_), fun E K => ?run⟩
  case run =>
    simp only [cc0_out_proj_router_eq_skeleton]; unfold cc0_out_proj_router_skel
    simp only [k0_part1_eq_skeleton, k0_part2_eq_skeleton, k0_part3_eq_skeleton]
    unfold k0_part1_skel k0_part2_skel k0_part3_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact H8

/-- A load from a block that was given reads the block. -/
theorem ld_unread {s : Shape} {e : EltTy} {m : Memref sig .tc .vmem s e} (h : m.IsWhole) (x : Vec F s e) (r : Rect s) :
    View.readAt (Elt F) m.view r.toLoadRect (h.unread x) = View.ld x r := by
  funext y; rw [h.readAt_unread]

/-- The stores are the ones listed. -/
theorem run_eq (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x256 .bf16) (harg6 : arg6.IsWhole) (arg7 : Memref sig .tc .vmem S512x1024 .f32) (harg7 : arg7.IsWhole) (arg8 : Memref sig .tc .vmem S4096x128 .f32) (harg8 : arg8.IsWhole) (arg9 : Memref sig .tc .vmem S512x128 .f32) (harg9 : arg9.IsWhole)
    (x0 : Vec F S512x1024 .f32) (x1 : Vec F S512x512 .bf16) (x2 : Vec F S512x512 .bf16) (x3 : Vec F S1024x1024 .bf16) (x4 : Vec F S1x1024 .f32) (x5 : Vec F S1024x256 .bf16) :
    (run c i arg1 harg1 arg2 harg2 arg3 harg3 arg4 harg4 arg5 harg5 arg6 harg6 arg7 harg7 arg8 harg8 arg9 harg9 x0 x1 x2 x3 x4 x5).1 = (L6V x0 x1 x2 x3, L7V (hV x0 x1 x2 x3 x4), L8V (rtV (lgV (hV x0 x1 x2 x3 x4) x5) (m1V (hV x0 x1 x2 x3 x4) x5))) := by
  have e0 : View.ld x0 (Rect.unit (s := S512x1024) ![0, 0] S512x1024.size inb_S512x1024_S512x1024_0_0) = x0 := View.ld_unit_lit (S := S512x1024) (off := ![0, 0]) _ _ (by decide)
  have e1 : View.ld x1 (Rect.unit (s := S512x512) ![0, 0] S512x512.size inb_S512x512_S512x512_0_0) = x1 := View.ld_unit_lit (S := S512x512) (off := ![0, 0]) _ _ (by decide)
  have e2 : View.ld x2 (Rect.unit (s := S512x512) ![0, 0] S512x512.size inb_S512x512_S512x512_0_0) = x2 := View.ld_unit_lit (S := S512x512) (off := ![0, 0]) _ _ (by decide)
  have e4 : View.ld x4 (Rect.unit (s := S1x1024) ![0, 0] S1x1024.size inb_S1x1024_S1x1024_0_0) = x4 := View.ld_unit_lit (S := S1x1024) (off := ![0, 0]) _ _ (by decide)
  have e5 : View.ld x5 (Rect.unit (s := S1024x256) ![0, 0] S1024x256.size inb_S1024x256_S1024x256_0_0) = x5 := View.ld_unit_lit (S := S1024x256) (off := ![0, 0]) _ _ (by decide)
  unfold run
  dsimp only
  simp only [ld_unread, e0, e1, e2, e4, e5]
  rfl

end Cert.RouterIdeal.Rt
end
-- ==== Proof.RouterBody.lean ====
module

public import proofs.«01_k».proof.Proof.RouterMath
public import proofs.«01_k».proof.Proof.RouterRun
public import proofs.«01_k».proof.Proof.FfnRead
public import Idealize.ShloMosaic.Lib.Pointwise

@[expose] public section

set_option maxRecDepth 65536

noncomputable section

/-! What a grid point of the router leaves in its three result blocks, read at an index. -/

namespace Cert.RouterIdeal.Rt

open Cert.RouterIdeal Cert.RouterIdeal.Gen
open Idealize.ShloMosaic Idealize.ShloMosaic.TcCoe
open Cert.FfnIdeal.Ff (dot rms)

theorem ofBits_bot : Ideal.ofBits .f32 0xFF800000#32 = ⊥ := by
  simp [Ideal.ofBits, Ideal.ieee]

theorem pay2_apply (v0 : Vec Ideal S512x1024 .f32) (v2 : Vec Ideal S512x512 .bf16) (v4 : Vec Ideal S512x1024 .bf16) (v8 : Vec Ideal S512x512 .bf16) (v10 : Vec Ideal S512x1024 .bf16)
    (r : Fin 512) (l : Fin 1024) :
    (k0_pay2 v0 v2 v4 v8 v10 : S512x1024.Idx → EReal) (ix2 r l)
      = (v0 : S512x1024.Idx → EReal) (ix2 r l) + dot (fun k => (v2 : S512x512.Idx → EReal) (ix2 r k)) (fun k => (v4 : S512x1024.Idx → EReal) (ix2 k l))
        + dot (fun k => (v8 : S512x512.Idx → EReal) (ix2 r k)) (fun k => (v10 : S512x1024.Idx → EReal) (ix2 k l)) := by
  pointwise [k0_pay2]
  unfold dot
  rfl

theorem pay3_apply (v0 : Vec Ideal S512x1024 .f32) (v2 : Vec Ideal S512x512 .bf16) (v4 : Vec Ideal S512x1024 .bf16) (v8 : Vec Ideal S512x512 .bf16) (v10 : Vec Ideal S512x1024 .bf16)
    (v15 : Vec Ideal S1x1024 .f32) (r : Fin 512) (l : Fin 1024) :
    (k0_pay3 v0 v2 v4 v8 v10 v15 : S512x1024.Idx → EReal) (ix2 r l)
      = rms (fun l => (k0_pay2 v0 v2 v4 v8 v10 : S512x1024.Idx → EReal) (ix2 r l)) (fun l => (v15 : S1x1024.Idx → EReal) (ix2 0 l)) l := by
  generalize hx : k0_pay2 v0 v2 v4 v8 v10 = x
  unfold k0_pay3
  rw [hx]
  pointwise
  unfold rms
  rfl

/-- A choice by a lane's number. -/
theorem sel_eq {α : Type} (l : Fin 128) (k : ℕ) (hk : k < 128) (a b : α) :
    Scalar.select (IntOp.cmpi .eq (BitVec.ofNat 32 l.val) (BitVec.ofNat 32 k)) a b = if l.val = k then a else b := by
  by_cases h : l.val = k
  · rw [if_pos h, h]
    unfold IntOp.cmpi Scalar.select
    simp
  · rw [if_neg h]
    have : ¬ BitVec.ofNat 32 l.val = BitVec.ofNat 32 k := fun e => h (by
      have := congrArg BitVec.toNat e
      rw [BitVec.toNat_ofNat, BitVec.toNat_ofNat] at this
      have := l.isLt
      omega)
    unfold IntOp.cmpi Scalar.select
    rw [show (BitVec.ofNat 32 l.val == BitVec.ofNat 32 k) = false from decide_eq_false this]
    rfl

/-- A choice by whether a lane is an expert's. -/
theorem sel_lt {α : Type} (l : Fin 128) (a b : α) :
    Scalar.select (IntOp.cmpi .slt (BitVec.ofNat 32 l.val) 8#32) a b = if l.val < 8 then a else b := by
  have h : ∀ l : Fin 128, IntOp.cmpi .slt (BitVec.ofNat 32 l.val) 8#32 = if l.val < 8 then 1#1 else 0#1 := by decide +kernel
  rw [h l]
  by_cases e : l.val < 8
  · rw [if_pos e, if_pos e]; rfl
  · rw [if_neg e, if_neg e]; rfl

theorem pay12_apply (h : FVec Ideal S512x1024 .f32) (w : Vec Ideal S1024x256 .bf16) (w' : Vec Ideal S1024x128 .bf16) (r : Fin 512) (l : Fin 128) :
    (k0_pay12 h w w' : S512x128.Idx → EReal) (ix2 r l)
      = if l.val < 8 then dot (fun k => (h : S512x1024.Idx → EReal) (ix2 r k)) (fun k => (w : S1024x256.Idx → EReal) (ix2 k ⟨l.val, by omega⟩))
          + dot (fun k => (h : S512x1024.Idx → EReal) (ix2 r k)) (fun k => (w : S1024x256.Idx → EReal) (ix2 k ⟨128 + l.val, by omega⟩))
          + dot (fun k => (h : S512x1024.Idx → EReal) (ix2 r k) - (h : S512x1024.Idx → EReal) (ix2 r k)) (fun k => (w' : S1024x128.Idx → EReal) (ix2 k l)) else ⊥ := by
  pointwise [k0_pay12]
  rw [ofBits_bot, sel_lt]
  rfl

theorem pay13_apply (h : FVec Ideal S512x1024 .f32) (w : Vec Ideal S1024x256 .bf16) (w' : Vec Ideal S1024x128 .bf16) (r : Fin 512) :
    (k0_pay13 h w w' : S512x1.Idx → EReal) (ix2 r 0) = (Finset.univ : Finset (Fin 128)).fold max ⊥ fun l => (k0_pay12 h w w' : S512x128.Idx → EReal) (ix2 r l) := by
  unfold k0_pay13
  pointwise
  rw [ofBits_bot]

/-- An expert's number as the routing writes it. -/
def wd (p : Fin 8) : EReal := (FloatOps.sitofp (F := Ideal) .f32 (BitVec.ofNat 32 p.val) : Ideal .f32)

/-- What the second score is to the first. -/
def e2 (f : Fin 8 → EReal) : EReal := Ideal.exp (f (p1 f) - f (p0 f))

/-- A row of the routing: the two experts' numbers, their gates, zeros. -/
def rt (f : Fin 8 → EReal) (l : Fin 128) : EReal :=
  if l.val = 0 then wd (p0 f) else if l.val = 1 then wd (p1 f) else if l.val = 2 then Ideal.div 1 (1 + e2 f)
  else if l.val = 3 then Ideal.div (e2 f) (1 + e2 f) else 0

section row

variable (g : FVec Ideal S512x128 .f32) (m : FVec Ideal S512x1 .f32) (r : Fin 512) (f : Fin 8 → EReal)
  (hg : ∀ l, (g : S512x128.Idx → EReal) (ix2 r l) = lanes f l) (hm : (m : S512x1.Idx → EReal) (ix2 r 0) = f (p0 f)) (hf : ∀ q, f q ≠ ⊥)

include hg hm hf

theorem pay14_apply : (k0_pay14 (F := Ideal) laneV g m : S512x1.Idx → BitVec 32) (ix2 r 0) = BitVec.ofNat 32 (p0 f).val := by
  pointwise [k0_pay14, laneV]
  refine lanes_first f hf (fun q h => ?_) fun q h => ?_
  · rw [hg, hm, if_pos h]
  · rw [hg, hm, if_neg h]

theorem pay15_apply (l : Fin 128) : (k0_pay15 (F := Ideal) laneV g m : S512x128.Idx → EReal) (ix2 r l) = lanes' f l := by
  have h := pay14_apply g m r f hg hm hf
  unfold k0_pay15
  generalize k0_pay14 (F := Ideal) laneV g m = x at h ⊢
  pointwise [laneV]
  rw [h, hg, ofBits_bot, sel_eq l _ (by omega)]
  rfl

theorem pay16_apply : (k0_pay16 (F := Ideal) laneV g m : S512x1.Idx → EReal) (ix2 r 0) = f (p1 f) := by
  have h := pay15_apply g m r f hg hm hf
  unfold k0_pay16
  generalize k0_pay15 (F := Ideal) laneV g m = x at h ⊢
  pointwise
  rw [ofBits_bot]
  refine Eq.trans ?_ (lanes'_max f)
  exact congrArg (fun g => (Finset.univ : Finset (Fin 128)).fold max ⊥ g) (funext h)

theorem pay21_apply (l : Fin 128) : (k0_pay21 (F := Ideal) laneV g m : S512x128.Idx → EReal) (ix2 r l) = wd (p1 f) := by
  have h := pay15_apply g m r f hg hm hf
  have h' := pay16_apply g m r f hg hm hf
  unfold k0_pay21
  generalize k0_pay15 (F := Ideal) laneV g m = x at h ⊢
  generalize k0_pay16 (F := Ideal) laneV g m = y at h' ⊢
  pointwise [laneV]
  unfold wd
  rw [h']
  refine congrArg (fun v : BitVec 32 => (FloatOps.sitofp (F := Ideal) .f32 v : Ideal .f32)) ?_
  refine lanes'_first f hf (fun q e => ?_) fun q e => ?_
  · rw [h, if_pos e]
  · rw [h, if_neg e]

theorem pay20_apply (l : Fin 128) :
    (k0_pay20 (F := Ideal) laneV g m : S512x128.Idx → EReal) (ix2 r l)
      = if l.val = 2 then Ideal.div 1 (1 + e2 f) else if l.val = 3 then Ideal.div (e2 f) (1 + e2 f) else 0 := by
  have h' := pay16_apply g m r f hg hm hf
  unfold k0_pay20
  generalize k0_pay16 (F := Ideal) laneV g m = y at h' ⊢
  pointwise [laneV]
  rw [h', hm, sel_eq l 2 (by decide), sel_eq l 3 (by decide)]
  rfl

/-- The routing block's row. -/
theorem rtV_apply (l : Fin 128) : (rtV (F := Ideal) g m : S512x128.Idx → EReal) (ix2 r l) = rt f l := by
  have h14 := pay14_apply g m r f hg hm hf
  have h20 := pay20_apply g m r f hg hm hf l
  have h21 := pay21_apply g m r f hg hm hf l
  unfold rtV
  generalize k0_pay20 (F := Ideal) laneV g m = y at h20 ⊢
  generalize k0_pay21 (F := Ideal) laneV g m = z at h21 ⊢
  unfold k0_pay18
  generalize k0_pay14 (F := Ideal) laneV g m = x at h14 ⊢
  pointwise [k0_pay1, k0_pay17, k0_pay19, laneV]
  rw [h14, h20, h21, sel_eq l 0 (by decide), sel_eq l 1 (by decide)]
  rfl

end row

/-- The residual row with the two heads' outputs' projections added. -/
def y1 (x : Fin 1024 → EReal) (a b : Fin 512 → EReal) (w : Fin 1024 → Fin 1024 → EReal) (l : Fin 1024) : EReal :=
  x l + dot a (fun k => w ⟨k.val, by omega⟩ l) + dot b fun k => w ⟨512 + k.val, by omega⟩ l

/-- A row's eight scores. -/
def sc (h : Fin 1024 → EReal) (w : Fin 1024 → Fin 8 → EReal) (e : Fin 8) : EReal := dot h fun k => w k e

theorem Num.dot {n : ℕ} {f w : Fin n → EReal} (hf : ∀ i, Num (f i)) (hw : ∀ i, Num (w i)) : Num (dot f w) :=
  Num.sum _ fun i => (hf i).mul (hw i)

theorem Num.y1 {x : Fin 1024 → EReal} {a b : Fin 512 → EReal} {w : Fin 1024 → Fin 1024 → EReal} (hx : ∀ l, Num (x l)) (ha : ∀ l, Num (a l)) (hb : ∀ l, Num (b l))
    (hw : ∀ k l, Num (w k l)) (l : Fin 1024) : Num (y1 x a b w l) :=
  ((hx l).add (Num.dot ha fun _ => hw _ _)).add (Num.dot hb fun _ => hw _ _)

theorem Num.sc {h : Fin 1024 → EReal} {w : Fin 1024 → Fin 8 → EReal} (hh : ∀ l, Num (h l)) (hw : ∀ k l, Num (w k l)) (e : Fin 8) : Num (sc h w e) :=
  Num.dot hh fun _ => hw _ _

theorem ofBits_1024 : Ideal.ofBits .f32 0x44800000#32 = ((1024 : ℝ) : EReal) := by
  simp [Ideal.ofBits, Ideal.ieee]
  rw [← EReal.coe_mul]
  norm_num

theorem ofBits_eps : ∃ e : ℝ, 0 < e ∧ Ideal.ofBits .f32 0x358637BD#32 = (e : EReal) := by
  simp [Ideal.ofBits, Ideal.ieee]
  exact ⟨8796093 * (2 ^ 43)⁻¹, by positivity, by rw [EReal.coe_mul]⟩

theorem coe_add_sum {n : ℕ} (s : Finset (Fin n)) (f : Fin n → ℝ) : ((∑ d ∈ s, f d : ℝ) : EReal) = ∑ d ∈ s, (f d : EReal) := by
  induction s using Finset.induction_on with
  | empty => rw [Finset.sum_empty, Finset.sum_empty, EReal.coe_zero]
  | insert a s ha ih => rw [Finset.sum_insert ha, Finset.sum_insert ha, EReal.coe_add, ih]

/-- The normalised row of numbers is numbers: the mean square plus the offset is positive. -/
theorem Num.rms {x g : Fin 1024 → EReal} (hx : ∀ l, Num (x l)) (hg : ∀ l, Num (g l)) (l : Fin 1024) : Num (rms x g l) := by
  obtain ⟨e, he, ee⟩ := ofBits_eps
  choose y hy using hx
  have hs : ∑ d, x d * x d = ((∑ d, y d * y d : ℝ) : EReal) := by
    rw [coe_add_sum]
    exact Finset.sum_congr rfl fun d _ => by rw [hy d, EReal.coe_mul]
  have h0 : (0 : ℝ) ≤ ∑ d, y d * y d := Finset.sum_nonneg fun d _ => mul_self_nonneg _
  have hd : Ideal.div ((∑ d, y d * y d : ℝ) : EReal) ((1024 : ℝ) : EReal) = (((∑ d, y d * y d) * (1024 : ℝ)⁻¹ : ℝ) : EReal) := by
    unfold Ideal.div
    rw [if_neg (by rw [← EReal.coe_zero]; exact fun h => absurd (EReal.coe_injective h) (by norm_num)), ← EReal.coe_inv, ← EReal.coe_mul]
  have hp : 0 < (∑ d, y d * y d) * (1024 : ℝ)⁻¹ + e := by positivity
  unfold Cert.FfnIdeal.Ff.rms
  rw [hs, ofBits_1024, hd, ee, ← EReal.coe_add, Ideal.rsqrt_coe, if_neg (not_lt.2 hp.le), if_neg hp.ne']
  exact (Num.mul ⟨_, hy l⟩ ⟨_, rfl⟩).mul (hg l)

theorem ld_top (x : Vec Ideal S1024x1024 .bf16) (k : Fin 512) (l : Fin 1024) :
    (View.ld x (Rect.unit (s := S1024x1024) ![0, 0] S512x1024.size inb_S1024x1024_S512x1024_0_0) : S512x1024.Idx → EReal) (ix2 k l) = (x : S1024x1024.Idx → EReal) (ix2 ⟨k.val, by omega⟩ l) := by
  refine congrArg (x : S1024x1024.Idx → EReal) (funext fun a => ?_)
  match a with
  | ⟨0, _⟩ => exact Fin.ext (by show 0 + 1 * k.val = k.val; omega)
  | ⟨1, _⟩ => exact Fin.ext (by show 0 + 1 * l.val = l.val; omega)

theorem ld_bot (x : Vec Ideal S1024x1024 .bf16) (k : Fin 512) (l : Fin 1024) :
    (View.ld x (Rect.unit (s := S1024x1024) ![512, 0] S512x1024.size inb_S1024x1024_S512x1024_512_0) : S512x1024.Idx → EReal) (ix2 k l) = (x : S1024x1024.Idx → EReal) (ix2 ⟨512 + k.val, by omega⟩ l) := by
  refine congrArg (x : S1024x1024.Idx → EReal) (funext fun a => ?_)
  match a with
  | ⟨0, _⟩ => exact Fin.ext (by show 512 + 1 * k.val = 512 + k.val; omega)
  | ⟨1, _⟩ => exact Fin.ext (by show 0 + 1 * l.val = l.val; omega)

/-- The stream block's row. -/
theorem x1V_apply (x0 : Vec Ideal S512x1024 .f32) (x1 x2 : Vec Ideal S512x512 .bf16) (x3 : Vec Ideal S1024x1024 .bf16) (r : Fin 512) (l : Fin 1024) :
    (x1V (F := Ideal) x0 x1 x2 x3 : S512x1024.Idx → EReal) (ix2 r l)
      = y1 (fun l => (x0 : S512x1024.Idx → EReal) (ix2 r l)) (fun k => (x1 : S512x512.Idx → EReal) (ix2 r k)) (fun k => (x2 : S512x512.Idx → EReal) (ix2 r k))
          (fun k l => (x3 : S1024x1024.Idx → EReal) (ix2 k l)) l := by
  unfold x1V
  rw [pay2_apply]
  exact congrArg₂ (fun u v : EReal => u + v) (congrArg₂ (fun u v : EReal => u + v) rfl (congrArg₂ dot rfl (funext fun k => ld_top x3 k l))) (congrArg₂ dot rfl (funext fun k => ld_bot x3 k l))

/-- The normalised block's row. -/
theorem hV_apply (x0 : Vec Ideal S512x1024 .f32) (x1 x2 : Vec Ideal S512x512 .bf16) (x3 : Vec Ideal S1024x1024 .bf16) (x4 : Vec Ideal S1x1024 .f32) (r : Fin 512) (l : Fin 1024) :
    (hV (F := Ideal) x0 x1 x2 x3 x4 : S512x1024.Idx → EReal) (ix2 r l)
      = rms (y1 (fun l => (x0 : S512x1024.Idx → EReal) (ix2 r l)) (fun k => (x1 : S512x512.Idx → EReal) (ix2 r k)) (fun k => (x2 : S512x512.Idx → EReal) (ix2 r k))
          (fun k l => (x3 : S1024x1024.Idx → EReal) (ix2 k l))) (fun l => (x4 : S1x1024.Idx → EReal) (ix2 0 l)) l := by
  have h := fun l => x1V_apply x0 x1 x2 x3 r l
  unfold x1V at h
  unfold hV
  rw [pay3_apply]
  exact congrArg (fun f => rms f _ l) (funext h)

/-- The logits' row: the parts below the rounding are zeros. -/
theorem lgV_apply (h : Vec Ideal S512x1024 .f32) (x5 : Vec Ideal S1024x256 .bf16) (r : Fin 512) (H : Fin 1024 → EReal) (W : Fin 1024 → Fin 8 → EReal)
    (hh : ∀ k, (h : S512x1024.Idx → EReal) (ix2 r k) = H k) (hn : ∀ k, Num (H k))
    (hw : ∀ (k : Fin 1024) (e : Fin 8), (x5 : S1024x256.Idx → EReal) (ix2 k ⟨e.val, by omega⟩) = W k e)
    (hz : ∀ (k : Fin 1024) (e : Fin 8), (x5 : S1024x256.Idx → EReal) (ix2 k ⟨128 + e.val, by omega⟩) = 0) (l : Fin 128) :
    (lgV (F := Ideal) h x5 : S512x128.Idx → EReal) (ix2 r l) = lanes (sc H W) l := by
  unfold lgV
  rw [pay12_apply]
  unfold lanes
  by_cases e : l.val < 8
  · rw [if_pos e, dif_pos e]
    have a : ∀ k, (x5 : S1024x256.Idx → EReal) (ix2 k ⟨l.val, by omega⟩) = W k ⟨l.val, e⟩ := fun k => hw k ⟨l.val, e⟩
    have b : ∀ k, (x5 : S1024x256.Idx → EReal) (ix2 k ⟨128 + l.val, by omega⟩) = 0 := fun k => hz k ⟨l.val, e⟩
    have d : ∀ k, H k - H k = 0 := fun k => (hn k).sub_self
    simp only [hh, a, b, d]
    unfold sc dot
    simp only [mul_zero, zero_mul, Finset.sum_const_zero, add_zero]
  · rw [if_neg e, dif_neg e]

/-- Their greatest. -/
theorem m1V_apply (h : Vec Ideal S512x1024 .f32) (x5 : Vec Ideal S1024x256 .bf16) (r : Fin 512) (f : Fin 8 → EReal)
    (hl : ∀ l, (lgV (F := Ideal) h x5 : S512x128.Idx → EReal) (ix2 r l) = lanes f l) :
    (m1V (F := Ideal) h x5 : S512x1.Idx → EReal) (ix2 r 0) = f (p0 f) := by
  unfold m1V
  rw [pay13_apply]
  refine Eq.trans ?_ (lanes_max f)
  exact congrArg (fun g => (Finset.univ : Finset (Fin 128)).fold max ⊥ g) (funext hl)

end Cert.RouterIdeal.Rt

end
-- ==== Proof.RouterFrame.lean ====
module

public import proofs.«01_k».proof.Proof.RouterRun
public import Idealize.ShloMosaic.Lib.ValueIdx

@[expose] public section

set_option maxRecDepth 65536

noncomputable section

namespace Cert.RouterIdeal.Rt

open Cert.RouterIdeal Cert.RouterIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's run, at the listed stores. -/
theorem runs (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x256 .bf16) (harg6 : arg6.IsWhole) (arg7 : Memref sig .tc .vmem S512x1024 .f32) (harg7 : arg7.IsWhole) (arg8 : Memref sig .tc .vmem S4096x128 .f32) (harg8 : arg8.IsWhole) (arg9 : Memref sig .tc .vmem S512x128 .f32) (harg9 : arg9.IsWhole)
    (x0 : Vec F S512x1024 .f32) (x1 : Vec F S512x512 .bf16) (x2 : Vec F S512x512 .bf16) (x3 : Vec F S1024x1024 .bf16) (x4 : Vec F S1x1024 .f32) (x5 : Vec F S1024x256 .bf16) :
    Runs c i arg1 harg1 arg2 harg2 arg3 harg3 arg4 harg4 arg5 harg5 arg6 harg6 arg7 harg7 arg8 harg8 arg9 harg9 x0 x1 x2 x3 x4 x5 (L6V x0 x1 x2 x3) (L7V (hV x0 x1 x2 x3 x4)) (L8V (rtV (lgV (hV x0 x1 x2 x3 x4) x5) (m1V (hV x0 x1 x2 x3 x4) x5))) := by
  have h := (run c i arg1 harg1 arg2 harg2 arg3 harg3 arg4 harg4 arg5 harg5 arg6 harg6 arg7 harg7 arg8 harg8 arg9 harg9 x0 x1 x2 x3 x4 x5).2
  rw [run_eq] at h
  exact h

/-- One store over a whole block reads back as what it stored. -/
theorem read_one {S : Shape} {e : EltTy} {arg : Memref sig .tc .vmem S e} {off : Fin S.rank → ℕ} (hz : off = fun _ => 0) (inb : ∀ a, off a + S.size a ≤ S.size a) (w : Vec F S e) (f : arg.view.ty.Contents (Elt F)) :
    arg.view.read (Elt F) (arg.view.writes (Elt F) f [⟨Rect.unit off S.size inb, w⟩]) = w := by
  rw [View.read_writes_eq_canon]
  · exact View.canon_unit_zero hz _ _
  · intro y
    refine ⟨_, List.mem_singleton.mpr rfl, ?_⟩
    rw [Rect.mem_set_unit]
    intro a
    subst hz
    exact ⟨Nat.zero_le _, by simpa using (y a).isLt⟩

/-- The normalised rows laid out with each row's eight lane tiles one below the other. -/
def hT (h : Vec F S512x1024 .f32) : Vec F S4096x128 .f32 :=
  fun y => h (ix2 ⟨(y 0).val / 8, by have : (y 0).val < 4096 := (y 0).isLt; omega⟩ ⟨128 * ((y 0).val % 8) + (y 1).val, by have : (y 1).val < 128 := (y 1).isLt; omega⟩)

theorem piece_0 (h : Vec F S512x1024 .f32) (x : S512x128.Idx) :
    (extractStridedSlice S512x128 ![0, 0] h slices_S512x1024_o0_0_S512x128 : S512x128.Idx → Elt F .f32) x
      = hT h ((⟨(⟨![0, 0], S512x128.size, ![8, 1], inb_S4096x128_S512x128_0_0_s_8_1⟩ : LoadRect S4096x128), spos_8_1⟩ : Rect S4096x128).emb x) := by
  have hx : (x 0).val < 512 := (x 0).isLt
  refine congrArg h (funext fun a => ?_)
  fin_cases a
  · exact Fin.ext (by show 0 + (x 0).val = (0 + 8 * (x 0).val) / 8; omega)
  · exact Fin.ext (by show 0 + (x 1).val = 128 * ((0 + 8 * (x 0).val) % 8) + (0 + 1 * (x 1).val); omega)

theorem piece_1 (h : Vec F S512x1024 .f32) (x : S512x128.Idx) :
    (extractStridedSlice S512x128 ![0, 128] h slices_S512x1024_o0_128_S512x128 : S512x128.Idx → Elt F .f32) x
      = hT h ((⟨(⟨![1, 0], S512x128.size, ![8, 1], inb_S4096x128_S512x128_1_0_s_8_1⟩ : LoadRect S4096x128), spos_8_1⟩ : Rect S4096x128).emb x) := by
  have hx : (x 0).val < 512 := (x 0).isLt
  refine congrArg h (funext fun a => ?_)
  fin_cases a
  · exact Fin.ext (by show 0 + (x 0).val = (1 + 8 * (x 0).val) / 8; omega)
  · exact Fin.ext (by show 128 + (x 1).val = 128 * ((1 + 8 * (x 0).val) % 8) + (0 + 1 * (x 1).val); omega)

theorem piece_2 (h : Vec F S512x1024 .f32) (x : S512x128.Idx) :
    (extractStridedSlice S512x128 ![0, 256] h slices_S512x1024_o0_256_S512x128 : S512x128.Idx → Elt F .f32) x
      = hT h ((⟨(⟨![2, 0], S512x128.size, ![8, 1], inb_S4096x128_S512x128_2_0_s_8_1⟩ : LoadRect S4096x128), spos_8_1⟩ : Rect S4096x128).emb x) := by
  have hx : (x 0).val < 512 := (x 0).isLt
  refine congrArg h (funext fun a => ?_)
  fin_cases a
  · exact Fin.ext (by show 0 + (x 0).val = (2 + 8 * (x 0).val) / 8; omega)
  · exact Fin.ext (by show 256 + (x 1).val = 128 * ((2 + 8 * (x 0).val) % 8) + (0 + 1 * (x 1).val); omega)

theorem piece_3 (h : Vec F S512x1024 .f32) (x : S512x128.Idx) :
    (extractStridedSlice S512x128 ![0, 384] h slices_S512x1024_o0_384_S512x128 : S512x128.Idx → Elt F .f32) x
      = hT h ((⟨(⟨![3, 0], S512x128.size, ![8, 1], inb_S4096x128_S512x128_3_0_s_8_1⟩ : LoadRect S4096x128), spos_8_1⟩ : Rect S4096x128).emb x) := by
  have hx : (x 0).val < 512 := (x 0).isLt
  refine congrArg h (funext fun a => ?_)
  fin_cases a
  · exact Fin.ext (by show 0 + (x 0).val = (3 + 8 * (x 0).val) / 8; omega)
  · exact Fin.ext (by show 384 + (x 1).val = 128 * ((3 + 8 * (x 0).val) % 8) + (0 + 1 * (x 1).val); omega)

theorem piece_4 (h : Vec F S512x1024 .f32) (x : S512x128.Idx) :
    (extractStridedSlice S512x128 ![0, 512] h slices_S512x1024_o0_512_S512x128 : S512x128.Idx → Elt F .f32) x
      = hT h ((⟨(⟨![4, 0], S512x128.size, ![8, 1], inb_S4096x128_S512x128_4_0_s_8_1⟩ : LoadRect S4096x128), spos_8_1⟩ : Rect S4096x128).emb x) := by
  have hx : (x 0).val < 512 := (x 0).isLt
  refine congrArg h (funext fun a => ?_)
  fin_cases a
  · exact Fin.ext (by show 0 + (x 0).val = (4 + 8 * (x 0).val) / 8; omega)
  · exact Fin.ext (by show 512 + (x 1).val = 128 * ((4 + 8 * (x 0).val) % 8) + (0 + 1 * (x 1).val); omega)

theorem piece_5 (h : Vec F S512x1024 .f32) (x : S512x128.Idx) :
    (extractStridedSlice S512x128 ![0, 640] h slices_S512x1024_o0_640_S512x128 : S512x128.Idx → Elt F .f32) x
      = hT h ((⟨(⟨![5, 0], S512x128.size, ![8, 1], inb_S4096x128_S512x128_5_0_s_8_1⟩ : LoadRect S4096x128), spos_8_1⟩ : Rect S4096x128).emb x) := by
  have hx : (x 0).val < 512 := (x 0).isLt
  refine congrArg h (funext fun a => ?_)
  fin_cases a
  · exact Fin.ext (by show 0 + (x 0).val = (5 + 8 * (x 0).val) / 8; omega)
  · exact Fin.ext (by show 640 + (x 1).val = 128 * ((5 + 8 * (x 0).val) % 8) + (0 + 1 * (x 1).val); omega)

theorem piece_6 (h : Vec F S512x1024 .f32) (x : S512x128.Idx) :
    (extractStridedSlice S512x128 ![0, 768] h slices_S512x1024_o0_768_S512x128 : S512x128.Idx → Elt F .f32) x
      = hT h ((⟨(⟨![6, 0], S512x128.size, ![8, 1], inb_S4096x128_S512x128_6_0_s_8_1⟩ : LoadRect S4096x128), spos_8_1⟩ : Rect S4096x128).emb x) := by
  have hx : (x 0).val < 512 := (x 0).isLt
  refine congrArg h (funext fun a => ?_)
  fin_cases a
  · exact Fin.ext (by show 0 + (x 0).val = (6 + 8 * (x 0).val) / 8; omega)
  · exact Fin.ext (by show 768 + (x 1).val = 128 * ((6 + 8 * (x 0).val) % 8) + (0 + 1 * (x 1).val); omega)

theorem piece_7 (h : Vec F S512x1024 .f32) (x : S512x128.Idx) :
    (extractStridedSlice S512x128 ![0, 896] h slices_S512x1024_o0_896_S512x128 : S512x128.Idx → Elt F .f32) x
      = hT h ((⟨(⟨![7, 0], S512x128.size, ![8, 1], inb_S4096x128_S512x128_7_0_s_8_1⟩ : LoadRect S4096x128), spos_8_1⟩ : Rect S4096x128).emb x) := by
  have hx : (x 0).val < 512 := (x 0).isLt
  refine congrArg h (funext fun a => ?_)
  fin_cases a
  · exact Fin.ext (by show 0 + (x 0).val = (7 + 8 * (x 0).val) / 8; omega)
  · exact Fin.ext (by show 896 + (x 1).val = 128 * ((7 + 8 * (x 0).val) % 8) + (0 + 1 * (x 1).val); omega)

/-- The eight stores of the normalised rows lay them out so. -/
theorem read_tiles {arg : Memref sig .tc .vmem S4096x128 .f32} (h : Vec F S512x1024 .f32) (f : arg.view.ty.Contents (Elt F)) :
    arg.view.read (Elt F) (arg.view.writes (Elt F) f (L7V h)) = hT h := by
  funext y
  refine View.read_writes_apply_of_pieces _ _ (hT h) (L7V h) ?_ y ?_
  · intro p hp
    simp only [L7V, List.mem_cons, List.not_mem_nil, or_false] at hp
    rcases hp with rfl | rfl | rfl | rfl | rfl | rfl | rfl | rfl
    · exact piece_7 h
    · exact piece_6 h
    · exact piece_5 h
    · exact piece_4 h
    · exact piece_3 h
    · exact piece_2 h
    · exact piece_1 h
    · exact piece_0 h
  · have hy0 : (y 0).val < 4096 := (y 0).isLt
    have hy1 : (y 1).val < 128 := (y 1).isLt
    have hm : (y 0).val % 8 < 8 := Nat.mod_lt _ (by norm_num)
    have hd := Nat.div_add_mod (y 0).val 8
    generalize hk : (y 0).val % 8 = k at hm hd
    interval_cases k
    · refine ⟨⟨⟨(⟨![0, 0], S512x128.size, ![8, 1], inb_S4096x128_S512x128_0_0_s_8_1⟩ : LoadRect S4096x128), spos_8_1⟩, extractStridedSlice S512x128 ![0, 0] h slices_S512x1024_o0_0_S512x128⟩, List.mem_cons_of_mem _ (List.mem_cons_of_mem _ (List.mem_cons_of_mem _ (List.mem_cons_of_mem _ (List.mem_cons_of_mem _ (List.mem_cons_of_mem _ (List.mem_cons_of_mem _ (List.mem_cons_self))))))), (LoadRect.mem_set _).mpr fun a => ?_⟩
      fin_cases a
      · exact ⟨(y 0).val / 8, by show (y 0).val / 8 < 512; omega, by show (y 0).val = 0 + 8 * ((y 0).val / 8); omega⟩
      · exact ⟨(y 1).val, hy1, by show (y 1).val = 0 + 1 * (y 1).val; omega⟩
    · refine ⟨⟨⟨(⟨![1, 0], S512x128.size, ![8, 1], inb_S4096x128_S512x128_1_0_s_8_1⟩ : LoadRect S4096x128), spos_8_1⟩, extractStridedSlice S512x128 ![0, 128] h slices_S512x1024_o0_128_S512x128⟩, List.mem_cons_of_mem _ (List.mem_cons_of_mem _ (List.mem_cons_of_mem _ (List.mem_cons_of_mem _ (List.mem_cons_of_mem _ (List.mem_cons_of_mem _ (List.mem_cons_self)))))), (LoadRect.mem_set _).mpr fun a => ?_⟩
      fin_cases a
      · exact ⟨(y 0).val / 8, by show (y 0).val / 8 < 512; omega, by show (y 0).val = 1 + 8 * ((y 0).val / 8); omega⟩
      · exact ⟨(y 1).val, hy1, by show (y 1).val = 0 + 1 * (y 1).val; omega⟩
    · refine ⟨⟨⟨(⟨![2, 0], S512x128.size, ![8, 1], inb_S4096x128_S512x128_2_0_s_8_1⟩ : LoadRect S4096x128), spos_8_1⟩, extractStridedSlice S512x128 ![0, 256] h slices_S512x1024_o0_256_S512x128⟩, List.mem_cons_of_mem _ (List.mem_cons_of_mem _ (List.mem_cons_of_mem _ (List.mem_cons_of_mem _ (List.mem_cons_of_mem _ (List.mem_cons_self))))), (LoadRect.mem_set _).mpr fun a => ?_⟩
      fin_cases a
      · exact ⟨(y 0).val / 8, by show (y 0).val / 8 < 512; omega, by show (y 0).val = 2 + 8 * ((y 0).val / 8); omega⟩
      · exact ⟨(y 1).val, hy1, by show (y 1).val = 0 + 1 * (y 1).val; omega⟩
    · refine ⟨⟨⟨(⟨![3, 0], S512x128.size, ![8, 1], inb_S4096x128_S512x128_3_0_s_8_1⟩ : LoadRect S4096x128), spos_8_1⟩, extractStridedSlice S512x128 ![0, 384] h slices_S512x1024_o0_384_S512x128⟩, List.mem_cons_of_mem _ (List.mem_cons_of_mem _ (List.mem_cons_of_mem _ (List.mem_cons_of_mem _ (List.mem_cons_self)))), (LoadRect.mem_set _).mpr fun a => ?_⟩
      fin_cases a
      · exact ⟨(y 0).val / 8, by show (y 0).val / 8 < 512; omega, by show (y 0).val = 3 + 8 * ((y 0).val / 8); omega⟩
      · exact ⟨(y 1).val, hy1, by show (y 1).val = 0 + 1 * (y 1).val; omega⟩
    · refine ⟨⟨⟨(⟨![4, 0], S512x128.size, ![8, 1], inb_S4096x128_S512x128_4_0_s_8_1⟩ : LoadRect S4096x128), spos_8_1⟩, extractStridedSlice S512x128 ![0, 512] h slices_S512x1024_o0_512_S512x128⟩, List.mem_cons_of_mem _ (List.mem_cons_of_mem _ (List.mem_cons_of_mem _ (List.mem_cons_self))), (LoadRect.mem_set _).mpr fun a => ?_⟩
      fin_cases a
      · exact ⟨(y 0).val / 8, by show (y 0).val / 8 < 512; omega, by show (y 0).val = 4 + 8 * ((y 0).val / 8); omega⟩
      · exact ⟨(y 1).val, hy1, by show (y 1).val = 0 + 1 * (y 1).val; omega⟩
    · refine ⟨⟨⟨(⟨![5, 0], S512x128.size, ![8, 1], inb_S4096x128_S512x128_5_0_s_8_1⟩ : LoadRect S4096x128), spos_8_1⟩, extractStridedSlice S512x128 ![0, 640] h slices_S512x1024_o0_640_S512x128⟩, List.mem_cons_of_mem _ (List.mem_cons_of_mem _ (List.mem_cons_self)), (LoadRect.mem_set _).mpr fun a => ?_⟩
      fin_cases a
      · exact ⟨(y 0).val / 8, by show (y 0).val / 8 < 512; omega, by show (y 0).val = 5 + 8 * ((y 0).val / 8); omega⟩
      · exact ⟨(y 1).val, hy1, by show (y 1).val = 0 + 1 * (y 1).val; omega⟩
    · refine ⟨⟨⟨(⟨![6, 0], S512x128.size, ![8, 1], inb_S4096x128_S512x128_6_0_s_8_1⟩ : LoadRect S4096x128), spos_8_1⟩, extractStridedSlice S512x128 ![0, 768] h slices_S512x1024_o0_768_S512x128⟩, List.mem_cons_of_mem _ (List.mem_cons_self), (LoadRect.mem_set _).mpr fun a => ?_⟩
      fin_cases a
      · exact ⟨(y 0).val / 8, by show (y 0).val / 8 < 512; omega, by show (y 0).val = 6 + 8 * ((y 0).val / 8); omega⟩
      · exact ⟨(y 1).val, hy1, by show (y 1).val = 0 + 1 * (y 1).val; omega⟩
    · refine ⟨⟨⟨(⟨![7, 0], S512x128.size, ![8, 1], inb_S4096x128_S512x128_7_0_s_8_1⟩ : LoadRect S4096x128), spos_8_1⟩, extractStridedSlice S512x128 ![0, 896] h slices_S512x1024_o0_896_S512x128⟩, List.mem_cons_self, (LoadRect.mem_set _).mpr fun a => ?_⟩
      fin_cases a
      · exact ⟨(y 0).val / 8, by show (y 0).val / 8 < 512; omega, by show (y 0).val = 7 + 8 * ((y 0).val / 8); omega⟩
      · exact ⟨(y 1).val, hy1, by show (y 1).val = 0 + 1 * (y 1).val; omega⟩

variable (m : (ℓ : Loc nD τ sig) → Buf (Elt F) ℓ) (ρ : Dev nD → PrngReg)

/-- The proof data: inputs stay, the results' blocks are what the body stores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => x1V (iblk m c 0 t) (iblk m c 1 t) (iblk m c 2 t) (iblk m c 3 t)
    | ⟨7, _⟩ => hT (hV (iblk m c 0 t) (iblk m c 1 t) (iblk m c 2 t) (iblk m c 3 t) (iblk m c 4 t))
    | ⟨8, _⟩ => rtV (lgV (hV (iblk m c 0 t) (iblk m c 1 t) (iblk m c 2 t) (iblk m c 3 t) (iblk m c 4 t)) (iblk m c 5 t)) (m1V (hV (iblk m c 0 t) (iblk m c 1 t) (iblk m c 2 t) (iblk m c 3 t) (iblk m c 4 t)) (iblk m c 5 t))
  Φ t := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = x1V (iblk m c 0 t) (iblk m c 1 t) (iblk m c 2 t) (iblk m c 3 t) := by dsimp only [dats]
theorem after0_7 (c : Dev nD) (t : Fin cfg0.N) : (dats m 0 c).after 7 t = hT (hV (iblk m c 0 t) (iblk m c 1 t) (iblk m c 2 t) (iblk m c 3 t) (iblk m c 4 t)) := by dsimp only [dats]
theorem after0_8 (c : Dev nD) (t : Fin cfg0.N) : (dats m 0 c).after 8 t = rtV (lgV (hV (iblk m c 0 t) (iblk m c 1 t) (iblk m c 2 t) (iblk m c 3 t) (iblk m c 4 t)) (iblk m c 5 t)) (m1V (hV (iblk m c 0 t) (iblk m c 1 t) (iblk m c 2 t) (iblk m c 3 t) (iblk m c 4 t)) (iblk m c 5 t)) := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d

/-- What the body is given at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body takes the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    show (dats m 0 c).Φ t.succ = (dats m 0 c).Φ t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (runs c (grid0.coords t) _ _ _ _ _ _ _ _ _ _ _ _ _ _ _ _ _ _ (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, ⟨%e6, H6⟩, ⟨%e7, H7⟩, ⟨%e8, H8⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns
  isplitl [H6]
  · iexists _; isplitr
    swap; · iexact H6
    ipureintro; exact read_one (by funext a; fin_cases a <;> rfl) _ _ _
  isplitl [H7]
  · iexists _; isplitr
    swap; · iexact H7
    ipureintro; exact read_tiles _ _
  iexists _; isplitr
  swap; · iexact H8
  ipureintro; exact read_one (by funext a; fin_cases a <;> rfl) _ _ _

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The whole program runs; its arrays end at what the proof data says, its counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame, at any floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.RouterIdeal.Rt
end
-- ==== Proof.RouterFinal.lean ====
module

public import proofs.«01_k».proof.Proof.RouterBody
public import proofs.«01_k».proof.Proof.RouterFrame
public import proofs.«01_k».proof.Proof.FfnHost
public import Idealize.ShloMosaic.Lib.StableHlo.ReadAt

@[expose] public section

set_option maxRecDepth 65536

noncomputable section

/-! The router's result arrays after the run: the formula at every entry. -/

namespace Cert.RouterIdeal.Rt

open Cert.RouterIdeal Cert.RouterIdeal.Gen
open Idealize.ShloMosaic Idealize.ShloMosaic.TcCoe Idealize.SL.Sem
open Idealize.ShloMosaic.Pipeline (Dat)
open Cert.FfnIdeal.Ff (dot rms rows0 ent4)

/-- The rows of the heads' outputs, kept by batch and position. -/
def rows5 (x : S4x4096x512.Idx → EReal) (R : Fin 16384) (l : Fin 512) : EReal := x (ix3 ⟨R.val / 4096, by omega⟩ ⟨R.val % 4096, by omega⟩ l)
/-- The projection's weights, -/
def entw (x : S1024x1024.Idx → EReal) (k l : Fin 1024) : EReal := x (ix2 k l)
/-- the router's. -/
def entr (x : S1024x8.Idx → EReal) (k : Fin 1024) (e : Fin 8) : EReal := x (ix2 k e)

/-- The stream's rows after the projection, -/
def xr (x : S4x4096x1024.Idx → EReal) (a b : S4x4096x512.Idx → EReal) (w : S1024x1024.Idx → EReal) (R : Fin 16384) (l : Fin 1024) : EReal :=
  y1 (rows0 x R) (rows5 a R) (rows5 b R) (entw w) l
/-- normalised, -/
def hr (x : S4x4096x1024.Idx → EReal) (a b : S4x4096x512.Idx → EReal) (w : S1024x1024.Idx → EReal) (g : S1024.Idx → EReal) (R : Fin 16384) (l : Fin 1024) : EReal :=
  rms (xr x a b w R) (ent4 g) l
/-- their scores, -/
def sr (x : S4x4096x1024.Idx → EReal) (a b : S4x4096x512.Idx → EReal) (w : S1024x1024.Idx → EReal) (g : S1024.Idx → EReal) (u : S1024x8.Idx → EReal) (R : Fin 16384) : Fin 8 → EReal :=
  sc (hr x a b w g R) (entr u)
/-- and the normalised rows cut into tiles of lanes. -/
def tr (x : S4x4096x1024.Idx → EReal) (a b : S4x4096x512.Idx → EReal) (w : S1024x1024.Idx → EReal) (g : S1024.Idx → EReal) (Q : Fin 131072) (l : Fin 128) : EReal :=
  hr x a b w g ⟨Q.val / 8, by omega⟩ ⟨128 * (Q.val % 8) + l.val, by omega⟩

variable (m : (ℓ : Loc nD τ sig) → Buf (Elt Ideal) ℓ) (c : Dev nD)

theorem V0 (R : Fin 16384) (l : Fin 1024) : (V m c main_v0 : S16384x1024.Idx → EReal) (ix2 R l) = rows0 (m (c, Proc.tc.devRef main_arg0)) R l := by
  unfold V
  after_reads_at
  rfl
theorem V1 (R : Fin 16384) (l : Fin 512) : (V m c main_v1 : S16384x512.Idx → EReal) (ix2 R l) = rows5 (m (c, Proc.tc.devRef main_arg1)) R l := by
  unfold V
  after_reads_at
  rfl
theorem V2 (R : Fin 16384) (l : Fin 512) : (V m c main_v2 : S16384x512.Idx → EReal) (ix2 R l) = rows5 (m (c, Proc.tc.devRef main_arg2)) R l := by
  unfold V
  after_reads_at
  rfl
theorem V3 (k l : Fin 1024) : (V m c main_v3 : S1024x1024.Idx → EReal) (ix2 k l) = entw (m (c, Proc.tc.devRef main_arg3)) k l := by
  unfold V
  after_reads_at
  rfl
theorem V10 (l : Fin 1024) : (V m c main_v10 : S1x1024.Idx → EReal) (ix2 0 l) = ent4 (m (c, Proc.tc.devRef main_arg4)) l := by
  unfold V
  after_reads_at
  rfl
theorem V9a (k : Fin 1024) (e : Fin 8) : (V m c main_v9 : S1024x256.Idx → EReal) (ix2 k ⟨e.val, by omega⟩) = entr (m (c, Proc.tc.devRef main_arg5)) k e := by
  unfold V
  after_reads_at
  rw [dif_pos (by omega)]
  rfl
theorem V9b (k : Fin 1024) (e : Fin 8) (h : Num (entr (m (c, Proc.tc.devRef main_arg5)) k e)) : (V m c main_v9 : S1024x256.Idx → EReal) (ix2 k ⟨128 + e.val, by omega⟩) = (0 : EReal) := by
  unfold V
  after_reads_at
  exact h.sub_self

/-- Where each window's block lies. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

theorem t_lt (t : Fin cfg0.N) : t.val < 32 := lt_of_lt_of_eq t.isLt N_0

/-- A point's row among all rows. -/
def rw_ (t : Fin cfg0.N) (r : Fin 512) : Fin 16384 := ⟨t.val * 512 + r.val, by have := t_lt t; omega⟩

theorem iblk0 (t : Fin cfg0.N) (r : Fin 512) (l : Fin 1024) :
    (iblk m c 0 t : S512x1024.Idx → EReal) (ix2 r l) = rows0 (m (c, Proc.tc.devRef main_arg0)) (rw_ t r) l := by
  obtain ⟨⟨h0, h1⟩, -⟩ := idx_facts t
  refine Eq.trans ?_ (V0 m c (rw_ t r) l)
  unfold iblk
  rw [View.read_apply]
  show V m c main_v0 _ = V m c main_v0 _
  congr 1
  funext a
  apply Fin.ext
  match a with
  | ⟨0, _⟩ => show win0_0.index t (0 : Fin 2) * 512 + 1 * r.val = t.val * 512 + r.val; rw [h0]; omega
  | ⟨1, _⟩ => show win0_0.index t (1 : Fin 2) * 1024 + 1 * l.val = l.val; rw [h1]; omega

theorem iblk1 (t : Fin cfg0.N) (r : Fin 512) (l : Fin 512) :
    (iblk m c 1 t : S512x512.Idx → EReal) (ix2 r l) = rows5 (m (c, Proc.tc.devRef main_arg1)) (rw_ t r) l := by
  obtain ⟨-, ⟨h0, h1⟩, -⟩ := idx_facts t
  refine Eq.trans ?_ (V1 m c (rw_ t r) l)
  unfold iblk
  rw [View.read_apply]
  show V m c main_v1 _ = V m c main_v1 _
  congr 1
  funext a
  apply Fin.ext
  match a with
  | ⟨0, _⟩ => show win0_1.index t (0 : Fin 2) * 512 + 1 * r.val = t.val * 512 + r.val; rw [h0]; omega
  | ⟨1, _⟩ => show win0_1.index t (1 : Fin 2) * 512 + 1 * l.val = l.val; rw [h1]; omega

theorem iblk2 (t : Fin cfg0.N) (r : Fin 512) (l : Fin 512) :
    (iblk m c 2 t : S512x512.Idx → EReal) (ix2 r l) = rows5 (m (c, Proc.tc.devRef main_arg2)) (rw_ t r) l := by
  obtain ⟨-, -, ⟨h0, h1⟩, -⟩ := idx_facts t
  refine Eq.trans ?_ (V2 m c (rw_ t r) l)
  unfold iblk
  rw [View.read_apply]
  show V m c main_v2 _ = V m c main_v2 _
  congr 1
  funext a
  apply Fin.ext
  match a with
  | ⟨0, _⟩ => show win0_2.index t (0 : Fin 2) * 512 + 1 * r.val = t.val * 512 + r.val; rw [h0]; omega
  | ⟨1, _⟩ => show win0_2.index t (1 : Fin 2) * 512 + 1 * l.val = l.val; rw [h1]; omega

theorem iblk3 (t : Fin cfg0.N) (k : Fin 1024) (l : Fin 1024) :
    (iblk m c 3 t : S1024x1024.Idx → EReal) (ix2 k l) = entw (m (c, Proc.tc.devRef main_arg3)) k l := by
  obtain ⟨-, -, -, ⟨h0, h1⟩, -⟩ := idx_facts t
  refine Eq.trans ?_ (V3 m c k l)
  unfold iblk
  rw [View.read_apply]
  show V m c main_v3 _ = V m c main_v3 _
  congr 1
  funext a
  apply Fin.ext
  match a with
  | ⟨0, _⟩ => show win0_3.index t (0 : Fin 2) * 1024 + 1 * k.val = k.val; rw [h0]; omega
  | ⟨1, _⟩ => show win0_3.index t (1 : Fin 2) * 1024 + 1 * l.val = l.val; rw [h1]; omega

theorem iblk4 (t : Fin cfg0.N) (l : Fin 1024) :
    (iblk m c 4 t : S1x1024.Idx → EReal) (ix2 0 l) = ent4 (m (c, Proc.tc.devRef main_arg4)) l := by
  obtain ⟨-, -, -, -, ⟨h0, h1⟩, -⟩ := idx_facts t
  refine Eq.trans ?_ (V10 m c l)
  unfold iblk
  rw [View.read_apply]
  show V m c main_v10 _ = V m c main_v10 _
  congr 1
  funext a
  apply Fin.ext
  match a with
  | ⟨0, _⟩ => show win0_4.index t (0 : Fin 2) * 1 + 1 * 0 = 0; rw [h0]
  | ⟨1, _⟩ => show win0_4.index t (1 : Fin 2) * 1024 + 1 * l.val = l.val; rw [h1]; omega

theorem iblk5 (t : Fin cfg0.N) (k : Fin 1024) (l : Fin 256) :
    (iblk m c 5 t : S1024x256.Idx → EReal) (ix2 k l) = (V m c main_v9 : S1024x256.Idx → EReal) (ix2 k l) := by
  obtain ⟨-, -, -, -, -, ⟨h0, h1⟩, -⟩ := idx_facts t
  unfold iblk
  rw [View.read_apply]
  show V m c main_v9 _ = V m c main_v9 _
  congr 1
  funext a
  apply Fin.ext
  match a with
  | ⟨0, _⟩ => show win0_5.index t (0 : Fin 2) * 1024 + 1 * k.val = k.val; rw [h0]; omega
  | ⟨1, _⟩ => show win0_5.index t (1 : Fin 2) * 256 + 1 * l.val = l.val; rw [h1]; omega

/-- The arguments are numbers. -/
structure Fin6 : Prop where
  x : ∀ R l, Num (rows0 (m (c, Proc.tc.devRef main_arg0)) R l)
  a : ∀ R l, Num (rows5 (m (c, Proc.tc.devRef main_arg1)) R l)
  b : ∀ R l, Num (rows5 (m (c, Proc.tc.devRef main_arg2)) R l)
  w : ∀ k l, Num (entw (m (c, Proc.tc.devRef main_arg3)) k l)
  g : ∀ l, Num (ent4 (m (c, Proc.tc.devRef main_arg4)) l)
  u : ∀ k e, Num (entr (m (c, Proc.tc.devRef main_arg5)) k e)

/-- The stream block's rows are the formula's. -/
theorem x_eq (t : Fin cfg0.N) (r : Fin 512) (l : Fin 1024) :
    (x1V (F := Ideal) (iblk m c 0 t) (iblk m c 1 t) (iblk m c 2 t) (iblk m c 3 t) : S512x1024.Idx → EReal) (ix2 r l) = xr (m (c, Proc.tc.devRef main_arg0)) (m (c, Proc.tc.devRef main_arg1)) (m (c, Proc.tc.devRef main_arg2)) (m (c, Proc.tc.devRef main_arg3)) (rw_ t r) l := by
  rw [x1V_apply]
  have e0 := funext fun l => iblk0 m c t r l
  have e1 := funext fun l => iblk1 m c t r l
  have e2 := funext fun l => iblk2 m c t r l
  have e3 := funext fun k => funext fun l => iblk3 m c t k l
  unfold xr
  rw [e0, e1, e2, e3]

/-- The normalised block's. -/
theorem h_eq (t : Fin cfg0.N) (r : Fin 512) (l : Fin 1024) :
    (hV (F := Ideal) (iblk m c 0 t) (iblk m c 1 t) (iblk m c 2 t) (iblk m c 3 t) (iblk m c 4 t) : S512x1024.Idx → EReal) (ix2 r l) = hr (m (c, Proc.tc.devRef main_arg0)) (m (c, Proc.tc.devRef main_arg1)) (m (c, Proc.tc.devRef main_arg2)) (m (c, Proc.tc.devRef main_arg3)) (m (c, Proc.tc.devRef main_arg4)) (rw_ t r) l := by
  rw [hV_apply]
  have e0 := funext fun l => iblk0 m c t r l
  have e1 := funext fun l => iblk1 m c t r l
  have e2 := funext fun l => iblk2 m c t r l
  have e3 := funext fun k => funext fun l => iblk3 m c t k l
  have e4 := funext fun l => iblk4 m c t l
  unfold hr xr
  rw [e0, e1, e2, e3, e4]

/-- The routing block's. -/
theorem r_eq (N : Fin6 m c) (t : Fin cfg0.N) (r : Fin 512) (l : Fin 128) :
    (rtV (F := Ideal) (lgV (hV (iblk m c 0 t) (iblk m c 1 t) (iblk m c 2 t) (iblk m c 3 t) (iblk m c 4 t)) (iblk m c 5 t)) (m1V (hV (iblk m c 0 t) (iblk m c 1 t) (iblk m c 2 t) (iblk m c 3 t) (iblk m c 4 t)) (iblk m c 5 t)) : S512x128.Idx → EReal) (ix2 r l)
      = rt (sr (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (rw_ t r)) l := by
  have hn : ∀ l, Num (hr (m (c, Proc.tc.devRef main_arg0)) (m (c, Proc.tc.devRef main_arg1)) (m (c, Proc.tc.devRef main_arg2)) (m (c, Proc.tc.devRef main_arg3)) (m (c, Proc.tc.devRef main_arg4)) (rw_ t r) l) := fun l => Num.rms (fun l => Num.y1 (N.x _) (N.a _) (N.b _) N.w l) N.g l
  have hl := lgV_apply (hV (iblk m c 0 t) (iblk m c 1 t) (iblk m c 2 t) (iblk m c 3 t) (iblk m c 4 t)) (iblk m c 5 t) r (hr (m (c, Proc.tc.devRef main_arg0)) (m (c, Proc.tc.devRef main_arg1)) (m (c, Proc.tc.devRef main_arg2)) (m (c, Proc.tc.devRef main_arg3)) (m (c, Proc.tc.devRef main_arg4)) (rw_ t r)) (entr (m (c, Proc.tc.devRef main_arg5))) (fun k => h_eq m c t r k) hn
    (fun k e => (iblk5 m c t k _).trans (V9a m c k e)) (fun k e => (iblk5 m c t k _).trans (V9b m c k e (N.u k e)))
  exact rtV_apply _ _ r _ hl (m1V_apply _ _ r _ hl) (fun q => (Num.sc hn N.u q).ne_bot) l

/-- Result array 0. -/
def G6 : Buf (Elt Ideal) ((c : Thread nD τ).loc main_v11_0) := fun i : S16384x1024.Idx => xr (m (c, Proc.tc.devRef main_arg0)) (m (c, Proc.tc.devRef main_arg1)) (m (c, Proc.tc.devRef main_arg2)) (m (c, Proc.tc.devRef main_arg3)) (i 0) (i 1)

theorem mem_blk6 (t : Fin cfg0.N) (i : S16384x1024.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v11_0).slice (win0_6.rect t)).set ↔ _
  rw [View.set_slice_whole, Rect.mem_set_unit]
  exact Iff.rfl

theorem final6 : (dats m 0 c).arrAt 6 cfg0.N = G6 m c := by
  refine (dats m 0 c).arrAt_eq_of_cover 6 _ (fun t hf => ?_) fun i => ?_
  · show (cfg0.win 6).cut (grid0.coords t) ((dats m 0 c).after 6 t) = _
    rw [after0_6]
    obtain ⟨-, -, -, -, -, -, ⟨h0, h1⟩, -⟩ := idx_facts t
    funext y
    have hy0 : (y 0).val < 512 := (y 0).isLt
    have hy1 : (y 1).val < 1024 := (y 1).isLt
    have ht := t_lt t
    have hx : (cfg0.win 6).xinj (grid0.coords t) y = (ix2 ⟨(y 0).val, hy0⟩ ⟨(y 1).val, hy1⟩ : S512x1024.Idx) := by
      funext a
      match a with
      | ⟨0, _⟩ => rfl
      | ⟨1, _⟩ => rfl
    show x1V (F := Ideal) (iblk m c 0 t) (iblk m c 1 t) (iblk m c 2 t) (iblk m c 3 t) ((cfg0.win 6).xinj (grid0.coords t) y) = G6 m c (((cfg0.win 6).blk t).view.emb y)
    rw [hx]
    refine (x_eq m c t ⟨(y 0).val, hy0⟩ ⟨(y 1).val, hy1⟩).trans ?_
    show _ = xr (m (c, Proc.tc.devRef main_arg0)) (m (c, Proc.tc.devRef main_arg1)) (m (c, Proc.tc.devRef main_arg2)) (m (c, Proc.tc.devRef main_arg3)) ((((cfg0.win 6).blk t).view.emb y : S16384x1024.Idx) 0) ((((cfg0.win 6).blk t).view.emb y : S16384x1024.Idx) 1)
    refine congrArg₂ (xr (m (c, Proc.tc.devRef main_arg0)) (m (c, Proc.tc.devRef main_arg1)) (m (c, Proc.tc.devRef main_arg2)) (m (c, Proc.tc.devRef main_arg3))) (Fin.ext ?_) (Fin.ext ?_)
    · show t.val * 512 + (y 0).val = win0_6.index t (0 : Fin 2) * 512 + 1 * (y 0).val
      rw [h0]; omega
    · show (y 1).val = win0_6.index t (1 : Fin 2) * 1024 + 1 * (y 1).val
      rw [h1]; omega
  · have hi0 : (i 0).val < 16384 := (i 0).isLt
    have hi1 : (i 1).val < 1024 := (i 1).isLt
    have ht : (i 0).val / 512 < cfg0.N := lt_of_lt_of_eq (by omega : (i 0).val / 512 < 32) N_0.symm
    refine ⟨⟨(i 0).val / 512, ht⟩, flush0_6 _, ?_⟩
    obtain ⟨-, -, -, -, -, -, ⟨h0, h1⟩, -⟩ := idx_facts ⟨(i 0).val / 512, ht⟩
    refine (mem_blk6 _ i).mpr fun a => ?_
    match a with
    | ⟨0, _⟩ => show win0_6.index _ (0 : Fin 2) * 512 ≤ (i 0).val ∧ (i 0).val < win0_6.index _ (0 : Fin 2) * 512 + 512; rw [h0]; dsimp only; omega
    | ⟨1, _⟩ => show win0_6.index _ (1 : Fin 2) * 1024 ≤ (i 1).val ∧ (i 1).val < win0_6.index _ (1 : Fin 2) * 1024 + 1024; rw [h1]; omega

/-- The tiles' block's rows. -/
theorem t_eq (t : Fin cfg0.N) (q : Fin 4096) (l : Fin 128) :
    (hT (F := Ideal) (hV (iblk m c 0 t) (iblk m c 1 t) (iblk m c 2 t) (iblk m c 3 t) (iblk m c 4 t)) : S4096x128.Idx → EReal) (ix2 q l) = tr (m (c, Proc.tc.devRef main_arg0)) (m (c, Proc.tc.devRef main_arg1)) (m (c, Proc.tc.devRef main_arg2)) (m (c, Proc.tc.devRef main_arg3)) (m (c, Proc.tc.devRef main_arg4)) ⟨t.val * 4096 + q.val, by have := t_lt t; omega⟩ l := by
  have ht := t_lt t
  refine (h_eq m c t ⟨q.val / 8, by omega⟩ ⟨128 * (q.val % 8) + l.val, by omega⟩).trans ?_
  unfold tr
  refine congrArg₂ (hr (m (c, Proc.tc.devRef main_arg0)) (m (c, Proc.tc.devRef main_arg1)) (m (c, Proc.tc.devRef main_arg2)) (m (c, Proc.tc.devRef main_arg3)) (m (c, Proc.tc.devRef main_arg4))) (Fin.ext ?_) (Fin.ext ?_)
  · show t.val * 512 + q.val / 8 = (t.val * 4096 + q.val) / 8
    omega
  · show 128 * (q.val % 8) + l.val = 128 * ((t.val * 4096 + q.val) % 8) + l.val
    omega

/-- Result array 1. -/
def G7 : Buf (Elt Ideal) ((c : Thread nD τ).loc main_v11_1) := fun i : S131072x128.Idx => tr (m (c, Proc.tc.devRef main_arg0)) (m (c, Proc.tc.devRef main_arg1)) (m (c, Proc.tc.devRef main_arg2)) (m (c, Proc.tc.devRef main_arg3)) (m (c, Proc.tc.devRef main_arg4)) (i 0) (i 1)

theorem mem_blk7 (t : Fin cfg0.N) (i : S131072x128.Idx) :
    i ∈ ((cfg0.win 7).blk t).view.set ↔ ∀ a : Fin 2, win0_7.index t a * S4096x128.size a ≤ (i a).val ∧ (i a).val < win0_7.index t a * S4096x128.size a + S4096x128.size a := by
  show i ∈ ((View.whole main_v11_1).slice (win0_7.rect t)).set ↔ _
  rw [View.set_slice_whole, Rect.mem_set_unit]
  exact Iff.rfl

theorem final7 : (dats m 0 c).arrAt 7 cfg0.N = G7 m c := by
  refine (dats m 0 c).arrAt_eq_of_cover 7 _ (fun t hf => ?_) fun i => ?_
  · show (cfg0.win 7).cut (grid0.coords t) ((dats m 0 c).after 7 t) = _
    rw [after0_7]
    obtain ⟨-, -, -, -, -, -, -, ⟨h0, h1⟩, -⟩ := idx_facts t
    funext y
    have hy0 : (y 0).val < 4096 := (y 0).isLt
    have hy1 : (y 1).val < 128 := (y 1).isLt
    have ht := t_lt t
    have hx : (cfg0.win 7).xinj (grid0.coords t) y = (ix2 ⟨(y 0).val, hy0⟩ ⟨(y 1).val, hy1⟩ : S4096x128.Idx) := by
      funext a
      match a with
      | ⟨0, _⟩ => rfl
      | ⟨1, _⟩ => rfl
    show hT (F := Ideal) (hV (iblk m c 0 t) (iblk m c 1 t) (iblk m c 2 t) (iblk m c 3 t) (iblk m c 4 t)) ((cfg0.win 7).xinj (grid0.coords t) y) = G7 m c (((cfg0.win 7).blk t).view.emb y)
    rw [hx]
    refine (t_eq m c t ⟨(y 0).val, hy0⟩ ⟨(y 1).val, hy1⟩).trans ?_
    show _ = tr (m (c, Proc.tc.devRef main_arg0)) (m (c, Proc.tc.devRef main_arg1)) (m (c, Proc.tc.devRef main_arg2)) (m (c, Proc.tc.devRef main_arg3)) (m (c, Proc.tc.devRef main_arg4)) ((((cfg0.win 7).blk t).view.emb y : S131072x128.Idx) 0) ((((cfg0.win 7).blk t).view.emb y : S131072x128.Idx) 1)
    refine congrArg₂ (tr (m (c, Proc.tc.devRef main_arg0)) (m (c, Proc.tc.devRef main_arg1)) (m (c, Proc.tc.devRef main_arg2)) (m (c, Proc.tc.devRef main_arg3)) (m (c, Proc.tc.devRef main_arg4))) (Fin.ext ?_) (Fin.ext ?_)
    · show t.val * 4096 + (y 0).val = win0_7.index t (0 : Fin 2) * 4096 + 1 * (y 0).val
      rw [h0]; omega
    · show (y 1).val = win0_7.index t (1 : Fin 2) * 128 + 1 * (y 1).val
      rw [h1]; omega
  · have hi0 : (i 0).val < 131072 := (i 0).isLt
    have hi1 : (i 1).val < 128 := (i 1).isLt
    have ht : (i 0).val / 4096 < cfg0.N := lt_of_lt_of_eq (by omega : (i 0).val / 4096 < 32) N_0.symm
    refine ⟨⟨(i 0).val / 4096, ht⟩, flush0_7 _, ?_⟩
    obtain ⟨-, -, -, -, -, -, -, ⟨h0, h1⟩, -⟩ := idx_facts ⟨(i 0).val / 4096, ht⟩
    refine (mem_blk7 _ i).mpr fun a => ?_
    match a with
    | ⟨0, _⟩ => show win0_7.index _ (0 : Fin 2) * 4096 ≤ (i 0).val ∧ (i 0).val < win0_7.index _ (0 : Fin 2) * 4096 + 4096; rw [h0]; dsimp only; omega
    | ⟨1, _⟩ => show win0_7.index _ (1 : Fin 2) * 128 ≤ (i 1).val ∧ (i 1).val < win0_7.index _ (1 : Fin 2) * 128 + 128; rw [h1]; omega

/-- Result array 2. -/
def G8 : Buf (Elt Ideal) ((c : Thread nD τ).loc main_v11_2) := fun i : S16384x128.Idx => rt (sr (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (i 0)) (i 1)

theorem mem_blk8 (t : Fin cfg0.N) (i : S16384x128.Idx) :
    i ∈ ((cfg0.win 8).blk t).view.set ↔ ∀ a : Fin 2, win0_8.index t a * S512x128.size a ≤ (i a).val ∧ (i a).val < win0_8.index t a * S512x128.size a + S512x128.size a := by
  show i ∈ ((View.whole main_v11_2).slice (win0_8.rect t)).set ↔ _
  rw [View.set_slice_whole, Rect.mem_set_unit]
  exact Iff.rfl

theorem final8 (N : Fin6 m c) : (dats m 0 c).arrAt 8 cfg0.N = G8 m c := by
  refine (dats m 0 c).arrAt_eq_of_cover 8 _ (fun t hf => ?_) fun i => ?_
  · show (cfg0.win 8).cut (grid0.coords t) ((dats m 0 c).after 8 t) = _
    rw [after0_8]
    obtain ⟨-, -, -, -, -, -, -, -, ⟨h0, h1⟩⟩ := idx_facts t
    funext y
    have hy0 : (y 0).val < 512 := (y 0).isLt
    have hy1 : (y 1).val < 128 := (y 1).isLt
    have ht := t_lt t
    have hx : (cfg0.win 8).xinj (grid0.coords t) y = (ix2 ⟨(y 0).val, hy0⟩ ⟨(y 1).val, hy1⟩ : S512x128.Idx) := by
      funext a
      match a with
      | ⟨0, _⟩ => rfl
      | ⟨1, _⟩ => rfl
    show rtV (F := Ideal) (lgV (hV (iblk m c 0 t) (iblk m c 1 t) (iblk m c 2 t) (iblk m c 3 t) (iblk m c 4 t)) (iblk m c 5 t)) (m1V (hV (iblk m c 0 t) (iblk m c 1 t) (iblk m c 2 t) (iblk m c 3 t) (iblk m c 4 t)) (iblk m c 5 t)) ((cfg0.win 8).xinj (grid0.coords t) y) = G8 m c (((cfg0.win 8).blk t).view.emb y)
    rw [hx]
    refine (r_eq m c N t ⟨(y 0).val, hy0⟩ ⟨(y 1).val, hy1⟩).trans ?_
    show _ = rt (sr (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) ((((cfg0.win 8).blk t).view.emb y : S16384x128.Idx) 0)) ((((cfg0.win 8).blk t).view.emb y : S16384x128.Idx) 1)
    refine congrArg₂ (fun (R : Fin 16384) (l : Fin 128) => rt (sr (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) R) l) (Fin.ext ?_) (Fin.ext ?_)
    · show t.val * 512 + (y 0).val = win0_8.index t (0 : Fin 2) * 512 + 1 * (y 0).val
      rw [h0]; omega
    · show (y 1).val = win0_8.index t (1 : Fin 2) * 128 + 1 * (y 1).val
      rw [h1]; omega
  · have hi0 : (i 0).val < 16384 := (i 0).isLt
    have hi1 : (i 1).val < 128 := (i 1).isLt
    have ht : (i 0).val / 512 < cfg0.N := lt_of_lt_of_eq (by omega : (i 0).val / 512 < 32) N_0.symm
    refine ⟨⟨(i 0).val / 512, ht⟩, flush0_8 _, ?_⟩
    obtain ⟨-, -, -, -, -, -, -, -, ⟨h0, h1⟩⟩ := idx_facts ⟨(i 0).val / 512, ht⟩
    refine (mem_blk8 _ i).mpr fun a => ?_
    match a with
    | ⟨0, _⟩ => show win0_8.index _ (0 : Fin 2) * 512 ≤ (i 0).val ∧ (i 0).val < win0_8.index _ (0 : Fin 2) * 512 + 512; rw [h0]; dsimp only; omega
    | ⟨1, _⟩ => show win0_8.index _ (1 : Fin 2) * 128 ≤ (i 1).val ∧ (i 1).val < win0_8.index _ (1 : Fin 2) * 128 + 128; rw [h1]; omega

end Cert.RouterIdeal.Rt

end
-- ==== Proof.RouterRefRead.lean ====
module

public import proofs.«01_k».proof.Proof.Gen.RouterReferenceIdeal.Read
public import proofs.«01_k».proof.Proof.RouterFinal
public import proofs.«01_k».proof.Proof.FfnRefRead
public import Idealize.ShloMosaic.Lib.Pointwise

@[expose] public section

set_option maxRecDepth 65536

noncomputable section

/-! The plain projection, normalisation and routing read at an index: the formula. -/

namespace Cert.RouterReferenceIdeal.Rt

open Cert.RouterReferenceIdeal Cert.RouterReferenceIdeal.Read Cert.RouterReferenceIdeal.Gen
open Idealize.ShloMosaic
open Cert.FfnIdeal.Ff (dot rms rows0 ent4)
open Cert.FfnReferenceIdeal.Ff (row rows0_row dot_split)
open Cert.RouterIdeal.Rt

variable (z0 : (⟨S4x4096x1024, .f32⟩ : BufTy).Contents (Elt Ideal)) (z1 z2 : (⟨S4x4096x512, .bf16⟩ : BufTy).Contents (Elt Ideal))
  (z3 : (⟨S1024x1024, .f32⟩ : BufTy).Contents (Elt Ideal)) (z4 : (⟨S1024, .f32⟩ : BufTy).Contents (Elt Ideal)) (z5 : (⟨S1024x8, .f32⟩ : BufTy).Contents (Elt Ideal))

theorem rows5_row (z : S4x4096x512.Idx → EReal) (b : Fin 4) (s : Fin 4096) (l : Fin 512) : rows5 z (row b s) l = z (ix3 b s l) := by
  have e0 : (⟨(row b s).val / 4096, by have := (row b s).isLt; omega⟩ : Fin 4) = b := Fin.ext (by show (b.val * 4096 + s.val) / 4096 = b.val; omega)
  have e1 : (⟨(row b s).val % 4096, by omega⟩ : Fin 4096) = s := Fin.ext (by show (b.val * 4096 + s.val) % 4096 = s.val; omega)
  unfold rows5
  rw [e0, e1]

/-- The two heads' outputs side by side. -/
theorem v2_lo (b : Fin 4) (s : Fin 4096) (l : Fin 1024) (h : l.val < 512) :
    (val_main_v2 z1 z2 : S4x4096x1024.Idx → EReal) (ix3 b s l) = (z1 : S4x4096x512.Idx → EReal) (ix3 b s ⟨l.val, h⟩) := by
  pointwise [val_main_v2, val_main_v1, val_main_v0]
  exact dif_pos h

theorem v2_hi (b : Fin 4) (s : Fin 4096) (l : Fin 1024) (h : ¬ l.val < 512) :
    (val_main_v2 z1 z2 : S4x4096x1024.Idx → EReal) (ix3 b s l) = (z2 : S4x4096x512.Idx → EReal) (ix3 b s ⟨l.val - 512, by omega⟩) := by
  pointwise [val_main_v2, val_main_v1, val_main_v0]
  exact dif_neg h

/-- After the projection. -/
theorem v4_apply (b : Fin 4) (s : Fin 4096) (l : Fin 1024) :
    (val_main_v4 z0 z1 z2 z3 : S4x4096x1024.Idx → EReal) (ix3 b s l) = xr z0 z1 z2 z3 (row b s) l := by
  have h : (val_main_v4 z0 z1 z2 z3 : S4x4096x1024.Idx → EReal) (ix3 b s l)
      = (z0 : S4x4096x1024.Idx → EReal) (ix3 b s l) + dot (fun k => (val_main_v2 z1 z2 : S4x4096x1024.Idx → EReal) (ix3 b s k)) fun k => entw z3 k l := by
    pointwise [val_main_v4, val_main_v3, dot, entw]
  rw [h, dot_split (a := 512) (b := 512) rfl]
  unfold xr y1
  rw [rows0_row, add_assoc]
  refine congrArg₂ (· + ·) rfl (congrArg₂ (· + ·) ?_ ?_)
  · refine congrArg₂ dot (funext fun k => ?_) rfl
    rw [v2_lo z1 z2 b s _ k.isLt, rows5_row]
  · refine congrArg₂ dot (funext fun k => ?_) rfl
    rw [v2_hi z1 z2 b s _ (by show ¬ 512 + k.val < 512; omega), rows5_row]
    have e : (⟨512 + k.val - 512, by omega⟩ : Fin 512) = k := Fin.ext (by show 512 + k.val - 512 = k.val; omega)
    exact congrArg (fun k => (z2 : S4x4096x512.Idx → EReal) (ix3 b s k)) e

/-- Normalised. -/
theorem v17_apply (b : Fin 4) (s : Fin 4096) (l : Fin 1024) :
    (val_main_v17 z0 z1 z2 z3 z4 : S4x4096x1024.Idx → EReal) (ix3 b s l) = hr z0 z1 z2 z3 z4 (row b s) l := by
  have h4 := fun k => v4_apply z0 z1 z2 z3 b s k
  pointwise [val_main_v17, val_main_v16, val_main_v15, val_main_v14, val_main_v13, val_main_v12, val_main_v11, val_main_v10, val_main_v9, val_main_v8, val_main_v7, val_main_v6, val_main_v5, val_main_cst, val_main_cst_0, val_main_cst_1]
  simp only [h4]
  unfold hr rms ent4
  rfl

theorem row_eq (R : Fin 16384) : row ⟨R.val / 4096, by omega⟩ ⟨R.val % 4096, by omega⟩ = R := Fin.ext (by show R.val / 4096 * 4096 + R.val % 4096 = R.val; omega)

/-- The first result. -/
theorem v33_apply (R : Fin 16384) (l : Fin 1024) : (val_main_v33 z0 z1 z2 z3 : S16384x1024.Idx → EReal) (ix2 R l) = xr z0 z1 z2 z3 R l := by
  have h4 := v4_apply z0 z1 z2 z3 ⟨R.val / 4096, by omega⟩ ⟨R.val % 4096, by omega⟩ l
  rw [row_eq] at h4
  rw [← h4]
  pointwise [val_main_v33]

theorem v18_apply (R : Fin 16384) (l : Fin 1024) : (val_main_v18 z0 z1 z2 z3 z4 : S16384x1024.Idx → EReal) (ix2 R l) = hr z0 z1 z2 z3 z4 R l := by
  have h4 := v17_apply z0 z1 z2 z3 z4 ⟨R.val / 4096, by omega⟩ ⟨R.val % 4096, by omega⟩ l
  rw [row_eq] at h4
  rw [← h4]
  pointwise [val_main_v18]

/-- The second. -/
theorem v34_apply (Q : Fin 131072) (l : Fin 128) : (val_main_v34 z0 z1 z2 z3 z4 : S131072x128.Idx → EReal) (ix2 Q l) = tr z0 z1 z2 z3 z4 Q l := by
  unfold tr
  rw [← v18_apply]
  pointwise [val_main_v34]
  have e : (⟨Q.val % 8 * 128 + l.val, by omega⟩ : Fin 1024) = ⟨128 * (Q.val % 8) + l.val, by omega⟩ := Fin.ext (by show Q.val % 8 * 128 + l.val = 128 * (Q.val % 8) + l.val; omega)
  rw [e]

/-- The scores. -/
theorem v19_apply (R : Fin 16384) (e : Fin 8) : (val_main_v19 z0 z1 z2 z3 z4 z5 : S16384x8.Idx → EReal) (ix2 R e) = sr z0 z1 z2 z3 z4 z5 R e := by
  have h := fun k => v18_apply z0 z1 z2 z3 z4 R k
  pointwise [val_main_v19]
  simp only [h]
  rfl

/-- An index moved along its row. -/
theorem along_eq (R : Fin 16384) (k e : Fin 8) : (ix2 R k : S16384x8.Idx).along 1 e = ix2 R e := by
  funext a
  match a with
  | ⟨0, _⟩ => rfl
  | ⟨1, _⟩ => rfl

/-- The comparison the sort makes is the order of the extended reals. -/
theorem gt_eq (x : S16384x8.Idx → EReal) (R : Fin 16384) (k : Fin 8) :
    (fun a b => FloatOps.cmpfTotal (F := Ideal) (φ := .f32) .gt (x ((ix2 R k : S16384x8.Idx).along 1 a)) (x ((ix2 R k : S16384x8.Idx).along 1 b)) == 1#1)
      = gtb fun e => x (ix2 R e) := by
  funext a b
  have key : ∀ u v : EReal, (FloatOps.cmpfTotal (F := Ideal) (φ := .f32) .gt u v == 1#1) = decide (v < u) := fun u v => by
    show (BitVec.ofBool (decide (v < u)) == 1#1) = decide (v < u)
    cases decide (v < u) <;> rfl
  exact (key _ _).trans (congrArg₂ (fun u v : EReal => decide (v < u)) (congrArg x (along_eq R k a)) (congrArg x (along_eq R k b)))

/-- A stable descending sort's first two, -/
theorem topv (x : S16384x8.Idx → EReal) (R : Fin 16384) (k : Fin 2) :
    (Host.topK S16384x2 1 (FloatOps.cmpfTotal (F := Ideal) (φ := .f32) .gt) x sliceFits_S16384x8_S16384x2).1 (ix2 R k)
      = x (ix2 R (sortedFrom (gtb fun e => x (ix2 R e)) ⟨k.val, by omega⟩)) := by
  unfold Host.topK Host.sort2
  pointwise
  exact congrArg x ((congrArg (fun r => (ix2 R ⟨k.val, by omega⟩ : S16384x8.Idx).along 1 (sortedFrom (n := 8) r ⟨k.val, by omega⟩)) (gt_eq x R ⟨k.val, by omega⟩)).trans (along_eq R _ _))

/-- and their numbers. -/
theorem topi (x : S16384x8.Idx → EReal) (R : Fin 16384) (k : Fin 2) :
    (Host.topK S16384x2 1 (FloatOps.cmpfTotal (F := Ideal) (φ := .f32) .gt) x sliceFits_S16384x8_S16384x2).2 (ix2 R k)
      = BitVec.ofNat 32 (sortedFrom (gtb fun e => x (ix2 R e)) ⟨k.val, by omega⟩).val := by
  unfold Host.topK Host.sort2
  pointwise
  exact congrArg (fun r => BitVec.ofNat 32 (sortedFrom r (⟨k.val, by omega⟩ : Fin 8)).val) (gt_eq x R ⟨k.val, by omega⟩)

theorem row19 (R : Fin 16384) : (fun e => (val_main_v19 z0 z1 z2 z3 z4 z5 : S16384x8.Idx → EReal) (ix2 R e)) = sr z0 z1 z2 z3 z4 z5 R :=
  funext fun e => v19_apply z0 z1 z2 z3 z4 z5 R e

theorem val_0 (R : Fin 16384) : (val_main_values z0 z1 z2 z3 z4 z5 : S16384x2.Idx → EReal) (ix2 R 0) = sr z0 z1 z2 z3 z4 z5 R (p0 (sr z0 z1 z2 z3 z4 z5 R)) := by
  unfold val_main_values
  rw [topv, row19, v19_apply]
  rfl
theorem val_1 (R : Fin 16384) : (val_main_values z0 z1 z2 z3 z4 z5 : S16384x2.Idx → EReal) (ix2 R 1) = sr z0 z1 z2 z3 z4 z5 R (p1 (sr z0 z1 z2 z3 z4 z5 R)) := by
  unfold val_main_values
  rw [topv, row19, v19_apply]
  rfl
theorem ind_0 (R : Fin 16384) : (val_main_indices z0 z1 z2 z3 z4 z5 : S16384x2.Idx → BitVec 32) (ix2 R 0) = BitVec.ofNat 32 (p0 (sr z0 z1 z2 z3 z4 z5 R)).val := by
  unfold val_main_indices
  rw [topi, row19]
  rfl
theorem ind_1 (R : Fin 16384) : (val_main_indices z0 z1 z2 z3 z4 z5 : S16384x2.Idx → BitVec 32) (ix2 R 1) = BitVec.ofNat 32 (p1 (sr z0 z1 z2 z3 z4 z5 R)).val := by
  unfold val_main_indices
  rw [topi, row19]
  rfl

/-- The greater of the two. -/
theorem v22_apply (R : Fin 16384) : (val_main_v22 z0 z1 z2 z3 z4 z5 : S16384.Idx → EReal) (ix1 R) = sr z0 z1 z2 z3 z4 z5 R (p0 (sr z0 z1 z2 z3 z4 z5 R)) := by
  have h0 := val_0 z0 z1 z2 z3 z4 z5 R
  have h1 := val_1 z0 z1 z2 z3 z4 z5 R
  pointwise [val_main_v22, val_main_v21, val_main_v20, val_main_cst_2, val_main_cst_3]
  rw [ofBits_bot, max_eq_right bot_le]
  refine (fold_max (fun k => (val_main_values z0 z1 z2 z3 z4 z5 : S16384x2.Idx → EReal) (ix2 R k)) 0 fun q => ?_).trans h0
  match q with
  | ⟨0, _⟩ => exact le_rfl
  | ⟨1, _⟩ => exact (h1.trans_le (le_p0 _ _)).trans h0.ge

section gates

variable (R : Fin 16384) (hn : ∀ e, Num (sr z0 z1 z2 z3 z4 z5 R e))

include hn

/-- The routing's four numbers. -/
theorem v32_apply (l : Fin 4) : (val_main_v32 z0 z1 z2 z3 z4 z5 : S16384x4.Idx → EReal) (ix2 R l) = rt (sr z0 z1 z2 z3 z4 z5 R) ⟨l.val, by omega⟩ := by
  have h0 := val_0 z0 z1 z2 z3 z4 z5 R
  have h1 := val_1 z0 z1 z2 z3 z4 z5 R
  have i0 := ind_0 z0 z1 z2 z3 z4 z5 R
  have i1 := ind_1 z0 z1 z2 z3 z4 z5 R
  have h2 := v22_apply z0 z1 z2 z3 z4 z5 R
  generalize sr z0 z1 z2 z3 z4 z5 R = f at *
  have e1 : Ideal.exp (f (p0 f) - f (p0 f)) = 1 := by
    rw [(hn _).sub_self, ← EReal.coe_zero]
    show ((Real.exp 0 : ℝ) : EReal) = 1
    rw [Real.exp_zero, EReal.coe_one]
  pointwise [val_main_v32, val_main_v31, val_main_v30, val_main_v29, val_main_v28, val_main_v27, val_main_v26, val_main_v25, val_main_v24, val_main_v23, val_main_cst_4]
  rw [Fin.sum_univ_two, h0, h1, h2, e1]
  match l with
  | ⟨0, _⟩ => exact congrArg (fun v : BitVec 32 => (FloatOps.sitofp (F := Ideal) .f32 v : Ideal .f32)) i0
  | ⟨1, _⟩ => exact congrArg (fun v : BitVec 32 => (FloatOps.sitofp (F := Ideal) .f32 v : Ideal .f32)) i1
  | ⟨2, _⟩ =>
    show Ideal.div (Ideal.exp ((val_main_values z0 z1 z2 z3 z4 z5 : S16384x2.Idx → EReal) (ix2 R 0) - f (p0 f))) _ = Ideal.div 1 (1 + e2 f)
    rw [h0, e1]
    rfl
  | ⟨3, _⟩ =>
    show Ideal.div (Ideal.exp ((val_main_values z0 z1 z2 z3 z4 z5 : S16384x2.Idx → EReal) (ix2 R 1) - f (p0 f))) _ = Ideal.div (e2 f) (1 + e2 f)
    rw [h1]
    rfl

/-- The third result. -/
theorem v35_apply (l : Fin 128) : (val_main_v35 z0 z1 z2 z3 z4 z5 : S16384x128.Idx → EReal) (ix2 R l) = rt (sr z0 z1 z2 z3 z4 z5 R) l := by
  have h := v32_apply z0 z1 z2 z3 z4 z5 R hn
  pointwise [val_main_v35, val_main_call0_v0, val_main_c]
  split
  · next e => exact h ⟨l.val, e⟩
  · next e =>
    unfold rt
    rw [if_neg (by omega), if_neg (by omega), if_neg (by omega), if_neg (by omega)]
    show (((0#32 : BitVec 32).toInt : ℝ) : EReal) = 0
    rw [show (0#32 : BitVec 32).toInt = 0 from rfl, Int.cast_zero, EReal.coe_zero]

end gates

end Cert.RouterReferenceIdeal.Rt

end
-- ==== Proof.RouterTie.lean ====
module

public import proofs.«01_k».proof.Pre_finite5
public import proofs.«01_k».proof.Defs
public import proofs.«01_k».proof.Proof.FoxTie
public import proofs.«01_k».proof.Proof.RouterFinal
public import proofs.«01_k».proof.Proof.RouterRefRead
public import proofs.«01_k».proof.Proof.Gen.Router
public import proofs.«01_k».proof.Proof.Gen.RouterReferenceIdeal.Run
public import Idealize.ShloMosaic.Lib.Quiescent

@[expose] public section

set_option maxRecDepth 65536

noncomputable section

/-! The claims on the output projection and the routing. -/

namespace Cert.Pre_finite5.Rt

open Cert.Pre_finite5 Idealize.ShloMosaic

/-- The shape relations of the precondition's operations. -/
instance facts : Cert.Pre_finite5.Facts where
  bcast_S_S4x4096x1024 := by decide
  reducesTo_S4x4096x1024_S_d0_1_2 := by decide
  h_S_ := by decide
  bitsLt_bf16_f32 := by decide
  bcast_S_S4x4096x512 := by decide
  reducesTo_S4x4096x512_S_d0_1_2 := by decide
  bcast_S_S1024x1024 := by decide
  reducesTo_S1024x1024_S_d0_1 := by decide
  bcast_S_S1024 := by decide
  reducesTo_S1024_S_d0 := by decide
  bcast_S_S1024x8 := by decide
  reducesTo_S1024x8_S_d0_1 := by decide

/-- What the precondition says: the six arrays have real entries. -/
theorem reals (x0 : FVec Ideal S4x4096x1024 .f32) (x1 x2 : FVec Ideal S4x4096x512 .bf16) (x3 : FVec Ideal S1024x1024 .f32) (x4 : FVec Ideal S1024 .f32) (x5 : FVec Ideal S1024x8 .f32)
    (j : S_.Idx) (h : fn (F := Ideal) x0 x1 x2 x3 x4 x5 j = 1#1) :
    (∀ i, ∃ y : ℝ, (x0 i : EReal) = y) ∧ (∀ i, ∃ y : ℝ, (x1 i : EReal) = y) ∧ (∀ i, ∃ y : ℝ, (x2 i : EReal) = y)
      ∧ (∀ i, ∃ y : ℝ, (x3 i : EReal) = y) ∧ (∀ i, ∃ y : ℝ, (x4 i : EReal) = y) ∧ ∀ i, ∃ y : ℝ, (x5 i : EReal) = y := by
  obtain ⟨h4, h5⟩ := IntOp.andi_eq_one.1 h
  obtain ⟨h3, h4⟩ := IntOp.andi_eq_one.1 h4
  obtain ⟨h2, h3⟩ := IntOp.andi_eq_one.1 h3
  obtain ⟨h1, h2⟩ := IntOp.andi_eq_one.1 h2
  obtain ⟨h0, h1⟩ := IntOp.andi_eq_one.1 h1
  exact ⟨Cert.Pre_finite.Fox.reals_of_all x0 _ _ _ j h0,
    fun i => Cert.Pre_finite.Fox.reals_of_all (extf (F := Ideal) .f32 x1 facts.bitsLt_bf16_f32) _ _ _ j h1 i,
    fun i => Cert.Pre_finite.Fox.reals_of_all (extf (F := Ideal) .f32 x2 facts.bitsLt_bf16_f32) _ _ _ j h2 i,
    Cert.Pre_finite.Fox.reals_of_all x3 _ _ _ j h3, Cert.Pre_finite.Fox.reals_of_all x4 _ _ _ j h4, Cert.Pre_finite.Fox.reals_of_all x5 _ _ _ j h5⟩

end Cert.Pre_finite5.Rt

namespace Cert.RouterTie

open Idealize.ShloMosaic Idealize.ShloMosaic.TcCoe Idealize.SL.Sem

/-- The two programs' kernel bodies are one, -/
theorem bodies_eq : Cert.RouterIdeal.defs₀ (F := Bits) = Cert.Router.defs₀ := by
  unfold Cert.RouterIdeal.defs₀ Cert.Router.defs₀
  refine congrArg Defs.onTc ?_
  funext l a
  match l, a with
  | ⟨0, _⟩, (t, s) => rfl

/-- and with them all that the two programs may call. -/
theorem calls_eq : Cert.RouterIdeal.defs (F := Bits) = Cert.Router.defs := by
  unfold Cert.RouterIdeal.defs Cert.Router.defs
  exact congrArg (Pipeline.defs _) bodies_eq

/-- The kernel runs on machine words, -/
theorem frame : Cert.quiescent_Router := fun m ρ _ => by
  have h := Cert.RouterIdeal.Rt.frame (F := Bits) m ρ
  rw [calls_eq] at h
  exact h

/-- and on the extended reals. -/
theorem ideal_frame : Cert.quiescent_RouterIdeal := fun m ρ _ => Cert.RouterIdeal.Rt.frame m ρ

theorem ideal_frame' : Cert.quiescent_RouterIdeal_pre_finite5 := fun m ρ _ => Cert.RouterIdeal.Rt.frame m ρ

/-- The reference runs, leaves its arguments and has no counter to leave. -/
theorem reference_frame : Cert.quiescent_RouterReferenceIdeal := fun m ρ _ =>
  (θ_run Cert.RouterReferenceIdeal.defs _ _).mono (fun r h => ⟨fun c => (h c).2.2.2, sem_eq_zero_of_no_sems (by decide) r.2⟩) (Cert.RouterReferenceIdeal.Value.run m ρ)

theorem reference_frame' : Cert.quiescent_RouterReferenceIdeal_pre_finite5 := fun m ρ _ => reference_frame m ρ trivial

/-- The precondition in the kernel's memory is what the value theorem asks for. -/
theorem fin6 (m : (ℓ : Loc Cert.RouterIdeal.nD Cert.RouterIdeal.τ Cert.RouterIdeal.sig) → Buf (Elt Ideal) ℓ)
    (h : Cert.Pre_RouterIdeal_finite5 m) (c : Dev Cert.RouterIdeal.nD) : Cert.RouterIdeal.Rt.Fin6 m c := by
  obtain ⟨h0, h1, h2, h3, h4, h5⟩ := Cert.Pre_finite5.Rt.reals _ _ _ _ _ _ (fun k => k.elim0) (congrFun (h c) _)
  exact ⟨fun R l => h0 _, fun R l => h1 _, fun R l => h2 _, fun k l => h3 _, fun l => h4 _, fun k e => h5 _⟩

/-- The kernel's run leaves the formulas in its three results. -/
theorem kernel_run (m : (ℓ : Loc Cert.RouterIdeal.nD Cert.RouterIdeal.τ Cert.RouterIdeal.sig) → Buf (Elt Ideal) ℓ)
    (g : Dev Cert.RouterIdeal.nD → PrngReg) (h : Cert.Pre_RouterIdeal_finite5 m) :
    θ_run (Cert.RouterIdeal.defs (F := Ideal)) (onTc (τ := Cert.RouterIdeal.τ) (Cert.RouterIdeal.main (F := Ideal))) ⟨m, fun _ => 0, g⟩ (fun r => ∀ c : Dev Cert.RouterIdeal.nD,
      r.2.mem ((c.tc : Thread Cert.RouterIdeal.nD Cert.RouterIdeal.τ).loc Cert.RouterIdeal.main_v11_0) = Cert.RouterIdeal.Rt.G6 m c
      ∧ r.2.mem ((c.tc : Thread Cert.RouterIdeal.nD Cert.RouterIdeal.τ).loc Cert.RouterIdeal.main_v11_1) = Cert.RouterIdeal.Rt.G7 m c
      ∧ r.2.mem ((c.tc : Thread Cert.RouterIdeal.nD Cert.RouterIdeal.τ).loc Cert.RouterIdeal.main_v11_2) = Cert.RouterIdeal.Rt.G8 m c) :=
  (θ_run _ _ _).mono (fun r hr c => ⟨((hr c).1 6).trans (Cert.RouterIdeal.Rt.final6 m c), ((hr c).1 7).trans (Cert.RouterIdeal.Rt.final7 m c),
    ((hr c).1 8).trans (Cert.RouterIdeal.Rt.final8 m c (fin6 m h c))⟩) (Cert.RouterIdeal.Rt.run_main m g)

/-- The scores of real arrays are real. -/
theorem num_sr (m : (ℓ : Loc Cert.RouterIdeal.nD Cert.RouterIdeal.τ Cert.RouterIdeal.sig) → Buf (Elt Ideal) ℓ) (c : Dev Cert.RouterIdeal.nD) (N : Cert.RouterIdeal.Rt.Fin6 m c) (R : Fin 16384) (e : Fin 8) :
    Cert.RouterIdeal.Rt.Num (Cert.RouterIdeal.Rt.sr (m (c, Proc.tc.devRef Cert.RouterIdeal.main_arg0)) (m (c, Proc.tc.devRef Cert.RouterIdeal.main_arg1)) (m (c, Proc.tc.devRef Cert.RouterIdeal.main_arg2)) (m (c, Proc.tc.devRef Cert.RouterIdeal.main_arg3)) (m (c, Proc.tc.devRef Cert.RouterIdeal.main_arg4)) (m (c, Proc.tc.devRef Cert.RouterIdeal.main_arg5)) R e) :=
  Cert.RouterIdeal.Rt.Num.sc (fun l => Cert.RouterIdeal.Rt.Num.rms (fun l => Cert.RouterIdeal.Rt.Num.y1 (N.x R) (N.a R) (N.b R) N.w l) N.g l) N.u e

variable (m' : (ℓ : Loc Cert.RouterReferenceIdeal.nD Cert.RouterReferenceIdeal.τ Cert.RouterReferenceIdeal.sig) → Buf (Elt Ideal) ℓ) (c : Dev Cert.RouterReferenceIdeal.nD)

theorem ref0 : (Cert.RouterReferenceIdeal.Read.val_main_v33 (m' ((c.tc : Thread Cert.RouterReferenceIdeal.nD Cert.RouterReferenceIdeal.τ).loc Cert.RouterReferenceIdeal.main_arg0)) (m' ((c.tc : Thread Cert.RouterReferenceIdeal.nD Cert.RouterReferenceIdeal.τ).loc Cert.RouterReferenceIdeal.main_arg1)) (m' ((c.tc : Thread Cert.RouterReferenceIdeal.nD Cert.RouterReferenceIdeal.τ).loc Cert.RouterReferenceIdeal.main_arg2)) (m' ((c.tc : Thread Cert.RouterReferenceIdeal.nD Cert.RouterReferenceIdeal.τ).loc Cert.RouterReferenceIdeal.main_arg3)) : Cert.RouterReferenceIdeal.S16384x1024.Idx → EReal)
    = fun i => Cert.RouterIdeal.Rt.xr (m' ((c.tc : Thread Cert.RouterReferenceIdeal.nD Cert.RouterReferenceIdeal.τ).loc Cert.RouterReferenceIdeal.main_arg0)) (m' ((c.tc : Thread Cert.RouterReferenceIdeal.nD Cert.RouterReferenceIdeal.τ).loc Cert.RouterReferenceIdeal.main_arg1)) (m' ((c.tc : Thread Cert.RouterReferenceIdeal.nD Cert.RouterReferenceIdeal.τ).loc Cert.RouterReferenceIdeal.main_arg2)) (m' ((c.tc : Thread Cert.RouterReferenceIdeal.nD Cert.RouterReferenceIdeal.τ).loc Cert.RouterReferenceIdeal.main_arg3)) (i 0) (i 1) := by
  refine funext fun i => ?_
  have h := Cert.RouterReferenceIdeal.Rt.v33_apply (m' ((c.tc : Thread Cert.RouterReferenceIdeal.nD Cert.RouterReferenceIdeal.τ).loc Cert.RouterReferenceIdeal.main_arg0)) (m' ((c.tc : Thread Cert.RouterReferenceIdeal.nD Cert.RouterReferenceIdeal.τ).loc Cert.RouterReferenceIdeal.main_arg1)) (m' ((c.tc : Thread Cert.RouterReferenceIdeal.nD Cert.RouterReferenceIdeal.τ).loc Cert.RouterReferenceIdeal.main_arg2)) (m' ((c.tc : Thread Cert.RouterReferenceIdeal.nD Cert.RouterReferenceIdeal.τ).loc Cert.RouterReferenceIdeal.main_arg3)) (i 0) (i 1)
  rw [← eq_ix2 i] at h
  exact h

theorem ref1 : (Cert.RouterReferenceIdeal.Read.val_main_v34 (m' ((c.tc : Thread Cert.RouterReferenceIdeal.nD Cert.RouterReferenceIdeal.τ).loc Cert.RouterReferenceIdeal.main_arg0)) (m' ((c.tc : Thread Cert.RouterReferenceIdeal.nD Cert.RouterReferenceIdeal.τ).loc Cert.RouterReferenceIdeal.main_arg1)) (m' ((c.tc : Thread Cert.RouterReferenceIdeal.nD Cert.RouterReferenceIdeal.τ).loc Cert.RouterReferenceIdeal.main_arg2)) (m' ((c.tc : Thread Cert.RouterReferenceIdeal.nD Cert.RouterReferenceIdeal.τ).loc Cert.RouterReferenceIdeal.main_arg3)) (m' ((c.tc : Thread Cert.RouterReferenceIdeal.nD Cert.RouterReferenceIdeal.τ).loc Cert.RouterReferenceIdeal.main_arg4)) : Cert.RouterReferenceIdeal.S131072x128.Idx → EReal)
    = fun i => Cert.RouterIdeal.Rt.tr (m' ((c.tc : Thread Cert.RouterReferenceIdeal.nD Cert.RouterReferenceIdeal.τ).loc Cert.RouterReferenceIdeal.main_arg0)) (m' ((c.tc : Thread Cert.RouterReferenceIdeal.nD Cert.RouterReferenceIdeal.τ).loc Cert.RouterReferenceIdeal.main_arg1)) (m' ((c.tc : Thread Cert.RouterReferenceIdeal.nD Cert.RouterReferenceIdeal.τ).loc Cert.RouterReferenceIdeal.main_arg2)) (m' ((c.tc : Thread Cert.RouterReferenceIdeal.nD Cert.RouterReferenceIdeal.τ).loc Cert.RouterReferenceIdeal.main_arg3)) (m' ((c.tc : Thread Cert.RouterReferenceIdeal.nD Cert.RouterReferenceIdeal.τ).loc Cert.RouterReferenceIdeal.main_arg4)) (i 0) (i 1) := by
  refine funext fun i => ?_
  have h := Cert.RouterReferenceIdeal.Rt.v34_apply (m' ((c.tc : Thread Cert.RouterReferenceIdeal.nD Cert.RouterReferenceIdeal.τ).loc Cert.RouterReferenceIdeal.main_arg0)) (m' ((c.tc : Thread Cert.RouterReferenceIdeal.nD Cert.RouterReferenceIdeal.τ).loc Cert.RouterReferenceIdeal.main_arg1)) (m' ((c.tc : Thread Cert.RouterReferenceIdeal.nD Cert.RouterReferenceIdeal.τ).loc Cert.RouterReferenceIdeal.main_arg2)) (m' ((c.tc : Thread Cert.RouterReferenceIdeal.nD Cert.RouterReferenceIdeal.τ).loc Cert.RouterReferenceIdeal.main_arg3)) (m' ((c.tc : Thread Cert.RouterReferenceIdeal.nD Cert.RouterReferenceIdeal.τ).loc Cert.RouterReferenceIdeal.main_arg4)) (i 0) (i 1)
  rw [← eq_ix2 i] at h
  exact h

theorem ref2 (hn : ∀ R e, Cert.RouterIdeal.Rt.Num (Cert.RouterIdeal.Rt.sr (m' ((c.tc : Thread Cert.RouterReferenceIdeal.nD Cert.RouterReferenceIdeal.τ).loc Cert.RouterReferenceIdeal.main_arg0)) (m' ((c.tc : Thread Cert.RouterReferenceIdeal.nD Cert.RouterReferenceIdeal.τ).loc Cert.RouterReferenceIdeal.main_arg1)) (m' ((c.tc : Thread Cert.RouterReferenceIdeal.nD Cert.RouterReferenceIdeal.τ).loc Cert.RouterReferenceIdeal.main_arg2)) (m' ((c.tc : Thread Cert.RouterReferenceIdeal.nD Cert.RouterReferenceIdeal.τ).loc Cert.RouterReferenceIdeal.main_arg3)) (m' ((c.tc : Thread Cert.RouterReferenceIdeal.nD Cert.RouterReferenceIdeal.τ).loc Cert.RouterReferenceIdeal.main_arg4)) (m' ((c.tc : Thread Cert.RouterReferenceIdeal.nD Cert.RouterReferenceIdeal.τ).loc Cert.RouterReferenceIdeal.main_arg5)) R e)) :
    (Cert.RouterReferenceIdeal.Read.val_main_v35 (m' ((c.tc : Thread Cert.RouterReferenceIdeal.nD Cert.RouterReferenceIdeal.τ).loc Cert.RouterReferenceIdeal.main_arg0)) (m' ((c.tc : Thread Cert.RouterReferenceIdeal.nD Cert.RouterReferenceIdeal.τ).loc Cert.RouterReferenceIdeal.main_arg1)) (m' ((c.tc : Thread Cert.RouterReferenceIdeal.nD Cert.RouterReferenceIdeal.τ).loc Cert.RouterReferenceIdeal.main_arg2)) (m' ((c.tc : Thread Cert.RouterReferenceIdeal.nD Cert.RouterReferenceIdeal.τ).loc Cert.RouterReferenceIdeal.main_arg3)) (m' ((c.tc : Thread Cert.RouterReferenceIdeal.nD Cert.RouterReferenceIdeal.τ).loc Cert.RouterReferenceIdeal.main_arg4)) (m' ((c.tc : Thread Cert.RouterReferenceIdeal.nD Cert.RouterReferenceIdeal.τ).loc Cert.RouterReferenceIdeal.main_arg5)) : Cert.RouterReferenceIdeal.S16384x128.Idx → EReal)
    = fun i => Cert.RouterIdeal.Rt.rt (Cert.RouterIdeal.Rt.sr (m' ((c.tc : Thread Cert.RouterReferenceIdeal.nD Cert.RouterReferenceIdeal.τ).loc Cert.RouterReferenceIdeal.main_arg0)) (m' ((c.tc : Thread Cert.RouterReferenceIdeal.nD Cert.RouterReferenceIdeal.τ).loc Cert.RouterReferenceIdeal.main_arg1)) (m' ((c.tc : Thread Cert.RouterReferenceIdeal.nD Cert.RouterReferenceIdeal.τ).loc Cert.RouterReferenceIdeal.main_arg2)) (m' ((c.tc : Thread Cert.RouterReferenceIdeal.nD Cert.RouterReferenceIdeal.τ).loc Cert.RouterReferenceIdeal.main_arg3)) (m' ((c.tc : Thread Cert.RouterReferenceIdeal.nD Cert.RouterReferenceIdeal.τ).loc Cert.RouterReferenceIdeal.main_arg4)) (m' ((c.tc : Thread Cert.RouterReferenceIdeal.nD Cert.RouterReferenceIdeal.τ).loc Cert.RouterReferenceIdeal.main_arg5)) (i 0)) (i 1) := by
  refine funext fun i => ?_
  have h := Cert.RouterReferenceIdeal.Rt.v35_apply (m' ((c.tc : Thread Cert.RouterReferenceIdeal.nD Cert.RouterReferenceIdeal.τ).loc Cert.RouterReferenceIdeal.main_arg0)) (m' ((c.tc : Thread Cert.RouterReferenceIdeal.nD Cert.RouterReferenceIdeal.τ).loc Cert.RouterReferenceIdeal.main_arg1)) (m' ((c.tc : Thread Cert.RouterReferenceIdeal.nD Cert.RouterReferenceIdeal.τ).loc Cert.RouterReferenceIdeal.main_arg2)) (m' ((c.tc : Thread Cert.RouterReferenceIdeal.nD Cert.RouterReferenceIdeal.τ).loc Cert.RouterReferenceIdeal.main_arg3)) (m' ((c.tc : Thread Cert.RouterReferenceIdeal.nD Cert.RouterReferenceIdeal.τ).loc Cert.RouterReferenceIdeal.main_arg4)) (m' ((c.tc : Thread Cert.RouterReferenceIdeal.nD Cert.RouterReferenceIdeal.τ).loc Cert.RouterReferenceIdeal.main_arg5)) (i 0) (hn (i 0)) (i 1)
  rw [← eq_ix2 i] at h
  exact h

/-- From equal arguments the two programs end with equal results. -/
theorem algebraic : Cert.algebraic_RouterIdeal_RouterReferenceIdeal_pre_finite5 := by
  intro m g m' g' hp hargs
  refine ⟨fun c => Cert.RouterIdeal.Rt.G6 m c, fun c => Cert.RouterIdeal.Rt.G7 m c, fun c => Cert.RouterIdeal.Rt.G8 m c, ?_, ?_⟩
  · exact (θ_run _ _ _).mono (fun r hr c => ⟨(hr.1 c).1, (hr.1 c).2.1, (hr.1 c).2.2, hr.2.1 c⟩) (θ_run_and (kernel_run m g hp) (Cert.RouterIdeal.Rt.frame m g))
  · refine (θ_run _ _ _).mono (fun r hr c => ⟨?_, ?_, ?_, (hr c).2.2.2⟩) (Cert.RouterReferenceIdeal.Value.run m' g')
    · obtain ⟨e0, e1, e2, e3, e4, e5⟩ := hargs c
      refine (hr c).1.trans ((Cert.RouterReferenceIdeal.Read.val_main_v33_eq _ _ _ _).trans ((ref0 m' c).trans ?_))
      rw [e0, e1, e2, e3]
      rfl
    · obtain ⟨e0, e1, e2, e3, e4, e5⟩ := hargs c
      refine (hr c).2.1.trans ((Cert.RouterReferenceIdeal.Read.val_main_v34_eq _ _ _ _ _).trans ((ref1 m' c).trans ?_))
      rw [e0, e1, e2, e3, e4]
      rfl
    · obtain ⟨e0, e1, e2, e3, e4, e5⟩ := hargs c
      refine (hr c).2.2.1.trans ((Cert.RouterReferenceIdeal.Read.val_main_v35_eq m' c).trans ((ref2 m' c ?_).trans ?_))
      · rw [e0, e1, e2, e3, e4, e5]
        exact fun R e => num_sr m c (fin6 m hp c) R e
      · rw [e0, e1, e2, e3, e4, e5]
        rfl

end Cert.RouterTie

end
-- ==== Proof.StickDefs.lean ====
module

public import proofs.«01_k».proof.Proof.Gen.StickIdeal
public import proofs.«01_k».proof.Proof.Gen.StickIdeal.Skeleton
public import proofs.«01_k».proof.Proof.Gen.StickIdeal.Loops
public import Idealize.ShloMosaic.Lib.WholeRead

@[expose] public section

set_option maxRecDepth 65536

noncomputable section

namespace Cert.StickIdeal.Sb

open Cert.StickIdeal Cert.StickIdeal.Gen
open Idealize.ShloMosaic Idealize.ShloMosaic.TcCoe Idealize.ShloMosaic.Tactic
open Idealize.SL Idealize.SL.Sem

variable {F : FTy → Type} [FloatOps F]

/-- What is carried from a key block to the one before it: per head the mass each row has used up,
    and both heads' sums of weighted values, each in its own lanes. -/
abbrev Carry (F : FTy → Type) := FVec F S512x1 .f32 × FVec F S512x1 .f32 × FVec F S512x128 .f32

/-- The softplus in base two of a block of scores. -/
def spf (S : Shape) (z : FVec F S .f32) : FVec F S .f32 :=
  maximumf z (divf (log (addf (broadcast S (Scalar.ofBits .f32 0x3F800000#32)) (exp2 (minimumf z (broadcast S (Scalar.ofBits .f32 0x42800000#32)))))) (broadcast S (Scalar.log (Scalar.ofBits .f32 0x40000000#32))))

/-- A head's scores against a key block. -/
def sc (q : FVec F S512x128 .bf16) (K : Vec F S1x256x128 .bf16) : FVec F S512x256 .f32 :=
  matmul dot_S512x128_S256x128_S512x256_1_1_0_0_n_n none q (shapeCast S256x128 K shapeCasts_S1x256x128_S256x128) (constant S512x256 .f32 0x00000000#32)

/-- The same of the lower half of the rows. -/
def scH (q : FVec F S512x128 .bf16) (K : Vec F S1x256x128 .bf16) : FVec F S256x256 .f32 :=
  matmul dot_S256x128_S256x128_S256x256_1_1_0_0_n_n none (extractStridedSlice S256x128 ![256, 0] q slices_S512x128_o256_0_S256x128)
    (shapeCast S256x128 K shapeCasts_S1x256x128_S256x128) (constant S256x256 .f32 0x00000000#32)

/-- Less the softplus summed over the later keys of the block. -/
def lat (N : FVec F S256x256 .bf16) (sp : FVec F S512x256 .f32) : FVec F S512x256 .f32 :=
  matmul dot_S512x256_S256x256_S512x256_1_0_0_1_n_n none (truncf .bf16 sp bitsLt_bf16_f32) N (constant S512x256 .f32 0x00000000#32)

/-- The same of the lower half of the rows. -/
def latH (N : FVec F S256x256 .bf16) (sp : FVec F S256x256 .f32) : FVec F S256x256 .f32 :=
  matmul dot_S256x256_S256x256_S256x256_1_0_0_1_n_n none (truncf .bf16 sp bitsLt_bf16_f32) N (constant S256x256 .f32 0x00000000#32)

/-- The weights of a block. -/
def wgt (z sp l : FVec F S512x256 .f32) (u : FVec F S512x1 .f32) : FVec F S512x256 .bf16 :=
  exp2 (truncf .bf16 (addf (subf z sp) (subf l (broadcastTo S512x256 u broadcasts_S512x1_S512x256))) bitsLt_bf16_f32)

/-- The same of the lower half of the rows. -/
def wgtH (z sp l : FVec F S256x256 .f32) (u : FVec F S256x1 .f32) : FVec F S256x256 .bf16 :=
  exp2 (truncf .bf16 (addf (subf z sp) (subf l (broadcastTo S256x256 u broadcasts_S256x1_S256x256))) bitsLt_bf16_f32)

/-- The mass used up after a block. -/
def grow (u : FVec F S512x1 .f32) (sp l : FVec F S512x256 .f32) : FVec F S512x1 .f32 :=
  addf u (subf (extractStridedSlice S512x1 ![0, 0] sp slices_S512x256_o0_0_S512x1) (extractStridedSlice S512x1 ![0, 0] l slices_S512x256_o0_0_S512x1))

/-- The lower half of a column. -/
def lowH (u : FVec F S512x1 .f32) : FVec F S256x1 .f32 := extractStridedSlice S256x1 ![256, 0] u slices_S512x1_o256_0_S256x1

/-- The mass used up after a block that only the lower half of the rows sees. -/
def growH (u : FVec F S512x1 .f32) (sp l : FVec F S256x256 .f32) : FVec F S512x1 .f32 :=
  concatenate S512x1 0 [⟨S256x1, extractStridedSlice S256x1 ![0, 0] u slices_S512x1_o0_0_S256x1⟩, ⟨S256x1,
    addf (lowH u) (subf (extractStridedSlice S256x1 ![0, 0] sp slices_S256x256_o0_0_S256x1) (extractStridedSlice S256x1 ![0, 0] l slices_S256x256_o0_0_S256x1))⟩] concatenates_S256x1_S256x1_S512x1_d0

/-- The weighted values of a block. -/
def pv (w : FVec F S512x256 .bf16) (V : Vec F S1x256x128 .bf16) : FVec F S512x128 .f32 :=
  matmul dot_S512x256_S256x128_S512x128_1_0_0_1_n_n none w (shapeCast S256x128 V shapeCasts_S1x256x128_S256x128) (constant S512x128 .f32 0x00000000#32)

/-- The same of the lower half of the rows. -/
def pvH (w : FVec F S256x256 .bf16) (V : Vec F S1x256x128 .bf16) : FVec F S256x128 .f32 :=
  matmul dot_S256x256_S256x128_S256x128_1_0_0_1_n_n none w (shapeCast S256x128 V shapeCasts_S1x256x128_S256x128) (constant S256x128 .f32 0x00000000#32)

/-- Both heads' weighted values added to what is carried. -/
def addv (v2 : IVec S1x128 1) (a p0 p1 : FVec F S512x128 .f32) : FVec F S512x128 .f32 :=
  addf a (select (broadcastTo S512x128 (shapeCast S1x128 v2 shapeCasts_S1x128_S1x128) broadcasts_S1x128_S512x128) p0 p1)

/-- The same where only the lower half of the rows has any. -/
def addvH (v2 : IVec S1x128 1) (a : FVec F S512x128 .f32) (p0 p1 : FVec F S256x128 .f32) : FVec F S512x128 .f32 :=
  concatenate S512x128 0 [⟨S256x128, extractStridedSlice S256x128 ![0, 0] a slices_S512x128_o0_0_S256x128⟩, ⟨S256x128,
    addf (extractStridedSlice S256x128 ![256, 0] a slices_S512x128_o256_0_S256x128)
      (select (broadcastTo S256x128 (shapeCast S1x128 v2 shapeCasts_S1x128_S1x128) broadcasts_S1x128_S256x128) p0 p1)⟩] concatenates_S256x128_S256x128_S512x128_d0

/-- A masked block of softplus. -/
def mz (m : IVec S512x256 1) (s : FVec F S512x256 .f32) : FVec F S512x256 .f32 := select m s (broadcast S512x256 (Scalar.ofBits .f32 0x00000000#32))

/-- A masked block of weights. -/
def mw (m : IVec S512x256 1) (w : FVec F S512x256 .bf16) : FVec F S512x256 .bf16 := select m w (broadcast S512x256 (Scalar.ofBits .bf16 0x0000#16))

/-- The same of the lower half of the rows. -/
def mzH (m : IVec S512x256 1) (s : FVec F S256x256 .f32) : FVec F S256x256 .f32 :=
  select (extractStridedSlice S256x256 ![0, 0] m slices_S512x256_o0_0_S256x256) s (broadcast S256x256 (Scalar.ofBits .f32 0x00000000#32))

/-- The same of the lower half of the rows. -/
def mwH (m : IVec S512x256 1) (w : FVec F S256x256 .bf16) : FVec F S256x256 .bf16 :=
  select (extractStridedSlice S256x256 ![0, 0] m slices_S512x256_o0_0_S256x256) w (broadcast S256x256 (Scalar.ofBits .bf16 0x0000#16))

/-- A key block that lies wholly in the past. -/
def blk (v2 : IVec S1x128 1) (N : FVec F S256x256 .bf16) (q0 q1 : FVec F S512x128 .bf16) (K V : Vec F S1x256x128 .bf16) (c : Carry F) : Carry F :=
  (grow c.1 (spf _ (sc q0 K)) (lat N (spf _ (sc q0 K))),
   grow c.2.1 (spf _ (sc q1 K)) (lat N (spf _ (sc q1 K))),
   addv v2 c.2.2 (pv (wgt (sc q0 K) (spf _ (sc q0 K)) (lat N (spf _ (sc q0 K))) c.1) V)
     (pv (wgt (sc q1 K) (spf _ (sc q1 K)) (lat N (spf _ (sc q1 K))) c.2.1) V))

/-- The key block whose first key is the block of rows' first. -/
def dgA (m : IVec S512x256 1) (v2 : IVec S1x128 1) (N : FVec F S256x256 .bf16) (q0 q1 : FVec F S512x128 .bf16) (K V : Vec F S1x256x128 .bf16) (c : Carry F) : Carry F :=
  (grow c.1 (mz m (spf _ (sc q0 K))) (lat N (mz m (spf _ (sc q0 K)))),
   grow c.2.1 (mz m (spf _ (sc q1 K))) (lat N (mz m (spf _ (sc q1 K)))),
   addv v2 c.2.2 (pv (mw m (wgt (sc q0 K) (mz m (spf _ (sc q0 K))) (lat N (mz m (spf _ (sc q0 K)))) c.1)) V)
     (pv (mw m (wgt (sc q1 K) (mz m (spf _ (sc q1 K))) (lat N (mz m (spf _ (sc q1 K)))) c.2.1)) V))

/-- The key block after it, which only the lower half of the rows sees. -/
def dgB (m : IVec S512x256 1) (v2 : IVec S1x128 1) (N : FVec F S256x256 .bf16) (q0 q1 : FVec F S512x128 .bf16) (K V : Vec F S1x256x128 .bf16) (c : Carry F) : Carry F :=
  (growH c.1 (mzH m (spf _ (scH q0 K))) (latH N (mzH m (spf _ (scH q0 K)))),
   growH c.2.1 (mzH m (spf _ (scH q1 K))) (latH N (mzH m (spf _ (scH q1 K)))),
   addvH v2 c.2.2 (pvH (mwH m (wgtH (scH q0 K) (mzH m (spf _ (scH q0 K))) (latH N (mzH m (spf _ (scH q0 K)))) (lowH c.1))) V)
     (pvH (mwH m (wgtH (scH q1 K) (mzH m (spf _ (scH q1 K))) (latH N (mzH m (spf _ (scH q1 K)))) (lowH c.2.1))) V))

/-- Which keys of such a block lie before the row. -/
def msk : IVec S512x256 1 := cmpi .slt (iota .tc S512x256 32 [1] iota_S512x256_d1_w32) (iota .tc S512x256 32 [0] iota_S512x256_d0_w32)

/-- One trip of the loop: four key blocks, one after another. -/
theorem trip1_eq (𝒱 : Variants) (c : Dev nD) (bd : Option 𝒱.V) (i : grid0.Coords) (arg3 : Memref sig .tc .vmem S1x512x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x512x128 .bf16) (harg6 : arg6.IsWhole) (arg2 : BitVec 32) (v2 : IVec S1x128 1) (v8 : FVec F S512x128 .bf16) (v12 : FVec F S512x128 .bf16) (v13 : IVec S512x256 32) (v14 : IVec S512x256 32) (v21 : FVec F S256x256 .bf16) (v22 : BitVec 32) (v32 : BitVec 32) (v33 : FVec F S512x1 .f32) (v34 : FVec F S512x128 .f32) (c2_i32_10 : BitVec 32) (v35 : BitVec 32) (v37 : BitVec 32) (v56 : BitVec 32) (X_arg4 : BufTy.Contents (Elt F) arg4.view.ty) (X_arg5 : BufTy.Contents (Elt F) arg5.view.ty) (k : Fin (k0_t1_loop i).trips) (acc : Carry F) :
    tripR_k0_t1 (F := F) 𝒱 c bd i arg3 harg3 arg4 harg4 arg5 harg5 arg6 harg6 arg2 v2 v8 v12 v13 v14 v21 v22 v32 v33 v34 c2_i32_10 v35 v37 v56 X_arg4 X_arg5 k acc
      = (let K (d : Fin 4) : Vec F S1x256x128 .bf16 := View.readAt (Elt F) arg4.view (Rect.unit (s := S1x4096x128) (k0_off4 i k (BitVec.ofNat 32 d.val)) S1x256x128.size (k0_off4_inb i k d)).toLoadRect X_arg4
         let V (d : Fin 4) : Vec F S1x256x128 .bf16 := View.readAt (Elt F) arg5.view (Rect.unit (s := S1x4096x128) (k0_off4 i k (BitVec.ofNat 32 d.val)) S1x256x128.size (k0_off4_inb i k d)).toLoadRect X_arg5
         let b (d : Fin 4) := blk v2 v21 v8 v12 (K d) (V d)
         b 3 (b 2 (b 1 (b 0 acc)))) := by
  unfold tripR_k0_t1 trip_k0_t1
  rfl

end Cert.StickIdeal.Sb
end
-- ==== Proof.StickRun.lean ====
module

public import proofs.«01_k».proof.Proof.Gen.StickIdeal
public import proofs.«01_k».proof.Proof.Gen.StickIdeal.Skeleton
public import proofs.«01_k».proof.Proof.Gen.StickIdeal.Loops
public import proofs.«01_k».proof.Proof.Gen.StickIdeal.Launch
public import proofs.«01_k».proof.Proof.Gen.StickIdeal.Points
public import proofs.«01_k».proof.Proof.Gen.StickIdeal.Frame
public import proofs.«01_k».proof.Proof.StickDefs

@[expose] public section

set_option maxRecDepth 65536

noncomputable section

namespace Cert.StickIdeal.Sb

open Cert.StickIdeal Cert.StickIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- From its arguments' blocks the body runs, leaves them as they were, and leaves `L` written in the result's buffer. -/
def Runs (c : Dev nD) (i : grid0.Coords) (arg3 : Memref sig .tc .vmem S1x512x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x512x128 .bf16) (harg6 : arg6.IsWhole)
    (x0 : Vec F S1x512x128 .bf16) (x1 : Vec F S1x4096x128 .bf16) (x2 : Vec F S1x4096x128 .bf16) (L : List (View.Piece (Elt F) S1x512x128 .bf16)) : Prop :=
  ∀ (E : Set ℕ) (K : PUnit → sProp 𝕄),
    iprop(owns (c : Thread nD τ) arg3 fullShare x0 ∗ owns (c : Thread nD τ) arg4 fullShare x1 ∗ owns (c : Thread nD τ) arg5 fullShare x2 ∗ (∃ d, owns (c : Thread nD τ) arg6 fullShare d)
        ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L)) -∗ K ⟨⟩))
      ⊢ wp frame (wpE (defs₀ (F := F)) Variants.none c none) E (cc0_sb_attention i arg3 harg3 arg4 harg4 arg5 harg5 arg6 harg6) K

/-- The body where no whole block is left over: what it stores, found by running it. -/
def run0 (c : Dev nD) (i : grid0.Coords) (arg3 : Memref sig .tc .vmem S1x512x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x512x128 .bf16) (harg6 : arg6.IsWhole)
    (hc1 : ¬k0_cond1 i = 1#1)
    (x0 : Vec F S1x512x128 .bf16) (x1 : Vec F S1x4096x128 .bf16) (x2 : Vec F S1x4096x128 .bf16) :
    { L : List (View.Piece (Elt F) S1x512x128 .bf16) // Runs c i arg3 harg3 arg4 harg4 arg5 harg5 arg6 harg6 x0 x1 x2 L } := by
  refine ⟨?_, fun E K => ?run⟩
  case run =>
    simp only [cc0_sb_attention_eq_skeleton]; unfold cc0_sb_attention_skel
    unfold owns
    iintro ⟨⟨%f0, %hf0, H0⟩, ⟨%f1, %hf1, H1⟩, ⟨%f2, %hf2, H2⟩, ⟨%d3, %f3, -, H3⟩, Hk⟩
    obtain rfl := harg3.eq_unread hf0; obtain rfl := harg4.eq_unread hf1; obtain rfl := harg5.eq_unread hf2
    sl_exec (disch := first | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact H3

/-- The body where two whole blocks are left over: what it stores, found by running it. -/
def run1 (c : Dev nD) (i : grid0.Coords) (arg3 : Memref sig .tc .vmem S1x512x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x512x128 .bf16) (harg6 : arg6.IsWhole)
    (hc1 : k0_cond1 i = 1#1)
    (x0 : Vec F S1x512x128 .bf16) (x1 : Vec F S1x4096x128 .bf16) (x2 : Vec F S1x4096x128 .bf16) :
    { L : List (View.Piece (Elt F) S1x512x128 .bf16) // Runs c i arg3 harg3 arg4 harg4 arg5 harg5 arg6 harg6 x0 x1 x2 L } := by
  refine ⟨?_, fun E K => ?run⟩
  case run =>
    simp only [cc0_sb_attention_eq_skeleton]; unfold cc0_sb_attention_skel
    unfold owns
    iintro ⟨⟨%f0, %hf0, H0⟩, ⟨%f1, %hf1, H1⟩, ⟨%f2, %hf2, H2⟩, ⟨%d3, %f3, -, H3⟩, Hk⟩
    obtain rfl := harg3.eq_unread hf0; obtain rfl := harg4.eq_unread hf1; obtain rfl := harg5.eq_unread hf2
    sl_exec (disch := first | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact H3

end Cert.StickIdeal.Sb
end
-- ==== Proof.StickOut.lean ====
module

public import proofs.«01_k».proof.Proof.StickRun
public import Idealize.ShloMosaic.Lib.Pointwise.Index
public import Idealize.ShloMosaic.Lib.Tactic
public import Mathlib.Tactic.IntervalCases
public import Mathlib.Tactic.FinCases

@[expose] public section

set_option maxRecDepth 65536

noncomputable section

namespace Cert.StickIdeal.Sb

open Cert.StickIdeal Cert.StickIdeal.Gen
open Idealize.ShloMosaic Idealize.ShloMosaic.TcCoe Idealize.ShloMosaic.Tactic
open Idealize.SL Idealize.SL.Sem

variable {F : FTy → Type} [FloatOps F]

/-- Key or value block `j`. -/
def kb (x : Vec F S1x4096x128 .bf16) (j : ℕ) : Vec F S1x256x128 .bf16 := fun y =>
  x (ix3 0 ⟨(256 * j + (y 1).val) % 4096, Nat.mod_lt _ (by decide)⟩ (y 2))

theorem read_kb {m : Memref sig .tc .vmem S1x4096x128 .bf16} (h : m.IsWhole) (x : Vec F S1x4096x128 .bf16) (j : ℕ) (hj : j < 16)
    {off : Fin 3 → ℕ} (inb : ∀ a, off a + S1x256x128.size a ≤ S1x4096x128.size a) (ho : off = ![0, 256 * j, 0]) :
    View.readAt (Elt F) m.view (Rect.unit (s := S1x4096x128) off S1x256x128.size inb).toLoadRect (h.unread x) = kb x j := by
  subst ho
  funext y
  rw [h.readAt_unread]
  unfold kb
  congr 1
  funext a
  match a with
  | ⟨0, _⟩ => exact Subsingleton.elim (α := Fin 1) _ _
  | ⟨1, _⟩ =>
    apply Fin.ext
    have hy : (y 1).val < 256 := (y 1).isLt
    show 256 * j + 1 * (y 1).val = (256 * j + (y 1).val) % 4096
    omega
  | ⟨2, _⟩ =>
    apply Fin.ext
    show 0 + 1 * (y 2).val = (y 2).val
    omega

theorem read_q {m : Memref sig .tc .vmem S1x512x128 .bf16} (h : m.IsWhole) (x : Vec F S1x512x128 .bf16)
    (inb : ∀ a, (![0, 0, 0] : Fin 3 → ℕ) a + S1x512x128.size a ≤ S1x512x128.size a) :
    View.readAt (Elt F) m.view (Rect.unit (s := S1x512x128) ![0, 0, 0] S1x512x128.size inb).toLoadRect (h.unread x) = x := by
  funext y
  rw [h.readAt_unread]
  congr 1
  funext a
  apply Fin.ext
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- What is carried after the diagonal's two blocks and `n` more, for the block `i` of rows: backwards through the keys. -/
def bs (i : ℕ) (x0 : Vec F S1x512x128 .bf16) (x1 x2 : Vec F S1x4096x128 .bf16) : ℕ → Carry F
  | 0 => dgA msk k0_pay177 k0_pay181 (k0_pay179 x0) (k0_pay180 x0) (kb x1 (2 * i)) (kb x2 (2 * i))
      (dgB msk k0_pay177 k0_pay181 (k0_pay179 x0) (k0_pay180 x0) (kb x1 (2 * i + 1)) (kb x2 (2 * i + 1)) (k0_pay182, k0_pay182, k0_pay183))
  | n + 1 => blk k0_pay177 k0_pay181 (k0_pay179 x0) (k0_pay180 x0) (kb x1 (2 * i - 1 - n)) (kb x2 (2 * i - 1 - n)) (bs i x0 x1 x2 n)

/-- What the body leaves of block `i` of rows. -/
def outv (i : ℕ) (x0 : Vec F S1x512x128 .bf16) (x1 x2 : Vec F S1x4096x128 .bf16) : Vec F S1x512x128 .bf16 := k0_pay6 (bs i x0 x1 x2 (2 * i)).2.2

theorem lt8 (i : grid0.Coords) : (i 2).val < 8 := (i 2).isLt

theorem cond1_iff (i : grid0.Coords) : k0_cond1 i = 1#1 ↔ (i 2).val % 2 = 1 := by
  have h := lt8 i
  unfold k0_cond1
  generalize (i 2).val = n at *
  interval_cases n <;> decide

theorem trips1 (i : grid0.Coords) : (k0_t1_loop i).trips = (i 2).val / 2 := by
  have h := lt8 i
  unfold k0_t1_loop Scf.Loop.trips
  dsimp only
  generalize (i 2).val = n at *
  interval_cases n <;> decide

theorem trips2 (i : grid0.Coords) : (k0_t2_loop i).trips = 0 := by
  have h := lt8 i
  unfold k0_t2_loop Scf.Loop.trips
  dsimp only
  generalize (i 2).val = n at *
  interval_cases n <;> decide

theorem off1_eq (i : grid0.Coords) (d : Fin 2) : k0_off1 i (BitVec.ofNat 32 d.val) = ![0, 256 * (2 * (i 2).val + 1 - d.val), 0] := by
  have h := lt8 i
  unfold k0_off1
  generalize (i 2).val = n at *
  fin_cases d <;> interval_cases n <;> rfl

theorem off3_eq (i : grid0.Coords) (d : Fin 2) : k0_off3 i (BitVec.ofNat 32 d.val) = ![0, 256 * (2 * (i 2).val + 1 - d.val), 0] := by
  have h := lt8 i
  unfold k0_off3
  generalize (i 2).val = n at *
  fin_cases d <;> interval_cases n <;> rfl

theorem off2_eq (i : grid0.Coords) (d : Fin 2) (h1 : (i 2).val % 2 = 1) : k0_off2 i (BitVec.ofNat 32 d.val) = ![0, 256 * (2 * (i 2).val - 1 - d.val), 0] := by
  have h := lt8 i
  unfold k0_off2
  generalize (i 2).val = n at *
  fin_cases d <;> interval_cases n <;> first | rfl | omega

theorem off4_eq (i : grid0.Coords) (k : Fin (k0_t1_loop i).trips) (d : Fin 4) :
    k0_off4 i k (BitVec.ofNat 32 d.val) = ![0, 256 * (2 * (i 2).val - 1 - (2 * ((i 2).val % 2) + 4 * k.val + d.val)), 0] := by
  have h := lt8 i
  have hk : k.val < (i 2).val / 2 := (trips1 i) ▸ k.isLt
  unfold k0_off4
  generalize k.val = κ at *
  generalize (i 2).val = n at *
  have hκ : κ < 3 := by omega
  interval_cases κ <;> interval_cases n <;> first | omega | (fin_cases d <;> rfl)

end Cert.StickIdeal.Sb
end
-- ==== Proof.StickMath.lean ====
module

public import proofs.«01_k».proof.Proof.FoxSoft

@[expose] public section

noncomputable section

/-! Stick-breaking attention over the reals: the weight of a key is its sigmoid times what the later keys have left over, and the
    sums can be built backwards, a block of keys at a time, in base two. -/

namespace Cert.StickIdeal.Sb

open Idealize.ShloMosaic
open Cert.KernelIdeal.Fox (coe_sum)

/-- One over the natural logarithm of two. -/
def cc : ℝ := (Real.log 2)⁻¹

theorem log2_pos : 0 < Real.log 2 := Real.log_pos (by norm_num)

theorem cc_mul (x : ℝ) : Real.log 2 * (x * cc) = x := by
  have := log2_pos.ne'
  unfold cc
  field_simp

/-- The softplus. -/
def P (s : ℝ) : ℝ := Real.log (1 + Real.exp s)

section
variable (s : ℕ → ℝ) (t : ℕ)

/-- A key's softplus; keys from `t` on have none. -/
def S (k : ℕ) : ℝ := if k < t then P (s k) else 0

/-- The softplus summed over the keys from `n` on. -/
def T (n : ℕ) : ℝ := ∑ k ∈ Finset.Ico n 4096, S s t k

/-- A key's weight. -/
def W (k : ℕ) : ℝ := if k < t then Real.exp (s k - T s t k) else 0

/-- The weighted values summed over the keys from `n` on. -/
def A (v : ℕ → EReal) (n : ℕ) : EReal := ∑ k ∈ Finset.Ico n 4096, (W s t k : EReal) * v k

theorem T_ge {n : ℕ} (h : t ≤ n) : T s t n = 0 :=
  Finset.sum_eq_zero fun k hk => by
    have := (Finset.mem_Ico.1 hk).1
    unfold S
    rw [if_neg (by omega)]

theorem A_ge (v : ℕ → EReal) {n : ℕ} (h : t ≤ n) : A s t v n = 0 :=
  Finset.sum_eq_zero fun k hk => by
    have := (Finset.mem_Ico.1 hk).1
    unfold W
    rw [if_neg (by omega), EReal.coe_zero, zero_mul]

theorem T_add (n b : ℕ) (hb : b ≤ 256) (hn : n + 256 ≤ 4096) :
    T s t (n + b) = ∑ a ∈ Finset.Ico b 256, S s t (n + a) + T s t (n + 256) := by
  unfold T
  rw [← Finset.sum_Ico_consecutive (S s t) (show n + b ≤ n + 256 by omega) hn, Finset.sum_Ico_add, Nat.add_comm b n, Nat.add_comm 256 n]

theorem S_add (n b : ℕ) (hb : b < 256) : ∑ a ∈ Finset.Ico b 256, S s t (n + a) = S s t (n + b) + ∑ a ∈ Finset.Ico (b + 1) 256, S s t (n + a) :=
  Finset.sum_eq_sum_Ico_succ_bot hb _

theorem sum_later (f : ℕ → ℝ) (b : ℕ) : ∑ a : Fin 256, (if b < a.val then f a.val else 0) = ∑ a ∈ Finset.Ico (b + 1) 256, f a := by
  rw [Fin.sum_univ_eq_sum_range (fun a => if b < a then f a else 0) 256, ← Finset.sum_filter]
  refine Finset.sum_congr (Finset.ext fun a => ?_) fun _ _ => rfl
  rw [Finset.mem_filter, Finset.mem_range, Finset.mem_Ico]
  omega

/-- What the later keys of a block sum to, as a product with a triangular block of ones, negated. -/
theorem row_later (n b : ℕ) :
    ∑ a : Fin 256, ((S s t (n + a.val) * cc : ℝ) : EReal) * (if b < a.val then ((-1 : ℝ) : EReal) else 0)
      = ((-(∑ a ∈ Finset.Ico (b + 1) 256, S s t (n + a)) * cc : ℝ) : EReal) := by
  have e : ∀ a : Fin 256, ((S s t (n + a.val) * cc : ℝ) : EReal) * (if b < a.val then ((-1 : ℝ) : EReal) else 0)
      = (((if b < a.val then -(S s t (n + a.val) * cc) else 0) : ℝ) : EReal) := fun a => by
    split
    · rw [← EReal.coe_mul]; congr 1; ring
    · rw [mul_zero, EReal.coe_zero]
  rw [Finset.sum_congr rfl fun a _ => e a, coe_sum, sum_later (fun a => -(S s t (n + a) * cc)) b, Finset.sum_neg_distrib, ← Finset.sum_mul, neg_mul]

/-- The mass used up after a block. -/
theorem row_used (n : ℕ) (hn : n + 256 ≤ 4096) :
    ((T s t (n + 256) * cc : ℝ) : EReal) + (((S s t (n + 0) * cc : ℝ) : EReal) - ((-(∑ a ∈ Finset.Ico (0 + 1) 256, S s t (n + a)) * cc : ℝ) : EReal))
      = ((T s t n * cc : ℝ) : EReal) := by
  rw [← EReal.coe_sub, ← EReal.coe_add]
  congr 1
  have h := T_add s t n 0 (by omega) hn
  rw [S_add s t n 0 (by omega)] at h
  rw [Nat.add_zero] at h ⊢
  rw [h]
  ring_nf

/-- The weight of a key of a block. -/
theorem row_wgt (n k : ℕ) (hk : k < 256) (hn : n + 256 ≤ 4096) (h : n + k < t) :
    Ideal.exp2 ((((s (n + k) * cc : ℝ) : EReal) - ((S s t (n + k) * cc : ℝ) : EReal))
        + (((-(∑ a ∈ Finset.Ico (k + 1) 256, S s t (n + a)) * cc : ℝ) : EReal) - ((T s t (n + 256) * cc : ℝ) : EReal)))
      = ((W s t (n + k) : ℝ) : EReal) := by
  rw [← EReal.coe_sub, ← EReal.coe_sub, ← EReal.coe_add, Ideal.exp2_coe]
  congr 1
  show (2 : ℝ) ^ (_ : ℝ) = _
  rw [Real.rpow_def_of_pos (by norm_num)]
  unfold W
  rw [if_pos h]
  congr 1
  rw [T_add s t n k (by omega) hn, S_add s t n k hk]
  rw [show s (n + k) * cc - S s t (n + k) * cc + (-(∑ a ∈ Finset.Ico (k + 1) 256, S s t (n + a)) * cc - T s t (n + 256) * cc)
    = (s (n + k) - (S s t (n + k) + ∑ a ∈ Finset.Ico (k + 1) 256, S s t (n + a) + T s t (n + 256))) * cc by ring]
  exact cc_mul _

/-- The weighted values after a block. -/
theorem row_acc (v : ℕ → EReal) (n : ℕ) (hn : n + 256 ≤ 4096) :
    A s t v (n + 256) + ∑ k : Fin 256, ((W s t (n + k.val) : ℝ) : EReal) * v (n + k.val) = A s t v n := by
  unfold A
  rw [← Finset.sum_Ico_consecutive (fun k => (W s t k : EReal) * v k) (show n ≤ n + 256 by omega) hn,
    Finset.sum_Ico_eq_sum_range _ n, Nat.add_sub_cancel_left, Finset.sum_range, add_comm]
end

/-- The softplus in base two, as the kernel computes it, of a score its cap does not touch. -/
theorem sp_real (s : ℝ) (h : s * cc ≤ 64) :
    max ((s * cc : ℝ) : EReal) (Ideal.div (Ideal.log (((1 : ℝ) : EReal) + Ideal.exp2 (min ((s * cc : ℝ) : EReal) ((64 : ℝ) : EReal)))) (Ideal.log ((2 : ℝ) : EReal)))
      = ((P s * cc : ℝ) : EReal) := by
  have hl := log2_pos
  have e : Real.rpow 2 (s * cc) = Real.exp s := by
    show (2 : ℝ) ^ (s * cc) = _
    rw [Real.rpow_def_of_pos (by norm_num), cc_mul]
  have hp : 0 < 1 + Real.exp s := by positivity
  rw [min_eq_left (by exact_mod_cast h), Ideal.exp2_coe, e, ← EReal.coe_add, Ideal.log_coe, if_neg (by linarith), Ideal.log_coe, if_neg (by norm_num),
    Ideal.div_coe hl.ne', ← EReal.coe_mul]
  have hP : Real.log (1 + Real.exp s) * (1 / Real.log 2) = P s * cc := by unfold P cc; rw [one_div]
  rw [hP]
  refine max_eq_right ?_
  have hle : s ≤ P s := by
    unfold P
    conv_lhs => rw [← Real.log_exp s]
    exact Real.log_le_log (Real.exp_pos s) (by linarith)
  have hc : 0 ≤ cc := by unfold cc; positivity
  exact_mod_cast mul_le_mul_of_nonneg_right hle hc

/-- The softplus of the reference, of a number. -/
theorem softplus_real (y : ℝ) :
    max (y : EReal) 0 + Ideal.log1p (Ideal.exp (-(max (y : EReal) (-(y : EReal))))) = ((P y : ℝ) : EReal) := by
  have hp : 0 < 1 + Real.exp (-max y (-y)) := by positivity
  have e1 : max (y : EReal) 0 = ((max y 0 : ℝ) : EReal) := (EReal.coe_strictMono.monotone.map_max (a := y) (b := 0)).symm
  have e2 : max (y : EReal) (-(y : EReal)) = ((max y (-y) : ℝ) : EReal) := by rw [← EReal.coe_neg]; exact (EReal.coe_strictMono.monotone.map_max (a := y) (b := -y)).symm
  unfold Ideal.log1p
  rw [e1, e2, ← EReal.coe_neg, Ideal.exp_coe, show (1 : EReal) = ((1 : ℝ) : EReal) from rfl, ← EReal.coe_add, Ideal.log_coe, if_neg (by linarith), ← EReal.coe_add]
  congr 1
  unfold P
  rcases le_total 0 y with h | h
  · rw [max_eq_left h, max_eq_left (by linarith)]
    conv_lhs => rw [← Real.log_exp y]
    rw [Real.log_exp, ← Real.log_exp y, ← Real.log_mul (Real.exp_pos _).ne' (by positivity), Real.log_exp, mul_add, mul_one, ← Real.exp_add, add_neg_cancel, Real.exp_zero, add_comm]
  · rw [max_eq_right h, max_eq_right (by linarith), zero_add, neg_neg]

/-- The logarithm of one less a sigmoid. -/
theorem P_neg (s : ℝ) : -P (-s) = s - P s := by
  unfold P
  have h : 1 + Real.exp s = Real.exp s * (1 + Real.exp (-s)) := by
    rw [mul_add, mul_one, ← Real.exp_add, add_neg_cancel, Real.exp_zero, add_comm]
  rw [h, Real.log_mul (Real.exp_pos _).ne' (by positivity), Real.log_exp]
  ring

/-- The reference's weight of a key before `t`. -/
theorem ref_wgt (s : ℕ → ℝ) (t j : ℕ) (h : j < t) (hj : j < 4096) :
    Ideal.exp (((-P (-s j) : ℝ) : EReal) + (((-T s t j : ℝ) : EReal) - ((-P (s j) : ℝ) : EReal))) = ((W s t j : ℝ) : EReal) := by
  rw [← EReal.coe_sub, ← EReal.coe_add, Ideal.exp_coe]
  unfold W
  rw [if_pos h, P_neg]
  congr 2
  ring

section
variable (q k v : Fin 4 → Fin 4096 → Fin 512 → EReal)

/-- A query's score against key `j` in head `h`. -/
def rs (b : Fin 4) (Q : Fin 4096) (h : Fin 8) (j : ℕ) : ℝ :=
  (∑ d : Fin 64, (q b Q ⟨h.val * 64 + d.val, by omega⟩).toReal * (k b ⟨j % 4096, Nat.mod_lt _ (by decide)⟩ ⟨h.val * 64 + d.val, by omega⟩).toReal) * (1 / 8)

/-- The result's entry. -/
def sb (b : Fin 4) (Q : Fin 4096) (l : Fin 512) : EReal :=
  ∑ j ∈ Finset.range 4096, ((W (rs q k b Q ⟨l.val / 64, by omega⟩) Q.val j : ℝ) : EReal) * v b ⟨j % 4096, Nat.mod_lt _ (by decide)⟩ l
end

/-- A number that is real is its own real part. -/
theorem toReal_of {x : EReal} (h : ∃ y : ℝ, x = y) : x = ((x.toReal : ℝ) : EReal) := by
  obtain ⟨y, rfl⟩ := h
  rfl

theorem log2_ge : 11 / 16 ≤ Real.log 2 := by
  rw [Real.le_log_iff_exp_le (by norm_num)]
  have h1 : (1013 / 1024 : ℝ) ≤ Real.exp (-(11 / 1024)) := by
    have := Real.add_one_le_exp (-(11 / 1024 : ℝ))
    linarith
  have h2 : Real.exp (11 / 16) * Real.exp (-(11 / 1024)) ^ 64 = 1 := by
    rw [← Real.exp_nat_mul, ← Real.exp_add]
    norm_num
  have h3 : (1 / 2 : ℝ) ≤ Real.exp (-(11 / 1024)) ^ 64 := le_trans (by norm_num) (pow_le_pow_left₀ (by norm_num) h1 64)
  nlinarith [Real.exp_pos (11 / 16)]

/-- A score below the precondition's bound is one the kernel's cap does not touch. -/
theorem cap {s : ℝ} (h : s < 44) : s * cc ≤ 64 := by
  have hl := log2_pos
  have h2 := log2_ge
  unfold cc
  rw [← div_eq_mul_inv, div_le_iff₀ hl]
  linarith

end Cert.StickIdeal.Sb

end
-- ==== Proof.StickRead.lean ====
module

public import proofs.«01_k».proof.Proof.StickOut
public import proofs.«01_k».proof.Proof.StickMath
public import Idealize.ShloMosaic.Lib.Pointwise
public import Idealize.ShloMosaic.Lib.WordCmp

@[expose] public section

set_option maxRecDepth 65536

noncomputable section

/-! What each step of the body leaves, read at an index. -/

namespace Cert.StickIdeal.Sb

open Cert.StickIdeal Cert.StickIdeal.Gen
open Idealize.ShloMosaic

/-- The lane mask, evaluated. -/
theorem lane_select {α : Type} (l : Fin 128) (x y : α) :
    Scalar.select (IntOp.cmpi CmpIPredicate.slt (BitVec.ofNat 32 l.val) 64#32) x y = if l.val < 64 then x else y := by
  have h : ∀ l : Fin 128, IntOp.cmpi CmpIPredicate.slt (BitVec.ofNat 32 l.val) 64#32 = if l.val < 64 then 1#1 else 0#1 := by decide +kernel
  rw [h l]
  split <;> rfl

theorem lt_select {α : Type} {a b : ℕ} (ha : a < 2 ^ 31) (hb : b < 2 ^ 31) (x y : α) :
    Scalar.select (IntOp.cmpi CmpIPredicate.slt (BitVec.ofNat 32 a) (BitVec.ofNat 32 b)) x y = if a < b then x else y := by
  rw [WordCmp.cmpi_slt_ofNat ha hb]
  by_cases h : a < b <;> simp [h, Scalar.select]

theorem gt_select {α : Type} {a b : ℕ} (ha : a < 2 ^ 31) (hb : b < 2 ^ 31) (x y : α) :
    Scalar.select (IntOp.cmpi CmpIPredicate.sgt (BitVec.ofNat 32 a) (BitVec.ofNat 32 b)) x y = if b < a then x else y := by
  rw [WordCmp.cmpi_sgt_ofNat ha hb]
  by_cases h : b < a <;> simp [h, Scalar.select]

theorem ofBits_one : Ideal.ofBits .f32 0x3F800000#32 = ((1 : ℝ) : EReal) := by
  simp [Ideal.ofBits, Ideal.ieee, -EReal.coe_mul]
  norm_num

theorem ofBits_minus : Ideal.ofBits .f32 0xBF800000#32 = ((-1 : ℝ) : EReal) := by
  simp [Ideal.ofBits, Ideal.ieee, -EReal.coe_mul, -EReal.coe_neg]
  norm_num

theorem ofBits_two : Ideal.ofBits .f32 0x40000000#32 = ((2 : ℝ) : EReal) := by
  simp [Ideal.ofBits, Ideal.ieee, -EReal.coe_mul]
  norm_num

theorem ofBits_cap : Ideal.ofBits .f32 0x42800000#32 = ((64 : ℝ) : EReal) := by
  simp [Ideal.ofBits, Ideal.ieee, -EReal.coe_mul]
  norm_num

theorem spf_apply (σ : Shape) (z : FVec Ideal σ .f32) (j : σ.Idx) :
    spf σ z j = max (z j) (Ideal.div (Ideal.log (((1 : ℝ) : EReal) + Ideal.exp2 (min (z j) ((64 : ℝ) : EReal)))) (Ideal.log ((2 : ℝ) : EReal))) := by
  rw [← ofBits_one, ← ofBits_two, ← ofBits_cap]
  rfl

/-- Key row `k` of the key or value block. -/
def key (x1 : Vec Ideal S1x4096x128 .bf16) (k : ℕ) (l : Fin 128) : EReal := x1 (ix3 0 ⟨k % 4096, Nat.mod_lt _ (by decide)⟩ l)

/-- Query row `r`'s score against key `k` in head `h` of the pair. -/
def sg (h : Fin 2) (x0 : Vec Ideal S1x512x128 .bf16) (x1 : Vec Ideal S1x4096x128 .bf16) (r : Fin 512) (k : ℕ) : EReal :=
  ∑ d : Fin 64, x0 (ix3 0 r ⟨64 * h.val + d.val, by omega⟩) * key x1 k ⟨64 * h.val + d.val, by omega⟩

theorem sum_low (f : Fin 128 → EReal) : ∑ x : Fin 128, (if x.val < 64 then f x else 0) = ∑ d : Fin 64, f ⟨64 * (0 : Fin 2).val + d.val, by simp; omega⟩ := by
  rw [Fin.sum_univ_two_halves 64 64 rfl]
  have h1 : ∀ d : Fin 64, d.val < 64 := fun d => d.isLt
  simp [h1]

theorem sum_high (f : Fin 128 → EReal) : ∑ x : Fin 128, (if x.val < 64 then 0 else f x) = ∑ d : Fin 64, f ⟨64 * (1 : Fin 2).val + d.val, by simp; omega⟩ := by
  rw [Fin.sum_univ_two_halves 64 64 rfl]
  have h1 : ∀ d : Fin 64, d.val < 64 := fun d => d.isLt
  simp [h1]

theorem kb_apply (x : Vec Ideal S1x4096x128 .bf16) (j : ℕ) (k : Fin 256) (l : Fin 128) : kb x j (ix3 0 k l) = key x (256 * j + k.val) l := rfl

theorem sc0_apply (x0 : Vec Ideal S1x512x128 .bf16) (x1 : Vec Ideal S1x4096x128 .bf16) (j : ℕ) (r : Fin 512) (k : Fin 256) :
    sc (k0_pay179 x0) (kb x1 j) (ix2 r k) = sg 0 x0 x1 r (256 * j + k.val) := by
  pointwise [sc, k0_pay179, k0_pay178, k0_pay177]
  simp only [lane_select, kb_apply]
  rw [sum_low]
  rfl

theorem sc1_apply (x0 : Vec Ideal S1x512x128 .bf16) (x1 : Vec Ideal S1x4096x128 .bf16) (j : ℕ) (r : Fin 512) (k : Fin 256) :
    sc (k0_pay180 x0) (kb x1 j) (ix2 r k) = sg 1 x0 x1 r (256 * j + k.val) := by
  pointwise [sc, k0_pay180, k0_pay178, k0_pay177]
  simp only [lane_select, kb_apply]
  rw [sum_high]
  rfl

/-- Row `256 + r`. -/
def up (r : Fin 256) : Fin 512 := ⟨256 + r.val, by omega⟩

theorem scH0_apply (x0 : Vec Ideal S1x512x128 .bf16) (x1 : Vec Ideal S1x4096x128 .bf16) (j : ℕ) (r k : Fin 256) :
    scH (k0_pay179 x0) (kb x1 j) (ix2 r k) = sg 0 x0 x1 (up r) (256 * j + k.val) := by
  pointwise [scH, k0_pay179, k0_pay178, k0_pay177]
  simp only [lane_select, kb_apply]
  rw [sum_low]
  rfl

theorem scH1_apply (x0 : Vec Ideal S1x512x128 .bf16) (x1 : Vec Ideal S1x4096x128 .bf16) (j : ℕ) (r k : Fin 256) :
    scH (k0_pay180 x0) (kb x1 j) (ix2 r k) = sg 1 x0 x1 (up r) (256 * j + k.val) := by
  pointwise [scH, k0_pay180, k0_pay178, k0_pay177]
  simp only [lane_select, kb_apply]
  rw [sum_high]
  rfl

theorem lat_apply (sp : FVec Ideal S512x256 .f32) (r : Fin 512) (b : Fin 256) :
    lat k0_pay181 sp (ix2 r b) = ∑ a : Fin 256, sp (ix2 r a) * (if b.val < a.val then ((-1 : ℝ) : EReal) else 0) := by
  pointwise [lat, k0_pay181]
  refine Finset.sum_congr rfl fun a _ => ?_
  rw [gt_select (by omega) (by omega), ofBits_minus, mul_ite, mul_zero]

theorem latH_apply (sp : FVec Ideal S256x256 .f32) (r : Fin 256) (b : Fin 256) :
    latH k0_pay181 sp (ix2 r b) = ∑ a : Fin 256, sp (ix2 r a) * (if b.val < a.val then ((-1 : ℝ) : EReal) else 0) := by
  pointwise [latH, k0_pay181]
  refine Finset.sum_congr rfl fun a _ => ?_
  rw [gt_select (by omega) (by omega), ofBits_minus, mul_ite, mul_zero]

theorem grow_apply (u : FVec Ideal S512x1 .f32) (sp l : FVec Ideal S512x256 .f32) (r : Fin 512) :
    grow u sp l (ix2 r 0) = u (ix2 r 0) + (sp (ix2 r 0) - l (ix2 r 0)) := by
  pointwise [grow]

theorem wgt_apply (z sp l : FVec Ideal S512x256 .f32) (u : FVec Ideal S512x1 .f32) (r : Fin 512) (k : Fin 256) :
    wgt z sp l u (ix2 r k) = Ideal.exp2 ((z (ix2 r k) - sp (ix2 r k)) + (l (ix2 r k) - u (ix2 r 0))) := by
  pointwise [wgt]
  rfl

theorem wgtH_apply (z sp l : FVec Ideal S256x256 .f32) (u : FVec Ideal S512x1 .f32) (r : Fin 256) (k : Fin 256) :
    wgtH z sp l (lowH u) (ix2 r k) = Ideal.exp2 ((z (ix2 r k) - sp (ix2 r k)) + (l (ix2 r k) - u (ix2 (up r) 0))) := by
  pointwise [wgtH, lowH]
  rfl

theorem pv_apply (w : FVec Ideal S512x256 .bf16) (V : Vec Ideal S1x256x128 .bf16) (r : Fin 512) (l : Fin 128) :
    pv w V (ix2 r l) = ∑ k : Fin 256, w (ix2 r k) * V (ix3 0 k l) := by
  pointwise [pv]

theorem pvH_apply (w : FVec Ideal S256x256 .bf16) (V : Vec Ideal S1x256x128 .bf16) (r : Fin 256) (l : Fin 128) :
    pvH w V (ix2 r l) = ∑ k : Fin 256, w (ix2 r k) * V (ix3 0 k l) := by
  pointwise [pvH]

theorem addv_apply (a p0 p1 : FVec Ideal S512x128 .f32) (r : Fin 512) (l : Fin 128) :
    addv k0_pay177 a p0 p1 (ix2 r l) = a (ix2 r l) + (if l.val < 64 then p0 (ix2 r l) else p1 (ix2 r l)) := by
  pointwise [addv, k0_pay177]
  rw [lane_select]

theorem mz_apply (s : FVec Ideal S512x256 .f32) (r : Fin 512) (k : Fin 256) : mz msk s (ix2 r k) = if k.val < r.val then s (ix2 r k) else 0 := by
  pointwise [mz, msk]
  rw [lt_select (by omega) (by omega)]

theorem mw_apply (s : FVec Ideal S512x256 .bf16) (r : Fin 512) (k : Fin 256) : mw msk s (ix2 r k) = if k.val < r.val then s (ix2 r k) else 0 := by
  pointwise [mw, msk]
  rw [lt_select (by omega) (by omega)]

theorem mzH_apply (s : FVec Ideal S256x256 .f32) (r k : Fin 256) : mzH msk s (ix2 r k) = if k.val < r.val then s (ix2 r k) else 0 := by
  pointwise [mzH, msk]
  rw [lt_select (by omega) (by omega)]

theorem mwH_apply (s : FVec Ideal S256x256 .bf16) (r k : Fin 256) : mwH msk s (ix2 r k) = if k.val < r.val then s (ix2 r k) else 0 := by
  pointwise [mwH, msk]
  rw [lt_select (by omega) (by omega)]

theorem growH_up (u : FVec Ideal S512x1 .f32) (sp l : FVec Ideal S256x256 .f32) (r : Fin 256) :
    growH u sp l (ix2 (up r) 0) = u (ix2 (up r) 0) + (sp (ix2 r 0) - l (ix2 r 0)) := by
  pointwise [growH, lowH, up]

theorem growH_low (u : FVec Ideal S512x1 .f32) (sp l : FVec Ideal S256x256 .f32) (r : Fin 512) (h : r.val < 256) :
    growH u sp l (ix2 r 0) = u (ix2 r 0) := by
  pointwise [growH, lowH]
  rw [dif_pos h]

theorem addvH_up (a : FVec Ideal S512x128 .f32) (p0 p1 : FVec Ideal S256x128 .f32) (r : Fin 256) (l : Fin 128) :
    addvH k0_pay177 a p0 p1 (ix2 (up r) l) = a (ix2 (up r) l) + (if l.val < 64 then p0 (ix2 r l) else p1 (ix2 r l)) := by
  pointwise [addvH, k0_pay177, up]
  rw [lane_select]

theorem addvH_low (a : FVec Ideal S512x128 .f32) (p0 p1 : FVec Ideal S256x128 .f32) (r : Fin 512) (h : r.val < 256) (l : Fin 128) :
    addvH k0_pay177 a p0 p1 (ix2 r l) = a (ix2 r l) := by
  pointwise [addvH, k0_pay177]
  rw [dif_pos h]

end Cert.StickIdeal.Sb

end
-- ==== Proof.StickRow.lean ====
module

public import proofs.«01_k».proof.Proof.StickRead

@[expose] public section

set_option maxRecDepth 65536

noncomputable section

/-! What the body leaves, row by row: the weighted values of the row's own past. -/

namespace Cert.StickIdeal.Sb

open Cert.StickIdeal Cert.StickIdeal.Gen
open Idealize.ShloMosaic

section core
variable (s : ℕ → ℝ) (t n : ℕ) (hn : n + 256 ≤ 4096) (z sp l : Fin 256 → EReal) (u : EReal)

include hn in
/-- One block of one row: the mass used up. -/
theorem used_step (hsp : ∀ a, sp a = ((S s t (n + a.val) * cc : ℝ) : EReal))
    (hl : ∀ b, l b = ∑ a : Fin 256, sp a * (if b.val < a.val then ((-1 : ℝ) : EReal) else 0)) (hu : u = ((T s t (n + 256) * cc : ℝ) : EReal)) :
    u + (sp 0 - l 0) = ((T s t n * cc : ℝ) : EReal) := by
  rw [hl 0, Finset.sum_congr rfl fun a _ => by rw [hsp a], row_later, hu, hsp 0]
  exact row_used s t n hn

include hn in
/-- The weights. -/
theorem wgt_step (hz : ∀ k, z k = ((s (n + k.val) * cc : ℝ) : EReal)) (hsp : ∀ a, sp a = ((S s t (n + a.val) * cc : ℝ) : EReal))
    (hl : ∀ b, l b = ∑ a : Fin 256, sp a * (if b.val < a.val then ((-1 : ℝ) : EReal) else 0)) (hu : u = ((T s t (n + 256) * cc : ℝ) : EReal))
    (k : Fin 256) (h : n + k.val < t) : Ideal.exp2 ((z k - sp k) + (l k - u)) = ((W s t (n + k.val) : ℝ) : EReal) := by
  rw [hl k, Finset.sum_congr rfl fun a _ => by rw [hsp a], row_later, hu, hsp k, hz k]
  exact row_wgt s t n k.val k.isLt hn h

theorem sp_block (σ : Shape) (Z : FVec Ideal σ .f32) (j : σ.Idx) (k : ℕ) (hz : Z j = ((s k * cc : ℝ) : EReal)) (hb : s k * cc ≤ 64) :
    spf σ Z j = ((P (s k) * cc : ℝ) : EReal) := by
  rw [spf_apply, hz]
  exact sp_real (s k) hb

theorem W_out (k : ℕ) (h : ¬ k < t) : ((W s t k : ℝ) : EReal) = 0 := by
  unfold W
  rw [if_neg h, EReal.coe_zero]

theorem S_in (k : ℕ) (h : k < t) : S s t k = P (s k) := if_pos h

theorem S_out (k : ℕ) (h : ¬ k < t) : S s t k = 0 := if_neg h
end core

section head
variable (s : ℕ → ℝ) (hb : ∀ k, s k * cc ≤ 64) (t n : ℕ) (hn : n + 256 ≤ 4096) (q : FVec Ideal S512x128 .bf16) (K V : Vec Ideal S1x256x128 .bf16)
  (u : FVec Ideal S512x1 .f32)

include hb hn in
/-- One head's part of a block that lies wholly in a row's past. -/
theorem blk_head (r : Fin 512) (hr : n + 256 ≤ t) (hq : ∀ k : Fin 256, sc q K (ix2 r k) = ((s (n + k.val) * cc : ℝ) : EReal))
    (hu : u (ix2 r 0) = ((T s t (n + 256) * cc : ℝ) : EReal)) (v : ℕ → EReal) (l : Fin 128) (hv : ∀ k : Fin 256, V (ix3 0 k l) = v (n + k.val)) :
    grow u (spf _ (sc q K)) (lat k0_pay181 (spf _ (sc q K))) (ix2 r 0) = ((T s t n * cc : ℝ) : EReal)
      ∧ A s t v (n + 256) + pv (wgt (sc q K) (spf _ (sc q K)) (lat k0_pay181 (spf _ (sc q K))) u) V (ix2 r l) = A s t v n := by
  have hsp : ∀ a : Fin 256, spf _ (sc q K) (ix2 r a) = ((S s t (n + a.val) * cc : ℝ) : EReal) := fun a => by
    rw [sp_block s _ _ _ _ (hq a) (hb _), S_in s t _ (by omega)]
  generalize spf _ (sc q K) = sp at *
  generalize sc q K = z at *
  refine ⟨?_, ?_⟩
  · rw [grow_apply]
    exact used_step s t n hn (fun a => sp (ix2 r a)) (fun a => lat k0_pay181 sp (ix2 r a)) _ hsp (fun b => lat_apply sp r b) hu
  · rw [pv_apply, ← row_acc s t v n hn]
    congr 1
    refine Finset.sum_congr rfl fun k _ => ?_
    rw [wgt_apply, hv k]
    congr 1
    exact wgt_step s t n hn (fun a => z (ix2 r a)) (fun a => sp (ix2 r a)) (fun a => lat k0_pay181 sp (ix2 r a)) _ hq hsp (fun b => lat_apply sp r b) hu k (by omega)

include hb hn in
/-- One head's part of the block that starts where the block of rows does. -/
theorem dgA_head (r : Fin 512) (hr : t = n + r.val) (hq : ∀ k : Fin 256, sc q K (ix2 r k) = ((s (n + k.val) * cc : ℝ) : EReal))
    (hu : u (ix2 r 0) = ((T s t (n + 256) * cc : ℝ) : EReal)) (v : ℕ → EReal) (l : Fin 128) (hv : ∀ k : Fin 256, V (ix3 0 k l) = v (n + k.val)) :
    grow u (mz msk (spf _ (sc q K))) (lat k0_pay181 (mz msk (spf _ (sc q K)))) (ix2 r 0) = ((T s t n * cc : ℝ) : EReal)
      ∧ A s t v (n + 256) + pv (mw msk (wgt (sc q K) (mz msk (spf _ (sc q K))) (lat k0_pay181 (mz msk (spf _ (sc q K)))) u)) V (ix2 r l) = A s t v n := by
  have hsp : ∀ a : Fin 256, mz msk (spf _ (sc q K)) (ix2 r a) = ((S s t (n + a.val) * cc : ℝ) : EReal) := fun a => by
    rw [mz_apply]
    split
    · rw [sp_block s _ _ _ _ (hq a) (hb _), S_in s t _ (by omega)]
    · rw [S_out s t _ (by omega), zero_mul, EReal.coe_zero]
  generalize mz msk (spf _ (sc q K)) = sp at *
  generalize sc q K = z at *
  refine ⟨?_, ?_⟩
  · rw [grow_apply]
    exact used_step s t n hn (fun a => sp (ix2 r a)) (fun a => lat k0_pay181 sp (ix2 r a)) _ hsp (fun b => lat_apply sp r b) hu
  · rw [pv_apply, ← row_acc s t v n hn]
    congr 1
    refine Finset.sum_congr rfl fun k _ => ?_
    rw [mw_apply, wgt_apply, hv k]
    congr 1
    split
    · exact wgt_step s t n hn (fun a => z (ix2 r a)) (fun a => sp (ix2 r a)) (fun a => lat k0_pay181 sp (ix2 r a)) _ hq hsp (fun b => lat_apply sp r b) hu k (by omega)
    · rw [W_out s t _ (by omega)]

include hb hn in
/-- One head's part of the block after it. -/
theorem dgB_head (r : Fin 256) (hr : t = n + r.val) (hq : ∀ k : Fin 256, scH q K (ix2 r k) = ((s (n + k.val) * cc : ℝ) : EReal))
    (hu : u (ix2 (up r) 0) = ((T s t (n + 256) * cc : ℝ) : EReal)) (v : ℕ → EReal) (l : Fin 128) (hv : ∀ k : Fin 256, V (ix3 0 k l) = v (n + k.val)) :
    growH u (mzH msk (spf _ (scH q K))) (latH k0_pay181 (mzH msk (spf _ (scH q K)))) (ix2 (up r) 0) = ((T s t n * cc : ℝ) : EReal)
      ∧ A s t v (n + 256) + pvH (mwH msk (wgtH (scH q K) (mzH msk (spf _ (scH q K))) (latH k0_pay181 (mzH msk (spf _ (scH q K)))) (lowH u))) V (ix2 r l) = A s t v n := by
  have hsp : ∀ a : Fin 256, mzH msk (spf _ (scH q K)) (ix2 r a) = ((S s t (n + a.val) * cc : ℝ) : EReal) := fun a => by
    rw [mzH_apply]
    split
    · rw [sp_block s _ _ _ _ (hq a) (hb _), S_in s t _ (by omega)]
    · rw [S_out s t _ (by omega), zero_mul, EReal.coe_zero]
  generalize mzH msk (spf _ (scH q K)) = sp at *
  generalize scH q K = z at *
  refine ⟨?_, ?_⟩
  · rw [growH_up]
    exact used_step s t n hn (fun a => sp (ix2 r a)) (fun a => latH k0_pay181 sp (ix2 r a)) _ hsp (fun b => latH_apply sp r b) hu
  · rw [pvH_apply, ← row_acc s t v n hn]
    congr 1
    refine Finset.sum_congr rfl fun k _ => ?_
    rw [mwH_apply, wgtH_apply, hv k]
    congr 1
    split
    · exact wgt_step s t n hn (fun a => z (ix2 r a)) (fun a => sp (ix2 r a)) (fun a => latH k0_pay181 sp (ix2 r a)) _ hq hsp (fun b => latH_apply sp r b) hu k (by omega)
    · rw [W_out s t _ (by omega)]
end head

section
variable (i : ℕ) (hi : i < 8) (x0 : Vec Ideal S1x512x128 .bf16) (x1 x2 : Vec Ideal S1x4096x128 .bf16) (σ : Fin 2 → Fin 512 → ℕ → ℝ)
  (hσ : ∀ h r k, sg h x0 x1 r k = ((σ h r k * cc : ℝ) : EReal)) (hb : ∀ h r k, σ h r k * cc ≤ 64)

/-- The head whose values lane `l` holds. -/
def hd (l : Fin 128) : Fin 2 := if l.val < 64 then 0 else 1

theorem zero_col (r : Fin 512) (z : Fin 1) : (k0_pay182 (F := Ideal)) (ix2 r z) = 0 := by pointwise [k0_pay182]
theorem zero_blk (r : Fin 512) (l : Fin 128) : (k0_pay183 (F := Ideal)) (ix2 r l) = 0 := by pointwise [k0_pay183]

/-- A row's carry once the keys from `n` on are in. -/
def Inv (t n : ℕ) (c : Carry Ideal) (r : Fin 512) (l : Fin 128) : Prop :=
  c.1 (ix2 r 0) = ((T (σ 0 r) t n * cc : ℝ) : EReal) ∧ c.2.1 (ix2 r 0) = ((T (σ 1 r) t n * cc : ℝ) : EReal)
    ∧ c.2.2 (ix2 r l) = A (σ (hd l) r) t (fun k => key x2 k l) n

include hi hσ hb in
theorem dgB_inv (r : Fin 512) (l : Fin 128) :
    Inv x2 σ (512 * i + r.val) (256 * (2 * i + 1))
      (dgB msk k0_pay177 k0_pay181 (k0_pay179 x0) (k0_pay180 x0) (kb x1 (2 * i + 1)) (kb x2 (2 * i + 1)) (k0_pay182, k0_pay182, k0_pay183)) r l := by
  by_cases h : r.val < 256
  · have hT : 512 * i + r.val ≤ 256 * (2 * i + 1) := by omega
    refine ⟨?_, ?_, ?_⟩
    · rw [T_ge _ _ hT, zero_mul, EReal.coe_zero]
      exact (growH_low k0_pay182 _ _ r h).trans (zero_col r 0)
    · rw [T_ge _ _ hT, zero_mul, EReal.coe_zero]
      exact (growH_low k0_pay182 _ _ r h).trans (zero_col r 0)
    · rw [A_ge _ _ _ hT]
      exact (addvH_low k0_pay183 _ _ r h l).trans (zero_blk r l)
  · obtain ⟨r', rfl⟩ : ∃ r' : Fin 256, r = up r' := ⟨⟨r.val - 256, by omega⟩, Fin.ext (by show r.val = 256 + (r.val - 256); omega)⟩
    have ht : 512 * i + (up r').val = 256 * (2 * i + 1) + r'.val := by show 512 * i + (256 + r'.val) = _; omega
    have hT : 512 * i + (up r').val ≤ 256 * (2 * i + 1) + 256 := by omega
    have z0 : ∀ s : ℕ → ℝ, (k0_pay182 (F := Ideal)) (ix2 (up r') 0) = ((T s (512 * i + (up r').val) (256 * (2 * i + 1) + 256) * cc : ℝ) : EReal) := fun s => by
      rw [T_ge _ _ hT, zero_mul, EReal.coe_zero]
      exact zero_col (up r') 0
    have b0 := dgB_head (σ 0 (up r')) (hb 0 _) _ _ (by omega) (k0_pay179 x0) (kb x1 (2 * i + 1)) (kb x2 (2 * i + 1)) k0_pay182 r' ht
      (fun k => (scH0_apply x0 x1 _ r' k).trans (hσ 0 _ _)) (z0 _) (fun k => key x2 k l) l (fun k => kb_apply x2 _ k l)
    have b1 := dgB_head (σ 1 (up r')) (hb 1 _) _ _ (by omega) (k0_pay180 x0) (kb x1 (2 * i + 1)) (kb x2 (2 * i + 1)) k0_pay182 r' ht
      (fun k => (scH1_apply x0 x1 _ r' k).trans (hσ 1 _ _)) (z0 _) (fun k => key x2 k l) l (fun k => kb_apply x2 _ k l)
    rw [A_ge _ _ _ hT, zero_add] at b0 b1
    refine ⟨b0.1, b1.1, (addvH_up _ _ _ r' l).trans ?_⟩
    rw [b0.2, b1.2, show (k0_pay182 (F := Ideal), k0_pay182 (F := Ideal), k0_pay183 (F := Ideal)).2.2 (ix2 (up r') l) = 0 from zero_blk (up r') l, zero_add]
    unfold hd
    split <;> rfl

include hi hσ hb in
theorem dgA_inv (c : Carry Ideal) (r : Fin 512) (l : Fin 128) (hc : Inv x2 σ (512 * i + r.val) (256 * (2 * i + 1)) c r l) :
    Inv x2 σ (512 * i + r.val) (256 * (2 * i))
      (dgA msk k0_pay177 k0_pay181 (k0_pay179 x0) (k0_pay180 x0) (kb x1 (2 * i)) (kb x2 (2 * i)) c) r l := by
  obtain ⟨h0, h1, h2⟩ := hc
  have ht : 512 * i + r.val = 256 * (2 * i) + r.val := by omega
  have e : 256 * (2 * i + 1) = 256 * (2 * i) + 256 := by omega
  rw [e] at h0 h1 h2
  have b0 := dgA_head (σ 0 r) (hb 0 _) _ _ (by omega) (k0_pay179 x0) (kb x1 (2 * i)) (kb x2 (2 * i)) c.1 r ht
    (fun k => (sc0_apply x0 x1 _ r k).trans (hσ 0 _ _)) h0 (fun k => key x2 k l) l (fun k => kb_apply x2 _ k l)
  have b1 := dgA_head (σ 1 r) (hb 1 _) _ _ (by omega) (k0_pay180 x0) (kb x1 (2 * i)) (kb x2 (2 * i)) c.2.1 r ht
    (fun k => (sc1_apply x0 x1 _ r k).trans (hσ 1 _ _)) h1 (fun k => key x2 k l) l (fun k => kb_apply x2 _ k l)
  refine ⟨b0.1, b1.1, (addv_apply _ _ _ r l).trans ?_⟩
  rw [h2]
  unfold hd
  split
  · exact b0.2
  · exact b1.2

include hi hσ hb in
theorem blk_inv (j : ℕ) (hj : j < 2 * i) (c : Carry Ideal) (r : Fin 512) (l : Fin 128) (hc : Inv x2 σ (512 * i + r.val) (256 * (j + 1)) c r l) :
    Inv x2 σ (512 * i + r.val) (256 * j) (blk k0_pay177 k0_pay181 (k0_pay179 x0) (k0_pay180 x0) (kb x1 j) (kb x2 j) c) r l := by
  obtain ⟨h0, h1, h2⟩ := hc
  have ht : 256 * j + 256 ≤ 512 * i + r.val := by omega
  have e : 256 * (j + 1) = 256 * j + 256 := by omega
  rw [e] at h0 h1 h2
  have b0 := blk_head (σ 0 r) (hb 0 _) _ _ (by omega) (k0_pay179 x0) (kb x1 j) (kb x2 j) c.1 r ht
    (fun k => (sc0_apply x0 x1 _ r k).trans (hσ 0 _ _)) h0 (fun k => key x2 k l) l (fun k => kb_apply x2 _ k l)
  have b1 := blk_head (σ 1 r) (hb 1 _) _ _ (by omega) (k0_pay180 x0) (kb x1 j) (kb x2 j) c.2.1 r ht
    (fun k => (sc1_apply x0 x1 _ r k).trans (hσ 1 _ _)) h1 (fun k => key x2 k l) l (fun k => kb_apply x2 _ k l)
  refine ⟨b0.1, b1.1, (addv_apply _ _ _ r l).trans ?_⟩
  rw [h2]
  unfold hd
  split
  · exact b0.2
  · exact b1.2

include hi hσ hb in
theorem bs_inv (r : Fin 512) (l : Fin 128) (n : ℕ) (hn : n ≤ 2 * i) : Inv x2 σ (512 * i + r.val) (256 * (2 * i - n)) (bs i x0 x1 x2 n) r l := by
  induction n with
  | zero => exact dgA_inv i hi x0 x1 x2 σ hσ hb _ r l (dgB_inv i hi x0 x1 x2 σ hσ hb r l)
  | succ n ih =>
    have h := ih (by omega)
    have e : 2 * i - n = (2 * i - 1 - n) + 1 := by omega
    rw [e] at h
    rw [show 2 * i - (n + 1) = 2 * i - 1 - n by omega]
    exact blk_inv i hi x0 x1 x2 σ hσ hb (2 * i - 1 - n) (by omega) _ r l h

include hi hσ hb in
/-- What the body leaves of a row. -/
theorem outv_apply (r : Fin 512) (l : Fin 128) :
    outv i x0 x1 x2 (ix3 0 r l) = ∑ k ∈ Finset.range 4096, ((W (σ (hd l) r) (512 * i + r.val) k : ℝ) : EReal) * key x2 k l := by
  have h := (bs_inv i hi x0 x1 x2 σ hσ hb r l (2 * i) le_rfl).2.2
  rw [Nat.sub_self, Nat.mul_zero] at h
  have e : outv i x0 x1 x2 (ix3 0 r l) = (bs i x0 x1 x2 (2 * i)).2.2 (ix2 r l) := by
    unfold outv
    generalize (bs i x0 x1 x2 (2 * i)).2.2 = B
    pointwise [k0_pay6]
  rw [e, h]
  unfold A
  rw [Finset.range_eq_Ico]
end

end Cert.StickIdeal.Sb

end
-- ==== Proof.StickCases.lean ====
module

public import proofs.«01_k».proof.Proof.StickOut

@[expose] public section

set_option maxRecDepth 65536

noncomputable section

namespace Cert.StickIdeal.Sb

open Cert.StickIdeal Cert.StickIdeal.Gen
open Idealize.ShloMosaic Idealize.ShloMosaic.TcCoe Idealize.ShloMosaic.Tactic
open Idealize.SL Idealize.SL.Sem

variable {F : FTy → Type} [FloatOps F]

/-- The loop up to trip `n`: four key blocks a trip. -/
theorem st1_eq (c : Dev nD) (i : grid0.Coords) (arg3 : Memref sig .tc .vmem S1x512x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x512x128 .bf16) (harg6 : arg6.IsWhole)
    (x0 : Vec F S1x512x128 .bf16) (x1 : Vec F S1x4096x128 .bf16) (x2 : Vec F S1x4096x128 .bf16) (arg2 : BitVec 32) (v13 v14 : IVec S512x256 32) (v22 v32 : BitVec 32) (v33 : FVec F S512x1 .f32) (v34 : FVec F S512x128 .f32) (c2 v35 v37 v56 : BitVec 32) (n : ℕ) (hn : n ≤ (i 2).val / 2) :
    st_k0_t1 (F := F) Variants.none c none i arg3 harg3 arg4 harg4 arg5 harg5 arg6 harg6 arg2 k0_pay177 (k0_pay179 x0) (k0_pay180 x0) v13 v14 k0_pay181 v22 v32 v33 v34 c2 v35 v37 v56 (harg4.unread x1) (harg5.unread x2) (bs (i 2).val x0 x1 x2 (2 * ((i 2).val % 2))) n
      = bs (i 2).val x0 x1 x2 (2 * ((i 2).val % 2) + 4 * n) := by
  have h8 := lt8 i
  have ht := trips1 i
  induction n with
  | zero => rfl
  | succ n ih =>
    refine (st_k0_t1_succ (F := F) Variants.none c none i arg3 harg3 arg4 harg4 arg5 harg5 arg6 harg6 arg2 k0_pay177 (k0_pay179 x0) (k0_pay180 x0) v13 v14 k0_pay181 v22 v32 v33 v34 c2 v35 v37 v56
      (harg4.unread x1) (harg5.unread x2) (bs (i 2).val x0 x1 x2 (2 * ((i 2).val % 2))) ⟨n, by omega⟩).trans ?_
    rw [trip1_eq]
    dsimp only
    rw [read_kb harg4 x1 (2 * (i 2).val - 1 - (2 * ((i 2).val % 2) + 4 * n + 0)) (by omega) _ (off4_eq i ⟨n, by omega⟩ 0), read_kb harg4 x1 (2 * (i 2).val - 1 - (2 * ((i 2).val % 2) + 4 * n + 1)) (by omega) _ (off4_eq i ⟨n, by omega⟩ 1), read_kb harg4 x1 (2 * (i 2).val - 1 - (2 * ((i 2).val % 2) + 4 * n + 2)) (by omega) _ (off4_eq i ⟨n, by omega⟩ 2), read_kb harg4 x1 (2 * (i 2).val - 1 - (2 * ((i 2).val % 2) + 4 * n + 3)) (by omega) _ (off4_eq i ⟨n, by omega⟩ 3), read_kb harg5 x2 (2 * (i 2).val - 1 - (2 * ((i 2).val % 2) + 4 * n + 0)) (by omega) _ (off4_eq i ⟨n, by omega⟩ 0), read_kb harg5 x2 (2 * (i 2).val - 1 - (2 * ((i 2).val % 2) + 4 * n + 1)) (by omega) _ (off4_eq i ⟨n, by omega⟩ 1), read_kb harg5 x2 (2 * (i 2).val - 1 - (2 * ((i 2).val % 2) + 4 * n + 2)) (by omega) _ (off4_eq i ⟨n, by omega⟩ 2), read_kb harg5 x2 (2 * (i 2).val - 1 - (2 * ((i 2).val % 2) + 4 * n + 3)) (by omega) _ (off4_eq i ⟨n, by omega⟩ 3)]
    rw [ih (by omega)]
    rfl

/-- What both loops leave: the second has no trips. -/
theorem st2_eq (c : Dev nD) (i : grid0.Coords) (arg3 : Memref sig .tc .vmem S1x512x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x512x128 .bf16) (harg6 : arg6.IsWhole)
    (x0 : Vec F S1x512x128 .bf16) (x1 : Vec F S1x4096x128 .bf16) (x2 : Vec F S1x4096x128 .bf16) (arg2 : BitVec 32) (v13 v14 : IVec S512x256 32) (v22 v32 : BitVec 32) (v33 : FVec F S512x1 .f32) (v34 : FVec F S512x128 .f32) (c2 v35 v37 v56 : BitVec 32) (w56 w78 : BitVec 32) :
    st_k0_t2 (F := F) Variants.none c none i arg3 harg3 arg4 harg4 arg5 harg5 arg6 harg6 k0_pay177 (k0_pay179 x0) (k0_pay180 x0) k0_pay181 w56 w78 (harg4.unread x1) (harg5.unread x2)
      (st_k0_t1 (F := F) Variants.none c none i arg3 harg3 arg4 harg4 arg5 harg5 arg6 harg6 arg2 k0_pay177 (k0_pay179 x0) (k0_pay180 x0) v13 v14 k0_pay181 v22 v32 v33 v34 c2 v35 v37 v56 (harg4.unread x1) (harg5.unread x2) (bs (i 2).val x0 x1 x2 (2 * ((i 2).val % 2))) (k0_t1_loop i).trips) (k0_t2_loop i).trips
      = bs (i 2).val x0 x1 x2 (2 * (i 2).val) := by
  rw [trips2, trips1, show 2 * (i 2).val = 2 * ((i 2).val % 2) + 4 * ((i 2).val / 2) from by omega]
  exact st1_eq c i arg3 harg3 arg4 harg4 arg5 harg5 arg6 harg6 x0 x1 x2 arg2 v13 v14 v22 v32 v33 v34 c2 v35 v37 v56 _ le_rfl

/-- The stored value where no whole block is left over. -/
theorem run0_eq (c : Dev nD) (i : grid0.Coords) (arg3 : Memref sig .tc .vmem S1x512x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x512x128 .bf16) (harg6 : arg6.IsWhole)
    (hc1 : ¬k0_cond1 i = 1#1)
    (x0 : Vec F S1x512x128 .bf16) (x1 : Vec F S1x4096x128 .bf16) (x2 : Vec F S1x4096x128 .bf16) :
    (run0 c i arg3 harg3 arg4 harg4 arg5 harg5 arg6 harg6 hc1 x0 x1 x2).1 = [⟨Rect.unit ![0, 0, 0] S1x512x128.size inb_S1x512x128_S1x512x128_0_0_0, outv (i 2).val x0 x1 x2⟩] := by
  have h8 := lt8 i
  have hm : (i 2).val % 2 = 0 := by by_contra h; exact hc1 ((cond1_iff i).mpr (by omega))
  have key : ∃ (arg2 : BitVec 32) (v13 v14 : IVec S512x256 32) (v22 v32 : BitVec 32) (v33 : FVec F S512x1 .f32) (v34 : FVec F S512x128 .f32) (c2 v35 v37 v56 : BitVec 32) (w56 w78 : BitVec 32),
      (run0 c i arg3 harg3 arg4 harg4 arg5 harg5 arg6 harg6 hc1 x0 x1 x2).1 = [⟨Rect.unit ![0, 0, 0] S1x512x128.size inb_S1x512x128_S1x512x128_0_0_0,
      let X0 : Vec F S1x512x128 .bf16 := View.readAt (Elt F) arg3.view (Rect.unit (s := S1x512x128) ![0, 0, 0] S1x512x128.size inb_S1x512x128_S1x512x128_0_0_0).toLoadRect (harg3.unread x0)
      let S : Carry F := dgA msk k0_pay177 k0_pay181 (k0_pay179 X0) (k0_pay180 X0)
          (View.readAt (Elt F) arg4.view (Rect.unit (s := S1x4096x128) (k0_off3 i 1#32) S1x256x128.size (k0_off3_inb i hc1 1)).toLoadRect (harg4.unread x1)) (View.readAt (Elt F) arg5.view (Rect.unit (s := S1x4096x128) (k0_off3 i 1#32) S1x256x128.size (k0_off3_inb i hc1 1)).toLoadRect (harg5.unread x2))
          (dgB msk k0_pay177 k0_pay181 (k0_pay179 X0) (k0_pay180 X0)
          (View.readAt (Elt F) arg4.view (Rect.unit (s := S1x4096x128) (k0_off3 i 0#32) S1x256x128.size (k0_off3_inb i hc1 0)).toLoadRect (harg4.unread x1)) (View.readAt (Elt F) arg5.view (Rect.unit (s := S1x4096x128) (k0_off3 i 0#32) S1x256x128.size (k0_off3_inb i hc1 0)).toLoadRect (harg5.unread x2))
          (k0_pay182, k0_pay182, k0_pay183))
      k0_pay6 (st_k0_t2 (F := F) Variants.none c none i arg3 harg3 arg4 harg4 arg5 harg5 arg6 harg6 k0_pay177 (k0_pay179 X0) (k0_pay180 X0) k0_pay181 w56 w78 (harg4.unread x1) (harg5.unread x2)
        (st_k0_t1 (F := F) Variants.none c none i arg3 harg3 arg4 harg4 arg5 harg5 arg6 harg6 arg2 k0_pay177 (k0_pay179 X0) (k0_pay180 X0) v13 v14 k0_pay181 v22 v32 v33 v34 c2 v35 v37 v56 (harg4.unread x1) (harg5.unread x2) S (k0_t1_loop i).trips) (k0_t2_loop i).trips).2.2⟩] := by
    unfold run0
    exact ⟨_, _, _, _, _, _, _, _, _, _, _, _, _, rfl⟩
  obtain ⟨arg2, v13, v14, v22, v32, v33, v34, c2, v35, v37, v56, w56, w78, key⟩ := key
  rw [key]
  dsimp only
  rw [read_q harg3,
    read_kb harg4 x1 (2 * (i 2).val + 1 - 0) (by omega) _ (show k0_off3 i 0#32 = ![0, 256 * (2 * (i 2).val + 1 - 0), 0] from off3_eq i 0),
    read_kb harg5 x2 (2 * (i 2).val + 1 - 0) (by omega) _ (show k0_off3 i 0#32 = ![0, 256 * (2 * (i 2).val + 1 - 0), 0] from off3_eq i 0),
    read_kb harg4 x1 (2 * (i 2).val + 1 - 1) (by omega) _ (show k0_off3 i 1#32 = ![0, 256 * (2 * (i 2).val + 1 - 1), 0] from off3_eq i 1),
    read_kb harg5 x2 (2 * (i 2).val + 1 - 1) (by omega) _ (show k0_off3 i 1#32 = ![0, 256 * (2 * (i 2).val + 1 - 1), 0] from off3_eq i 1)]
  have h := st2_eq (F := F) c i arg3 harg3 arg4 harg4 arg5 harg5 arg6 harg6 x0 x1 x2 arg2 v13 v14 v22 v32 v33 v34 c2 v35 v37 v56 w56 w78
  unfold outv
  rw [← h, hm]
  rfl

/-- The stored value where two whole blocks are left over. -/
theorem run1_eq (c : Dev nD) (i : grid0.Coords) (arg3 : Memref sig .tc .vmem S1x512x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x512x128 .bf16) (harg6 : arg6.IsWhole)
    (hc1 : k0_cond1 i = 1#1)
    (x0 : Vec F S1x512x128 .bf16) (x1 : Vec F S1x4096x128 .bf16) (x2 : Vec F S1x4096x128 .bf16) :
    (run1 c i arg3 harg3 arg4 harg4 arg5 harg5 arg6 harg6 hc1 x0 x1 x2).1 = [⟨Rect.unit ![0, 0, 0] S1x512x128.size inb_S1x512x128_S1x512x128_0_0_0, outv (i 2).val x0 x1 x2⟩] := by
  have h8 := lt8 i
  have hm : (i 2).val % 2 = 1 := by exact (cond1_iff i).mp hc1
  have key : ∃ (arg2 : BitVec 32) (v13 v14 : IVec S512x256 32) (v22 v32 : BitVec 32) (v33 : FVec F S512x1 .f32) (v34 : FVec F S512x128 .f32) (c2 v35 v37 v56 : BitVec 32) (w56 w78 : BitVec 32),
      (run1 c i arg3 harg3 arg4 harg4 arg5 harg5 arg6 harg6 hc1 x0 x1 x2).1 = [⟨Rect.unit ![0, 0, 0] S1x512x128.size inb_S1x512x128_S1x512x128_0_0_0,
      let X0 : Vec F S1x512x128 .bf16 := View.readAt (Elt F) arg3.view (Rect.unit (s := S1x512x128) ![0, 0, 0] S1x512x128.size inb_S1x512x128_S1x512x128_0_0_0).toLoadRect (harg3.unread x0)
      let S : Carry F := blk k0_pay177 k0_pay181 (k0_pay179 X0) (k0_pay180 X0)
          (View.readAt (Elt F) arg4.view (Rect.unit (s := S1x4096x128) (k0_off2 i 1#32) S1x256x128.size (k0_off2_inb i hc1 1)).toLoadRect (harg4.unread x1)) (View.readAt (Elt F) arg5.view (Rect.unit (s := S1x4096x128) (k0_off2 i 1#32) S1x256x128.size (k0_off2_inb i hc1 1)).toLoadRect (harg5.unread x2))
          (blk k0_pay177 k0_pay181 (k0_pay179 X0) (k0_pay180 X0)
          (View.readAt (Elt F) arg4.view (Rect.unit (s := S1x4096x128) (k0_off2 i 0#32) S1x256x128.size (k0_off2_inb i hc1 0)).toLoadRect (harg4.unread x1)) (View.readAt (Elt F) arg5.view (Rect.unit (s := S1x4096x128) (k0_off2 i 0#32) S1x256x128.size (k0_off2_inb i hc1 0)).toLoadRect (harg5.unread x2))
          (dgA msk k0_pay177 k0_pay181 (k0_pay179 X0) (k0_pay180 X0)
          (View.readAt (Elt F) arg4.view (Rect.unit (s := S1x4096x128) (k0_off1 i 1#32) S1x256x128.size (k0_off1_inb i hc1 1)).toLoadRect (harg4.unread x1)) (View.readAt (Elt F) arg5.view (Rect.unit (s := S1x4096x128) (k0_off1 i 1#32) S1x256x128.size (k0_off1_inb i hc1 1)).toLoadRect (harg5.unread x2))
          (dgB msk k0_pay177 k0_pay181 (k0_pay179 X0) (k0_pay180 X0)
          (View.readAt (Elt F) arg4.view (Rect.unit (s := S1x4096x128) (k0_off1 i 0#32) S1x256x128.size (k0_off1_inb i hc1 0)).toLoadRect (harg4.unread x1)) (View.readAt (Elt F) arg5.view (Rect.unit (s := S1x4096x128) (k0_off1 i 0#32) S1x256x128.size (k0_off1_inb i hc1 0)).toLoadRect (harg5.unread x2))
          (k0_pay182, k0_pay182, k0_pay183))))
      k0_pay6 (st_k0_t2 (F := F) Variants.none c none i arg3 harg3 arg4 harg4 arg5 harg5 arg6 harg6 k0_pay177 (k0_pay179 X0) (k0_pay180 X0) k0_pay181 w56 w78 (harg4.unread x1) (harg5.unread x2)
        (st_k0_t1 (F := F) Variants.none c none i arg3 harg3 arg4 harg4 arg5 harg5 arg6 harg6 arg2 k0_pay177 (k0_pay179 X0) (k0_pay180 X0) v13 v14 k0_pay181 v22 v32 v33 v34 c2 v35 v37 v56 (harg4.unread x1) (harg5.unread x2) S (k0_t1_loop i).trips) (k0_t2_loop i).trips).2.2⟩] := by
    unfold run1
    exact ⟨_, _, _, _, _, _, _, _, _, _, _, _, _, rfl⟩
  obtain ⟨arg2, v13, v14, v22, v32, v33, v34, c2, v35, v37, v56, w56, w78, key⟩ := key
  rw [key]
  dsimp only
  rw [read_q harg3,
    read_kb harg4 x1 (2 * (i 2).val + 1 - 0) (by omega) _ (show k0_off1 i 0#32 = ![0, 256 * (2 * (i 2).val + 1 - 0), 0] from off1_eq i 0),
    read_kb harg5 x2 (2 * (i 2).val + 1 - 0) (by omega) _ (show k0_off1 i 0#32 = ![0, 256 * (2 * (i 2).val + 1 - 0), 0] from off1_eq i 0),
    read_kb harg4 x1 (2 * (i 2).val + 1 - 1) (by omega) _ (show k0_off1 i 1#32 = ![0, 256 * (2 * (i 2).val + 1 - 1), 0] from off1_eq i 1),
    read_kb harg5 x2 (2 * (i 2).val + 1 - 1) (by omega) _ (show k0_off1 i 1#32 = ![0, 256 * (2 * (i 2).val + 1 - 1), 0] from off1_eq i 1),
    read_kb harg4 x1 (2 * (i 2).val - 1 - 0) (by omega) _ (show k0_off2 i 0#32 = ![0, 256 * (2 * (i 2).val - 1 - 0), 0] from off2_eq i 0 hm),
    read_kb harg5 x2 (2 * (i 2).val - 1 - 0) (by omega) _ (show k0_off2 i 0#32 = ![0, 256 * (2 * (i 2).val - 1 - 0), 0] from off2_eq i 0 hm),
    read_kb harg4 x1 (2 * (i 2).val - 1 - 1) (by omega) _ (show k0_off2 i 1#32 = ![0, 256 * (2 * (i 2).val - 1 - 1), 0] from off2_eq i 1 hm),
    read_kb harg5 x2 (2 * (i 2).val - 1 - 1) (by omega) _ (show k0_off2 i 1#32 = ![0, 256 * (2 * (i 2).val - 1 - 1), 0] from off2_eq i 1 hm)]
  have h := st2_eq (F := F) c i arg3 harg3 arg4 harg4 arg5 harg5 arg6 harg6 x0 x1 x2 arg2 v13 v14 v22 v32 v33 v34 c2 v35 v37 v56 w56 w78
  unfold outv
  rw [← h, hm]
  rfl

end Cert.StickIdeal.Sb
end
-- ==== Proof.StickFrame.lean ====
module

public import proofs.«01_k».proof.Proof.StickCases
public import Idealize.ShloMosaic.Lib.Claim
public import Idealize.ShloMosaic.Lib.Pipeline.Value

@[expose] public section

set_option maxRecDepth 65536

noncomputable section

namespace Cert.StickIdeal.Sb

open Cert.StickIdeal Cert.StickIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Whichever way the number of whole blocks goes, the body stores `outv`. -/
theorem runs (c : Dev nD) (i : grid0.Coords) (arg3 : Memref sig .tc .vmem S1x512x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x512x128 .bf16) (harg6 : arg6.IsWhole)
    (x0 : Vec F S1x512x128 .bf16) (x1 : Vec F S1x4096x128 .bf16) (x2 : Vec F S1x4096x128 .bf16) :
    Runs c i arg3 harg3 arg4 harg4 arg5 harg5 arg6 harg6 x0 x1 x2
      [⟨Rect.unit ![0, 0, 0] S1x512x128.size inb_S1x512x128_S1x512x128_0_0_0, outv (i 2).val x0 x1 x2⟩] := by
  by_cases hc1 : k0_cond1 i = 1#1
  · rw [← run1_eq c i arg3 harg3 arg4 harg4 arg5 harg5 arg6 harg6 hc1]; exact (run1 c i arg3 harg3 arg4 harg4 arg5 harg5 arg6 harg6 hc1 x0 x1 x2).2
  · rw [← run0_eq c i arg3 harg3 arg4 harg4 arg5 harg5 arg6 harg6 hc1]; exact (run0 c i arg3 harg3 arg4 harg4 arg5 harg5 arg6 harg6 hc1 x0 x1 x2).2

/-- What is stored covers the block, so the block reads back as it. -/
theorem read_outv {arg6 : Memref sig .tc .vmem S1x512x128 .bf16} (w : Vec F S1x512x128 .bf16) (f : arg6.view.ty.Contents (Elt F)) :
    arg6.view.read (Elt F) (arg6.view.writes (Elt F) f [⟨Rect.unit ![0, 0, 0] S1x512x128.size inb_S1x512x128_S1x512x128_0_0_0, w⟩]) = w := by
  rw [View.read_writes_eq_canon]
  · exact View.canon_unit_zero (by funext a; fin_cases a <;> rfl) _ _
  · intro y
    refine ⟨_, List.mem_singleton.mpr rfl, ?_⟩
    rw [Rect.mem_set_unit]
    intro a
    have := (y a).isLt
    fin_cases a <;> exact ⟨Nat.zero_le _, by simpa using this⟩

variable (m : (ℓ : Loc nD τ sig) → Buf (Elt F) ℓ) (ρ : Dev nD → PrngReg)

/-- The proof data: inputs stay, the result's block is `outv` of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outv (grid0.coords t 2).val (iblk m c 0 t) (iblk m c 1 t) (iblk m c 2 t)
  Φ t := Pipeline.ΦA spec0 c
  q := Pipeline.shareOf spec0
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t
    = outv (grid0.coords t 2).val (iblk m c 0 t) (iblk m c 1 t) (iblk m c 2 t) := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d

/-- What the body is given at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body takes the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    show (dats m 0 c).Φ t.succ = (dats m 0 c).Φ t.castSucc from rfl,
    after0_0, after0_1, after0_2, after0_3]
  iintro ⟨HΦ, Ho, ⟨%d0, H0⟩, ⟨%d1, H1⟩, ⟨%d2, H2⟩, ⟨%d3, H3⟩⟩
  iapply (runs c (grid0.coords t) _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact read_outv _ _

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The whole program runs; its arrays end at what the proof data says, its counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame, at any floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.StickIdeal.Sb
end
-- ==== Proof.StickHost.lean ====
module

public import proofs.«01_k».proof.Proof.StickRow
public import proofs.«01_k».proof.Proof.StickFrame
public import Idealize.ShloMosaic.Lib.Pointwise
public import Idealize.ShloMosaic.Lib.StableHlo.ReadAt

@[expose] public section

set_option maxRecDepth 65536

noncomputable section

/-! The arrays the region finds: the host's arrays read at an index. -/

namespace Cert.StickIdeal.Sb

open Cert.StickIdeal Cert.StickIdeal.Gen
open Idealize.ShloMosaic Idealize.ShloMosaic.TcCoe

variable (m : (ℓ : Loc nD τ sig) → Buf (Elt Ideal) ℓ) (c : Dev nD)

/-- The change of base: one over the natural logarithm of two, as the host computes it. -/
def lam : EReal := Ideal.div 1 (Ideal.log (Ideal.ofBits FTy.f32 1073741824#32))

theorem lam_eq : lam = ((cc : ℝ) : EReal) := by
  have hl := log2_pos
  unfold lam
  rw [show (1 : EReal) = ((1 : ℝ) : EReal) from rfl, show Ideal.ofBits FTy.f32 1073741824#32 = ((2 : ℝ) : EReal) from ofBits_two,
    Ideal.log_coe, if_neg (by norm_num), Ideal.div_coe hl.ne', ← EReal.coe_mul]
  unfold cc
  rw [one_mul, one_div]

theorem eighth : Ideal.ofBits FTy.f32 1040187392#32 = ((1 / 8 : ℝ) : EReal) := by
  simp [Ideal.ofBits, Ideal.ieee, -EReal.coe_mul]; norm_num

/-- The arguments' entries: queries, -/
def aq (b : Fin 4) (s : Fin 4096) (l : Fin 512) : EReal := (m (c, Proc.tc.devRef main_arg0) : S4x4096x512.Idx → EReal) (ix3 b s l)
/-- keys, -/
def ak (b : Fin 4) (s : Fin 4096) (l : Fin 512) : EReal := (m (c, Proc.tc.devRef main_arg1) : S4x4096x512.Idx → EReal) (ix3 b s l)
/-- and values. -/
def av (b : Fin 4) (s : Fin 4096) (l : Fin 512) : EReal := (m (c, Proc.tc.devRef main_arg2) : S4x4096x512.Idx → EReal) (ix3 b s l)
theorem V6_q (b : Fin 4) (s : Fin 4096) (l : Fin 1536) (h : l.val < 512) :
    (V m c main_v6 : S4x4096x1536.Idx → EReal) (ix3 b s l)
      = aq m c b s ⟨l.val, h⟩ * (lam * Ideal.ofBits FTy.f32 1040187392#32) := by
  unfold V
  after_reads_at
  rw [dif_pos h]
  after_reads_at
  rfl

theorem V6_k (b : Fin 4) (s : Fin 4096) (l : Fin 1536) (h : 512 ≤ l.val) (h' : l.val - 512 < 512) :
    (V m c main_v6 : S4x4096x1536.Idx → EReal) (ix3 b s l)
      = ak m c b s ⟨l.val - 512, h'⟩ := by
  unfold V
  after_reads_at
  rw [dif_neg (by omega), dif_pos h']
  after_reads_at
  rfl

theorem V6_v (b : Fin 4) (s : Fin 4096) (l : Fin 1536) (h : 1024 ≤ l.val) :
    (V m c main_v6 : S4x4096x1536.Idx → EReal) (ix3 b s l)
      = av m c b s ⟨l.val - 1024, by omega⟩ := by
  unfold V
  after_reads_at
  rw [dif_neg (by omega), dif_neg (by omega)]
  after_reads_at
  rfl

/-- Where each window's block lies. -/
theorem idx_facts : ∀ t : Fin cfg0.N,
    (win0_0.index t (0 : Fin 3) = t.val / 32 ∧ win0_0.index t (1 : Fin 3) = t.val % 8 ∧ win0_0.index t (2 : Fin 3) = t.val / 8 % 4)
    ∧ (win0_1.index t (0 : Fin 3) = t.val / 32 ∧ win0_1.index t (1 : Fin 3) = 0 ∧ win0_1.index t (2 : Fin 3) = 4 + t.val / 8 % 4)
    ∧ (win0_2.index t (0 : Fin 3) = t.val / 32 ∧ win0_2.index t (1 : Fin 3) = 0 ∧ win0_2.index t (2 : Fin 3) = 8 + t.val / 8 % 4)
    ∧ (win0_3.index t (0 : Fin 3) = t.val / 32 ∧ win0_3.index t (1 : Fin 3) = t.val % 8 ∧ win0_3.index t (2 : Fin 3) = t.val / 8 % 4)
    ∧ (grid0.coords t 2).val = t.val % 8 :=
  (by decide +kernel : ∀ t : Fin grid0.N, _)

theorem t_lt (t : Fin cfg0.N) : t.val < 128 := lt_of_lt_of_eq t.isLt N_0

theorem iblk0 (t : Fin cfg0.N) (r : Fin 512) (l : Fin 128) :
    (iblk m c 0 t : S1x512x128.Idx → EReal) (ix3 0 r l)
      = (V m c main_v6 : S4x4096x1536.Idx → EReal) (ix3 ⟨t.val / 32, by have := t_lt t; omega⟩ ⟨t.val % 8 * 512 + r.val, by omega⟩ ⟨t.val / 8 % 4 * 128 + l.val, by omega⟩) := by
  obtain ⟨⟨h0, h1, h2⟩, -⟩ := idx_facts t
  unfold iblk
  rw [View.read_apply]
  show V m c main_v6 _ = V m c main_v6 _
  congr 1
  funext a
  apply Fin.ext
  match a with
  | ⟨0, _⟩ => show win0_0.index t (0 : Fin 3) * 1 + 1 * 0 = t.val / 32; rw [h0]; omega
  | ⟨1, _⟩ => show win0_0.index t (1 : Fin 3) * 512 + 1 * r.val = _; rw [h1]; show _ = t.val % 8 * 512 + r.val; omega
  | ⟨2, _⟩ => show win0_0.index t (2 : Fin 3) * 128 + 1 * l.val = _; rw [h2]; show _ = t.val / 8 % 4 * 128 + l.val; omega

theorem iblk1 (t : Fin cfg0.N) (s : Fin 4096) (l : Fin 128) :
    (iblk m c 1 t : S1x4096x128.Idx → EReal) (ix3 0 s l)
      = (V m c main_v6 : S4x4096x1536.Idx → EReal) (ix3 ⟨t.val / 32, by have := t_lt t; omega⟩ s ⟨512 + (t.val / 8 % 4 * 128 + l.val), by omega⟩) := by
  obtain ⟨-, ⟨h0, h1, h2⟩, -⟩ := idx_facts t
  unfold iblk
  rw [View.read_apply]
  show V m c main_v6 _ = V m c main_v6 _
  congr 1
  funext a
  apply Fin.ext
  match a with
  | ⟨0, _⟩ => show win0_1.index t (0 : Fin 3) * 1 + 1 * 0 = t.val / 32; rw [h0]; omega
  | ⟨1, _⟩ => show win0_1.index t (1 : Fin 3) * 4096 + 1 * s.val = s.val; rw [h1]; omega
  | ⟨2, _⟩ => show win0_1.index t (2 : Fin 3) * 128 + 1 * l.val = _; rw [h2]; show _ = 512 + (t.val / 8 % 4 * 128 + l.val); omega

theorem iblk2 (t : Fin cfg0.N) (s : Fin 4096) (l : Fin 128) :
    (iblk m c 2 t : S1x4096x128.Idx → EReal) (ix3 0 s l)
      = (V m c main_v6 : S4x4096x1536.Idx → EReal) (ix3 ⟨t.val / 32, by have := t_lt t; omega⟩ s ⟨1024 + (t.val / 8 % 4 * 128 + l.val), by omega⟩) := by
  obtain ⟨-, -, ⟨h0, h1, h2⟩, -⟩ := idx_facts t
  unfold iblk
  rw [View.read_apply]
  show V m c main_v6 _ = V m c main_v6 _
  congr 1
  funext a
  apply Fin.ext
  match a with
  | ⟨0, _⟩ => show win0_2.index t (0 : Fin 3) * 1 + 1 * 0 = t.val / 32; rw [h0]; omega
  | ⟨1, _⟩ => show win0_2.index t (1 : Fin 3) * 4096 + 1 * s.val = s.val; rw [h1]; omega
  | ⟨2, _⟩ => show win0_2.index t (2 : Fin 3) * 128 + 1 * l.val = _; rw [h2]; show _ = 1024 + (t.val / 8 % 4 * 128 + l.val); omega

end Cert.StickIdeal.Sb

end
-- ==== Proof.StickFinal.lean ====
module

public import proofs.«01_k».proof.Proof.StickHost

@[expose] public section

set_option maxRecDepth 65536

noncomputable section

/-! The result array after the run: the formula at every entry. -/

namespace Cert.StickIdeal.Sb

open Cert.StickIdeal Cert.StickIdeal.Gen
open Idealize.ShloMosaic Idealize.ShloMosaic.TcCoe Idealize.SL.Sem
open Idealize.ShloMosaic.Pipeline (Dat)
open Cert.KernelIdeal.Fox (coe_sum)

variable (m : (ℓ : Loc nD τ sig) → Buf (Elt Ideal) ℓ) (c : Dev nD)

/-- The arguments the scores are made of are finite, and no score is large. -/
structure Ok : Prop where
  q : ∀ b s l, ∃ x : ℝ, aq m c b s l = (x : EReal)
  k : ∀ b s l, ∃ x : ℝ, ak m c b s l = (x : EReal)
  s : ∀ b Q h j, rs (aq m c) (ak m c) b Q h j < 44

variable {m c}

theorem pt_b (t : Fin cfg0.N) : t.val / 32 < 4 := by have := t_lt t; omega

/-- A block's score, over the arguments. -/
theorem sg_eq (O : Ok m c) (t : Fin cfg0.N) (h : Fin 2) (r : Fin 512) (j : ℕ) :
    sg h (iblk m c 0 t) (iblk m c 1 t) r j
      = ((rs (aq m c) (ak m c) ⟨t.val / 32, pt_b t⟩ ⟨t.val % 8 * 512 + r.val, by omega⟩ ⟨t.val / 8 % 4 * 2 + h.val, by omega⟩ j * cc : ℝ) : EReal) := by
  have e : ∀ d : Fin 64, t.val / 8 % 4 * 128 + (64 * h.val + d.val) = (t.val / 8 % 4 * 2 + h.val) * 64 + d.val := fun d => by omega
  unfold sg key
  refine (Finset.sum_congr (g := fun d : Fin 64 => (((aq m c ⟨t.val / 32, pt_b t⟩ ⟨t.val % 8 * 512 + r.val, by omega⟩ ⟨(t.val / 8 % 4 * 2 + h.val) * 64 + d.val, by omega⟩).toReal
      * (ak m c ⟨t.val / 32, pt_b t⟩ ⟨j % 4096, Nat.mod_lt _ (by decide)⟩ ⟨(t.val / 8 % 4 * 2 + h.val) * 64 + d.val, by omega⟩).toReal * (1 / 8 * cc) : ℝ) : EReal)) rfl fun d _ => ?_).trans ?_
  · rw [iblk0, iblk1, V6_q m c _ _ _ (by show t.val / 8 % 4 * 128 + (64 * h.val + d.val) < 512; omega),
      V6_k m c _ _ _ (by show 512 ≤ 512 + (t.val / 8 % 4 * 128 + (64 * h.val + d.val)); omega)
        (by show 512 + (t.val / 8 % 4 * 128 + (64 * h.val + d.val)) - 512 < 512; omega)]
    simp only [e, Nat.add_sub_cancel_left]
    rw [toReal_of (O.q _ _ _), toReal_of (O.k _ _ _), lam_eq, eighth, ← EReal.coe_mul, ← EReal.coe_mul, ← EReal.coe_mul, EReal.toReal_coe, EReal.toReal_coe]
    congr 1
    ring
  · rw [coe_sum, ← Finset.sum_mul]
    unfold rs
    congr 1
    ring

variable (m c)

/-- The result array. -/
def G : Buf (Elt Ideal) ((c : Thread nD τ).loc main_v7) := fun i : S4x4096x512.Idx =>
  sb (aq m c) (ak m c) (av m c) (i 0) (i 1) (i 2)

variable {m c}

/-- What a point stores is the formula at its block's entries. -/
theorem outv_eq (O : Ok m c) (t : Fin cfg0.N) (r : Fin 512) (l : Fin 128) :
    outv (t.val % 8) (iblk m c 0 t) (iblk m c 1 t) (iblk m c 2 t) (ix3 0 r l)
      = sb (aq m c) (ak m c) (av m c) ⟨t.val / 32, pt_b t⟩ ⟨t.val % 8 * 512 + r.val, by omega⟩ ⟨t.val / 8 % 4 * 128 + l.val, by omega⟩ := by
  rw [outv_apply (t.val % 8) (by omega) (iblk m c 0 t) (iblk m c 1 t) (iblk m c 2 t)
    (fun h r k => rs (aq m c) (ak m c) ⟨t.val / 32, pt_b t⟩ ⟨t.val % 8 * 512 + r.val, by omega⟩ ⟨t.val / 8 % 4 * 2 + h.val, by omega⟩ k)
    (fun h r k => sg_eq O t h r k) (fun h r k => cap (O.s _ _ _ _)) r l]
  unfold sb
  have hh : t.val / 8 % 4 * 2 + (hd l).val = (t.val / 8 % 4 * 128 + l.val) / 64 := by
    unfold hd
    split
    · show t.val / 8 % 4 * 2 + 0 = _; omega
    · show t.val / 8 % 4 * 2 + 1 = _; omega
  simp only [hh, Nat.mul_comm 512]
  refine Finset.sum_congr rfl fun j _ => congrArg₂ (HMul.hMul : EReal → EReal → EReal) rfl ?_
  unfold key
  rw [iblk2, V6_v m c _ _ _ (by show 1024 ≤ 1024 + (t.val / 8 % 4 * 128 + l.val); omega)]
  have e : 1024 + (t.val / 8 % 4 * 128 + l.val) - 1024 = t.val / 8 % 4 * 128 + l.val := by omega
  simp only [e]

theorem flushed_eq (O : Ok m c) (t : Fin cfg0.N) :
    (dats m 0 c).flushed 3 t = ((cfg0.win 3).blk t).view.read (Elt Ideal) (G m c) := by
  obtain ⟨-, -, -, ⟨e0, e1, e2⟩, ei⟩ := idx_facts t
  show (cfg0.win 3).cut (grid0.coords t) ((dats m 0 c).after 3 t) = _
  rw [after0_3, ei]
  funext y
  have hy : (cfg0.win 3).xinj (grid0.coords t) y = ix3 0 (y 1) (y 2) := by
    funext a
    apply Fin.ext
    match a with
    | ⟨0, _⟩ => show (y 0).val = 0; have : (y 0).val < 1 := (y 0).isLt; omega
    | ⟨1, _⟩ => rfl
    | ⟨2, _⟩ => rfl
  show outv (t.val % 8) (iblk m c 0 t) (iblk m c 1 t) (iblk m c 2 t) ((cfg0.win 3).xinj (grid0.coords t) y) = G m c (((cfg0.win 3).blk t).view.emb y)
  rw [hy]
  have hy1 : (y 1).val < 512 := (y 1).isLt
  have hy2 : (y 2).val < 128 := (y 2).isLt
  refine (outv_eq O t ⟨(y 1).val, hy1⟩ ⟨(y 2).val, hy2⟩).trans ?_
  unfold G
  have hb0 : ((((cfg0.win 3).blk t).view.emb y : S4x4096x512.Idx) 0) = (⟨t.val / 32, pt_b t⟩ : Fin 4) := by
    apply Fin.ext
    show win0_3.index t (0 : Fin 3) * 1 + 1 * (y 0).val = t.val / 32
    have : (y 0).val < 1 := (y 0).isLt
    rw [e0]; omega
  have hb1 : ((((cfg0.win 3).blk t).view.emb y : S4x4096x512.Idx) 1) = (⟨t.val % 8 * 512 + (y 1).val, by omega⟩ : Fin 4096) := by
    apply Fin.ext
    show win0_3.index t (1 : Fin 3) * 512 + 1 * (y 1).val = t.val % 8 * 512 + (y 1).val
    rw [e1]; omega
  have hb2 : ((((cfg0.win 3).blk t).view.emb y : S4x4096x512.Idx) 2) = (⟨t.val / 8 % 4 * 128 + (y 2).val, by omega⟩ : Fin 512) := by
    apply Fin.ext
    show win0_3.index t (2 : Fin 3) * 128 + 1 * (y 2).val = t.val / 8 % 4 * 128 + (y 2).val
    rw [e2]; omega
  show _ = sb (aq m c) (ak m c) (av m c) ((((cfg0.win 3).blk t).view.emb y : S4x4096x512.Idx) 0) ((((cfg0.win 3).blk t).view.emb y : S4x4096x512.Idx) 1) ((((cfg0.win 3).blk t).view.emb y : S4x4096x512.Idx) 2)
  rw [hb0, hb1, hb2]

/-- An index of the array is in a point's block iff each coordinate is in the block's range. -/
theorem mem_blk (t : Fin cfg0.N) (i : S4x4096x512.Idx) :
    i ∈ ((cfg0.win 3).blk t).view.set ↔ ∀ a : Fin 3, win0_3.index t a * S1x512x128.size a ≤ (i a).val ∧ (i a).val < win0_3.index t a * S1x512x128.size a + S1x512x128.size a := by
  show i ∈ ((View.whole main_v7).slice (win0_3.rect t)).set ↔ _
  rw [View.set_slice_whole, Rect.mem_set_unit]
  exact Iff.rfl

theorem cover (i : S4x4096x512.Idx) : ∃ t : Fin cfg0.N, (cfg0.win 3).flush t = true ∧ i ∈ ((cfg0.win 3).blk t).view.set := by
  have i0 : (i 0).val < 4 := (i 0).isLt
  have i1 : (i 1).val < 4096 := (i 1).isLt
  have i2 : (i 2).val < 512 := (i 2).isLt
  have hN : cfg0.N = 128 := N_0
  let t : Fin cfg0.N := ⟨32 * (i 0).val + 8 * ((i 2).val / 128) + (i 1).val / 512, by omega⟩
  have ht : t.val = 32 * (i 0).val + 8 * ((i 2).val / 128) + (i 1).val / 512 := rfl
  refine ⟨t, flush0_3 t, ?_⟩
  obtain ⟨-, -, -, ⟨e0, e1, e2⟩, -⟩ := idx_facts t
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 128 ≤ (i 2).val ∧ (i 2).val < win0_3.index t (2 : Fin 3) * 128 + 128; omega

/-- The result array ends at the formula. -/
theorem final (O : Ok m c) : (dats m 0 c).arrAt 3 cfg0.N = G m c :=
  (dats m 0 c).arrAt_eq_of_cover 3 (G m c) (fun t _ => flushed_eq O t) fun i => cover i

end Cert.StickIdeal.Sb

end
-- ==== Proof.StickRef.lean ====
module

public import proofs.«01_k».proof.Proof.Gen.StickReferenceIdeal
public import proofs.«01_k».proof.Proof.Gen.StickReferenceIdeal.Run
public import proofs.«01_k».proof.Proof.Gen.StickReferenceIdeal.Read
public import Idealize.ShloMosaic.Lib.Quiescent

@[expose] public section

noncomputable section

namespace Cert.StickReferenceIdeal.Sb

open Cert.StickReferenceIdeal Cert.StickReferenceIdeal.Gen
open Idealize.ShloMosaic Idealize.ShloMosaic.TcCoe Idealize.SL.Sem

variable {F : FTy → Type} [FloatOps F]

/-- The reference runs, leaves its arguments and has no counter to leave. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2, sem_eq_zero_of_no_sems (by decide) r.2⟩) (Value.run m ρ)

end Cert.StickReferenceIdeal.Sb

end
-- ==== Proof.StickSum.lean ====
module

public import Idealize.ShloMosaic.Lib.Pointwise
public import Idealize.ShloMosaic.Lib.Pointwise.Index
public import Idealize.ShloMosaic.PureOps.Ideal.Laws

@[expose] public section

set_option maxRecDepth 65536

noncomputable section

/-! A sum over the window that reaches from an entry to the end of the last axis. -/

namespace Cert.StickIdeal.Sb

open Idealize.ShloMosaic

/-- The window. -/
abbrev Wd : Shape := ⟨4, ![1, 1, 1, 4096]⟩

theorem Wd_numel : Wd.numel = 4096 := by decide

/-- The window's entries, by number. -/
theorem Wd_symm (n : Fin Wd.numel) (a : Fin 4) : (Wd.rowMajor.symm n a).val = if a = 3 then n.val else 0 := by
  have hz : ∀ a : Fin 4, a ≠ 3 → (Wd.rowMajor.symm n a).val = 0 := fun a ha => by
    have h := (Wd.rowMajor.symm n a).isLt
    have e : Wd.size a = 1 := by fin_cases a <;> first | rfl | exact absurd rfl ha
    omega
  split
  · next h3 =>
    subst h3
    have h := congrArg Fin.val (Wd.rowMajor.apply_symm_apply n)
    rw [Shape.rowMajor_val_four, hz 0 (by decide), hz 1 (by decide), hz 2 (by decide)] at h
    simpa using h
  · next h3 => exact hz a h3

theorem foldl_sum {n : ℕ} (f : Fin n → EReal) : ∀ v : EReal, (List.finRange n).foldl (fun r k => r + f k) v = v + ∑ k, f k := by
  intro v
  rw [← List.sum_ofFn, List.ofFn_eq_map]
  generalize List.finRange n = L
  induction L generalizing v with
  | nil => simp
  | cons a L ih => rw [List.foldl_cons, ih, List.map_cons, List.sum_cons, add_assoc]

/-- The array's shape. -/
abbrev Sh : Shape := ⟨4, ![4, 8, 4096, 4096]⟩

section
variable {s t u : Shape} {w st lo hi : Fin s.rank → ℕ} (x : FVec Ideal s .f32) (h : s.ReduceWindows w st lo hi t)

/-- What a window's entry adds. -/
def tm (i : t.Idx) (n : Fin (Shape.mk s.rank w).numel) : EReal :=
  let p (a : Fin s.rank) : ℕ := (i (a.cast h.1.symm)).val * st a + ((Shape.mk s.rank w).rowMajor.symm n a).val
  if hin : ∀ a, lo a ≤ p a ∧ p a - lo a < s.size a then x (fun a => ⟨p a - lo a, (hin a).2⟩) else 0

theorem window_sum (init : FVec Ideal u .f32) (hu : 0 < u.numel) (h0 : init (Shape.Idx.first hu) = 0) (i : t.Idx) :
    (Host.reduceWindowAdd w st lo hi x init h hu : t.Idx → EReal) i = ∑ n, tm x h i n := by
  have hw : ∀ (v : EReal) (hp : 0 < (⟨0, ![]⟩ : Shape).numel), v = 0 →
      Host.reduceWindow (· + ·) w st lo hi (x : s.Idx → EReal) (fun _ : (⟨0, ![]⟩ : Shape).Idx => v) h hp i
        = (List.finRange (Shape.mk s.rank w).numel).foldl (fun r n => r + tm x h i n) 0 := fun v hp hv => by
    subst hv
    unfold Host.reduceWindow tm
    dsimp only
    refine congrArg (fun f => List.foldl f 0 _) (funext fun r => funext fun n => congrArg (r + ·) ?_)
    split <;> rfl
  refine (hw (init (Shape.Idx.first hu)) (by decide) h0).trans ?_
  rw [foldl_sum, zero_add]
end

section
variable (x : FVec Ideal Sh .f32) (h : Sh.ReduceWindows ![1, 1, 1, 4096] ![1, 1, 1, 1] ![0, 0, 0, 0] ![0, 0, 0, 4095] Sh) (b : Fin 4) (g : Fin 8) (Q j : Fin 4096)

theorem tm_eq (n : Fin Wd.numel) : tm x h (ix4 b g Q j) n = if j.val + n.val < 4096 then x (ix4 b g Q ⟨(j.val + n.val) % 4096, Nat.mod_lt _ (by decide)⟩) else 0 := by
  unfold tm
  dsimp only
  have w0 := Wd_symm n 0
  have w1 := Wd_symm n 1
  have w2 := Wd_symm n 2
  have w3 := Wd_symm n 3
  simp only [if_true, show (0 : Fin 4) ≠ 3 by decide, show (1 : Fin 4) ≠ 3 by decide, show (2 : Fin 4) ≠ 3 by decide, if_false] at w0 w1 w2 w3
  by_cases hn : j.val + n.val < 4096
  · rw [if_pos hn, dif_pos]
    · refine congrArg x (funext fun a => Fin.ext ?_)
      match a with
      | ⟨0, _⟩ => show b.val * 1 + (Wd.rowMajor.symm n 0).val - 0 = b.val; omega
      | ⟨1, _⟩ => show g.val * 1 + (Wd.rowMajor.symm n 1).val - 0 = g.val; omega
      | ⟨2, _⟩ => show Q.val * 1 + (Wd.rowMajor.symm n 2).val - 0 = Q.val; omega
      | ⟨3, _⟩ => show j.val * 1 + (Wd.rowMajor.symm n 3).val - 0 = (j.val + n.val) % 4096; omega
    · intro a
      match a with
      | ⟨0, _⟩ => show 0 ≤ b.val * 1 + (Wd.rowMajor.symm n 0).val ∧ b.val * 1 + (Wd.rowMajor.symm n 0).val - 0 < 4; omega
      | ⟨1, _⟩ => show 0 ≤ g.val * 1 + (Wd.rowMajor.symm n 1).val ∧ g.val * 1 + (Wd.rowMajor.symm n 1).val - 0 < 8; omega
      | ⟨2, _⟩ => show 0 ≤ Q.val * 1 + (Wd.rowMajor.symm n 2).val ∧ Q.val * 1 + (Wd.rowMajor.symm n 2).val - 0 < 4096; omega
      | ⟨3, _⟩ => show 0 ≤ j.val * 1 + (Wd.rowMajor.symm n 3).val ∧ j.val * 1 + (Wd.rowMajor.symm n 3).val - 0 < 4096; omega
  · rw [if_neg hn, dif_neg]
    intro hin
    have h3 : j.val * 1 + (Wd.rowMajor.symm n 3).val - 0 < 4096 := (hin 3).2
    omega

theorem suffix_sum {u : Shape} (init : FVec Ideal u .f32) (hu : 0 < u.numel) (h0 : init (Shape.Idx.first hu) = 0) :
    (Host.reduceWindowAdd ![1, 1, 1, 4096] ![1, 1, 1, 1] ![0, 0, 0, 0] ![0, 0, 0, 4095] x init h hu : Sh.Idx → EReal) (ix4 b g Q j)
      = ∑ k ∈ Finset.Ico j.val 4096, x (ix4 b g Q ⟨k % 4096, Nat.mod_lt _ (by decide)⟩) := by
  refine (window_sum x h init hu h0 _).trans ((Finset.sum_congr rfl fun n _ => tm_eq x h b g Q j n).trans ?_)
  rw [Fin.sum_univ_eq_sum_range (fun n => if j.val + n < 4096 then x (ix4 b g Q ⟨(j.val + n) % 4096, Nat.mod_lt _ (by decide)⟩) else (0 : EReal)) Wd.numel, Wd_numel,
    ← Finset.sum_filter, Finset.sum_Ico_eq_sum_range]
  refine Finset.sum_congr (Finset.ext fun n => ?_) fun _ _ => rfl
  rw [Finset.mem_filter, Finset.mem_range, Finset.mem_range]
  omega
end

end Cert.StickIdeal.Sb

end
-- ==== Proof.StickRefRead.lean ====
module

public import proofs.«01_k».proof.Proof.StickRef
public import proofs.«01_k».proof.Proof.StickMath
public import proofs.«01_k».proof.Proof.StickSum
public import Idealize.ShloMosaic.Lib.Pointwise
public import Idealize.ShloMosaic.Lib.WordCmp

@[expose] public section

set_option maxRecDepth 65536

noncomputable section

/-! The reference's result read at an index: the formula. -/

namespace Cert.StickReferenceIdeal.Sb

open Cert.StickReferenceIdeal Cert.StickReferenceIdeal.Read Cert.StickReferenceIdeal.Gen
open Idealize.ShloMosaic
open Cert.StickIdeal.Sb
open Cert.KernelIdeal.Fox (coe_sum)

variable (x0 x1 x2 : (⟨S4x4096x512, .f32⟩ : BufTy).Contents (Elt Ideal))

/-- An argument by its three coordinates. -/
abbrev ent (x : S4x4096x512.Idx → EReal) (b : Fin 4) (s : Fin 4096) (l : Fin 512) : EReal := x (ix3 b s l)

theorem lt_sel {α : Type} {a b : ℕ} (ha : a < 2 ^ 31) (hb : b < 2 ^ 31) (x y : α) :
    Scalar.select (IntOp.cmpi CmpIPredicate.slt (BitVec.ofNat 32 a) (BitVec.ofNat 32 b)) x y = if a < b then x else y := by
  rw [WordCmp.cmpi_slt_ofNat ha hb]
  by_cases h : a < b <;> simp [h, Scalar.select]

theorem eighth : Ideal.ofBits FTy.f32 1040187392#32 = ((1 / 8 : ℝ) : EReal) := by
  simp [Ideal.ofBits, Ideal.ieee, -EReal.coe_mul]; norm_num

/-- The arguments the scores are made of are finite. -/
structure Ok : Prop where
  q : ∀ b s l, ∃ x : ℝ, ent x0 b s l = (x : EReal)
  k : ∀ b s l, ∃ x : ℝ, ent x1 b s l = (x : EReal)

variable {x0 x1 x2}

/-- Scores. -/
theorem v8_apply (O : Ok x0 x1) (b : Fin 4) (h : Fin 8) (Q j : Fin 4096) :
    (val_main_v8 x0 x1 : S4x8x4096x4096.Idx → EReal) (ix4 b h Q j) = ((rs (ent x0) (ent x1) b Q h j.val : ℝ) : EReal) := by
  pointwise [val_main_v8, val_main_v7, val_main_cst, val_main_v6, val_main_v3, val_main_v2, val_main_v1, val_main_v0]
  have e1 : ∀ d : Fin 64, ent x0 b Q ⟨h.val * 64 + d.val, by omega⟩ * ent x1 b j ⟨h.val * 64 + d.val, by omega⟩
      = (((ent x0 b Q ⟨h.val * 64 + d.val, by omega⟩).toReal * (ent x1 b j ⟨h.val * 64 + d.val, by omega⟩).toReal : ℝ) : EReal) := fun d => by
    rw [toReal_of (O.q _ _ _), toReal_of (O.k _ _ _), ← EReal.coe_mul, EReal.toReal_coe, EReal.toReal_coe]
  refine (congrArg₂ (HMul.hMul : EReal → EReal → EReal) ((Finset.sum_congr rfl fun d _ => e1 d).trans (coe_sum Finset.univ _)) eighth).trans ?_
  rw [← EReal.coe_mul]
  unfold rs
  have hj : j.val % 4096 = j.val := by omega
  simp only [hj]

/-- The softplus of a score, -/
theorem keep_apply (O : Ok x0 x1) (b : Fin 4) (h : Fin 8) (Q j : Fin 4096) :
    (val_main_v17 x0 x1 : S4x8x4096x4096.Idx → EReal) (ix4 b h Q j) = ((-P (rs (ent x0) (ent x1) b Q h j.val) : ℝ) : EReal) := by
  pointwise [val_main_v17, val_main_call0_v1, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst, val_main_call0_v0, val_main_v16]
  rw [v8_apply O]
  rw [if_neg (not_not.2 rfl), neg_neg]
  exact (congrArg (fun x : EReal => -x) (softplus_real _)).trans (EReal.coe_neg _).symm

/-- and that of its negation. -/
theorem own_apply (O : Ok x0 x1) (b : Fin 4) (h : Fin 8) (Q j : Fin 4096) :
    (val_main_v21 x0 x1 : S4x8x4096x4096.Idx → EReal) (ix4 b h Q j) = ((-P (-rs (ent x0) (ent x1) b Q h j.val) : ℝ) : EReal) := by
  pointwise [val_main_v21, val_main_call3_v1, val_main_call3_call0_v11, val_main_call3_call0_v10, val_main_call3_call0_v9, val_main_call3_call0_v8, val_main_call3_call0_v7, val_main_call3_call0_v6, val_main_call3_call0_v5, val_main_call3_call0_v4, val_main_call3_call0_v3, val_main_call3_call0_v2, val_main_call3_call0_v1, val_main_call3_call0_v0, val_main_call3_call0_cst, val_main_call3_v0]
  rw [v8_apply O, if_neg (not_not.2 rfl), ← EReal.coe_neg]
  exact (congrArg (fun x : EReal => -x) (softplus_real _)).trans (EReal.coe_neg _).symm

/-- The same with the keys from the query on left out, -/
theorem v18_apply (O : Ok x0 x1) (b : Fin 4) (h : Fin 8) (Q j : Fin 4096) :
    (val_main_v18 x0 x1 : S4x8x4096x4096.Idx → EReal) (ix4 b h Q j) = ((-S (rs (ent x0) (ent x1) b Q h) Q.val j.val : ℝ) : EReal) := by
  pointwise [val_main_v18, val_main_call1_v1, val_main_call1_v2, val_main_call1_v0, val_main_cst_0, val_main_v15, val_main_v14, val_main_v13, val_main_v12, val_main_v11, val_main_v10, val_main_v9]
  rw [lt_sel (by omega) (by omega), keep_apply O]
  unfold S
  split
  · rfl
  · rw [neg_zero]
    exact Ideal.ofBits_zero .f32

/-- summed over the later keys. -/
theorem v19_apply (O : Ok x0 x1) (b : Fin 4) (h : Fin 8) (Q j : Fin 4096) :
    (val_main_v19 x0 x1 : S4x8x4096x4096.Idx → EReal) (ix4 b h Q j) = ((-Cert.StickIdeal.Sb.T (rs (ent x0) (ent x1) b Q h) Q.val j.val : ℝ) : EReal) := by
  have h18 := v18_apply O b h Q
  unfold val_main_v19
  generalize val_main_v18 x0 x1 = y at h18 ⊢
  refine (suffix_sum y _ b h Q j (val_main_call2_v0 (F := Ideal)) h_S_ ?_).trans ?_
  · exact Ideal.ofBits_zero .f32
  · refine (Finset.sum_congr rfl fun k _ => h18 ⟨k % 4096, Nat.mod_lt _ (by decide)⟩).trans ?_
    rw [coe_sum, Finset.sum_neg_distrib]
    unfold Cert.StickIdeal.Sb.T
    congr 2
    refine Finset.sum_congr rfl fun k hk => ?_
    exact congrArg (S _ _) (Nat.mod_eq_of_lt (Finset.mem_Ico.1 hk).2)

/-- The weights, -/
theorem v24_apply (O : Ok x0 x1) (b : Fin 4) (h : Fin 8) (Q j : Fin 4096) :
    (val_main_v24 x0 x1 : S4x8x4096x4096.Idx → EReal) (ix4 b h Q j) = ((W (rs (ent x0) (ent x1) b Q h) Q.val j.val : ℝ) : EReal) := by
  pointwise [val_main_v24, val_main_call4_v1, val_main_call4_v2, val_main_call4_v0, val_main_cst_1, val_main_v23, val_main_v22, val_main_v20, val_main_v15, val_main_v14, val_main_v13, val_main_v12, val_main_v11, val_main_v10, val_main_v9]
  rw [lt_sel (by omega) (by omega), own_apply O, v19_apply O, v18_apply O]
  split
  · next hj =>
    rw [show S (rs (ent x0) (ent x1) b Q h) Q.val j.val = P (rs (ent x0) (ent x1) b Q h j.val) from if_pos hj]
    exact ref_wgt _ _ _ hj j.isLt
  · next hj =>
    unfold W
    rw [if_neg hj]
    exact Ideal.ofBits_zero .f32

/-- and the result. -/
theorem v28_apply (O : Ok x0 x1) (b : Fin 4) (Q : Fin 4096) (l : Fin 512) :
    (val_main_v28 x0 x1 x2 : S4x4096x512.Idx → EReal) (ix3 b Q l) = sb (ent x0) (ent x1) (ent x2) b Q l := by
  pointwise [val_main_v28, val_main_v27, val_main_v26, val_main_v25, val_main_v5, val_main_v4]
  unfold sb
  rw [Finset.sum_range]
  refine Finset.sum_congr rfl fun j _ => ?_
  rw [v24_apply O]
  have hj : j.val % 4096 = j.val := by omega
  simp only [hj]

end Cert.StickReferenceIdeal.Sb

end
-- ==== Proof.StickTie.lean ====
module

public import proofs.«01_k».proof.Pre_bounded6
public import proofs.«01_k».proof.Defs
public import proofs.«01_k».proof.Proof.FoxTie
public import proofs.«01_k».proof.Proof.StickFinal
public import proofs.«01_k».proof.Proof.StickRefRead
public import proofs.«01_k».proof.Proof.Gen.Stick

@[expose] public section

set_option maxRecDepth 65536

noncomputable section

/-! The claims on stick-breaking attention. -/

namespace Cert.Pre_bounded6.Sb

open Cert.Pre_bounded6 Idealize.ShloMosaic
open Cert.StickIdeal.Sb (rs)
open Cert.StickReferenceIdeal.Sb (ent)

/-- The shape relations of the precondition's operations. -/
instance facts : Cert.Pre_bounded6.Facts where
  shapeCasts_S4x4096x512_S4x4096x8x64 := by decide
  transposes_S4x4096x8x64_S4x8x4096x64_0_2_1_3 := by decide
  bcast_S_S4x8x4096x4096 := by decide
  bcast_S_S4x4096x512 := by decide
  reducesTo_S4x4096x512_S_d0_1_2 := by decide
  h_S_ := by decide
  reducesTo_S4x8x4096x4096_S_d0_1_2_3 := by decide
  dot_S4x8x4096x64_S4x8x4096x64_S4x8x4096x4096_3_3_2_2_01_01_wf := by decide

theorem ofBits_bound : Ideal.ofBits .f32 0x42300000#32 = ((44 : ℝ) : EReal) := by
  simp [Ideal.ofBits, Ideal.ieee, -EReal.coe_mul]
  norm_num

theorem lt_of_olt (x : ℝ) (h : Ideal.cmp .olt (x : EReal) (Ideal.ofBits .f32 0x42300000#32) = 1#1) : x < 44 := by
  rw [ofBits_bound] at h
  by_contra hn
  have : ¬ (x : EReal) < ((44 : ℝ) : EReal) := fun hl => hn (EReal.coe_lt_coe_iff.1 hl)
  simp [Ideal.cmp, this] at h

/-- What the precondition says: queries and keys have real entries, and every score is below the bound. -/
theorem bounded (x0 x1 x2 : FVec Ideal S4x4096x512 .f32) (j : S_.Idx) (h : fn (F := Ideal) x0 x1 x2 j = 1#1) :
    Cert.StickReferenceIdeal.Sb.Ok x0 x1 ∧ ∀ b Q g k, rs (ent x0) (ent x1) b Q g k < 44 := by
  haveI : Subsingleton S_.Idx := ⟨fun a b => funext fun k => k.elim0⟩
  obtain ⟨h01, h2⟩ := IntOp.andi_eq_one.1 h
  obtain ⟨h0, h1⟩ := IntOp.andi_eq_one.1 h01
  have O : Cert.StickReferenceIdeal.Sb.Ok x0 x1 :=
    ⟨fun b s l => Cert.Pre_finite.Fox.reals_of_all x0 _ _ _ j h0 (ix3 b s l), fun b s l => Cert.Pre_finite.Fox.reals_of_all x1 _ _ _ j h1 (ix3 b s l)⟩
  refine ⟨O, fun b Q g k => ?_⟩
  have e := Host.reduce_andi_all _ _ _ _ j h2 (ix4 b g Q ⟨k % 4096, Nat.mod_lt _ (by decide)⟩)
  have e' : Ideal.cmp .olt (Cert.StickReferenceIdeal.Read.val_main_v8 (F := Ideal) x0 x1 (ix4 b g Q ⟨k % 4096, Nat.mod_lt _ (by decide)⟩)) (Ideal.ofBits .f32 0x42300000#32) = 1#1 := e
  rw [Cert.StickReferenceIdeal.Sb.v8_apply O] at e'
  have r := lt_of_olt _ e'
  unfold rs at r ⊢
  simpa only [Nat.mod_mod] using r

end Cert.Pre_bounded6.Sb

namespace Cert.StickTie

open Idealize.ShloMosaic Idealize.ShloMosaic.TcCoe Idealize.SL.Sem

/-- The two programs' kernel bodies are one, -/
theorem bodies_eq : Cert.StickIdeal.defs₀ (F := Bits) = Cert.Stick.defs₀ := by
  unfold Cert.StickIdeal.defs₀ Cert.Stick.defs₀
  refine congrArg Defs.onTc ?_
  funext l a
  match l, a with
  | ⟨0, _⟩, (t, s) => rfl

/-- and with them all that the two programs may call. -/
theorem calls_eq : Cert.StickIdeal.defs (F := Bits) = Cert.Stick.defs := by
  unfold Cert.StickIdeal.defs Cert.Stick.defs
  exact congrArg (Pipeline.defs _) bodies_eq

/-- The kernel runs on machine words, -/
theorem frame : Cert.quiescent_Stick := fun m ρ _ => by
  have h := Cert.StickIdeal.Sb.frame (F := Bits) m ρ
  rw [calls_eq] at h
  exact h

/-- and on the extended reals. -/
theorem ideal_frame : Cert.quiescent_StickIdeal := fun m ρ _ => Cert.StickIdeal.Sb.frame m ρ
theorem ideal_frame' : Cert.quiescent_StickIdeal_pre_bounded6 := fun m ρ _ => Cert.StickIdeal.Sb.frame m ρ

/-- The reference runs, leaves its arguments and has no counter to leave. -/
theorem reference_frame : Cert.quiescent_StickReferenceIdeal := fun m ρ _ => Cert.StickReferenceIdeal.Sb.frame m ρ
theorem reference_frame' : Cert.quiescent_StickReferenceIdeal_pre_bounded6 := fun m ρ _ => Cert.StickReferenceIdeal.Sb.frame m ρ

/-- The precondition in the kernel's memory is what the value theorem asks for. -/
theorem ok (m : (ℓ : Loc Cert.StickIdeal.nD Cert.StickIdeal.τ Cert.StickIdeal.sig) → Buf (Elt Ideal) ℓ)
    (h : Cert.Pre_StickIdeal_bounded6 m) (c : Dev Cert.StickIdeal.nD) : Cert.StickIdeal.Sb.Ok m c := by
  obtain ⟨O, hb⟩ := Cert.Pre_bounded6.Sb.bounded _ _ _ (fun k => k.elim0) (congrFun (h c) _)
  exact ⟨O.q, O.k, hb⟩

/-- The kernel's run leaves the formula in its result. -/
theorem kernel_run (m : (ℓ : Loc Cert.StickIdeal.nD Cert.StickIdeal.τ Cert.StickIdeal.sig) → Buf (Elt Ideal) ℓ)
    (g : Dev Cert.StickIdeal.nD → PrngReg) (h : Cert.Pre_StickIdeal_bounded6 m) :
    θ_run (Cert.StickIdeal.defs (F := Ideal)) (onTc (τ := Cert.StickIdeal.τ) (Cert.StickIdeal.main (F := Ideal))) ⟨m, fun _ => 0, g⟩ (fun r => ∀ c : Dev Cert.StickIdeal.nD,
      r.2.mem ((c.tc : Thread Cert.StickIdeal.nD Cert.StickIdeal.τ).loc Cert.StickIdeal.main_v7) = Cert.StickIdeal.Sb.G m c) :=
  (θ_run _ _ _).mono (fun r hr c => ((hr c).1 3).trans (Cert.StickIdeal.Sb.final (ok m h c))) (Cert.StickIdeal.Sb.run_main m g)

/-- The reference's result is the formula in its own memory. -/
theorem reference_eq (m' : (ℓ : Loc Cert.StickReferenceIdeal.nD Cert.StickReferenceIdeal.τ Cert.StickReferenceIdeal.sig) → Buf (Elt Ideal) ℓ) (c : Dev Cert.StickReferenceIdeal.nD)
    (O : Cert.StickReferenceIdeal.Sb.Ok (m' ((c.tc : Thread Cert.StickReferenceIdeal.nD Cert.StickReferenceIdeal.τ).loc Cert.StickReferenceIdeal.main_arg0))
      (m' ((c.tc : Thread Cert.StickReferenceIdeal.nD Cert.StickReferenceIdeal.τ).loc Cert.StickReferenceIdeal.main_arg1))) :
    (Cert.StickReferenceIdeal.Value.res_main_v28 m' c : Cert.StickReferenceIdeal.S4x4096x512.Idx → EReal)
      = fun i => Cert.StickIdeal.Sb.sb (Cert.StickReferenceIdeal.Sb.ent (m' ((c.tc : Thread Cert.StickReferenceIdeal.nD Cert.StickReferenceIdeal.τ).loc Cert.StickReferenceIdeal.main_arg0)))
          (Cert.StickReferenceIdeal.Sb.ent (m' ((c.tc : Thread Cert.StickReferenceIdeal.nD Cert.StickReferenceIdeal.τ).loc Cert.StickReferenceIdeal.main_arg1)))
          (Cert.StickReferenceIdeal.Sb.ent (m' ((c.tc : Thread Cert.StickReferenceIdeal.nD Cert.StickReferenceIdeal.τ).loc Cert.StickReferenceIdeal.main_arg2))) (i 0) (i 1) (i 2) := by
  refine funext fun i => ?_
  rw [Cert.StickReferenceIdeal.Read.val_main_v28_eq m' c]
  have h := Cert.StickReferenceIdeal.Sb.v28_apply (x2 := m' ((c.tc : Thread Cert.StickReferenceIdeal.nD Cert.StickReferenceIdeal.τ).loc Cert.StickReferenceIdeal.main_arg2)) O (i 0) (i 1) (i 2)
  rw [← eq_ix3 i] at h
  exact h

/-- From equal arguments the two programs end with equal results. -/
theorem algebraic : Cert.algebraic_StickIdeal_StickReferenceIdeal_pre_bounded6 := by
  intro m g m' g' hp hargs
  refine ⟨fun c => Cert.StickIdeal.Sb.G m c, ?_, ?_⟩
  · exact (θ_run _ _ _).mono (fun r hr c => ⟨hr.1 c, hr.2.1 c⟩) (θ_run_and (kernel_run m g hp) (Cert.StickIdeal.Sb.frame m g))
  · refine (θ_run _ _ _).mono (fun r hr c => ⟨?_, (hr c).2⟩) (Cert.StickReferenceIdeal.Value.run m' g')
    obtain ⟨e0, e1, e2⟩ := hargs c
    obtain ⟨O, -⟩ := Cert.Pre_bounded6.Sb.bounded _ _ _ (fun k => k.elim0) (congrFun (hp c) _)
    rw [← e0, ← e1] at O
    refine (hr c).1.trans ((reference_eq m' c O).trans ?_)
    rw [e0, e1, e2]
    rfl

end Cert.StickTie

end
-- ==== Proof.ConvBody.lean ====
module

public import proofs.«01_k».proof.Proof.Gen.ConvIdeal.Value
public import proofs.«01_k».proof.Proof.FfnHost
public import Idealize.ShloMosaic.Lib.Pointwise
public import Idealize.ShloMosaic.Lib.Pipeline.ValueKit

@[expose] public section

set_option maxRecDepth 65536

noncomputable section

/-! What a grid point of the convolution leaves in its result block. -/

namespace Cert.ConvIdeal.Cv

open Cert.ConvIdeal Cert.ConvIdeal.Gen
open Idealize.ShloMosaic Idealize.ShloMosaic.TcCoe

theorem pay1_apply (v34 : FVec Ideal S512x1024 .f32) (v35 : Vec Ideal S1x1024 .f32) (r : Fin 512) (l : Fin 1024) :
    (k0_pay1 v34 v35 : S1x512x1024.Idx → EReal) (ix3 0 r l) = v34 (ix2 r l) * v35 (ix2 0 l) := by
  pointwise [k0_pay1]

/-- A token of the sequence, so many before a given one; zero before the first. -/
def tap (x : S4x4096x1024.Idx → EReal) (b : Fin 4) (s : Fin 4096) (l : Fin 1024) (k : ℕ) : EReal :=
  if k ≤ s.val then x (ix3 b ⟨s.val - k, by omega⟩ l) else 0

/-- The convolution over the last four tokens. -/
def cvs (x : S4x4096x1024.Idx → EReal) (w : S4x1024.Idx → EReal) (b : Fin 4) (s : Fin 4096) (l : Fin 1024) : EReal :=
  tap x b s l 0 * w (ix2 3 l) + tap x b s l 1 * w (ix2 2 l) + tap x b s l 2 * w (ix2 1 l) + tap x b s l 3 * w (ix2 0 l)

/-- A number times its logistic. -/
def act (y : EReal) : EReal := y * Ideal.div 1 (1 + Ideal.exp (0 - y))

/-- The scale of a column. -/
def scl (l : Fin 1024) : EReal := if l.val < 512 then 1 else Ideal.ofBits .f32 0x3DB504F3#32

/-- The result. -/
def res (x : S4x4096x1024.Idx → EReal) (w : S4x1024.Idx → EReal) (b : Fin 4) (s : Fin 4096) (l : Fin 1024) : EReal :=
  act (cvs x w b s l) * scl l

/-- A token of a block, so many before a given one: in the block, or in the tokens that precede it. -/
theorem tap_block (x : S4x4096x1024.Idx → EReal) (b : Fin 4) (v1 : S1x8x1024.Idx → EReal) (v5 : S1x512x1024.Idx → EReal) (n : ℕ) (hn : n < 8)
    (h5 : ∀ (r : Fin 512) (l : Fin 1024), v5 (ix3 0 r l) = x (ix3 b ⟨n * 512 + r.val, by omega⟩ l))
    (h1 : 0 < n → ∀ (r : Fin 8) (l : Fin 1024), v1 (ix3 0 r l) = x (ix3 b ⟨n * 512 - 8 + r.val, by omega⟩ l))
    (r : Fin 512) (l : Fin 1024) (k : ℕ) (hk : k ≤ 3) (hk0 : 0 < k) :
    (if h : (8 + r.val + 520 - k) % 520 < 8 then
        Scalar.select (Scalar.cmpi CmpIPredicate.eq (BitVec.ofNat 32 n) 0#32) 0 (v1 (ix3 0 ⟨(8 + r.val + 520 - k) % 520, h⟩ l))
      else v5 (ix3 0 ⟨(8 + r.val + 520 - k) % 520 - 8, by omega⟩ l)) = tap x b ⟨n * 512 + r.val, by omega⟩ l k := by
  have e : (8 + r.val + 520 - k) % 520 = 8 + r.val - k := by omega
  unfold tap
  by_cases h : (8 + r.val + 520 - k) % 520 < 8
  · rw [dif_pos h]
    by_cases h0 : n = 0
    · subst h0
      rw [if_neg (by dsimp only; omega)]
      rfl
    · have hc : Scalar.cmpi CmpIPredicate.eq (BitVec.ofNat 32 n) 0#32 = 0#1 := by
        interval_cases n <;> first | exact absurd rfl h0 | rfl
      rw [if_pos (by dsimp only; omega), hc]
      refine (h1 (by omega) _ _).trans ?_
      refine congrArg (fun z => x (ix3 b z l)) (Fin.ext ?_)
      dsimp only
      omega
  · rw [dif_neg h, if_pos (by dsimp only; omega), h5]
    refine congrArg (fun z => x (ix3 b z l)) (Fin.ext ?_)
    dsimp only
    omega

theorem pay2_apply (i : grid0.Coords) (x : S4x4096x1024.Idx → EReal) (w : S4x1024.Idx → EReal) (b : Fin 4) (v1 : Vec Ideal S1x8x1024 .f32) (v5 : Vec Ideal S1x512x1024 .f32) (v8 v12 v17 v22 : Vec Ideal S1x1024 .f32)
    (hn : (i 1).val < 8)
    (h5 : ∀ (r : Fin 512) (l : Fin 1024), (v5 : S1x512x1024.Idx → EReal) (ix3 0 r l) = x (ix3 b ⟨(i 1).val * 512 + r.val, by omega⟩ l))
    (h1 : 0 < (i 1).val → ∀ (r : Fin 8) (l : Fin 1024), (v1 : S1x8x1024.Idx → EReal) (ix3 0 r l) = x (ix3 b ⟨(i 1).val * 512 - 8 + r.val, by omega⟩ l))
    (w3 : ∀ l, (v8 : S1x1024.Idx → EReal) (ix2 0 l) = w (ix2 3 l)) (w2 : ∀ l, (v12 : S1x1024.Idx → EReal) (ix2 0 l) = w (ix2 2 l))
    (w1 : ∀ l, (v17 : S1x1024.Idx → EReal) (ix2 0 l) = w (ix2 1 l)) (w0 : ∀ l, (v22 : S1x1024.Idx → EReal) (ix2 0 l) = w (ix2 0 l))
    (r : Fin 512) (l : Fin 1024) :
    (k0_pay2 i v1 v5 v8 v12 v17 v22 : S512x1024.Idx → EReal) (ix2 r l) = act (cvs x w b ⟨(i 1).val * 512 + r.val, by omega⟩ l) := by
  have e1 := tap_block x b v1 v5 _ hn h5 h1 r l 1 (by omega) (by omega)
  have e2 := tap_block x b v1 v5 _ hn h5 h1 r l 2 (by omega) (by omega)
  have e3 := tap_block x b v1 v5 _ hn h5 h1 r l 3 (by omega) (by omega)
  have e0 : (v5 : S1x512x1024.Idx → EReal) (ix3 0 r l) = tap x b ⟨(i 1).val * 512 + r.val, by omega⟩ l 0 := by
    rw [h5]
    unfold tap
    rw [if_pos (Nat.zero_le _)]
    rfl
  unfold act cvs
  rw [← e0, ← e1, ← e2, ← e3, ← w0, ← w1, ← w2, ← w3]
  pointwise [k0_pay2]

end Cert.ConvIdeal.Cv

end
-- ==== Proof.ConvFinal.lean ====
module

public import proofs.«01_k».proof.Proof.ConvBody
public import Idealize.ShloMosaic.Lib.StableHlo.ReadAt

@[expose] public section

set_option maxRecDepth 65536

noncomputable section

/-! The result array of the convolution after the run: the formula at every entry. -/

namespace Cert.ConvIdeal.Cv

open Cert.ConvIdeal Cert.ConvIdeal.Gen Cert.ConvIdeal.Value
open Idealize.ShloMosaic Idealize.ShloMosaic.TcCoe Idealize.SL.Sem
open Idealize.ShloMosaic.Pipeline (Dat)

variable (m : (ℓ : Loc nD τ sig) → Buf (Elt Ideal) ℓ) (c : Dev nD)

/-- The host's scale. -/
theorem Vs (l : Fin 1024) : (V m c main_v3 : S1x1024.Idx → EReal) (ix2 0 l) = scl l := by
  unfold V
  after_reads_at
  unfold scl
  by_cases h : l.val < 512
  · rw [if_pos h, dif_pos h]
    after_reads_at
  · rw [if_neg h, dif_neg h]
    after_reads_at

/-- Where each window's block lies. -/
theorem idx_facts : ∀ t : Fin cfg0.N,
    ((win0_0.index t (0 : Fin 3) = t.val / 8 ∧ win0_0.index t (1 : Fin 3) = t.val % 8) ∧ win0_0.index t (2 : Fin 3) = 0)
    ∧ ((win0_1.index t (0 : Fin 3) = t.val / 8 ∧ win0_1.index t (1 : Fin 3) = t.val % 8 * 64 - 1) ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ ((win0_4.index t (0 : Fin 3) = t.val / 8 ∧ win0_4.index t (1 : Fin 3) = t.val % 8) ∧ win0_4.index t (2 : Fin 3) = 0)
    ∧ (grid0.coords t 1).val = t.val % 8 :=
  (by decide +kernel : ∀ t : Fin grid0.N, _)

theorem t_lt (t : Fin cfg0.N) : t.val < 32 := lt_of_lt_of_eq t.isLt N_0

/-- A point's sequence. -/
def bt (t : Fin cfg0.N) : Fin 4 := ⟨t.val / 8, by have := t_lt t; omega⟩

/-- The two arguments. -/
abbrev xa : S4x4096x1024.Idx → EReal := m (c, Proc.tc.devRef main_arg0)
abbrev wa : S4x1024.Idx → EReal := m (c, Proc.tc.devRef main_arg1)

theorem iblk0 (t : Fin cfg0.N) (r : Fin 512) (l : Fin 1024) (q : Fin 4096) (hq : q.val = t.val % 8 * 512 + r.val) :
    (iblk m c 0 t : S1x512x1024.Idx → EReal) (ix3 0 r l) = xa m c (ix3 (bt t) q l) := by
  obtain ⟨⟨⟨h0, h1⟩, h2⟩, -⟩ := idx_facts t
  refine Eq.trans ?_ (congrFun (V_main_arg0 m c) _)
  unfold iblk
  rw [View.read_apply]
  show V m c main_arg0 _ = V m c main_arg0 _
  congr 1
  funext a
  apply Fin.ext
  match a with
  | ⟨0, _⟩ => show win0_0.index t (0 : Fin 3) * 1 + 1 * 0 = t.val / 8; rw [h0]; omega
  | ⟨1, _⟩ => show win0_0.index t (1 : Fin 3) * 512 + 1 * r.val = q.val; rw [h1]; omega
  | ⟨2, _⟩ => show win0_0.index t (2 : Fin 3) * 1024 + 1 * l.val = l.val; rw [h2]; omega

theorem iblk1 (t : Fin cfg0.N) (hp : 0 < t.val % 8) (r : Fin 8) (l : Fin 1024) (q : Fin 4096) (hq : q.val = t.val % 8 * 512 - 8 + r.val) :
    (iblk m c 1 t : S1x8x1024.Idx → EReal) (ix3 0 r l) = xa m c (ix3 (bt t) q l) := by
  obtain ⟨-, ⟨⟨h0, h1⟩, h2⟩, -⟩ := idx_facts t
  refine Eq.trans ?_ (congrFun (V_main_arg0 m c) _)
  unfold iblk
  rw [View.read_apply]
  show V m c main_arg0 _ = V m c main_arg0 _
  congr 1
  funext a
  apply Fin.ext
  match a with
  | ⟨0, _⟩ => show win0_1.index t (0 : Fin 3) * 1 + 1 * 0 = t.val / 8; rw [h0]; omega
  | ⟨1, _⟩ => show win0_1.index t (1 : Fin 3) * 8 + 1 * r.val = q.val; rw [h1]; omega
  | ⟨2, _⟩ => show win0_1.index t (2 : Fin 3) * 1024 + 1 * l.val = l.val; rw [h2]; omega

theorem iblk2 (t : Fin cfg0.N) (k : Fin 4) (l : Fin 1024) :
    (iblk m c 2 t : S4x1024.Idx → EReal) (ix2 k l) = wa m c (ix2 k l) := by
  obtain ⟨-, -, ⟨h0, h1⟩, -⟩ := idx_facts t
  refine Eq.trans ?_ (congrFun (V_main_arg1 m c) _)
  unfold iblk
  rw [View.read_apply]
  show V m c main_arg1 _ = V m c main_arg1 _
  congr 1
  funext a
  apply Fin.ext
  match a with
  | ⟨0, _⟩ => show win0_2.index t (0 : Fin 2) * 4 + 1 * k.val = k.val; rw [h0]; omega
  | ⟨1, _⟩ => show win0_2.index t (1 : Fin 2) * 1024 + 1 * l.val = l.val; rw [h1]; omega

theorem iblk3 (t : Fin cfg0.N) (l : Fin 1024) :
    (iblk m c 3 t : S1x1024.Idx → EReal) (ix2 0 l) = scl l := by
  obtain ⟨-, -, -, ⟨h0, h1⟩, -⟩ := idx_facts t
  refine Eq.trans ?_ (Vs m c l)
  unfold iblk
  rw [View.read_apply]
  show V m c main_v3 _ = V m c main_v3 _
  congr 1
  funext a
  apply Fin.ext
  match a with
  | ⟨0, _⟩ => show win0_3.index t (0 : Fin 2) * 1 + 1 * 0 = 0; rw [h0]
  | ⟨1, _⟩ => show win0_3.index t (1 : Fin 2) * 1024 + 1 * l.val = l.val; rw [h1]; omega

/-- A row of the weights, loaded alone. -/
theorem ld_row (x : Vec Ideal S4x1024 .f32) (k : Fin 4) {off : Fin 2 → ℕ} (h0 : off 0 = k.val) (h1 : off 1 = 0) (inb : ∀ a, off a + S1x1024.size a ≤ S4x1024.size a) (l : Fin 1024) :
    (View.ld x (Rect.unit (s := S4x1024) off S1x1024.size inb) : S1x1024.Idx → EReal) (ix2 0 l) = (x : S4x1024.Idx → EReal) (ix2 k l) := by
  refine congrArg (x : S4x1024.Idx → EReal) (funext fun a => Fin.ext ?_)
  match a with
  | ⟨0, _⟩ => show off 0 + 1 * 0 = k.val; rw [h0]; omega
  | ⟨1, _⟩ => show off 1 + 1 * l.val = l.val; rw [h1]; omega

/-- The block a point leaves, of the blocks it loads. -/
theorem out_apply (i : grid0.Coords) (x : S4x4096x1024.Idx → EReal) (w : S4x1024.Idx → EReal) (b : Fin 4)
    (x0 : Vec Ideal S1x512x1024 .f32) (x1 : Vec Ideal S1x8x1024 .f32) (x2 : Vec Ideal S4x1024 .f32) (x3 : Vec Ideal S1x1024 .f32) (hn : (i 1).val < 8)
    (h0 : ∀ (r : Fin 512) (l : Fin 1024), (x0 : S1x512x1024.Idx → EReal) (ix3 0 r l) = x (ix3 b ⟨(i 1).val * 512 + r.val, by omega⟩ l))
    (h1 : 0 < (i 1).val → ∀ (r : Fin 8) (l : Fin 1024), (x1 : S1x8x1024.Idx → EReal) (ix3 0 r l) = x (ix3 b ⟨(i 1).val * 512 - 8 + r.val, by omega⟩ l))
    (h2 : ∀ (k : Fin 4) (l : Fin 1024), (x2 : S4x1024.Idx → EReal) (ix2 k l) = w (ix2 k l))
    (h3 : ∀ l : Fin 1024, (x3 : S1x1024.Idx → EReal) (ix2 0 l) = scl l) (r : Fin 512) (l : Fin 1024) :
    (out0_4 i x0 x1 x2 x3 : S1x512x1024.Idx → EReal) (ix3 0 r l) = res x w b ⟨(i 1).val * 512 + r.val, by omega⟩ l := by
  unfold out0_4
  rw [View.canon_cons_unit_lit _ _ _ (by decide), View.ld_unit_lit _ x0 (by decide), View.ld_unit_lit _ x1 (by decide), View.ld_unit_lit _ x3 (by decide)]
  rw [pay1_apply]
  have w3 : ∀ l : Fin 1024, (View.ld x2 r0_2 : S1x1024.Idx → EReal) (ix2 0 l) = w (ix2 3 l) := fun l => (ld_row x2 3 (off := ![3, 0]) rfl rfl _ l).trans (h2 3 l)
  have w2 : ∀ l : Fin 1024, (View.ld x2 r0_3 : S1x1024.Idx → EReal) (ix2 0 l) = w (ix2 2 l) := fun l => (ld_row x2 2 (off := ![2, 0]) rfl rfl _ l).trans (h2 2 l)
  have w1 : ∀ l : Fin 1024, (View.ld x2 r0_4 : S1x1024.Idx → EReal) (ix2 0 l) = w (ix2 1 l) := fun l => (ld_row x2 1 (off := ![1, 0]) rfl rfl _ l).trans (h2 1 l)
  have w0 : ∀ l : Fin 1024, (View.ld x2 r0_5 : S1x1024.Idx → EReal) (ix2 0 l) = w (ix2 0 l) := fun l => (ld_row x2 0 (off := ![0, 0]) rfl rfl _ l).trans (h2 0 l)
  rw [pay2_apply i x w b x1 x0 (View.ld x2 r0_2) (View.ld x2 r0_3) (View.ld x2 r0_4) (View.ld x2 r0_5) hn h0 h1 w3 w2 w1 w0 r l]
  unfold res
  rw [h3]

/-- The block a point leaves. -/
theorem point (t : Fin cfg0.N) (r : Fin 512) (l : Fin 1024) (q : Fin 4096) (hq : q.val = t.val % 8 * 512 + r.val) :
    (out0_4 (grid0.coords t) (iblk m c 0 t) (iblk m c 1 t) (iblk m c 2 t) (iblk m c 3 t) : S1x512x1024.Idx → EReal) (ix3 0 r l) = res (xa m c) (wa m c) (bt t) q l := by
  obtain ⟨-, -, -, -, -, hg⟩ := idx_facts t
  have hl : (grid0.coords t 1).val < 8 := by omega
  refine (out_apply (grid0.coords t) (xa m c) (wa m c) (bt t) (iblk m c 0 t) (iblk m c 1 t) (iblk m c 2 t) (iblk m c 3 t) hl
    (fun r l => iblk0 m c t r l _ (by dsimp only; rw [hg])) (fun hp r l => iblk1 m c t (by omega) r l _ (by dsimp only; rw [hg]))
    (iblk2 m c t) (iblk3 m c t) r l).trans ?_
  refine congrArg (fun z => res (xa m c) (wa m c) (bt t) z l) (Fin.ext ?_)
  dsimp only
  omega

/-- The result array. -/
def G : Buf (Elt Ideal) ((c : Thread nD τ).loc main_v4) := fun i : S4x4096x1024.Idx => res (xa m c) (wa m c) (i 0) (i 1) (i 2)

theorem mem_blk (t : Fin cfg0.N) (i : S4x4096x1024.Idx) :
    i ∈ ((cfg0.win 4).blk t).view.set ↔ ∀ a : Fin 3, win0_4.index t a * S1x512x1024.size a ≤ (i a).val ∧ (i a).val < win0_4.index t a * S1x512x1024.size a + S1x512x1024.size a := by
  show i ∈ ((View.whole main_v4).slice (win0_4.rect t)).set ↔ _
  rw [View.set_slice_whole, Rect.mem_set_unit]
  exact Iff.rfl

theorem final : (dats m 0 c).arrAt 4 cfg0.N = G m c := by
  refine (dats m 0 c).arrAt_eq_of_cover 4 _ (fun t hf => ?_) fun i => ?_
  · rw [flushed4]
    obtain ⟨-, -, -, -, ⟨⟨h0, h1⟩, h2⟩, -⟩ := idx_facts t
    have ht := t_lt t
    funext y
    have hy0 : (y 0).val < 1 := (y 0).isLt
    have hy1 : (y 1).val < 512 := (y 1).isLt
    have hy2 : (y 2).val < 1024 := (y 2).isLt
    have hx : (cfg0.win 4).xinj (grid0.coords t) y = (ix3 0 ⟨(y 1).val, hy1⟩ ⟨(y 2).val, hy2⟩ : S1x512x1024.Idx) := by
      funext a
      match a with
      | ⟨0, _⟩ => exact Fin.ext (by show (y 0).val = 0; omega)
      | ⟨1, _⟩ => rfl
      | ⟨2, _⟩ => rfl
    refine (congrArg (out0_4 (grid0.coords t) (iblk m c 0 t) (iblk m c 1 t) (iblk m c 2 t) (iblk m c 3 t) : S1x512x1024.Idx → EReal) hx).trans ((point m c t _ _ ⟨t.val % 8 * 512 + (y 1).val, by omega⟩ rfl).trans ?_)
    show _ = G m c (((cfg0.win 4).blk t).view.emb y)
    unfold G
    refine congr (congr (congrArg (res (xa m c) (wa m c)) (Fin.ext ?_)) (Fin.ext ?_)) (Fin.ext ?_)
    · show t.val / 8 = win0_4.index t (0 : Fin 3) * 1 + 1 * (y 0).val
      rw [h0]; omega
    · show t.val % 8 * 512 + (y 1).val = win0_4.index t (1 : Fin 3) * 512 + 1 * (y 1).val
      rw [h1]; omega
    · show (y 2).val = win0_4.index t (2 : Fin 3) * 1024 + 1 * (y 2).val
      rw [h2]; omega
  · have hi0 : (i 0).val < 4 := (i 0).isLt
    have hi1 : (i 1).val < 4096 := (i 1).isLt
    have hi2 : (i 2).val < 1024 := (i 2).isLt
    have ht : (i 0).val * 8 + (i 1).val / 512 < cfg0.N := lt_of_lt_of_eq (by omega : (i 0).val * 8 + (i 1).val / 512 < 32) N_0.symm
    refine ⟨⟨(i 0).val * 8 + (i 1).val / 512, ht⟩, flush0_4 _, ?_⟩
    obtain ⟨-, -, -, -, ⟨⟨h0, h1⟩, h2⟩, -⟩ := idx_facts ⟨(i 0).val * 8 + (i 1).val / 512, ht⟩
    refine (mem_blk _ i).mpr fun a => ?_
    match a with
    | ⟨0, _⟩ => show win0_4.index _ (0 : Fin 3) * 1 ≤ (i 0).val ∧ (i 0).val < win0_4.index _ (0 : Fin 3) * 1 + 1; rw [h0]; dsimp only; omega
    | ⟨1, _⟩ => show win0_4.index _ (1 : Fin 3) * 512 ≤ (i 1).val ∧ (i 1).val < win0_4.index _ (1 : Fin 3) * 512 + 512; rw [h1]; dsimp only; omega
    | ⟨2, _⟩ => show win0_4.index _ (2 : Fin 3) * 1024 ≤ (i 2).val ∧ (i 2).val < win0_4.index _ (2 : Fin 3) * 1024 + 1024; rw [h2]; omega

end Cert.ConvIdeal.Cv

end
-- ==== Proof.ConvRefRead.lean ====
module

public import proofs.«01_k».proof.Proof.Gen.ConvReferenceIdeal.Read
public import proofs.«01_k».proof.Proof.ConvBody

@[expose] public section

set_option maxRecDepth 65536

noncomputable section

/-! The reference's convolution, entry by entry. -/

namespace Cert.ConvReferenceIdeal.Cv

open Cert.ConvReferenceIdeal Cert.ConvReferenceIdeal.Gen Cert.ConvReferenceIdeal.Read
open Idealize.ShloMosaic Idealize.ShloMosaic.TcCoe
open Cert.ConvIdeal.Cv (tap cvs act scl res)

variable (x0 : (⟨S4x4096x1024, .f32⟩ : BufTy).Contents (Elt Ideal)) (x1 : (⟨S4x1024, .f32⟩ : BufTy).Contents (Elt Ideal))

theorem pad_apply (b : Fin 4) (s : Fin 4099) (l : Fin 1024) :
    (val_main_v0 x0 : S4x4099x1024.Idx → EReal) (ix3 b s l) = if h : 3 ≤ s.val then x0 (ix3 b ⟨s.val - 3, by omega⟩ l) else 0 := by
  pointwise [val_main_v0, val_main_call0_v0, val_main_c]
  have z : (FloatOps.sitofp FTy.f32 (0#32 : BitVec 32) : Ideal FTy.f32) = (0 : EReal) := by
    show (((0#32 : BitVec 32).toInt : ℝ) : EReal) = 0
    rw [show (0#32 : BitVec 32).toInt = 0 from rfl, Int.cast_zero, EReal.coe_zero]
  by_cases h : 3 ≤ s.val
  · rw [dif_pos h, dif_pos ⟨h, by omega⟩]
  · rw [dif_neg h, dif_neg fun hh => h hh.1]
    exact z

/-- A tap read from the padded tokens. -/
theorem tap_apply (b : Fin 4) (s : Fin 4096) (l : Fin 1024) (k : ℕ) (hk : k ≤ 3) (q : Fin 4099) (hq : q.val = 3 - k + s.val) :
    (val_main_v0 x0 : S4x4099x1024.Idx → EReal) (ix3 b q l) = tap x0 b s l k := by
  rw [pad_apply]
  unfold tap
  by_cases h : k ≤ s.val
  · rw [dif_pos (by omega), if_pos h]
    refine congrArg (fun z => x0 (ix3 b z l)) (Fin.ext ?_)
    dsimp only
    omega
  · rw [dif_neg (by omega), if_neg h]

theorem v29_apply (b : Fin 4) (s : Fin 4096) (l : Fin 1024) :
    (val_main_v29 x0 x1 : S4x4096x1024.Idx → EReal) (ix3 b s l) = cvs x0 x1 b s l := by
  pointwise [val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_cst]
  rw [tap_apply x0 b s l 3 (by omega) _ (by dsimp only; omega), tap_apply x0 b s l 2 (by omega) _ (by dsimp only), tap_apply x0 b s l 1 (by omega) _ (by dsimp only),
    tap_apply x0 b s l 0 (by omega) _ (by dsimp only)]
  unfold cvs
  exact (add_comm _ _).trans ((congrArg (fun z : EReal => _ + z) ((add_comm _ _).trans (congrArg (fun z : EReal => _ + z) (add_comm _ _)))).trans (by rw [← add_assoc, ← add_assoc]))

theorem v30_apply (b : Fin 4) (s : Fin 4096) (l : Fin 1024) :
    (val_main_v30 x0 x1 : S4x4096x1024.Idx → EReal) (ix3 b s l) = act (cvs x0 x1 b s l) := by
  have h := v29_apply x0 x1 b s l
  rw [← h]
  pointwise [val_main_v30, val_main_call1_v5, val_main_call1_v4, val_main_call1_v3, val_main_call1_v2, val_main_call1_v1, val_main_call1_v0, val_main_call1_cst, val_main_call1_cst_0, act]
  rw [zero_sub]

theorem v36_apply (b : Fin 4) (s : Fin 4096) (l : Fin 1024) :
    (val_main_v36 x0 x1 : S4x4096x1024.Idx → EReal) (ix3 b s l) = res x0 x1 b s l := by
  have h := v30_apply x0 x1 b s l
  pointwise [val_main_v36, val_main_v35, val_main_v34, val_main_v33, val_main_v32, val_main_v31, val_main_cst_0]
  unfold res scl
  by_cases hl : l.val < 512
  · rw [dif_pos hl, if_pos hl, mul_one]
    exact h
  · rw [dif_neg hl, if_neg hl, ← h]
    refine congrArg (fun z => (val_main_v30 x0 x1 : S4x4096x1024.Idx → EReal) (ix3 b s z) * _) (Fin.ext ?_)
    dsimp only
    omega

end Cert.ConvReferenceIdeal.Cv

end
-- ==== Proof.ConvTie.lean ====
module

public import proofs.«01_k».proof.Defs
public import proofs.«01_k».proof.Proof.ConvFinal
public import proofs.«01_k».proof.Proof.ConvRefRead
public import proofs.«01_k».proof.Proof.Gen.ConvReferenceIdeal.Run
public import proofs.«01_k».proof.Proof.Gen.Conv.Frame
public import Idealize.ShloMosaic.Lib.Quiescent

@[expose] public section

set_option maxRecDepth 65536

noncomputable section

/-! The claims on the convolution before the matrix memory. -/

namespace Cert.ConvTie

open Idealize.ShloMosaic Idealize.ShloMosaic.TcCoe Idealize.SL.Sem

variable (m' : (ℓ : Loc Cert.ConvReferenceIdeal.nD Cert.ConvReferenceIdeal.τ Cert.ConvReferenceIdeal.sig) → Buf (Elt Ideal) ℓ) (c : Dev Cert.ConvReferenceIdeal.nD)

/-- The reference's result as the formula. -/
theorem ref : (Cert.ConvReferenceIdeal.Read.val_main_v36 (m' ((c.tc : Thread Cert.ConvReferenceIdeal.nD Cert.ConvReferenceIdeal.τ).loc Cert.ConvReferenceIdeal.main_arg0)) (m' ((c.tc : Thread Cert.ConvReferenceIdeal.nD Cert.ConvReferenceIdeal.τ).loc Cert.ConvReferenceIdeal.main_arg1)) : Cert.ConvReferenceIdeal.S4x4096x1024.Idx → EReal)
    = fun i => Cert.ConvIdeal.Cv.res (m' ((c.tc : Thread Cert.ConvReferenceIdeal.nD Cert.ConvReferenceIdeal.τ).loc Cert.ConvReferenceIdeal.main_arg0)) (m' ((c.tc : Thread Cert.ConvReferenceIdeal.nD Cert.ConvReferenceIdeal.τ).loc Cert.ConvReferenceIdeal.main_arg1)) (i 0) (i 1) (i 2) := by
  refine funext fun i => ?_
  have h := Cert.ConvReferenceIdeal.Cv.v36_apply (m' ((c.tc : Thread Cert.ConvReferenceIdeal.nD Cert.ConvReferenceIdeal.τ).loc Cert.ConvReferenceIdeal.main_arg0)) (m' ((c.tc : Thread Cert.ConvReferenceIdeal.nD Cert.ConvReferenceIdeal.τ).loc Cert.ConvReferenceIdeal.main_arg1)) (i 0) (i 1) (i 2)
  rw [← eq_ix3 i] at h
  exact h

/-- The reference runs, leaves its arguments and has no counter to leave. -/
theorem reference_frame : Cert.quiescent_ConvReferenceIdeal := fun m ρ _ =>
  (θ_run Cert.ConvReferenceIdeal.defs _ _).mono (fun r h => ⟨fun c => (h c).2, sem_eq_zero_of_no_sems (by decide) r.2⟩) (Cert.ConvReferenceIdeal.Value.run m ρ)

/-- The kernel runs on machine words, -/
theorem frame : Cert.quiescent_Conv := fun m ρ _ => Cert.Conv.Gen.frame m ρ

/-- and on the extended reals. -/
theorem ideal_frame : Cert.quiescent_ConvIdeal := fun m ρ _ => Cert.ConvIdeal.Gen.frame m ρ

/-- From equal arguments the two programs end with equal results. -/
theorem algebraic : Cert.algebraic_ConvIdeal_ConvReferenceIdeal := by
  intro m g m' g' _ hargs
  refine ⟨fun c => Cert.ConvIdeal.Cv.G m c, ?_, ?_⟩
  · exact (θ_run _ _ _).mono (fun r hr c => ⟨(hr c).1.trans (Cert.ConvIdeal.Cv.final m c), (hr c).2⟩) (Cert.ConvIdeal.Value.run_blocks m g)
  · refine (θ_run _ _ _).mono (fun r hr c => ⟨?_, (hr c).2⟩) (Cert.ConvReferenceIdeal.Value.run m' g')
    obtain ⟨e0, e1⟩ := hargs c
    refine (hr c).1.trans ((Cert.ConvReferenceIdeal.Read.val_main_v36_eq _ _).trans ((ref m' c).trans ?_))
    rw [e0, e1]
    rfl

end Cert.ConvTie

end
-- ==== Proof.PoolBody.lean ====
module

public import proofs.«01_k».proof.Proof.Gen.PoolIdeal.Value
public import proofs.«01_k».proof.Proof.FfnHost
public import Idealize.ShloMosaic.Lib.Pointwise
public import Idealize.ShloMosaic.Lib.Pipeline.ValueKit

@[expose] public section

set_option maxRecDepth 65536

noncomputable section

/-! What a grid point of the pooling and of the running sums leaves in a chunk of its result blocks. -/

namespace Cert.PoolIdeal.Pl

open Cert.PoolIdeal Cert.PoolIdeal.Gen
open Idealize.ShloMosaic Idealize.ShloMosaic.TcCoe

/-- The first chunk's tokens, after sixteen rows of zeros. -/
def ext0 (v45 : Vec Ideal S1x256x256 .f32) : FVec Ideal S272x256 .f32 :=
  concatenate S272x256 0 [⟨S16x256, broadcast S16x256 (Scalar.ofBits .f32 0x00000000#32 : Ideal .f32)⟩, ⟨S256x256, shapeCast S256x256 v45 shapeCasts_S1x256x256_S256x256⟩] concatenates_S16x256_S256x256_S272x256_d0

/-- Sums of two rows. -/
def s2 (e : FVec Ideal S272x256 .f32) : FVec Ideal S272x256 .f32 := addf e (dynamicRotate 0 1#32 none e rotates_S272x256_d0)

/-- Sums of four rows. -/
def s4 (e : FVec Ideal S272x256 .f32) : FVec Ideal S272x256 .f32 := addf (s2 e) (dynamicRotate 0 2#32 none (s2 e) rotates_S272x256_d0)

/-- Sums of eight rows. -/
def s8 (e : FVec Ideal S272x256 .f32) : FVec Ideal S272x256 .f32 := addf (s4 e) (dynamicRotate 0 4#32 none (s4 e) rotates_S272x256_d0)

/-- Sums of sixteen rows. -/
def s16 (e : FVec Ideal S272x256 .f32) : FVec Ideal S272x256 .f32 := addf (s8 e) (dynamicRotate 0 8#32 none (s8 e) rotates_S272x256_d0)

/-- The sums each lane takes. -/
def sel (g : IVec S1x256 32) (e : FVec Ideal S272x256 .f32) : FVec Ideal S272x256 .f32 :=
  select (broadcastTo S272x256 (shapeCast S1x256 (cmpi .eq g (broadcast S1x256 0#32)) shapeCasts_S1x256_S1x256) broadcasts_S1x256_S272x256) (s2 e)
    (select (broadcastTo S272x256 (shapeCast S1x256 (cmpi .eq g (broadcast S1x256 1#32)) shapeCasts_S1x256_S1x256) broadcasts_S1x256_S272x256) (s4 e)
      (select (broadcastTo S272x256 (shapeCast S1x256 (cmpi .eq g (broadcast S1x256 2#32)) shapeCasts_S1x256_S1x256) broadcasts_S1x256_S272x256) (s8 e) (s16 e)))

/-- A chunk's means less its tokens. -/
def pm (g w : IVec S1x256 32) (c : BitVec 32) (e : FVec Ideal S272x256 .f32) : FVec Ideal S256x256 .f32 :=
  subf (divf (extractStridedSlice S256x256 ![16, 0] (sel g e) slices_S272x256_o16_0_S256x256)
      (sitofp .f32 (minsi (broadcastTo S256x256 (addi (broadcast S256x1 c) (iota .tc S256x1 32 [0] iota_S256x1_d0_w32)) broadcasts_S256x1_S256x256) (broadcastTo S256x256 w broadcasts_S1x256_S256x256))))
    (extractStridedSlice S256x256 ![16, 0] e slices_S272x256_o16_0_S256x256)

/-- A chunk of the pooled result. -/
def och (g w : IVec S1x256 32) (c : BitVec 32) (e : FVec Ideal S272x256 .f32) (v83 : Vec Ideal S256x256 .bf16) (v86 : Vec Ideal S1x256 .f32) : FVec Ideal S1x256x256 .bf16 :=
  shapeCast S1x256x256 (truncf .bf16 (mulf (matmul dot_S256x256_S256x256_S256x256_1_0_0_1_n_n none (truncf .bf16 (pm g w c e) bitsLt_bf16_f32) (shapeCast S256x256 v83 shapeCasts_S256x256_S256x256 : FVec Ideal S256x256 .bf16) (constant S256x256 .f32 0x00000000#32))
      (broadcastTo S256x256 (shapeCast S1x256 v86 shapeCasts_S1x256_S1x256) broadcasts_S1x256_S256x256)) bitsLt_bf16_f32) shapeCasts_S256x256_S1x256x256

theorem pay67 (g w : IVec S1x256 32) (v45 : Vec Ideal S1x256x256 .f32) (v83 : Vec Ideal S256x256 .bf16) (v86 : Vec Ideal S1x256 .f32) :
    k0_pay7 (k0_pay6 g w v45 v83) v86 = och g w 1#32 (ext0 v45) v83 v86 := rfl

theorem pay14 (g w : IVec S1x256 32) (v : Vec Ideal S1x272x256 .f32) (v83 : Vec Ideal S256x256 .bf16) (v86 : Vec Ideal S1x256 .f32) :
    k0_pay14 g w (k0_pay11 v) (k0_pay12 v) (k0_pay13 v) v83 v86 = och g w 257#32 (k0_pay11 v) v83 v86 := rfl

/-- A sum of rows that end at a given one. -/
def ws (e : S272x256.Idx → EReal) (R : ℕ) (l : Fin 256) (n : ℕ) : EReal :=
  ∑ i ∈ Finset.range n, e (ix2 ⟨(R + 272 - i) % 272, Nat.mod_lt _ (by decide)⟩ l)

theorem ws_add (e : S272x256.Idx → EReal) (R : ℕ) (l : Fin 256) (m n : ℕ) (h : m + n ≤ 16) :
    ws e R l m + ws e ((R + 272 - m) % 272) l n = ws e R l (m + n) := by
  unfold ws
  rw [Finset.sum_range_add]
  refine congrArg (_ + ·) (Finset.sum_congr rfl fun i hi => congrArg (fun z => e (ix2 z l)) (Fin.ext ?_))
  have := Finset.mem_range.1 hi
  dsimp only
  omega

theorem s2_apply (e : FVec Ideal S272x256 .f32) (R : Fin 272) (l : Fin 256) : (s2 e : S272x256.Idx → EReal) (ix2 R l) = ws e R.val l 2 := by
  have e0 : (e : S272x256.Idx → EReal) (ix2 R l) = e (ix2 ⟨(R.val + 272 - 0) % 272, Nat.mod_lt _ (by decide)⟩ l) :=
    congrArg (fun z => (e : S272x256.Idx → EReal) (ix2 z l)) (Fin.ext (by dsimp only; omega))
  unfold ws
  rw [Finset.sum_range_succ, Finset.sum_range_one, ← e0]
  pointwise [s2]

theorem s4_apply (e : FVec Ideal S272x256 .f32) (R : Fin 272) (l : Fin 256) : (s4 e : S272x256.Idx → EReal) (ix2 R l) = ws e R.val l 4 := by
  rw [← ws_add e R.val l 2 2 (by decide), ← s2_apply e R l, ← s2_apply e ⟨(R.val + 272 - 2) % 272, Nat.mod_lt _ (by decide)⟩ l]
  unfold s4
  generalize s2 e = f
  pointwise

theorem s8_apply (e : FVec Ideal S272x256 .f32) (R : Fin 272) (l : Fin 256) : (s8 e : S272x256.Idx → EReal) (ix2 R l) = ws e R.val l 8 := by
  rw [← ws_add e R.val l 4 4 (by decide), ← s4_apply e R l, ← s4_apply e ⟨(R.val + 272 - 4) % 272, Nat.mod_lt _ (by decide)⟩ l]
  unfold s8
  generalize s4 e = f
  pointwise

theorem s16_apply (e : FVec Ideal S272x256 .f32) (R : Fin 272) (l : Fin 256) : (s16 e : S272x256.Idx → EReal) (ix2 R l) = ws e R.val l 16 := by
  rw [← ws_add e R.val l 8 8 (by decide), ← s8_apply e R l, ← s8_apply e ⟨(R.val + 272 - 8) % 272, Nat.mod_lt _ (by decide)⟩ l]
  unfold s16
  generalize s8 e = f
  pointwise

/-- A lane's window. -/
def wn (l : Fin 256) : ℕ := 2 ^ (l.val / 64 + 1)

theorem pay2_lane : ∀ l : Fin 256, k0_pay2 (ix2 0 l) = BitVec.ofNat 32 (l.val / 64) := by decide +kernel

theorem pay3_lane : ∀ l : Fin 256, k0_pay3 (ix2 0 l) = BitVec.ofNat 32 (wn l) := by decide +kernel

theorem sel_apply (e : FVec Ideal S272x256 .f32) (R : Fin 272) (l : Fin 256) :
    (sel k0_pay2 e : S272x256.Idx → EReal) (ix2 R l) = ws e R.val l (wn l) := by
  refine Eq.trans (b := Scalar.select (Scalar.cmpi .eq (k0_pay2 (ix2 0 l)) 0#32) ((s2 e : S272x256.Idx → EReal) (ix2 R l))
    (Scalar.select (Scalar.cmpi .eq (k0_pay2 (ix2 0 l)) 1#32) ((s4 e : S272x256.Idx → EReal) (ix2 R l))
      (Scalar.select (Scalar.cmpi .eq (k0_pay2 (ix2 0 l)) 2#32) ((s8 e : S272x256.Idx → EReal) (ix2 R l)) ((s16 e : S272x256.Idx → EReal) (ix2 R l))))) ?_ ?_
  · unfold sel
    generalize s2 e = a
    generalize s4 e = b
    generalize s8 e = c
    generalize s16 e = d
    generalize k0_pay2 = g
    pointwise
    rfl
  · rw [pay2_lane, s2_apply, s4_apply, s8_apply, s16_apply]
    unfold wn
    have h : l.val / 64 < 4 := by omega
    generalize l.val / 64 = q at h ⊢
    interval_cases q <;> rfl

/-- How many tokens a mean is over. -/
def cnt (s : ℕ) (l : Fin 256) : EReal := (FloatOps.sitofp .f32 (IntOp.minsi (BitVec.ofNat 32 (s + 1)) (BitVec.ofNat 32 (wn l))) : Ideal .f32)

theorem och_apply (k : ℕ) (e : FVec Ideal S272x256 .f32) (v83 : Vec Ideal S256x256 .bf16) (v86 : Vec Ideal S1x256 .f32) (r : Fin 256) (l : Fin 256) :
    (och k0_pay2 k0_pay3 (BitVec.ofNat 32 (256 * k + 1)) e v83 v86 : S1x256x256.Idx → EReal) (ix3 0 r l)
      = (∑ j : Fin 256, (Ideal.div (ws e (16 + r.val) j (wn j)) (cnt (256 * k + r.val) j) - (e : S272x256.Idx → EReal) (ix2 ⟨16 + r.val, by omega⟩ j)) * v83 (ix2 j l)) * v86 (ix2 0 l) := by
  have hc : ∀ j : Fin 256, cnt (256 * k + r.val) j = (FloatOps.sitofp .f32 (IntOp.minsi (BitVec.ofNat 32 (256 * k + 1) + BitVec.ofNat 32 r.val) (k0_pay3 (ix2 0 j))) : Ideal .f32) := fun j => by
    unfold cnt
    rw [pay3_lane, ← BitVec.ofNat_add, show 256 * k + r.val + 1 = 256 * k + 1 + r.val by omega]
  have hs : ∀ j : Fin 256, ws e (16 + r.val) j (wn j) = (sel k0_pay2 e : S272x256.Idx → EReal) (ix2 ⟨16 + r.val, by omega⟩ j) := fun j => (sel_apply e ⟨16 + r.val, by omega⟩ j).symm
  simp only [hc, hs]
  unfold och pm
  generalize sel k0_pay2 e = f
  generalize k0_pay3 = w
  generalize BitVec.ofNat 32 (256 * k + 1) = c
  pointwise
  rfl

/-- The logarithm of a sigmoid, in base two. -/
def lsg (y : EReal) : EReal := (min y 0 - Ideal.log (1 + Ideal.exp (0 - max y (-y)))) * Ideal.ofBits .f32 0x3FB8AA3B#32

theorem pay4_lane : ∀ r j : Fin 256, IntOp.cmpi CmpIPredicate.sge (BitVec.ofNat 32 r.val) (BitVec.ofNat 32 j.val) = if j.val ≤ r.val then 1#1 else 0#1 := by decide +kernel

theorem pay8_apply (m : FVec Ideal S256x256 .f32) (c : FVec Ideal S1x128 .f32) (f : Vec Ideal S1x256x128 .f32) (b : Vec Ideal S1x128 .f32) (r : Fin 256) (l : Fin 128) :
    (k0_pay8 m c f b : S256x128.Idx → EReal) (ix2 r l) = (∑ j : Fin 256, m (ix2 r j) * lsg (f (ix3 0 j l) + b (ix2 0 l))) + c (ix2 0 l) := by
  pointwise [k0_pay8, lsg]
  rfl

theorem pay10_apply (m : FVec Ideal S256x256 .f32) (c : FVec Ideal S1x128 .f32) (f : Vec Ideal S1x256x128 .f32) (b : Vec Ideal S1x128 .f32) (l : Fin 128) :
    (k0_pay10 m c f b : S1x128.Idx → EReal) (ix2 0 l) = (k0_pay8 m c f b : S256x128.Idx → EReal) (ix2 255 l) := by
  unfold k0_pay10
  generalize k0_pay8 m c f b = h
  pointwise

theorem pay9_apply (m : FVec Ideal S256x256 .f32) (c : FVec Ideal S1x128 .f32) (f : Vec Ideal S1x256x128 .f32) (b : Vec Ideal S1x128 .f32) (r : Fin 256) (l : Fin 128) :
    (k0_pay9 m c f b : S1x256x128.Idx → EReal) (ix3 0 r l) = (k0_pay8 m c f b : S256x128.Idx → EReal) (ix2 r l) := by
  unfold k0_pay9
  generalize k0_pay8 m c f b = h
  pointwise

theorem pay4_apply (r j : Fin 256) : (k0_pay4 (F := Ideal) : S256x256.Idx → EReal) (ix2 r j) = if j.val ≤ r.val then 1 else 0 := by
  refine Eq.trans (b := (FloatOps.sitofp .f32 ((IntOp.cmpi CmpIPredicate.sge (BitVec.ofNat 32 r.val) (BitVec.ofNat 32 j.val)).setWidth 32) : Ideal .f32)) ?_ ?_
  · pointwise [k0_pay4]
  · rw [pay4_lane]
    split
    · show (((1 : ℤ) : ℝ) : EReal) = 1
      norm_num
    · show (((0 : ℤ) : ℝ) : EReal) = 0
      norm_num

theorem pay5_apply (l : Fin 128) : (k0_pay5 (F := Ideal) : S1x128.Idx → EReal) (ix2 0 l) = 0 := by
  pointwise [k0_pay5]

end Cert.PoolIdeal.Pl

end
-- ==== Proof.PoolOut.lean ====
module

public import proofs.«01_k».proof.Proof.PoolBody

@[expose] public section

set_option maxRecDepth 65536

noncomputable section

/-! What a grid point of the pooling and of the running sums leaves in its result blocks, chunk by chunk. -/

namespace Cert.PoolIdeal.Pl

open Cert.PoolIdeal Cert.PoolIdeal.Gen
open Idealize.ShloMosaic Idealize.ShloMosaic.TcCoe

/-- A token of a block, so many before a given one; zero before the first. -/
def tp (x0 : S1x4096x256.Idx → EReal) (s : ℕ) (l : Fin 256) (i : ℕ) : EReal :=
  if i ≤ s then x0 (ix3 0 ⟨(s - i) % 4096, Nat.mod_lt _ (by decide)⟩ l) else 0

/-- A mean less its token. -/
def pl (x0 : S1x4096x256.Idx → EReal) (s : ℕ) (l : Fin 256) : EReal :=
  Ideal.div (∑ i ∈ Finset.range (wn l), tp x0 s l i) (cnt s l) - tp x0 s l 0

/-- The pooled block. -/
def val (x0 : S1x4096x256.Idx → EReal) (x3 : S256x256.Idx → EReal) (x4 : S1x256.Idx → EReal) (s : ℕ) (l : Fin 256) : EReal :=
  (∑ j : Fin 256, pl x0 s j * x3 (ix2 j l)) * x4 (ix2 0 l)

theorem wn_le (l : Fin 256) : wn l ≤ 16 := by
  unfold wn
  have h : l.val / 64 < 4 := by omega
  generalize l.val / 64 = q at h ⊢
  interval_cases q <;> decide

theorem och_of (k : ℕ) (hk : k < 16) (x0 : S1x4096x256.Idx → EReal) (e : FVec Ideal S272x256 .f32) (x3 : Vec Ideal S256x256 .bf16) (x4 : Vec Ideal S1x256 .f32)
    (he : ∀ (R : Fin 272) (l : Fin 256), (e : S272x256.Idx → EReal) (ix2 R l) = if 16 ≤ 256 * k + R.val then x0 (ix3 0 ⟨(256 * k + R.val - 16) % 4096, Nat.mod_lt _ (by decide)⟩ l) else 0)
    (r : Fin 256) (l : Fin 256) :
    (och k0_pay2 k0_pay3 (BitVec.ofNat 32 (256 * k + 1)) e x3 x4 : S1x256x256.Idx → EReal) (ix3 0 r l) = val x0 x3 x4 (256 * k + r.val) l := by
  have ht : ∀ (i : ℕ) (j : Fin 256), i < 16 → (e : S272x256.Idx → EReal) (ix2 ⟨(16 + r.val + 272 - i) % 272, Nat.mod_lt _ (by decide)⟩ j) = tp x0 (256 * k + r.val) j i := fun i j hi => by
    rw [he]
    unfold tp
    by_cases h : i ≤ 256 * k + r.val
    · rw [if_pos h, if_pos (by dsimp only; omega)]
      exact congrArg (fun z => x0 (ix3 0 z j)) (Fin.ext (by dsimp only; omega))
    · rw [if_neg h, if_neg (by dsimp only; omega)]
  rw [och_apply]
  unfold val pl
  refine congrArg (· * _) (Finset.sum_congr rfl fun j _ => congrArg (· * _) (congrArg₂ (· - ·) (congrArg (Ideal.div · _) (Finset.sum_congr rfl fun i hi => ?_)) ?_))
  · have := Finset.mem_range.1 hi
    have := wn_le j
    exact ht i j (by omega)
  · refine Eq.trans ?_ (ht 0 j (by decide))
    exact congrArg (fun z => (e : S272x256.Idx → EReal) (ix2 z j)) (Fin.ext (by dsimp only; omega))

/-- The pooled block, as a function of an index. -/
def D5 (x0 : S1x4096x256.Idx → EReal) (x3 : S256x256.Idx → EReal) (x4 : S1x256.Idx → EReal) : S1x4096x256.Idx → EReal := fun y => val x0 x3 x4 (y 1).val (y 2)

theorem pay11_apply (v : Vec Ideal S1x272x256 .f32) (R : Fin 272) (l : Fin 256) : (k0_pay11 v : S272x256.Idx → EReal) (ix2 R l) = v (ix3 0 R l) := by
  pointwise [k0_pay11]

theorem fin5 (k : ℕ) (hk0 : 0 < k) (hk : k < 16) (x0 : Vec Ideal S1x4096x256 .f32) (x3 : Vec Ideal S256x256 .bf16) (x4 : Vec Ideal S1x256 .f32) {off1 off2 : Fin 3 → ℕ}
    (a0 : off1 0 = 0) (a1 : off1 1 = 256 * k - 16) (a2 : off1 2 = 0) (b0 : off2 0 = 0) (b1 : off2 1 = 256 * k) (b2 : off2 2 = 0)
    (inb1 : ∀ a, off1 a + S1x272x256.size a ≤ S1x4096x256.size a) (inb2 : ∀ a, off2 a + S1x256x256.size a ≤ S1x4096x256.size a) (x : S1x256x256.Idx) :
    (och k0_pay2 k0_pay3 (BitVec.ofNat 32 (256 * k + 1)) (k0_pay11 (View.ld x0 (Rect.unit (s := S1x4096x256) off1 S1x272x256.size inb1))) x3 x4 : S1x256x256.Idx → EReal) x
      = D5 x0 x3 x4 ((Rect.unit (s := S1x4096x256) off2 S1x256x256.size inb2).emb x) := by
  have hx : x = ix3 0 (x 1) (x 2) := by
    refine (eq_ix3 x).trans ?_
    have h0 : (x 0).val < 1 := (x 0).isLt
    exact congrArg (fun z => ix3 z (x 1) (x 2)) (Fin.ext (by show (x 0).val = 0; omega))
  refine (congrArg _ hx).trans ((och_of k hk x0 _ x3 x4 (fun R l => ?_) (x 1) (x 2)).trans ?_)
  · have hR := R.isLt
    rw [pay11_apply, if_pos (by omega)]
    refine congrArg (x0 : S1x4096x256.Idx → EReal) (funext fun a => Fin.ext ?_)
    match a with
    | ⟨0, _⟩ => show off1 0 + 1 * 0 = 0; rw [a0]
    | ⟨1, _⟩ => show off1 1 + 1 * R.val = (256 * k + R.val - 16) % 4096; rw [a1]; omega
    | ⟨2, _⟩ => show off1 2 + 1 * l.val = l.val; rw [a2]; omega
  · unfold D5
    refine congrArg₂ (val x0 x3 x4) ?_ (Fin.ext ?_)
    · show 256 * k + (x 1).val = off2 1 + 1 * (x 1).val; rw [b1]; omega
    · show (x 2).val = off2 2 + 1 * (x 2).val; rw [b2]; omega

theorem ext0_apply (v : Vec Ideal S1x256x256 .f32) (R : Fin 272) (l : Fin 256) :
    (ext0 v : S272x256.Idx → EReal) (ix2 R l) = if h : R.val < 16 then 0 else v (ix3 0 ⟨R.val - 16, by omega⟩ l) := by
  pointwise [ext0]

theorem fin5z (x0 : Vec Ideal S1x4096x256 .f32) (x3 : Vec Ideal S256x256 .bf16) (x4 : Vec Ideal S1x256 .f32)
    (inb1 inb2 : ∀ a, (![0, 0, 0] : Fin 3 → ℕ) a + S1x256x256.size a ≤ S1x4096x256.size a) (x : S1x256x256.Idx) :
    (och k0_pay2 k0_pay3 (BitVec.ofNat 32 (256 * 0 + 1)) (ext0 (View.ld x0 (Rect.unit (s := S1x4096x256) ![0, 0, 0] S1x256x256.size inb1))) x3 x4 : S1x256x256.Idx → EReal) x
      = D5 x0 x3 x4 ((Rect.unit (s := S1x4096x256) ![0, 0, 0] S1x256x256.size inb2).emb x) := by
  have hx : x = ix3 0 (x 1) (x 2) := by
    refine (eq_ix3 x).trans ?_
    have h0 : (x 0).val < 1 := (x 0).isLt
    exact congrArg (fun z => ix3 z (x 1) (x 2)) (Fin.ext (by show (x 0).val = 0; omega))
  refine (congrArg _ hx).trans ((och_of 0 (by decide) x0 _ x3 x4 (fun R l => ?_) (x 1) (x 2)).trans ?_)
  · have hR := R.isLt
    rw [ext0_apply]
    by_cases h : R.val < 16
    · rw [dif_pos h, if_neg (by omega)]
    · rw [dif_neg h, if_pos (by omega)]
      refine congrArg (x0 : S1x4096x256.Idx → EReal) (funext fun a => Fin.ext ?_)
      match a with
      | ⟨0, _⟩ => show 0 + 1 * 0 = 0; omega
      | ⟨1, _⟩ => show 0 + 1 * (R.val - 16) = (256 * 0 + R.val - 16) % 4096; omega
      | ⟨2, _⟩ => show 0 + 1 * l.val = l.val; omega
  · unfold D5
    refine congrArg₂ (val x0 x3 x4) ?_ (Fin.ext ?_)
    · show 256 * 0 + (x 1).val = 0 + 1 * (x 1).val; omega
    · show (x 2).val = 0 + 1 * (x 2).val; omega

/-- A chunk's rows. -/
def fr (n : ℕ) : Rect S1x4096x128 := Rect.unit (s := S1x4096x128) ![0, 256 * (n % 16), 0] S1x256x128.size (by
  intro a
  match a with
  | ⟨0, _⟩ => show 0 + 1 ≤ 1; omega
  | ⟨1, _⟩ => show 256 * (n % 16) + 256 ≤ 4096; omega
  | ⟨2, _⟩ => show 0 + 128 ≤ 128; omega)

/-- The rows a chunk loads. -/
def fl (x1 : Vec Ideal S1x4096x128 .f32) (n : ℕ) : Vec Ideal S1x256x128 .f32 := View.ld x1 (fr n)

/-- What the chunks before carry. -/
def cr (x1 : Vec Ideal S1x4096x128 .f32) (x2 : Vec Ideal S1x128 .f32) : ℕ → FVec Ideal S1x128 .f32
  | 0 => k0_pay5
  | n + 1 => k0_pay10 k0_pay4 (cr x1 x2 n) (fl x1 n) (View.ld x2 r0_4)

/-- A token's term. -/
def tmv (x1 : S1x4096x128.Idx → EReal) (x2 : S1x128.Idx → EReal) (l : Fin 128) (s : ℕ) : EReal :=
  lsg (x1 (ix3 0 ⟨s % 4096, Nat.mod_lt _ (by decide)⟩ l) + x2 (ix2 0 l))

/-- The running sum. -/
def cumv (x1 : S1x4096x128.Idx → EReal) (x2 : S1x128.Idx → EReal) (l : Fin 128) (n : ℕ) : EReal := ∑ s ∈ Finset.range n, tmv x1 x2 l s

theorem step (x1 : Vec Ideal S1x4096x128 .f32) (x2 : Vec Ideal S1x128 .f32) (c : FVec Ideal S1x128 .f32) (n : ℕ) (hn : n < 16) (l : Fin 128)
    (hc : (c : S1x128.Idx → EReal) (ix2 0 l) = cumv x1 x2 l (256 * n)) (r : Fin 256) :
    (k0_pay8 k0_pay4 c (fl x1 n) (View.ld x2 r0_4) : S256x128.Idx → EReal) (ix2 r l) = cumv x1 x2 l (256 * n + r.val + 1) := by
  have e2 : View.ld x2 r0_4 = x2 := View.ld_unit_lit (S := S1x128) (off := ![0, 0]) _ _ (by decide)
  have ef : ∀ j : Fin 256, (fl x1 n : S1x256x128.Idx → EReal) (ix3 0 j l) = x1 (ix3 0 ⟨(256 * n + j.val) % 4096, Nat.mod_lt _ (by decide)⟩ l) := fun j => by
    refine congrArg (x1 : S1x4096x128.Idx → EReal) (funext fun a => Fin.ext ?_)
    match a with
    | ⟨0, _⟩ => show 0 + 1 * 0 = 0; omega
    | ⟨1, _⟩ => show 256 * (n % 16) + 1 * j.val = (256 * n + j.val) % 4096; omega
    | ⟨2, _⟩ => show 0 + 1 * l.val = l.val; omega
  rw [pay8_apply, hc, e2]
  have e : ∀ j : Fin 256, (k0_pay4 (F := Ideal) : S256x256.Idx → EReal) (ix2 r j) * lsg ((fl x1 n : S1x256x128.Idx → EReal) (ix3 0 j l) + x2 (ix2 0 l))
      = if j.val ≤ r.val then tmv x1 x2 l (256 * n + j.val) else 0 := fun j => by
    rw [pay4_apply, ef]
    split
    · rw [one_mul]; rfl
    · rw [zero_mul]
  rw [Finset.sum_congr rfl fun j _ => e j, Fin.sum_univ_eq_sum_range (fun j => if j ≤ r.val then tmv x1 x2 l (256 * n + j) else (0 : EReal)) 256, ← Finset.sum_filter]
  unfold cumv
  rw [show 256 * n + r.val + 1 = 256 * n + (r.val + 1) by omega, Finset.sum_range_add, add_comm]
  refine congrArg (_ + ·) (Finset.sum_congr (Finset.ext fun j => ?_) fun _ _ => rfl)
  have := r.isLt
  rw [Finset.mem_filter, Finset.mem_range, Finset.mem_range]
  omega

theorem cr_apply (x1 : Vec Ideal S1x4096x128 .f32) (x2 : Vec Ideal S1x128 .f32) (l : Fin 128) : ∀ n : ℕ, n ≤ 16 → (cr x1 x2 n : S1x128.Idx → EReal) (ix2 0 l) = cumv x1 x2 l (256 * n)
  | 0, _ => (pay5_apply l).trans (by unfold cumv; rw [Nat.mul_zero, Finset.sum_range_zero])
  | n + 1, h => by
    show (k0_pay10 k0_pay4 (cr x1 x2 n) (fl x1 n) (View.ld x2 r0_4) : S1x128.Idx → EReal) (ix2 0 l) = _
    rw [pay10_apply, step x1 x2 (cr x1 x2 n) n (by omega) l (cr_apply x1 x2 l n (by omega)) 255]
    rfl

/-- The running sums, as a function of an index. -/
def D6 (x1 : S1x4096x128.Idx → EReal) (x2 : S1x128.Idx → EReal) : S1x4096x128.Idx → EReal := fun y => cumv x1 x2 (y 2) ((y 1).val + 1)

theorem fin6 (k : ℕ) (hk : k < 16) (x1 : Vec Ideal S1x4096x128 .f32) (x2 : Vec Ideal S1x128 .f32) {off2 : Fin 3 → ℕ}
    (b0 : off2 0 = 0) (b1 : off2 1 = 256 * k) (b2 : off2 2 = 0)
    (inb2 : ∀ a, off2 a + S1x256x128.size a ≤ S1x4096x128.size a) (x : S1x256x128.Idx) :
    (k0_pay9 k0_pay4 (cr x1 x2 k) (fl x1 k) (View.ld x2 r0_4) : S1x256x128.Idx → EReal) x
      = D6 x1 x2 ((Rect.unit (s := S1x4096x128) off2 S1x256x128.size inb2).emb x) := by
  have hx : x = ix3 0 (x 1) (x 2) := by
    refine (eq_ix3 x).trans ?_
    have h0 : (x 0).val < 1 := (x 0).isLt
    exact congrArg (fun z => ix3 z (x 1) (x 2)) (Fin.ext (by show (x 0).val = 0; omega))
  refine (congrArg _ hx).trans ((pay9_apply _ _ _ _ (x 1) (x 2)).trans ((step x1 x2 _ k hk (x 2) (cr_apply x1 x2 (x 2) k (by omega)) (x 1)).trans ?_))
  unfold D6
  refine congrArg₂ (cumv x1 x2) (Fin.ext ?_) ?_
  · show (x 2).val = off2 2 + 1 * (x 2).val; rw [b2]; omega
  · show 256 * k + (x 1).val + 1 = off2 1 + 1 * (x 1).val + 1; rw [b1]; omega

variable (x0 : Vec Ideal S1x4096x256 .f32) (x1 : Vec Ideal S1x4096x128 .f32) (x2 : Vec Ideal S1x128 .f32) (x3 : Vec Ideal S256x256 .bf16) (x4 : Vec Ideal S1x256 .f32)

/-! Each stored piece is a chunk's pooled rows, -/

theorem p15 :
    k0_pay128 (k0_pay130 x0 x1 x2 x3 x4) (k0_pay131 x0 x1 x2 x3 x4) (k0_pay125 (View.ld x0 r0_47)) (k0_pay126 (View.ld x0 r0_47)) (k0_pay127 (View.ld x0 r0_47)) 4#32 (View.ld x3 r0_1) (View.ld x4 r0_2)
      = och k0_pay2 k0_pay3 (BitVec.ofNat 32 (256 * 15 + 1)) (k0_pay11 (View.ld x0 r0_47)) (View.ld x3 r0_1) (View.ld x4 r0_2) := rfl

theorem p14 :
    k0_pay121 (k0_pay119 (k0_pay130 x0 x1 x2 x3 x4) (k0_pay131 x0 x1 x2 x3 x4) (View.ld x0 r0_44) (View.ld x3 r0_1)) (k0_pay120 (View.ld x4 r0_2))
      = och k0_pay2 k0_pay3 (BitVec.ofNat 32 (256 * 14 + 1)) (k0_pay11 (View.ld x0 r0_44)) (View.ld x3 r0_1) (View.ld x4 r0_2) := rfl

theorem p13 :
    k0_pay115 (k0_pay113 (View.ld x0 r0_41)) (k0_pay114 (k0_pay130 x0 x1 x2 x3 x4) (k0_pay131 x0 x1 x2 x3 x4) (View.ld x0 r0_41)) (View.ld x3 r0_1) (View.ld x4 r0_2)
      = och k0_pay2 k0_pay3 (BitVec.ofNat 32 (256 * 13 + 1)) (k0_pay11 (View.ld x0 r0_41)) (View.ld x3 r0_1) (View.ld x4 r0_2) := rfl

theorem p12 :
    k0_pay107 (k0_pay131 x0 x1 x2 x3 x4) (k0_pay103 (View.ld x0 r0_38)) (k0_pay104 (View.ld x0 r0_38)) (k0_pay105 (k0_pay130 x0 x1 x2 x3 x4) (View.ld x0 r0_38)) (k0_pay106 (k0_pay130 x0 x1 x2 x3 x4)) (View.ld x3 r0_1) (View.ld x4 r0_2)
      = och k0_pay2 k0_pay3 (BitVec.ofNat 32 (256 * 12 + 1)) (k0_pay11 (View.ld x0 r0_38)) (View.ld x3 r0_1) (View.ld x4 r0_2) := rfl

theorem p11 :
    k0_pay98 (k0_pay130 x0 x1 x2 x3 x4) (k0_pay131 x0 x1 x2 x3 x4) (k0_pay92 (View.ld x0 r0_35)) (k0_pay93 (View.ld x0 r0_35)) (k0_pay94 (View.ld x0 r0_35)) (k0_pay95 (View.ld x0 r0_35)) (k0_pay96 (View.ld x0 r0_35)) (k0_pay97 (k0_pay130 x0 x1 x2 x3 x4)) (View.ld x3 r0_1) (View.ld x4 r0_2)
      = och k0_pay2 k0_pay3 (BitVec.ofNat 32 (256 * 11 + 1)) (k0_pay11 (View.ld x0 r0_35)) (View.ld x3 r0_1) (View.ld x4 r0_2) := rfl

theorem p10 :
    k0_pay88 (k0_pay130 x0 x1 x2 x3 x4) (k0_pay131 x0 x1 x2 x3 x4) (k0_pay86 (View.ld x0 r0_32)) (k0_pay87 (View.ld x0 r0_32)) (View.ld x3 r0_1) (View.ld x4 r0_2)
      = och k0_pay2 k0_pay3 (BitVec.ofNat 32 (256 * 10 + 1)) (k0_pay11 (View.ld x0 r0_32)) (View.ld x3 r0_1) (View.ld x4 r0_2) := rfl

theorem p9 :
    k0_pay82 (k0_pay81 (k0_pay130 x0 x1 x2 x3 x4) (k0_pay131 x0 x1 x2 x3 x4) (View.ld x0 r0_29) (View.ld x3 r0_1)) (View.ld x4 r0_2)
      = och k0_pay2 k0_pay3 (BitVec.ofNat 32 (256 * 9 + 1)) (k0_pay11 (View.ld x0 r0_29)) (View.ld x3 r0_1) (View.ld x4 r0_2) := rfl

theorem p8 :
    k0_pay77 (k0_pay131 x0 x1 x2 x3 x4) (k0_pay74 (k0_pay130 x0 x1 x2 x3 x4) (View.ld x0 r0_26)) (k0_pay75 (View.ld x0 r0_26)) k0_pay76 (View.ld x3 r0_1) (View.ld x4 r0_2)
      = och k0_pay2 k0_pay3 (BitVec.ofNat 32 (256 * 8 + 1)) (k0_pay11 (View.ld x0 r0_26)) (View.ld x3 r0_1) (View.ld x4 r0_2) := rfl

theorem p7 :
    k0_pay66 (k0_pay131 x0 x1 x2 x3 x4) (k0_pay58 (View.ld x0 r0_23)) (k0_pay59 (View.ld x0 r0_23)) (k0_pay60 (View.ld x0 r0_23)) (k0_pay61 (View.ld x0 r0_23)) (k0_pay62 (View.ld x0 r0_23)) (k0_pay63 (k0_pay130 x0 x1 x2 x3 x4)) (k0_pay64 (k0_pay130 x0 x1 x2 x3 x4)) (k0_pay65 (k0_pay130 x0 x1 x2 x3 x4)) (View.ld x3 r0_1) (View.ld x4 r0_2)
      = och k0_pay2 k0_pay3 (BitVec.ofNat 32 (256 * 7 + 1)) (k0_pay11 (View.ld x0 r0_23)) (View.ld x3 r0_1) (View.ld x4 r0_2) := rfl

theorem p6 :
    k0_pay53 (k0_pay130 x0 x1 x2 x3 x4) (k0_pay131 x0 x1 x2 x3 x4) (k0_pay49 (View.ld x0 r0_20)) (k0_pay50 (View.ld x0 r0_20)) (k0_pay51 (View.ld x0 r0_20)) (k0_pay52 (View.ld x0 r0_20)) 8#32 (View.ld x3 r0_1) (View.ld x4 r0_2)
      = och k0_pay2 k0_pay3 (BitVec.ofNat 32 (256 * 6 + 1)) (k0_pay11 (View.ld x0 r0_20)) (View.ld x3 r0_1) (View.ld x4 r0_2) := rfl

theorem p5 :
    k0_pay45 (k0_pay44 (k0_pay130 x0 x1 x2 x3 x4) (k0_pay131 x0 x1 x2 x3 x4) (View.ld x0 r0_17) (View.ld x3 r0_1) (View.ld x4 r0_2))
      = och k0_pay2 k0_pay3 (BitVec.ofNat 32 (256 * 5 + 1)) (k0_pay11 (View.ld x0 r0_17)) (View.ld x3 r0_1) (View.ld x4 r0_2) := rfl

theorem p4 :
    k0_pay40 (k0_pay39 (k0_pay130 x0 x1 x2 x3 x4) (k0_pay131 x0 x1 x2 x3 x4) (View.ld x0 r0_14)) (View.ld x3 r0_1) (View.ld x4 r0_2)
      = och k0_pay2 k0_pay3 (BitVec.ofNat 32 (256 * 4 + 1)) (k0_pay11 (View.ld x0 r0_14)) (View.ld x3 r0_1) (View.ld x4 r0_2) := rfl

theorem p3 :
    k0_pay34 (k0_pay131 x0 x1 x2 x3 x4) (k0_pay32 (View.ld x0 r0_11)) (k0_pay33 (k0_pay130 x0 x1 x2 x3 x4) (View.ld x0 r0_11)) (View.ld x3 r0_1) (View.ld x4 r0_2)
      = och k0_pay2 k0_pay3 (BitVec.ofNat 32 (256 * 3 + 1)) (k0_pay11 (View.ld x0 r0_11)) (View.ld x3 r0_1) (View.ld x4 r0_2) := rfl

theorem p2 :
    k0_pay25 (k0_pay130 x0 x1 x2 x3 x4) (k0_pay131 x0 x1 x2 x3 x4) (k0_pay18 (View.ld x0 r0_8)) (k0_pay19 (View.ld x0 r0_8)) (k0_pay20 (View.ld x0 r0_8)) (k0_pay21 (View.ld x0 r0_8)) (k0_pay22 (View.ld x0 r0_8)) (k0_pay23 (k0_pay130 x0 x1 x2 x3 x4)) (k0_pay24 (k0_pay130 x0 x1 x2 x3 x4)) (View.ld x3 r0_1) (View.ld x4 r0_2)
      = och k0_pay2 k0_pay3 (BitVec.ofNat 32 (256 * 2 + 1)) (k0_pay11 (View.ld x0 r0_8)) (View.ld x3 r0_1) (View.ld x4 r0_2) := rfl

theorem p1 :
    k0_pay14 (k0_pay130 x0 x1 x2 x3 x4) (k0_pay131 x0 x1 x2 x3 x4) (k0_pay11 (View.ld x0 r0_5)) (k0_pay12 (View.ld x0 r0_5)) (k0_pay13 (View.ld x0 r0_5)) (View.ld x3 r0_1) (View.ld x4 r0_2)
      = och k0_pay2 k0_pay3 (BitVec.ofNat 32 (256 * 1 + 1)) (k0_pay11 (View.ld x0 r0_5)) (View.ld x3 r0_1) (View.ld x4 r0_2) := rfl

theorem p0 :
    k0_pay7 (k0_pay6 (k0_pay130 x0 x1 x2 x3 x4) (k0_pay131 x0 x1 x2 x3 x4) (View.ld x0 r0_0) (View.ld x3 r0_1)) (View.ld x4 r0_2)
      = och k0_pay2 k0_pay3 (BitVec.ofNat 32 (256 * 0 + 1)) (ext0 (View.ld x0 r0_0)) (View.ld x3 r0_1) (View.ld x4 r0_2) := rfl

theorem out5 (s : Fin 4096) (l : Fin 256) :
    (out0_5 x0 x1 x2 x3 x4 : S1x4096x256.Idx → EReal) (ix3 0 s l) = val x0 x3 x4 s.val l := by
  have e3 : View.ld x3 r0_1 = x3 := View.ld_unit_lit (S := S256x256) (off := ![0, 0]) _ _ (by decide)
  have e4 : View.ld x4 r0_2 = x4 := View.ld_unit_lit (S := S1x256) (off := ![0, 0]) _ _ (by decide)
  refine Eq.trans (b := D5 x0 (View.ld x3 r0_1) (View.ld x4 r0_2) (ix3 0 s l)) ?_ (by rw [e3, e4]; rfl)
  unfold out0_5
  refine View.canon_apply_of_pieces (Val := Elt Ideal) (D5 x0 (View.ld x3 r0_1) (View.ld x4 r0_2)) _ ?_ _ (cover0_5 _ _ _ _ _ _ _ _ _ _ _ _ _ _ _ _ _)
  intro p hp x
  simp only [List.mem_cons, List.not_mem_nil, or_false] at hp
  rcases hp with rfl | rfl | rfl | rfl | rfl | rfl | rfl | rfl | rfl | rfl | rfl | rfl | rfl | rfl | rfl | rfl
  · exact (congrFun (p15 x0 x1 x2 x3 x4) x).trans (fin5 15 (by decide) (by decide) x0 (View.ld x3 r0_1) (View.ld x4 r0_2) (off1 := ![0, 3824, 0]) (off2 := ![0, 3840, 0]) rfl rfl rfl rfl rfl rfl inb_S1x4096x256_S1x272x256_0_3824_0 inb_S1x4096x256_S1x256x256_0_3840_0 x)
  · exact (congrFun (p14 x0 x1 x2 x3 x4) x).trans (fin5 14 (by decide) (by decide) x0 (View.ld x3 r0_1) (View.ld x4 r0_2) (off1 := ![0, 3568, 0]) (off2 := ![0, 3584, 0]) rfl rfl rfl rfl rfl rfl inb_S1x4096x256_S1x272x256_0_3568_0 inb_S1x4096x256_S1x256x256_0_3584_0 x)
  · exact (congrFun (p13 x0 x1 x2 x3 x4) x).trans (fin5 13 (by decide) (by decide) x0 (View.ld x3 r0_1) (View.ld x4 r0_2) (off1 := ![0, 3312, 0]) (off2 := ![0, 3328, 0]) rfl rfl rfl rfl rfl rfl inb_S1x4096x256_S1x272x256_0_3312_0 inb_S1x4096x256_S1x256x256_0_3328_0 x)
  · exact (congrFun (p12 x0 x1 x2 x3 x4) x).trans (fin5 12 (by decide) (by decide) x0 (View.ld x3 r0_1) (View.ld x4 r0_2) (off1 := ![0, 3056, 0]) (off2 := ![0, 3072, 0]) rfl rfl rfl rfl rfl rfl inb_S1x4096x256_S1x272x256_0_3056_0 inb_S1x4096x256_S1x256x256_0_3072_0 x)
  · exact (congrFun (p11 x0 x1 x2 x3 x4) x).trans (fin5 11 (by decide) (by decide) x0 (View.ld x3 r0_1) (View.ld x4 r0_2) (off1 := ![0, 2800, 0]) (off2 := ![0, 2816, 0]) rfl rfl rfl rfl rfl rfl inb_S1x4096x256_S1x272x256_0_2800_0 inb_S1x4096x256_S1x256x256_0_2816_0 x)
  · exact (congrFun (p10 x0 x1 x2 x3 x4) x).trans (fin5 10 (by decide) (by decide) x0 (View.ld x3 r0_1) (View.ld x4 r0_2) (off1 := ![0, 2544, 0]) (off2 := ![0, 2560, 0]) rfl rfl rfl rfl rfl rfl inb_S1x4096x256_S1x272x256_0_2544_0 inb_S1x4096x256_S1x256x256_0_2560_0 x)
  · exact (congrFun (p9 x0 x1 x2 x3 x4) x).trans (fin5 9 (by decide) (by decide) x0 (View.ld x3 r0_1) (View.ld x4 r0_2) (off1 := ![0, 2288, 0]) (off2 := ![0, 2304, 0]) rfl rfl rfl rfl rfl rfl inb_S1x4096x256_S1x272x256_0_2288_0 inb_S1x4096x256_S1x256x256_0_2304_0 x)
  · exact (congrFun (p8 x0 x1 x2 x3 x4) x).trans (fin5 8 (by decide) (by decide) x0 (View.ld x3 r0_1) (View.ld x4 r0_2) (off1 := ![0, 2032, 0]) (off2 := ![0, 2048, 0]) rfl rfl rfl rfl rfl rfl inb_S1x4096x256_S1x272x256_0_2032_0 inb_S1x4096x256_S1x256x256_0_2048_0 x)
  · exact (congrFun (p7 x0 x1 x2 x3 x4) x).trans (fin5 7 (by decide) (by decide) x0 (View.ld x3 r0_1) (View.ld x4 r0_2) (off1 := ![0, 1776, 0]) (off2 := ![0, 1792, 0]) rfl rfl rfl rfl rfl rfl inb_S1x4096x256_S1x272x256_0_1776_0 inb_S1x4096x256_S1x256x256_0_1792_0 x)
  · exact (congrFun (p6 x0 x1 x2 x3 x4) x).trans (fin5 6 (by decide) (by decide) x0 (View.ld x3 r0_1) (View.ld x4 r0_2) (off1 := ![0, 1520, 0]) (off2 := ![0, 1536, 0]) rfl rfl rfl rfl rfl rfl inb_S1x4096x256_S1x272x256_0_1520_0 inb_S1x4096x256_S1x256x256_0_1536_0 x)
  · exact (congrFun (p5 x0 x1 x2 x3 x4) x).trans (fin5 5 (by decide) (by decide) x0 (View.ld x3 r0_1) (View.ld x4 r0_2) (off1 := ![0, 1264, 0]) (off2 := ![0, 1280, 0]) rfl rfl rfl rfl rfl rfl inb_S1x4096x256_S1x272x256_0_1264_0 inb_S1x4096x256_S1x256x256_0_1280_0 x)
  · exact (congrFun (p4 x0 x1 x2 x3 x4) x).trans (fin5 4 (by decide) (by decide) x0 (View.ld x3 r0_1) (View.ld x4 r0_2) (off1 := ![0, 1008, 0]) (off2 := ![0, 1024, 0]) rfl rfl rfl rfl rfl rfl inb_S1x4096x256_S1x272x256_0_1008_0 inb_S1x4096x256_S1x256x256_0_1024_0 x)
  · exact (congrFun (p3 x0 x1 x2 x3 x4) x).trans (fin5 3 (by decide) (by decide) x0 (View.ld x3 r0_1) (View.ld x4 r0_2) (off1 := ![0, 752, 0]) (off2 := ![0, 768, 0]) rfl rfl rfl rfl rfl rfl inb_S1x4096x256_S1x272x256_0_752_0 inb_S1x4096x256_S1x256x256_0_768_0 x)
  · exact (congrFun (p2 x0 x1 x2 x3 x4) x).trans (fin5 2 (by decide) (by decide) x0 (View.ld x3 r0_1) (View.ld x4 r0_2) (off1 := ![0, 496, 0]) (off2 := ![0, 512, 0]) rfl rfl rfl rfl rfl rfl inb_S1x4096x256_S1x272x256_0_496_0 inb_S1x4096x256_S1x256x256_0_512_0 x)
  · exact (congrFun (p1 x0 x1 x2 x3 x4) x).trans (fin5 1 (by decide) (by decide) x0 (View.ld x3 r0_1) (View.ld x4 r0_2) (off1 := ![0, 240, 0]) (off2 := ![0, 256, 0]) rfl rfl rfl rfl rfl rfl inb_S1x4096x256_S1x272x256_0_240_0 inb_S1x4096x256_S1x256x256_0_256_0 x)
  · exact (congrFun (p0 x0 x1 x2 x3 x4) x).trans (fin5z x0 (View.ld x3 r0_1) (View.ld x4 r0_2) inb_S1x4096x256_S1x256x256_0_0_0 inb_S1x4096x256_S1x256x256_0_0_0 x)

/-! what a chunk hands on is the carry after it, -/

theorem c1 : k0_pay134 x0 x1 x2 x3 x4 = cr x1 x2 1 := by
  unfold k0_pay134
  show _ = k0_pay10 k0_pay4 (cr x1 x2 0) (fl x1 0) (View.ld x2 r0_4)
  rfl

theorem c2 : k0_pay135 x0 x1 x2 x3 x4 = cr x1 x2 2 := by
  unfold k0_pay135
  rw [c1]
  show _ = k0_pay10 k0_pay4 (cr x1 x2 1) (fl x1 1) (View.ld x2 r0_4)
  rfl

theorem c3 : k0_pay138 x0 x1 x2 x3 x4 = cr x1 x2 3 := by
  unfold k0_pay138
  rw [c2]
  show _ = k0_pay10 k0_pay4 (cr x1 x2 2) (fl x1 2) (View.ld x2 r0_4)
  rfl

theorem c4 : k0_pay141 x0 x1 x2 x3 x4 = cr x1 x2 4 := by
  unfold k0_pay141
  rw [c3]
  show _ = k0_pay10 k0_pay4 (cr x1 x2 3) (fl x1 3) (View.ld x2 r0_4)
  rfl

theorem c5 : k0_pay142 x0 x1 x2 x3 x4 = cr x1 x2 5 := by
  unfold k0_pay142
  rw [c4]
  show _ = k0_pay10 k0_pay4 (cr x1 x2 4) (fl x1 4) (View.ld x2 r0_4)
  rfl

theorem c6 : k0_pay143 x0 x1 x2 x3 x4 = cr x1 x2 6 := by
  unfold k0_pay143
  rw [c5]
  show _ = k0_pay10 k0_pay4 (cr x1 x2 5) (fl x1 5) (View.ld x2 r0_4)
  rfl

theorem c7 : k0_pay145 x0 x1 x2 x3 x4 = cr x1 x2 7 := by
  unfold k0_pay145
  rw [c6]
  show _ = k0_pay10 k0_pay4 (cr x1 x2 6) (fl x1 6) (View.ld x2 r0_4)
  rfl

theorem c8 :
    k0_pay72 (k0_pay132 x0 x1 x2 x3 x4) (k0_pay145 x0 x1 x2 x3 x4) (k0_pay146 x0 x1 x2 x3 x4) (k0_pay147 x0 x1 x2 x3 x4) (Scalar.ofBits .f32 0x3F800000#32) = cr x1 x2 8 := by
  rw [c7]
  show _ = k0_pay10 k0_pay4 (cr x1 x2 7) (fl x1 7) (View.ld x2 r0_4)
  rfl

theorem d8 :
    k0_pay148 x0 x1 x2 x3 x4 = k0_pay8 k0_pay4 (cr x1 x2 8) (fl x1 8) (View.ld x2 r0_4) := by
  unfold k0_pay148
  rw [c8]
  rfl

theorem c9 : k0_pay149 x0 x1 x2 x3 x4 = cr x1 x2 9 := by
  unfold k0_pay149
  rw [d8]
  show _ = k0_pay10 k0_pay4 (cr x1 x2 8) (fl x1 8) (View.ld x2 r0_4)
  rfl

theorem c10 : k0_pay150 x0 x1 x2 x3 x4 = cr x1 x2 10 := by
  unfold k0_pay150
  rw [c9]
  show _ = k0_pay10 k0_pay4 (cr x1 x2 9) (fl x1 9) (View.ld x2 r0_4)
  rfl

theorem c11 : k0_pay151 x0 x1 x2 x3 x4 = cr x1 x2 11 := by
  unfold k0_pay151
  rw [c10]
  show _ = k0_pay10 k0_pay4 (cr x1 x2 10) (fl x1 10) (View.ld x2 r0_4)
  rfl

theorem c12 : k0_pay153 x0 x1 x2 x3 x4 = cr x1 x2 12 := by
  unfold k0_pay153
  rw [c11]
  show _ = k0_pay10 k0_pay4 (cr x1 x2 11) (fl x1 11) (View.ld x2 r0_4)
  rfl

theorem c13 : k0_pay155 x0 x1 x2 x3 x4 = cr x1 x2 13 := by
  unfold k0_pay155
  rw [c12]
  show _ = k0_pay10 k0_pay4 (cr x1 x2 12) (fl x1 12) (View.ld x2 r0_4)
  rfl

theorem c14 : k0_pay156 x0 x1 x2 x3 x4 = cr x1 x2 14 := by
  unfold k0_pay156
  rw [c13]
  show _ = k0_pay10 k0_pay4 (cr x1 x2 13) (fl x1 13) (View.ld x2 r0_4)
  rfl

/-! and each stored piece of running sums is a chunk's. -/

theorem q15 :
    k0_pay1 (k0_pay129 (k0_pay132 x0 x1 x2 x3 x4) (k0_pay124 (k0_pay132 x0 x1 x2 x3 x4) (k0_pay156 x0 x1 x2 x3 x4) (View.ld x1 r0_46) (View.ld x2 r0_4)) (View.ld x1 r0_49) (View.ld x2 r0_4))
      = k0_pay9 k0_pay4 (cr x1 x2 15) (fl x1 15) (View.ld x2 r0_4) := by
  rw [c14]
  show _ = k0_pay9 k0_pay4 (k0_pay10 k0_pay4 (cr x1 x2 14) (fl x1 14) (View.ld x2 r0_4)) (fl x1 15) (View.ld x2 r0_4)
  rfl

theorem q14 :
    k0_pay123 (k0_pay132 x0 x1 x2 x3 x4) (k0_pay156 x0 x1 x2 x3 x4) (View.ld x1 r0_46) (View.ld x2 r0_4)
      = k0_pay9 k0_pay4 (cr x1 x2 14) (fl x1 14) (View.ld x2 r0_4) := by
  rw [c14]
  rfl

theorem q13 :
    k0_pay117 (k0_pay132 x0 x1 x2 x3 x4) (k0_pay155 x0 x1 x2 x3 x4) (View.ld x1 r0_43) (View.ld x2 r0_4)
      = k0_pay9 k0_pay4 (cr x1 x2 13) (fl x1 13) (View.ld x2 r0_4) := by
  rw [c13]
  rfl

theorem q12 :
    k0_pay110 (k0_pay132 x0 x1 x2 x3 x4) (k0_pay153 x0 x1 x2 x3 x4) (k0_pay154 x0 x1 x2 x3 x4) (Scalar.ofBits .f32 0x3FB8AA3B#32)
      = k0_pay9 k0_pay4 (cr x1 x2 12) (fl x1 12) (View.ld x2 r0_4) := by
  rw [c12]
  rfl

theorem q11 :
    k0_pay101 (k0_pay132 x0 x1 x2 x3 x4) (k0_pay151 x0 x1 x2 x3 x4) (k0_pay152 x0 x1 x2 x3 x4) (Scalar.ofBits .f32 0x00000000#32)
      = k0_pay9 k0_pay4 (cr x1 x2 11) (fl x1 11) (View.ld x2 r0_4) := by
  rw [c11]
  rfl

theorem q10 :
    k0_pay90 (k0_pay132 x0 x1 x2 x3 x4) (k0_pay150 x0 x1 x2 x3 x4) (View.ld x1 r0_34) (View.ld x2 r0_4)
      = k0_pay9 k0_pay4 (cr x1 x2 10) (fl x1 10) (View.ld x2 r0_4) := by
  rw [c10]
  rfl

theorem q9 :
    k0_pay84 (k0_pay132 x0 x1 x2 x3 x4) (k0_pay149 x0 x1 x2 x3 x4) (View.ld x1 r0_31) (View.ld x2 r0_4)
      = k0_pay9 k0_pay4 (cr x1 x2 9) (fl x1 9) (View.ld x2 r0_4) := by
  rw [c9]
  rfl

theorem q8 :
    k0_pay79 (k0_pay148 x0 x1 x2 x3 x4)
      = k0_pay9 k0_pay4 (cr x1 x2 8) (fl x1 8) (View.ld x2 r0_4) := by
  rw [d8]
  rfl

theorem q7 :
    k0_pay71 (k0_pay132 x0 x1 x2 x3 x4) (k0_pay145 x0 x1 x2 x3 x4) (k0_pay146 x0 x1 x2 x3 x4) (k0_pay147 x0 x1 x2 x3 x4) (Scalar.ofBits .f32 0x3F800000#32)
      = k0_pay9 k0_pay4 (cr x1 x2 7) (fl x1 7) (View.ld x2 r0_4) := by
  rw [c7]
  rfl

theorem q6 :
    k0_pay56 (k0_pay132 x0 x1 x2 x3 x4) (k0_pay143 x0 x1 x2 x3 x4) (k0_pay144 x0 x1 x2 x3 x4) (View.ld x2 r0_4)
      = k0_pay9 k0_pay4 (cr x1 x2 6) (fl x1 6) (View.ld x2 r0_4) := by
  rw [c6]
  rfl

theorem q5 :
    k0_pay47 (k0_pay132 x0 x1 x2 x3 x4) (k0_pay142 x0 x1 x2 x3 x4) (View.ld x1 r0_19) (View.ld x2 r0_4)
      = k0_pay9 k0_pay4 (cr x1 x2 5) (fl x1 5) (View.ld x2 r0_4) := by
  rw [c5]
  rfl

theorem q4 :
    k0_pay42 (k0_pay132 x0 x1 x2 x3 x4) (k0_pay141 x0 x1 x2 x3 x4) (View.ld x1 r0_16) (View.ld x2 r0_4)
      = k0_pay9 k0_pay4 (cr x1 x2 4) (fl x1 4) (View.ld x2 r0_4) := by
  rw [c4]
  rfl

theorem q3 :
    k0_pay37 (k0_pay132 x0 x1 x2 x3 x4) (k0_pay138 x0 x1 x2 x3 x4) (k0_pay140 x0 x1 x2 x3 x4) (k0_pay139 x0 x1 x2 x3 x4)
      = k0_pay9 k0_pay4 (cr x1 x2 3) (fl x1 3) (View.ld x2 r0_4) := by
  rw [c3]
  rfl

theorem q2 :
    k0_pay30 (k0_pay132 x0 x1 x2 x3 x4) (k0_pay135 x0 x1 x2 x3 x4) (k0_pay136 x0 x1 x2 x3 x4) (k0_pay137 x0 x1 x2 x3 x4)
      = k0_pay9 k0_pay4 (cr x1 x2 2) (fl x1 2) (View.ld x2 r0_4) := by
  rw [c2]
  rfl

theorem q1 :
    k0_pay16 (k0_pay132 x0 x1 x2 x3 x4) (k0_pay134 x0 x1 x2 x3 x4) (View.ld x1 r0_7) (View.ld x2 r0_4)
      = k0_pay9 k0_pay4 (cr x1 x2 1) (fl x1 1) (View.ld x2 r0_4) := by
  rw [c1]
  rfl

theorem q0 :
    k0_pay9 (k0_pay132 x0 x1 x2 x3 x4) (k0_pay133 x0 x1 x2 x3 x4) (View.ld x1 r0_3) (View.ld x2 r0_4)
      = k0_pay9 k0_pay4 (cr x1 x2 0) (fl x1 0) (View.ld x2 r0_4) := by
  rfl

theorem out6 (s : Fin 4096) (l : Fin 128) :
    (out0_6 x0 x1 x2 x3 x4 : S1x4096x128.Idx → EReal) (ix3 0 s l) = cumv x1 x2 l (s.val + 1) := by
  show _ = D6 x1 x2 (ix3 0 s l)
  unfold out0_6
  refine View.canon_apply_of_pieces (Val := Elt Ideal) (D6 x1 x2) _ ?_ _ (cover0_6 _ _ _ _ _ _ _ _ _ _ _ _ _ _ _ _ _)
  intro p hp x
  simp only [List.mem_cons, List.not_mem_nil, or_false] at hp
  rcases hp with rfl | rfl | rfl | rfl | rfl | rfl | rfl | rfl | rfl | rfl | rfl | rfl | rfl | rfl | rfl | rfl
  · exact (congrFun (q15 x0 x1 x2 x3 x4) x).trans (fin6 15 (by decide) x1 x2 (off2 := ![0, 3840, 0]) rfl rfl rfl inb_S1x4096x128_S1x256x128_0_3840_0 x)
  · exact (congrFun (q14 x0 x1 x2 x3 x4) x).trans (fin6 14 (by decide) x1 x2 (off2 := ![0, 3584, 0]) rfl rfl rfl inb_S1x4096x128_S1x256x128_0_3584_0 x)
  · exact (congrFun (q13 x0 x1 x2 x3 x4) x).trans (fin6 13 (by decide) x1 x2 (off2 := ![0, 3328, 0]) rfl rfl rfl inb_S1x4096x128_S1x256x128_0_3328_0 x)
  · exact (congrFun (q12 x0 x1 x2 x3 x4) x).trans (fin6 12 (by decide) x1 x2 (off2 := ![0, 3072, 0]) rfl rfl rfl inb_S1x4096x128_S1x256x128_0_3072_0 x)
  · exact (congrFun (q11 x0 x1 x2 x3 x4) x).trans (fin6 11 (by decide) x1 x2 (off2 := ![0, 2816, 0]) rfl rfl rfl inb_S1x4096x128_S1x256x128_0_2816_0 x)
  · exact (congrFun (q10 x0 x1 x2 x3 x4) x).trans (fin6 10 (by decide) x1 x2 (off2 := ![0, 2560, 0]) rfl rfl rfl inb_S1x4096x128_S1x256x128_0_2560_0 x)
  · exact (congrFun (q9 x0 x1 x2 x3 x4) x).trans (fin6 9 (by decide) x1 x2 (off2 := ![0, 2304, 0]) rfl rfl rfl inb_S1x4096x128_S1x256x128_0_2304_0 x)
  · exact (congrFun (q8 x0 x1 x2 x3 x4) x).trans (fin6 8 (by decide) x1 x2 (off2 := ![0, 2048, 0]) rfl rfl rfl inb_S1x4096x128_S1x256x128_0_2048_0 x)
  · exact (congrFun (q7 x0 x1 x2 x3 x4) x).trans (fin6 7 (by decide) x1 x2 (off2 := ![0, 1792, 0]) rfl rfl rfl inb_S1x4096x128_S1x256x128_0_1792_0 x)
  · exact (congrFun (q6 x0 x1 x2 x3 x4) x).trans (fin6 6 (by decide) x1 x2 (off2 := ![0, 1536, 0]) rfl rfl rfl inb_S1x4096x128_S1x256x128_0_1536_0 x)
  · exact (congrFun (q5 x0 x1 x2 x3 x4) x).trans (fin6 5 (by decide) x1 x2 (off2 := ![0, 1280, 0]) rfl rfl rfl inb_S1x4096x128_S1x256x128_0_1280_0 x)
  · exact (congrFun (q4 x0 x1 x2 x3 x4) x).trans (fin6 4 (by decide) x1 x2 (off2 := ![0, 1024, 0]) rfl rfl rfl inb_S1x4096x128_S1x256x128_0_1024_0 x)
  · exact (congrFun (q3 x0 x1 x2 x3 x4) x).trans (fin6 3 (by decide) x1 x2 (off2 := ![0, 768, 0]) rfl rfl rfl inb_S1x4096x128_S1x256x128_0_768_0 x)
  · exact (congrFun (q2 x0 x1 x2 x3 x4) x).trans (fin6 2 (by decide) x1 x2 (off2 := ![0, 512, 0]) rfl rfl rfl inb_S1x4096x128_S1x256x128_0_512_0 x)
  · exact (congrFun (q1 x0 x1 x2 x3 x4) x).trans (fin6 1 (by decide) x1 x2 (off2 := ![0, 256, 0]) rfl rfl rfl inb_S1x4096x128_S1x256x128_0_256_0 x)
  · exact (congrFun (q0 x0 x1 x2 x3 x4) x).trans (fin6 0 (by decide) x1 x2 (off2 := ![0, 0, 0]) rfl rfl rfl inb_S1x4096x128_S1x256x128_0_0_0 x)

end Cert.PoolIdeal.Pl

end
-- ==== Proof.PoolSum.lean ====
module

public import proofs.«01_k».proof.Proof.PoolOut
public import proofs.«01_k».proof.Proof.StickSum
public import proofs.«01_k».proof.Proof.StickRead

@[expose] public section

set_option maxRecDepth 65536

noncomputable section

/-! The pooling and the running sums as formulas, and the sums they are made of. -/

namespace Cert.PoolIdeal.Pl

open Idealize.ShloMosaic Idealize.ShloMosaic.TcCoe
open Cert.PoolIdeal
open Cert.KernelIdeal.Fox (coe_sum)
open Cert.StickIdeal.Sb (tm window_sum P softplus_real toReal_of)

/-- A token of a sequence, so many before a given one; zero before the first. -/
def tpx (x : S4x4096x256.Idx → EReal) (b : Fin 4) (s : Fin 4096) (l : Fin 256) (i : ℕ) : EReal :=
  if i ≤ s.val then x (ix3 b ⟨s.val - i, by omega⟩ l) else 0

/-- The mean of a lane's last tokens, less its token. -/
def pmx (x : S4x4096x256.Idx → EReal) (b : Fin 4) (s : Fin 4096) (l : Fin 256) : EReal :=
  Ideal.div (∑ i ∈ Finset.range (wn l), tpx x b s l i) (cnt s.val l) - x (ix3 b s l)

/-- The pooled result. -/
def res0 (x : S4x4096x256.Idx → EReal) (w : S4x64x64.Idx → EReal) (sc : S256.Idx → EReal) (b : Fin 4) (s : Fin 4096) (l : Fin 256) : EReal :=
  (∑ d : Fin 64, pmx x b s ⟨64 * (l.val / 64) + d.val, by omega⟩ * w (ix3 ⟨l.val / 64, by omega⟩ d ⟨l.val % 64, by omega⟩)) * sc (ix1 l)

/-- The bias of a lane. -/
def bi (bb : S12.Idx → EReal) (l : Fin 128) : EReal := if h : l.val < 12 then bb (ix1 ⟨l.val, h⟩) else 0

/-- The running sums. -/
def res1 (f : S4x4096x128.Idx → EReal) (bb : S12.Idx → EReal) (b : Fin 4) (t : Fin 4096) (l : Fin 128) : EReal :=
  ∑ s ∈ Finset.range (t.val + 1), lsg (f (ix3 b ⟨s % 4096, Nat.mod_lt _ (by decide)⟩ l) + bi bb l)

/-- The window that reaches back to the first token. -/
abbrev Wb : Shape := ⟨3, ![1, 4096, 1]⟩

theorem Wb_numel : Wb.numel = 4096 := by decide

theorem Wb_symm (n : Fin Wb.numel) (a : Fin 3) : (Wb.rowMajor.symm n a).val = if a = 1 then n.val else 0 := by
  have hz : ∀ a : Fin 3, a ≠ 1 → (Wb.rowMajor.symm n a).val = 0 := fun a ha => by
    have h := (Wb.rowMajor.symm n a).isLt
    have e : Wb.size a = 1 := by fin_cases a <;> first | rfl | exact absurd rfl ha
    omega
  split
  · next h3 =>
    subst h3
    have h := congrArg Fin.val (Wb.rowMajor.apply_symm_apply n)
    rw [Shape.rowMajor_val_three, hz 0 (by decide), hz 2 (by decide)] at h
    simpa using h
  · next h3 => exact hz a h3

/-- An array of sequences. -/
abbrev Sq (C : ℕ) : Shape := ⟨3, ![4, 4096, C]⟩

section
variable {C : ℕ} (x : FVec Ideal (Sq C) .f32) (h : (Sq C).ReduceWindows ![1, 4096, 1] ![1, 1, 1] ![0, 4095, 0] ![0, 0, 0] (Sq C)) (b : Fin 4) (t : Fin 4096) (l : Fin C)

theorem tm_back (n : Fin Wb.numel) : tm x h (ix3 b t l) n = if 4095 ≤ t.val + n.val then x (ix3 b ⟨(t.val + n.val - 4095) % 4096, Nat.mod_lt _ (by decide)⟩ l) else 0 := by
  unfold tm
  dsimp only
  have w0 := Wb_symm n 0
  have w1 := Wb_symm n 1
  have w2 := Wb_symm n 2
  have hn4 : n.val < 4096 := lt_of_lt_of_eq n.isLt Wb_numel
  simp only [if_true, show (0 : Fin 3) ≠ 1 by decide, show (2 : Fin 3) ≠ 1 by decide, if_false] at w0 w1 w2
  by_cases hn : 4095 ≤ t.val + n.val
  · rw [if_pos hn, dif_pos]
    · refine congrArg x (funext fun a => Fin.ext ?_)
      match a with
      | ⟨0, _⟩ => show b.val * 1 + (Wb.rowMajor.symm n 0).val - 0 = b.val; omega
      | ⟨1, _⟩ => show t.val * 1 + (Wb.rowMajor.symm n 1).val - 4095 = (t.val + n.val - 4095) % 4096; omega
      | ⟨2, _⟩ => show l.val * 1 + (Wb.rowMajor.symm n 2).val - 0 = l.val; omega
    · intro a
      match a with
      | ⟨0, _⟩ => show 0 ≤ b.val * 1 + (Wb.rowMajor.symm n 0).val ∧ b.val * 1 + (Wb.rowMajor.symm n 0).val - 0 < 4; omega
      | ⟨1, _⟩ => show 4095 ≤ t.val * 1 + (Wb.rowMajor.symm n 1).val ∧ t.val * 1 + (Wb.rowMajor.symm n 1).val - 4095 < 4096; omega
      | ⟨2, _⟩ => show 0 ≤ l.val * 1 + (Wb.rowMajor.symm n 2).val ∧ l.val * 1 + (Wb.rowMajor.symm n 2).val - 0 < C; omega
  · rw [if_neg hn, dif_neg]
    intro hin
    have h1 : 4095 ≤ t.val * 1 + (Wb.rowMajor.symm n 1).val := (hin 1).1
    omega

theorem prefix_sum {u : Shape} (init : FVec Ideal u .f32) (hu : 0 < u.numel) (h0 : init (Shape.Idx.first hu) = 0) :
    (Host.reduceWindowAdd ![1, 4096, 1] ![1, 1, 1] ![0, 4095, 0] ![0, 0, 0] x init h hu : (Sq C).Idx → EReal) (ix3 b t l)
      = ∑ s ∈ Finset.range (t.val + 1), x (ix3 b ⟨s % 4096, Nat.mod_lt _ (by decide)⟩ l) := by
  refine (window_sum x h init hu h0 _).trans ((Finset.sum_congr rfl fun n _ => tm_back x h b t l n).trans ?_)
  rw [Fin.sum_univ_eq_sum_range (fun n => if 4095 ≤ t.val + n then x (ix3 b ⟨(t.val + n - 4095) % 4096, Nat.mod_lt _ (by decide)⟩ l) else (0 : EReal)) Wb.numel, Wb_numel,
    ← Finset.sum_filter]
  have e : (Finset.range 4096).filter (fun n => 4095 ≤ t.val + n) = Finset.Ico (4095 - t.val) 4096 := Finset.ext fun n => by
    rw [Finset.mem_filter, Finset.mem_range, Finset.mem_Ico]
    omega
  rw [e, Finset.sum_Ico_eq_sum_range, show 4096 - (4095 - t.val) = t.val + 1 by omega]
  refine Finset.sum_congr rfl fun n _ => congrArg (fun z => x (ix3 b z l)) (Fin.ext ?_)
  dsimp only
  omega
end

/-- The difference of two running sums is the sum over the tokens between. -/
theorem win (x : ℕ → EReal) (hx : ∀ s, ∃ y : ℝ, x s = y) (s W : ℕ) :
    ∑ j ∈ Finset.range (s + 1), x j - (if W ≤ s then ∑ j ∈ Finset.range (s - W + 1), x j else 0) = ∑ i ∈ Finset.range W, if i ≤ s then x (s - i) else 0 := by
  choose X hX using hx
  obtain rfl : x = fun s => ((X s : ℝ) : EReal) := funext hX
  dsimp only
  have e : ∀ i, (if i ≤ s then ((X (s - i) : ℝ) : EReal) else 0) = (((if i ≤ s then X (s - i) else 0 : ℝ)) : EReal) := fun i => by split <;> simp
  rw [Finset.sum_congr rfl fun i _ => e i, coe_sum, coe_sum, coe_sum]
  by_cases h : W ≤ s
  · rw [if_pos h, ← EReal.coe_sub]
    congr 1
    rw [show s + 1 = (s - W + 1) + W by omega, Finset.sum_range_add, add_sub_cancel_left, ← Finset.sum_range_reflect]
    refine Finset.sum_congr rfl fun i hi => ?_
    have := Finset.mem_range.1 hi
    rw [if_pos (by omega)]
    exact congrArg X (by omega)
  · rw [if_neg h, sub_zero]
    congr 1
    rw [← Finset.sum_filter, ← Finset.sum_range_reflect]
    have e : (Finset.range W).filter (fun i => i ≤ s) = Finset.range (s + 1) := Finset.ext fun n => by
      rw [Finset.mem_filter, Finset.mem_range, Finset.mem_range]
      omega
    rw [e]
    refine Finset.sum_congr rfl fun i hi => congrArg X ?_
    omega

theorem kap_eq : Ideal.ofBits .f32 0x3FB8AA3B#32 = ((12102203 / 8388608 : ℝ) : EReal) := by
  simp [Ideal.ofBits, Ideal.ieee, -EReal.coe_mul]
  norm_num

theorem kap : ∃ y : ℝ, Ideal.ofBits .f32 0x3FB8AA3B#32 = (y : EReal) := ⟨_, kap_eq⟩

/-- The logarithm in a softplus, far out. -/
theorem log_bot : Ideal.log (1 + Ideal.exp ⊥) = 0 := by
  show Ideal.log (1 + 0) = 0
  rw [add_zero, show (1 : EReal) = ((1 : ℝ) : EReal) from rfl, Ideal.log_coe, if_neg (by norm_num), Real.log_one]
  rfl

/-- The reference's softplus, turned around, is the kernel's log sigmoid. -/
theorem lsn_eq (y : EReal) : -(max (-y) 0 + Ideal.log1p (Ideal.exp (-(max (-y) (-(-y)))))) = min y 0 - Ideal.log (1 + Ideal.exp (0 - max y (-y))) := by
  rw [neg_neg, max_comm (-y) y, zero_sub]
  unfold Ideal.log1p
  induction y using EReal.rec with
  | bot =>
    have e : -(max (⊥ : EReal) (-⊥)) = ⊥ := by simp
    rw [e, log_bot]
    simp
  | top =>
    have e : -(max (⊤ : EReal) (-⊤)) = ⊥ := by simp
    rw [e, log_bot]
    simp
  | coe y =>
    have e2 : max (y : EReal) (-(y : EReal)) = ((max y (-y) : ℝ) : EReal) := by rw [← EReal.coe_neg]; exact (EReal.coe_strictMono.monotone.map_max (a := y) (b := -y)).symm
    have e1 : min (y : EReal) 0 = ((min y 0 : ℝ) : EReal) := (EReal.coe_strictMono.monotone.map_min (a := y) (b := 0)).symm
    have e3 : max (-(y : EReal)) 0 = ((max (-y) 0 : ℝ) : EReal) := by rw [← EReal.coe_neg]; exact (EReal.coe_strictMono.monotone.map_max (a := -y) (b := 0)).symm
    have hp : 0 < 1 + Real.exp (-max y (-y)) := by positivity
    rw [e1, e2, e3, ← EReal.coe_neg, Ideal.exp_coe, show (1 : EReal) = ((1 : ℝ) : EReal) from rfl, ← EReal.coe_add, Ideal.log_coe, if_neg (by linarith), ← EReal.coe_sub, ← EReal.coe_add, ← EReal.coe_neg]
    congr 1
    rcases le_total 0 y with hy | hy
    · rw [min_eq_right hy, max_eq_right (by linarith : -y ≤ 0)]
      ring
    · rw [min_eq_left hy, max_eq_left (by linarith : 0 ≤ -y)]
      ring

/-- The scale of a running sum may be taken inside. -/
theorem sum_kap (f : ℕ → EReal) (n : ℕ) : (∑ s ∈ Finset.range n, f s) * Ideal.ofBits .f32 0x3FB8AA3B#32 = ∑ s ∈ Finset.range n, f s * Ideal.ofBits .f32 0x3FB8AA3B#32 := by
  have h0 : (0 : EReal) ≤ Ideal.ofBits .f32 0x3FB8AA3B#32 := by
    rw [kap_eq]
    exact EReal.coe_nonneg.2 (by norm_num)
  have h1 : Ideal.ofBits .f32 0x3FB8AA3B#32 ≠ (⊤ : EReal) := by
    rw [kap_eq]
    exact EReal.coe_ne_top _
  induction n with
  | zero => simp
  | succ n ih => rw [Finset.sum_range_succ, Finset.sum_range_succ, EReal.right_distrib_of_nonneg_of_ne_top h0 h1, ih]

end Cert.PoolIdeal.Pl

end
-- ==== Proof.PoolFinal.lean ====
module

public import proofs.«01_k».proof.Proof.PoolSum
public import Idealize.ShloMosaic.Lib.StableHlo.ReadAt

@[expose] public section

set_option maxRecDepth 65536

noncomputable section

/-! What the pooling kernel leaves in its two result arrays. -/

namespace Cert.PoolIdeal.Pl

open Cert.PoolIdeal Cert.PoolIdeal.Gen Cert.PoolIdeal.Value
open Idealize.ShloMosaic Idealize.ShloMosaic.TcCoe Idealize.ShloMosaic.Tactic Idealize.SL Idealize.SL.Sem

variable (m : (ℓ : Loc nD τ sig) → Buf (Elt Ideal) ℓ) (c : Dev nD)

/-- The arguments. -/
abbrev xa : S4x4096x256.Idx → EReal := m (c, Proc.tc.devRef main_arg0)
abbrev fa : S4x4096x128.Idx → EReal := m (c, Proc.tc.devRef main_arg1)
abbrev ba : S12.Idx → EReal := m (c, Proc.tc.devRef main_arg2)
abbrev wa : S4x64x64.Idx → EReal := m (c, Proc.tc.devRef main_arg3)
abbrev sa : S256.Idx → EReal := m (c, Proc.tc.devRef main_arg4)

/-- The host's scale, -/
theorem Vscale (l : Fin 256) : (V m c main_v12 : S1x256.Idx → EReal) (ix2 0 l) = sa m c (ix1 l) := by
  unfold V
  after_reads_at

/-- The padding's zero. -/
theorem zr0 : (FloatOps.sitofp (F := Ideal) .f32 (0#32 : BitVec 32)) = (0 : EReal) := by
  change (((BitVec.toInt 0#32 : ℤ) : ℝ) : EReal) = 0
  simp

/-- and its bias. -/
theorem Vbias (l : Fin 128) : (V m c main_v11 : S1x128.Idx → EReal) (ix2 0 l) = bi (ba m c) l := by
  unfold V
  after_reads_at
  by_cases h : l.val < 12
  · simp only [bi, dif_pos h]
  · simp only [bi, dif_neg h]
    exact zr0

theorem ix3c {a a' : Fin 4} {b b' d d' : Fin 64} (h : a.val = a'.val) (h' : b.val = b'.val) (h'' : d.val = d'.val) :
    (ix3 a b d : S4x64x64.Idx) = ix3 a' b' d' := by
  rw [Fin.ext h, Fin.ext h', Fin.ext h'']

/-- The first head's rows of the host's weights, -/
theorem Vdiag0 (j l : Fin 256) (h1 : j.val < 64) : (V m c main_v9 : S256x256.Idx → EReal) (ix2 j l)
    = if j.val / 64 = l.val / 64 then wa m c (ix3 ⟨l.val / 64, by omega⟩ ⟨j.val % 64, by omega⟩ ⟨l.val % 64, by omega⟩) else 0 := by
  unfold V
  after_reads_at
  rw [dif_pos h1]
  after_reads_at
  show (pad S64x256 ![0, 0] ![0, 192] ![0, 0] (fun i => wa m c (ix3 0 (i 0) (i 1)) : FVec Ideal S64x64 .f32) (constant (F := Ideal) S_ .f32 0#32) pads_S64x64_S64x256_000_01920 h_S_ : FVec Ideal S64x256 .f32) (ix2 ⟨j.val, by omega⟩ l) = _
  pointwise
  by_cases hl : j.val / 64 = l.val / 64
  · rw [if_pos hl, dif_pos (by omega)]
    refine congrArg (wa m c) (ix3c ?_ ?_ ?_) <;> dsimp only <;> omega
  · rw [if_neg hl, dif_neg (by omega)]

/-- the second's, -/
theorem Vdiag1 (j l : Fin 256) (h1 : ¬ j.val < 64) (h2 : j.val - 64 < 64) : (V m c main_v9 : S256x256.Idx → EReal) (ix2 j l)
    = if j.val / 64 = l.val / 64 then wa m c (ix3 ⟨l.val / 64, by omega⟩ ⟨j.val % 64, by omega⟩ ⟨l.val % 64, by omega⟩) else 0 := by
  unfold V
  after_reads_at
  rw [dif_neg h1, dif_pos h2]
  after_reads_at
  show (pad S64x256 ![0, 64] ![0, 128] ![0, 0] (fun i => wa m c (ix3 1 (i 0) (i 1)) : FVec Ideal S64x64 .f32) (constant (F := Ideal) S_ .f32 0#32) pads_S64x64_S64x256_000_641280 h_S_ : FVec Ideal S64x256 .f32) (ix2 ⟨j.val - 64, by omega⟩ l) = _
  pointwise
  by_cases hl : j.val / 64 = l.val / 64
  · rw [if_pos hl, dif_pos (by omega)]
    refine congrArg (wa m c) (ix3c ?_ ?_ ?_) <;> dsimp only <;> omega
  · rw [if_neg hl, dif_neg (by omega)]

/-- the third's -/
theorem Vdiag2 (j l : Fin 256) (h1 : ¬ j.val < 64) (h2 : ¬ j.val - 64 < 64) (h3 : j.val - 64 - 64 < 64) : (V m c main_v9 : S256x256.Idx → EReal) (ix2 j l)
    = if j.val / 64 = l.val / 64 then wa m c (ix3 ⟨l.val / 64, by omega⟩ ⟨j.val % 64, by omega⟩ ⟨l.val % 64, by omega⟩) else 0 := by
  unfold V
  after_reads_at
  rw [dif_neg h1, dif_neg h2, dif_pos h3]
  after_reads_at
  show (pad S64x256 ![0, 128] ![0, 64] ![0, 0] (fun i => wa m c (ix3 2 (i 0) (i 1)) : FVec Ideal S64x64 .f32) (constant (F := Ideal) S_ .f32 0#32) pads_S64x64_S64x256_000_128640 h_S_ : FVec Ideal S64x256 .f32) (ix2 ⟨j.val - 64 - 64, by omega⟩ l) = _
  pointwise
  by_cases hl : j.val / 64 = l.val / 64
  · rw [if_pos hl, dif_pos (by omega)]
    refine congrArg (wa m c) (ix3c ?_ ?_ ?_) <;> dsimp only <;> omega
  · rw [if_neg hl, dif_neg (by omega)]

/-- and the fourth's. -/
theorem Vdiag3 (j l : Fin 256) (h1 : ¬ j.val < 64) (h2 : ¬ j.val - 64 < 64) (h3 : ¬ j.val - 64 - 64 < 64) : (V m c main_v9 : S256x256.Idx → EReal) (ix2 j l)
    = if j.val / 64 = l.val / 64 then wa m c (ix3 ⟨l.val / 64, by omega⟩ ⟨j.val % 64, by omega⟩ ⟨l.val % 64, by omega⟩) else 0 := by
  unfold V
  after_reads_at
  rw [dif_neg h1, dif_neg h2, dif_neg h3]
  after_reads_at
  show (pad S64x256 ![0, 192] ![0, 0] ![0, 0] (fun i => wa m c (ix3 3 (i 0) (i 1)) : FVec Ideal S64x64 .f32) (constant (F := Ideal) S_ .f32 0#32) pads_S64x64_S64x256_000_19200 h_S_ : FVec Ideal S64x256 .f32) (ix2 ⟨j.val - 64 - 64 - 64, by omega⟩ l) = _
  pointwise
  by_cases hl : j.val / 64 = l.val / 64
  · rw [if_pos hl, dif_pos (by omega)]
    refine congrArg (wa m c) (ix3c ?_ ?_ ?_) <;> dsimp only <;> omega
  · rw [if_neg hl, dif_neg (by omega)]

/-- A head's weights lie on the diagonal. -/
theorem Vdiag (j l : Fin 256) : (V m c main_v9 : S256x256.Idx → EReal) (ix2 j l)
    = if j.val / 64 = l.val / 64 then wa m c (ix3 ⟨l.val / 64, by omega⟩ ⟨j.val % 64, by omega⟩ ⟨l.val % 64, by omega⟩) else 0 := by
  by_cases h1 : j.val < 64
  · exact Vdiag0 m c j l h1
  · by_cases h2 : j.val - 64 < 64
    · exact Vdiag1 m c j l h1 h2
    · by_cases h3 : j.val - 64 - 64 < 64
      · exact Vdiag2 m c j l h1 h2 h3
      · exact Vdiag3 m c j l h1 h2 h3

/-- Where each window's block lies. -/
theorem idx_facts : ∀ t : Fin cfg0.N,
    ((win0_0.index t (0 : Fin 3) = t.val ∧ win0_0.index t (1 : Fin 3) = 0) ∧ win0_0.index t (2 : Fin 3) = 0)
    ∧ ((win0_1.index t (0 : Fin 3) = t.val ∧ win0_1.index t (1 : Fin 3) = 0) ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ ((win0_5.index t (0 : Fin 3) = t.val ∧ win0_5.index t (1 : Fin 3) = 0) ∧ win0_5.index t (2 : Fin 3) = 0)
    ∧ ((win0_6.index t (0 : Fin 3) = t.val ∧ win0_6.index t (1 : Fin 3) = 0) ∧ win0_6.index t (2 : Fin 3) = 0) :=
  (by decide +kernel : ∀ t : Fin grid0.N, _)

theorem t_lt (t : Fin cfg0.N) : t.val < 4 := lt_of_lt_of_eq t.isLt N_0

/-- A point's sequence. -/
def bt (t : Fin cfg0.N) : Fin 4 := ⟨t.val, t_lt t⟩

theorem iblk0 (t : Fin cfg0.N) (s : Fin 4096) (l : Fin 256) :
    (iblk m c 0 t : S1x4096x256.Idx → EReal) (ix3 0 s l) = xa m c (ix3 (bt t) s l) := by
  obtain ⟨⟨⟨h0, h1⟩, h2⟩, -⟩ := idx_facts t
  refine Eq.trans ?_ (congrFun (V_main_arg0 m c) _)
  unfold iblk
  rw [View.read_apply]
  show V m c main_arg0 _ = V m c main_arg0 _
  congr 1
  funext a
  apply Fin.ext
  match a with
  | ⟨0, _⟩ => show win0_0.index t (0 : Fin 3) * 1 + 1 * 0 = t.val; rw [h0]; omega
  | ⟨1, _⟩ => show win0_0.index t (1 : Fin 3) * 4096 + 1 * s.val = s.val; rw [h1]; omega
  | ⟨2, _⟩ => show win0_0.index t (2 : Fin 3) * 256 + 1 * l.val = l.val; rw [h2]; omega

theorem iblk1 (t : Fin cfg0.N) (s : Fin 4096) (l : Fin 128) :
    (iblk m c 1 t : S1x4096x128.Idx → EReal) (ix3 0 s l) = fa m c (ix3 (bt t) s l) := by
  obtain ⟨-, ⟨⟨h0, h1⟩, h2⟩, -⟩ := idx_facts t
  refine Eq.trans ?_ (congrFun (V_main_arg1 m c) _)
  unfold iblk
  rw [View.read_apply]
  show V m c main_arg1 _ = V m c main_arg1 _
  congr 1
  funext a
  apply Fin.ext
  match a with
  | ⟨0, _⟩ => show win0_1.index t (0 : Fin 3) * 1 + 1 * 0 = t.val; rw [h0]; omega
  | ⟨1, _⟩ => show win0_1.index t (1 : Fin 3) * 4096 + 1 * s.val = s.val; rw [h1]; omega
  | ⟨2, _⟩ => show win0_1.index t (2 : Fin 3) * 128 + 1 * l.val = l.val; rw [h2]; omega

theorem iblk2 (t : Fin cfg0.N) (l : Fin 128) :
    (iblk m c 2 t : S1x128.Idx → EReal) (ix2 0 l) = bi (ba m c) l := by
  obtain ⟨-, -, ⟨h0, h1⟩, -⟩ := idx_facts t
  refine Eq.trans ?_ (Vbias m c l)
  unfold iblk
  rw [View.read_apply]
  show V m c main_v11 _ = V m c main_v11 _
  congr 1
  funext a
  apply Fin.ext
  match a with
  | ⟨0, _⟩ => show win0_2.index t (0 : Fin 2) * 1 + 1 * 0 = 0; rw [h0]
  | ⟨1, _⟩ => show win0_2.index t (1 : Fin 2) * 128 + 1 * l.val = l.val; rw [h1]; omega

theorem iblk3 (t : Fin cfg0.N) (j l : Fin 256) :
    (iblk m c 3 t : S256x256.Idx → EReal) (ix2 j l)
      = if j.val / 64 = l.val / 64 then wa m c (ix3 ⟨l.val / 64, by omega⟩ ⟨j.val % 64, by omega⟩ ⟨l.val % 64, by omega⟩) else 0 := by
  obtain ⟨-, -, -, ⟨h0, h1⟩, -⟩ := idx_facts t
  refine Eq.trans ?_ (Vdiag m c j l)
  unfold iblk
  rw [View.read_apply]
  show V m c main_v9 _ = V m c main_v9 _
  congr 1
  funext a
  apply Fin.ext
  match a with
  | ⟨0, _⟩ => show win0_3.index t (0 : Fin 2) * 256 + 1 * j.val = j.val; rw [h0]; omega
  | ⟨1, _⟩ => show win0_3.index t (1 : Fin 2) * 256 + 1 * l.val = l.val; rw [h1]; omega

theorem iblk4 (t : Fin cfg0.N) (l : Fin 256) :
    (iblk m c 4 t : S1x256.Idx → EReal) (ix2 0 l) = sa m c (ix1 l) := by
  obtain ⟨-, -, -, -, ⟨h0, h1⟩, -⟩ := idx_facts t
  refine Eq.trans ?_ (Vscale m c l)
  unfold iblk
  rw [View.read_apply]
  show V m c main_v12 _ = V m c main_v12 _
  congr 1
  funext a
  apply Fin.ext
  match a with
  | ⟨0, _⟩ => show win0_4.index t (0 : Fin 2) * 1 + 1 * 0 = 0; rw [h0]
  | ⟨1, _⟩ => show win0_4.index t (1 : Fin 2) * 256 + 1 * l.val = l.val; rw [h1]; omega

/-- A row of a block-diagonal product sums over its own head alone. -/
theorem sum_head (f : Fin 256 → EReal) (w : Fin 64 → EReal) (g : ℕ) (hg : g < 4) :
    (∑ j : Fin 256, f j * (if j.val / 64 = g then w ⟨j.val % 64, by omega⟩ else 0)) = ∑ d : Fin 64, f ⟨64 * g + d.val, by omega⟩ * w d := by
  refine (Finset.sum_of_injOn (fun d : Fin 64 => (⟨64 * g + d.val, by omega⟩ : Fin 256)) ?_ ?_ ?_ ?_).symm
  · intro a _ b _ h
    have h' := congrArg Fin.val h
    exact Fin.ext (by dsimp only at h'; omega)
  · intro a _
    exact Finset.mem_coe.2 (Finset.mem_univ _)
  · intro j _ hj
    rw [if_neg ?_, mul_zero]
    intro h
    exact hj ⟨⟨j.val % 64, by omega⟩, Finset.mem_coe.2 (Finset.mem_univ _), Fin.ext (by dsimp only; omega)⟩
  · intro d _
    have e : (64 * g + d.val) / 64 = g := by omega
    rw [if_pos e]
    exact congrArg (fun z => _ * w z) (Fin.ext (by dsimp only; omega))

/-- The pooled entry of a block that holds a sequence. -/
theorem pl_eq (x0 : S1x4096x256.Idx → EReal) (x : S4x4096x256.Idx → EReal) (b : Fin 4) (h : ∀ s l, x0 (ix3 0 s l) = x (ix3 b s l)) (s : Fin 4096) (l : Fin 256) :
    pl x0 s.val l = pmx x b s l := by
  have ht : ∀ i, tp x0 s.val l i = tpx x b s l i := fun i => by
    unfold tp tpx
    by_cases hi : i ≤ s.val
    · rw [if_pos hi, if_pos hi, h]
      exact congrArg (fun z => x (ix3 b z l)) (Fin.ext (by dsimp only; omega))
    · rw [if_neg hi, if_neg hi]
  have h0 : tpx x b s l 0 = x (ix3 b s l) := by
    unfold tpx
    rw [if_pos (Nat.zero_le _)]
    rfl
  unfold pl pmx
  rw [ht 0, h0, Finset.sum_congr rfl fun i _ => ht i]

/-- The block of pooled heads a point leaves, -/
theorem point5 (t : Fin cfg0.N) (s : Fin 4096) (l : Fin 256) :
    (out0_5 (iblk m c 0 t) (iblk m c 1 t) (iblk m c 2 t) (iblk m c 3 t) (iblk m c 4 t) : S1x4096x256.Idx → EReal) (ix3 0 s l) = res0 (xa m c) (wa m c) (sa m c) (bt t) s l := by
  rw [out5]
  unfold val res0
  rw [iblk4]
  refine congrArg (· * _) (Eq.trans (Finset.sum_congr rfl fun j _ => ?_) (sum_head (fun j => pmx (xa m c) (bt t) s j) (fun d => wa m c (ix3 ⟨l.val / 64, by omega⟩ d ⟨l.val % 64, by omega⟩)) (l.val / 64) (by omega)))
  rw [iblk3, pl_eq (iblk m c 0 t) (xa m c) (bt t) (iblk0 m c t)]

/-- and of running sums. -/
theorem point6 (t : Fin cfg0.N) (s : Fin 4096) (l : Fin 128) :
    (out0_6 (iblk m c 0 t) (iblk m c 1 t) (iblk m c 2 t) (iblk m c 3 t) (iblk m c 4 t) : S1x4096x128.Idx → EReal) (ix3 0 s l) = res1 (fa m c) (ba m c) (bt t) s l := by
  rw [out6]
  unfold cumv res1
  refine Finset.sum_congr rfl fun i _ => ?_
  unfold tmv
  rw [iblk1, iblk2]

/-- The two result arrays. -/
def G5 : Buf (Elt Ideal) ((c : Thread nD τ).loc main_v13_0) := fun i : S4x4096x256.Idx => res0 (xa m c) (wa m c) (sa m c) (i 0) (i 1) (i 2)
def G6 : Buf (Elt Ideal) ((c : Thread nD τ).loc main_v13_1) := fun i : S4x4096x128.Idx => res1 (fa m c) (ba m c) (i 0) (i 1) (i 2)

theorem mem_blk5 (t : Fin cfg0.N) (i : S4x4096x256.Idx) :
    i ∈ ((cfg0.win 5).blk t).view.set ↔ ∀ a : Fin 3, win0_5.index t a * S1x4096x256.size a ≤ (i a).val ∧ (i a).val < win0_5.index t a * S1x4096x256.size a + S1x4096x256.size a := by
  show i ∈ ((View.whole main_v13_0).slice (win0_5.rect t)).set ↔ _
  rw [View.set_slice_whole, Rect.mem_set_unit]
  exact Iff.rfl

theorem final5 : (dats m 0 c).arrAt 5 cfg0.N = G5 m c := by
  refine (dats m 0 c).arrAt_eq_of_cover 5 _ (fun t hf => ?_) fun i => ?_
  · rw [flushed5]
    obtain ⟨-, -, -, -, -, ⟨⟨h0, h1⟩, h2⟩, -⟩ := idx_facts t
    funext y
    have hy0 : (y 0).val < 1 := (y 0).isLt
    have hy1 : (y 1).val < 4096 := (y 1).isLt
    have hy2 : (y 2).val < 256 := (y 2).isLt
    have hx : (cfg0.win 5).xinj (grid0.coords t) y = (ix3 0 ⟨(y 1).val, hy1⟩ ⟨(y 2).val, hy2⟩ : S1x4096x256.Idx) := by
      funext a
      match a with
      | ⟨0, _⟩ => exact Fin.ext (by show (y 0).val = 0; omega)
      | ⟨1, _⟩ => rfl
      | ⟨2, _⟩ => rfl
    refine (congrArg (out0_5 (iblk m c 0 t) (iblk m c 1 t) (iblk m c 2 t) (iblk m c 3 t) (iblk m c 4 t) : S1x4096x256.Idx → EReal) hx).trans ((point5 m c t _ _).trans ?_)
    show _ = G5 m c (((cfg0.win 5).blk t).view.emb y)
    unfold G5
    refine congr (congr (congrArg (res0 (xa m c) (wa m c) (sa m c)) (Fin.ext ?_)) (Fin.ext ?_)) (Fin.ext ?_)
    · show t.val = win0_5.index t (0 : Fin 3) * 1 + 1 * (y 0).val
      rw [h0]; omega
    · show (y 1).val = win0_5.index t (1 : Fin 3) * 4096 + 1 * (y 1).val
      rw [h1]; omega
    · show (y 2).val = win0_5.index t (2 : Fin 3) * 256 + 1 * (y 2).val
      rw [h2]; omega
  · have hi0 : (i 0).val < 4 := (i 0).isLt
    have hi1 : (i 1).val < 4096 := (i 1).isLt
    have hi2 : (i 2).val < 256 := (i 2).isLt
    have ht : (i 0).val < cfg0.N := lt_of_lt_of_eq hi0 N_0.symm
    refine ⟨⟨(i 0).val, ht⟩, flush0_5 _, ?_⟩
    obtain ⟨-, -, -, -, -, ⟨⟨h0, h1⟩, h2⟩, -⟩ := idx_facts ⟨(i 0).val, ht⟩
    refine (mem_blk5 _ i).mpr fun a => ?_
    match a with
    | ⟨0, _⟩ => show win0_5.index _ (0 : Fin 3) * 1 ≤ (i 0).val ∧ (i 0).val < win0_5.index _ (0 : Fin 3) * 1 + 1; rw [h0]; dsimp only; omega
    | ⟨1, _⟩ => show win0_5.index _ (1 : Fin 3) * 4096 ≤ (i 1).val ∧ (i 1).val < win0_5.index _ (1 : Fin 3) * 4096 + 4096; rw [h1]; omega
    | ⟨2, _⟩ => show win0_5.index _ (2 : Fin 3) * 256 ≤ (i 2).val ∧ (i 2).val < win0_5.index _ (2 : Fin 3) * 256 + 256; rw [h2]; omega

theorem mem_blk6 (t : Fin cfg0.N) (i : S4x4096x128.Idx) :
    i ∈ ((cfg0.win 6).blk t).view.set ↔ ∀ a : Fin 3, win0_6.index t a * S1x4096x128.size a ≤ (i a).val ∧ (i a).val < win0_6.index t a * S1x4096x128.size a + S1x4096x128.size a := by
  show i ∈ ((View.whole main_v13_1).slice (win0_6.rect t)).set ↔ _
  rw [View.set_slice_whole, Rect.mem_set_unit]
  exact Iff.rfl

theorem final6 : (dats m 0 c).arrAt 6 cfg0.N = G6 m c := by
  refine (dats m 0 c).arrAt_eq_of_cover 6 _ (fun t hf => ?_) fun i => ?_
  · rw [flushed6]
    obtain ⟨-, -, -, -, -, -, ⟨⟨h0, h1⟩, h2⟩⟩ := idx_facts t
    funext y
    have hy0 : (y 0).val < 1 := (y 0).isLt
    have hy1 : (y 1).val < 4096 := (y 1).isLt
    have hy2 : (y 2).val < 128 := (y 2).isLt
    have hx : (cfg0.win 6).xinj (grid0.coords t) y = (ix3 0 ⟨(y 1).val, hy1⟩ ⟨(y 2).val, hy2⟩ : S1x4096x128.Idx) := by
      funext a
      match a with
      | ⟨0, _⟩ => exact Fin.ext (by show (y 0).val = 0; omega)
      | ⟨1, _⟩ => rfl
      | ⟨2, _⟩ => rfl
    refine (congrArg (out0_6 (iblk m c 0 t) (iblk m c 1 t) (iblk m c 2 t) (iblk m c 3 t) (iblk m c 4 t) : S1x4096x128.Idx → EReal) hx).trans ((point6 m c t _ _).trans ?_)
    show _ = G6 m c (((cfg0.win 6).blk t).view.emb y)
    unfold G6
    refine congr (congr (congrArg (res1 (fa m c) (ba m c)) (Fin.ext ?_)) (Fin.ext ?_)) (Fin.ext ?_)
    · show t.val = win0_6.index t (0 : Fin 3) * 1 + 1 * (y 0).val
      rw [h0]; omega
    · show (y 1).val = win0_6.index t (1 : Fin 3) * 4096 + 1 * (y 1).val
      rw [h1]; omega
    · show (y 2).val = win0_6.index t (2 : Fin 3) * 128 + 1 * (y 2).val
      rw [h2]; omega
  · have hi0 : (i 0).val < 4 := (i 0).isLt
    have hi1 : (i 1).val < 4096 := (i 1).isLt
    have hi2 : (i 2).val < 128 := (i 2).isLt
    have ht : (i 0).val < cfg0.N := lt_of_lt_of_eq hi0 N_0.symm
    refine ⟨⟨(i 0).val, ht⟩, flush0_6 _, ?_⟩
    obtain ⟨-, -, -, -, -, -, ⟨⟨h0, h1⟩, h2⟩⟩ := idx_facts ⟨(i 0).val, ht⟩
    refine (mem_blk6 _ i).mpr fun a => ?_
    match a with
    | ⟨0, _⟩ => show win0_6.index _ (0 : Fin 3) * 1 ≤ (i 0).val ∧ (i 0).val < win0_6.index _ (0 : Fin 3) * 1 + 1; rw [h0]; dsimp only; omega
    | ⟨1, _⟩ => show win0_6.index _ (1 : Fin 3) * 4096 ≤ (i 1).val ∧ (i 1).val < win0_6.index _ (1 : Fin 3) * 4096 + 4096; rw [h1]; omega
    | ⟨2, _⟩ => show win0_6.index _ (2 : Fin 3) * 128 ≤ (i 2).val ∧ (i 2).val < win0_6.index _ (2 : Fin 3) * 128 + 128; rw [h2]; omega

end Cert.PoolIdeal.Pl

end
-- ==== Proof.PoolRefRead.lean ====
module

public import proofs.«01_k».proof.Proof.Gen.PoolReferenceIdeal.Read
public import proofs.«01_k».proof.Proof.PoolSum

@[expose] public section

set_option maxRecDepth 65536

noncomputable section

/-! The reference's pooling and running sums, entry by entry. -/

namespace Cert.PoolReferenceIdeal.Pl

open Cert.PoolReferenceIdeal Cert.PoolReferenceIdeal.Gen Cert.PoolReferenceIdeal.Read
open Idealize.ShloMosaic Idealize.ShloMosaic.TcCoe
open Cert.PoolIdeal.Pl (wn cnt tpx pmx res0 bi res1 prefix_sum win lsg lsn_eq sum_kap)

variable (x0 : (⟨S4x4096x256, .f32⟩ : BufTy).Contents (Elt Ideal)) (x1 : (⟨S4x4096x128, .f32⟩ : BufTy).Contents (Elt Ideal)) (x2 : (⟨S12, .f32⟩ : BufTy).Contents (Elt Ideal))
  (x3 : (⟨S4x64x64, .f32⟩ : BufTy).Contents (Elt Ideal)) (x4 : (⟨S256, .f32⟩ : BufTy).Contents (Elt Ideal))

/-- A lane's running sum. -/
def cs (b : Fin 4) (l : Fin 256) (n : ℕ) : EReal := ∑ s ∈ Finset.range n, (x0 : S4x4096x256.Idx → EReal) (ix3 b ⟨s % 4096, Nat.mod_lt _ (by decide)⟩ l)

theorem zr : (FloatOps.sitofp FTy.f32 (0#32 : BitVec 32) : Ideal FTy.f32) = (0 : EReal) := by
  show (((0#32 : BitVec 32).toInt : ℝ) : EReal) = 0
  rw [show (0#32 : BitVec 32).toInt = 0 from rfl, Int.cast_zero, EReal.coe_zero]

theorem cs0 (b : Fin 4) (t : Fin 4096) (d : Fin 64) :
    (val_main_v6 x0 : S4x4096x64.Idx → EReal) (ix3 b t d) = cs x0 b ⟨64 * 0 + d.val, by omega⟩ (t.val + 1) := by
  unfold val_main_v6
  have e : ∀ s : Fin 4096, (val_main_v5 x0 : S4x4096x64.Idx → EReal) (ix3 b s d) = x0 (ix3 b s ⟨64 * 0 + d.val, by omega⟩) := fun s => by
    pointwise [val_main_v5]
  refine (prefix_sum (C := 64) (val_main_v5 x0) _ b t d _ _ ?_).trans (Finset.sum_congr rfl fun s _ => e _)
  pointwise [val_main_call2_call0_v0, val_main_call2_call0_cst]

theorem pm0 (b : Fin 4) (t : Fin 4096) (d : Fin 64) :
    (val_main_v19 x0 : S4x4096x64.Idx → EReal) (ix3 b t d)
      = Ideal.div (cs x0 b ⟨64 * 0 + d.val, by omega⟩ (t.val + 1) - (if 2 ≤ t.val then cs x0 b ⟨64 * 0 + d.val, by omega⟩ (t.val - 2 + 1) else 0)) (cnt t.val ⟨64 * 0 + d.val, by omega⟩)
        - x0 (ix3 b t ⟨64 * 0 + d.val, by omega⟩) := by
  have hl : (if 2 ≤ t.val then cs x0 b ⟨64 * 0 + d.val, by omega⟩ (t.val - 2 + 1) else 0) = if h : 2 ≤ t.val then (val_main_v6 x0 : S4x4096x64.Idx → EReal) (ix3 b ⟨t.val - 2, by omega⟩ d) else 0 := by
    split
    · rw [cs0]
    · rfl
  have hw : wn ⟨64 * 0 + d.val, by omega⟩ = 2 := by
    unfold wn
    rw [show (64 * 0 + d.val) / 64 = 0 by omega]
    rfl
  have hc : cnt t.val ⟨64 * 0 + d.val, by omega⟩ = (FloatOps.sitofp .f32 (IntOp.minsi (1#32 + BitVec.ofNat 32 t.val) 2#32) : Ideal .f32) := by
    unfold cnt
    rw [hw, BitVec.ofNat_add, BitVec.add_comm]
  rw [hl, hc, ← cs0 x0 b t d]
  pointwise [val_main_v19, val_main_v18, val_main_v17, val_main_v16, val_main_v15, val_main_v14, val_main_v13, val_main_v12, val_main_c_2, val_main_v11, val_main_v10, val_main_c_1, val_main_v9, val_main_v8, val_main_v7, val_main_call3_v0, val_main_c_0, val_main_v5]
  rw [zr]
  refine congrArg (fun z : EReal => Ideal.div (_ - z) _ - _) ?_
  by_cases h : 2 ≤ t.val
  · rw [dif_pos h, dif_pos ⟨h, by omega⟩]
  · rw [dif_neg h, dif_neg fun hh => h hh.1]

theorem cs1 (b : Fin 4) (t : Fin 4096) (d : Fin 64) :
    (val_main_v21 x0 : S4x4096x64.Idx → EReal) (ix3 b t d) = cs x0 b ⟨64 * 1 + d.val, by omega⟩ (t.val + 1) := by
  unfold val_main_v21
  have e : ∀ s : Fin 4096, (val_main_v20 x0 : S4x4096x64.Idx → EReal) (ix3 b s d) = x0 (ix3 b s ⟨64 * 1 + d.val, by omega⟩) := fun s => by
    pointwise [val_main_v20]
  refine (prefix_sum (C := 64) (val_main_v20 x0) _ b t d _ _ ?_).trans (Finset.sum_congr rfl fun s _ => e _)
  pointwise [val_main_call4_call0_v0, val_main_call4_call0_cst]

theorem pm1 (b : Fin 4) (t : Fin 4096) (d : Fin 64) :
    (val_main_v34 x0 : S4x4096x64.Idx → EReal) (ix3 b t d)
      = Ideal.div (cs x0 b ⟨64 * 1 + d.val, by omega⟩ (t.val + 1) - (if 4 ≤ t.val then cs x0 b ⟨64 * 1 + d.val, by omega⟩ (t.val - 4 + 1) else 0)) (cnt t.val ⟨64 * 1 + d.val, by omega⟩)
        - x0 (ix3 b t ⟨64 * 1 + d.val, by omega⟩) := by
  have hl : (if 4 ≤ t.val then cs x0 b ⟨64 * 1 + d.val, by omega⟩ (t.val - 4 + 1) else 0) = if h : 4 ≤ t.val then (val_main_v21 x0 : S4x4096x64.Idx → EReal) (ix3 b ⟨t.val - 4, by omega⟩ d) else 0 := by
    split
    · rw [cs1]
    · rfl
  have hw : wn ⟨64 * 1 + d.val, by omega⟩ = 4 := by
    unfold wn
    rw [show (64 * 1 + d.val) / 64 = 1 by omega]
    rfl
  have hc : cnt t.val ⟨64 * 1 + d.val, by omega⟩ = (FloatOps.sitofp .f32 (IntOp.minsi (1#32 + BitVec.ofNat 32 t.val) 4#32) : Ideal .f32) := by
    unfold cnt
    rw [hw, BitVec.ofNat_add, BitVec.add_comm]
  rw [hl, hc, ← cs1 x0 b t d]
  pointwise [val_main_v34, val_main_v33, val_main_v32, val_main_v31, val_main_v30, val_main_v29, val_main_v28, val_main_v27, val_main_c_5, val_main_v26, val_main_v25, val_main_c_4, val_main_v24, val_main_v23, val_main_v22, val_main_call5_v0, val_main_c_3, val_main_v20]
  rw [zr]
  refine congrArg (fun z : EReal => Ideal.div (_ - z) _ - _) ?_
  by_cases h : 4 ≤ t.val
  · rw [dif_pos h, dif_pos ⟨h, by omega⟩]
  · rw [dif_neg h, dif_neg fun hh => h hh.1]

theorem cs2 (b : Fin 4) (t : Fin 4096) (d : Fin 64) :
    (val_main_v36 x0 : S4x4096x64.Idx → EReal) (ix3 b t d) = cs x0 b ⟨64 * 2 + d.val, by omega⟩ (t.val + 1) := by
  unfold val_main_v36
  have e : ∀ s : Fin 4096, (val_main_v35 x0 : S4x4096x64.Idx → EReal) (ix3 b s d) = x0 (ix3 b s ⟨64 * 2 + d.val, by omega⟩) := fun s => by
    pointwise [val_main_v35]
  refine (prefix_sum (C := 64) (val_main_v35 x0) _ b t d _ _ ?_).trans (Finset.sum_congr rfl fun s _ => e _)
  pointwise [val_main_call6_call0_v0, val_main_call6_call0_cst]

theorem pm2 (b : Fin 4) (t : Fin 4096) (d : Fin 64) :
    (val_main_v49 x0 : S4x4096x64.Idx → EReal) (ix3 b t d)
      = Ideal.div (cs x0 b ⟨64 * 2 + d.val, by omega⟩ (t.val + 1) - (if 8 ≤ t.val then cs x0 b ⟨64 * 2 + d.val, by omega⟩ (t.val - 8 + 1) else 0)) (cnt t.val ⟨64 * 2 + d.val, by omega⟩)
        - x0 (ix3 b t ⟨64 * 2 + d.val, by omega⟩) := by
  have hl : (if 8 ≤ t.val then cs x0 b ⟨64 * 2 + d.val, by omega⟩ (t.val - 8 + 1) else 0) = if h : 8 ≤ t.val then (val_main_v36 x0 : S4x4096x64.Idx → EReal) (ix3 b ⟨t.val - 8, by omega⟩ d) else 0 := by
    split
    · rw [cs2]
    · rfl
  have hw : wn ⟨64 * 2 + d.val, by omega⟩ = 8 := by
    unfold wn
    rw [show (64 * 2 + d.val) / 64 = 2 by omega]
    rfl
  have hc : cnt t.val ⟨64 * 2 + d.val, by omega⟩ = (FloatOps.sitofp .f32 (IntOp.minsi (1#32 + BitVec.ofNat 32 t.val) 8#32) : Ideal .f32) := by
    unfold cnt
    rw [hw, BitVec.ofNat_add, BitVec.add_comm]
  rw [hl, hc, ← cs2 x0 b t d]
  pointwise [val_main_v49, val_main_v48, val_main_v47, val_main_v46, val_main_v45, val_main_v44, val_main_v43, val_main_v42, val_main_c_8, val_main_v41, val_main_v40, val_main_c_7, val_main_v39, val_main_v38, val_main_v37, val_main_call7_v0, val_main_c_6, val_main_v35]
  rw [zr]
  refine congrArg (fun z : EReal => Ideal.div (_ - z) _ - _) ?_
  by_cases h : 8 ≤ t.val
  · rw [dif_pos h, dif_pos ⟨h, by omega⟩]
  · rw [dif_neg h, dif_neg fun hh => h hh.1]

theorem cs3 (b : Fin 4) (t : Fin 4096) (d : Fin 64) :
    (val_main_v51 x0 : S4x4096x64.Idx → EReal) (ix3 b t d) = cs x0 b ⟨64 * 3 + d.val, by omega⟩ (t.val + 1) := by
  unfold val_main_v51
  have e : ∀ s : Fin 4096, (val_main_v50 x0 : S4x4096x64.Idx → EReal) (ix3 b s d) = x0 (ix3 b s ⟨64 * 3 + d.val, by omega⟩) := fun s => by
    pointwise [val_main_v50]
  refine (prefix_sum (C := 64) (val_main_v50 x0) _ b t d _ _ ?_).trans (Finset.sum_congr rfl fun s _ => e _)
  pointwise [val_main_call8_call0_v0, val_main_call8_call0_cst]

theorem pm3 (b : Fin 4) (t : Fin 4096) (d : Fin 64) :
    (val_main_v64 x0 : S4x4096x64.Idx → EReal) (ix3 b t d)
      = Ideal.div (cs x0 b ⟨64 * 3 + d.val, by omega⟩ (t.val + 1) - (if 16 ≤ t.val then cs x0 b ⟨64 * 3 + d.val, by omega⟩ (t.val - 16 + 1) else 0)) (cnt t.val ⟨64 * 3 + d.val, by omega⟩)
        - x0 (ix3 b t ⟨64 * 3 + d.val, by omega⟩) := by
  have hl : (if 16 ≤ t.val then cs x0 b ⟨64 * 3 + d.val, by omega⟩ (t.val - 16 + 1) else 0) = if h : 16 ≤ t.val then (val_main_v51 x0 : S4x4096x64.Idx → EReal) (ix3 b ⟨t.val - 16, by omega⟩ d) else 0 := by
    split
    · rw [cs3]
    · rfl
  have hw : wn ⟨64 * 3 + d.val, by omega⟩ = 16 := by
    unfold wn
    rw [show (64 * 3 + d.val) / 64 = 3 by omega]
    rfl
  have hc : cnt t.val ⟨64 * 3 + d.val, by omega⟩ = (FloatOps.sitofp .f32 (IntOp.minsi (1#32 + BitVec.ofNat 32 t.val) 16#32) : Ideal .f32) := by
    unfold cnt
    rw [hw, BitVec.ofNat_add, BitVec.add_comm]
  rw [hl, hc, ← cs3 x0 b t d]
  pointwise [val_main_v64, val_main_v63, val_main_v62, val_main_v61, val_main_v60, val_main_v59, val_main_v58, val_main_v57, val_main_c_11, val_main_v56, val_main_v55, val_main_c_10, val_main_v54, val_main_v53, val_main_v52, val_main_call9_v0, val_main_c_9, val_main_v50]
  rw [zr]
  refine congrArg (fun z : EReal => Ideal.div (_ - z) _ - _) ?_
  by_cases h : 16 ≤ t.val
  · rw [dif_pos h, dif_pos ⟨h, by omega⟩]
  · rw [dif_neg h, dif_neg fun hh => h hh.1]

theorem v4_apply (b : Fin 4) (s : Fin 4096) (l : Fin 128) (y : EReal) (hy : (x1 : S4x4096x128.Idx → EReal) (ix3 b s l) + bi x2 l = y) :
    (val_main_v4 x1 x2 : S4x4096x128.Idx → EReal) (ix3 b s l) = min y 0 - Ideal.log (1 + Ideal.exp (0 - max y (-y))) := by
  have h3 : (val_main_v3 x1 x2 : S4x4096x128.Idx → EReal) (ix3 b s l) = y := by
    rw [← hy]
    pointwise [val_main_v3, val_main_v2, val_main_v1, val_main_v0, val_main_call0_v0, val_main_c, bi]
    rw [zr]
  pointwise [val_main_v4, val_main_call1_v1, val_main_call1_call0_v11, val_main_call1_call0_v10, val_main_call1_call0_v9, val_main_call1_call0_v8, val_main_call1_call0_v7, val_main_call1_call0_v6, val_main_call1_call0_v5, val_main_call1_call0_v4, val_main_call1_call0_v3, val_main_call1_call0_v2, val_main_call1_call0_v1, val_main_call1_call0_v0, val_main_call1_call0_cst, val_main_call1_v0]
  rw [h3, if_neg (not_not.2 rfl)]
  exact lsn_eq y

theorem v76_apply (b : Fin 4) (s : Fin 4096) (l : Fin 256) :
    (val_main_v76 x0 x3 x4 : S4x4096x256.Idx → EReal) (ix3 b s l)
      = (∑ d : Fin 64, x3 (ix3 ⟨l.val / 64, by omega⟩ d ⟨l.val % 64, by omega⟩) * (val_main_v69 x0 : S4x4096x4x64.Idx → EReal) (ix4 b s ⟨l.val / 64, by omega⟩ d)) * x4 (ix1 l) := by
  unfold val_main_v76 val_main_v75 val_main_v74 val_main_v73 val_main_v72 val_main_v71 val_main_v70
  generalize val_main_v69 x0 = y
  pointwise

/-- A difference of running sums as a sum of the last tokens. -/
theorem lag (hx : ∀ i, ∃ y : ℝ, (x0 i : EReal) = y) (b : Fin 4) (t : Fin 4096) (l : Fin 256) (W : ℕ) (hW : wn l = W) :
    cs x0 b l (t.val + 1) - (if W ≤ t.val then cs x0 b l (t.val - W + 1) else 0) = ∑ i ∈ Finset.range (wn l), tpx x0 b t l i := by
  subst hW
  refine (win (fun s => (x0 : S4x4096x256.Idx → EReal) (ix3 b ⟨s % 4096, Nat.mod_lt _ (by decide)⟩ l)) (fun s => hx _) t.val (wn l)).trans (Finset.sum_congr rfl fun i _ => ?_)
  unfold tpx
  have ht := t.isLt
  split
  · exact congrArg (fun z => (x0 : S4x4096x256.Idx → EReal) (ix3 b z l)) (Fin.ext (by dsimp only; omega))
  · rfl

theorem v69_apply (hx : ∀ i, ∃ y : ℝ, (x0 i : EReal) = y) (b : Fin 4) (s : Fin 4096) (g : Fin 4) (d : Fin 64) :
    (val_main_v69 x0 : S4x4096x4x64.Idx → EReal) (ix4 b s g d) = pmx x0 b s ⟨64 * g.val + d.val, by omega⟩ := by
  refine Eq.trans (b := if g.val < 1 then (val_main_v19 x0 : S4x4096x64.Idx → EReal) (ix3 b s d) else if g.val - 1 < 1 then (val_main_v34 x0 : S4x4096x64.Idx → EReal) (ix3 b s d)
    else if g.val - 1 - 1 < 1 then (val_main_v49 x0 : S4x4096x64.Idx → EReal) (ix3 b s d) else (val_main_v64 x0 : S4x4096x64.Idx → EReal) (ix3 b s d)) ?_ ?_
  · unfold val_main_v69 val_main_v68 val_main_v67 val_main_v66 val_main_v65
    generalize val_main_v19 x0 = y0
    generalize val_main_v34 x0 = y1
    generalize val_main_v49 x0 = y2
    generalize val_main_v64 x0 = y3
    pointwise
    rfl
  · rw [pm0, pm1, pm2, pm3]
    unfold pmx
    have hw : ∀ (k : ℕ) (hk : 64 * k + d.val < 256), wn ⟨64 * k + d.val, hk⟩ = 2 ^ (k + 1) := fun k hk => by
      unfold wn
      rw [show (64 * k + d.val) / 64 = k by omega]
    match g with
    | ⟨0, _⟩ => rw [if_pos (by dsimp only; omega), lag x0 hx b s _ 2 (hw 0 (by omega))] <;> rfl
    | ⟨1, _⟩ => rw [if_neg (by dsimp only; omega), if_pos (by dsimp only; omega), lag x0 hx b s _ 4 (hw 1 (by omega))] <;> rfl
    | ⟨2, _⟩ => rw [if_neg (by dsimp only; omega), if_neg (by dsimp only; omega), if_pos (by dsimp only; omega), lag x0 hx b s _ 8 (hw 2 (by omega))] <;> rfl
    | ⟨3, _⟩ => rw [if_neg (by dsimp only; omega), if_neg (by dsimp only; omega), if_neg (by dsimp only; omega), lag x0 hx b s _ 16 (hw 3 (by omega))] <;> rfl

theorem pooled_apply (hx : ∀ i, ∃ y : ℝ, (x0 i : EReal) = y) (b : Fin 4) (s : Fin 4096) (l : Fin 256) :
    (val_main_v76 x0 x3 x4 : S4x4096x256.Idx → EReal) (ix3 b s l) = res0 x0 x3 x4 b s l := by
  rw [v76_apply]
  unfold res0
  refine congrArg (· * _) (Finset.sum_congr rfl fun d _ => ?_)
  rw [v69_apply x0 hx, mul_comm]

theorem v79_apply (b : Fin 4) (t : Fin 4096) (l : Fin 128) :
    (val_main_v79 x1 x2 : S4x4096x128.Idx → EReal) (ix3 b t l)
      = (∑ s ∈ Finset.range (t.val + 1), (val_main_v4 x1 x2 : S4x4096x128.Idx → EReal) (ix3 b ⟨s % 4096, Nat.mod_lt _ (by decide)⟩ l)) * Ideal.ofBits .f32 0x3FB8AA3B#32 := by
  rw [← prefix_sum (C := 128) (val_main_v4 x1 x2) reduceWindows_S4x4096x128_S4x4096x128_w1s1p0_0_w4096s1p4095_0_w1s1p0_0 b t l (val_main_call10_call0_v0 (F := Ideal)) h_S_ (by pointwise [val_main_call10_call0_v0, val_main_call10_call0_cst])]
  show FloatOps.mulf _ _ = _
  pointwise [val_main_v78, val_main_cst]
  rfl

theorem sums_apply (b : Fin 4) (t : Fin 4096) (l : Fin 128) :
    (val_main_v79 x1 x2 : S4x4096x128.Idx → EReal) (ix3 b t l) = res1 x1 x2 b t l := by
  rw [v79_apply, sum_kap]
  unfold res1
  exact Finset.sum_congr rfl fun s _ => congrArg (· * _) (v4_apply x1 x2 b ⟨s % 4096, Nat.mod_lt _ (by decide)⟩ l _ rfl)

end Cert.PoolReferenceIdeal.Pl

end
-- ==== Proof.PoolTie.lean ====
module

public import proofs.«01_k».proof.Pre_finite8
public import proofs.«01_k».proof.Defs
public import proofs.«01_k».proof.Proof.FoxTie
public import proofs.«01_k».proof.Proof.PoolFinal
public import proofs.«01_k».proof.Proof.PoolRefRead
public import proofs.«01_k».proof.Proof.Gen.PoolReferenceIdeal.Run
public import proofs.«01_k».proof.Proof.Gen.Pool.Frame
public import Idealize.ShloMosaic.Lib.Quiescent

@[expose] public section

set_option maxRecDepth 65536

noncomputable section

/-! The claims on the pooling and the running sums of the forget gates. -/

namespace Cert.Pre_finite8.Pl

open Cert.Pre_finite8 Idealize.ShloMosaic

/-- The shape relations of the precondition's operations. -/
instance facts : Cert.Pre_finite8.Facts where
  bcast_S_S4x4096x256 := by decide
  reducesTo_S4x4096x256_S_d0_1_2 := by decide
  h_S_ := by decide

/-- What the precondition says: the channels to pool have real entries. -/
theorem reals (x0 : FVec Ideal S4x4096x256 .f32) (x1 : FVec Ideal S4x4096x128 .f32) (x2 : FVec Ideal S12 .f32) (x3 : FVec Ideal S4x64x64 .f32) (x4 : FVec Ideal S256 .f32)
    (j : S_.Idx) (h : fn (F := Ideal) x0 x1 x2 x3 x4 j = 1#1) : ∀ i, ∃ y : ℝ, (x0 i : EReal) = y := by
  unfold fn at h
  exact Cert.Pre_finite.Fox.reals_of_all x0 _ _ _ j h

end Cert.Pre_finite8.Pl

namespace Cert.PoolTie

open Idealize.ShloMosaic Idealize.ShloMosaic.TcCoe Idealize.SL.Sem

/-- The reference runs, leaves its arguments and has no counter to leave. -/
theorem reference_frame : Cert.quiescent_PoolReferenceIdeal := fun m ρ _ =>
  (θ_run Cert.PoolReferenceIdeal.defs _ _).mono (fun r h => ⟨fun c => (h c).2.2, sem_eq_zero_of_no_sems (by decide) r.2⟩) (Cert.PoolReferenceIdeal.Value.run m ρ)

theorem reference_frame' : Cert.quiescent_PoolReferenceIdeal_pre_finite8 := fun m ρ _ => reference_frame m ρ trivial

/-- The kernel runs on machine words, -/
theorem frame : Cert.quiescent_Pool := fun m ρ _ => Cert.Pool.Gen.frame m ρ

/-- and on the extended reals. -/
theorem ideal_frame : Cert.quiescent_PoolIdeal := fun m ρ _ => Cert.PoolIdeal.Gen.frame m ρ

theorem ideal_frame' : Cert.quiescent_PoolIdeal_pre_finite8 := fun m ρ _ => Cert.PoolIdeal.Gen.frame m ρ

/-- The reference's pooled heads as the formula, -/
theorem ref0 (x : Cert.PoolReferenceIdeal.S4x4096x256.Idx → EReal) (w : Cert.PoolReferenceIdeal.S4x64x64.Idx → EReal) (sc : Cert.PoolReferenceIdeal.S256.Idx → EReal)
    (hx : ∀ i, ∃ y : ℝ, x i = y) :
    (Cert.PoolReferenceIdeal.Read.val_main_v76 (F := Ideal) x w sc : Cert.PoolReferenceIdeal.S4x4096x256.Idx → EReal)
      = fun i => Cert.PoolIdeal.Pl.res0 x w sc (i 0) (i 1) (i 2) := by
  refine funext fun i => ?_
  have h := Cert.PoolReferenceIdeal.Pl.pooled_apply x w sc hx (i 0) (i 1) (i 2)
  rw [← eq_ix3 i] at h
  exact h

/-- and its running sums. -/
theorem ref1 (f : Cert.PoolReferenceIdeal.S4x4096x128.Idx → EReal) (bb : Cert.PoolReferenceIdeal.S12.Idx → EReal) :
    (Cert.PoolReferenceIdeal.Read.val_main_v79 (F := Ideal) f bb : Cert.PoolReferenceIdeal.S4x4096x128.Idx → EReal)
      = fun i => Cert.PoolIdeal.Pl.res1 f bb (i 0) (i 1) (i 2) := by
  refine funext fun i => ?_
  have h := Cert.PoolReferenceIdeal.Pl.sums_apply f bb (i 0) (i 1) (i 2)
  rw [← eq_ix3 i] at h
  exact h

/-- From equal arguments the two programs end with equal results. -/
theorem algebraic : Cert.algebraic_PoolIdeal_PoolReferenceIdeal_pre_finite8 := by
  intro m g m' g' hp hargs
  refine ⟨fun c => Cert.PoolIdeal.Pl.G5 m c, fun c => Cert.PoolIdeal.Pl.G6 m c, ?_, ?_⟩
  · exact (θ_run _ _ _).mono (fun r hr c => ⟨(hr c).1.trans (Cert.PoolIdeal.Pl.final5 m c), (hr c).2.1.trans (Cert.PoolIdeal.Pl.final6 m c), (hr c).2.2⟩) (Cert.PoolIdeal.Value.run_blocks m g)
  · refine (θ_run _ _ _).mono (fun r hr c => ⟨?_, ?_, (hr c).2.2⟩) (Cert.PoolReferenceIdeal.Value.run m' g')
    · obtain ⟨e0, e1, e2, e3, e4⟩ := hargs c
      have hx := Cert.Pre_finite8.Pl.reals _ _ _ _ _ (fun k => k.elim0) (congrFun (hp c) _)
      refine (hr c).1.trans ((Cert.PoolReferenceIdeal.Read.val_main_v76_eq m' c).trans ?_)
      rw [e0, e3, e4]
      exact ref0 _ _ _ hx
    · obtain ⟨e0, e1, e2, e3, e4⟩ := hargs c
      refine (hr c).2.1.trans ((Cert.PoolReferenceIdeal.Read.val_main_v79_eq _ _).trans ?_)
      rw [e1, e2]
      exact ref1 _ _

end Cert.PoolTie

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.FoxFrame
public import proofs.«01_k».proof.Proof.FoxRef
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.FoxTie
public import proofs.«01_k».proof.Proof.FfnTie
public import proofs.«01_k».proof.Proof.EvenTie
public import proofs.«01_k».proof.Proof.OddTie
public import proofs.«01_k».proof.Proof.RouterTie
public import proofs.«01_k».proof.Proof.StickTie
public import proofs.«01_k».proof.Proof.ConvTie
public import proofs.«01_k».proof.Proof.PoolTie
public import proofs.«01_k».proof.Proof.Gen.Router
public import proofs.«01_k».proof.Proof.Gen.Router.Frame
public import proofs.«01_k».proof.Proof.Gen.RouterIdeal
public import proofs.«01_k».proof.Proof.Gen.RouterIdeal.Frame
public import proofs.«01_k».proof.Proof.Gen.RouterIdeal.Points
public import proofs.«01_k».proof.Proof.Gen.RouterIdeal.Skeleton
public import proofs.«01_k».proof.Proof.Gen.RouterReferenceIdeal
public import proofs.«01_k».proof.Proof.Gen.RouterReferenceIdeal.Run
public import proofs.«01_k».proof.Proof.Gen.RouterReferenceIdeal.Read
public import proofs.«01_k».proof.Proof.Gen.Stick
public import proofs.«01_k».proof.Proof.Gen.StickIdeal
public import proofs.«01_k».proof.Proof.Gen.StickIdeal.Skeleton
public import proofs.«01_k».proof.Proof.Gen.StickIdeal.Loops
public import proofs.«01_k».proof.Proof.Gen.StickIdeal.Launch
public import proofs.«01_k».proof.Proof.Gen.StickIdeal.Points
public import proofs.«01_k».proof.Proof.Gen.StickIdeal.Frame
public import proofs.«01_k».proof.Proof.Gen.StickReferenceIdeal
public import proofs.«01_k».proof.Proof.Gen.StickReferenceIdeal.Run
public import proofs.«01_k».proof.Proof.Gen.StickReferenceIdeal.Read
public import proofs.«01_k».proof.Proof.Gen.Conv
public import proofs.«01_k».proof.Proof.Gen.Conv.Frame
public import proofs.«01_k».proof.Proof.Gen.ConvIdeal
public import proofs.«01_k».proof.Proof.Gen.ConvIdeal.Frame
public import proofs.«01_k».proof.Proof.Gen.ConvIdeal.Value
public import proofs.«01_k».proof.Proof.Gen.ConvReferenceIdeal
public import proofs.«01_k».proof.Proof.Gen.ConvReferenceIdeal.Run
public import proofs.«01_k».proof.Proof.Gen.ConvReferenceIdeal.Read
public import proofs.«01_k».proof.Proof.Gen.Pool
public import proofs.«01_k».proof.Proof.Gen.Pool.Frame
public import proofs.«01_k».proof.Proof.Gen.PoolIdeal
public import proofs.«01_k».proof.Proof.Gen.PoolIdeal.Frame
public import proofs.«01_k».proof.Proof.Gen.PoolIdeal.Value
public import proofs.«01_k».proof.Proof.Gen.PoolReferenceIdeal
public import proofs.«01_k».proof.Proof.Gen.PoolReferenceIdeal.Run
public import proofs.«01_k».proof.Proof.Gen.PoolReferenceIdeal.Read
public import proofs.«01_k».proof.Proof.Gen.EvenProj
public import proofs.«01_k».proof.Proof.Gen.EvenProj.Frame
public import proofs.«01_k».proof.Proof.Gen.EvenProjIdeal
public import proofs.«01_k».proof.Proof.Gen.EvenProjIdeal.Frame
public import proofs.«01_k».proof.Proof.Gen.EvenProjIdeal.Value
public import proofs.«01_k».proof.Proof.Gen.EvenProjReferenceIdeal
public import proofs.«01_k».proof.Proof.Gen.EvenProjReferenceIdeal.Run
public import proofs.«01_k».proof.Proof.Gen.EvenProjReferenceIdeal.Read
public import proofs.«01_k».proof.Proof.Gen.OddProj
public import proofs.«01_k».proof.Proof.Gen.OddProj.Frame
public import proofs.«01_k».proof.Proof.Gen.OddProjIdeal
public import proofs.«01_k».proof.Proof.Gen.OddProjIdeal.Frame
public import proofs.«01_k».proof.Proof.Gen.OddProjIdeal.Value
public import proofs.«01_k».proof.Proof.Gen.OddProjReferenceIdeal
public import proofs.«01_k».proof.Proof.Gen.OddProjReferenceIdeal.Run
public import proofs.«01_k».proof.Proof.Gen.OddProjReferenceIdeal.Read
public import Idealize.ShloMosaic.Adequacy
public import Idealize.ShloMosaic.Init

@[expose] public section

set_option maxRecDepth 65536

noncomputable section

namespace Cert.Proof

open Idealize.ShloMosaic Idealize.SL.Sem

/-- The two programs' kernel bodies are one, -/
theorem bodies_eq : Cert.KernelIdeal.defs₀ (F := Bits) = Cert.Kernel.defs₀ := by
  unfold Cert.KernelIdeal.defs₀ Cert.Kernel.defs₀
  refine congrArg Defs.onTc ?_
  funext l a
  match l, a with
  | ⟨0, _⟩, (t, s) => rfl

/-- and with them all that the two programs may call. -/
theorem calls_eq : Cert.KernelIdeal.defs (F := Bits) = Cert.Kernel.defs := by
  unfold Cert.KernelIdeal.defs Cert.Kernel.defs
  exact congrArg (Pipeline.defs _) bodies_eq

/-- The kernel on machine words: the run is the one proved at any floats, the two programs' texts being the same. -/
theorem frame_kernel : Cert.quiescent_Kernel := fun m ρ _ => by
  have h := Cert.KernelIdeal.Fox.frame (F := Bits) m ρ
  rw [calls_eq] at h
  exact h

/-- All the claims. -/
theorem claim : Cert.Claim := ⟨Cert.Kernel.Gen.facts, Cert.KernelIdeal.Gen.facts, Cert.ReferenceIdeal.Gen.facts, Cert.Ffn.Gen.facts, Cert.FfnIdeal.Gen.facts, Cert.FfnReferenceIdeal.Gen.facts, Cert.EvenProj.Gen.facts, Cert.EvenProjIdeal.Gen.facts, Cert.EvenProjReferenceIdeal.Gen.facts, Cert.OddProj.Gen.facts, Cert.OddProjIdeal.Gen.facts, Cert.OddProjReferenceIdeal.Gen.facts,
  Cert.Router.Gen.facts, Cert.RouterIdeal.Gen.facts, Cert.RouterReferenceIdeal.Gen.facts, Cert.Stick.Gen.facts, Cert.StickIdeal.Gen.facts, Cert.StickReferenceIdeal.Gen.facts, Cert.Conv.Gen.facts, Cert.ConvIdeal.Gen.facts, Cert.ConvReferenceIdeal.Gen.facts, Cert.Pool.Gen.facts, Cert.PoolIdeal.Gen.facts, Cert.PoolReferenceIdeal.Gen.facts,
  Cert.Pre_finite.Fox.facts, Cert.Pre_finite5.Rt.facts, Cert.Pre_bounded6.Sb.facts, Cert.Pre_finite8.Pl.facts,
  frame_kernel, fun m ρ _ => Cert.KernelIdeal.Fox.frame m ρ, fun m ρ _ => Cert.KernelIdeal.Fox.frame m ρ,
  fun m ρ _ => Cert.ReferenceIdeal.Fox.frame m ρ, fun m ρ _ => Cert.ReferenceIdeal.Fox.frame m ρ,
  Cert.FfnTie.frame, Cert.FfnTie.ideal_frame, Cert.FfnTie.reference_frame,
  Cert.EvenTie.frame, Cert.EvenTie.ideal_frame, Cert.EvenTie.reference_frame, Cert.OddTie.frame, Cert.OddTie.ideal_frame, Cert.OddTie.reference_frame,
  Cert.RouterTie.frame, Cert.RouterTie.ideal_frame, Cert.RouterTie.ideal_frame', Cert.RouterTie.reference_frame, Cert.RouterTie.reference_frame',
  Cert.StickTie.frame, Cert.StickTie.ideal_frame, Cert.StickTie.ideal_frame', Cert.StickTie.reference_frame, Cert.StickTie.reference_frame',
  Cert.ConvTie.frame, Cert.ConvTie.ideal_frame, Cert.ConvTie.reference_frame,
  Cert.PoolTie.frame, Cert.PoolTie.ideal_frame, Cert.PoolTie.ideal_frame', Cert.PoolTie.reference_frame, Cert.PoolTie.reference_frame',
  trivial, Cert.Fox.algebraic, trivial, Cert.FfnTie.algebraic, trivial, Cert.EvenTie.algebraic, trivial, Cert.OddTie.algebraic,
  trivial, Cert.RouterTie.algebraic, trivial, Cert.StickTie.algebraic, trivial, Cert.ConvTie.algebraic, trivial, Cert.PoolTie.algebraic⟩

end Cert.Proof

end
